-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_FirstReference (m : (ℓ : Loc Cert.FirstReference.nD Cert.FirstReference.τ Cert.FirstReference.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReference (m : (ℓ : Loc Cert.UpdateInReference.nD Cert.UpdateInReference.τ Cert.UpdateInReference.sig) → Buf (Elt Bits) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReference (m : (ℓ : Loc Cert.UpdateOutReference.nD Cert.UpdateOutReference.τ Cert.UpdateOutReference.sig) → Buf (Elt Bits) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInReference (m : (ℓ : Loc Cert.SumInReference.nD Cert.SumInReference.τ Cert.SumInReference.sig) → Buf (Elt Bits) ℓ) : Prop :=
  True

def Pre_SumInReferenceIdeal (m : (ℓ : Loc Cert.SumInReferenceIdeal.nD Cert.SumInReferenceIdeal.τ Cert.SumInReferenceIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutReference (m : (ℓ : Loc Cert.SumOutReference.nD Cert.SumOutReference.τ Cert.SumOutReference.sig) → Buf (Elt Bits) ℓ) : Prop :=
  True

def Pre_SumOutReferenceIdeal (m : (ℓ : Loc Cert.SumOutReferenceIdeal.nD Cert.SumOutReferenceIdeal.τ Cert.SumOutReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_bounds_finite [hPre_bounds_finite : Cert.Pre_bounds_finite.Facts] (m : (ℓ : Loc Cert.SmallIdeal.nD Cert.SmallIdeal.τ Cert.SmallIdeal.sig) → Buf (Elt Ideal) ℓ) : Prop :=
  ∀ c : Dev Cert.SmallIdeal.nD,
    (Cert.Pre_bounds_finite.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4))) = (fun _ => 1#1)

def Pre_SmallReference (m : (ℓ : Loc Cert.SmallReference.nD Cert.SmallReference.τ Cert.SmallReference.sig) → Buf (Elt Bits) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReferenceIdeal_bounds_finite [hPre_bounds_finite : Cert.Pre_bounds_finite.Facts] (m : (ℓ : Loc Cert.SmallReferenceIdeal.nD Cert.SmallReferenceIdeal.τ Cert.SmallReferenceIdeal.sig) → Buf (Elt Ideal) ℓ) : Prop :=
  ∀ c : Dev Cert.SmallReferenceIdeal.nD,
    (Cert.Pre_bounds_finite.fn (F := Ideal) (m ((c.tc : Thread Cert.SmallReferenceIdeal.nD Cert.SmallReferenceIdeal.τ).loc Cert.SmallReferenceIdeal.main_arg0)) (m ((c.tc : Thread Cert.SmallReferenceIdeal.nD Cert.SmallReferenceIdeal.τ).loc Cert.SmallReferenceIdeal.main_arg1)) (m ((c.tc : Thread Cert.SmallReferenceIdeal.nD Cert.SmallReferenceIdeal.τ).loc Cert.SmallReferenceIdeal.main_arg2)) (m ((c.tc : Thread Cert.SmallReferenceIdeal.nD Cert.SmallReferenceIdeal.τ).loc Cert.SmallReferenceIdeal.main_arg3)) (m ((c.tc : Thread Cert.SmallReferenceIdeal.nD Cert.SmallReferenceIdeal.τ).loc Cert.SmallReferenceIdeal.main_arg4))) = (fun _ => 1#1)

def Pre_Lbs (m : (ℓ : Loc Cert.Lbs.nD Cert.Lbs.τ Cert.Lbs.sig) → Buf (Elt Bits) ℓ) : Prop :=
  True

def Pre_LbsIdeal (m : (ℓ : Loc Cert.LbsIdeal.nD Cert.LbsIdeal.τ Cert.LbsIdeal.sig) → Buf (Elt Ideal) ℓ) : Prop :=
  True

def Pre_LbsReference (m : (ℓ : Loc Cert.LbsReference.nD Cert.LbsReference.τ Cert.LbsReference.sig) → Buf (Elt Bits) ℓ) : Prop :=
  True

def Pre_LbsReferenceIdeal (m : (ℓ : Loc Cert.LbsReferenceIdeal.nD Cert.LbsReferenceIdeal.τ Cert.LbsReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReference (m : (ℓ : Loc Cert.ProjectReference.nD Cert.ProjectReference.τ Cert.ProjectReference.sig) → Buf (Elt Bits) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReference (m : (ℓ : Loc Cert.MixReference.nD Cert.MixReference.τ Cert.MixReference.sig) → Buf (Elt Bits) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreReference (m : (ℓ : Loc Cert.ScoreReference.nD Cert.ScoreReference.τ Cert.ScoreReference.sig) → Buf (Elt Bits) ℓ) : Prop :=
  True

def Pre_ScoreReferenceIdeal (m : (ℓ : Loc Cert.ScoreReferenceIdeal.nD Cert.ScoreReferenceIdeal.τ Cert.ScoreReferenceIdeal.sig) → Buf (Elt Ideal) ℓ) : Prop :=
  True

def Pre_Slope (m : (ℓ : Loc Cert.Slope.nD Cert.Slope.τ Cert.Slope.sig) → Buf (Elt Bits) ℓ) : Prop :=
  True

def Pre_SlopeIdeal (m : (ℓ : Loc Cert.SlopeIdeal.nD Cert.SlopeIdeal.τ Cert.SlopeIdeal.sig) → Buf (Elt Ideal) ℓ) : Prop :=
  True

def Pre_SlopeReference (m : (ℓ : Loc Cert.SlopeReference.nD Cert.SlopeReference.τ Cert.SlopeReference.sig) → Buf (Elt Bits) ℓ) : Prop :=
  True

def Pre_SlopeReferenceIdeal (m : (ℓ : Loc Cert.SlopeReferenceIdeal.nD Cert.SlopeReferenceIdeal.τ Cert.SlopeReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReference (m : (ℓ : Loc Cert.BackReference.nD Cert.BackReference.τ Cert.BackReference.sig) → Buf (Elt Bits) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Part (m : (ℓ : Loc Cert.Part.nD Cert.Part.τ Cert.Part.sig) → Buf (Elt Bits) ℓ) : Prop :=
  True

def Pre_PartIdeal (m : (ℓ : Loc Cert.PartIdeal.nD Cert.PartIdeal.τ Cert.PartIdeal.sig) → Buf (Elt Ideal) ℓ) : Prop :=
  True

def Pre_PartReference (m : (ℓ : Loc Cert.PartReference.nD Cert.PartReference.τ Cert.PartReference.sig) → Buf (Elt Bits) ℓ) : Prop :=
  True

def Pre_PartReferenceIdeal (m : (ℓ : Loc Cert.PartReferenceIdeal.nD Cert.PartReferenceIdeal.τ Cert.PartReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0)
      ∧ r.2.mem ((c.tc : Thread Cert.SwapReferenceIdeal.nD Cert.SwapReferenceIdeal.τ).loc Cert.SwapReferenceIdeal.main_arg1) = m ((c.tc : Thread Cert.SwapReferenceIdeal.nD Cert.SwapReferenceIdeal.τ).loc Cert.SwapReferenceIdeal.main_arg1))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0)
      ∧ r.2.mem ((c.tc : Thread Cert.SwapReference.nD Cert.SwapReference.τ).loc Cert.SwapReference.main_arg1) = m ((c.tc : Thread Cert.SwapReference.nD Cert.SwapReference.τ).loc Cert.SwapReference.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0))
      ∧ r.2.sem = fun _ => 0)

def quiescent_FirstReference [hFirstReference : Cert.FirstReference.Facts] : Prop :=
  ∀ (m : (ℓ : Loc Cert.FirstReference.nD Cert.FirstReference.τ Cert.FirstReference.sig) → Buf (Elt Bits) ℓ) (g : Dev Cert.FirstReference.nD → PrngReg), Pre_FirstReference m →
    θ_run (Cert.FirstReference.defs (F := Bits)) (onTc (τ := Cert.FirstReference.τ) (Cert.FirstReference.main (F := Bits))) ⟨m, fun _ => 0, g⟩ (fun r => (∀ c : Dev Cert.FirstReference.nD,
      r.2.mem ((c.tc : Thread Cert.FirstReference.nD Cert.FirstReference.τ).loc Cert.FirstReference.main_arg0) = m ((c.tc : Thread Cert.FirstReference.nD Cert.FirstReference.τ).loc Cert.FirstReference.main_arg0))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3)
      ∧ r.2.mem ((c.tc : Thread Cert.UpdateIn.nD Cert.UpdateIn.τ).loc Cert.UpdateIn.main_arg4) = m ((c.tc : Thread Cert.UpdateIn.nD Cert.UpdateIn.τ).loc Cert.UpdateIn.main_arg4))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
      ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ r.2.sem = fun _ => 0)

def quiescent_UpdateInReference [hUpdateInReference : Cert.UpdateInReference.Facts] : Prop :=
  ∀ (m : (ℓ : Loc Cert.UpdateInReference.nD Cert.UpdateInReference.τ Cert.UpdateInReference.sig) → Buf (Elt Bits) ℓ) (g : Dev Cert.UpdateInReference.nD → PrngReg), Pre_UpdateInReference m →
    θ_run (Cert.UpdateInReference.defs (F := Bits)) (onTc (τ := Cert.UpdateInReference.τ) (Cert.UpdateInReference.main (F := Bits))) ⟨m, fun _ => 0, g⟩ (fun r => (∀ c : Dev Cert.UpdateInReference.nD,
      r.2.mem ((c.tc : Thread Cert.UpdateInReference.nD Cert.UpdateInReference.τ).loc Cert.UpdateInReference.main_arg0) = m ((c.tc : Thread Cert.UpdateInReference.nD Cert.UpdateInReference.τ).loc Cert.UpdateInReference.main_arg0)
      ∧ r.2.mem ((c.tc : Thread Cert.UpdateInReference.nD Cert.UpdateInReference.τ).loc Cert.UpdateInReference.main_arg1) = m ((c.tc : Thread Cert.UpdateInReference.nD Cert.UpdateInReference.τ).loc Cert.UpdateInReference.main_arg1)
      ∧ r.2.mem ((c.tc : Thread Cert.UpdateInReference.nD Cert.UpdateInReference.τ).loc Cert.UpdateInReference.main_arg2) = m ((c.tc : Thread Cert.UpdateInReference.nD Cert.UpdateInReference.τ).loc Cert.UpdateInReference.main_arg2)
      ∧ r.2.mem ((c.tc : Thread Cert.UpdateInReference.nD Cert.UpdateInReference.τ).loc Cert.UpdateInReference.main_arg3) = m ((c.tc : Thread Cert.UpdateInReference.nD Cert.UpdateInReference.τ).loc Cert.UpdateInReference.main_arg3)
      ∧ r.2.mem ((c.tc : Thread Cert.UpdateInReference.nD Cert.UpdateInReference.τ).loc Cert.UpdateInReference.main_arg4) = m ((c.tc : Thread Cert.UpdateInReference.nD Cert.UpdateInReference.τ).loc Cert.UpdateInReference.main_arg4))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3)
      ∧ r.2.mem ((c.tc : Thread Cert.UpdateInReferenceIdeal.nD Cert.UpdateInReferenceIdeal.τ).loc Cert.UpdateInReferenceIdeal.main_arg4) = m ((c.tc : Thread Cert.UpdateInReferenceIdeal.nD Cert.UpdateInReferenceIdeal.τ).loc Cert.UpdateInReferenceIdeal.main_arg4))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3)
      ∧ r.2.mem ((c.tc : Thread Cert.UpdateOut.nD Cert.UpdateOut.τ).loc Cert.UpdateOut.main_arg4) = m ((c.tc : Thread Cert.UpdateOut.nD Cert.UpdateOut.τ).loc Cert.UpdateOut.main_arg4))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
      ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ r.2.sem = fun _ => 0)

def quiescent_UpdateOutReference [hUpdateOutReference : Cert.UpdateOutReference.Facts] : Prop :=
  ∀ (m : (ℓ : Loc Cert.UpdateOutReference.nD Cert.UpdateOutReference.τ Cert.UpdateOutReference.sig) → Buf (Elt Bits) ℓ) (g : Dev Cert.UpdateOutReference.nD → PrngReg), Pre_UpdateOutReference m →
    θ_run (Cert.UpdateOutReference.defs (F := Bits)) (onTc (τ := Cert.UpdateOutReference.τ) (Cert.UpdateOutReference.main (F := Bits))) ⟨m, fun _ => 0, g⟩ (fun r => (∀ c : Dev Cert.UpdateOutReference.nD,
      r.2.mem ((c.tc : Thread Cert.UpdateOutReference.nD Cert.UpdateOutReference.τ).loc Cert.UpdateOutReference.main_arg0) = m ((c.tc : Thread Cert.UpdateOutReference.nD Cert.UpdateOutReference.τ).loc Cert.UpdateOutReference.main_arg0)
      ∧ r.2.mem ((c.tc : Thread Cert.UpdateOutReference.nD Cert.UpdateOutReference.τ).loc Cert.UpdateOutReference.main_arg1) = m ((c.tc : Thread Cert.UpdateOutReference.nD Cert.UpdateOutReference.τ).loc Cert.UpdateOutReference.main_arg1)
      ∧ r.2.mem ((c.tc : Thread Cert.UpdateOutReference.nD Cert.UpdateOutReference.τ).loc Cert.UpdateOutReference.main_arg2) = m ((c.tc : Thread Cert.UpdateOutReference.nD Cert.UpdateOutReference.τ).loc Cert.UpdateOutReference.main_arg2)
      ∧ r.2.mem ((c.tc : Thread Cert.UpdateOutReference.nD Cert.UpdateOutReference.τ).loc Cert.UpdateOutReference.main_arg3) = m ((c.tc : Thread Cert.UpdateOutReference.nD Cert.UpdateOutReference.τ).loc Cert.UpdateOutReference.main_arg3)
      ∧ r.2.mem ((c.tc : Thread Cert.UpdateOutReference.nD Cert.UpdateOutReference.τ).loc Cert.UpdateOutReference.main_arg4) = m ((c.tc : Thread Cert.UpdateOutReference.nD Cert.UpdateOutReference.τ).loc Cert.UpdateOutReference.main_arg4))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3)
      ∧ r.2.mem ((c.tc : Thread Cert.UpdateOutReferenceIdeal.nD Cert.UpdateOutReferenceIdeal.τ).loc Cert.UpdateOutReferenceIdeal.main_arg4) = m ((c.tc : Thread Cert.UpdateOutReferenceIdeal.nD Cert.UpdateOutReferenceIdeal.τ).loc Cert.UpdateOutReferenceIdeal.main_arg4))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2)
      ∧ r.2.mem ((c.tc : Thread Cert.SumIn.nD Cert.SumIn.τ).loc Cert.SumIn.main_arg3) = m ((c.tc : Thread Cert.SumIn.nD Cert.SumIn.τ).loc Cert.SumIn.main_arg3)
      ∧ r.2.mem ((c.tc : Thread Cert.SumIn.nD Cert.SumIn.τ).loc Cert.SumIn.main_arg4) = m ((c.tc : Thread Cert.SumIn.nD Cert.SumIn.τ).loc Cert.SumIn.main_arg4)
      ∧ r.2.mem ((c.tc : Thread Cert.SumIn.nD Cert.SumIn.τ).loc Cert.SumIn.main_arg5) = m ((c.tc : Thread Cert.SumIn.nD Cert.SumIn.τ).loc Cert.SumIn.main_arg5)
      ∧ r.2.mem ((c.tc : Thread Cert.SumIn.nD Cert.SumIn.τ).loc Cert.SumIn.main_arg6) = m ((c.tc : Thread Cert.SumIn.nD Cert.SumIn.τ).loc Cert.SumIn.main_arg6)
      ∧ r.2.mem ((c.tc : Thread Cert.SumIn.nD Cert.SumIn.τ).loc Cert.SumIn.main_arg7) = m ((c.tc : Thread Cert.SumIn.nD Cert.SumIn.τ).loc Cert.SumIn.main_arg7))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
      ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3)
      ∧ r.2.mem ((c.tc : Thread Cert.SumInIdeal.nD Cert.SumInIdeal.τ).loc Cert.SumInIdeal.main_arg4) = m ((c.tc : Thread Cert.SumInIdeal.nD Cert.SumInIdeal.τ).loc Cert.SumInIdeal.main_arg4)
      ∧ r.2.mem ((c.tc : Thread Cert.SumInIdeal.nD Cert.SumInIdeal.τ).loc Cert.SumInIdeal.main_arg5) = m ((c.tc : Thread Cert.SumInIdeal.nD Cert.SumInIdeal.τ).loc Cert.SumInIdeal.main_arg5)
      ∧ r.2.mem ((c.tc : Thread Cert.SumInIdeal.nD Cert.SumInIdeal.τ).loc Cert.SumInIdeal.main_arg6) = m ((c.tc : Thread Cert.SumInIdeal.nD Cert.SumInIdeal.τ).loc Cert.SumInIdeal.main_arg6)
      ∧ r.2.mem ((c.tc : Thread Cert.SumInIdeal.nD Cert.SumInIdeal.τ).loc Cert.SumInIdeal.main_arg7) = m ((c.tc : Thread Cert.SumInIdeal.nD Cert.SumInIdeal.τ).loc Cert.SumInIdeal.main_arg7))
      ∧ r.2.sem = fun _ => 0)

def quiescent_SumInReference [hSumInReference : Cert.SumInReference.Facts] : Prop :=
  ∀ (m : (ℓ : Loc Cert.SumInReference.nD Cert.SumInReference.τ Cert.SumInReference.sig) → Buf (Elt Bits) ℓ) (g : Dev Cert.SumInReference.nD → PrngReg), Pre_SumInReference m →
    θ_run (Cert.SumInReference.defs (F := Bits)) (onTc (τ := Cert.SumInReference.τ) (Cert.SumInReference.main (F := Bits))) ⟨m, fun _ => 0, g⟩ (fun r => (∀ c : Dev Cert.SumInReference.nD,
      r.2.mem ((c.tc : Thread Cert.SumInReference.nD Cert.SumInReference.τ).loc Cert.SumInReference.main_arg0) = m ((c.tc : Thread Cert.SumInReference.nD Cert.SumInReference.τ).loc Cert.SumInReference.main_arg0)
      ∧ r.2.mem ((c.tc : Thread Cert.SumInReference.nD Cert.SumInReference.τ).loc Cert.SumInReference.main_arg1) = m ((c.tc : Thread Cert.SumInReference.nD Cert.SumInReference.τ).loc Cert.SumInReference.main_arg1)
      ∧ r.2.mem ((c.tc : Thread Cert.SumInReference.nD Cert.SumInReference.τ).loc Cert.SumInReference.main_arg2) = m ((c.tc : Thread Cert.SumInReference.nD Cert.SumInReference.τ).loc Cert.SumInReference.main_arg2)
      ∧ r.2.mem ((c.tc : Thread Cert.SumInReference.nD Cert.SumInReference.τ).loc Cert.SumInReference.main_arg3) = m ((c.tc : Thread Cert.SumInReference.nD Cert.SumInReference.τ).loc Cert.SumInReference.main_arg3)
      ∧ r.2.mem ((c.tc : Thread Cert.SumInReference.nD Cert.SumInReference.τ).loc Cert.SumInReference.main_arg4) = m ((c.tc : Thread Cert.SumInReference.nD Cert.SumInReference.τ).loc Cert.SumInReference.main_arg4)
      ∧ r.2.mem ((c.tc : Thread Cert.SumInReference.nD Cert.SumInReference.τ).loc Cert.SumInReference.main_arg5) = m ((c.tc : Thread Cert.SumInReference.nD Cert.SumInReference.τ).loc Cert.SumInReference.main_arg5)
      ∧ r.2.mem ((c.tc : Thread Cert.SumInReference.nD Cert.SumInReference.τ).loc Cert.SumInReference.main_arg6) = m ((c.tc : Thread Cert.SumInReference.nD Cert.SumInReference.τ).loc Cert.SumInReference.main_arg6)
      ∧ r.2.mem ((c.tc : Thread Cert.SumInReference.nD Cert.SumInReference.τ).loc Cert.SumInReference.main_arg7) = m ((c.tc : Thread Cert.SumInReference.nD Cert.SumInReference.τ).loc Cert.SumInReference.main_arg7))
      ∧ r.2.sem = fun _ => 0)

def quiescent_SumInReferenceIdeal [hSumInReferenceIdeal : Cert.SumInReferenceIdeal.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0)
      ∧ r.2.mem ((c.tc : Thread Cert.SumInReferenceIdeal.nD Cert.SumInReferenceIdeal.τ).loc Cert.SumInReferenceIdeal.main_arg1) = m ((c.tc : Thread Cert.SumInReferenceIdeal.nD Cert.SumInReferenceIdeal.τ).loc Cert.SumInReferenceIdeal.main_arg1)
      ∧ r.2.mem ((c.tc : Thread Cert.SumInReferenceIdeal.nD Cert.SumInReferenceIdeal.τ).loc Cert.SumInReferenceIdeal.main_arg2) = m ((c.tc : Thread Cert.SumInReferenceIdeal.nD Cert.SumInReferenceIdeal.τ).loc Cert.SumInReferenceIdeal.main_arg2)
      ∧ r.2.mem ((c.tc : Thread Cert.SumInReferenceIdeal.nD Cert.SumInReferenceIdeal.τ).loc Cert.SumInReferenceIdeal.main_arg3) = m ((c.tc : Thread Cert.SumInReferenceIdeal.nD Cert.SumInReferenceIdeal.τ).loc Cert.SumInReferenceIdeal.main_arg3)
      ∧ r.2.mem ((c.tc : Thread Cert.SumInReferenceIdeal.nD Cert.SumInReferenceIdeal.τ).loc Cert.SumInReferenceIdeal.main_arg4) = m ((c.tc : Thread Cert.SumInReferenceIdeal.nD Cert.SumInReferenceIdeal.τ).loc Cert.SumInReferenceIdeal.main_arg4)
      ∧ r.2.mem ((c.tc : Thread Cert.SumInReferenceIdeal.nD Cert.SumInReferenceIdeal.τ).loc Cert.SumInReferenceIdeal.main_arg5) = m ((c.tc : Thread Cert.SumInReferenceIdeal.nD Cert.SumInReferenceIdeal.τ).loc Cert.SumInReferenceIdeal.main_arg5)
      ∧ r.2.mem ((c.tc : Thread Cert.SumInReferenceIdeal.nD Cert.SumInReferenceIdeal.τ).loc Cert.SumInReferenceIdeal.main_arg6) = m ((c.tc : Thread Cert.SumInReferenceIdeal.nD Cert.SumInReferenceIdeal.τ).loc Cert.SumInReferenceIdeal.main_arg6)
      ∧ r.2.mem ((c.tc : Thread Cert.SumInReferenceIdeal.nD Cert.SumInReferenceIdeal.τ).loc Cert.SumInReferenceIdeal.main_arg7) = m ((c.tc : Thread Cert.SumInReferenceIdeal.nD Cert.SumInReferenceIdeal.τ).loc Cert.SumInReferenceIdeal.main_arg7))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2)
      ∧ r.2.mem ((c.tc : Thread Cert.SumOut.nD Cert.SumOut.τ).loc Cert.SumOut.main_arg3) = m ((c.tc : Thread Cert.SumOut.nD Cert.SumOut.τ).loc Cert.SumOut.main_arg3)
      ∧ r.2.mem ((c.tc : Thread Cert.SumOut.nD Cert.SumOut.τ).loc Cert.SumOut.main_arg4) = m ((c.tc : Thread Cert.SumOut.nD Cert.SumOut.τ).loc Cert.SumOut.main_arg4)
      ∧ r.2.mem ((c.tc : Thread Cert.SumOut.nD Cert.SumOut.τ).loc Cert.SumOut.main_arg5) = m ((c.tc : Thread Cert.SumOut.nD Cert.SumOut.τ).loc Cert.SumOut.main_arg5)
      ∧ r.2.mem ((c.tc : Thread Cert.SumOut.nD Cert.SumOut.τ).loc Cert.SumOut.main_arg6) = m ((c.tc : Thread Cert.SumOut.nD Cert.SumOut.τ).loc Cert.SumOut.main_arg6)
      ∧ r.2.mem ((c.tc : Thread Cert.SumOut.nD Cert.SumOut.τ).loc Cert.SumOut.main_arg7) = m ((c.tc : Thread Cert.SumOut.nD Cert.SumOut.τ).loc Cert.SumOut.main_arg7))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
      ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3)
      ∧ r.2.mem ((c.tc : Thread Cert.SumOutIdeal.nD Cert.SumOutIdeal.τ).loc Cert.SumOutIdeal.main_arg4) = m ((c.tc : Thread Cert.SumOutIdeal.nD Cert.SumOutIdeal.τ).loc Cert.SumOutIdeal.main_arg4)
      ∧ r.2.mem ((c.tc : Thread Cert.SumOutIdeal.nD Cert.SumOutIdeal.τ).loc Cert.SumOutIdeal.main_arg5) = m ((c.tc : Thread Cert.SumOutIdeal.nD Cert.SumOutIdeal.τ).loc Cert.SumOutIdeal.main_arg5)
      ∧ r.2.mem ((c.tc : Thread Cert.SumOutIdeal.nD Cert.SumOutIdeal.τ).loc Cert.SumOutIdeal.main_arg6) = m ((c.tc : Thread Cert.SumOutIdeal.nD Cert.SumOutIdeal.τ).loc Cert.SumOutIdeal.main_arg6)
      ∧ r.2.mem ((c.tc : Thread Cert.SumOutIdeal.nD Cert.SumOutIdeal.τ).loc Cert.SumOutIdeal.main_arg7) = m ((c.tc : Thread Cert.SumOutIdeal.nD Cert.SumOutIdeal.τ).loc Cert.SumOutIdeal.main_arg7))
      ∧ r.2.sem = fun _ => 0)

def quiescent_SumOutReference [hSumOutReference : Cert.SumOutReference.Facts] : Prop :=
  ∀ (m : (ℓ : Loc Cert.SumOutReference.nD Cert.SumOutReference.τ Cert.SumOutReference.sig) → Buf (Elt Bits) ℓ) (g : Dev Cert.SumOutReference.nD → PrngReg), Pre_SumOutReference m →
    θ_run (Cert.SumOutReference.defs (F := Bits)) (onTc (τ := Cert.SumOutReference.τ) (Cert.SumOutReference.main (F := Bits))) ⟨m, fun _ => 0, g⟩ (fun r => (∀ c : Dev Cert.SumOutReference.nD,
      r.2.mem ((c.tc : Thread Cert.SumOutReference.nD Cert.SumOutReference.τ).loc Cert.SumOutReference.main_arg0) = m ((c.tc : Thread Cert.SumOutReference.nD Cert.SumOutReference.τ).loc Cert.SumOutReference.main_arg0)
      ∧ r.2.mem ((c.tc : Thread Cert.SumOutReference.nD Cert.SumOutReference.τ).loc Cert.SumOutReference.main_arg1) = m ((c.tc : Thread Cert.SumOutReference.nD Cert.SumOutReference.τ).loc Cert.SumOutReference.main_arg1)
      ∧ r.2.mem ((c.tc : Thread Cert.SumOutReference.nD Cert.SumOutReference.τ).loc Cert.SumOutReference.main_arg2) = m ((c.tc : Thread Cert.SumOutReference.nD Cert.SumOutReference.τ).loc Cert.SumOutReference.main_arg2)
      ∧ r.2.mem ((c.tc : Thread Cert.SumOutReference.nD Cert.SumOutReference.τ).loc Cert.SumOutReference.main_arg3) = m ((c.tc : Thread Cert.SumOutReference.nD Cert.SumOutReference.τ).loc Cert.SumOutReference.main_arg3)
      ∧ r.2.mem ((c.tc : Thread Cert.SumOutReference.nD Cert.SumOutReference.τ).loc Cert.SumOutReference.main_arg4) = m ((c.tc : Thread Cert.SumOutReference.nD Cert.SumOutReference.τ).loc Cert.SumOutReference.main_arg4)
      ∧ r.2.mem ((c.tc : Thread Cert.SumOutReference.nD Cert.SumOutReference.τ).loc Cert.SumOutReference.main_arg5) = m ((c.tc : Thread Cert.SumOutReference.nD Cert.SumOutReference.τ).loc Cert.SumOutReference.main_arg5)
      ∧ r.2.mem ((c.tc : Thread Cert.SumOutReference.nD Cert.SumOutReference.τ).loc Cert.SumOutReference.main_arg6) = m ((c.tc : Thread Cert.SumOutReference.nD Cert.SumOutReference.τ).loc Cert.SumOutReference.main_arg6)
      ∧ r.2.mem ((c.tc : Thread Cert.SumOutReference.nD Cert.SumOutReference.τ).loc Cert.SumOutReference.main_arg7) = m ((c.tc : Thread Cert.SumOutReference.nD Cert.SumOutReference.τ).loc Cert.SumOutReference.main_arg7))
      ∧ r.2.sem = fun _ => 0)

def quiescent_SumOutReferenceIdeal [hSumOutReferenceIdeal : Cert.SumOutReferenceIdeal.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0)
      ∧ r.2.mem ((c.tc : Thread Cert.SumOutReferenceIdeal.nD Cert.SumOutReferenceIdeal.τ).loc Cert.SumOutReferenceIdeal.main_arg1) = m ((c.tc : Thread Cert.SumOutReferenceIdeal.nD Cert.SumOutReferenceIdeal.τ).loc Cert.SumOutReferenceIdeal.main_arg1)
      ∧ r.2.mem ((c.tc : Thread Cert.SumOutReferenceIdeal.nD Cert.SumOutReferenceIdeal.τ).loc Cert.SumOutReferenceIdeal.main_arg2) = m ((c.tc : Thread Cert.SumOutReferenceIdeal.nD Cert.SumOutReferenceIdeal.τ).loc Cert.SumOutReferenceIdeal.main_arg2)
      ∧ r.2.mem ((c.tc : Thread Cert.SumOutReferenceIdeal.nD Cert.SumOutReferenceIdeal.τ).loc Cert.SumOutReferenceIdeal.main_arg3) = m ((c.tc : Thread Cert.SumOutReferenceIdeal.nD Cert.SumOutReferenceIdeal.τ).loc Cert.SumOutReferenceIdeal.main_arg3)
      ∧ r.2.mem ((c.tc : Thread Cert.SumOutReferenceIdeal.nD Cert.SumOutReferenceIdeal.τ).loc Cert.SumOutReferenceIdeal.main_arg4) = m ((c.tc : Thread Cert.SumOutReferenceIdeal.nD Cert.SumOutReferenceIdeal.τ).loc Cert.SumOutReferenceIdeal.main_arg4)
      ∧ r.2.mem ((c.tc : Thread Cert.SumOutReferenceIdeal.nD Cert.SumOutReferenceIdeal.τ).loc Cert.SumOutReferenceIdeal.main_arg5) = m ((c.tc : Thread Cert.SumOutReferenceIdeal.nD Cert.SumOutReferenceIdeal.τ).loc Cert.SumOutReferenceIdeal.main_arg5)
      ∧ r.2.mem ((c.tc : Thread Cert.SumOutReferenceIdeal.nD Cert.SumOutReferenceIdeal.τ).loc Cert.SumOutReferenceIdeal.main_arg6) = m ((c.tc : Thread Cert.SumOutReferenceIdeal.nD Cert.SumOutReferenceIdeal.τ).loc Cert.SumOutReferenceIdeal.main_arg6)
      ∧ r.2.mem ((c.tc : Thread Cert.SumOutReferenceIdeal.nD Cert.SumOutReferenceIdeal.τ).loc Cert.SumOutReferenceIdeal.main_arg7) = m ((c.tc : Thread Cert.SumOutReferenceIdeal.nD Cert.SumOutReferenceIdeal.τ).loc Cert.SumOutReferenceIdeal.main_arg7))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallIdeal_pre_bounds_finite [hSmallIdeal : Cert.SmallIdeal.Facts] [hPre_bounds_finite : Cert.Pre_bounds_finite.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_bounds_finite m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0)
      ∧ r.2.mem ((c.tc : Thread Cert.SmallReference.nD Cert.SmallReference.τ).loc Cert.SmallReference.main_arg1) = m ((c.tc : Thread Cert.SmallReference.nD Cert.SmallReference.τ).loc Cert.SmallReference.main_arg1)
      ∧ r.2.mem ((c.tc : Thread Cert.SmallReference.nD Cert.SmallReference.τ).loc Cert.SmallReference.main_arg2) = m ((c.tc : Thread Cert.SmallReference.nD Cert.SmallReference.τ).loc Cert.SmallReference.main_arg2)
      ∧ r.2.mem ((c.tc : Thread Cert.SmallReference.nD Cert.SmallReference.τ).loc Cert.SmallReference.main_arg3) = m ((c.tc : Thread Cert.SmallReference.nD Cert.SmallReference.τ).loc Cert.SmallReference.main_arg3)
      ∧ r.2.mem ((c.tc : Thread Cert.SmallReference.nD Cert.SmallReference.τ).loc Cert.SmallReference.main_arg4) = m ((c.tc : Thread Cert.SmallReference.nD Cert.SmallReference.τ).loc Cert.SmallReference.main_arg4))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4))
      ∧ r.2.sem = fun _ => 0)

def quiescent_SmallReferenceIdeal_pre_bounds_finite [hSmallReferenceIdeal : Cert.SmallReferenceIdeal.Facts] [hPre_bounds_finite : Cert.Pre_bounds_finite.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal_bounds_finite m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4))
      ∧ r.2.sem = fun _ => 0)

def quiescent_Lbs [hLbs : Cert.Lbs.Facts] : Prop :=
  ∀ (m : (ℓ : Loc Cert.Lbs.nD Cert.Lbs.τ Cert.Lbs.sig) → Buf (Elt Bits) ℓ) (g : Dev Cert.Lbs.nD → PrngReg), Pre_Lbs m →
    θ_run (Cert.Lbs.defs (F := Bits)) (onTc (τ := Cert.Lbs.τ) (Cert.Lbs.main (F := Bits))) ⟨m, fun _ => 0, g⟩ (fun r => (∀ c : Dev Cert.Lbs.nD,
      r.2.mem ((c.tc : Thread Cert.Lbs.nD Cert.Lbs.τ).loc Cert.Lbs.main_arg0) = m ((c.tc : Thread Cert.Lbs.nD Cert.Lbs.τ).loc Cert.Lbs.main_arg0))
      ∧ r.2.sem = fun _ => 0)

def quiescent_LbsIdeal [hLbsIdeal : Cert.LbsIdeal.Facts] : Prop :=
  ∀ (m : (ℓ : Loc Cert.LbsIdeal.nD Cert.LbsIdeal.τ Cert.LbsIdeal.sig) → Buf (Elt Ideal) ℓ) (g : Dev Cert.LbsIdeal.nD → PrngReg), Pre_LbsIdeal m →
    θ_run (Cert.LbsIdeal.defs (F := Ideal)) (onTc (τ := Cert.LbsIdeal.τ) (Cert.LbsIdeal.main (F := Ideal))) ⟨m, fun _ => 0, g⟩ (fun r => (∀ c : Dev Cert.LbsIdeal.nD,
      r.2.mem ((c.tc : Thread Cert.LbsIdeal.nD Cert.LbsIdeal.τ).loc Cert.LbsIdeal.main_arg0) = m ((c.tc : Thread Cert.LbsIdeal.nD Cert.LbsIdeal.τ).loc Cert.LbsIdeal.main_arg0))
      ∧ r.2.sem = fun _ => 0)

def quiescent_LbsReference [hLbsReference : Cert.LbsReference.Facts] : Prop :=
  ∀ (m : (ℓ : Loc Cert.LbsReference.nD Cert.LbsReference.τ Cert.LbsReference.sig) → Buf (Elt Bits) ℓ) (g : Dev Cert.LbsReference.nD → PrngReg), Pre_LbsReference m →
    θ_run (Cert.LbsReference.defs (F := Bits)) (onTc (τ := Cert.LbsReference.τ) (Cert.LbsReference.main (F := Bits))) ⟨m, fun _ => 0, g⟩ (fun r => (∀ c : Dev Cert.LbsReference.nD,
      r.2.mem ((c.tc : Thread Cert.LbsReference.nD Cert.LbsReference.τ).loc Cert.LbsReference.main_arg0) = m ((c.tc : Thread Cert.LbsReference.nD Cert.LbsReference.τ).loc Cert.LbsReference.main_arg0))
      ∧ r.2.sem = fun _ => 0)

def quiescent_LbsReferenceIdeal [hLbsReferenceIdeal : Cert.LbsReferenceIdeal.Facts] : Prop :=
  ∀ (m : (ℓ : Loc Cert.LbsReferenceIdeal.nD Cert.LbsReferenceIdeal.τ Cert.LbsReferenceIdeal.sig) → Buf (Elt Ideal) ℓ) (g : Dev Cert.LbsReferenceIdeal.nD → PrngReg), Pre_LbsReferenceIdeal m →
    θ_run (Cert.LbsReferenceIdeal.defs (F := Ideal)) (onTc (τ := Cert.LbsReferenceIdeal.τ) (Cert.LbsReferenceIdeal.main (F := Ideal))) ⟨m, fun _ => 0, g⟩ (fun r => (∀ c : Dev Cert.LbsReferenceIdeal.nD,
      r.2.mem ((c.tc : Thread Cert.LbsReferenceIdeal.nD Cert.LbsReferenceIdeal.τ).loc Cert.LbsReferenceIdeal.main_arg0) = m ((c.tc : Thread Cert.LbsReferenceIdeal.nD Cert.LbsReferenceIdeal.τ).loc Cert.LbsReferenceIdeal.main_arg0))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReference [hProjectReference : Cert.ProjectReference.Facts] : Prop :=
  ∀ (m : (ℓ : Loc Cert.ProjectReference.nD Cert.ProjectReference.τ Cert.ProjectReference.sig) → Buf (Elt Bits) ℓ) (g : Dev Cert.ProjectReference.nD → PrngReg), Pre_ProjectReference m →
    θ_run (Cert.ProjectReference.defs (F := Bits)) (onTc (τ := Cert.ProjectReference.τ) (Cert.ProjectReference.main (F := Bits))) ⟨m, fun _ => 0, g⟩ (fun r => (∀ c : Dev Cert.ProjectReference.nD,
      r.2.mem ((c.tc : Thread Cert.ProjectReference.nD Cert.ProjectReference.τ).loc Cert.ProjectReference.main_arg0) = m ((c.tc : Thread Cert.ProjectReference.nD Cert.ProjectReference.τ).loc Cert.ProjectReference.main_arg0)
      ∧ r.2.mem ((c.tc : Thread Cert.ProjectReference.nD Cert.ProjectReference.τ).loc Cert.ProjectReference.main_arg1) = m ((c.tc : Thread Cert.ProjectReference.nD Cert.ProjectReference.τ).loc Cert.ProjectReference.main_arg1)
      ∧ r.2.mem ((c.tc : Thread Cert.ProjectReference.nD Cert.ProjectReference.τ).loc Cert.ProjectReference.main_arg2) = m ((c.tc : Thread Cert.ProjectReference.nD Cert.ProjectReference.τ).loc Cert.ProjectReference.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReference [hMixReference : Cert.MixReference.Facts] : Prop :=
  ∀ (m : (ℓ : Loc Cert.MixReference.nD Cert.MixReference.τ Cert.MixReference.sig) → Buf (Elt Bits) ℓ) (g : Dev Cert.MixReference.nD → PrngReg), Pre_MixReference m →
    θ_run (Cert.MixReference.defs (F := Bits)) (onTc (τ := Cert.MixReference.τ) (Cert.MixReference.main (F := Bits))) ⟨m, fun _ => 0, g⟩ (fun r => (∀ c : Dev Cert.MixReference.nD,
      r.2.mem ((c.tc : Thread Cert.MixReference.nD Cert.MixReference.τ).loc Cert.MixReference.main_arg0) = m ((c.tc : Thread Cert.MixReference.nD Cert.MixReference.τ).loc Cert.MixReference.main_arg0)
      ∧ r.2.mem ((c.tc : Thread Cert.MixReference.nD Cert.MixReference.τ).loc Cert.MixReference.main_arg1) = m ((c.tc : Thread Cert.MixReference.nD Cert.MixReference.τ).loc Cert.MixReference.main_arg1)
      ∧ r.2.mem ((c.tc : Thread Cert.MixReference.nD Cert.MixReference.τ).loc Cert.MixReference.main_arg2) = m ((c.tc : Thread Cert.MixReference.nD Cert.MixReference.τ).loc Cert.MixReference.main_arg2)
      ∧ r.2.mem ((c.tc : Thread Cert.MixReference.nD Cert.MixReference.τ).loc Cert.MixReference.main_arg3) = m ((c.tc : Thread Cert.MixReference.nD Cert.MixReference.τ).loc Cert.MixReference.main_arg3)
      ∧ r.2.mem ((c.tc : Thread Cert.MixReference.nD Cert.MixReference.τ).loc Cert.MixReference.main_arg4) = m ((c.tc : Thread Cert.MixReference.nD Cert.MixReference.τ).loc Cert.MixReference.main_arg4)
      ∧ r.2.mem ((c.tc : Thread Cert.MixReference.nD Cert.MixReference.τ).loc Cert.MixReference.main_arg5) = m ((c.tc : Thread Cert.MixReference.nD Cert.MixReference.τ).loc Cert.MixReference.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2)
      ∧ r.2.mem ((c.tc : Thread Cert.Score.nD Cert.Score.τ).loc Cert.Score.main_arg3) = m ((c.tc : Thread Cert.Score.nD Cert.Score.τ).loc Cert.Score.main_arg3)
      ∧ r.2.mem ((c.tc : Thread Cert.Score.nD Cert.Score.τ).loc Cert.Score.main_arg4) = m ((c.tc : Thread Cert.Score.nD Cert.Score.τ).loc Cert.Score.main_arg4)
      ∧ r.2.mem ((c.tc : Thread Cert.Score.nD Cert.Score.τ).loc Cert.Score.main_arg5) = m ((c.tc : Thread Cert.Score.nD Cert.Score.τ).loc Cert.Score.main_arg5)
      ∧ r.2.mem ((c.tc : Thread Cert.Score.nD Cert.Score.τ).loc Cert.Score.main_arg6) = m ((c.tc : Thread Cert.Score.nD Cert.Score.τ).loc Cert.Score.main_arg6))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
      ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
      ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4)
      ∧ r.2.mem ((c.tc : Thread Cert.ScoreIdeal.nD Cert.ScoreIdeal.τ).loc Cert.ScoreIdeal.main_arg5) = m ((c.tc : Thread Cert.ScoreIdeal.nD Cert.ScoreIdeal.τ).loc Cert.ScoreIdeal.main_arg5)
      ∧ r.2.mem ((c.tc : Thread Cert.ScoreIdeal.nD Cert.ScoreIdeal.τ).loc Cert.ScoreIdeal.main_arg6) = m ((c.tc : Thread Cert.ScoreIdeal.nD Cert.ScoreIdeal.τ).loc Cert.ScoreIdeal.main_arg6))
      ∧ r.2.sem = fun _ => 0)

def quiescent_ScoreReference [hScoreReference : Cert.ScoreReference.Facts] : Prop :=
  ∀ (m : (ℓ : Loc Cert.ScoreReference.nD Cert.ScoreReference.τ Cert.ScoreReference.sig) → Buf (Elt Bits) ℓ) (g : Dev Cert.ScoreReference.nD → PrngReg), Pre_ScoreReference m →
    θ_run (Cert.ScoreReference.defs (F := Bits)) (onTc (τ := Cert.ScoreReference.τ) (Cert.ScoreReference.main (F := Bits))) ⟨m, fun _ => 0, g⟩ (fun r => (∀ c : Dev Cert.ScoreReference.nD,
      r.2.mem ((c.tc : Thread Cert.ScoreReference.nD Cert.ScoreReference.τ).loc Cert.ScoreReference.main_arg0) = m ((c.tc : Thread Cert.ScoreReference.nD Cert.ScoreReference.τ).loc Cert.ScoreReference.main_arg0)
      ∧ r.2.mem ((c.tc : Thread Cert.ScoreReference.nD Cert.ScoreReference.τ).loc Cert.ScoreReference.main_arg1) = m ((c.tc : Thread Cert.ScoreReference.nD Cert.ScoreReference.τ).loc Cert.ScoreReference.main_arg1)
      ∧ r.2.mem ((c.tc : Thread Cert.ScoreReference.nD Cert.ScoreReference.τ).loc Cert.ScoreReference.main_arg2) = m ((c.tc : Thread Cert.ScoreReference.nD Cert.ScoreReference.τ).loc Cert.ScoreReference.main_arg2)
      ∧ r.2.mem ((c.tc : Thread Cert.ScoreReference.nD Cert.ScoreReference.τ).loc Cert.ScoreReference.main_arg3) = m ((c.tc : Thread Cert.ScoreReference.nD Cert.ScoreReference.τ).loc Cert.ScoreReference.main_arg3)
      ∧ r.2.mem ((c.tc : Thread Cert.ScoreReference.nD Cert.ScoreReference.τ).loc Cert.ScoreReference.main_arg4) = m ((c.tc : Thread Cert.ScoreReference.nD Cert.ScoreReference.τ).loc Cert.ScoreReference.main_arg4)
      ∧ r.2.mem ((c.tc : Thread Cert.ScoreReference.nD Cert.ScoreReference.τ).loc Cert.ScoreReference.main_arg5) = m ((c.tc : Thread Cert.ScoreReference.nD Cert.ScoreReference.τ).loc Cert.ScoreReference.main_arg5)
      ∧ r.2.mem ((c.tc : Thread Cert.ScoreReference.nD Cert.ScoreReference.τ).loc Cert.ScoreReference.main_arg6) = m ((c.tc : Thread Cert.ScoreReference.nD Cert.ScoreReference.τ).loc Cert.ScoreReference.main_arg6))
      ∧ r.2.sem = fun _ => 0)

def quiescent_ScoreReferenceIdeal [hScoreReferenceIdeal : Cert.ScoreReferenceIdeal.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2)
      ∧ r.2.mem ((c.tc : Thread Cert.ScoreReferenceIdeal.nD Cert.ScoreReferenceIdeal.τ).loc Cert.ScoreReferenceIdeal.main_arg3) = m ((c.tc : Thread Cert.ScoreReferenceIdeal.nD Cert.ScoreReferenceIdeal.τ).loc Cert.ScoreReferenceIdeal.main_arg3)
      ∧ r.2.mem ((c.tc : Thread Cert.ScoreReferenceIdeal.nD Cert.ScoreReferenceIdeal.τ).loc Cert.ScoreReferenceIdeal.main_arg4) = m ((c.tc : Thread Cert.ScoreReferenceIdeal.nD Cert.ScoreReferenceIdeal.τ).loc Cert.ScoreReferenceIdeal.main_arg4)
      ∧ r.2.mem ((c.tc : Thread Cert.ScoreReferenceIdeal.nD Cert.ScoreReferenceIdeal.τ).loc Cert.ScoreReferenceIdeal.main_arg5) = m ((c.tc : Thread Cert.ScoreReferenceIdeal.nD Cert.ScoreReferenceIdeal.τ).loc Cert.ScoreReferenceIdeal.main_arg5)
      ∧ r.2.mem ((c.tc : Thread Cert.ScoreReferenceIdeal.nD Cert.ScoreReferenceIdeal.τ).loc Cert.ScoreReferenceIdeal.main_arg6) = m ((c.tc : Thread Cert.ScoreReferenceIdeal.nD Cert.ScoreReferenceIdeal.τ).loc Cert.ScoreReferenceIdeal.main_arg6))
      ∧ r.2.sem = fun _ => 0)

def quiescent_Slope [hSlope : Cert.Slope.Facts] : Prop :=
  ∀ (m : (ℓ : Loc Cert.Slope.nD Cert.Slope.τ Cert.Slope.sig) → Buf (Elt Bits) ℓ) (g : Dev Cert.Slope.nD → PrngReg), Pre_Slope m →
    θ_run (Cert.Slope.defs (F := Bits)) (onTc (τ := Cert.Slope.τ) (Cert.Slope.main (F := Bits))) ⟨m, fun _ => 0, g⟩ (fun r => (∀ c : Dev Cert.Slope.nD,
      r.2.mem ((c.tc : Thread Cert.Slope.nD Cert.Slope.τ).loc Cert.Slope.main_arg0) = m ((c.tc : Thread Cert.Slope.nD Cert.Slope.τ).loc Cert.Slope.main_arg0)
      ∧ r.2.mem ((c.tc : Thread Cert.Slope.nD Cert.Slope.τ).loc Cert.Slope.main_arg1) = m ((c.tc : Thread Cert.Slope.nD Cert.Slope.τ).loc Cert.Slope.main_arg1)
      ∧ r.2.mem ((c.tc : Thread Cert.Slope.nD Cert.Slope.τ).loc Cert.Slope.main_arg2) = m ((c.tc : Thread Cert.Slope.nD Cert.Slope.τ).loc Cert.Slope.main_arg2)
      ∧ r.2.mem ((c.tc : Thread Cert.Slope.nD Cert.Slope.τ).loc Cert.Slope.main_arg3) = m ((c.tc : Thread Cert.Slope.nD Cert.Slope.τ).loc Cert.Slope.main_arg3)
      ∧ r.2.mem ((c.tc : Thread Cert.Slope.nD Cert.Slope.τ).loc Cert.Slope.main_arg4) = m ((c.tc : Thread Cert.Slope.nD Cert.Slope.τ).loc Cert.Slope.main_arg4)
      ∧ r.2.mem ((c.tc : Thread Cert.Slope.nD Cert.Slope.τ).loc Cert.Slope.main_arg5) = m ((c.tc : Thread Cert.Slope.nD Cert.Slope.τ).loc Cert.Slope.main_arg5))
      ∧ r.2.sem = fun _ => 0)

def quiescent_SlopeIdeal [hSlopeIdeal : Cert.SlopeIdeal.Facts] : Prop :=
  ∀ (m : (ℓ : Loc Cert.SlopeIdeal.nD Cert.SlopeIdeal.τ Cert.SlopeIdeal.sig) → Buf (Elt Ideal) ℓ) (g : Dev Cert.SlopeIdeal.nD → PrngReg), Pre_SlopeIdeal m →
    θ_run (Cert.SlopeIdeal.defs (F := Ideal)) (onTc (τ := Cert.SlopeIdeal.τ) (Cert.SlopeIdeal.main (F := Ideal))) ⟨m, fun _ => 0, g⟩ (fun r => (∀ c : Dev Cert.SlopeIdeal.nD,
      r.2.mem ((c.tc : Thread Cert.SlopeIdeal.nD Cert.SlopeIdeal.τ).loc Cert.SlopeIdeal.main_arg0) = m ((c.tc : Thread Cert.SlopeIdeal.nD Cert.SlopeIdeal.τ).loc Cert.SlopeIdeal.main_arg0)
      ∧ r.2.mem ((c.tc : Thread Cert.SlopeIdeal.nD Cert.SlopeIdeal.τ).loc Cert.SlopeIdeal.main_arg1) = m ((c.tc : Thread Cert.SlopeIdeal.nD Cert.SlopeIdeal.τ).loc Cert.SlopeIdeal.main_arg1)
      ∧ r.2.mem ((c.tc : Thread Cert.SlopeIdeal.nD Cert.SlopeIdeal.τ).loc Cert.SlopeIdeal.main_arg2) = m ((c.tc : Thread Cert.SlopeIdeal.nD Cert.SlopeIdeal.τ).loc Cert.SlopeIdeal.main_arg2)
      ∧ r.2.mem ((c.tc : Thread Cert.SlopeIdeal.nD Cert.SlopeIdeal.τ).loc Cert.SlopeIdeal.main_arg3) = m ((c.tc : Thread Cert.SlopeIdeal.nD Cert.SlopeIdeal.τ).loc Cert.SlopeIdeal.main_arg3)
      ∧ r.2.mem ((c.tc : Thread Cert.SlopeIdeal.nD Cert.SlopeIdeal.τ).loc Cert.SlopeIdeal.main_arg4) = m ((c.tc : Thread Cert.SlopeIdeal.nD Cert.SlopeIdeal.τ).loc Cert.SlopeIdeal.main_arg4)
      ∧ r.2.mem ((c.tc : Thread Cert.SlopeIdeal.nD Cert.SlopeIdeal.τ).loc Cert.SlopeIdeal.main_arg5) = m ((c.tc : Thread Cert.SlopeIdeal.nD Cert.SlopeIdeal.τ).loc Cert.SlopeIdeal.main_arg5))
      ∧ r.2.sem = fun _ => 0)

def quiescent_SlopeReference [hSlopeReference : Cert.SlopeReference.Facts] : Prop :=
  ∀ (m : (ℓ : Loc Cert.SlopeReference.nD Cert.SlopeReference.τ Cert.SlopeReference.sig) → Buf (Elt Bits) ℓ) (g : Dev Cert.SlopeReference.nD → PrngReg), Pre_SlopeReference m →
    θ_run (Cert.SlopeReference.defs (F := Bits)) (onTc (τ := Cert.SlopeReference.τ) (Cert.SlopeReference.main (F := Bits))) ⟨m, fun _ => 0, g⟩ (fun r => (∀ c : Dev Cert.SlopeReference.nD,
      r.2.mem ((c.tc : Thread Cert.SlopeReference.nD Cert.SlopeReference.τ).loc Cert.SlopeReference.main_arg0) = m ((c.tc : Thread Cert.SlopeReference.nD Cert.SlopeReference.τ).loc Cert.SlopeReference.main_arg0)
      ∧ r.2.mem ((c.tc : Thread Cert.SlopeReference.nD Cert.SlopeReference.τ).loc Cert.SlopeReference.main_arg1) = m ((c.tc : Thread Cert.SlopeReference.nD Cert.SlopeReference.τ).loc Cert.SlopeReference.main_arg1)
      ∧ r.2.mem ((c.tc : Thread Cert.SlopeReference.nD Cert.SlopeReference.τ).loc Cert.SlopeReference.main_arg2) = m ((c.tc : Thread Cert.SlopeReference.nD Cert.SlopeReference.τ).loc Cert.SlopeReference.main_arg2)
      ∧ r.2.mem ((c.tc : Thread Cert.SlopeReference.nD Cert.SlopeReference.τ).loc Cert.SlopeReference.main_arg3) = m ((c.tc : Thread Cert.SlopeReference.nD Cert.SlopeReference.τ).loc Cert.SlopeReference.main_arg3)
      ∧ r.2.mem ((c.tc : Thread Cert.SlopeReference.nD Cert.SlopeReference.τ).loc Cert.SlopeReference.main_arg4) = m ((c.tc : Thread Cert.SlopeReference.nD Cert.SlopeReference.τ).loc Cert.SlopeReference.main_arg4)
      ∧ r.2.mem ((c.tc : Thread Cert.SlopeReference.nD Cert.SlopeReference.τ).loc Cert.SlopeReference.main_arg5) = m ((c.tc : Thread Cert.SlopeReference.nD Cert.SlopeReference.τ).loc Cert.SlopeReference.main_arg5))
      ∧ r.2.sem = fun _ => 0)

def quiescent_SlopeReferenceIdeal [hSlopeReferenceIdeal : Cert.SlopeReferenceIdeal.Facts] : Prop :=
  ∀ (m : (ℓ : Loc Cert.SlopeReferenceIdeal.nD Cert.SlopeReferenceIdeal.τ Cert.SlopeReferenceIdeal.sig) → Buf (Elt Ideal) ℓ) (g : Dev Cert.SlopeReferenceIdeal.nD → PrngReg), Pre_SlopeReferenceIdeal m →
    θ_run (Cert.SlopeReferenceIdeal.defs (F := Ideal)) (onTc (τ := Cert.SlopeReferenceIdeal.τ) (Cert.SlopeReferenceIdeal.main (F := Ideal))) ⟨m, fun _ => 0, g⟩ (fun r => (∀ c : Dev Cert.SlopeReferenceIdeal.nD,
      r.2.mem ((c.tc : Thread Cert.SlopeReferenceIdeal.nD Cert.SlopeReferenceIdeal.τ).loc Cert.SlopeReferenceIdeal.main_arg0) = m ((c.tc : Thread Cert.SlopeReferenceIdeal.nD Cert.SlopeReferenceIdeal.τ).loc Cert.SlopeReferenceIdeal.main_arg0)
      ∧ r.2.mem ((c.tc : Thread Cert.SlopeReferenceIdeal.nD Cert.SlopeReferenceIdeal.τ).loc Cert.SlopeReferenceIdeal.main_arg1) = m ((c.tc : Thread Cert.SlopeReferenceIdeal.nD Cert.SlopeReferenceIdeal.τ).loc Cert.SlopeReferenceIdeal.main_arg1)
      ∧ r.2.mem ((c.tc : Thread Cert.SlopeReferenceIdeal.nD Cert.SlopeReferenceIdeal.τ).loc Cert.SlopeReferenceIdeal.main_arg2) = m ((c.tc : Thread Cert.SlopeReferenceIdeal.nD Cert.SlopeReferenceIdeal.τ).loc Cert.SlopeReferenceIdeal.main_arg2)
      ∧ r.2.mem ((c.tc : Thread Cert.SlopeReferenceIdeal.nD Cert.SlopeReferenceIdeal.τ).loc Cert.SlopeReferenceIdeal.main_arg3) = m ((c.tc : Thread Cert.SlopeReferenceIdeal.nD Cert.SlopeReferenceIdeal.τ).loc Cert.SlopeReferenceIdeal.main_arg3)
      ∧ r.2.mem ((c.tc : Thread Cert.SlopeReferenceIdeal.nD Cert.SlopeReferenceIdeal.τ).loc Cert.SlopeReferenceIdeal.main_arg4) = m ((c.tc : Thread Cert.SlopeReferenceIdeal.nD Cert.SlopeReferenceIdeal.τ).loc Cert.SlopeReferenceIdeal.main_arg4)
      ∧ r.2.mem ((c.tc : Thread Cert.SlopeReferenceIdeal.nD Cert.SlopeReferenceIdeal.τ).loc Cert.SlopeReferenceIdeal.main_arg5) = m ((c.tc : Thread Cert.SlopeReferenceIdeal.nD Cert.SlopeReferenceIdeal.τ).loc Cert.SlopeReferenceIdeal.main_arg5))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ r.2.sem = fun _ => 0)

def quiescent_BackReference [hBackReference : Cert.BackReference.Facts] : Prop :=
  ∀ (m : (ℓ : Loc Cert.BackReference.nD Cert.BackReference.τ Cert.BackReference.sig) → Buf (Elt Bits) ℓ) (g : Dev Cert.BackReference.nD → PrngReg), Pre_BackReference m →
    θ_run (Cert.BackReference.defs (F := Bits)) (onTc (τ := Cert.BackReference.τ) (Cert.BackReference.main (F := Bits))) ⟨m, fun _ => 0, g⟩ (fun r => (∀ c : Dev Cert.BackReference.nD,
      r.2.mem ((c.tc : Thread Cert.BackReference.nD Cert.BackReference.τ).loc Cert.BackReference.main_arg0) = m ((c.tc : Thread Cert.BackReference.nD Cert.BackReference.τ).loc Cert.BackReference.main_arg0)
      ∧ r.2.mem ((c.tc : Thread Cert.BackReference.nD Cert.BackReference.τ).loc Cert.BackReference.main_arg1) = m ((c.tc : Thread Cert.BackReference.nD Cert.BackReference.τ).loc Cert.BackReference.main_arg1)
      ∧ r.2.mem ((c.tc : Thread Cert.BackReference.nD Cert.BackReference.τ).loc Cert.BackReference.main_arg2) = m ((c.tc : Thread Cert.BackReference.nD Cert.BackReference.τ).loc Cert.BackReference.main_arg2)
      ∧ r.2.mem ((c.tc : Thread Cert.BackReference.nD Cert.BackReference.τ).loc Cert.BackReference.main_arg3) = m ((c.tc : Thread Cert.BackReference.nD Cert.BackReference.τ).loc Cert.BackReference.main_arg3)
      ∧ r.2.mem ((c.tc : Thread Cert.BackReference.nD Cert.BackReference.τ).loc Cert.BackReference.main_arg4) = m ((c.tc : Thread Cert.BackReference.nD Cert.BackReference.τ).loc Cert.BackReference.main_arg4)
      ∧ r.2.mem ((c.tc : Thread Cert.BackReference.nD Cert.BackReference.τ).loc Cert.BackReference.main_arg5) = m ((c.tc : Thread Cert.BackReference.nD Cert.BackReference.τ).loc Cert.BackReference.main_arg5)
      ∧ r.2.mem ((c.tc : Thread Cert.BackReference.nD Cert.BackReference.τ).loc Cert.BackReference.main_arg6) = m ((c.tc : Thread Cert.BackReference.nD Cert.BackReference.τ).loc Cert.BackReference.main_arg6)
      ∧ r.2.mem ((c.tc : Thread Cert.BackReference.nD Cert.BackReference.τ).loc Cert.BackReference.main_arg7) = m ((c.tc : Thread Cert.BackReference.nD Cert.BackReference.τ).loc Cert.BackReference.main_arg7))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7))
      ∧ r.2.sem = fun _ => 0)

def quiescent_Part [hPart : Cert.Part.Facts] : Prop :=
  ∀ (m : (ℓ : Loc Cert.Part.nD Cert.Part.τ Cert.Part.sig) → Buf (Elt Bits) ℓ) (g : Dev Cert.Part.nD → PrngReg), Pre_Part m →
    θ_run (Cert.Part.defs (F := Bits)) (onTc (τ := Cert.Part.τ) (Cert.Part.main (F := Bits))) ⟨m, fun _ => 0, g⟩ (fun r => (∀ c : Dev Cert.Part.nD,
      r.2.mem ((c.tc : Thread Cert.Part.nD Cert.Part.τ).loc Cert.Part.main_arg0) = m ((c.tc : Thread Cert.Part.nD Cert.Part.τ).loc Cert.Part.main_arg0)
      ∧ r.2.mem ((c.tc : Thread Cert.Part.nD Cert.Part.τ).loc Cert.Part.main_arg1) = m ((c.tc : Thread Cert.Part.nD Cert.Part.τ).loc Cert.Part.main_arg1)
      ∧ r.2.mem ((c.tc : Thread Cert.Part.nD Cert.Part.τ).loc Cert.Part.main_arg2) = m ((c.tc : Thread Cert.Part.nD Cert.Part.τ).loc Cert.Part.main_arg2)
      ∧ r.2.mem ((c.tc : Thread Cert.Part.nD Cert.Part.τ).loc Cert.Part.main_arg3) = m ((c.tc : Thread Cert.Part.nD Cert.Part.τ).loc Cert.Part.main_arg3)
      ∧ r.2.mem ((c.tc : Thread Cert.Part.nD Cert.Part.τ).loc Cert.Part.main_arg4) = m ((c.tc : Thread Cert.Part.nD Cert.Part.τ).loc Cert.Part.main_arg4)
      ∧ r.2.mem ((c.tc : Thread Cert.Part.nD Cert.Part.τ).loc Cert.Part.main_arg5) = m ((c.tc : Thread Cert.Part.nD Cert.Part.τ).loc Cert.Part.main_arg5)
      ∧ r.2.mem ((c.tc : Thread Cert.Part.nD Cert.Part.τ).loc Cert.Part.main_arg6) = m ((c.tc : Thread Cert.Part.nD Cert.Part.τ).loc Cert.Part.main_arg6))
      ∧ r.2.sem = fun _ => 0)

def quiescent_PartIdeal [hPartIdeal : Cert.PartIdeal.Facts] : Prop :=
  ∀ (m : (ℓ : Loc Cert.PartIdeal.nD Cert.PartIdeal.τ Cert.PartIdeal.sig) → Buf (Elt Ideal) ℓ) (g : Dev Cert.PartIdeal.nD → PrngReg), Pre_PartIdeal m →
    θ_run (Cert.PartIdeal.defs (F := Ideal)) (onTc (τ := Cert.PartIdeal.τ) (Cert.PartIdeal.main (F := Ideal))) ⟨m, fun _ => 0, g⟩ (fun r => (∀ c : Dev Cert.PartIdeal.nD,
      r.2.mem ((c.tc : Thread Cert.PartIdeal.nD Cert.PartIdeal.τ).loc Cert.PartIdeal.main_arg0) = m ((c.tc : Thread Cert.PartIdeal.nD Cert.PartIdeal.τ).loc Cert.PartIdeal.main_arg0)
      ∧ r.2.mem ((c.tc : Thread Cert.PartIdeal.nD Cert.PartIdeal.τ).loc Cert.PartIdeal.main_arg1) = m ((c.tc : Thread Cert.PartIdeal.nD Cert.PartIdeal.τ).loc Cert.PartIdeal.main_arg1)
      ∧ r.2.mem ((c.tc : Thread Cert.PartIdeal.nD Cert.PartIdeal.τ).loc Cert.PartIdeal.main_arg2) = m ((c.tc : Thread Cert.PartIdeal.nD Cert.PartIdeal.τ).loc Cert.PartIdeal.main_arg2)
      ∧ r.2.mem ((c.tc : Thread Cert.PartIdeal.nD Cert.PartIdeal.τ).loc Cert.PartIdeal.main_arg3) = m ((c.tc : Thread Cert.PartIdeal.nD Cert.PartIdeal.τ).loc Cert.PartIdeal.main_arg3)
      ∧ r.2.mem ((c.tc : Thread Cert.PartIdeal.nD Cert.PartIdeal.τ).loc Cert.PartIdeal.main_arg4) = m ((c.tc : Thread Cert.PartIdeal.nD Cert.PartIdeal.τ).loc Cert.PartIdeal.main_arg4)
      ∧ r.2.mem ((c.tc : Thread Cert.PartIdeal.nD Cert.PartIdeal.τ).loc Cert.PartIdeal.main_arg5) = m ((c.tc : Thread Cert.PartIdeal.nD Cert.PartIdeal.τ).loc Cert.PartIdeal.main_arg5)
      ∧ r.2.mem ((c.tc : Thread Cert.PartIdeal.nD Cert.PartIdeal.τ).loc Cert.PartIdeal.main_arg6) = m ((c.tc : Thread Cert.PartIdeal.nD Cert.PartIdeal.τ).loc Cert.PartIdeal.main_arg6))
      ∧ r.2.sem = fun _ => 0)

def quiescent_PartReference [hPartReference : Cert.PartReference.Facts] : Prop :=
  ∀ (m : (ℓ : Loc Cert.PartReference.nD Cert.PartReference.τ Cert.PartReference.sig) → Buf (Elt Bits) ℓ) (g : Dev Cert.PartReference.nD → PrngReg), Pre_PartReference m →
    θ_run (Cert.PartReference.defs (F := Bits)) (onTc (τ := Cert.PartReference.τ) (Cert.PartReference.main (F := Bits))) ⟨m, fun _ => 0, g⟩ (fun r => (∀ c : Dev Cert.PartReference.nD,
      r.2.mem ((c.tc : Thread Cert.PartReference.nD Cert.PartReference.τ).loc Cert.PartReference.main_arg0) = m ((c.tc : Thread Cert.PartReference.nD Cert.PartReference.τ).loc Cert.PartReference.main_arg0)
      ∧ r.2.mem ((c.tc : Thread Cert.PartReference.nD Cert.PartReference.τ).loc Cert.PartReference.main_arg1) = m ((c.tc : Thread Cert.PartReference.nD Cert.PartReference.τ).loc Cert.PartReference.main_arg1)
      ∧ r.2.mem ((c.tc : Thread Cert.PartReference.nD Cert.PartReference.τ).loc Cert.PartReference.main_arg2) = m ((c.tc : Thread Cert.PartReference.nD Cert.PartReference.τ).loc Cert.PartReference.main_arg2)
      ∧ r.2.mem ((c.tc : Thread Cert.PartReference.nD Cert.PartReference.τ).loc Cert.PartReference.main_arg3) = m ((c.tc : Thread Cert.PartReference.nD Cert.PartReference.τ).loc Cert.PartReference.main_arg3)
      ∧ r.2.mem ((c.tc : Thread Cert.PartReference.nD Cert.PartReference.τ).loc Cert.PartReference.main_arg4) = m ((c.tc : Thread Cert.PartReference.nD Cert.PartReference.τ).loc Cert.PartReference.main_arg4)
      ∧ r.2.mem ((c.tc : Thread Cert.PartReference.nD Cert.PartReference.τ).loc Cert.PartReference.main_arg5) = m ((c.tc : Thread Cert.PartReference.nD Cert.PartReference.τ).loc Cert.PartReference.main_arg5)
      ∧ r.2.mem ((c.tc : Thread Cert.PartReference.nD Cert.PartReference.τ).loc Cert.PartReference.main_arg6) = m ((c.tc : Thread Cert.PartReference.nD Cert.PartReference.τ).loc Cert.PartReference.main_arg6))
      ∧ r.2.sem = fun _ => 0)

def quiescent_PartReferenceIdeal [hPartReferenceIdeal : Cert.PartReferenceIdeal.Facts] : Prop :=
  ∀ (m : (ℓ : Loc Cert.PartReferenceIdeal.nD Cert.PartReferenceIdeal.τ Cert.PartReferenceIdeal.sig) → Buf (Elt Ideal) ℓ) (g : Dev Cert.PartReferenceIdeal.nD → PrngReg), Pre_PartReferenceIdeal m →
    θ_run (Cert.PartReferenceIdeal.defs (F := Ideal)) (onTc (τ := Cert.PartReferenceIdeal.τ) (Cert.PartReferenceIdeal.main (F := Ideal))) ⟨m, fun _ => 0, g⟩ (fun r => (∀ c : Dev Cert.PartReferenceIdeal.nD,
      r.2.mem ((c.tc : Thread Cert.PartReferenceIdeal.nD Cert.PartReferenceIdeal.τ).loc Cert.PartReferenceIdeal.main_arg0) = m ((c.tc : Thread Cert.PartReferenceIdeal.nD Cert.PartReferenceIdeal.τ).loc Cert.PartReferenceIdeal.main_arg0)
      ∧ r.2.mem ((c.tc : Thread Cert.PartReferenceIdeal.nD Cert.PartReferenceIdeal.τ).loc Cert.PartReferenceIdeal.main_arg1) = m ((c.tc : Thread Cert.PartReferenceIdeal.nD Cert.PartReferenceIdeal.τ).loc Cert.PartReferenceIdeal.main_arg1)
      ∧ r.2.mem ((c.tc : Thread Cert.PartReferenceIdeal.nD Cert.PartReferenceIdeal.τ).loc Cert.PartReferenceIdeal.main_arg2) = m ((c.tc : Thread Cert.PartReferenceIdeal.nD Cert.PartReferenceIdeal.τ).loc Cert.PartReferenceIdeal.main_arg2)
      ∧ r.2.mem ((c.tc : Thread Cert.PartReferenceIdeal.nD Cert.PartReferenceIdeal.τ).loc Cert.PartReferenceIdeal.main_arg3) = m ((c.tc : Thread Cert.PartReferenceIdeal.nD Cert.PartReferenceIdeal.τ).loc Cert.PartReferenceIdeal.main_arg3)
      ∧ r.2.mem ((c.tc : Thread Cert.PartReferenceIdeal.nD Cert.PartReferenceIdeal.τ).loc Cert.PartReferenceIdeal.main_arg4) = m ((c.tc : Thread Cert.PartReferenceIdeal.nD Cert.PartReferenceIdeal.τ).loc Cert.PartReferenceIdeal.main_arg4)
      ∧ r.2.mem ((c.tc : Thread Cert.PartReferenceIdeal.nD Cert.PartReferenceIdeal.τ).loc Cert.PartReferenceIdeal.main_arg5) = m ((c.tc : Thread Cert.PartReferenceIdeal.nD Cert.PartReferenceIdeal.τ).loc Cert.PartReferenceIdeal.main_arg5)
      ∧ r.2.mem ((c.tc : Thread Cert.PartReferenceIdeal.nD Cert.PartReferenceIdeal.τ).loc Cert.PartReferenceIdeal.main_arg6) = m ((c.tc : Thread Cert.PartReferenceIdeal.nD Cert.PartReferenceIdeal.τ).loc Cert.PartReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨5, ![1, 4, 2, 512, 898]⟩ ⟨5, ![8, 4, 2, 512, 898]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨5, ![1, 4, 2, 128, 1024]⟩ ⟨5, ![8, 4, 2, 128, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)) (v1 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = Layout.block ⟨3, ![7, 512, 898]⟩ ⟨3, ![56, 512, 898]⟩ 0 8 c v0
          ∧ r.2.mem ((c.tc : Thread Cert.KernelIdeal.nD Cert.KernelIdeal.τ).loc Cert.KernelIdeal.main_v7_1) = Layout.block ⟨3, ![7, 128, 1024]⟩ ⟨3, ![56, 128, 1024]⟩ 0 8 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_v13) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨5, ![1, 4, 2, 512, 898]⟩ ⟨5, ![8, 4, 2, 512, 898]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨5, ![1, 4, 2, 128, 1024]⟩ ⟨5, ![8, 4, 2, 128, 1024]⟩ 0 8 c (m' (((0 : Dev Cert.Reference.nD).tc : Thread Cert.Reference.nD Cert.Reference.τ).loc Cert.Reference.main_arg1))) →
    ∃ (v0 : Buf (Elt Bits) (((0 : Dev Cert.Reference.nD).tc : Thread Cert.Reference.nD Cert.Reference.τ).loc Cert.Reference.main_v6)) (v1 : Buf (Elt Bits) (((0 : Dev Cert.Reference.nD).tc : Thread Cert.Reference.nD Cert.Reference.τ).loc Cert.Reference.main_v13)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v7_0) = Layout.block ⟨3, ![7, 512, 898]⟩ ⟨3, ![56, 512, 898]⟩ 0 8 c v0
          ∧ r.2.mem ((c.tc : Thread Cert.Kernel.nD Cert.Kernel.τ).loc Cert.Kernel.main_v7_1) = Layout.block ⟨3, ![7, 128, 1024]⟩ ⟨3, ![56, 128, 1024]⟩ 0 8 c v1
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v6) = v0
          ∧ r.2.mem (((0 : Dev Cert.Reference.nD).tc : Thread Cert.Reference.nD Cert.Reference.τ).loc Cert.Reference.main_v13) = v1
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 1024, 898]⟩ ⟨3, ![2, 1024, 3592]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨3, ![2, 256, 1024]⟩ ⟨3, ![2, 1024, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v3)) (v1 : Buf (Elt Ideal) (((0 : Dev Cert.GatherReferenceIdeal.nD).tc : Thread Cert.GatherReferenceIdeal.nD Cert.GatherReferenceIdeal.τ).loc Cert.GatherReferenceIdeal.main_v9)) (v2 : Buf (Elt Ideal) (((0 : Dev Cert.GatherReferenceIdeal.nD).tc : Thread Cert.GatherReferenceIdeal.nD Cert.GatherReferenceIdeal.τ).loc Cert.GatherReferenceIdeal.main_v13)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v16_0) = v0
          ∧ r.2.mem ((c.tc : Thread Cert.GatherIdeal.nD Cert.GatherIdeal.τ).loc Cert.GatherIdeal.main_v16_1) = v1
          ∧ r.2.mem ((c.tc : Thread Cert.GatherIdeal.nD Cert.GatherIdeal.τ).loc Cert.GatherIdeal.main_v16_2) = v2
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v3) = v0
          ∧ r.2.mem (((0 : Dev Cert.GatherReferenceIdeal.nD).tc : Thread Cert.GatherReferenceIdeal.nD Cert.GatherReferenceIdeal.τ).loc Cert.GatherReferenceIdeal.main_v9) = v1
          ∧ r.2.mem (((0 : Dev Cert.GatherReferenceIdeal.nD).tc : Thread Cert.GatherReferenceIdeal.nD Cert.GatherReferenceIdeal.τ).loc Cert.GatherReferenceIdeal.main_v13) = v2
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨3, ![2, 1024, 898]⟩ ⟨3, ![2, 1024, 3592]⟩ (Layout.meshBlock [2, 2, 2] ![[], [], [0, 1]] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨3, ![2, 256, 1024]⟩ ⟨3, ![2, 1024, 1024]⟩ (Layout.meshBlock [2, 2, 2] ![[], [0, 1], []] c) (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v3)) (v1 : Buf (Elt Bits) (((0 : Dev Cert.GatherReference.nD).tc : Thread Cert.GatherReference.nD Cert.GatherReference.τ).loc Cert.GatherReference.main_v9)) (v2 : Buf (Elt Bits) (((0 : Dev Cert.GatherReference.nD).tc : Thread Cert.GatherReference.nD Cert.GatherReference.τ).loc Cert.GatherReference.main_v13)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v16_0) = v0
          ∧ r.2.mem ((c.tc : Thread Cert.Gather.nD Cert.Gather.τ).loc Cert.Gather.main_v16_1) = v1
          ∧ r.2.mem ((c.tc : Thread Cert.Gather.nD Cert.Gather.τ).loc Cert.Gather.main_v16_2) = v2
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v3) = v0
          ∧ r.2.mem (((0 : Dev Cert.GatherReference.nD).tc : Thread Cert.GatherReference.nD Cert.GatherReference.τ).loc Cert.GatherReference.main_v9) = v1
          ∧ r.2.mem (((0 : Dev Cert.GatherReference.nD).tc : Thread Cert.GatherReference.nD Cert.GatherReference.τ).loc Cert.GatherReference.main_v13) = v2
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def preserves_Swap_SwapIdeal : Prop :=
  True

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨2, ![512, 898]⟩ ⟨2, ![4096, 898]⟩ 0 8 c (m' (((0 : Dev Cert.SwapReferenceIdeal.nD).tc : Thread Cert.SwapReferenceIdeal.nD Cert.SwapReferenceIdeal.τ).loc Cert.SwapReferenceIdeal.main_arg0))
      ∧ m ((c.tc : Thread Cert.SwapIdeal.nD Cert.SwapIdeal.τ).loc Cert.SwapIdeal.main_arg1) = Layout.block ⟨2, ![128, 1024]⟩ ⟨2, ![1024, 1024]⟩ 0 8 c (m' (((0 : Dev Cert.SwapReferenceIdeal.nD).tc : Thread Cert.SwapReferenceIdeal.nD Cert.SwapReferenceIdeal.τ).loc Cert.SwapReferenceIdeal.main_arg1))) →
    ∃ (v0 : Buf (Elt Ideal) (((0 : Dev Cert.SwapReferenceIdeal.nD).tc : Thread Cert.SwapReferenceIdeal.nD Cert.SwapReferenceIdeal.τ).loc Cert.SwapReferenceIdeal.main_v2)) (v1 : Buf (Elt Ideal) (((0 : Dev Cert.SwapReferenceIdeal.nD).tc : Thread Cert.SwapReferenceIdeal.nD Cert.SwapReferenceIdeal.τ).loc Cert.SwapReferenceIdeal.main_v5)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨2, ![512, 898]⟩ ⟨2, ![4096, 898]⟩ 0 8 c v0
          ∧ r.2.mem ((c.tc : Thread Cert.SwapIdeal.nD Cert.SwapIdeal.τ).loc Cert.SwapIdeal.main_v1_1) = Layout.block ⟨2, ![128, 1024]⟩ ⟨2, ![1024, 1024]⟩ 0 8 c v1
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v2) = v0
          ∧ r.2.mem (((0 : Dev Cert.SwapReferenceIdeal.nD).tc : Thread Cert.SwapReferenceIdeal.nD Cert.SwapReferenceIdeal.τ).loc Cert.SwapReferenceIdeal.main_v5) = v1
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0)
          ∧ r.2.mem (((0 : Dev Cert.SwapReferenceIdeal.nD).tc : Thread Cert.SwapReferenceIdeal.nD Cert.SwapReferenceIdeal.τ).loc Cert.SwapReferenceIdeal.main_arg1) = m' (((0 : Dev Cert.SwapReferenceIdeal.nD).tc : Thread Cert.SwapReferenceIdeal.nD Cert.SwapReferenceIdeal.τ).loc Cert.SwapReferenceIdeal.main_arg1))

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨2, ![512, 898]⟩ ⟨2, ![4096, 898]⟩ 0 8 c (m' (((0 : Dev Cert.SwapReference.nD).tc : Thread Cert.SwapReference.nD Cert.SwapReference.τ).loc Cert.SwapReference.main_arg0))
      ∧ m ((c.tc : Thread Cert.Swap.nD Cert.Swap.τ).loc Cert.Swap.main_arg1) = Layout.block ⟨2, ![128, 1024]⟩ ⟨2, ![1024, 1024]⟩ 0 8 c (m' (((0 : Dev Cert.SwapReference.nD).tc : Thread Cert.SwapReference.nD Cert.SwapReference.τ).loc Cert.SwapReference.main_arg1))) →
    ∃ (v0 : Buf (Elt Bits) (((0 : Dev Cert.SwapReference.nD).tc : Thread Cert.SwapReference.nD Cert.SwapReference.τ).loc Cert.SwapReference.main_v2)) (v1 : Buf (Elt Bits) (((0 : Dev Cert.SwapReference.nD).tc : Thread Cert.SwapReference.nD Cert.SwapReference.τ).loc Cert.SwapReference.main_v5)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨2, ![512, 898]⟩ ⟨2, ![4096, 898]⟩ 0 8 c v0
          ∧ r.2.mem ((c.tc : Thread Cert.Swap.nD Cert.Swap.τ).loc Cert.Swap.main_v1_1) = Layout.block ⟨2, ![128, 1024]⟩ ⟨2, ![1024, 1024]⟩ 0 8 c v1
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v2) = v0
          ∧ r.2.mem (((0 : Dev Cert.SwapReference.nD).tc : Thread Cert.SwapReference.nD Cert.SwapReference.τ).loc Cert.SwapReference.main_v5) = v1
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0)
          ∧ r.2.mem (((0 : Dev Cert.SwapReference.nD).tc : Thread Cert.SwapReference.nD Cert.SwapReference.τ).loc Cert.SwapReference.main_arg1) = m' (((0 : Dev Cert.SwapReference.nD).tc : Thread Cert.SwapReference.nD Cert.SwapReference.τ).loc Cert.SwapReference.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m ((c.tc : Thread Cert.FirstIdeal.nD Cert.FirstIdeal.τ).loc Cert.FirstIdeal.main_arg0) = Layout.blockN ⟨3, ![2, 512, 898]⟩ ⟨3, ![8, 512, 898]⟩ (Layout.meshBlock [2, 2, 2] ![[0, 1], [], []] c) (m' (((0 : Dev Cert.FirstReferenceIdeal.nD).tc : Thread Cert.FirstReferenceIdeal.nD Cert.FirstReferenceIdeal.τ).loc Cert.FirstReferenceIdeal.main_arg0))) →
    ∃ (v0 : Buf (Elt Ideal) (((0 : Dev Cert.FirstReferenceIdeal.nD).tc : Thread Cert.FirstReferenceIdeal.nD Cert.FirstReferenceIdeal.τ).loc Cert.FirstReferenceIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0))
      ∧ θ_run (Cert.FirstReferenceIdeal.defs (F := Ideal)) (onTc (τ := Cert.FirstReferenceIdeal.τ) (Cert.FirstReferenceIdeal.main (F := Ideal))) ⟨m', fun _ => 0, g'⟩ (fun r =>
          r.2.mem (((0 : Dev Cert.FirstReferenceIdeal.nD).tc : Thread Cert.FirstReferenceIdeal.nD Cert.FirstReferenceIdeal.τ).loc Cert.FirstReferenceIdeal.main_v0) = v0
          ∧ r.2.mem (((0 : Dev Cert.FirstReferenceIdeal.nD).tc : Thread Cert.FirstReferenceIdeal.nD Cert.FirstReferenceIdeal.τ).loc Cert.FirstReferenceIdeal.main_arg0) = m' (((0 : Dev Cert.FirstReferenceIdeal.nD).tc : Thread Cert.FirstReferenceIdeal.nD Cert.FirstReferenceIdeal.τ).loc Cert.FirstReferenceIdeal.main_arg0))

def bitexact_First_FirstReference [hFirst : Cert.First.Facts] [hFirstReference : Cert.FirstReference.Facts] : Prop :=
  ∀ (m : (ℓ : Loc Cert.First.nD Cert.First.τ Cert.First.sig) → Buf (Elt Bits) ℓ) (g : Dev Cert.First.nD → PrngReg)
    (m' : (ℓ : Loc Cert.FirstReference.nD Cert.FirstReference.τ Cert.FirstReference.sig) → Buf (Elt Bits) ℓ) (g' : Dev Cert.FirstReference.nD → PrngReg), Pre_First m →
    (∀ c : Dev Cert.First.nD,
      m ((c.tc : Thread Cert.First.nD Cert.First.τ).loc Cert.First.main_arg0) = Layout.blockN ⟨3, ![2, 512, 898]⟩ ⟨3, ![8, 512, 898]⟩ (Layout.meshBlock [2, 2, 2] ![[0, 1], [], []] c) (m' (((0 : Dev Cert.FirstReference.nD).tc : Thread Cert.FirstReference.nD Cert.FirstReference.τ).loc Cert.FirstReference.main_arg0))) →
    ∃ (v0 : Buf (Elt Bits) (((0 : Dev Cert.FirstReference.nD).tc : Thread Cert.FirstReference.nD Cert.FirstReference.τ).loc Cert.FirstReference.main_v0)),
      θ_run (Cert.First.defs (F := Bits)) (onTc (τ := Cert.First.τ) (Cert.First.main (F := Bits))) ⟨m, fun _ => 0, g⟩ (fun r => ∀ c : Dev Cert.First.nD,
          r.2.mem ((c.tc : Thread Cert.First.nD Cert.First.τ).loc Cert.First.main_v1) = v0
          ∧ r.2.mem ((c.tc : Thread Cert.First.nD Cert.First.τ).loc Cert.First.main_arg0) = m ((c.tc : Thread Cert.First.nD Cert.First.τ).loc Cert.First.main_arg0))
      ∧ θ_run (Cert.FirstReference.defs (F := Bits)) (onTc (τ := Cert.FirstReference.τ) (Cert.FirstReference.main (F := Bits))) ⟨m', fun _ => 0, g'⟩ (fun r =>
          r.2.mem (((0 : Dev Cert.FirstReference.nD).tc : Thread Cert.FirstReference.nD Cert.FirstReference.τ).loc Cert.FirstReference.main_v0) = v0
          ∧ r.2.mem (((0 : Dev Cert.FirstReference.nD).tc : Thread Cert.FirstReference.nD Cert.FirstReference.τ).loc Cert.FirstReference.main_arg0) = m' (((0 : Dev Cert.FirstReference.nD).tc : Thread Cert.FirstReference.nD Cert.FirstReference.τ).loc Cert.FirstReference.main_arg0))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)
      ∧ m' ((c.tc : Thread Cert.UpdateInReferenceIdeal.nD Cert.UpdateInReferenceIdeal.τ).loc Cert.UpdateInReferenceIdeal.main_arg4) = m ((c.tc : Thread Cert.UpdateInIdeal.nD Cert.UpdateInIdeal.τ).loc Cert.UpdateInIdeal.main_arg4)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
          ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v0) = v0 c
          ∧ r.2.mem ((c.tc : Thread Cert.UpdateInReferenceIdeal.nD Cert.UpdateInReferenceIdeal.τ).loc Cert.UpdateInReferenceIdeal.main_v24) = v1 c
          ∧ r.2.mem ((c.tc : Thread Cert.UpdateInReferenceIdeal.nD Cert.UpdateInReferenceIdeal.τ).loc Cert.UpdateInReferenceIdeal.main_v5) = v2 c
          ∧ r.2.mem ((c.tc : Thread Cert.UpdateInReferenceIdeal.nD Cert.UpdateInReferenceIdeal.τ).loc Cert.UpdateInReferenceIdeal.main_v11) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3)
          ∧ r.2.mem ((c.tc : Thread Cert.UpdateInReferenceIdeal.nD Cert.UpdateInReferenceIdeal.τ).loc Cert.UpdateInReferenceIdeal.main_arg4) = m' ((c.tc : Thread Cert.UpdateInReferenceIdeal.nD Cert.UpdateInReferenceIdeal.τ).loc Cert.UpdateInReferenceIdeal.main_arg4))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)
      ∧ m' ((c.tc : Thread Cert.UpdateOutReferenceIdeal.nD Cert.UpdateOutReferenceIdeal.τ).loc Cert.UpdateOutReferenceIdeal.main_arg4) = m ((c.tc : Thread Cert.UpdateOutIdeal.nD Cert.UpdateOutIdeal.τ).loc Cert.UpdateOutIdeal.main_arg4)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
          ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v0) = v0 c
          ∧ r.2.mem ((c.tc : Thread Cert.UpdateOutReferenceIdeal.nD Cert.UpdateOutReferenceIdeal.τ).loc Cert.UpdateOutReferenceIdeal.main_v24) = v1 c
          ∧ r.2.mem ((c.tc : Thread Cert.UpdateOutReferenceIdeal.nD Cert.UpdateOutReferenceIdeal.τ).loc Cert.UpdateOutReferenceIdeal.main_v5) = v2 c
          ∧ r.2.mem ((c.tc : Thread Cert.UpdateOutReferenceIdeal.nD Cert.UpdateOutReferenceIdeal.τ).loc Cert.UpdateOutReferenceIdeal.main_v11) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3)
          ∧ r.2.mem ((c.tc : Thread Cert.UpdateOutReferenceIdeal.nD Cert.UpdateOutReferenceIdeal.τ).loc Cert.UpdateOutReferenceIdeal.main_arg4) = m' ((c.tc : Thread Cert.UpdateOutReferenceIdeal.nD Cert.UpdateOutReferenceIdeal.τ).loc Cert.UpdateOutReferenceIdeal.main_arg4))

def preserves_SumIn_SumInIdeal : Prop :=
  True

def algebraic_SumInIdeal_SumInReferenceIdeal [hSumInIdeal : Cert.SumInIdeal.Facts] [hSumInReferenceIdeal : Cert.SumInReferenceIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg), Pre_SumInIdeal m →
    (∀ c : Dev Cert.SumInIdeal.nD,
      m' ((c.tc : Thread Cert.SumInReferenceIdeal.nD Cert.SumInReferenceIdeal.τ).loc Cert.SumInReferenceIdeal.main_arg0) = m ((c.tc : Thread Cert.SumInIdeal.nD Cert.SumInIdeal.τ).loc Cert.SumInIdeal.main_arg0)
      ∧ m' ((c.tc : Thread Cert.SumInReferenceIdeal.nD Cert.SumInReferenceIdeal.τ).loc Cert.SumInReferenceIdeal.main_arg1) = m ((c.tc : Thread Cert.SumInIdeal.nD Cert.SumInIdeal.τ).loc Cert.SumInIdeal.main_arg1)
      ∧ m' ((c.tc : Thread Cert.SumInReferenceIdeal.nD Cert.SumInReferenceIdeal.τ).loc Cert.SumInReferenceIdeal.main_arg2) = m ((c.tc : Thread Cert.SumInIdeal.nD Cert.SumInIdeal.τ).loc Cert.SumInIdeal.main_arg2)
      ∧ m' ((c.tc : Thread Cert.SumInReferenceIdeal.nD Cert.SumInReferenceIdeal.τ).loc Cert.SumInReferenceIdeal.main_arg3) = m ((c.tc : Thread Cert.SumInIdeal.nD Cert.SumInIdeal.τ).loc Cert.SumInIdeal.main_arg3)
      ∧ m' ((c.tc : Thread Cert.SumInReferenceIdeal.nD Cert.SumInReferenceIdeal.τ).loc Cert.SumInReferenceIdeal.main_arg4) = m ((c.tc : Thread Cert.SumInIdeal.nD Cert.SumInIdeal.τ).loc Cert.SumInIdeal.main_arg4)
      ∧ m' ((c.tc : Thread Cert.SumInReferenceIdeal.nD Cert.SumInReferenceIdeal.τ).loc Cert.SumInReferenceIdeal.main_arg5) = m ((c.tc : Thread Cert.SumInIdeal.nD Cert.SumInIdeal.τ).loc Cert.SumInIdeal.main_arg5)
      ∧ m' ((c.tc : Thread Cert.SumInReferenceIdeal.nD Cert.SumInReferenceIdeal.τ).loc Cert.SumInReferenceIdeal.main_arg6) = m ((c.tc : Thread Cert.SumInIdeal.nD Cert.SumInIdeal.τ).loc Cert.SumInIdeal.main_arg6)
      ∧ m' ((c.tc : Thread Cert.SumInReferenceIdeal.nD Cert.SumInReferenceIdeal.τ).loc Cert.SumInReferenceIdeal.main_arg7) = m ((c.tc : Thread Cert.SumInIdeal.nD Cert.SumInIdeal.τ).loc Cert.SumInIdeal.main_arg7)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
          ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3)
          ∧ r.2.mem ((c.tc : Thread Cert.SumInIdeal.nD Cert.SumInIdeal.τ).loc Cert.SumInIdeal.main_arg4) = m ((c.tc : Thread Cert.SumInIdeal.nD Cert.SumInIdeal.τ).loc Cert.SumInIdeal.main_arg4)
          ∧ r.2.mem ((c.tc : Thread Cert.SumInIdeal.nD Cert.SumInIdeal.τ).loc Cert.SumInIdeal.main_arg5) = m ((c.tc : Thread Cert.SumInIdeal.nD Cert.SumInIdeal.τ).loc Cert.SumInIdeal.main_arg5)
          ∧ r.2.mem ((c.tc : Thread Cert.SumInIdeal.nD Cert.SumInIdeal.τ).loc Cert.SumInIdeal.main_arg6) = m ((c.tc : Thread Cert.SumInIdeal.nD Cert.SumInIdeal.τ).loc Cert.SumInIdeal.main_arg6)
          ∧ r.2.mem ((c.tc : Thread Cert.SumInIdeal.nD Cert.SumInIdeal.τ).loc Cert.SumInIdeal.main_arg7) = m ((c.tc : Thread Cert.SumInIdeal.nD Cert.SumInIdeal.τ).loc Cert.SumInIdeal.main_arg7))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v13) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0)
          ∧ r.2.mem ((c.tc : Thread Cert.SumInReferenceIdeal.nD Cert.SumInReferenceIdeal.τ).loc Cert.SumInReferenceIdeal.main_arg1) = m' ((c.tc : Thread Cert.SumInReferenceIdeal.nD Cert.SumInReferenceIdeal.τ).loc Cert.SumInReferenceIdeal.main_arg1)
          ∧ r.2.mem ((c.tc : Thread Cert.SumInReferenceIdeal.nD Cert.SumInReferenceIdeal.τ).loc Cert.SumInReferenceIdeal.main_arg2) = m' ((c.tc : Thread Cert.SumInReferenceIdeal.nD Cert.SumInReferenceIdeal.τ).loc Cert.SumInReferenceIdeal.main_arg2)
          ∧ r.2.mem ((c.tc : Thread Cert.SumInReferenceIdeal.nD Cert.SumInReferenceIdeal.τ).loc Cert.SumInReferenceIdeal.main_arg3) = m' ((c.tc : Thread Cert.SumInReferenceIdeal.nD Cert.SumInReferenceIdeal.τ).loc Cert.SumInReferenceIdeal.main_arg3)
          ∧ r.2.mem ((c.tc : Thread Cert.SumInReferenceIdeal.nD Cert.SumInReferenceIdeal.τ).loc Cert.SumInReferenceIdeal.main_arg4) = m' ((c.tc : Thread Cert.SumInReferenceIdeal.nD Cert.SumInReferenceIdeal.τ).loc Cert.SumInReferenceIdeal.main_arg4)
          ∧ r.2.mem ((c.tc : Thread Cert.SumInReferenceIdeal.nD Cert.SumInReferenceIdeal.τ).loc Cert.SumInReferenceIdeal.main_arg5) = m' ((c.tc : Thread Cert.SumInReferenceIdeal.nD Cert.SumInReferenceIdeal.τ).loc Cert.SumInReferenceIdeal.main_arg5)
          ∧ r.2.mem ((c.tc : Thread Cert.SumInReferenceIdeal.nD Cert.SumInReferenceIdeal.τ).loc Cert.SumInReferenceIdeal.main_arg6) = m' ((c.tc : Thread Cert.SumInReferenceIdeal.nD Cert.SumInReferenceIdeal.τ).loc Cert.SumInReferenceIdeal.main_arg6)
          ∧ r.2.mem ((c.tc : Thread Cert.SumInReferenceIdeal.nD Cert.SumInReferenceIdeal.τ).loc Cert.SumInReferenceIdeal.main_arg7) = m' ((c.tc : Thread Cert.SumInReferenceIdeal.nD Cert.SumInReferenceIdeal.τ).loc Cert.SumInReferenceIdeal.main_arg7))

def bitexact_SumIn_SumInReference [hSumIn : Cert.SumIn.Facts] [hSumInReference : Cert.SumInReference.Facts] : Prop :=
  ∀ (m : (ℓ : Loc Cert.SumIn.nD Cert.SumIn.τ Cert.SumIn.sig) → Buf (Elt Bits) ℓ) (g : Dev Cert.SumIn.nD → PrngReg)
    (m' : (ℓ : Loc Cert.SumInReference.nD Cert.SumInReference.τ Cert.SumInReference.sig) → Buf (Elt Bits) ℓ) (g' : Dev Cert.SumInReference.nD → PrngReg), Pre_SumIn m →
    (∀ c : Dev Cert.SumIn.nD,
      m' ((c.tc : Thread Cert.SumInReference.nD Cert.SumInReference.τ).loc Cert.SumInReference.main_arg0) = m ((c.tc : Thread Cert.SumIn.nD Cert.SumIn.τ).loc Cert.SumIn.main_arg0)
      ∧ m' ((c.tc : Thread Cert.SumInReference.nD Cert.SumInReference.τ).loc Cert.SumInReference.main_arg1) = m ((c.tc : Thread Cert.SumIn.nD Cert.SumIn.τ).loc Cert.SumIn.main_arg1)
      ∧ m' ((c.tc : Thread Cert.SumInReference.nD Cert.SumInReference.τ).loc Cert.SumInReference.main_arg2) = m ((c.tc : Thread Cert.SumIn.nD Cert.SumIn.τ).loc Cert.SumIn.main_arg2)
      ∧ m' ((c.tc : Thread Cert.SumInReference.nD Cert.SumInReference.τ).loc Cert.SumInReference.main_arg3) = m ((c.tc : Thread Cert.SumIn.nD Cert.SumIn.τ).loc Cert.SumIn.main_arg3)
      ∧ m' ((c.tc : Thread Cert.SumInReference.nD Cert.SumInReference.τ).loc Cert.SumInReference.main_arg4) = m ((c.tc : Thread Cert.SumIn.nD Cert.SumIn.τ).loc Cert.SumIn.main_arg4)
      ∧ m' ((c.tc : Thread Cert.SumInReference.nD Cert.SumInReference.τ).loc Cert.SumInReference.main_arg5) = m ((c.tc : Thread Cert.SumIn.nD Cert.SumIn.τ).loc Cert.SumIn.main_arg5)
      ∧ m' ((c.tc : Thread Cert.SumInReference.nD Cert.SumInReference.τ).loc Cert.SumInReference.main_arg6) = m ((c.tc : Thread Cert.SumIn.nD Cert.SumIn.τ).loc Cert.SumIn.main_arg6)
      ∧ m' ((c.tc : Thread Cert.SumInReference.nD Cert.SumInReference.τ).loc Cert.SumInReference.main_arg7) = m ((c.tc : Thread Cert.SumIn.nD Cert.SumIn.τ).loc Cert.SumIn.main_arg7)) →
    ∃ (v0 : (c : Dev Cert.SumIn.nD) → Buf (Elt Bits) ((c.tc : Thread Cert.SumIn.nD Cert.SumIn.τ).loc Cert.SumIn.main_v0)),
      θ_run (Cert.SumIn.defs (F := Bits)) (onTc (τ := Cert.SumIn.τ) (Cert.SumIn.main (F := Bits))) ⟨m, fun _ => 0, g⟩ (fun r => ∀ c : Dev Cert.SumIn.nD,
          r.2.mem ((c.tc : Thread Cert.SumIn.nD Cert.SumIn.τ).loc Cert.SumIn.main_v0) = v0 c
          ∧ r.2.mem ((c.tc : Thread Cert.SumIn.nD Cert.SumIn.τ).loc Cert.SumIn.main_arg0) = m ((c.tc : Thread Cert.SumIn.nD Cert.SumIn.τ).loc Cert.SumIn.main_arg0)
          ∧ r.2.mem ((c.tc : Thread Cert.SumIn.nD Cert.SumIn.τ).loc Cert.SumIn.main_arg1) = m ((c.tc : Thread Cert.SumIn.nD Cert.SumIn.τ).loc Cert.SumIn.main_arg1)
          ∧ r.2.mem ((c.tc : Thread Cert.SumIn.nD Cert.SumIn.τ).loc Cert.SumIn.main_arg2) = m ((c.tc : Thread Cert.SumIn.nD Cert.SumIn.τ).loc Cert.SumIn.main_arg2)
          ∧ r.2.mem ((c.tc : Thread Cert.SumIn.nD Cert.SumIn.τ).loc Cert.SumIn.main_arg3) = m ((c.tc : Thread Cert.SumIn.nD Cert.SumIn.τ).loc Cert.SumIn.main_arg3)
          ∧ r.2.mem ((c.tc : Thread Cert.SumIn.nD Cert.SumIn.τ).loc Cert.SumIn.main_arg4) = m ((c.tc : Thread Cert.SumIn.nD Cert.SumIn.τ).loc Cert.SumIn.main_arg4)
          ∧ r.2.mem ((c.tc : Thread Cert.SumIn.nD Cert.SumIn.τ).loc Cert.SumIn.main_arg5) = m ((c.tc : Thread Cert.SumIn.nD Cert.SumIn.τ).loc Cert.SumIn.main_arg5)
          ∧ r.2.mem ((c.tc : Thread Cert.SumIn.nD Cert.SumIn.τ).loc Cert.SumIn.main_arg6) = m ((c.tc : Thread Cert.SumIn.nD Cert.SumIn.τ).loc Cert.SumIn.main_arg6)
          ∧ r.2.mem ((c.tc : Thread Cert.SumIn.nD Cert.SumIn.τ).loc Cert.SumIn.main_arg7) = m ((c.tc : Thread Cert.SumIn.nD Cert.SumIn.τ).loc Cert.SumIn.main_arg7))
      ∧ θ_run (Cert.SumInReference.defs (F := Bits)) (onTc (τ := Cert.SumInReference.τ) (Cert.SumInReference.main (F := Bits))) ⟨m', fun _ => 0, g'⟩ (fun r => ∀ c : Dev Cert.SumInReference.nD,
          r.2.mem ((c.tc : Thread Cert.SumInReference.nD Cert.SumInReference.τ).loc Cert.SumInReference.main_v13) = v0 c
          ∧ r.2.mem ((c.tc : Thread Cert.SumInReference.nD Cert.SumInReference.τ).loc Cert.SumInReference.main_arg0) = m' ((c.tc : Thread Cert.SumInReference.nD Cert.SumInReference.τ).loc Cert.SumInReference.main_arg0)
          ∧ r.2.mem ((c.tc : Thread Cert.SumInReference.nD Cert.SumInReference.τ).loc Cert.SumInReference.main_arg1) = m' ((c.tc : Thread Cert.SumInReference.nD Cert.SumInReference.τ).loc Cert.SumInReference.main_arg1)
          ∧ r.2.mem ((c.tc : Thread Cert.SumInReference.nD Cert.SumInReference.τ).loc Cert.SumInReference.main_arg2) = m' ((c.tc : Thread Cert.SumInReference.nD Cert.SumInReference.τ).loc Cert.SumInReference.main_arg2)
          ∧ r.2.mem ((c.tc : Thread Cert.SumInReference.nD Cert.SumInReference.τ).loc Cert.SumInReference.main_arg3) = m' ((c.tc : Thread Cert.SumInReference.nD Cert.SumInReference.τ).loc Cert.SumInReference.main_arg3)
          ∧ r.2.mem ((c.tc : Thread Cert.SumInReference.nD Cert.SumInReference.τ).loc Cert.SumInReference.main_arg4) = m' ((c.tc : Thread Cert.SumInReference.nD Cert.SumInReference.τ).loc Cert.SumInReference.main_arg4)
          ∧ r.2.mem ((c.tc : Thread Cert.SumInReference.nD Cert.SumInReference.τ).loc Cert.SumInReference.main_arg5) = m' ((c.tc : Thread Cert.SumInReference.nD Cert.SumInReference.τ).loc Cert.SumInReference.main_arg5)
          ∧ r.2.mem ((c.tc : Thread Cert.SumInReference.nD Cert.SumInReference.τ).loc Cert.SumInReference.main_arg6) = m' ((c.tc : Thread Cert.SumInReference.nD Cert.SumInReference.τ).loc Cert.SumInReference.main_arg6)
          ∧ r.2.mem ((c.tc : Thread Cert.SumInReference.nD Cert.SumInReference.τ).loc Cert.SumInReference.main_arg7) = m' ((c.tc : Thread Cert.SumInReference.nD Cert.SumInReference.τ).loc Cert.SumInReference.main_arg7))

def preserves_SumOut_SumOutIdeal : Prop :=
  True

def algebraic_SumOutIdeal_SumOutReferenceIdeal [hSumOutIdeal : Cert.SumOutIdeal.Facts] [hSumOutReferenceIdeal : Cert.SumOutReferenceIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg), Pre_SumOutIdeal m →
    (∀ c : Dev Cert.SumOutIdeal.nD,
      m' ((c.tc : Thread Cert.SumOutReferenceIdeal.nD Cert.SumOutReferenceIdeal.τ).loc Cert.SumOutReferenceIdeal.main_arg0) = m ((c.tc : Thread Cert.SumOutIdeal.nD Cert.SumOutIdeal.τ).loc Cert.SumOutIdeal.main_arg0)
      ∧ m' ((c.tc : Thread Cert.SumOutReferenceIdeal.nD Cert.SumOutReferenceIdeal.τ).loc Cert.SumOutReferenceIdeal.main_arg1) = m ((c.tc : Thread Cert.SumOutIdeal.nD Cert.SumOutIdeal.τ).loc Cert.SumOutIdeal.main_arg1)
      ∧ m' ((c.tc : Thread Cert.SumOutReferenceIdeal.nD Cert.SumOutReferenceIdeal.τ).loc Cert.SumOutReferenceIdeal.main_arg2) = m ((c.tc : Thread Cert.SumOutIdeal.nD Cert.SumOutIdeal.τ).loc Cert.SumOutIdeal.main_arg2)
      ∧ m' ((c.tc : Thread Cert.SumOutReferenceIdeal.nD Cert.SumOutReferenceIdeal.τ).loc Cert.SumOutReferenceIdeal.main_arg3) = m ((c.tc : Thread Cert.SumOutIdeal.nD Cert.SumOutIdeal.τ).loc Cert.SumOutIdeal.main_arg3)
      ∧ m' ((c.tc : Thread Cert.SumOutReferenceIdeal.nD Cert.SumOutReferenceIdeal.τ).loc Cert.SumOutReferenceIdeal.main_arg4) = m ((c.tc : Thread Cert.SumOutIdeal.nD Cert.SumOutIdeal.τ).loc Cert.SumOutIdeal.main_arg4)
      ∧ m' ((c.tc : Thread Cert.SumOutReferenceIdeal.nD Cert.SumOutReferenceIdeal.τ).loc Cert.SumOutReferenceIdeal.main_arg5) = m ((c.tc : Thread Cert.SumOutIdeal.nD Cert.SumOutIdeal.τ).loc Cert.SumOutIdeal.main_arg5)
      ∧ m' ((c.tc : Thread Cert.SumOutReferenceIdeal.nD Cert.SumOutReferenceIdeal.τ).loc Cert.SumOutReferenceIdeal.main_arg6) = m ((c.tc : Thread Cert.SumOutIdeal.nD Cert.SumOutIdeal.τ).loc Cert.SumOutIdeal.main_arg6)
      ∧ m' ((c.tc : Thread Cert.SumOutReferenceIdeal.nD Cert.SumOutReferenceIdeal.τ).loc Cert.SumOutReferenceIdeal.main_arg7) = m ((c.tc : Thread Cert.SumOutIdeal.nD Cert.SumOutIdeal.τ).loc Cert.SumOutIdeal.main_arg7)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
          ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3)
          ∧ r.2.mem ((c.tc : Thread Cert.SumOutIdeal.nD Cert.SumOutIdeal.τ).loc Cert.SumOutIdeal.main_arg4) = m ((c.tc : Thread Cert.SumOutIdeal.nD Cert.SumOutIdeal.τ).loc Cert.SumOutIdeal.main_arg4)
          ∧ r.2.mem ((c.tc : Thread Cert.SumOutIdeal.nD Cert.SumOutIdeal.τ).loc Cert.SumOutIdeal.main_arg5) = m ((c.tc : Thread Cert.SumOutIdeal.nD Cert.SumOutIdeal.τ).loc Cert.SumOutIdeal.main_arg5)
          ∧ r.2.mem ((c.tc : Thread Cert.SumOutIdeal.nD Cert.SumOutIdeal.τ).loc Cert.SumOutIdeal.main_arg6) = m ((c.tc : Thread Cert.SumOutIdeal.nD Cert.SumOutIdeal.τ).loc Cert.SumOutIdeal.main_arg6)
          ∧ r.2.mem ((c.tc : Thread Cert.SumOutIdeal.nD Cert.SumOutIdeal.τ).loc Cert.SumOutIdeal.main_arg7) = m ((c.tc : Thread Cert.SumOutIdeal.nD Cert.SumOutIdeal.τ).loc Cert.SumOutIdeal.main_arg7))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v13) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0)
          ∧ r.2.mem ((c.tc : Thread Cert.SumOutReferenceIdeal.nD Cert.SumOutReferenceIdeal.τ).loc Cert.SumOutReferenceIdeal.main_arg1) = m' ((c.tc : Thread Cert.SumOutReferenceIdeal.nD Cert.SumOutReferenceIdeal.τ).loc Cert.SumOutReferenceIdeal.main_arg1)
          ∧ r.2.mem ((c.tc : Thread Cert.SumOutReferenceIdeal.nD Cert.SumOutReferenceIdeal.τ).loc Cert.SumOutReferenceIdeal.main_arg2) = m' ((c.tc : Thread Cert.SumOutReferenceIdeal.nD Cert.SumOutReferenceIdeal.τ).loc Cert.SumOutReferenceIdeal.main_arg2)
          ∧ r.2.mem ((c.tc : Thread Cert.SumOutReferenceIdeal.nD Cert.SumOutReferenceIdeal.τ).loc Cert.SumOutReferenceIdeal.main_arg3) = m' ((c.tc : Thread Cert.SumOutReferenceIdeal.nD Cert.SumOutReferenceIdeal.τ).loc Cert.SumOutReferenceIdeal.main_arg3)
          ∧ r.2.mem ((c.tc : Thread Cert.SumOutReferenceIdeal.nD Cert.SumOutReferenceIdeal.τ).loc Cert.SumOutReferenceIdeal.main_arg4) = m' ((c.tc : Thread Cert.SumOutReferenceIdeal.nD Cert.SumOutReferenceIdeal.τ).loc Cert.SumOutReferenceIdeal.main_arg4)
          ∧ r.2.mem ((c.tc : Thread Cert.SumOutReferenceIdeal.nD Cert.SumOutReferenceIdeal.τ).loc Cert.SumOutReferenceIdeal.main_arg5) = m' ((c.tc : Thread Cert.SumOutReferenceIdeal.nD Cert.SumOutReferenceIdeal.τ).loc Cert.SumOutReferenceIdeal.main_arg5)
          ∧ r.2.mem ((c.tc : Thread Cert.SumOutReferenceIdeal.nD Cert.SumOutReferenceIdeal.τ).loc Cert.SumOutReferenceIdeal.main_arg6) = m' ((c.tc : Thread Cert.SumOutReferenceIdeal.nD Cert.SumOutReferenceIdeal.τ).loc Cert.SumOutReferenceIdeal.main_arg6)
          ∧ r.2.mem ((c.tc : Thread Cert.SumOutReferenceIdeal.nD Cert.SumOutReferenceIdeal.τ).loc Cert.SumOutReferenceIdeal.main_arg7) = m' ((c.tc : Thread Cert.SumOutReferenceIdeal.nD Cert.SumOutReferenceIdeal.τ).loc Cert.SumOutReferenceIdeal.main_arg7))

def bitexact_SumOut_SumOutReference [hSumOut : Cert.SumOut.Facts] [hSumOutReference : Cert.SumOutReference.Facts] : Prop :=
  ∀ (m : (ℓ : Loc Cert.SumOut.nD Cert.SumOut.τ Cert.SumOut.sig) → Buf (Elt Bits) ℓ) (g : Dev Cert.SumOut.nD → PrngReg)
    (m' : (ℓ : Loc Cert.SumOutReference.nD Cert.SumOutReference.τ Cert.SumOutReference.sig) → Buf (Elt Bits) ℓ) (g' : Dev Cert.SumOutReference.nD → PrngReg), Pre_SumOut m →
    (∀ c : Dev Cert.SumOut.nD,
      m' ((c.tc : Thread Cert.SumOutReference.nD Cert.SumOutReference.τ).loc Cert.SumOutReference.main_arg0) = m ((c.tc : Thread Cert.SumOut.nD Cert.SumOut.τ).loc Cert.SumOut.main_arg0)
      ∧ m' ((c.tc : Thread Cert.SumOutReference.nD Cert.SumOutReference.τ).loc Cert.SumOutReference.main_arg1) = m ((c.tc : Thread Cert.SumOut.nD Cert.SumOut.τ).loc Cert.SumOut.main_arg1)
      ∧ m' ((c.tc : Thread Cert.SumOutReference.nD Cert.SumOutReference.τ).loc Cert.SumOutReference.main_arg2) = m ((c.tc : Thread Cert.SumOut.nD Cert.SumOut.τ).loc Cert.SumOut.main_arg2)
      ∧ m' ((c.tc : Thread Cert.SumOutReference.nD Cert.SumOutReference.τ).loc Cert.SumOutReference.main_arg3) = m ((c.tc : Thread Cert.SumOut.nD Cert.SumOut.τ).loc Cert.SumOut.main_arg3)
      ∧ m' ((c.tc : Thread Cert.SumOutReference.nD Cert.SumOutReference.τ).loc Cert.SumOutReference.main_arg4) = m ((c.tc : Thread Cert.SumOut.nD Cert.SumOut.τ).loc Cert.SumOut.main_arg4)
      ∧ m' ((c.tc : Thread Cert.SumOutReference.nD Cert.SumOutReference.τ).loc Cert.SumOutReference.main_arg5) = m ((c.tc : Thread Cert.SumOut.nD Cert.SumOut.τ).loc Cert.SumOut.main_arg5)
      ∧ m' ((c.tc : Thread Cert.SumOutReference.nD Cert.SumOutReference.τ).loc Cert.SumOutReference.main_arg6) = m ((c.tc : Thread Cert.SumOut.nD Cert.SumOut.τ).loc Cert.SumOut.main_arg6)
      ∧ m' ((c.tc : Thread Cert.SumOutReference.nD Cert.SumOutReference.τ).loc Cert.SumOutReference.main_arg7) = m ((c.tc : Thread Cert.SumOut.nD Cert.SumOut.τ).loc Cert.SumOut.main_arg7)) →
    ∃ (v0 : (c : Dev Cert.SumOut.nD) → Buf (Elt Bits) ((c.tc : Thread Cert.SumOut.nD Cert.SumOut.τ).loc Cert.SumOut.main_v0)),
      θ_run (Cert.SumOut.defs (F := Bits)) (onTc (τ := Cert.SumOut.τ) (Cert.SumOut.main (F := Bits))) ⟨m, fun _ => 0, g⟩ (fun r => ∀ c : Dev Cert.SumOut.nD,
          r.2.mem ((c.tc : Thread Cert.SumOut.nD Cert.SumOut.τ).loc Cert.SumOut.main_v0) = v0 c
          ∧ r.2.mem ((c.tc : Thread Cert.SumOut.nD Cert.SumOut.τ).loc Cert.SumOut.main_arg0) = m ((c.tc : Thread Cert.SumOut.nD Cert.SumOut.τ).loc Cert.SumOut.main_arg0)
          ∧ r.2.mem ((c.tc : Thread Cert.SumOut.nD Cert.SumOut.τ).loc Cert.SumOut.main_arg1) = m ((c.tc : Thread Cert.SumOut.nD Cert.SumOut.τ).loc Cert.SumOut.main_arg1)
          ∧ r.2.mem ((c.tc : Thread Cert.SumOut.nD Cert.SumOut.τ).loc Cert.SumOut.main_arg2) = m ((c.tc : Thread Cert.SumOut.nD Cert.SumOut.τ).loc Cert.SumOut.main_arg2)
          ∧ r.2.mem ((c.tc : Thread Cert.SumOut.nD Cert.SumOut.τ).loc Cert.SumOut.main_arg3) = m ((c.tc : Thread Cert.SumOut.nD Cert.SumOut.τ).loc Cert.SumOut.main_arg3)
          ∧ r.2.mem ((c.tc : Thread Cert.SumOut.nD Cert.SumOut.τ).loc Cert.SumOut.main_arg4) = m ((c.tc : Thread Cert.SumOut.nD Cert.SumOut.τ).loc Cert.SumOut.main_arg4)
          ∧ r.2.mem ((c.tc : Thread Cert.SumOut.nD Cert.SumOut.τ).loc Cert.SumOut.main_arg5) = m ((c.tc : Thread Cert.SumOut.nD Cert.SumOut.τ).loc Cert.SumOut.main_arg5)
          ∧ r.2.mem ((c.tc : Thread Cert.SumOut.nD Cert.SumOut.τ).loc Cert.SumOut.main_arg6) = m ((c.tc : Thread Cert.SumOut.nD Cert.SumOut.τ).loc Cert.SumOut.main_arg6)
          ∧ r.2.mem ((c.tc : Thread Cert.SumOut.nD Cert.SumOut.τ).loc Cert.SumOut.main_arg7) = m ((c.tc : Thread Cert.SumOut.nD Cert.SumOut.τ).loc Cert.SumOut.main_arg7))
      ∧ θ_run (Cert.SumOutReference.defs (F := Bits)) (onTc (τ := Cert.SumOutReference.τ) (Cert.SumOutReference.main (F := Bits))) ⟨m', fun _ => 0, g'⟩ (fun r => ∀ c : Dev Cert.SumOutReference.nD,
          r.2.mem ((c.tc : Thread Cert.SumOutReference.nD Cert.SumOutReference.τ).loc Cert.SumOutReference.main_v13) = v0 c
          ∧ r.2.mem ((c.tc : Thread Cert.SumOutReference.nD Cert.SumOutReference.τ).loc Cert.SumOutReference.main_arg0) = m' ((c.tc : Thread Cert.SumOutReference.nD Cert.SumOutReference.τ).loc Cert.SumOutReference.main_arg0)
          ∧ r.2.mem ((c.tc : Thread Cert.SumOutReference.nD Cert.SumOutReference.τ).loc Cert.SumOutReference.main_arg1) = m' ((c.tc : Thread Cert.SumOutReference.nD Cert.SumOutReference.τ).loc Cert.SumOutReference.main_arg1)
          ∧ r.2.mem ((c.tc : Thread Cert.SumOutReference.nD Cert.SumOutReference.τ).loc Cert.SumOutReference.main_arg2) = m' ((c.tc : Thread Cert.SumOutReference.nD Cert.SumOutReference.τ).loc Cert.SumOutReference.main_arg2)
          ∧ r.2.mem ((c.tc : Thread Cert.SumOutReference.nD Cert.SumOutReference.τ).loc Cert.SumOutReference.main_arg3) = m' ((c.tc : Thread Cert.SumOutReference.nD Cert.SumOutReference.τ).loc Cert.SumOutReference.main_arg3)
          ∧ r.2.mem ((c.tc : Thread Cert.SumOutReference.nD Cert.SumOutReference.τ).loc Cert.SumOutReference.main_arg4) = m' ((c.tc : Thread Cert.SumOutReference.nD Cert.SumOutReference.τ).loc Cert.SumOutReference.main_arg4)
          ∧ r.2.mem ((c.tc : Thread Cert.SumOutReference.nD Cert.SumOutReference.τ).loc Cert.SumOutReference.main_arg5) = m' ((c.tc : Thread Cert.SumOutReference.nD Cert.SumOutReference.τ).loc Cert.SumOutReference.main_arg5)
          ∧ r.2.mem ((c.tc : Thread Cert.SumOutReference.nD Cert.SumOutReference.τ).loc Cert.SumOutReference.main_arg6) = m' ((c.tc : Thread Cert.SumOutReference.nD Cert.SumOutReference.τ).loc Cert.SumOutReference.main_arg6)
          ∧ r.2.mem ((c.tc : Thread Cert.SumOutReference.nD Cert.SumOutReference.τ).loc Cert.SumOutReference.main_arg7) = m' ((c.tc : Thread Cert.SumOutReference.nD Cert.SumOutReference.τ).loc Cert.SumOutReference.main_arg7))

def preserves_Small_SmallIdeal : Prop :=
  True

def algebraic_SmallIdeal_SmallReferenceIdeal_pre_bounds_finite [hSmallIdeal : Cert.SmallIdeal.Facts] [hSmallReferenceIdeal : Cert.SmallReferenceIdeal.Facts] [hPre_bounds_finite : Cert.Pre_bounds_finite.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal_bounds_finite m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)
      ∧ m' ((c.tc : Thread Cert.SmallReferenceIdeal.nD Cert.SmallReferenceIdeal.τ).loc Cert.SmallReferenceIdeal.main_arg4) = m ((c.tc : Thread Cert.SmallIdeal.nD Cert.SmallIdeal.τ).loc Cert.SmallIdeal.main_arg4)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v58) = v0 c
          ∧ r.2.mem ((c.tc : Thread Cert.SmallReferenceIdeal.nD Cert.SmallReferenceIdeal.τ).loc Cert.SmallReferenceIdeal.main_v82) = v1 c
          ∧ r.2.mem ((c.tc : Thread Cert.SmallReferenceIdeal.nD Cert.SmallReferenceIdeal.τ).loc Cert.SmallReferenceIdeal.main_v63) = v2 c
          ∧ r.2.mem ((c.tc : Thread Cert.SmallReferenceIdeal.nD Cert.SmallReferenceIdeal.τ).loc Cert.SmallReferenceIdeal.main_v69) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4))

def preserves_Lbs_LbsIdeal : Prop :=
  True

def algebraic_LbsIdeal_LbsReferenceIdeal [hLbsIdeal : Cert.LbsIdeal.Facts] [hLbsReferenceIdeal : Cert.LbsReferenceIdeal.Facts] : Prop :=
  ∀ (m : (ℓ : Loc Cert.LbsIdeal.nD Cert.LbsIdeal.τ Cert.LbsIdeal.sig) → Buf (Elt Ideal) ℓ) (g : Dev Cert.LbsIdeal.nD → PrngReg)
    (m' : (ℓ : Loc Cert.LbsReferenceIdeal.nD Cert.LbsReferenceIdeal.τ Cert.LbsReferenceIdeal.sig) → Buf (Elt Ideal) ℓ) (g' : Dev Cert.LbsReferenceIdeal.nD → PrngReg), Pre_LbsIdeal m →
    (∀ c : Dev Cert.LbsIdeal.nD,
      m' ((c.tc : Thread Cert.LbsReferenceIdeal.nD Cert.LbsReferenceIdeal.τ).loc Cert.LbsReferenceIdeal.main_arg0) = m ((c.tc : Thread Cert.LbsIdeal.nD Cert.LbsIdeal.τ).loc Cert.LbsIdeal.main_arg0)) →
    ∃ (v0 : (c : Dev Cert.LbsIdeal.nD) → Buf (Elt Ideal) ((c.tc : Thread Cert.LbsIdeal.nD Cert.LbsIdeal.τ).loc Cert.LbsIdeal.main_v0)),
      θ_run (Cert.LbsIdeal.defs (F := Ideal)) (onTc (τ := Cert.LbsIdeal.τ) (Cert.LbsIdeal.main (F := Ideal))) ⟨m, fun _ => 0, g⟩ (fun r => ∀ c : Dev Cert.LbsIdeal.nD,
          r.2.mem ((c.tc : Thread Cert.LbsIdeal.nD Cert.LbsIdeal.τ).loc Cert.LbsIdeal.main_v0) = v0 c
          ∧ r.2.mem ((c.tc : Thread Cert.LbsIdeal.nD Cert.LbsIdeal.τ).loc Cert.LbsIdeal.main_arg0) = m ((c.tc : Thread Cert.LbsIdeal.nD Cert.LbsIdeal.τ).loc Cert.LbsIdeal.main_arg0))
      ∧ θ_run (Cert.LbsReferenceIdeal.defs (F := Ideal)) (onTc (τ := Cert.LbsReferenceIdeal.τ) (Cert.LbsReferenceIdeal.main (F := Ideal))) ⟨m', fun _ => 0, g'⟩ (fun r => ∀ c : Dev Cert.LbsReferenceIdeal.nD,
          r.2.mem ((c.tc : Thread Cert.LbsReferenceIdeal.nD Cert.LbsReferenceIdeal.τ).loc Cert.LbsReferenceIdeal.main_v16) = v0 c
          ∧ r.2.mem ((c.tc : Thread Cert.LbsReferenceIdeal.nD Cert.LbsReferenceIdeal.τ).loc Cert.LbsReferenceIdeal.main_arg0) = m' ((c.tc : Thread Cert.LbsReferenceIdeal.nD Cert.LbsReferenceIdeal.τ).loc Cert.LbsReferenceIdeal.main_arg0))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v13) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_v16) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Score_ScoreIdeal : Prop :=
  True

def algebraic_ScoreIdeal_ScoreReferenceIdeal [hScoreIdeal : Cert.ScoreIdeal.Facts] [hScoreReferenceIdeal : Cert.ScoreReferenceIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreReferenceIdeal.nD Cert.ScoreReferenceIdeal.τ Cert.ScoreReferenceIdeal.sig) → Buf (Elt Ideal) ℓ) (g' : Dev Cert.ScoreReferenceIdeal.nD → PrngReg), Pre_ScoreIdeal m →
    (∀ c : Dev Cert.ScoreIdeal.nD,
      m' ((c.tc : Thread Cert.ScoreReferenceIdeal.nD Cert.ScoreReferenceIdeal.τ).loc Cert.ScoreReferenceIdeal.main_arg0) = m ((c.tc : Thread Cert.ScoreIdeal.nD Cert.ScoreIdeal.τ).loc Cert.ScoreIdeal.main_arg0)
      ∧ m' ((c.tc : Thread Cert.ScoreReferenceIdeal.nD Cert.ScoreReferenceIdeal.τ).loc Cert.ScoreReferenceIdeal.main_arg1) = m ((c.tc : Thread Cert.ScoreIdeal.nD Cert.ScoreIdeal.τ).loc Cert.ScoreIdeal.main_arg1)
      ∧ m' ((c.tc : Thread Cert.ScoreReferenceIdeal.nD Cert.ScoreReferenceIdeal.τ).loc Cert.ScoreReferenceIdeal.main_arg2) = m ((c.tc : Thread Cert.ScoreIdeal.nD Cert.ScoreIdeal.τ).loc Cert.ScoreIdeal.main_arg2)
      ∧ m' ((c.tc : Thread Cert.ScoreReferenceIdeal.nD Cert.ScoreReferenceIdeal.τ).loc Cert.ScoreReferenceIdeal.main_arg3) = m ((c.tc : Thread Cert.ScoreIdeal.nD Cert.ScoreIdeal.τ).loc Cert.ScoreIdeal.main_arg3)
      ∧ m' ((c.tc : Thread Cert.ScoreReferenceIdeal.nD Cert.ScoreReferenceIdeal.τ).loc Cert.ScoreReferenceIdeal.main_arg4) = m ((c.tc : Thread Cert.ScoreIdeal.nD Cert.ScoreIdeal.τ).loc Cert.ScoreIdeal.main_arg4)
      ∧ m' ((c.tc : Thread Cert.ScoreReferenceIdeal.nD Cert.ScoreReferenceIdeal.τ).loc Cert.ScoreReferenceIdeal.main_arg5) = m ((c.tc : Thread Cert.ScoreIdeal.nD Cert.ScoreIdeal.τ).loc Cert.ScoreIdeal.main_arg5)
      ∧ m' ((c.tc : Thread Cert.ScoreReferenceIdeal.nD Cert.ScoreReferenceIdeal.τ).loc Cert.ScoreReferenceIdeal.main_arg6) = m ((c.tc : Thread Cert.ScoreIdeal.nD Cert.ScoreIdeal.τ).loc Cert.ScoreIdeal.main_arg6)) →
    ∃ (v0 : (c : Dev Cert.ScoreIdeal.nD) → Buf (Elt Ideal) ((c.tc : Thread Cert.ScoreIdeal.nD Cert.ScoreIdeal.τ).loc Cert.ScoreIdeal.main_v0_0)) (v1 : (c : Dev Cert.ScoreIdeal.nD) → Buf (Elt Ideal) ((c.tc : Thread Cert.ScoreIdeal.nD Cert.ScoreIdeal.τ).loc Cert.ScoreIdeal.main_v0_1)) (v2 : (c : Dev Cert.ScoreIdeal.nD) → Buf (Elt Ideal) ((c.tc : Thread Cert.ScoreIdeal.nD Cert.ScoreIdeal.τ).loc Cert.ScoreIdeal.main_v0_2)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v0_0) = v0 c
          ∧ r.2.mem ((c.tc : Thread Cert.ScoreIdeal.nD Cert.ScoreIdeal.τ).loc Cert.ScoreIdeal.main_v0_1) = v1 c
          ∧ r.2.mem ((c.tc : Thread Cert.ScoreIdeal.nD Cert.ScoreIdeal.τ).loc Cert.ScoreIdeal.main_v0_2) = v2 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
          ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
          ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4)
          ∧ r.2.mem ((c.tc : Thread Cert.ScoreIdeal.nD Cert.ScoreIdeal.τ).loc Cert.ScoreIdeal.main_arg5) = m ((c.tc : Thread Cert.ScoreIdeal.nD Cert.ScoreIdeal.τ).loc Cert.ScoreIdeal.main_arg5)
          ∧ r.2.mem ((c.tc : Thread Cert.ScoreIdeal.nD Cert.ScoreIdeal.τ).loc Cert.ScoreIdeal.main_arg6) = m ((c.tc : Thread Cert.ScoreIdeal.nD Cert.ScoreIdeal.τ).loc Cert.ScoreIdeal.main_arg6))
      ∧ θ_run (Cert.ScoreReferenceIdeal.defs (F := Ideal)) (onTc (τ := Cert.ScoreReferenceIdeal.τ) (Cert.ScoreReferenceIdeal.main (F := Ideal))) ⟨m', fun _ => 0, g'⟩ (fun r => ∀ c : Dev Cert.ScoreReferenceIdeal.nD,
          r.2.mem ((c.tc : Thread Cert.ScoreReferenceIdeal.nD Cert.ScoreReferenceIdeal.τ).loc Cert.ScoreReferenceIdeal.main_v3) = v0 c
          ∧ r.2.mem ((c.tc : Thread Cert.ScoreReferenceIdeal.nD Cert.ScoreReferenceIdeal.τ).loc Cert.ScoreReferenceIdeal.main_v31) = v1 c
          ∧ r.2.mem ((c.tc : Thread Cert.ScoreReferenceIdeal.nD Cert.ScoreReferenceIdeal.τ).loc Cert.ScoreReferenceIdeal.main_v35) = v2 c
          ∧ r.2.mem ((c.tc : Thread Cert.ScoreReferenceIdeal.nD Cert.ScoreReferenceIdeal.τ).loc Cert.ScoreReferenceIdeal.main_arg0) = m' ((c.tc : Thread Cert.ScoreReferenceIdeal.nD Cert.ScoreReferenceIdeal.τ).loc Cert.ScoreReferenceIdeal.main_arg0)
          ∧ r.2.mem ((c.tc : Thread Cert.ScoreReferenceIdeal.nD Cert.ScoreReferenceIdeal.τ).loc Cert.ScoreReferenceIdeal.main_arg1) = m' ((c.tc : Thread Cert.ScoreReferenceIdeal.nD Cert.ScoreReferenceIdeal.τ).loc Cert.ScoreReferenceIdeal.main_arg1)
          ∧ r.2.mem ((c.tc : Thread Cert.ScoreReferenceIdeal.nD Cert.ScoreReferenceIdeal.τ).loc Cert.ScoreReferenceIdeal.main_arg2) = m' ((c.tc : Thread Cert.ScoreReferenceIdeal.nD Cert.ScoreReferenceIdeal.τ).loc Cert.ScoreReferenceIdeal.main_arg2)
          ∧ r.2.mem ((c.tc : Thread Cert.ScoreReferenceIdeal.nD Cert.ScoreReferenceIdeal.τ).loc Cert.ScoreReferenceIdeal.main_arg3) = m' ((c.tc : Thread Cert.ScoreReferenceIdeal.nD Cert.ScoreReferenceIdeal.τ).loc Cert.ScoreReferenceIdeal.main_arg3)
          ∧ r.2.mem ((c.tc : Thread Cert.ScoreReferenceIdeal.nD Cert.ScoreReferenceIdeal.τ).loc Cert.ScoreReferenceIdeal.main_arg4) = m' ((c.tc : Thread Cert.ScoreReferenceIdeal.nD Cert.ScoreReferenceIdeal.τ).loc Cert.ScoreReferenceIdeal.main_arg4)
          ∧ r.2.mem ((c.tc : Thread Cert.ScoreReferenceIdeal.nD Cert.ScoreReferenceIdeal.τ).loc Cert.ScoreReferenceIdeal.main_arg5) = m' ((c.tc : Thread Cert.ScoreReferenceIdeal.nD Cert.ScoreReferenceIdeal.τ).loc Cert.ScoreReferenceIdeal.main_arg5)
          ∧ r.2.mem ((c.tc : Thread Cert.ScoreReferenceIdeal.nD Cert.ScoreReferenceIdeal.τ).loc Cert.ScoreReferenceIdeal.main_arg6) = m' ((c.tc : Thread Cert.ScoreReferenceIdeal.nD Cert.ScoreReferenceIdeal.τ).loc Cert.ScoreReferenceIdeal.main_arg6))

def preserves_Slope_SlopeIdeal : Prop :=
  True

def algebraic_SlopeIdeal_SlopeReferenceIdeal [hSlopeIdeal : Cert.SlopeIdeal.Facts] [hSlopeReferenceIdeal : Cert.SlopeReferenceIdeal.Facts] : Prop :=
  ∀ (m : (ℓ : Loc Cert.SlopeIdeal.nD Cert.SlopeIdeal.τ Cert.SlopeIdeal.sig) → Buf (Elt Ideal) ℓ) (g : Dev Cert.SlopeIdeal.nD → PrngReg)
    (m' : (ℓ : Loc Cert.SlopeReferenceIdeal.nD Cert.SlopeReferenceIdeal.τ Cert.SlopeReferenceIdeal.sig) → Buf (Elt Ideal) ℓ) (g' : Dev Cert.SlopeReferenceIdeal.nD → PrngReg), Pre_SlopeIdeal m →
    (∀ c : Dev Cert.SlopeIdeal.nD,
      m' ((c.tc : Thread Cert.SlopeReferenceIdeal.nD Cert.SlopeReferenceIdeal.τ).loc Cert.SlopeReferenceIdeal.main_arg0) = m ((c.tc : Thread Cert.SlopeIdeal.nD Cert.SlopeIdeal.τ).loc Cert.SlopeIdeal.main_arg0)
      ∧ m' ((c.tc : Thread Cert.SlopeReferenceIdeal.nD Cert.SlopeReferenceIdeal.τ).loc Cert.SlopeReferenceIdeal.main_arg1) = m ((c.tc : Thread Cert.SlopeIdeal.nD Cert.SlopeIdeal.τ).loc Cert.SlopeIdeal.main_arg1)
      ∧ m' ((c.tc : Thread Cert.SlopeReferenceIdeal.nD Cert.SlopeReferenceIdeal.τ).loc Cert.SlopeReferenceIdeal.main_arg2) = m ((c.tc : Thread Cert.SlopeIdeal.nD Cert.SlopeIdeal.τ).loc Cert.SlopeIdeal.main_arg2)
      ∧ m' ((c.tc : Thread Cert.SlopeReferenceIdeal.nD Cert.SlopeReferenceIdeal.τ).loc Cert.SlopeReferenceIdeal.main_arg3) = m ((c.tc : Thread Cert.SlopeIdeal.nD Cert.SlopeIdeal.τ).loc Cert.SlopeIdeal.main_arg3)
      ∧ m' ((c.tc : Thread Cert.SlopeReferenceIdeal.nD Cert.SlopeReferenceIdeal.τ).loc Cert.SlopeReferenceIdeal.main_arg4) = m ((c.tc : Thread Cert.SlopeIdeal.nD Cert.SlopeIdeal.τ).loc Cert.SlopeIdeal.main_arg4)
      ∧ m' ((c.tc : Thread Cert.SlopeReferenceIdeal.nD Cert.SlopeReferenceIdeal.τ).loc Cert.SlopeReferenceIdeal.main_arg5) = m ((c.tc : Thread Cert.SlopeIdeal.nD Cert.SlopeIdeal.τ).loc Cert.SlopeIdeal.main_arg5)) →
    ∃ (v0 : (c : Dev Cert.SlopeIdeal.nD) → Buf (Elt Ideal) ((c.tc : Thread Cert.SlopeIdeal.nD Cert.SlopeIdeal.τ).loc Cert.SlopeIdeal.main_v0)),
      θ_run (Cert.SlopeIdeal.defs (F := Ideal)) (onTc (τ := Cert.SlopeIdeal.τ) (Cert.SlopeIdeal.main (F := Ideal))) ⟨m, fun _ => 0, g⟩ (fun r => ∀ c : Dev Cert.SlopeIdeal.nD,
          r.2.mem ((c.tc : Thread Cert.SlopeIdeal.nD Cert.SlopeIdeal.τ).loc Cert.SlopeIdeal.main_v0) = v0 c
          ∧ r.2.mem ((c.tc : Thread Cert.SlopeIdeal.nD Cert.SlopeIdeal.τ).loc Cert.SlopeIdeal.main_arg0) = m ((c.tc : Thread Cert.SlopeIdeal.nD Cert.SlopeIdeal.τ).loc Cert.SlopeIdeal.main_arg0)
          ∧ r.2.mem ((c.tc : Thread Cert.SlopeIdeal.nD Cert.SlopeIdeal.τ).loc Cert.SlopeIdeal.main_arg1) = m ((c.tc : Thread Cert.SlopeIdeal.nD Cert.SlopeIdeal.τ).loc Cert.SlopeIdeal.main_arg1)
          ∧ r.2.mem ((c.tc : Thread Cert.SlopeIdeal.nD Cert.SlopeIdeal.τ).loc Cert.SlopeIdeal.main_arg2) = m ((c.tc : Thread Cert.SlopeIdeal.nD Cert.SlopeIdeal.τ).loc Cert.SlopeIdeal.main_arg2)
          ∧ r.2.mem ((c.tc : Thread Cert.SlopeIdeal.nD Cert.SlopeIdeal.τ).loc Cert.SlopeIdeal.main_arg3) = m ((c.tc : Thread Cert.SlopeIdeal.nD Cert.SlopeIdeal.τ).loc Cert.SlopeIdeal.main_arg3)
          ∧ r.2.mem ((c.tc : Thread Cert.SlopeIdeal.nD Cert.SlopeIdeal.τ).loc Cert.SlopeIdeal.main_arg4) = m ((c.tc : Thread Cert.SlopeIdeal.nD Cert.SlopeIdeal.τ).loc Cert.SlopeIdeal.main_arg4)
          ∧ r.2.mem ((c.tc : Thread Cert.SlopeIdeal.nD Cert.SlopeIdeal.τ).loc Cert.SlopeIdeal.main_arg5) = m ((c.tc : Thread Cert.SlopeIdeal.nD Cert.SlopeIdeal.τ).loc Cert.SlopeIdeal.main_arg5))
      ∧ θ_run (Cert.SlopeReferenceIdeal.defs (F := Ideal)) (onTc (τ := Cert.SlopeReferenceIdeal.τ) (Cert.SlopeReferenceIdeal.main (F := Ideal))) ⟨m', fun _ => 0, g'⟩ (fun r => ∀ c : Dev Cert.SlopeReferenceIdeal.nD,
          r.2.mem ((c.tc : Thread Cert.SlopeReferenceIdeal.nD Cert.SlopeReferenceIdeal.τ).loc Cert.SlopeReferenceIdeal.main_v15) = v0 c
          ∧ r.2.mem ((c.tc : Thread Cert.SlopeReferenceIdeal.nD Cert.SlopeReferenceIdeal.τ).loc Cert.SlopeReferenceIdeal.main_arg0) = m' ((c.tc : Thread Cert.SlopeReferenceIdeal.nD Cert.SlopeReferenceIdeal.τ).loc Cert.SlopeReferenceIdeal.main_arg0)
          ∧ r.2.mem ((c.tc : Thread Cert.SlopeReferenceIdeal.nD Cert.SlopeReferenceIdeal.τ).loc Cert.SlopeReferenceIdeal.main_arg1) = m' ((c.tc : Thread Cert.SlopeReferenceIdeal.nD Cert.SlopeReferenceIdeal.τ).loc Cert.SlopeReferenceIdeal.main_arg1)
          ∧ r.2.mem ((c.tc : Thread Cert.SlopeReferenceIdeal.nD Cert.SlopeReferenceIdeal.τ).loc Cert.SlopeReferenceIdeal.main_arg2) = m' ((c.tc : Thread Cert.SlopeReferenceIdeal.nD Cert.SlopeReferenceIdeal.τ).loc Cert.SlopeReferenceIdeal.main_arg2)
          ∧ r.2.mem ((c.tc : Thread Cert.SlopeReferenceIdeal.nD Cert.SlopeReferenceIdeal.τ).loc Cert.SlopeReferenceIdeal.main_arg3) = m' ((c.tc : Thread Cert.SlopeReferenceIdeal.nD Cert.SlopeReferenceIdeal.τ).loc Cert.SlopeReferenceIdeal.main_arg3)
          ∧ r.2.mem ((c.tc : Thread Cert.SlopeReferenceIdeal.nD Cert.SlopeReferenceIdeal.τ).loc Cert.SlopeReferenceIdeal.main_arg4) = m' ((c.tc : Thread Cert.SlopeReferenceIdeal.nD Cert.SlopeReferenceIdeal.τ).loc Cert.SlopeReferenceIdeal.main_arg4)
          ∧ r.2.mem ((c.tc : Thread Cert.SlopeReferenceIdeal.nD Cert.SlopeReferenceIdeal.τ).loc Cert.SlopeReferenceIdeal.main_arg5) = m' ((c.tc : Thread Cert.SlopeReferenceIdeal.nD Cert.SlopeReferenceIdeal.τ).loc Cert.SlopeReferenceIdeal.main_arg5))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v39) = v0 c
          ∧ r.2.mem ((c.tc : Thread Cert.BackReferenceIdeal.nD Cert.BackReferenceIdeal.τ).loc Cert.BackReferenceIdeal.main_v40) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7))

def preserves_Part_PartIdeal : Prop :=
  True

def algebraic_PartIdeal_PartReferenceIdeal [hPartIdeal : Cert.PartIdeal.Facts] [hPartReferenceIdeal : Cert.PartReferenceIdeal.Facts] : Prop :=
  ∀ (m : (ℓ : Loc Cert.PartIdeal.nD Cert.PartIdeal.τ Cert.PartIdeal.sig) → Buf (Elt Ideal) ℓ) (g : Dev Cert.PartIdeal.nD → PrngReg)
    (m' : (ℓ : Loc Cert.PartReferenceIdeal.nD Cert.PartReferenceIdeal.τ Cert.PartReferenceIdeal.sig) → Buf (Elt Ideal) ℓ) (g' : Dev Cert.PartReferenceIdeal.nD → PrngReg), Pre_PartIdeal m →
    (∀ c : Dev Cert.PartIdeal.nD,
      m' ((c.tc : Thread Cert.PartReferenceIdeal.nD Cert.PartReferenceIdeal.τ).loc Cert.PartReferenceIdeal.main_arg0) = m ((c.tc : Thread Cert.PartIdeal.nD Cert.PartIdeal.τ).loc Cert.PartIdeal.main_arg0)
      ∧ m' ((c.tc : Thread Cert.PartReferenceIdeal.nD Cert.PartReferenceIdeal.τ).loc Cert.PartReferenceIdeal.main_arg1) = m ((c.tc : Thread Cert.PartIdeal.nD Cert.PartIdeal.τ).loc Cert.PartIdeal.main_arg1)
      ∧ m' ((c.tc : Thread Cert.PartReferenceIdeal.nD Cert.PartReferenceIdeal.τ).loc Cert.PartReferenceIdeal.main_arg2) = m ((c.tc : Thread Cert.PartIdeal.nD Cert.PartIdeal.τ).loc Cert.PartIdeal.main_arg2)
      ∧ m' ((c.tc : Thread Cert.PartReferenceIdeal.nD Cert.PartReferenceIdeal.τ).loc Cert.PartReferenceIdeal.main_arg3) = m ((c.tc : Thread Cert.PartIdeal.nD Cert.PartIdeal.τ).loc Cert.PartIdeal.main_arg3)
      ∧ m' ((c.tc : Thread Cert.PartReferenceIdeal.nD Cert.PartReferenceIdeal.τ).loc Cert.PartReferenceIdeal.main_arg4) = m ((c.tc : Thread Cert.PartIdeal.nD Cert.PartIdeal.τ).loc Cert.PartIdeal.main_arg4)
      ∧ m' ((c.tc : Thread Cert.PartReferenceIdeal.nD Cert.PartReferenceIdeal.τ).loc Cert.PartReferenceIdeal.main_arg5) = m ((c.tc : Thread Cert.PartIdeal.nD Cert.PartIdeal.τ).loc Cert.PartIdeal.main_arg5)
      ∧ m' ((c.tc : Thread Cert.PartReferenceIdeal.nD Cert.PartReferenceIdeal.τ).loc Cert.PartReferenceIdeal.main_arg6) = m ((c.tc : Thread Cert.PartIdeal.nD Cert.PartIdeal.τ).loc Cert.PartIdeal.main_arg6)) →
    ∃ (v0 : (c : Dev Cert.PartIdeal.nD) → Buf (Elt Ideal) ((c.tc : Thread Cert.PartIdeal.nD Cert.PartIdeal.τ).loc Cert.PartIdeal.main_v0_0)) (v1 : (c : Dev Cert.PartIdeal.nD) → Buf (Elt Ideal) ((c.tc : Thread Cert.PartIdeal.nD Cert.PartIdeal.τ).loc Cert.PartIdeal.main_v0_1)) (v2 : (c : Dev Cert.PartIdeal.nD) → Buf (Elt Ideal) ((c.tc : Thread Cert.PartIdeal.nD Cert.PartIdeal.τ).loc Cert.PartIdeal.main_v0_2)),
      θ_run (Cert.PartIdeal.defs (F := Ideal)) (onTc (τ := Cert.PartIdeal.τ) (Cert.PartIdeal.main (F := Ideal))) ⟨m, fun _ => 0, g⟩ (fun r => ∀ c : Dev Cert.PartIdeal.nD,
          r.2.mem ((c.tc : Thread Cert.PartIdeal.nD Cert.PartIdeal.τ).loc Cert.PartIdeal.main_v0_0) = v0 c
          ∧ r.2.mem ((c.tc : Thread Cert.PartIdeal.nD Cert.PartIdeal.τ).loc Cert.PartIdeal.main_v0_1) = v1 c
          ∧ r.2.mem ((c.tc : Thread Cert.PartIdeal.nD Cert.PartIdeal.τ).loc Cert.PartIdeal.main_v0_2) = v2 c
          ∧ r.2.mem ((c.tc : Thread Cert.PartIdeal.nD Cert.PartIdeal.τ).loc Cert.PartIdeal.main_arg0) = m ((c.tc : Thread Cert.PartIdeal.nD Cert.PartIdeal.τ).loc Cert.PartIdeal.main_arg0)
          ∧ r.2.mem ((c.tc : Thread Cert.PartIdeal.nD Cert.PartIdeal.τ).loc Cert.PartIdeal.main_arg1) = m ((c.tc : Thread Cert.PartIdeal.nD Cert.PartIdeal.τ).loc Cert.PartIdeal.main_arg1)
          ∧ r.2.mem ((c.tc : Thread Cert.PartIdeal.nD Cert.PartIdeal.τ).loc Cert.PartIdeal.main_arg2) = m ((c.tc : Thread Cert.PartIdeal.nD Cert.PartIdeal.τ).loc Cert.PartIdeal.main_arg2)
          ∧ r.2.mem ((c.tc : Thread Cert.PartIdeal.nD Cert.PartIdeal.τ).loc Cert.PartIdeal.main_arg3) = m ((c.tc : Thread Cert.PartIdeal.nD Cert.PartIdeal.τ).loc Cert.PartIdeal.main_arg3)
          ∧ r.2.mem ((c.tc : Thread Cert.PartIdeal.nD Cert.PartIdeal.τ).loc Cert.PartIdeal.main_arg4) = m ((c.tc : Thread Cert.PartIdeal.nD Cert.PartIdeal.τ).loc Cert.PartIdeal.main_arg4)
          ∧ r.2.mem ((c.tc : Thread Cert.PartIdeal.nD Cert.PartIdeal.τ).loc Cert.PartIdeal.main_arg5) = m ((c.tc : Thread Cert.PartIdeal.nD Cert.PartIdeal.τ).loc Cert.PartIdeal.main_arg5)
          ∧ r.2.mem ((c.tc : Thread Cert.PartIdeal.nD Cert.PartIdeal.τ).loc Cert.PartIdeal.main_arg6) = m ((c.tc : Thread Cert.PartIdeal.nD Cert.PartIdeal.τ).loc Cert.PartIdeal.main_arg6))
      ∧ θ_run (Cert.PartReferenceIdeal.defs (F := Ideal)) (onTc (τ := Cert.PartReferenceIdeal.τ) (Cert.PartReferenceIdeal.main (F := Ideal))) ⟨m', fun _ => 0, g'⟩ (fun r => ∀ c : Dev Cert.PartReferenceIdeal.nD,
          r.2.mem ((c.tc : Thread Cert.PartReferenceIdeal.nD Cert.PartReferenceIdeal.τ).loc Cert.PartReferenceIdeal.main_v36) = v0 c
          ∧ r.2.mem ((c.tc : Thread Cert.PartReferenceIdeal.nD Cert.PartReferenceIdeal.τ).loc Cert.PartReferenceIdeal.main_v39) = v1 c
          ∧ r.2.mem ((c.tc : Thread Cert.PartReferenceIdeal.nD Cert.PartReferenceIdeal.τ).loc Cert.PartReferenceIdeal.main_v40) = v2 c
          ∧ r.2.mem ((c.tc : Thread Cert.PartReferenceIdeal.nD Cert.PartReferenceIdeal.τ).loc Cert.PartReferenceIdeal.main_arg0) = m' ((c.tc : Thread Cert.PartReferenceIdeal.nD Cert.PartReferenceIdeal.τ).loc Cert.PartReferenceIdeal.main_arg0)
          ∧ r.2.mem ((c.tc : Thread Cert.PartReferenceIdeal.nD Cert.PartReferenceIdeal.τ).loc Cert.PartReferenceIdeal.main_arg1) = m' ((c.tc : Thread Cert.PartReferenceIdeal.nD Cert.PartReferenceIdeal.τ).loc Cert.PartReferenceIdeal.main_arg1)
          ∧ r.2.mem ((c.tc : Thread Cert.PartReferenceIdeal.nD Cert.PartReferenceIdeal.τ).loc Cert.PartReferenceIdeal.main_arg2) = m' ((c.tc : Thread Cert.PartReferenceIdeal.nD Cert.PartReferenceIdeal.τ).loc Cert.PartReferenceIdeal.main_arg2)
          ∧ r.2.mem ((c.tc : Thread Cert.PartReferenceIdeal.nD Cert.PartReferenceIdeal.τ).loc Cert.PartReferenceIdeal.main_arg3) = m' ((c.tc : Thread Cert.PartReferenceIdeal.nD Cert.PartReferenceIdeal.τ).loc Cert.PartReferenceIdeal.main_arg3)
          ∧ r.2.mem ((c.tc : Thread Cert.PartReferenceIdeal.nD Cert.PartReferenceIdeal.τ).loc Cert.PartReferenceIdeal.main_arg4) = m' ((c.tc : Thread Cert.PartReferenceIdeal.nD Cert.PartReferenceIdeal.τ).loc Cert.PartReferenceIdeal.main_arg4)
          ∧ r.2.mem ((c.tc : Thread Cert.PartReferenceIdeal.nD Cert.PartReferenceIdeal.τ).loc Cert.PartReferenceIdeal.main_arg5) = m' ((c.tc : Thread Cert.PartReferenceIdeal.nD Cert.PartReferenceIdeal.τ).loc Cert.PartReferenceIdeal.main_arg5)
          ∧ r.2.mem ((c.tc : Thread Cert.PartReferenceIdeal.nD Cert.PartReferenceIdeal.τ).loc Cert.PartReferenceIdeal.main_arg6) = m' ((c.tc : Thread Cert.PartReferenceIdeal.nD Cert.PartReferenceIdeal.τ).loc Cert.PartReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hSwap : Cert.Swap.Facts) (hSwapIdeal : Cert.SwapIdeal.Facts) (hSwapReferenceIdeal : Cert.SwapReferenceIdeal.Facts) (hSwapReference : Cert.SwapReference.Facts) (hFirst : Cert.First.Facts) (hFirstIdeal : Cert.FirstIdeal.Facts) (hFirstReferenceIdeal : Cert.FirstReferenceIdeal.Facts) (hFirstReference : Cert.FirstReference.Facts) (hUpdateIn : Cert.UpdateIn.Facts) (hUpdateInIdeal : Cert.UpdateInIdeal.Facts) (hUpdateInReference : Cert.UpdateInReference.Facts) (hUpdateInReferenceIdeal : Cert.UpdateInReferenceIdeal.Facts) (hUpdateOut : Cert.UpdateOut.Facts) (hUpdateOutIdeal : Cert.UpdateOutIdeal.Facts) (hUpdateOutReference : Cert.UpdateOutReference.Facts) (hUpdateOutReferenceIdeal : Cert.UpdateOutReferenceIdeal.Facts) (hSumIn : Cert.SumIn.Facts) (hSumInIdeal : Cert.SumInIdeal.Facts) (hSumInReference : Cert.SumInReference.Facts) (hSumInReferenceIdeal : Cert.SumInReferenceIdeal.Facts) (hSumOut : Cert.SumOut.Facts) (hSumOutIdeal : Cert.SumOutIdeal.Facts) (hSumOutReference : Cert.SumOutReference.Facts) (hSumOutReferenceIdeal : Cert.SumOutReferenceIdeal.Facts) (hSmall : Cert.Small.Facts) (hSmallIdeal : Cert.SmallIdeal.Facts) (hSmallReference : Cert.SmallReference.Facts) (hSmallReferenceIdeal : Cert.SmallReferenceIdeal.Facts) (hLbs : Cert.Lbs.Facts) (hLbsIdeal : Cert.LbsIdeal.Facts) (hLbsReference : Cert.LbsReference.Facts) (hLbsReferenceIdeal : Cert.LbsReferenceIdeal.Facts) (hProject : Cert.Project.Facts) (hProjectIdeal : Cert.ProjectIdeal.Facts) (hProjectReference : Cert.ProjectReference.Facts) (hProjectReferenceIdeal : Cert.ProjectReferenceIdeal.Facts) (hMix : Cert.Mix.Facts) (hMixIdeal : Cert.MixIdeal.Facts) (hMixReference : Cert.MixReference.Facts) (hMixReferenceIdeal : Cert.MixReferenceIdeal.Facts) (hScore : Cert.Score.Facts) (hScoreIdeal : Cert.ScoreIdeal.Facts) (hScoreReference : Cert.ScoreReference.Facts) (hScoreReferenceIdeal : Cert.ScoreReferenceIdeal.Facts) (hSlope : Cert.Slope.Facts) (hSlopeIdeal : Cert.SlopeIdeal.Facts) (hSlopeReference : Cert.SlopeReference.Facts) (hSlopeReferenceIdeal : Cert.SlopeReferenceIdeal.Facts) (hBack : Cert.Back.Facts) (hBackIdeal : Cert.BackIdeal.Facts) (hBackReference : Cert.BackReference.Facts) (hBackReferenceIdeal : Cert.BackReferenceIdeal.Facts) (hPart : Cert.Part.Facts) (hPartIdeal : Cert.PartIdeal.Facts) (hPartReference : Cert.PartReference.Facts) (hPartReferenceIdeal : Cert.PartReferenceIdeal.Facts) (hPre_bounds_finite : Cert.Pre_bounds_finite.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_First (hFirst := hFirst)
    ∧ quiescent_FirstIdeal (hFirstIdeal := hFirstIdeal)
    ∧ quiescent_FirstReferenceIdeal (hFirstReferenceIdeal := hFirstReferenceIdeal)
    ∧ quiescent_FirstReference (hFirstReference := hFirstReference)
    ∧ quiescent_UpdateIn (hUpdateIn := hUpdateIn)
    ∧ quiescent_UpdateInIdeal (hUpdateInIdeal := hUpdateInIdeal)
    ∧ quiescent_UpdateInReference (hUpdateInReference := hUpdateInReference)
    ∧ quiescent_UpdateInReferenceIdeal (hUpdateInReferenceIdeal := hUpdateInReferenceIdeal)
    ∧ quiescent_UpdateOut (hUpdateOut := hUpdateOut)
    ∧ quiescent_UpdateOutIdeal (hUpdateOutIdeal := hUpdateOutIdeal)
    ∧ quiescent_UpdateOutReference (hUpdateOutReference := hUpdateOutReference)
    ∧ quiescent_UpdateOutReferenceIdeal (hUpdateOutReferenceIdeal := hUpdateOutReferenceIdeal)
    ∧ quiescent_SumIn (hSumIn := hSumIn)
    ∧ quiescent_SumInIdeal (hSumInIdeal := hSumInIdeal)
    ∧ quiescent_SumInReference (hSumInReference := hSumInReference)
    ∧ quiescent_SumInReferenceIdeal (hSumInReferenceIdeal := hSumInReferenceIdeal)
    ∧ quiescent_SumOut (hSumOut := hSumOut)
    ∧ quiescent_SumOutIdeal (hSumOutIdeal := hSumOutIdeal)
    ∧ quiescent_SumOutReference (hSumOutReference := hSumOutReference)
    ∧ quiescent_SumOutReferenceIdeal (hSumOutReferenceIdeal := hSumOutReferenceIdeal)
    ∧ quiescent_Small (hSmall := hSmall)
    ∧ quiescent_SmallIdeal (hSmallIdeal := hSmallIdeal)
    ∧ quiescent_SmallIdeal_pre_bounds_finite (hSmallIdeal := hSmallIdeal) (hPre_bounds_finite := hPre_bounds_finite)
    ∧ quiescent_SmallReference (hSmallReference := hSmallReference)
    ∧ quiescent_SmallReferenceIdeal (hSmallReferenceIdeal := hSmallReferenceIdeal)
    ∧ quiescent_SmallReferenceIdeal_pre_bounds_finite (hSmallReferenceIdeal := hSmallReferenceIdeal) (hPre_bounds_finite := hPre_bounds_finite)
    ∧ quiescent_Lbs (hLbs := hLbs)
    ∧ quiescent_LbsIdeal (hLbsIdeal := hLbsIdeal)
    ∧ quiescent_LbsReference (hLbsReference := hLbsReference)
    ∧ quiescent_LbsReferenceIdeal (hLbsReferenceIdeal := hLbsReferenceIdeal)
    ∧ quiescent_Project (hProject := hProject)
    ∧ quiescent_ProjectIdeal (hProjectIdeal := hProjectIdeal)
    ∧ quiescent_ProjectReference (hProjectReference := hProjectReference)
    ∧ quiescent_ProjectReferenceIdeal (hProjectReferenceIdeal := hProjectReferenceIdeal)
    ∧ quiescent_Mix (hMix := hMix)
    ∧ quiescent_MixIdeal (hMixIdeal := hMixIdeal)
    ∧ quiescent_MixReference (hMixReference := hMixReference)
    ∧ quiescent_MixReferenceIdeal (hMixReferenceIdeal := hMixReferenceIdeal)
    ∧ quiescent_Score (hScore := hScore)
    ∧ quiescent_ScoreIdeal (hScoreIdeal := hScoreIdeal)
    ∧ quiescent_ScoreReference (hScoreReference := hScoreReference)
    ∧ quiescent_ScoreReferenceIdeal (hScoreReferenceIdeal := hScoreReferenceIdeal)
    ∧ quiescent_Slope (hSlope := hSlope)
    ∧ quiescent_SlopeIdeal (hSlopeIdeal := hSlopeIdeal)
    ∧ quiescent_SlopeReference (hSlopeReference := hSlopeReference)
    ∧ quiescent_SlopeReferenceIdeal (hSlopeReferenceIdeal := hSlopeReferenceIdeal)
    ∧ quiescent_Back (hBack := hBack)
    ∧ quiescent_BackIdeal (hBackIdeal := hBackIdeal)
    ∧ quiescent_BackReference (hBackReference := hBackReference)
    ∧ quiescent_BackReferenceIdeal (hBackReferenceIdeal := hBackReferenceIdeal)
    ∧ quiescent_Part (hPart := hPart)
    ∧ quiescent_PartIdeal (hPartIdeal := hPartIdeal)
    ∧ quiescent_PartReference (hPartReference := hPartReference)
    ∧ quiescent_PartReferenceIdeal (hPartReferenceIdeal := hPartReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Swap_SwapIdeal
    ∧ algebraic_SwapIdeal_SwapReferenceIdeal (hSwapIdeal := hSwapIdeal) (hSwapReferenceIdeal := hSwapReferenceIdeal)
    ∧ bitexact_Swap_SwapReference (hSwap := hSwap) (hSwapReference := hSwapReference)
    ∧ preserves_First_FirstIdeal
    ∧ algebraic_FirstIdeal_FirstReferenceIdeal (hFirstIdeal := hFirstIdeal) (hFirstReferenceIdeal := hFirstReferenceIdeal)
    ∧ bitexact_First_FirstReference (hFirst := hFirst) (hFirstReference := hFirstReference)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_SumIn_SumInIdeal
    ∧ algebraic_SumInIdeal_SumInReferenceIdeal (hSumInIdeal := hSumInIdeal) (hSumInReferenceIdeal := hSumInReferenceIdeal)
    ∧ bitexact_SumIn_SumInReference (hSumIn := hSumIn) (hSumInReference := hSumInReference)
    ∧ preserves_SumOut_SumOutIdeal
    ∧ algebraic_SumOutIdeal_SumOutReferenceIdeal (hSumOutIdeal := hSumOutIdeal) (hSumOutReferenceIdeal := hSumOutReferenceIdeal)
    ∧ bitexact_SumOut_SumOutReference (hSumOut := hSumOut) (hSumOutReference := hSumOutReference)
    ∧ preserves_Small_SmallIdeal
    ∧ algebraic_SmallIdeal_SmallReferenceIdeal_pre_bounds_finite (hSmallIdeal := hSmallIdeal) (hSmallReferenceIdeal := hSmallReferenceIdeal) (hPre_bounds_finite := hPre_bounds_finite)
    ∧ preserves_Lbs_LbsIdeal
    ∧ algebraic_LbsIdeal_LbsReferenceIdeal (hLbsIdeal := hLbsIdeal) (hLbsReferenceIdeal := hLbsReferenceIdeal)
    ∧ preserves_Project_ProjectIdeal
    ∧ algebraic_ProjectIdeal_ProjectReferenceIdeal (hProjectIdeal := hProjectIdeal) (hProjectReferenceIdeal := hProjectReferenceIdeal)
    ∧ preserves_Mix_MixIdeal
    ∧ algebraic_MixIdeal_MixReferenceIdeal (hMixIdeal := hMixIdeal) (hMixReferenceIdeal := hMixReferenceIdeal)
    ∧ preserves_Score_ScoreIdeal
    ∧ algebraic_ScoreIdeal_ScoreReferenceIdeal (hScoreIdeal := hScoreIdeal) (hScoreReferenceIdeal := hScoreReferenceIdeal)
    ∧ preserves_Slope_SlopeIdeal
    ∧ algebraic_SlopeIdeal_SlopeReferenceIdeal (hSlopeIdeal := hSlopeIdeal) (hSlopeReferenceIdeal := hSlopeReferenceIdeal)
    ∧ preserves_Back_BackIdeal
    ∧ algebraic_BackIdeal_BackReferenceIdeal (hBackIdeal := hBackIdeal) (hBackReferenceIdeal := hBackReferenceIdeal)
    ∧ preserves_Part_PartIdeal
    ∧ algebraic_PartIdeal_PartReferenceIdeal (hPartIdeal := hPartIdeal) (hPartReferenceIdeal := hPartReferenceIdeal)
-- ==== Pre_bounds_finite.lean ====
abbrev S328x128 : Shape := ⟨2, ![328, 128]⟩
abbrev S2x256 : Shape := ⟨2, ![2, 256]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S328x128 .f32) (main_arg1 : FVec F S2x256 .f32) (main_arg2 : FVec F S328x128 .f32) (main_arg3 : FVec F S328x128 .f32) (main_arg4 : FVec F S328x128 .f32) : IVec S2x256 1 :=
  let main_v0 : FVec F S2x256 .f32 := Host.absf main_arg1
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  main_v2
-- ==== Kernel.lean ====
abbrev S1x4x2x512x898 : Shape := ⟨5, ![1, 4, 2, 512, 898]⟩
abbrev S1x4x2x128x1024 : Shape := ⟨5, ![1, 4, 2, 128, 1024]⟩
abbrev S4x2x512x898 : Shape := ⟨4, ![4, 2, 512, 898]⟩
abbrev S4x2x128x1024 : Shape := ⟨4, ![4, 2, 128, 1024]⟩
abbrev S7x512x898 : Shape := ⟨3, ![7, 512, 898]⟩
abbrev S7x128x1024 : Shape := ⟨3, ![7, 128, 1024]⟩
abbrev S7 : Shape := ⟨1, ![7]⟩
abbrev S_ : Shape := ⟨0, ![]⟩
abbrev S1 : Shape := ⟨1, ![1]⟩
abbrev S1x512x898 : Shape := ⟨3, ![1, 512, 898]⟩
abbrev S512x898 : Shape := ⟨2, ![512, 898]⟩
abbrev S1x1x512x898 : Shape := ⟨4, ![1, 1, 512, 898]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Table → Nat
  | .hbm => 10
  | _ => 0

abbrev bufTy : (tb : Table) → Fin (nBuf tb) → BufTy
  | .hbm, ⟨0, _⟩ => ⟨S1x4x2x512x898, .f32⟩
  | .hbm, ⟨1, _⟩ => ⟨S1x4x2x128x1024, .f32⟩
  | .hbm, ⟨2, _⟩ => ⟨S4x2x512x898, .f32⟩
  | .hbm, ⟨3, _⟩ => ⟨S4x2x512x898, .bf16⟩
  | .hbm, ⟨4, _⟩ => ⟨S4x2x128x1024, .f32⟩
  | .hbm, ⟨5, _⟩ => ⟨S4x2x128x1024, .bf16⟩
  | .hbm, ⟨6, _⟩ => ⟨S7x512x898, .bf16⟩
  | .hbm, ⟨7, _⟩ => ⟨S7x128x1024, .bf16⟩
  | .hbm, ⟨8, _⟩ => ⟨S7x512x898, .bf16⟩
  | .hbm, ⟨9, _⟩ => ⟨S7x128x1024, .bf16⟩
  | _, _ => ⟨S1x4x2x512x898, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | _ => false

abbrev sig : RefSig :=
  (ofTables nBuf rfl bufTy 5 28 bufScoped semScoped dmaSemScoped tileCredit tileCredit_eq_zero tileCredit_pos).withBarriers [(2, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7_0 : Ref sig .tc := ⟨.hbm, 8, rfl⟩
abbrev main_v7_1 : Ref sig .tc := ⟨.hbm, 9, rfl⟩
abbrev main_v2_scs : Ref sig .scScalar := ⟨.hbm, 3, rfl⟩
abbrev main_v7_0_scs : Ref sig .scScalar := ⟨.hbm, 8, rfl⟩
abbrev main_v4_scs : Ref sig .scScalar := ⟨.hbm, 5, rfl⟩
abbrev main_v7_1_scs : Ref sig .scScalar := ⟨.hbm, 9, rfl⟩
abbrev sc_start : Sem sig := 0
abbrev sc_done : Sem sig := 1
abbrev sc_go : Sem sig := 2
abbrev sc_taskDone : Sem sig := 3
abbrev barrier2 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 32 := Scalar.xori v2 c0_i32
  let c4_i32_6 : BitVec 32 := 4#32
  let v13 : BitVec 32 := Scalar.muli v10 c4_i32_6
  let v14 : BitVec 32 := Scalar.addi c0_i32_7 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_3 : BitVec 32 := 0#32
  let v11 : BitVec 32 := Scalar.xori v5 c0_i32_3
  let c2_i32_8 : BitVec 32 := 2#32
  let v15 : BitVec 32 := Scalar.muli v11 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4 : BitVec 32 := 1#32
  let v12 : BitVec 32 := Scalar.xori v8 c1_i32_4
  let c1_i32_9 : BitVec 32 := 1#32
  let v17 : BitVec 32 := Scalar.muli v12 c1_i32_9
  let v18 : BitVec 32 := Scalar.addi v16 v17
  v18.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_14 : BitVec 32 := 4#32
  let v22 : BitVec 32 := Scalar.muli v19 c4_i32_14
  let v23 : BitVec 32 := Scalar.addi c0_i32_15 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_16 : BitVec 32 := 2#32
  let v24 : BitVec 32 := Scalar.muli v20 c2_i32_16
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_17 : BitVec 32 := 1#32
  let v26 : BitVec 32 := Scalar.muli v21 c1_i32_17
  let v27 : BitVec 32 := Scalar.addi v25 v26
  v27.toNat
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_18 : BitVec 32 := 0#32
  let v28 : BitVec 32 := Scalar.xori v2 c0_i32_18
  let c4_i32_22 : BitVec 32 := 4#32
  let v31 : BitVec 32 := Scalar.muli v28 c4_i32_22
  let v32 : BitVec 32 := Scalar.addi c0_i32_23 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v29 : BitVec 32 := Scalar.xori v5 c1_i32_19
  let c2_i32_24 : BitVec 32 := 2#32
  let v33 : BitVec 32 := Scalar.muli v29 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v30 : BitVec 32 := Scalar.xori v8 c1_i32_20
  let c1_i32_25 : BitVec 32 := 1#32
  let v35 : BitVec 32 := Scalar.muli v30 c1_i32_25
  let v36 : BitVec 32 := Scalar.addi v34 v35
  v36.toNat
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_26 : BitVec 32 := 1#32
  let v37 : BitVec 32 := Scalar.xori v2 c1_i32_26
  let c4_i32_30 : BitVec 32 := 4#32
  let v40 : BitVec 32 := Scalar.muli v37 c4_i32_30
  let v41 : BitVec 32 := Scalar.addi c0_i32_31 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_27 : BitVec 32 := 0#32
  let v38 : BitVec 32 := Scalar.xori v5 c0_i32_27
  let c2_i32_32 : BitVec 32 := 2#32
  let v42 : BitVec 32 := Scalar.muli v38 c2_i32_32
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_28 : BitVec 32 := 0#32
  let v39 : BitVec 32 := Scalar.xori v8 c0_i32_28
  let c1_i32_33 : BitVec 32 := 1#32
  let v44 : BitVec 32 := Scalar.muli v39 c1_i32_33
  let v45 : BitVec 32 := Scalar.addi v43 v44
  v45.toNat
def k0_dev5 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v46 : BitVec 32 := Scalar.xori v2 c1_i32_34
  let c4_i32_38 : BitVec 32 := 4#32
  let v49 : BitVec 32 := Scalar.muli v46 c4_i32_38
  let v50 : BitVec 32 := Scalar.addi c0_i32_39 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_35 : BitVec 32 := 0#32
  let v47 : BitVec 32 := Scalar.xori v5 c0_i32_35
  let c2_i32_40 : BitVec 32 := 2#32
  let v51 : BitVec 32 := Scalar.muli v47 c2_i32_40
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v48 : BitVec 32 := Scalar.xori v8 c1_i32_36
  let c1_i32_41 : BitVec 32 := 1#32
  let v53 : BitVec 32 := Scalar.muli v48 c1_i32_41
  let v54 : BitVec 32 := Scalar.addi v52 v53
  v54.toNat
def k0_dev6 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_42 : BitVec 32 := 1#32
  let v55 : BitVec 32 := Scalar.xori v2 c1_i32_42
  let c4_i32_46 : BitVec 32 := 4#32
  let v58 : BitVec 32 := Scalar.muli v55 c4_i32_46
  let v59 : BitVec 32 := Scalar.addi c0_i32_47 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v56 : BitVec 32 := Scalar.xori v5 c1_i32_43
  let c2_i32_48 : BitVec 32 := 2#32
  let v60 : BitVec 32 := Scalar.muli v56 c2_i32_48
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_44 : BitVec 32 := 0#32
  let v57 : BitVec 32 := Scalar.xori v8 c0_i32_44
  let c1_i32_49 : BitVec 32 := 1#32
  let v62 : BitVec 32 := Scalar.muli v57 c1_i32_49
  let v63 : BitVec 32 := Scalar.addi v61 v62
  v63.toNat
def k0_dev7 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_50 : BitVec 32 := 1#32
  let v64 : BitVec 32 := Scalar.xori v2 c1_i32_50
  let c4_i32_54 : BitVec 32 := 4#32
  let v67 : BitVec 32 := Scalar.muli v64 c4_i32_54
  let v68 : BitVec 32 := Scalar.addi c0_i32_55 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v65 : BitVec 32 := Scalar.xori v5 c1_i32_51
  let c2_i32_56 : BitVec 32 := 2#32
  let v69 : BitVec 32 := Scalar.muli v65 c2_i32_56
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v66 : BitVec 32 := Scalar.xori v8 c1_i32_52
  let c1_i32_57 : BitVec 32 := 1#32
  let v71 : BitVec 32 := Scalar.muli v66 c1_i32_57
  let v72 : BitVec 32 := Scalar.addi v70 v71
  v72.toNat
def k0_off1 (d0 : Dev nD) (c0_i32_65 : BitVec 32) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.addi c0_i32_65 v8
  ![v82.toNat]
def k0_off2 (d0 : Dev nD) (c0_i32_64 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.addi c0_i32_64 v8
  let c0_i32_110 : BitVec 32 := 0#32
  let c0_i32_111 : BitVec 32 := 0#32
  ![v81.toNat, 0, 0]
def k0_off3 (d0 : Dev nD) : Fin 4 → Nat :=
  let c2_i32_63 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let v79 : BitVec 32 := Scalar.muli c2_i32_63 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v80 : BitVec 32 := Scalar.addi v79 v5
  let c0_i32_103 : BitVec 32 := 0#32
  let c0_i32_112 : BitVec 32 := 0#32
  let c0_i32_113 : BitVec 32 := 0#32
  ![v80.toNat, 0, 0, 0]
def k0_dev8 (d0 : Dev nD) : Nat :=
  let c0_i32_107 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let c4_i32_106 : BitVec 32 := 4#32
  let v131 : BitVec 32 := Scalar.muli v75 c4_i32_106
  let v132 : BitVec 32 := Scalar.addi c0_i32_107 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v133 : BitVec 32 := Scalar.muli v5 c2_i32_108
  let v134 : BitVec 32 := Scalar.addi v132 v133
  let c0_i32_105 : BitVec 32 := 0#32
  let c1_i32_109 : BitVec 32 := 1#32
  let v135 : BitVec 32 := Scalar.muli c0_i32_105 c1_i32_109
  let v136 : BitVec 32 := Scalar.addi v134 v135
  v136.toNat
def k0_off4 (d0 : Dev nD) (c0_i32_67 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.addi c0_i32_67 v8
  let c0_i32_121 : BitVec 32 := 0#32
  let c0_i32_122 : BitVec 32 := 0#32
  ![v85.toNat, 0, 0]
def k0_off5 (d0 : Dev nD) : Fin 4 → Nat :=
  let c2_i32_66 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let v83 : BitVec 32 := Scalar.muli c2_i32_66 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.addi v83 v5
  let c0_i32_114 : BitVec 32 := 0#32
  let c0_i32_123 : BitVec 32 := 0#32
  let c0_i32_124 : BitVec 32 := 0#32
  ![v84.toNat, 0, 0, 0]
def k0_dev9 (d0 : Dev nD) : Nat :=
  let c0_i32_118 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let c4_i32_117 : BitVec 32 := 4#32
  let v145 : BitVec 32 := Scalar.muli v75 c4_i32_117
  let v146 : BitVec 32 := Scalar.addi c0_i32_118 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v147 : BitVec 32 := Scalar.muli v5 c2_i32_119
  let v148 : BitVec 32 := Scalar.addi v146 v147
  let c0_i32_116 : BitVec 32 := 0#32
  let c1_i32_120 : BitVec 32 := 1#32
  let v149 : BitVec 32 := Scalar.muli c0_i32_116 c1_i32_120
  let v150 : BitVec 32 := Scalar.addi v148 v149
  v150.toNat
def k0_off6 (d0 : Dev nD) : Fin 4 → Nat :=
  let c2_i32_69 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let v87 : BitVec 32 := Scalar.muli c2_i32_69 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.addi v87 v5
  let c1_i32_125 : BitVec 32 := 1#32
  let c0_i32_134 : BitVec 32 := 0#32
  let c0_i32_135 : BitVec 32 := 0#32
  ![v88.toNat, 1, 0, 0]
def k0_dev10 (d0 : Dev nD) : Nat :=
  let c0_i32_129 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let c4_i32_128 : BitVec 32 := 4#32
  let v159 : BitVec 32 := Scalar.muli v75 c4_i32_128
  let v160 : BitVec 32 := Scalar.addi c0_i32_129 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v161 : BitVec 32 := Scalar.muli v5 c2_i32_130
  let v162 : BitVec 32 := Scalar.addi v160 v161
  let c1_i32_127 : BitVec 32 := 1#32
  let c1_i32_131 : BitVec 32 := 1#32
  let v163 : BitVec 32 := Scalar.muli c1_i32_127 c1_i32_131
  let v164 : BitVec 32 := Scalar.addi v162 v163
  v164.toNat
def k0_off7 (d0 : Dev nD) : Fin 4 → Nat :=
  let c2_i32_72 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let v91 : BitVec 32 := Scalar.muli c2_i32_72 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v92 : BitVec 32 := Scalar.addi v91 v5
  let c1_i32_136 : BitVec 32 := 1#32
  let c0_i32_145 : BitVec 32 := 0#32
  let c0_i32_146 : BitVec 32 := 0#32
  ![v92.toNat, 1, 0, 0]
def k0_dev11 (d0 : Dev nD) : Nat :=
  let c0_i32_140 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_59 v2
  let c4_i32_139 : BitVec 32 := 4#32
  let v173 : BitVec 32 := Scalar.muli v75 c4_i32_139
  let v174 : BitVec 32 := Scalar.addi c0_i32_140 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v175 : BitVec 32 := Scalar.muli v5 c2_i32_141
  let v176 : BitVec 32 := Scalar.addi v174 v175
  let c1_i32_138 : BitVec 32 := 1#32
  let c1_i32_142 : BitVec 32 := 1#32
  let v177 : BitVec 32 := Scalar.muli c1_i32_138 c1_i32_142
  let v178 : BitVec 32 := Scalar.addi v176 v177
  v178.toNat
def k0_off8 (d0 : Dev nD) : Fin 4 → Nat :=
  let c2_i32_75 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c2_i32_75 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let v96 : BitVec 32 := Scalar.addi v95 v76
  let c0_i32_147 : BitVec 32 := 0#32
  let c0_i32_156 : BitVec 32 := 0#32
  let c0_i32_157 : BitVec 32 := 0#32
  ![v96.toNat, 0, 0, 0]
def k0_dev12 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v187 : BitVec 32 := Scalar.muli v2 c4_i32_150
  let v188 : BitVec 32 := Scalar.addi c0_i32_151 v187
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let c2_i32_152 : BitVec 32 := 2#32
  let v189 : BitVec 32 := Scalar.muli v76 c2_i32_152
  let v190 : BitVec 32 := Scalar.addi v188 v189
  let c0_i32_149 : BitVec 32 := 0#32
  let c1_i32_153 : BitVec 32 := 1#32
  let v191 : BitVec 32 := Scalar.muli c0_i32_149 c1_i32_153
  let v192 : BitVec 32 := Scalar.addi v190 v191
  v192.toNat
def k0_off9 (d0 : Dev nD) : Fin 4 → Nat :=
  let c2_i32_78 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.muli c2_i32_78 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let v100 : BitVec 32 := Scalar.addi v99 v76
  let c0_i32_158 : BitVec 32 := 0#32
  let c0_i32_167 : BitVec 32 := 0#32
  let c0_i32_168 : BitVec 32 := 0#32
  ![v100.toNat, 0, 0, 0]
def k0_dev13 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v201 : BitVec 32 := Scalar.muli v2 c4_i32_161
  let v202 : BitVec 32 := Scalar.addi c0_i32_162 v201
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let c2_i32_163 : BitVec 32 := 2#32
  let v203 : BitVec 32 := Scalar.muli v76 c2_i32_163
  let v204 : BitVec 32 := Scalar.addi v202 v203
  let c0_i32_160 : BitVec 32 := 0#32
  let c1_i32_164 : BitVec 32 := 1#32
  let v205 : BitVec 32 := Scalar.muli c0_i32_160 c1_i32_164
  let v206 : BitVec 32 := Scalar.addi v204 v205
  v206.toNat
def k0_off10 (d0 : Dev nD) : Fin 4 → Nat :=
  let c2_i32_81 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v103 : BitVec 32 := Scalar.muli c2_i32_81 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let v104 : BitVec 32 := Scalar.addi v103 v76
  let c1_i32_169 : BitVec 32 := 1#32
  let c0_i32_177 : BitVec 32 := 0#32
  let c0_i32_178 : BitVec 32 := 0#32
  ![v104.toNat, 1, 0, 0]
def k0_dev14 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v215 : BitVec 32 := Scalar.muli v2 c4_i32_171
  let v216 : BitVec 32 := Scalar.addi c0_i32_172 v215
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let c2_i32_173 : BitVec 32 := 2#32
  let v217 : BitVec 32 := Scalar.muli v76 c2_i32_173
  let v218 : BitVec 32 := Scalar.addi v216 v217
  let c1_i32_170 : BitVec 32 := 1#32
  let c1_i32_174 : BitVec 32 := 1#32
  let v219 : BitVec 32 := Scalar.muli c1_i32_170 c1_i32_174
  let v220 : BitVec 32 := Scalar.addi v218 v219
  v220.toNat
def k0_off11 (d0 : Dev nD) : Fin 4 → Nat :=
  let c2_i32_84 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.muli c2_i32_84 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let v108 : BitVec 32 := Scalar.addi v107 v76
  let c1_i32_179 : BitVec 32 := 1#32
  let c0_i32_188 : BitVec 32 := 0#32
  let c0_i32_189 : BitVec 32 := 0#32
  ![v108.toNat, 1, 0, 0]
def k0_dev15 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v229 : BitVec 32 := Scalar.muli v2 c4_i32_182
  let v230 : BitVec 32 := Scalar.addi c0_i32_183 v229
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_60 v5
  let c2_i32_184 : BitVec 32 := 2#32
  let v231 : BitVec 32 := Scalar.muli v76 c2_i32_184
  let v232 : BitVec 32 := Scalar.addi v230 v231
  let c1_i32_181 : BitVec 32 := 1#32
  let c1_i32_185 : BitVec 32 := 1#32
  let v233 : BitVec 32 := Scalar.muli c1_i32_181 c1_i32_185
  let v234 : BitVec 32 := Scalar.addi v232 v233
  v234.toNat
def k0_off12 (d0 : Dev nD) : Fin 4 → Nat :=
  let c2_i32_87 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let v111 : BitVec 32 := Scalar.muli c2_i32_87 v77
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let v112 : BitVec 32 := Scalar.addi v111 v78
  let c0_i32_190 : BitVec 32 := 0#32
  let c0_i32_199 : BitVec 32 := 0#32
  let c0_i32_200 : BitVec 32 := 0#32
  ![v112.toNat, 0, 0, 0]
def k0_dev16 (d0 : Dev nD) : Nat :=
  let c0_i32_194 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let c4_i32_193 : BitVec 32 := 4#32
  let v243 : BitVec 32 := Scalar.muli v77 c4_i32_193
  let v244 : BitVec 32 := Scalar.addi c0_i32_194 v243
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let c2_i32_195 : BitVec 32 := 2#32
  let v245 : BitVec 32 := Scalar.muli v78 c2_i32_195
  let v246 : BitVec 32 := Scalar.addi v244 v245
  let c0_i32_192 : BitVec 32 := 0#32
  let c1_i32_196 : BitVec 32 := 1#32
  let v247 : BitVec 32 := Scalar.muli c0_i32_192 c1_i32_196
  let v248 : BitVec 32 := Scalar.addi v246 v247
  v248.toNat
def k0_off13 (d0 : Dev nD) : Fin 4 → Nat :=
  let c2_i32_90 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let v115 : BitVec 32 := Scalar.muli c2_i32_90 v77
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let v116 : BitVec 32 := Scalar.addi v115 v78
  let c0_i32_201 : BitVec 32 := 0#32
  let c0_i32_210 : BitVec 32 := 0#32
  let c0_i32_211 : BitVec 32 := 0#32
  ![v116.toNat, 0, 0, 0]
def k0_dev17 (d0 : Dev nD) : Nat :=
  let c0_i32_205 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let c4_i32_204 : BitVec 32 := 4#32
  let v257 : BitVec 32 := Scalar.muli v77 c4_i32_204
  let v258 : BitVec 32 := Scalar.addi c0_i32_205 v257
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let c2_i32_206 : BitVec 32 := 2#32
  let v259 : BitVec 32 := Scalar.muli v78 c2_i32_206
  let v260 : BitVec 32 := Scalar.addi v258 v259
  let c0_i32_203 : BitVec 32 := 0#32
  let c1_i32_207 : BitVec 32 := 1#32
  let v261 : BitVec 32 := Scalar.muli c0_i32_203 c1_i32_207
  let v262 : BitVec 32 := Scalar.addi v260 v261
  v262.toNat
def k0_off14 (d0 : Dev nD) : Fin 4 → Nat :=
  let c2_i32_93 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let v119 : BitVec 32 := Scalar.muli c2_i32_93 v77
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let v120 : BitVec 32 := Scalar.addi v119 v78
  let c1_i32_212 : BitVec 32 := 1#32
  let c0_i32_220 : BitVec 32 := 0#32
  let c0_i32_221 : BitVec 32 := 0#32
  ![v120.toNat, 1, 0, 0]
def k0_dev18 (d0 : Dev nD) : Nat :=
  let c0_i32_215 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let c4_i32_214 : BitVec 32 := 4#32
  let v271 : BitVec 32 := Scalar.muli v77 c4_i32_214
  let v272 : BitVec 32 := Scalar.addi c0_i32_215 v271
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let c2_i32_216 : BitVec 32 := 2#32
  let v273 : BitVec 32 := Scalar.muli v78 c2_i32_216
  let v274 : BitVec 32 := Scalar.addi v272 v273
  let c1_i32_213 : BitVec 32 := 1#32
  let c1_i32_217 : BitVec 32 := 1#32
  let v275 : BitVec 32 := Scalar.muli c1_i32_213 c1_i32_217
  let v276 : BitVec 32 := Scalar.addi v274 v275
  v276.toNat
def k0_off15 (d0 : Dev nD) : Fin 4 → Nat :=
  let c2_i32_96 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let v123 : BitVec 32 := Scalar.muli c2_i32_96 v77
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let v124 : BitVec 32 := Scalar.addi v123 v78
  let c1_i32_222 : BitVec 32 := 1#32
  let c0_i32_231 : BitVec 32 := 0#32
  let c0_i32_232 : BitVec 32 := 0#32
  ![v124.toNat, 1, 0, 0]
def k0_dev19 (d0 : Dev nD) : Nat :=
  let c0_i32_226 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_61 v2
  let c4_i32_225 : BitVec 32 := 4#32
  let v285 : BitVec 32 := Scalar.muli v77 c4_i32_225
  let v286 : BitVec 32 := Scalar.addi c0_i32_226 v285
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_62 v5
  let c2_i32_227 : BitVec 32 := 2#32
  let v287 : BitVec 32 := Scalar.muli v78 c2_i32_227
  let v288 : BitVec 32 := Scalar.addi v286 v287
  let c1_i32_224 : BitVec 32 := 1#32
  let c1_i32_228 : BitVec 32 := 1#32
  let v289 : BitVec 32 := Scalar.muli c1_i32_224 c1_i32_228
  let v290 : BitVec 32 := Scalar.addi v288 v289
  v290.toNat
def k0_off16 (d0 : Dev nD) : Fin 4 → Nat :=
  let c2_i32_58 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.muli c2_i32_58 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.addi v73 v5
  let c1_i32_99 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v127 : BitVec 32 := Scalar.subi c1_i32_99 v8
  let c0_i32_241 : BitVec 32 := 0#32
  let c0_i32_242 : BitVec 32 := 0#32
  ![v74.toNat, v127.toNat, 0, 0]
def k0_dev20 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v299 : BitVec 32 := Scalar.muli v2 c4_i32_235
  let v300 : BitVec 32 := Scalar.addi c0_i32_236 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v301 : BitVec 32 := Scalar.muli v5 c2_i32_237
  let v302 : BitVec 32 := Scalar.addi v300 v301
  let c1_i32_100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.subi c1_i32_100 v8
  let c1_i32_238 : BitVec 32 := 1#32
  let v303 : BitVec 32 := Scalar.muli v128 c1_i32_238
  let v304 : BitVec 32 := Scalar.addi v302 v303
  v304.toNat
def k0_off17 (d0 : Dev nD) : Fin 4 → Nat :=
  let c2_i32_58 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.muli c2_i32_58 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.addi v73 v5
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_101 v8
  let c0_i32_252 : BitVec 32 := 0#32
  let c0_i32_253 : BitVec 32 := 0#32
  ![v74.toNat, v129.toNat, 0, 0]
def k0_dev21 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v313 : BitVec 32 := Scalar.muli v2 c4_i32_246
  let v314 : BitVec 32 := Scalar.addi c0_i32_247 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v315 : BitVec 32 := Scalar.muli v5 c2_i32_248
  let v316 : BitVec 32 := Scalar.addi v314 v315
  let c1_i32_102 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v130 : BitVec 32 := Scalar.subi c1_i32_102 v8
  let c1_i32_249 : BitVec 32 := 1#32
  let v317 : BitVec 32 := Scalar.muli v130 c1_i32_249
  let v318 : BitVec 32 := Scalar.addi v316 v317
  v318.toNat
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x4x2x512x898 : Shape := ⟨5, ![8, 4, 2, 512, 898]⟩
abbrev S8x4x2x128x1024 : Shape := ⟨5, ![8, 4, 2, 128, 1024]⟩
abbrev S56 : Shape := ⟨1, ![56]⟩
abbrev S64x512x898 : Shape := ⟨3, ![64, 512, 898]⟩
abbrev S_ : Shape := ⟨0, ![]⟩
abbrev S56x1 : Shape := ⟨2, ![56, 1]⟩
abbrev S56x512x898 : Shape := ⟨3, ![56, 512, 898]⟩
abbrev S64x128x1024 : Shape := ⟨3, ![64, 128, 1024]⟩
abbrev S56x128x1024 : Shape := ⟨3, ![56, 128, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x4x2x512x898, .f32⟩
  | .hbm, ⟨1, _⟩ => ⟨S8x4x2x128x1024, .f32⟩
  | .hbm, ⟨2, _⟩ => ⟨S56, .i32⟩
  | .hbm, ⟨3, _⟩ => ⟨S56, .i1⟩
  | .hbm, ⟨4, _⟩ => ⟨S56, .i32⟩
  | .hbm, ⟨5, _⟩ => ⟨S56, .i1⟩
  | .hbm, ⟨6, _⟩ => ⟨S8x4x2x512x898, .bf16⟩
  | .hbm, ⟨7, _⟩ => ⟨S64x512x898, .bf16⟩
  | .hbm, ⟨8, _⟩ => ⟨S_, .i32⟩
  | .hbm, ⟨9, _⟩ => ⟨S56, .i32⟩
  | .hbm, ⟨10, _⟩ => ⟨S56, .i32⟩
  | .hbm, ⟨11, _⟩ => ⟨S56, .i32⟩
  | .hbm, ⟨12, _⟩ => ⟨S56x1, .i32⟩
  | .hbm, ⟨13, _⟩ => ⟨S56x512x898, .bf16⟩
  | .hbm, ⟨14, _⟩ => ⟨S8x4x2x128x1024, .bf16⟩
  | .hbm, ⟨15, _⟩ => ⟨S64x128x1024, .bf16⟩
  | .hbm, ⟨16, _⟩ => ⟨S_, .i32⟩
  | .hbm, ⟨17, _⟩ => ⟨S56, .i32⟩
  | .hbm, ⟨18, _⟩ => ⟨S56, .i32⟩
  | .hbm, ⟨19, _⟩ => ⟨S56, .i32⟩
  | .hbm, ⟨20, _⟩ => ⟨S56x1, .i32⟩
  | .hbm, ⟨21, _⟩ => ⟨S56x128x1024, .bf16⟩
  | _, _ => ⟨S8x4x2x512x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Gather.lean ====
abbrev S2x1024x898 : Shape := ⟨3, ![2, 1024, 898]⟩
abbrev S2x256x1024 : Shape := ⟨3, ![2, 256, 1024]⟩
abbrev S1x256x1024 : Shape := ⟨3, ![1, 256, 1024]⟩
abbrev S256x1024 : Shape := ⟨2, ![256, 1024]⟩
abbrev S2x128x1024 : Shape := ⟨3, ![2, 128, 1024]⟩
abbrev S1x1024x898 : Shape := ⟨3, ![1, 1024, 898]⟩
abbrev S1024x898 : Shape := ⟨2, ![1024, 898]⟩
abbrev S2x512x898 : Shape := ⟨3, ![2, 512, 898]⟩
abbrev S4x2x128x1024 : Shape := ⟨4, ![4, 2, 128, 1024]⟩
abbrev S4x2x512x898 : Shape := ⟨4, ![4, 2, 512, 898]⟩
abbrev S9 : Shape := ⟨1, ![9]⟩
abbrev S3 : Shape := ⟨1, ![3]⟩
abbrev S_ : Shape := ⟨0, ![]⟩
abbrev S1 : Shape := ⟨1, ![1]⟩
abbrev S1x2x128x1024 : Shape := ⟨4, ![1, 2, 128, 1024]⟩
abbrev S1x2x512x898 : Shape := ⟨4, ![1, 2, 512, 898]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x512x898 : Shape := ⟨4, ![1, 1, 512, 898]⟩
abbrev S512x898 : Shape := ⟨2, ![512, 898]⟩
abbrev S1x512x898 : Shape := ⟨3, ![1, 512, 898]⟩

abbrev nBuf : Table → Nat
  | .hbm => 20
  | _ => 0

abbrev bufTy : (tb : Table) → Fin (nBuf tb) → BufTy
  | .hbm, ⟨0, _⟩ => ⟨S2x1024x898, .f32⟩
  | .hbm, ⟨1, _⟩ => ⟨S2x256x1024, .f32⟩
  | .hbm, ⟨2, _⟩ => ⟨S1x256x1024, .f32⟩
  | .hbm, ⟨3, _⟩ => ⟨S256x1024, .f32⟩
  | .hbm, ⟨4, _⟩ => ⟨S2x128x1024, .f32⟩
  | .hbm, ⟨5, _⟩ => ⟨S2x128x1024, .bf16⟩
  | .hbm, ⟨6, _⟩ => ⟨S1x1024x898, .f32⟩
  | .hbm, ⟨7, _⟩ => ⟨S1024x898, .f32⟩
  | .hbm, ⟨8, _⟩ => ⟨S2x512x898, .f32⟩
  | .hbm, ⟨9, _⟩ => ⟨S2x512x898, .bf16⟩
  | .hbm, ⟨10, _⟩ => ⟨S1x256x1024, .f32⟩
  | .hbm, ⟨11, _⟩ => ⟨S256x1024, .f32⟩
  | .hbm, ⟨12, _⟩ => ⟨S2x128x1024, .f32⟩
  | .hbm, ⟨13, _⟩ => ⟨S2x128x1024, .bf16⟩
  | .hbm, ⟨14, _⟩ => ⟨S4x2x128x1024, .bf16⟩
  | .hbm, ⟨15, _⟩ => ⟨S4x2x512x898, .bf16⟩
  | .hbm, ⟨16, _⟩ => ⟨S4x2x128x1024, .bf16⟩
  | .hbm, ⟨17, _⟩ => ⟨S4x2x128x1024, .bf16⟩
  | .hbm, ⟨18, _⟩ => ⟨S4x2x512x898, .bf16⟩
  | .hbm, ⟨19, _⟩ => ⟨S4x2x128x1024, .bf16⟩
  | _, _ => ⟨S2x1024x898, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 39 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | _ => false

abbrev sig : RefSig :=
  (ofTables nBuf rfl bufTy 5 39 bufScoped semScoped dmaSemScoped tileCredit tileCredit_eq_zero tileCredit_pos).withBarriers [(1, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16_0 : Ref sig .tc := ⟨.hbm, 17, rfl⟩
abbrev main_v16_1 : Ref sig .tc := ⟨.hbm, 18, rfl⟩
abbrev main_v16_2 : Ref sig .tc := ⟨.hbm, 19, rfl⟩
abbrev main_v4_scs : Ref sig .scScalar := ⟨.hbm, 5, rfl⟩
abbrev main_v16_0_scs : Ref sig .scScalar := ⟨.hbm, 17, rfl⟩
abbrev main_v8_scs : Ref sig .scScalar := ⟨.hbm, 9, rfl⟩
abbrev main_v16_1_scs : Ref sig .scScalar := ⟨.hbm, 18, rfl⟩
abbrev main_v12_scs : Ref sig .scScalar := ⟨.hbm, 13, rfl⟩
abbrev main_v16_2_scs : Ref sig .scScalar := ⟨.hbm, 19, rfl⟩
abbrev sc_start : Sem sig := 0
abbrev sc_done : Sem sig := 1
abbrev sc_go : Sem sig := 2
abbrev sc_taskDone : Sem sig := 3
abbrev barrier1 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_9 : BitVec 32 := 4#32
  let v15 : BitVec 32 := Scalar.muli v10 c4_i32_9
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v19 : BitVec 32 := Scalar.muli v8 c1_i32_11
  let v20 : BitVec 32 := Scalar.addi v18 v19
  v20.toNat
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v21 : BitVec 32 := Scalar.muli v2 c4_i32_13
  let v22 : BitVec 32 := Scalar.addi c0_i32_14 v21
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_15 : BitVec 32 := 2#32
  let v23 : BitVec 32 := Scalar.muli v11 c2_i32_15
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v25 : BitVec 32 := Scalar.muli v8 c1_i32_16
  let v26 : BitVec 32 := Scalar.addi v24 v25
  v26.toNat
def k0_dev3 (d0 : Dev nD) : Nat :=
  let c0_i32_19 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_18 : BitVec 32 := 4#32
  let v27 : BitVec 32 := Scalar.muli v12 c4_i32_18
  let v28 : BitVec 32 := Scalar.addi c0_i32_19 v27
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_20 : BitVec 32 := 2#32
  let v29 : BitVec 32 := Scalar.muli v13 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev4 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_26 : BitVec 32 := 1#32
  let v37 : BitVec 32 := Scalar.muli v14 c1_i32_26
  let v38 : BitVec 32 := Scalar.addi v36 v37
  v38.toNat
def k0_off1 (d0 : Dev nD) : Fin 4 → Nat :=
  let c2_i32_28 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_28 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_30 : BitVec 32 := 0#32
  let c0_i32_31 : BitVec 32 := 0#32
  let c0_i32_32 : BitVec 32 := 0#32
  ![v40.toNat, 0, 0, 0]
def k0_off2 (d0 : Dev nD) : Fin 4 → Nat :=
  let c2_i32_28 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_28 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_34 : BitVec 32 := 0#32
  let c0_i32_35 : BitVec 32 := 0#32
  let c0_i32_36 : BitVec 32 := 0#32
  ![v40.toNat, 0, 0, 0]
def k0_off3 (d0 : Dev nD) : Fin 4 → Nat :=
  let c2_i32_28 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_28 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_51 : BitVec 32 := 0#32
  let c0_i32_52 : BitVec 32 := 0#32
  ![v40.toNat, v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let c0_i32_54 : BitVec 32 := 0#32
  ![v8.toNat, 0, 0]
def k0_dev5 (d0 : Dev nD) : Nat :=
  let c0_i32_48 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let c4_i32_47 : BitVec 32 := 4#32
  let v57 : BitVec 32 := Scalar.muli v53 c4_i32_47
  let v58 : BitVec 32 := Scalar.addi c0_i32_48 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v59 : BitVec 32 := Scalar.muli v5 c2_i32_49
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v61 : BitVec 32 := Scalar.muli v8 c1_i32_50
  let v62 : BitVec 32 := Scalar.addi v60 v61
  v62.toNat
def k0_off5 (d0 : Dev nD) : Fin 4 → Nat :=
  let c2_i32_28 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_28 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_61 : BitVec 32 := 0#32
  let c0_i32_62 : BitVec 32 := 0#32
  ![v40.toNat, v8.toNat, 0, 0]
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_63 : BitVec 32 := 0#32
  let c0_i32_64 : BitVec 32 := 0#32
  ![v8.toNat, 0, 0]
def k0_dev6 (d0 : Dev nD) : Nat :=
  let c0_i32_58 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let c4_i32_57 : BitVec 32 := 4#32
  let v71 : BitVec 32 := Scalar.muli v53 c4_i32_57
  let v72 : BitVec 32 := Scalar.addi c0_i32_58 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v73 : BitVec 32 := Scalar.muli v5 c2_i32_59
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v75 : BitVec 32 := Scalar.muli v8 c1_i32_60
  let v76 : BitVec 32 := Scalar.addi v74 v75
  v76.toNat
def k0_dev7 (d0 : Dev nD) : Nat :=
  let c0_i32_68 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let c4_i32_67 : BitVec 32 := 4#32
  let v85 : BitVec 32 := Scalar.muli v53 c4_i32_67
  let v86 : BitVec 32 := Scalar.addi c0_i32_68 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v87 : BitVec 32 := Scalar.muli v5 c2_i32_69
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v89 : BitVec 32 := Scalar.muli v8 c1_i32_70
  let v90 : BitVec 32 := Scalar.addi v88 v89
  v90.toNat
def k0_dev8 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v99 : BitVec 32 := Scalar.muli v2 c4_i32_76
  let v100 : BitVec 32 := Scalar.addi c0_i32_77 v99
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let c2_i32_78 : BitVec 32 := 2#32
  let v101 : BitVec 32 := Scalar.muli v54 c2_i32_78
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v103 : BitVec 32 := Scalar.muli v8 c1_i32_79
  let v104 : BitVec 32 := Scalar.addi v102 v103
  v104.toNat
def k0_dev9 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v113 : BitVec 32 := Scalar.muli v2 c4_i32_86
  let v114 : BitVec 32 := Scalar.addi c0_i32_87 v113
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let c2_i32_88 : BitVec 32 := 2#32
  let v115 : BitVec 32 := Scalar.muli v54 c2_i32_88
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v117 : BitVec 32 := Scalar.muli v8 c1_i32_89
  let v118 : BitVec 32 := Scalar.addi v116 v117
  v118.toNat
def k0_dev10 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v127 : BitVec 32 := Scalar.muli v2 c4_i32_95
  let v128 : BitVec 32 := Scalar.addi c0_i32_96 v127
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let c2_i32_97 : BitVec 32 := 2#32
  let v129 : BitVec 32 := Scalar.muli v54 c2_i32_97
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v131 : BitVec 32 := Scalar.muli v8 c1_i32_98
  let v132 : BitVec 32 := Scalar.addi v130 v131
  v132.toNat
def k0_dev11 (d0 : Dev nD) : Nat :=
  let c0_i32_105 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let c4_i32_104 : BitVec 32 := 4#32
  let v141 : BitVec 32 := Scalar.muli v55 c4_i32_104
  let v142 : BitVec 32 := Scalar.addi c0_i32_105 v141
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let c2_i32_106 : BitVec 32 := 2#32
  let v143 : BitVec 32 := Scalar.muli v56 c2_i32_106
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v145 : BitVec 32 := Scalar.muli v8 c1_i32_107
  let v146 : BitVec 32 := Scalar.addi v144 v145
  v146.toNat
def k0_dev12 (d0 : Dev nD) : Nat :=
  let c0_i32_114 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let c4_i32_113 : BitVec 32 := 4#32
  let v155 : BitVec 32 := Scalar.muli v55 c4_i32_113
  let v156 : BitVec 32 := Scalar.addi c0_i32_114 v155
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let c2_i32_115 : BitVec 32 := 2#32
  let v157 : BitVec 32 := Scalar.muli v56 c2_i32_115
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v159 : BitVec 32 := Scalar.muli v8 c1_i32_116
  let v160 : BitVec 32 := Scalar.addi v158 v159
  v160.toNat
def k0_dev13 (d0 : Dev nD) : Nat :=
  let c0_i32_123 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let c4_i32_122 : BitVec 32 := 4#32
  let v169 : BitVec 32 := Scalar.muli v55 c4_i32_122
  let v170 : BitVec 32 := Scalar.addi c0_i32_123 v169
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let c2_i32_124 : BitVec 32 := 2#32
  let v171 : BitVec 32 := Scalar.muli v56 c2_i32_124
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v173 : BitVec 32 := Scalar.muli v8 c1_i32_125
  let v174 : BitVec 32 := Scalar.addi v172 v173
  v174.toNat
def k0_off7 (d0 : Dev nD) : Fin 4 → Nat :=
  let c2_i32_157 : BitVec 32 := 2#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let v228 : BitVec 32 := Scalar.muli c2_i32_157 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v229 : BitVec 32 := Scalar.addi v228 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_164 : BitVec 32 := 0#32
  let c0_i32_165 : BitVec 32 := 0#32
  ![v229.toNat, v8.toNat, 0, 0]
def k0_dev14 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v242 : BitVec 32 := Scalar.muli v2 c4_i32_170
  let v243 : BitVec 32 := Scalar.addi c0_i32_171 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v244 : BitVec 32 := Scalar.muli v5 c2_i32_172
  let v245 : BitVec 32 := Scalar.addi v243 v244
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v187 : BitVec 32 := Scalar.subi c1_i32_132 v8
  let c1_i32_173 : BitVec 32 := 1#32
  let v246 : BitVec 32 := Scalar.muli v187 c1_i32_173
  let v247 : BitVec 32 := Scalar.addi v245 v246
  v247.toNat
def k0_off8 (d0 : Dev nD) : Fin 4 → Nat :=
  let c2_i32_178 : BitVec 32 := 2#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let v256 : BitVec 32 := Scalar.muli c2_i32_178 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v257 : BitVec 32 := Scalar.addi v256 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_185 : BitVec 32 := 0#32
  let c0_i32_186 : BitVec 32 := 0#32
  ![v257.toNat, v8.toNat, 0, 0]
def k0_dev15 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v270 : BitVec 32 := Scalar.muli v2 c4_i32_191
  let v271 : BitVec 32 := Scalar.addi c0_i32_192 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v272 : BitVec 32 := Scalar.muli v5 c2_i32_193
  let v273 : BitVec 32 := Scalar.addi v271 v272
  let c1_i32_135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v192 : BitVec 32 := Scalar.subi c1_i32_135 v8
  let c1_i32_194 : BitVec 32 := 1#32
  let v274 : BitVec 32 := Scalar.muli v192 c1_i32_194
  let v275 : BitVec 32 := Scalar.addi v273 v274
  v275.toNat
def k0_dev16 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_212 : BitVec 32 := 4#32
  let v298 : BitVec 32 := Scalar.muli v2 c4_i32_212
  let v299 : BitVec 32 := Scalar.addi c0_i32_213 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_214 : BitVec 32 := 2#32
  let v300 : BitVec 32 := Scalar.muli v5 c2_i32_214
  let v301 : BitVec 32 := Scalar.addi v299 v300
  let c1_i32_138 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_138 v8
  let c1_i32_215 : BitVec 32 := 1#32
  let v302 : BitVec 32 := Scalar.muli v197 c1_i32_215
  let v303 : BitVec 32 := Scalar.addi v301 v302
  v303.toNat
def k0_off9 (d0 : Dev nD) : Fin 4 → Nat :=
  let c2_i32_220 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v312 : BitVec 32 := Scalar.muli c2_i32_220 v2
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let v313 : BitVec 32 := Scalar.addi v312 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_227 : BitVec 32 := 0#32
  let c0_i32_228 : BitVec 32 := 0#32
  ![v313.toNat, v8.toNat, 0, 0]
def k0_dev17 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v326 : BitVec 32 := Scalar.muli v2 c4_i32_233
  let v327 : BitVec 32 := Scalar.addi c0_i32_234 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v328 : BitVec 32 := Scalar.muli v5 c2_i32_235
  let v329 : BitVec 32 := Scalar.addi v327 v328
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_141 v8
  let c1_i32_236 : BitVec 32 := 1#32
  let v330 : BitVec 32 := Scalar.muli v202 c1_i32_236
  let v331 : BitVec 32 := Scalar.addi v329 v330
  v331.toNat
def k0_off10 (d0 : Dev nD) : Fin 4 → Nat :=
  let c2_i32_241 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v340 : BitVec 32 := Scalar.muli c2_i32_241 v2
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let v341 : BitVec 32 := Scalar.addi v340 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_248 : BitVec 32 := 0#32
  let c0_i32_249 : BitVec 32 := 0#32
  ![v341.toNat, v8.toNat, 0, 0]
def k0_dev18 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v354 : BitVec 32 := Scalar.muli v2 c4_i32_254
  let v355 : BitVec 32 := Scalar.addi c0_i32_255 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v356 : BitVec 32 := Scalar.muli v5 c2_i32_256
  let v357 : BitVec 32 := Scalar.addi v355 v356
  let c1_i32_144 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.subi c1_i32_144 v8
  let c1_i32_257 : BitVec 32 := 1#32
  let v358 : BitVec 32 := Scalar.muli v207 c1_i32_257
  let v359 : BitVec 32 := Scalar.addi v357 v358
  v359.toNat
def k0_dev19 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v382 : BitVec 32 := Scalar.muli v2 c4_i32_275
  let v383 : BitVec 32 := Scalar.addi c0_i32_276 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v384 : BitVec 32 := Scalar.muli v5 c2_i32_277
  let v385 : BitVec 32 := Scalar.addi v383 v384
  let c1_i32_147 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v212 : BitVec 32 := Scalar.subi c1_i32_147 v8
  let c1_i32_278 : BitVec 32 := 1#32
  let v386 : BitVec 32 := Scalar.muli v212 c1_i32_278
  let v387 : BitVec 32 := Scalar.addi v385 v386
  v387.toNat
def k0_off11 (d0 : Dev nD) : Fin 4 → Nat :=
  let c2_i32_283 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let v396 : BitVec 32 := Scalar.muli c2_i32_283 v55
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let v397 : BitVec 32 := Scalar.addi v396 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_290 : BitVec 32 := 0#32
  let c0_i32_291 : BitVec 32 := 0#32
  ![v397.toNat, v8.toNat, 0, 0]
def k0_dev20 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v410 : BitVec 32 := Scalar.muli v2 c4_i32_296
  let v411 : BitVec 32 := Scalar.addi c0_i32_297 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v412 : BitVec 32 := Scalar.muli v5 c2_i32_298
  let v413 : BitVec 32 := Scalar.addi v411 v412
  let c1_i32_150 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v217 : BitVec 32 := Scalar.subi c1_i32_150 v8
  let c1_i32_299 : BitVec 32 := 1#32
  let v414 : BitVec 32 := Scalar.muli v217 c1_i32_299
  let v415 : BitVec 32 := Scalar.addi v413 v414
  v415.toNat
def k0_off12 (d0 : Dev nD) : Fin 4 → Nat :=
  let c2_i32_304 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let v424 : BitVec 32 := Scalar.muli c2_i32_304 v55
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let v425 : BitVec 32 := Scalar.addi v424 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_311 : BitVec 32 := 0#32
  let c0_i32_312 : BitVec 32 := 0#32
  ![v425.toNat, v8.toNat, 0, 0]
def k0_dev21 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v438 : BitVec 32 := Scalar.muli v2 c4_i32_317
  let v439 : BitVec 32 := Scalar.addi c0_i32_318 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v440 : BitVec 32 := Scalar.muli v5 c2_i32_319
  let v441 : BitVec 32 := Scalar.addi v439 v440
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v222 : BitVec 32 := Scalar.subi c1_i32_153 v8
  let c1_i32_320 : BitVec 32 := 1#32
  let v442 : BitVec 32 := Scalar.muli v222 c1_i32_320
  let v443 : BitVec 32 := Scalar.addi v441 v442
  v443.toNat
def k0_dev22 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v466 : BitVec 32 := Scalar.muli v2 c4_i32_338
  let v467 : BitVec 32 := Scalar.addi c0_i32_339 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v468 : BitVec 32 := Scalar.muli v5 c2_i32_340
  let v469 : BitVec 32 := Scalar.addi v467 v468
  let c1_i32_156 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v227 : BitVec 32 := Scalar.subi c1_i32_156 v8
  let c1_i32_341 : BitVec 32 := 1#32
  let v470 : BitVec 32 := Scalar.muli v227 c1_i32_341
  let v471 : BitVec 32 := Scalar.addi v469 v470
  v471.toNat
def k0_off13 (d0 : Dev nD) : Fin 4 → Nat :=
  let c2_i32_348 : BitVec 32 := 2#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let v483 : BitVec 32 := Scalar.muli c2_i32_348 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v484 : BitVec 32 := Scalar.addi v483 v5
  let c1_i32_349 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v485 : BitVec 32 := Scalar.subi c1_i32_349 v8
  let c0_i32_357 : BitVec 32 := 0#32
  let c0_i32_358 : BitVec 32 := 0#32
  ![v484.toNat, v485.toNat, 0, 0]
def k0_off14 (d0 : Dev nD) : Fin 4 → Nat :=
  let c2_i32_363 : BitVec 32 := 2#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_41 v2
  let v502 : BitVec 32 := Scalar.muli c2_i32_363 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v503 : BitVec 32 := Scalar.addi v502 v5
  let c1_i32_364 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v504 : BitVec 32 := Scalar.subi c1_i32_364 v8
  let c0_i32_372 : BitVec 32 := 0#32
  let c0_i32_373 : BitVec 32 := 0#32
  ![v503.toNat, v504.toNat, 0, 0]
def k0_off15 (d0 : Dev nD) : Fin 4 → Nat :=
  let c2_i32_393 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v540 : BitVec 32 := Scalar.muli c2_i32_393 v2
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let v541 : BitVec 32 := Scalar.addi v540 v54
  let c1_i32_394 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v542 : BitVec 32 := Scalar.subi c1_i32_394 v8
  let c0_i32_402 : BitVec 32 := 0#32
  let c0_i32_403 : BitVec 32 := 0#32
  ![v541.toNat, v542.toNat, 0, 0]
def k0_off16 (d0 : Dev nD) : Fin 4 → Nat :=
  let c2_i32_408 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v559 : BitVec 32 := Scalar.muli c2_i32_408 v2
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_42 v5
  let v560 : BitVec 32 := Scalar.addi v559 v54
  let c1_i32_409 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v561 : BitVec 32 := Scalar.subi c1_i32_409 v8
  let c0_i32_417 : BitVec 32 := 0#32
  let c0_i32_418 : BitVec 32 := 0#32
  ![v560.toNat, v561.toNat, 0, 0]
def k0_off17 (d0 : Dev nD) : Fin 4 → Nat :=
  let c2_i32_438 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let v597 : BitVec 32 := Scalar.muli c2_i32_438 v55
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let v598 : BitVec 32 := Scalar.addi v597 v56
  let c1_i32_439 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v599 : BitVec 32 := Scalar.subi c1_i32_439 v8
  let c0_i32_447 : BitVec 32 := 0#32
  let c0_i32_448 : BitVec 32 := 0#32
  ![v598.toNat, v599.toNat, 0, 0]
def k0_off18 (d0 : Dev nD) : Fin 4 → Nat :=
  let c2_i32_453 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_43 v2
  let v616 : BitVec 32 := Scalar.muli c2_i32_453 v55
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_44 v5
  let v617 : BitVec 32 := Scalar.addi v616 v56
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v618 : BitVec 32 := Scalar.subi c1_i32_454 v8
  let c0_i32_462 : BitVec 32 := 0#32
  let c0_i32_463 : BitVec 32 := 0#32
  ![v617.toNat, v618.toNat, 0, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherReference.lean ====
abbrev S2x1024x3592 : Shape := ⟨3, ![2, 1024, 3592]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S4x2x128x1024 : Shape := ⟨4, ![4, 2, 128, 1024]⟩
abbrev S1x1024x3592 : Shape := ⟨3, ![1, 1024, 3592]⟩
abbrev S1024x3592 : Shape := ⟨2, ![1024, 3592]⟩
abbrev S1024x4x898 : Shape := ⟨3, ![1024, 4, 898]⟩
abbrev S4x1024x898 : Shape := ⟨3, ![4, 1024, 898]⟩
abbrev S4x2x512x898 : Shape := ⟨4, ![4, 2, 512, 898]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x3592, .f32⟩
  | .hbm, ⟨1, _⟩ => ⟨S2x1024x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S4x2x128x1024, .bf16⟩
  | .hbm, ⟨6, _⟩ => ⟨S1x1024x3592, .f32⟩
  | .hbm, ⟨7, _⟩ => ⟨S1024x3592, .f32⟩
  | .hbm, ⟨8, _⟩ => ⟨S1024x3592, .bf16⟩
  | .hbm, ⟨9, _⟩ => ⟨S1024x4x898, .bf16⟩
  | .hbm, ⟨10, _⟩ => ⟨S4x1024x898, .bf16⟩
  | .hbm, ⟨11, _⟩ => ⟨S4x2x512x898, .bf16⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S4x2x128x1024, .bf16⟩
  | _, _ => ⟨S2x1024x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Swap.lean ====
abbrev S512x898 : Shape := ⟨2, ![512, 898]⟩
abbrev S128x1024 : Shape := ⟨2, ![128, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S512x898, .f32⟩
  | .hbm, ⟨1, _⟩ => ⟨S128x1024, .f32⟩
  | .hbm, ⟨2, _⟩ => ⟨S512x898, .f32⟩
  | .hbm, ⟨3, _⟩ => ⟨S128x1024, .f32⟩
  | _, _ => ⟨S512x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v15 : BitVec 32 := Scalar.muli v9 c1_i32_9
  let v16 : BitVec 32 := Scalar.addi v14 v15
  v16.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_15 : BitVec 32 := 1#32
  let v25 : BitVec 32 := Scalar.muli v10 c1_i32_15
  let v26 : BitVec 32 := Scalar.addi v24 v25
  v26.toNat
-- ==== SwapReference.lean ====
abbrev S4096x898 : Shape := ⟨2, ![4096, 898]⟩
abbrev S1024x1024 : Shape := ⟨2, ![1024, 1024]⟩
abbrev S4x2x512x898 : Shape := ⟨4, ![4, 2, 512, 898]⟩
abbrev S4x2x128x1024 : Shape := ⟨4, ![4, 2, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x898, .f32⟩
  | .hbm, ⟨1, _⟩ => ⟨S1024x1024, .f32⟩
  | .hbm, ⟨2, _⟩ => ⟨S4x2x512x898, .f32⟩
  | .hbm, ⟨3, _⟩ => ⟨S4x2x512x898, .f32⟩
  | .hbm, ⟨4, _⟩ => ⟨S4096x898, .f32⟩
  | .hbm, ⟨5, _⟩ => ⟨S4x2x128x1024, .f32⟩
  | .hbm, ⟨6, _⟩ => ⟨S4x2x128x1024, .f32⟩
  | .hbm, ⟨7, _⟩ => ⟨S1024x1024, .f32⟩
  | _, _ => ⟨S4096x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== First.lean ====
abbrev S2x512x898 : Shape := ⟨3, ![2, 512, 898]⟩
abbrev S4x2x512x898 : Shape := ⟨4, ![4, 2, 512, 898]⟩
abbrev S3 : Shape := ⟨1, ![3]⟩
abbrev S1 : Shape := ⟨1, ![1]⟩
abbrev S_ : Shape := ⟨0, ![]⟩
abbrev S1x2x512x898 : Shape := ⟨4, ![1, 2, 512, 898]⟩
abbrev S1x1x512x898 : Shape := ⟨4, ![1, 1, 512, 898]⟩
abbrev S512x898 : Shape := ⟨2, ![512, 898]⟩
abbrev S1x512x898 : Shape := ⟨3, ![1, 512, 898]⟩

abbrev nBuf : Space → Nat
  | .hbm => 2
  | .vmem => 0
  | .smem => 0
  | _ => 0

abbrev bufTy : (tb : Table) → Fin (tcTables nBuf tb) → BufTy
  | .hbm, ⟨0, _⟩ => ⟨S2x512x898, .bf16⟩
  | .hbm, ⟨1, _⟩ => ⟨S4x2x512x898, .bf16⟩
  | _, _ => ⟨S2x512x898, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  let c0_i32_6 : BitVec 32 := 0#32
  ![v10.toNat, 0, 0, 0]
def k0_off2 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  ![v10.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let c0_i32_20 : BitVec 32 := 0#32
  ![v8.toNat, 0, 0]
def k0_dev1 (d0 : Dev nD) : Nat :=
  let c0_i32_14 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_13 : BitVec 32 := 4#32
  let v19 : BitVec 32 := Scalar.muli v15 c4_i32_13
  let v20 : BitVec 32 := Scalar.addi c0_i32_14 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v21 : BitVec 32 := Scalar.muli v5 c2_i32_15
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v23 : BitVec 32 := Scalar.muli v8 c1_i32_16
  let v24 : BitVec 32 := Scalar.addi v22 v23
  v24.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_25 : BitVec 32 := 2#32
  let v35 : BitVec 32 := Scalar.muli v16 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_dev3 (d0 : Dev nD) : Nat :=
  let c0_i32_34 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_33 : BitVec 32 := 4#32
  let v47 : BitVec 32 := Scalar.muli v17 c4_i32_33
  let v48 : BitVec 32 := Scalar.addi c0_i32_34 v47
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_35 : BitVec 32 := 2#32
  let v49 : BitVec 32 := Scalar.muli v18 c2_i32_35
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v51 : BitVec 32 := Scalar.muli v8 c1_i32_36
  let v52 : BitVec 32 := Scalar.addi v50 v51
  v52.toNat
def k0_off4 (d0 : Dev nD) : Fin 4 → Nat :=
  let c2_i32_50 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v76 : BitVec 32 := Scalar.muli c2_i32_50 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_57 : BitVec 32 := 0#32
  let c0_i32_58 : BitVec 32 := 0#32
  ![v77.toNat, v8.toNat, 0, 0]
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v90 : BitVec 32 := Scalar.muli v2 c4_i32_63
  let v91 : BitVec 32 := Scalar.addi c0_i32_64 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v92 : BitVec 32 := Scalar.muli v5 c2_i32_65
  let v93 : BitVec 32 := Scalar.addi v91 v92
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_43 v8
  let c1_i32_66 : BitVec 32 := 1#32
  let v94 : BitVec 32 := Scalar.muli v65 c1_i32_66
  let v95 : BitVec 32 := Scalar.addi v93 v94
  v95.toNat
def k0_off5 (d0 : Dev nD) : Fin 4 → Nat :=
  let c2_i32_71 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_71 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v105 : BitVec 32 := Scalar.addi v104 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_78 : BitVec 32 := 0#32
  let c0_i32_79 : BitVec 32 := 0#32
  ![v105.toNat, v8.toNat, 0, 0]
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v118 : BitVec 32 := Scalar.muli v2 c4_i32_84
  let v119 : BitVec 32 := Scalar.addi c0_i32_85 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v120 : BitVec 32 := Scalar.muli v5 c2_i32_86
  let v121 : BitVec 32 := Scalar.addi v119 v120
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_46 v8
  let c1_i32_87 : BitVec 32 := 1#32
  let v122 : BitVec 32 := Scalar.muli v70 c1_i32_87
  let v123 : BitVec 32 := Scalar.addi v121 v122
  v123.toNat
def k0_off6 (d0 : Dev nD) : Fin 4 → Nat :=
  let c2_i32_92 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v132 : BitVec 32 := Scalar.muli c2_i32_92 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v133 : BitVec 32 := Scalar.addi v132 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_99 : BitVec 32 := 0#32
  let c0_i32_100 : BitVec 32 := 0#32
  ![v133.toNat, v8.toNat, 0, 0]
def k0_dev6 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v146 : BitVec 32 := Scalar.muli v2 c4_i32_105
  let v147 : BitVec 32 := Scalar.addi c0_i32_106 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v148 : BitVec 32 := Scalar.muli v5 c2_i32_107
  let v149 : BitVec 32 := Scalar.addi v147 v148
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.subi c1_i32_49 v8
  let c1_i32_108 : BitVec 32 := 1#32
  let v150 : BitVec 32 := Scalar.muli v75 c1_i32_108
  let v151 : BitVec 32 := Scalar.addi v149 v150
  v151.toNat
def k0_off7 (d0 : Dev nD) : Fin 4 → Nat :=
  let c2_i32_115 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v163 : BitVec 32 := Scalar.muli c2_i32_115 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v164 : BitVec 32 := Scalar.addi v163 v5
  let c1_i32_116 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.subi c1_i32_116 v8
  let c0_i32_124 : BitVec 32 := 0#32
  let c0_i32_125 : BitVec 32 := 0#32
  ![v164.toNat, v165.toNat, 0, 0]
def k0_off8 (d0 : Dev nD) : Fin 4 → Nat :=
  let c2_i32_130 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v182 : BitVec 32 := Scalar.muli c2_i32_130 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v183 : BitVec 32 := Scalar.addi v182 v16
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_131 v8
  let c0_i32_139 : BitVec 32 := 0#32
  let c0_i32_140 : BitVec 32 := 0#32
  ![v183.toNat, v184.toNat, 0, 0]
def k0_off9 (d0 : Dev nD) : Fin 4 → Nat :=
  let c2_i32_145 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v201 : BitVec 32 := Scalar.muli c2_i32_145 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v202 : BitVec 32 := Scalar.addi v201 v18
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v203 : BitVec 32 := Scalar.subi c1_i32_146 v8
  let c0_i32_154 : BitVec 32 := 0#32
  let c0_i32_155 : BitVec 32 := 0#32
  ![v202.toNat, v203.toNat, 0, 0]
-- ==== FirstReference.lean ====
abbrev S8x512x898 : Shape := ⟨3, ![8, 512, 898]⟩
abbrev S4x2x512x898 : Shape := ⟨4, ![4, 2, 512, 898]⟩

abbrev nBuf : Space → Nat
  | .hbm => 2
  | .vmem => 0
  | .smem => 0
  | _ => 0

abbrev bufTy : (tb : Table) → Fin (tcTables nBuf tb) → BufTy
  | .hbm, ⟨0, _⟩ => ⟨S8x512x898, .bf16⟩
  | .hbm, ⟨1, _⟩ => ⟨S4x2x512x898, .bf16⟩
  | _, _ => ⟨S8x512x898, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== UpdateIn.lean ====
abbrev S2x1024x898 : Shape := ⟨3, ![2, 1024, 898]⟩
abbrev S2x512x898 : Shape := ⟨3, ![2, 512, 898]⟩
abbrev S1x128x898 : Shape := ⟨3, ![1, 128, 898]⟩
abbrev S128x898 : Shape := ⟨2, ![128, 898]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x898, .f32⟩
  | .hbm, ⟨1, _⟩ => ⟨S2x512x898, .f32⟩
  | .hbm, ⟨2, _⟩ => ⟨S2x512x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S2x1024x898, .f32⟩
  | .hbm, ⟨7, _⟩ => ⟨S2x1024x898, .f32⟩
  | .hbm, ⟨8, _⟩ => ⟨S2x1024x898, .f32⟩
  | .local _ .vmem, ⟨0, _⟩ => ⟨S1x128x898, .f32⟩
  | .local _ .vmem, ⟨1, _⟩ => ⟨S1x128x898, .f32⟩
  | .local _ .vmem, ⟨2, _⟩ => ⟨S1x128x898, .f32⟩
  | .local _ .vmem, ⟨3, _⟩ => ⟨S1x128x898, .f32⟩
  | .local _ .vmem, ⟨4, _⟩ => ⟨S1x128x898, .f32⟩
  | .local _ .vmem, ⟨5, _⟩ => ⟨S1x128x898, .f32⟩
  | .local _ .vmem, ⟨6, _⟩ => ⟨S1x128x898, .f32⟩
  | .local _ .vmem, ⟨7, _⟩ => ⟨S1x128x898, .f32⟩
  | .local _ .vmem, ⟨8, _⟩ => ⟨S1x128x898, .f32⟩
  | .local _ .vmem, ⟨9, _⟩ => ⟨S1x128x898, .f32⟩
  | .local _ .vmem, ⟨10, _⟩ => ⟨S1x128x898, .f32⟩
  | .local _ .vmem, ⟨11, _⟩ => ⟨S1x128x898, .f32⟩
  | .local _ .vmem, ⟨12, _⟩ => ⟨S1x128x898, .f32⟩
  | .local _ .vmem, ⟨13, _⟩ => ⟨S1x128x898, .f32⟩
  | .local _ .vmem, ⟨14, _⟩ => ⟨S1x128x898, .f32⟩
  | .local _ .vmem, ⟨15, _⟩ => ⟨S1x128x898, .f32⟩
  | .local _ .vmem, ⟨16, _⟩ => ⟨S1x128x898, .f32⟩
  | .local _ .vmem, ⟨17, _⟩ => ⟨S1x128x898, .f32⟩
  | _, _ => ⟨S2x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdateInReference.lean ====
abbrev S2x1024x898 : Shape := ⟨3, ![2, 1024, 898]⟩
abbrev S2x512x898 : Shape := ⟨3, ![2, 512, 898]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x898, .f32⟩
  | .hbm, ⟨1, _⟩ => ⟨S2x512x898, .f32⟩
  | .hbm, ⟨2, _⟩ => ⟨S2x512x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S_, .f32⟩
  | .hbm, ⟨7, _⟩ => ⟨S2x1024x898, .f32⟩
  | .hbm, ⟨8, _⟩ => ⟨S2x1024x898, .f32⟩
  | .hbm, ⟨9, _⟩ => ⟨S_, .f32⟩
  | .hbm, ⟨10, _⟩ => ⟨S2x1024x898, .f32⟩
  | .hbm, ⟨11, _⟩ => ⟨S2x1024x898, .f32⟩
  | .hbm, ⟨12, _⟩ => ⟨S2x1024x898, .f32⟩
  | .hbm, ⟨13, _⟩ => ⟨S_, .f32⟩
  | .hbm, ⟨14, _⟩ => ⟨S2x1024x898, .f32⟩
  | .hbm, ⟨15, _⟩ => ⟨S2x1024x898, .f32⟩
  | .hbm, ⟨16, _⟩ => ⟨S2x1024x898, .f32⟩
  | .hbm, ⟨17, _⟩ => ⟨S_, .f32⟩
  | .hbm, ⟨18, _⟩ => ⟨S2x1024x898, .f32⟩
  | .hbm, ⟨19, _⟩ => ⟨S2x1024x898, .f32⟩
  | .hbm, ⟨20, _⟩ => ⟨S2x1024x898, .f32⟩
  | .hbm, ⟨21, _⟩ => ⟨S_, .f32⟩
  | .hbm, ⟨22, _⟩ => ⟨S2x1024x898, .f32⟩
  | .hbm, ⟨23, _⟩ => ⟨S2x1024x898, .f32⟩
  | .hbm, ⟨24, _⟩ => ⟨S_, .f32⟩
  | .hbm, ⟨25, _⟩ => ⟨S2x1024x898, .f32⟩
  | .hbm, ⟨26, _⟩ => ⟨S2x1024x898, .f32⟩
  | .hbm, ⟨27, _⟩ => ⟨S2x1024x898, .f32⟩
  | .hbm, ⟨28, _⟩ => ⟨S_, .f32⟩
  | .hbm, ⟨29, _⟩ => ⟨S2x1024x898, .f32⟩
  | .hbm, ⟨30, _⟩ => ⟨S2x1024x898, .f32⟩
  | .hbm, ⟨31, _⟩ => ⟨S2x1024x898, .f32⟩
  | .hbm, ⟨32, _⟩ => ⟨S_, .f32⟩
  | .hbm, ⟨33, _⟩ => ⟨S2x1024x898, .f32⟩
  | .hbm, ⟨34, _⟩ => ⟨S2x1024x898, .f32⟩
  | .hbm, ⟨35, _⟩ => ⟨S2x1024x898, .f32⟩
  | .hbm, ⟨36, _⟩ => ⟨S_, .f32⟩
  | .hbm, ⟨37, _⟩ => ⟨S2x1024x898, .f32⟩
  | .hbm, ⟨38, _⟩ => ⟨S2x1024x898, .f32⟩
  | _, _ => ⟨S2x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateInReferenceIdeal.lean ====
abbrev S2x1024x898 : Shape := ⟨3, ![2, 1024, 898]⟩
abbrev S2x512x898 : Shape := ⟨3, ![2, 512, 898]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x898, .f32⟩
  | .hbm, ⟨1, _⟩ => ⟨S2x512x898, .f32⟩
  | .hbm, ⟨2, _⟩ => ⟨S2x512x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S_, .f32⟩
  | .hbm, ⟨7, _⟩ => ⟨S2x1024x898, .f32⟩
  | .hbm, ⟨8, _⟩ => ⟨S2x1024x898, .f32⟩
  | .hbm, ⟨9, _⟩ => ⟨S_, .f32⟩
  | .hbm, ⟨10, _⟩ => ⟨S2x1024x898, .f32⟩
  | .hbm, ⟨11, _⟩ => ⟨S2x1024x898, .f32⟩
  | .hbm, ⟨12, _⟩ => ⟨S2x1024x898, .f32⟩
  | .hbm, ⟨13, _⟩ => ⟨S_, .f32⟩
  | .hbm, ⟨14, _⟩ => ⟨S2x1024x898, .f32⟩
  | .hbm, ⟨15, _⟩ => ⟨S2x1024x898, .f32⟩
  | .hbm, ⟨16, _⟩ => ⟨S2x1024x898, .f32⟩
  | .hbm, ⟨17, _⟩ => ⟨S_, .f32⟩
  | .hbm, ⟨18, _⟩ => ⟨S2x1024x898, .f32⟩
  | .hbm, ⟨19, _⟩ => ⟨S2x1024x898, .f32⟩
  | .hbm, ⟨20, _⟩ => ⟨S2x1024x898, .f32⟩
  | .hbm, ⟨21, _⟩ => ⟨S_, .f32⟩
  | .hbm, ⟨22, _⟩ => ⟨S2x1024x898, .f32⟩
  | .hbm, ⟨23, _⟩ => ⟨S2x1024x898, .f32⟩
  | .hbm, ⟨24, _⟩ => ⟨S_, .f32⟩
  | .hbm, ⟨25, _⟩ => ⟨S2x1024x898, .f32⟩
  | .hbm, ⟨26, _⟩ => ⟨S2x1024x898, .f32⟩
  | .hbm, ⟨27, _⟩ => ⟨S2x1024x898, .f32⟩
  | .hbm, ⟨28, _⟩ => ⟨S_, .f32⟩
  | .hbm, ⟨29, _⟩ => ⟨S2x1024x898, .f32⟩
  | .hbm, ⟨30, _⟩ => ⟨S2x1024x898, .f32⟩
  | .hbm, ⟨31, _⟩ => ⟨S2x1024x898, .f32⟩
  | .hbm, ⟨32, _⟩ => ⟨S_, .f32⟩
  | .hbm, ⟨33, _⟩ => ⟨S2x1024x898, .f32⟩
  | .hbm, ⟨34, _⟩ => ⟨S2x1024x898, .f32⟩
  | .hbm, ⟨35, _⟩ => ⟨S2x1024x898, .f32⟩
  | .hbm, ⟨36, _⟩ => ⟨S_, .f32⟩
  | .hbm, ⟨37, _⟩ => ⟨S2x1024x898, .f32⟩
  | .hbm, ⟨38, _⟩ => ⟨S2x1024x898, .f32⟩
  | _, _ => ⟨S2x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateOut.lean ====
abbrev S2x256x1024 : Shape := ⟨3, ![2, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdateOutReference.lean ====
abbrev S2x256x1024 : Shape := ⟨3, ![2, 256, 1024]⟩
abbrev S2x128x1024 : Shape := ⟨3, ![2, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumIn.lean ====
abbrev S512x898 : Shape := ⟨2, ![512, 898]⟩
abbrev S256x898 : Shape := ⟨2, ![256, 898]⟩

abbrev nBuf : Space → Nat
  | .hbm => 9
  | .vmem => 18
  | .smem => 0
  | _ => 0

abbrev bufTy : (tb : Table) → Fin (tcTables nBuf tb) → BufTy
  | .hbm, ⟨0, _⟩ => ⟨S512x898, .f32⟩
  | .hbm, ⟨1, _⟩ => ⟨S512x898, .bf16⟩
  | .hbm, ⟨2, _⟩ => ⟨S512x898, .bf16⟩
  | .hbm, ⟨3, _⟩ => ⟨S512x898, .bf16⟩
  | .hbm, ⟨4, _⟩ => ⟨S512x898, .bf16⟩
  | .hbm, ⟨5, _⟩ => ⟨S512x898, .bf16⟩
  | .hbm, ⟨6, _⟩ => ⟨S512x898, .bf16⟩
  | .hbm, ⟨7, _⟩ => ⟨S512x898, .bf16⟩
  | .hbm, ⟨8, _⟩ => ⟨S512x898, .f32⟩
  | .local _ .vmem, ⟨0, _⟩ => ⟨S256x898, .f32⟩
  | .local _ .vmem, ⟨1, _⟩ => ⟨S256x898, .f32⟩
  | .local _ .vmem, ⟨2, _⟩ => ⟨S256x898, .bf16⟩
  | .local _ .vmem, ⟨3, _⟩ => ⟨S256x898, .bf16⟩
  | .local _ .vmem, ⟨4, _⟩ => ⟨S256x898, .bf16⟩
  | .local _ .vmem, ⟨5, _⟩ => ⟨S256x898, .bf16⟩
  | .local _ .vmem, ⟨6, _⟩ => ⟨S256x898, .bf16⟩
  | .local _ .vmem, ⟨7, _⟩ => ⟨S256x898, .bf16⟩
  | .local _ .vmem, ⟨8, _⟩ => ⟨S256x898, .bf16⟩
  | .local _ .vmem, ⟨9, _⟩ => ⟨S256x898, .bf16⟩
  | .local _ .vmem, ⟨10, _⟩ => ⟨S256x898, .bf16⟩
  | .local _ .vmem, ⟨11, _⟩ => ⟨S256x898, .bf16⟩
  | .local _ .vmem, ⟨12, _⟩ => ⟨S256x898, .bf16⟩
  | .local _ .vmem, ⟨13, _⟩ => ⟨S256x898, .bf16⟩
  | .local _ .vmem, ⟨14, _⟩ => ⟨S256x898, .bf16⟩
  | .local _ .vmem, ⟨15, _⟩ => ⟨S256x898, .bf16⟩
  | .local _ .vmem, ⟨16, _⟩ => ⟨S256x898, .f32⟩
  | .local _ .vmem, ⟨17, _⟩ => ⟨S256x898, .f32⟩
  | _, _ => ⟨S512x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x898 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x898 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x898 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x898 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x898 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x898 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x898 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumInReference.lean ====
abbrev S512x898 : Shape := ⟨2, ![512, 898]⟩

abbrev nBuf : Space → Nat
  | .hbm => 22
  | .vmem => 0
  | .smem => 0
  | _ => 0

abbrev bufTy : (tb : Table) → Fin (tcTables nBuf tb) → BufTy
  | .hbm, ⟨0, _⟩ => ⟨S512x898, .f32⟩
  | .hbm, ⟨1, _⟩ => ⟨S512x898, .bf16⟩
  | .hbm, ⟨2, _⟩ => ⟨S512x898, .bf16⟩
  | .hbm, ⟨3, _⟩ => ⟨S512x898, .bf16⟩
  | .hbm, ⟨4, _⟩ => ⟨S512x898, .bf16⟩
  | .hbm, ⟨5, _⟩ => ⟨S512x898, .bf16⟩
  | .hbm, ⟨6, _⟩ => ⟨S512x898, .bf16⟩
  | .hbm, ⟨7, _⟩ => ⟨S512x898, .bf16⟩
  | .hbm, ⟨8, _⟩ => ⟨S512x898, .f32⟩
  | .hbm, ⟨9, _⟩ => ⟨S512x898, .f32⟩
  | .hbm, ⟨10, _⟩ => ⟨S512x898, .f32⟩
  | .hbm, ⟨11, _⟩ => ⟨S512x898, .f32⟩
  | .hbm, ⟨12, _⟩ => ⟨S512x898, .f32⟩
  | .hbm, ⟨13, _⟩ => ⟨S512x898, .f32⟩
  | .hbm, ⟨14, _⟩ => ⟨S512x898, .f32⟩
  | .hbm, ⟨15, _⟩ => ⟨S512x898, .f32⟩
  | .hbm, ⟨16, _⟩ => ⟨S512x898, .f32⟩
  | .hbm, ⟨17, _⟩ => ⟨S512x898, .f32⟩
  | .hbm, ⟨18, _⟩ => ⟨S512x898, .f32⟩
  | .hbm, ⟨19, _⟩ => ⟨S512x898, .f32⟩
  | .hbm, ⟨20, _⟩ => ⟨S512x898, .f32⟩
  | .hbm, ⟨21, _⟩ => ⟨S512x898, .f32⟩
  | _, _ => ⟨S512x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== SumInReferenceIdeal.lean ====
abbrev S512x898 : Shape := ⟨2, ![512, 898]⟩

abbrev nBuf : Space → Nat
  | .hbm => 22
  | .vmem => 0
  | .smem => 0
  | _ => 0

abbrev bufTy : (tb : Table) → Fin (tcTables nBuf tb) → BufTy
  | .hbm, ⟨0, _⟩ => ⟨S512x898, .f32⟩
  | .hbm, ⟨1, _⟩ => ⟨S512x898, .bf16⟩
  | .hbm, ⟨2, _⟩ => ⟨S512x898, .bf16⟩
  | .hbm, ⟨3, _⟩ => ⟨S512x898, .bf16⟩
  | .hbm, ⟨4, _⟩ => ⟨S512x898, .bf16⟩
  | .hbm, ⟨5, _⟩ => ⟨S512x898, .bf16⟩
  | .hbm, ⟨6, _⟩ => ⟨S512x898, .bf16⟩
  | .hbm, ⟨7, _⟩ => ⟨S512x898, .bf16⟩
  | .hbm, ⟨8, _⟩ => ⟨S512x898, .f32⟩
  | .hbm, ⟨9, _⟩ => ⟨S512x898, .f32⟩
  | .hbm, ⟨10, _⟩ => ⟨S512x898, .f32⟩
  | .hbm, ⟨11, _⟩ => ⟨S512x898, .f32⟩
  | .hbm, ⟨12, _⟩ => ⟨S512x898, .f32⟩
  | .hbm, ⟨13, _⟩ => ⟨S512x898, .f32⟩
  | .hbm, ⟨14, _⟩ => ⟨S512x898, .f32⟩
  | .hbm, ⟨15, _⟩ => ⟨S512x898, .f32⟩
  | .hbm, ⟨16, _⟩ => ⟨S512x898, .f32⟩
  | .hbm, ⟨17, _⟩ => ⟨S512x898, .f32⟩
  | .hbm, ⟨18, _⟩ => ⟨S512x898, .f32⟩
  | .hbm, ⟨19, _⟩ => ⟨S512x898, .f32⟩
  | .hbm, ⟨20, _⟩ => ⟨S512x898, .f32⟩
  | .hbm, ⟨21, _⟩ => ⟨S512x898, .f32⟩
  | _, _ => ⟨S512x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== SumOut.lean ====
abbrev S128x1024 : Shape := ⟨2, ![128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S128x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumOutReference.lean ====
abbrev S128x1024 : Shape := ⟨2, ![128, 1024]⟩

abbrev nBuf : Space → Nat
  | .hbm => 22
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S128x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Small.lean ====
abbrev S328x128 : Shape := ⟨2, ![328, 128]⟩
abbrev S2x256 : Shape := ⟨2, ![2, 256]⟩
abbrev S1x256 : Shape := ⟨2, ![1, 256]⟩
abbrev S1x128 : Shape := ⟨2, ![1, 128]⟩
abbrev S324x128 : Shape := ⟨2, ![324, 128]⟩

abbrev nBuf : Space → Nat
  | .hbm => 9
  | .vmem => 9
  | .smem => 0
  | _ => 0

abbrev bufTy : (tb : Table) → Fin (tcTables nBuf tb) → BufTy
  | .hbm, ⟨0, _⟩ => ⟨S328x128, .f32⟩
  | .hbm, ⟨1, _⟩ => ⟨S2x256, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S328x128, .f32⟩
  | .hbm, ⟨6, _⟩ => ⟨S328x128, .f32⟩
  | .hbm, ⟨7, _⟩ => ⟨S328x128, .f32⟩
  | .hbm, ⟨8, _⟩ => ⟨S328x128, .f32⟩
  | .local _ .vmem, ⟨0, _⟩ => ⟨S328x128, .f32⟩
  | .local _ .vmem, ⟨1, _⟩ => ⟨S2x256, .f32⟩
  | .local _ .vmem, ⟨2, _⟩ => ⟨S328x128, .f32⟩
  | .local _ .vmem, ⟨3, _⟩ => ⟨S328x128, .f32⟩
  | .local _ .vmem, ⟨4, _⟩ => ⟨S328x128, .f32⟩
  | .local _ .vmem, ⟨5, _⟩ => ⟨S328x128, .f32⟩
  | .local _ .vmem, ⟨6, _⟩ => ⟨S328x128, .f32⟩
  | .local _ .vmem, ⟨7, _⟩ => ⟨S328x128, .f32⟩
  | .local _ .vmem, ⟨8, _⟩ => ⟨S328x128, .f32⟩
  | _, _ => ⟨S328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S328x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S328x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S328x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S328x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S328x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S328x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S328x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SmallReference.lean ====
abbrev S328x128 : Shape := ⟨2, ![328, 128]⟩
abbrev S2x256 : Shape := ⟨2, ![2, 256]⟩
abbrev S4x128 : Shape := ⟨2, ![4, 128]⟩
abbrev S_ : Shape := ⟨0, ![]⟩
abbrev S256 : Shape := ⟨1, ![256]⟩
abbrev S1x256 : Shape := ⟨2, ![1, 256]⟩
abbrev S324x128 : Shape := ⟨2, ![324, 128]⟩

abbrev nBuf : Space → Nat
  | .hbm => 116
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S2x256, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S4x128, .f32⟩
  | .hbm, ⟨6, _⟩ => ⟨S2x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S2x256, .f32⟩
  | .hbm, ⟨11, _⟩ => ⟨S2x256, .i1⟩
  | .hbm, ⟨12, _⟩ => ⟨S2x256, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .i1⟩
  | .hbm, ⟨21, _⟩ => ⟨S_, .f32⟩
  | .hbm, ⟨22, _⟩ => ⟨S256, .f32⟩
  | .hbm, ⟨23, _⟩ => ⟨S256, .i1⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S2x256, .f32⟩
  | .hbm, ⟨34, _⟩ => ⟨S2x256, .f32⟩
  | .hbm, ⟨35, _⟩ => ⟨S2x256, .f32⟩
  | .hbm, ⟨36, _⟩ => ⟨S_, .f32⟩
  | .hbm, ⟨37, _⟩ => ⟨S256, .f32⟩
  | .hbm, ⟨38, _⟩ => ⟨S1x256, .f32⟩
  | .hbm, ⟨39, _⟩ => ⟨S2x256, .f32⟩
  | .hbm, ⟨40, _⟩ => ⟨S2x256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S_, .f32⟩
  | .hbm, ⟨47, _⟩ => ⟨S2x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S2x256, .f32⟩
  | .hbm, ⟨52, _⟩ => ⟨S2x256, .f32⟩
  | .hbm, ⟨53, _⟩ => ⟨S2x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S_, .f32⟩
  | .hbm, ⟨61, _⟩ => ⟨S2x256, .f32⟩
  | .hbm, ⟨62, _⟩ => ⟨S_, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S2x256, .f32⟩
  | .hbm, ⟨68, _⟩ => ⟨S2x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S1x256, .f32⟩
  | .hbm, ⟨73, _⟩ => ⟨S2x256, .f32⟩
  | .hbm, ⟨74, _⟩ => ⟨S2x256, .f32⟩
  | .hbm, ⟨75, _⟩ => ⟨S_, .f32⟩
  | .hbm, ⟨76, _⟩ => ⟨S256, .f32⟩
  | .hbm, ⟨77, _⟩ => ⟨S2x256, .f32⟩
  | .hbm, ⟨78, _⟩ => ⟨S2x256, .f32⟩
  | .hbm, ⟨79, _⟩ => ⟨S2x256, .f32⟩
  | .hbm, ⟨80, _⟩ => ⟨S4x128, .f32⟩
  | .hbm, ⟨81, _⟩ => ⟨S324x128, .f32⟩
  | .hbm, ⟨82, _⟩ => ⟨S328x128, .f32⟩
  | .hbm, ⟨83, _⟩ => ⟨S_, .f32⟩
  | .hbm, ⟨84, _⟩ => ⟨S328x128, .f32⟩
  | .hbm, ⟨85, _⟩ => ⟨S328x128, .f32⟩
  | .hbm, ⟨86, _⟩ => ⟨S_, .f32⟩
  | .hbm, ⟨87, _⟩ => ⟨S328x128, .f32⟩
  | .hbm, ⟨88, _⟩ => ⟨S328x128, .f32⟩
  | .hbm, ⟨89, _⟩ => ⟨S328x128, .f32⟩
  | .hbm, ⟨90, _⟩ => ⟨S_, .f32⟩
  | .hbm, ⟨91, _⟩ => ⟨S328x128, .f32⟩
  | .hbm, ⟨92, _⟩ => ⟨S328x128, .f32⟩
  | .hbm, ⟨93, _⟩ => ⟨S328x128, .f32⟩
  | .hbm, ⟨94, _⟩ => ⟨S_, .f32⟩
  | .hbm, ⟨95, _⟩ => ⟨S328x128, .f32⟩
  | .hbm, ⟨96, _⟩ => ⟨S328x128, .f32⟩
  | .hbm, ⟨97, _⟩ => ⟨S328x128, .f32⟩
  | .hbm, ⟨98, _⟩ => ⟨S_, .f32⟩
  | .hbm, ⟨99, _⟩ => ⟨S328x128, .f32⟩
  | .hbm, ⟨100, _⟩ => ⟨S328x128, .f32⟩
  | .hbm, ⟨101, _⟩ => ⟨S_, .f32⟩
  | .hbm, ⟨102, _⟩ => ⟨S328x128, .f32⟩
  | .hbm, ⟨103, _⟩ => ⟨S328x128, .f32⟩
  | .hbm, ⟨104, _⟩ => ⟨S328x128, .f32⟩
  | .hbm, ⟨105, _⟩ => ⟨S_, .f32⟩
  | .hbm, ⟨106, _⟩ => ⟨S328x128, .f32⟩
  | .hbm, ⟨107, _⟩ => ⟨S328x128, .f32⟩
  | .hbm, ⟨108, _⟩ => ⟨S328x128, .f32⟩
  | .hbm, ⟨109, _⟩ => ⟨S_, .f32⟩
  | .hbm, ⟨110, _⟩ => ⟨S328x128, .f32⟩
  | .hbm, ⟨111, _⟩ => ⟨S328x128, .f32⟩
  | .hbm, ⟨112, _⟩ => ⟨S328x128, .f32⟩
  | .hbm, ⟨113, _⟩ => ⟨S_, .f32⟩
  | .hbm, ⟨114, _⟩ => ⟨S328x128, .f32⟩
  | .hbm, ⟨115, _⟩ => ⟨S328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_call0_call0_cst : Ref sig .tc := ⟨.hbm, 45, rfl⟩
abbrev main_call0_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_call1_call0_cst : Ref sig .tc := ⟨.hbm, 62, rfl⟩
abbrev main_call1_call0_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_21 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_22 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Lbs.lean ====
abbrev S2x256 : Shape := ⟨2, ![2, 256]⟩
abbrev S1x256 : Shape := ⟨2, ![1, 256]⟩

abbrev nBuf : Space → Nat
  | .hbm => 2
  | .vmem => 2
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .local _ .vmem, ⟨0, _⟩ => ⟨S2x256, .f32⟩
  | .local _ .vmem, ⟨1, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbsReference.lean ====
abbrev S2x256 : Shape := ⟨2, ![2, 256]⟩
abbrev S_ : Shape := ⟨0, ![]⟩
abbrev S256 : Shape := ⟨1, ![256]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S_, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S_, .f32⟩
  | .hbm, ⟨17, _⟩ => ⟨S2x256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S2x256, .f32⟩
  | .hbm, ⟨22, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Project.lean ====
abbrev S4096x1024 : Shape := ⟨2, ![4096, 1024]⟩
abbrev S1x1024 : Shape := ⟨2, ![1, 1024]⟩
abbrev S1024x3712 : Shape := ⟨2, ![1024, 3712]⟩
abbrev S4096x3712 : Shape := ⟨2, ![4096, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .bf16⟩
  | .hbm, ⟨3, _⟩ => ⟨S4096x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReference.lean ====
abbrev S4096x1024 : Shape := ⟨2, ![4096, 1024]⟩
abbrev S1x1024 : Shape := ⟨2, ![1, 1024]⟩
abbrev S1024x3712 : Shape := ⟨2, ![1024, 3712]⟩
abbrev S_ : Shape := ⟨0, ![]⟩
abbrev S4096 : Shape := ⟨1, ![4096]⟩
abbrev S4096x1 : Shape := ⟨2, ![4096, 1]⟩
abbrev S4096x3712 : Shape := ⟨2, ![4096, 3712]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3712, .f32⟩
  | .hbm, ⟨19, _⟩ => ⟨S4096x3712, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Mix.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixReference.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Score.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ScoreReference.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S_, .f32⟩
  | .hbm, ⟨54, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Slope.lean ====
abbrev S4096x1024 : Shape := ⟨2, ![4096, 1024]⟩
abbrev S1x1024 : Shape := ⟨2, ![1, 1024]⟩
abbrev S4096x512 : Shape := ⟨2, ![4096, 512]⟩
abbrev S4096x2048 : Shape := ⟨2, ![4096, 2048]⟩
abbrev S4096x128 : Shape := ⟨2, ![4096, 128]⟩
abbrev S1024x3712 : Shape := ⟨2, ![1024, 3712]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x2048 : Shape := ⟨2, ![1024, 2048]⟩
abbrev S1024x128 : Shape := ⟨2, ![1024, 128]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x512, .bf16⟩
  | .hbm, ⟨4, _⟩ => ⟨S4096x2048, .bf16⟩
  | .hbm, ⟨5, _⟩ => ⟨S4096x128, .bf16⟩
  | .hbm, ⟨6, _⟩ => ⟨S1024x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | .local _ .vmem, ⟨8, _⟩ => ⟨S512x2048, .bf16⟩
  | .local _ .vmem, ⟨9, _⟩ => ⟨S512x128, .bf16⟩
  | .local _ .vmem, ⟨10, _⟩ => ⟨S512x128, .bf16⟩
  | .local _ .vmem, ⟨11, _⟩ => ⟨S1024x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3712 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SlopeReference.lean ====
abbrev S4096x1024 : Shape := ⟨2, ![4096, 1024]⟩
abbrev S1x1024 : Shape := ⟨2, ![1, 1024]⟩
abbrev S4096x512 : Shape := ⟨2, ![4096, 512]⟩
abbrev S4096x2048 : Shape := ⟨2, ![4096, 2048]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x3712 : Shape := ⟨2, ![4096, 3712]⟩
abbrev S3712x1024 : Shape := ⟨2, ![3712, 1024]⟩
abbrev S1024x3712 : Shape := ⟨2, ![1024, 3712]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x512, .bf16⟩
  | .hbm, ⟨4, _⟩ => ⟨S4096x2048, .bf16⟩
  | .hbm, ⟨5, _⟩ => ⟨S4096x128, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3712, .bf16⟩
  | .hbm, ⟨22, _⟩ => ⟨S4096x3712, .f32⟩
  | .hbm, ⟨23, _⟩ => ⟨S3712x1024, .f32⟩
  | .hbm, ⟨24, _⟩ => ⟨S1024x3712, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Back.lean ====
abbrev S4096x1024 : Shape := ⟨2, ![4096, 1024]⟩
abbrev S1x1024 : Shape := ⟨2, ![1, 1024]⟩
abbrev S1024x3712 : Shape := ⟨2, ![1024, 3712]⟩
abbrev S4096x512 : Shape := ⟨2, ![4096, 512]⟩
abbrev S4096x2048 : Shape := ⟨2, ![4096, 2048]⟩
abbrev S4096x128 : Shape := ⟨2, ![4096, 128]⟩
abbrev S8x1024 : Shape := ⟨2, ![8, 1024]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S1024x1024 : Shape := ⟨2, ![1024, 1024]⟩
abbrev S1024x512 : Shape := ⟨2, ![1024, 512]⟩
abbrev S1024x2048 : Shape := ⟨2, ![1024, 2048]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .bf16⟩
  | .hbm, ⟨4, _⟩ => ⟨S4096x1024, .bf16⟩
  | .hbm, ⟨5, _⟩ => ⟨S4096x512, .bf16⟩
  | .hbm, ⟨6, _⟩ => ⟨S4096x2048, .bf16⟩
  | .hbm, ⟨7, _⟩ => ⟨S4096x128, .bf16⟩
  | .hbm, ⟨8, _⟩ => ⟨S4096x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3712, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x128, .bf16⟩
  | .local _ .vmem, ⟨13, _⟩ => ⟨S512x128, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackReference.lean ====
abbrev S4096x1024 : Shape := ⟨2, ![4096, 1024]⟩
abbrev S1x1024 : Shape := ⟨2, ![1, 1024]⟩
abbrev S1024x3712 : Shape := ⟨2, ![1024, 3712]⟩
abbrev S4096x512 : Shape := ⟨2, ![4096, 512]⟩
abbrev S4096x2048 : Shape := ⟨2, ![4096, 2048]⟩
abbrev S4096x128 : Shape := ⟨2, ![4096, 128]⟩
abbrev S4096x3712 : Shape := ⟨2, ![4096, 3712]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .bf16⟩
  | .hbm, ⟨4, _⟩ => ⟨S4096x1024, .bf16⟩
  | .hbm, ⟨5, _⟩ => ⟨S4096x512, .bf16⟩
  | .hbm, ⟨6, _⟩ => ⟨S4096x2048, .bf16⟩
  | .hbm, ⟨7, _⟩ => ⟨S4096x128, .bf16⟩
  | .hbm, ⟨8, _⟩ => ⟨S4096x3712, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x3712, .f32⟩
  | .hbm, ⟨29, _⟩ => ⟨S4096x3712, .f32⟩
  | .hbm, ⟨30, _⟩ => ⟨S4096x3712, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Part.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PartReference.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S1024x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1024x1024, .f32⟩
  | .hbm, ⟨51, _⟩ => ⟨S4096x1024, .f32⟩
  | .hbm, ⟨52, _⟩ => ⟨S4096x1024, .f32⟩
  | .hbm, ⟨53, _⟩ => ⟨S1024x1024, .f32⟩
  | .hbm, ⟨54, _⟩ => ⟨S1024x1024, .f32⟩
  | .hbm, ⟨55, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Peers.lean ====
/-
  Who talks to whom. Eight devices `d = 4x + 2y + c`; a device's chip is `d / 2`, its core `d % 2`. Fourteen LANES
  leave every device: lane `i` carries array `i % 2` (0 for `pin`, 1 for `pout`) to the device of slot `i / 2`. Slots
  `2k` and `2k + 1` are the two cores of the `k`-th other chip (chip `x`-flipped, `y`-flipped, both), slot 6 the sibling
  core. What leaves device `d` on lane `i` arrives at `peer d i` on its lane `back d i`; the two together are an
  involution, so the same table reads as "whom I write to" and as "who writes to me".
-/
module

public import proofs.«01_k».proof.Proof.Gen.KernelIdeal

@[expose] public section

namespace Cert.Exchange

open Idealize.ShloMosaic Cert.KernelIdeal

/-- The chip `k` flips away from a device's own: bit masks over the chip number `2x + y`. -/
def flipMask (k : ℕ) : ℕ := if k = 0 then 2 else if k = 1 then 1 else 3

/-- The device at the other end of lane `i` of device `d`. -/
def peer (d : Dev nD) (i : Fin 14) : Dev nD :=
  ⟨(if i.val / 2 = 6 then d.val ^^^ 1 else 2 * ((d.val / 2) ^^^ flipMask (i.val / 2 / 2)) + i.val / 2 % 2) % 8, Nat.mod_lt _ (by decide)⟩

/-- The lane of `peer d i` that lane `i` of `d` arrives on: the slot there is `d`'s. -/
def back (d : Dev nD) (i : Fin 14) : Fin 14 :=
  ⟨(if i.val / 2 = 6 then i.val else 2 * (2 * (i.val / 2 / 2) + d.val % 2) + i.val % 2) % 14, Nat.mod_lt _ (by decide)⟩

/-- The `k`-th device the barrier's signals go to. -/
def across (d : Dev nD) (k : Fin 7) : Dev nD := ⟨(d.val ^^^ (k.val + 1)) % 8, Nat.mod_lt _ (by decide)⟩

/-- The lane of array `a` between `d` and `across d k`. -/
def lane (d : Dev nD) (k : Fin 7) (a : Fin 2) : Fin 14 :=
  ⟨(2 * (if k.val = 0 then 6 else 2 * (if (k.val + 1) / 2 = 2 then 0 else if (k.val + 1) / 2 = 1 then 1 else 2) + (across d k).val % 2)
    + a.val) % 14, Nat.mod_lt _ (by decide)⟩

theorem peer_peer (d : Dev nD) (i : Fin 14) : peer (peer d i) (back d i) = d := by revert d i; decide
theorem back_back (d : Dev nD) (i : Fin 14) : back (peer d i) (back d i) = i := by revert d i; decide
theorem back_array (d : Dev nD) (i : Fin 14) : (back d i).val % 2 = i.val % 2 := by revert d i; decide
theorem across_ne (d : Dev nD) (k : Fin 7) : across d k ≠ d := by revert d k; decide
theorem across_across (d : Dev nD) (k : Fin 7) : across (across d k) k = d := by revert d k; decide
theorem across_injective (d : Dev nD) : Function.Injective (across d) := by
  intro a b; revert d a b; decide
theorem across_image (d : Dev nD) : (Finset.univ : Finset (Fin 7)).image (across d) = Finset.univ.erase d := by revert d; decide

theorem peer_lane (d : Dev nD) (k : Fin 7) (a : Fin 2) : peer d (lane d k a) = across d k := by revert d k a; decide
theorem back_lane (d : Dev nD) (k : Fin 7) (a : Fin 2) : back d (lane d k a) = lane (across d k) k a := by revert d k a; decide
theorem lane_injective (d : Dev nD) : Function.Injective fun ka : Fin 7 × Fin 2 => lane d ka.1 ka.2 := by
  rintro ⟨k, a⟩ ⟨k', a'⟩; revert d k a k' a'; decide
theorem lane_image (d : Dev nD) : (Finset.univ : Finset (Fin 7 × Fin 2)).image (fun ka => lane d ka.1 ka.2) = Finset.univ := by
  revert d; decide

/-- The destinations of one array's seven lanes are the other devices, each once. -/
theorem peer_even_injective (d : Dev nD) (a : Fin 2) :
    Function.Injective fun t : Fin 7 => peer d ⟨2 * t.val + a.val, by omega⟩ := by
  intro t t'; revert d a t t'; decide
theorem peer_even_image (d : Dev nD) (a : Fin 2) :
    (Finset.univ : Finset (Fin 7)).image (fun t => peer d ⟨2 * t.val + a.val, by omega⟩) = Finset.univ.erase d := by
  revert d a; decide

/-- Sending along a lane, as a permutation of all (device, lane) pairs. -/
def crossing : Dev nD × Fin 14 ≃ Dev nD × Fin 14 where
  toFun x := (peer x.1 x.2, back x.1 x.2)
  invFun x := (peer x.1 x.2, back x.1 x.2)
  left_inv x := Prod.ext (peer_peer x.1 x.2) (back_back x.1 x.2)
  right_inv x := Prod.ext (peer_peer x.1 x.2) (back_back x.1 x.2)

end Cert.Exchange

end
-- ==== Proof.Pieces.lean ====
/-
  The arrays' geometry. A source array `[4, 2, A, B]` is eight PIECES, one per destination device (chip, core); a landing
  array `[7, A, B]` is seven SLOTS. A lane moves one piece into one slot. Here: the rectangles, that they are disjoint and
  cover, which element of a piece an element of a slot comes from, and the landing array a device ends with.
-/
module

public import proofs.«01_k».proof.Proof.Peers
public import Idealize.ShloMosaic.Lib.ValueLayout

@[expose] public section

noncomputable section

namespace Cert.Exchange

open Idealize.ShloMosaic ValueIdx Cert.KernelIdeal

section Geometry
variable (A B : ℕ)

abbrev SrcS : Shape := ⟨4, ![4, 2, A, B]⟩
abbrev DstS : Shape := ⟨3, ![7, A, B]⟩
abbrev PieceS : Shape := ⟨4, ![1, 1, A, B]⟩
abbrev SlotS : Shape := ⟨3, ![1, A, B]⟩

/-- The piece bound for device `q` starts at its (chip, core). -/
abbrev pieceOff (q : Dev nD) : Fin 4 → ℕ := ![q.val / 2, q.val % 2, 0, 0]
/-- The slot lane `i` arrives in. -/
abbrev slotOff (i : Fin 14) : Fin 3 → ℕ := ![i.val / 2, 0, 0]

theorem piece_inb (q : Dev nD) : ∀ a, pieceOff q a + (PieceS A B).size a ≤ (SrcS A B).size a := by
  intro a
  have hq : q.val < 8 := q.isLt
  fin_cases a
  · show q.val / 2 + 1 ≤ 4; omega
  · show q.val % 2 + 1 ≤ 2; omega
  · show 0 + A ≤ A; omega
  · show 0 + B ≤ B; omega
theorem slot_inb (i : Fin 14) : ∀ a, slotOff i a + (SlotS A B).size a ≤ (DstS A B).size a := by
  intro a
  have hi := i.isLt
  fin_cases a
  · show i.val / 2 + 1 ≤ 7; omega
  · show 0 + A ≤ A; omega
  · show 0 + B ≤ B; omega

abbrev pieceR (q : Dev nD) : Rect (SrcS A B) := Rect.unit (s := SrcS A B) (pieceOff q) (PieceS A B).size (piece_inb A B q)
abbrev slotR (i : Fin 14) : Rect (DstS A B) := Rect.unit (s := DstS A B) (slotOff i) (SlotS A B).size (slot_inb A B i)
abbrev pieceSet (q : Dev nD) : Finset (SrcS A B).Idx := (pieceR A B q).set
abbrev slotSet (i : Fin 14) : Finset (DstS A B).Idx := (slotR A B i).set

theorem mem_pieceSet (q : Dev nD) (j : (SrcS A B).Idx) : j ∈ pieceSet A B q ↔ (j 0).val = q.val / 2 ∧ (j 1).val = q.val % 2 := by
  rw [Rect.mem_set_unit]
  have h2 : (j 2).val < A := (j 2).isLt
  have h3 : (j 3).val < B := (j 3).isLt
  constructor
  · intro h
    have e0 : q.val / 2 ≤ (j 0).val ∧ (j 0).val < q.val / 2 + 1 := h 0
    have e1 : q.val % 2 ≤ (j 1).val ∧ (j 1).val < q.val % 2 + 1 := h 1
    omega
  · rintro ⟨e0, e1⟩ a
    fin_cases a
    · show q.val / 2 ≤ (j 0).val ∧ (j 0).val < q.val / 2 + 1; omega
    · show q.val % 2 ≤ (j 1).val ∧ (j 1).val < q.val % 2 + 1; omega
    · show 0 ≤ (j 2).val ∧ (j 2).val < 0 + A; omega
    · show 0 ≤ (j 3).val ∧ (j 3).val < 0 + B; omega

theorem mem_slotSet (i : Fin 14) (j : (DstS A B).Idx) : j ∈ slotSet A B i ↔ (j 0).val = i.val / 2 := by
  rw [Rect.mem_set_unit]
  have h1 : (j 1).val < A := (j 1).isLt
  have h2 : (j 2).val < B := (j 2).isLt
  constructor
  · intro h
    have e0 : i.val / 2 ≤ (j 0).val ∧ (j 0).val < i.val / 2 + 1 := h 0
    omega
  · intro e0 a
    fin_cases a
    · show i.val / 2 ≤ (j 0).val ∧ (j 0).val < i.val / 2 + 1; omega
    · show 0 ≤ (j 1).val ∧ (j 1).val < 0 + A; omega
    · show 0 ≤ (j 2).val ∧ (j 2).val < 0 + B; omega

theorem pieces_disjoint (q q' : Dev nD) (h : q ≠ q') : Disjoint (pieceSet A B q) (pieceSet A B q') := by
  rw [Finset.disjoint_left]
  intro j hj hj'
  rw [mem_pieceSet] at hj hj'
  exact h (Fin.ext (by omega))
theorem pieces_cover : (Finset.univ : Finset (Dev nD)).biUnion (pieceSet A B) = Finset.univ := by
  ext j
  have h0 : (j 0).val < 4 := (j 0).isLt
  have h1 : (j 1).val < 2 := (j 1).isLt
  simp only [Finset.mem_biUnion, Finset.mem_univ, true_and, iff_true]
  refine ⟨⟨2 * (j 0).val + (j 1).val, by show _ < 8; omega⟩, ?_⟩
  rw [mem_pieceSet]; constructor <;> show _ = _ <;> dsimp only <;> omega

/-- Slot `t` of the array the even or odd lanes carry, as its lane. -/
abbrev laneOf (a : Fin 2) (t : Fin 7) : Fin 14 := ⟨2 * t.val + a.val, by omega⟩

theorem slots_disjoint (a : Fin 2) (t t' : Fin 7) (h : t ≠ t') : Disjoint (slotSet A B (laneOf a t)) (slotSet A B (laneOf a t')) := by
  rw [Finset.disjoint_left]
  intro j hj hj'
  rw [mem_slotSet] at hj hj'
  dsimp only at hj hj'
  exact h (Fin.ext (by omega))
theorem slots_cover (a : Fin 2) : (Finset.univ : Finset (Fin 7)).biUnion (fun t => slotSet A B (laneOf a t)) = Finset.univ := by
  ext j
  simp only [Finset.mem_biUnion, Finset.mem_univ, true_and, iff_true]
  refine ⟨j 0, ?_⟩
  rw [mem_slotSet]; dsimp only; omega

/-- The element of the source array that element `x` of the piece for `q`, its unit axes dropped, is; -/
theorem pieceR_emb (q : Dev nD) (hn : (⟨2, ![A, B]⟩ : Shape).numel = (pieceR A B q).shape.numel) (x : (⟨2, ![A, B]⟩ : Shape).Idx) :
    (pieceR A B q).emb (Shape.reshapeEquiv hn x)
      = ix4 (⟨q.val / 2, by have : q.val < 8 := q.isLt; omega⟩ : Fin 4) (⟨q.val % 2, by omega⟩ : Fin 2) (x 0 : Fin A) (x 1 : Fin B) := by
  have hx : x = ix2 (x 0 : Fin A) (x 1 : Fin B) := by funext a; fin_cases a <;> rfl
  rw [show Shape.reshapeEquiv hn x = ix4 (⟨0, Nat.one_pos⟩ : Fin 1) (⟨0, Nat.one_pos⟩ : Fin 1) (x 0 : Fin A) (x 1 : Fin B) by
    conv_lhs => rw [hx]
    exact reshapeEquiv_ix2_11ab hn _ _]
  funext a; apply Fin.ext
  fin_cases a
  · show q.val / 2 + 1 * 0 = q.val / 2; omega
  · show q.val % 2 + 1 * 0 = q.val % 2; omega
  · show 0 + 1 * (x 0).val = (x 0).val; omega
  · show 0 + 1 * (x 1).val = (x 1).val; omega

/-- the element of the landing array that element `x` of lane `i`'s slot is. -/
theorem slotR_emb (i : Fin 14) (hn : (⟨2, ![A, B]⟩ : Shape).numel = (slotR A B i).shape.numel) (x : (⟨2, ![A, B]⟩ : Shape).Idx) :
    (slotR A B i).emb (Shape.reshapeEquiv hn x)
      = ix3 (⟨i.val / 2, by have := i.isLt; omega⟩ : Fin 7) (x 0 : Fin A) (x 1 : Fin B) := by
  have hx : x = ix2 (x 0 : Fin A) (x 1 : Fin B) := by funext a; fin_cases a <;> rfl
  rw [show Shape.reshapeEquiv hn x = ix3 (⟨0, Nat.one_pos⟩ : Fin 1) (x 0 : Fin A) (x 1 : Fin B) by
    conv_lhs => rw [hx]
    exact reshapeEquiv_ix2_1ab hn _ _]
  funext a; apply Fin.ext
  fin_cases a
  · show i.val / 2 + 1 * 0 = i.val / 2; omega
  · show 0 + 1 * (x 0).val = (x 0).val; omega
  · show 0 + 1 * (x 1).val = (x 1).val; omega

/-- What device `p` ends with: slot `s` holds the piece for `p` of the device that writes slot `s`. -/
def gathered {α : Type} (X : Dev nD → (SrcS A B).Idx → α) (p : Dev nD) : (DstS A B).Idx → α := fun j =>
  X (peer p (laneOf 0 (j 0))) (ix4 (⟨p.val / 2, by have : p.val < 8 := p.isLt; omega⟩ : Fin 4) (⟨p.val % 2, by omega⟩ : Fin 2) (j 1 : Fin A) (j 2 : Fin B))

theorem peer_congr (p : Dev nD) (i i' : Fin 14) (h : i.val / 2 = i'.val / 2) : peer p i = peer p i' := by
  apply Fin.ext; simp only [peer, h]

end Geometry

end Cert.Exchange

end
-- ==== Proof.Setup.lean ====
/-
  The program as the launch theorem for SparseCore programs sees it, the four arrays the kernel is handed, and the cells
  its protocol runs on: on every device's SparseCore 0 one barrier cell and one send and one receive cell per lane.
-/
module

public import proofs.«01_k».proof.Proof.Pieces
public import proofs.«01_k».proof.Proof.Gen.KernelIdeal.Skeleton
public import Idealize.ShloMosaic.Lib.SparseCore.Quiescent
public import Idealize.ShloMosaic.Lib.StableHlo.Run
public import Idealize.ShloMosaic.Lib.Tactic

@[expose] public section

noncomputable section

namespace Cert.Exchange

open Cert.KernelIdeal Cert.KernelIdeal.Gen
open Idealize.ShloMosaic
open SparseCore (S V T)
open SparseCore.Cfg (HIx Pay tileRest ownBufs ownSems0 ownCells ownRefs mem_ownCells mem_ownRefs)
open Idealize.SL RA BI BI.BIBase BI.Laws ProofMode Sem
open Rounds
open StableHlo (held wp_hlo_within wp_allocateBuffer)

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the SparseCores' buffers are as the launch theorem asks. -/
theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the exchange's rounds (duties named by devices) -/

abbrev UH : Type := URounds (GSem nD τ sig) ℕ
abbrev UA : Type := URounds (GSem nD τ sig) (Dev nD)
abbrev UU : Type := UH × UA

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UA (MT nD τ sig (HIx 1) (Elt F) ℕ UU ℕ) :=
  (Emb.inr : Emb UA UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UA 𝕄).LandsIn (upEmb : UEmb _ 𝕄) := by unfold ER; infer_instance

theorem ownU_split (a : UH) (b : UA) : (ownU (a, b) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

/-! ## Counting through a lane's order -/

/-- The indices from `n` on, and those before `n`. -/
abbrev fromIx {N : ℕ} (n : ℕ) : Finset (Fin N) := Finset.univ.filter fun j => n ≤ j.val
abbrev belowIx {N : ℕ} (n : ℕ) : Finset (Fin N) := Finset.univ.filter fun j => j.val < n

theorem fromIx_step {N : ℕ} (i : Fin N) : (fromIx i.val : Finset (Fin N)) = insert i (fromIx (i.val + 1)) := by
  ext j; simp only [Finset.mem_filter, Finset.mem_univ, true_and, Finset.mem_insert, Fin.ext_iff]; omega
theorem fromIx_not_mem {N : ℕ} (i : Fin N) : i ∉ (fromIx (i.val + 1) : Finset (Fin N)) := by
  simp only [Finset.mem_filter, Finset.mem_univ, true_and]; omega
theorem belowIx_step {N : ℕ} (i : Fin N) : (belowIx (i.val + 1) : Finset (Fin N)) = insert i (belowIx i.val) := by
  ext j; simp only [Finset.mem_filter, Finset.mem_univ, true_and, Finset.mem_insert, Fin.ext_iff]; omega
theorem belowIx_not_mem {N : ℕ} (i : Fin N) : i ∉ (belowIx i.val : Finset (Fin N)) := by
  simp only [Finset.mem_filter, Finset.mem_univ, true_and]; omega
theorem fromIx_zero {N : ℕ} : (fromIx 0 : Finset (Fin N)) = Finset.univ := by
  ext j; simp
theorem fromIx_end {N : ℕ} : (fromIx N : Finset (Fin N)) = ∅ := by
  ext j; simp only [Finset.mem_filter, Finset.mem_univ, true_and, Finset.notMem_empty, iff_false]; omega
theorem belowIx_zero {N : ℕ} : (belowIx 0 : Finset (Fin N)) = ∅ := by
  ext j; simp
theorem belowIx_end {N : ℕ} : (belowIx N : Finset (Fin N)) = Finset.univ := by
  ext j; simp

theorem bigSep_from_pop {N : ℕ} (i : Fin N) (Φ : Fin N → sProp 𝕄) :
    (bigSep (fromIx i.val) Φ : sProp 𝕄) = iprop(Φ i ∗ bigSep (fromIx (i.val + 1)) Φ) := by
  rw [fromIx_step, SparseCore.bigSep_insert' (fromIx_not_mem i)]
theorem bigSep_below_push {N : ℕ} (i : Fin N) (Φ : Fin N → sProp 𝕄) :
    (bigSep (belowIx (i.val + 1)) Φ : sProp 𝕄) = iprop(Φ i ∗ bigSep (belowIx i.val) Φ) := by
  rw [belowIx_step, SparseCore.bigSep_insert' (belowIx_not_mem i)]

/-- The even and the odd lanes apart. -/
theorem bigSep_lanes (Φ : Fin 14 → sProp 𝕄) :
    (bigSep Finset.univ Φ : sProp 𝕄) = iprop((bigSep Finset.univ fun t : Fin 7 => Φ (laneOf 0 t)) ∗ bigSep Finset.univ fun t : Fin 7 => Φ (laneOf 1 t)) := by
  have himg : (Finset.univ : Finset (Fin 2 × Fin 7)).image (fun x => laneOf x.1 x.2) = Finset.univ := by decide
  have hinj : ∀ a ∈ (Finset.univ : Finset (Fin 2 × Fin 7)), ∀ b ∈ (Finset.univ : Finset (Fin 2 × Fin 7)),
      laneOf a.1 a.2 = laneOf b.1 b.2 → a = b := by decide
  rw [← himg, SparseCore.bigSep_image_of_injOn (fun a ha b hb e => hinj a ha b hb e), bigSep_univ_prod,
    show (Finset.univ : Finset (Fin 2)) = {0, 1} by decide, SparseCore.bigSep_insert' (by decide), bigSep_singleton]

/-- The lanes by the barrier's order of the peers, on device `d`. -/
theorem bigSep_across (d : Dev nD) (Φ : Fin 14 → sProp 𝕄) :
    (bigSep Finset.univ Φ : sProp 𝕄) = bigSep Finset.univ fun k : Fin 7 => iprop(Φ (lane d k 0) ∗ Φ (lane d k 1)) := by
  rw [← lane_image d, SparseCore.bigSep_image_of_injOn (fun a _ b _ e => lane_injective d e), bigSep_univ_prod]
  refine bigSep_congr fun k _ => ?_
  rw [show (Finset.univ : Finset (Fin 2)) = {0, 1} by decide, SparseCore.bigSep_insert' (by decide), bigSep_singleton]

/-! ## The kernel on SparseCore 0 and its arrays -/

/-- The kernel's grid coordinates on a SparseCore of its grid, as the program hands them to it; -/
def coordsS (c : Fin (grid0.bound 0)) : grid0.Coords := fun | 0 => c | ⟨_ + 1, h⟩ => absurd h (Nat.not_lt.2 (Nat.le_add_left _ _))
abbrev L₀ : grid0.Coords := coordsS ⟨0, by decide⟩
/-- SparseCore 0, as the kernel's own text names it. -/
abbrev c₀ : Fin τ.nSC := (L₀ 0).castLE hcore0
theorem c₀_val : c₀.val = 0 := by decide

abbrev loc_pin (d : Dev nD) : Loc nD τ sig := (SparseCore.T d).loc main_v2
abbrev loc_pout (d : Dev nD) : Loc nD τ sig := (SparseCore.T d).loc main_v4
abbrev loc_lin (d : Dev nD) : Loc nD τ sig := (SparseCore.T d).loc main_v7_0
abbrev loc_lout (d : Dev nD) : Loc nD τ sig := (SparseCore.T d).loc main_v7_1
abbrev M_pin : Memref sig .scScalar .hbm S4x2x512x898 .bf16 := Memref.whole main_v2_scs
abbrev M_pout : Memref sig .scScalar .hbm S4x2x128x1024 .bf16 := Memref.whole main_v4_scs
abbrev M_lin : Memref sig .scScalar .hbm S7x512x898 .bf16 := Memref.whole main_v7_0_scs
abbrev M_lout : Memref sig .scScalar .hbm S7x128x1024 .bf16 := Memref.whole main_v7_1_scs

/-- The kernel as the program applies it on a SparseCore. -/
theorem defs₀_scalar [FloatOps F] (c : Fin τ.nSC) :
    defs₀ (F := F) (.scScalar c) 0 () = SparseCore.onCore hcore0 (fun c => cc0_grad_exchange0 (coordsS c) M_pin (Memref.isWhole_whole _) M_lin (Memref.isWhole_whole _)
      M_pout (Memref.isWhole_whole _) M_lout (Memref.isWhole_whole _) M_lin (Memref.isWhole_whole _) M_lout (Memref.isWhole_whole _)
      cc0_scratch0 cc0_scratch1 cc0_scratch2 cc0_scratch3) ⟨⟩ c := rfl
/-- on SparseCore 0. -/
abbrev kern [FloatOps F] : Prog (TpuEff nD τ sig (Elt F) Λ₀ (.scScalar c₀)) PUnit :=
  cc0_grad_exchange0 L₀ M_pin (Memref.isWhole_whole _) M_lin (Memref.isWhole_whole _)
      M_pout (Memref.isWhole_whole _) M_lout (Memref.isWhole_whole _) M_lin (Memref.isWhole_whole _) M_lout (Memref.isWhole_whole _)
      cc0_scratch0 cc0_scratch1 cc0_scratch2 cc0_scratch3

/-! ### The views the transfers name -/

abbrev pinPiece (q : Dev nD) : Memref sig .scScalar .hbm S512x898 .bf16 :=
  (M_pin.slice (pieceR 512 898 q) (fun _ => rfl)).squeeze S512x898 squeezes_S1x1x512x898_S512x898
abbrev poutPiece (q : Dev nD) : Memref sig .scScalar .hbm S128x1024 .bf16 :=
  (M_pout.slice (pieceR 128 1024 q) (fun _ => rfl)).squeeze S128x1024 squeezes_S1x1x128x1024_S128x1024
abbrev linSlot (i : Fin 14) : Memref sig .scScalar .hbm S512x898 .bf16 :=
  (M_lin.slice (slotR 512 898 i) (fun _ => rfl)).squeeze S512x898 squeezes_S1x512x898_S512x898
abbrev loutSlot (i : Fin 14) : Memref sig .scScalar .hbm S128x1024 .bf16 :=
  (M_lout.slice (slotR 128 1024 i) (fun _ => rfl)).squeeze S128x1024 squeezes_S1x128x1024_S128x1024

theorem set_pinPiece (q : Dev nD) : (pinPiece q).view.set = pieceSet 512 898 q :=
  (View.set_reshape _ _).trans (View.set_slice_whole _ _)
theorem set_poutPiece (q : Dev nD) : (poutPiece q).view.set = pieceSet 128 1024 q :=
  (View.set_reshape _ _).trans (View.set_slice_whole _ _)
theorem set_linSlot (i : Fin 14) : (linSlot i).view.set = slotSet 512 898 i :=
  (View.set_reshape _ _).trans (View.set_slice_whole _ _)
theorem set_loutSlot (i : Fin 14) : (loutSlot i).view.set = slotSet 128 1024 i :=
  (View.set_reshape _ _).trans (View.set_slice_whole _ _)

/-- What one piece of either array credits its semaphores. -/
def Npin : ℕ := (linSlot 0).view.dmaCredit
def Npout : ℕ := (loutSlot 0).view.dmaCredit
theorem Npin_pos : 0 < Npin := View.dmaCredit_pos _ (by decide)
theorem Npout_pos : 0 < Npout := View.dmaCredit_pos _ (by decide)
theorem N_linSlot (i : Fin 14) : (linSlot i).view.dmaCredit = Npin := rfl
theorem N_loutSlot (i : Fin 14) : (loutSlot i).view.dmaCredit = Npout := rfl
/-- What lane `i` credits. -/
def credit (i : Fin 14) : ℕ := if i.val % 2 = 0 then Npin else Npout
theorem credit_pos (i : Fin 14) : 0 < credit i := by unfold credit; split; exacts [Npin_pos, Npout_pos]

/-! ## The cells -/

/-- The barrier, or a lane's send (0) or receive (1) cell. -/
abbrev Cell : Type := Unit ⊕ (Fin 2 × Fin 14)

/-- The cells' semaphores. -/
def asem : Cell → SemLoc sig
  | .inl _ => .reg barrier2
  | .inr (b, i) => .dma ⟨14 * b.val + 7 * (i.val % 2) + i.val / 2, by show _ < 28; have := b.isLt; have := i.isLt; omega⟩
/-- A semaphore's cell. -/
def cellOf : SemLoc sig → Cell
  | .reg _ => .inl ()
  | .dma k => .inr (⟨k.val / 14 % 2, by omega⟩, ⟨(2 * (k.val % 7) + k.val / 7 % 2) % 14, by omega⟩)
theorem cellOf_asem (j : Cell) : cellOf (asem j) = j := by
  rcases j with u | ⟨b, i⟩
  · rfl
  · revert b i; decide

/-- Cell `j` of device `d`. -/
abbrev acell (dj : Dev nD × Cell) : GSem nD τ sig := (S dj.1 c₀, asem dj.2)
theorem acell_injective : Function.Injective (acell : Dev nD × Cell → GSem nD τ sig) := fun a b e => by
  obtain ⟨h1, h2⟩ := Prod.mk.inj e
  refine Prod.ext (Prod.mk.inj h1).1 ?_
  rw [← cellOf_asem a.2, ← cellOf_asem b.2, h2]
abbrev bcell (d : Dev nD) : GSem nD τ sig := acell (d, .inl ())
abbrev lcell (d : Dev nD) (b : Fin 2) (i : Fin 14) : GSem nD τ sig := acell (d, .inr (b, i))

/-- Every device's cells; those scoped to the sequencer; the barriers. -/
def aCells : Finset (GSem nD τ sig) := Finset.univ.image acell
def laneCells : Finset (GSem nD τ sig) := Finset.univ.image fun x : Dev nD × (Fin 2 × Fin 14) => acell (x.1, .inr x.2)
def barCells : Finset (GSem nD τ sig) := Finset.univ.image bcell

theorem aCells_eq (Φ : GSem nD τ sig → sProp 𝕄) : bigSep aCells Φ = bigSep Finset.univ fun x : Dev nD × Cell => Φ (acell x) := by
  unfold aCells; exact SparseCore.bigSep_image_of_injOn (fun a _ b _ e => acell_injective e) Φ

theorem lev_bcell (d : Dev nD) : (K (F := F)).lev (bcell d) (some 0) = 3 :=
  (K (F := F)).lev_S_reg d c₀ (s := barrier2) (show barrier2 ≠ sc_start by decide) (show barrier2 ≠ sc_taskDone by decide) 0
theorem lev_lcell (d : Dev nD) (b : Fin 2) (i : Fin 14) : (K (F := F)).lev (lcell d b i) (some 0) = 5 := (K (F := F)).lev_S_dma d c₀ _ 0
theorem lev_acell_band (dj : Dev nD × Cell) : 8 * (0 : Fin 1).val + 3 ≤ (K (F := F)).lev (acell dj) (some 0) ∧ (K (F := F)).lev (acell dj) (some 0) ≤ 8 * (0 : Fin 1).val + 5 := by
  obtain ⟨d, u | ⟨b, i⟩⟩ := dj
  · rw [show acell (d, .inl u) = bcell d from rfl, lev_bcell]; decide
  · rw [show acell (d, .inr (b, i)) = lcell d b i from rfl, lev_lcell]; decide

end Cert.Exchange

end
-- ==== Proof.Schedule.lean ====
/-
  The protocol. Every cell has one round. The BARRIER of device `p` is paid one unit by each other device `q`, which
  hands over its two slots `p` will write: so whoever has passed its barrier owns, on every other device, the slots it
  sends into. A lane's SEND cell is paid by the lane's own copy and hands the sent piece back; a lane's RECEIVE cell is
  paid by the copy of the device at the other end and hands over the slot holding that device's piece.
-/
module

public import proofs.«01_k».proof.Proof.Setup

@[expose] public section

noncomputable section

namespace Cert.Exchange

open Cert.KernelIdeal Cert.KernelIdeal.Gen
open Idealize.ShloMosaic
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

/-- The two exchanged arrays of every device. -/
abbrev Srcs (F : FTy → Type) : Type := ((d : Dev nD) → Buf (Elt F) (loc_pin d)) × ((d : Dev nD) → Buf (Elt F) (loc_pout d))

variable (X : Srcs F)

/-! ## What is handed over -/

/-- Device `d`'s piece for the device at the other end of lane `i`; -/
def srcPts (d : Dev nD) (i : Fin 14) : sProp 𝕄 :=
  if i.val % 2 = 0 then loc_pin d ↦[pieceSet 512 898 (peer d i)]{fullShare} X.1 d else loc_pout d ↦[pieceSet 128 1024 (peer d i)]{fullShare} X.2 d
/-- its slot of lane `i`, holding anything; -/
def slotAny (d : Dev nD) (i : Fin 14) : sProp 𝕄 :=
  if i.val % 2 = 0 then iprop(∃ f, loc_lin d ↦[slotSet 512 898 i]{fullShare} f) else iprop(∃ f, loc_lout d ↦[slotSet 128 1024 i]{fullShare} f)
/-- the same slot, holding the piece for `d` of the device at the other end. -/
def slotVal (d : Dev nD) (i : Fin 14) : sProp 𝕄 :=
  if i.val % 2 = 0 then loc_lin d ↦[slotSet 512 898 i]{fullShare} (gathered 512 898 X.1 d) else loc_lout d ↦[slotSet 128 1024 i]{fullShare} (gathered 128 1024 X.2 d)
/-- The two slots of `d` that its `k`-th device across writes. -/
def slotPair (d : Dev nD) (k : Fin 7) : sProp 𝕄 := iprop(slotAny d (lane d k 0) ∗ slotAny d (lane d k 1))

instance srcPts_storable (d : Dev nD) (i : Fin 14) : BI.Storable (upEmb : UEmb _ 𝕄) (srcPts X d i) := by
  unfold srcPts; split <;> infer_instance
instance slotAny_storable (d : Dev nD) (i : Fin 14) : BI.Storable (upEmb : UEmb _ 𝕄) (slotAny d i : sProp 𝕄) := by
  unfold slotAny; split <;> infer_instance
instance slotVal_storable (d : Dev nD) (i : Fin 14) : BI.Storable (upEmb : UEmb _ 𝕄) (slotVal X d i) := by
  unfold slotVal; split <;> infer_instance
instance slotPair_storable (d : Dev nD) (k : Fin 7) : BI.Storable (upEmb : UEmb _ 𝕄) (slotPair d k : sProp 𝕄) := by
  unfold slotPair; infer_instance

/-- Which device across `p` the device `q` is. -/
def acrossIx (p q : Dev nD) : Fin 7 := ⟨((p.val ^^^ q.val) + 6) % 7, Nat.mod_lt _ (by decide)⟩
theorem acrossIx_across (d : Dev nD) (k : Fin 7) : acrossIx (across d k) d = k := by revert d k; decide
theorem acrossIx_across' (d : Dev nD) (k : Fin 7) : acrossIx d (across d k) = k := by revert d k; decide

/-! ## The schedule -/

def dutiesOf (p : Dev nD) : Cell → Finset (Dev nD)
  | .inl _ => Finset.univ.erase p
  | .inr _ => {p}
def amountOf : Cell → ℕ
  | .inl _ => 1
  | .inr (_, i) => credit i
def payloadOf (p : Dev nD) (s : Dev nD) : Cell → sProp 𝕄
  | .inl _ => slotPair s (acrossIx p s)
  | .inr (b, i) => if b = 0 then srcPts X p i else slotVal X p i

theorem amountOf_pos (j : Cell) : 0 < amountOf j := by
  rcases j with u | ⟨b, i⟩
  · exact Nat.one_pos
  · exact credit_pos i
instance payloadOf_storable (p s : Dev nD) (j : Cell) : BI.Storable (upEmb : UEmb _ 𝕄) (payloadOf X p s j) := by
  rcases j with u | ⟨b, i⟩
  · exact slotPair_storable s _
  · show BI.Storable upEmb (if b = 0 then srcPts X p i else slotVal X p i)
    split <;> infer_instance

/-- The schedule as the rounds library reads it: one round on every cell of every device. -/
def Rd : Rounds.Schedule (GSem nD τ sig) (Dev nD) 𝕄 where
  duties g r := if r = 0 then dutiesOf g.1.1 (cellOf g.2) else ∅
  unitless _ := False
  amount g _ _ := amountOf (cellOf g.2)
  payload g _ s := payloadOf X g.1.1 s (cellOf g.2)
  amount_pos _ _ _ _ := amountOf_pos _

instance Rd_payload_storable (g : GSem nD τ sig) (r : ℕ) (s : Dev nD) : BI.Storable (upEmb : UEmb _ 𝕄) ((Rd X).payload g r s) :=
  payloadOf_storable X _ _ _

theorem duties_later (g : GSem nD τ sig) : ∀ r, 1 ≤ r → (Rd X).duties g r = ∅ :=
  fun r hr => by dsimp only [Rd]; rw [if_neg (by omega)]
theorem duties_acell (p : Dev nD) (j : Cell) : (Rd X).duties (acell (p, j)) 0 = dutiesOf p j := by
  dsimp only [Rd]; rw [if_pos rfl, cellOf_asem]
theorem amount_acell (p : Dev nD) (j : Cell) (r : ℕ) (s : Dev nD) : (Rd X).amount (acell (p, j)) r s = amountOf j := by
  dsimp only [Rd]; rw [cellOf_asem]
theorem payload_acell (p : Dev nD) (j : Cell) (r : ℕ) (s : Dev nD) : (Rd X).payload (acell (p, j)) r s = payloadOf X p s j := by
  dsimp only [Rd]; rw [cellOf_asem]

theorem expect_bcell (p : Dev nD) : (Rd X).expect (bcell p) 0 = 7 := by
  unfold Schedule.expect Schedule.amountOf
  rw [duties_acell, Finset.sum_congr rfl fun s _ => amount_acell X p (.inl ()) 0 s, Finset.sum_const]
  revert p; decide
theorem expect_lcell (p : Dev nD) (b : Fin 2) (i : Fin 14) : (Rd X).expect (lcell p b i) 0 = credit i := by
  unfold Schedule.expect Schedule.amountOf
  rw [duties_acell, Finset.sum_congr rfl fun s _ => amount_acell X p (.inr (b, i)) 0 s]
  exact Finset.sum_singleton _ _

/-- What the barrier's round hands its owner: on every other device, the slots this one writes. -/
theorem pays_bcell (p : Dev nD) :
    bigSep ((Rd X).duties (bcell p) 0) (fun s => (Rd X).payload (bcell p) 0 s)
      = bigSep Finset.univ fun i : Fin 14 => (slotAny (peer p i) (back p i) : sProp 𝕄) := by
  rw [duties_acell, bigSep_across p, show dutiesOf p (.inl ()) = (Finset.univ : Finset (Fin 7)).image (across p) from (across_image p).symm,
    SparseCore.bigSep_image_of_injOn (fun a _ b _ e => across_injective p e)]
  refine bigSep_congr fun k _ => ?_
  rw [payload_acell, peer_lane, peer_lane, back_lane, back_lane]
  show slotPair (across p k) (acrossIx p (across p k)) = _
  rw [acrossIx_across']; rfl
/-- What a lane's round hands its owner. -/
theorem pays_lcell (p : Dev nD) (b : Fin 2) (i : Fin 14) :
    bigSep ((Rd X).duties (lcell p b i) 0) (fun s => (Rd X).payload (lcell p b i) 0 s) = if b = 0 then srcPts X p i else slotVal X p i := by
  rw [duties_acell, show dutiesOf p (.inr (b, i)) = {p} from rfl, bigSep_singleton, payload_acell]; rfl

/-! ## What each sequencer owes from the launch, and is owed -/

/-- The receive credits device `d` owes on its lanes from `n` on; -/
def recDebt (d : Dev nD) (n : ℕ) : CellTallies nD τ sig (HIx 1) :=
  ∑ i ∈ (fromIx n : Finset (Fin 14)), tallyAt (lcell (peer d i) 1 (back d i)) (some 0) (credit i)
/-- the barrier units it owes from its `n`-th device across on; -/
def barDebt (d : Dev nD) (n : ℕ) : CellTallies nD τ sig (HIx 1) :=
  ∑ k ∈ (fromIx n : Finset (Fin 7)), tallyAt (bcell (across d k)) (some 0) 1
/-- everything it owes. -/
def oxS (d : Dev nD) : CellTallies nD τ sig (HIx 1) := recDebt d 0 + barDebt d 0
/-- What device `p` is owed. -/
def owedS (p : Dev nD) : CellTallies nD τ sig (HIx 1) :=
  (∑ i : Fin 14, tallyAt (lcell p 1 i) (some 0) (credit i)) + tallyAt (bcell p) (some 0) 7

theorem recDebt_step (d : Dev nD) (i : Fin 14) :
    recDebt d i.val = recDebt d (i.val + 1) + tallyAt (lcell (peer d i) 1 (back d i)) (some 0) (credit i) := by
  unfold recDebt; rw [fromIx_step, Finset.sum_insert (fromIx_not_mem i), add_comm]
theorem barDebt_step (d : Dev nD) (k : Fin 7) :
    barDebt d k.val = barDebt d (k.val + 1) + tallyAt (bcell (across d k)) (some 0) 1 := by
  unfold barDebt; rw [fromIx_step, Finset.sum_insert (fromIx_not_mem k), add_comm]
theorem recDebt_end (d : Dev nD) : recDebt d 14 = 0 := by unfold recDebt; rw [fromIx_end, Finset.sum_empty]
theorem barDebt_end (d : Dev nD) : barDebt d 7 = 0 := by unfold barDebt; rw [fromIx_end, Finset.sum_empty]

theorem recDebt_pos {d : Dev nD} {n : ℕ} {g : GSem nD τ sig} {ι : HIx 1} (h : 0 < recDebt d n g ι) :
    ∃ i : Fin 14, g = lcell (peer d i) 1 (back d i) ∧ ι = some 0 := by
  unfold recDebt at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1, hg.2⟩
  · exact absurd rfl he
theorem barDebt_pos {d : Dev nD} {n : ℕ} {g : GSem nD τ sig} {ι : HIx 1} (h : 0 < barDebt d n g ι) :
    ∃ k : Fin 7, g = bcell (across d k) ∧ ι = some 0 := by
  unfold barDebt at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1, hg.2⟩
  · exact absurd rfl he
theorem oxS_pos {d : Dev nD} {g : GSem nD τ sig} {ι : HIx 1} (h : 0 < oxS d g ι) : ∃ x : Dev nD × Cell, g = acell x ∧ ι = some 0 := by
  unfold oxS at h
  rw [Pi.add_apply, Finsupp.add_apply] at h
  rcases Nat.add_pos_iff_pos_or_pos.mp h with h | h
  · obtain ⟨i, hg, hi⟩ := recDebt_pos h; exact ⟨_, hg, hi⟩
  · obtain ⟨k, hg, hi⟩ := barDebt_pos h; exact ⟨_, hg, hi⟩

theorem sum_tallyAt (g : GSem nD τ sig) (ι : HIx 1) (a : ℕ) : ∀ n : ℕ, ∑ _ : Fin n, tallyAt g ι a = (tallyAt g ι (n * a) : CellTallies nD τ sig (HIx 1))
  | 0 => by rw [Nat.zero_mul, tallyAt_zero]; exact Finset.sum_of_isEmpty _
  | n + 1 => by rw [Fin.sum_univ_castSucc, sum_tallyAt g ι a n, Nat.succ_mul, tallyAt_add]

/-- Summed over the owers, the debts are what each waiter is owed. -/
theorem oxS_regroup : (∑ d : Dev nD, oxS d) = ∑ p : Dev nD, owedS p := by
  unfold oxS owedS
  rw [Finset.sum_add_distrib, Finset.sum_add_distrib]
  congr 1
  · unfold recDebt
    rw [fromIx_zero, ← Fintype.sum_prod_type', ← Fintype.sum_prod_type']
    refine Fintype.sum_equiv crossing _ _ fun x => ?_
    show tallyAt _ _ _ = tallyAt (lcell (peer x.1 x.2) 1 (back x.1 x.2)) (some 0) (credit (back x.1 x.2))
    rw [show credit (back x.1 x.2) = credit x.2 by unfold credit; rw [back_array]]
  · unfold barDebt
    rw [fromIx_zero, Finset.sum_comm]
    calc (∑ k : Fin 7, ∑ d : Dev nD, (tallyAt (bcell (across d k)) (some 0) 1 : CellTallies nD τ sig (HIx 1)))
        = ∑ k : Fin 7, ∑ d : Dev nD, tallyAt (bcell d) (some 0) 1 := Finset.sum_congr rfl fun k _ =>
          Fintype.sum_equiv ⟨fun d => across d k, fun d => across d k, fun d => across_across d k, fun d => across_across d k⟩ _ _ fun d => rfl
      _ = ∑ d : Dev nD, ∑ k : Fin 7, tallyAt (bcell d) (some 0) 1 := Finset.sum_comm
      _ = _ := Finset.sum_congr rfl fun d _ => sum_tallyAt _ _ 1 7

/-- The credit device `p` is dealt. -/
abbrev credsOf (p : Dev nD) : sProp 𝕄 :=
  iprop((bigSep Finset.univ fun i : Fin 14 => cred (tallyAt (lcell p 1 i) (some 0) (credit i))) ∗ cred (tallyAt (bcell p) (some 0) 7))
theorem cred_owedS (p : Dev nD) : (cred (owedS p) : sProp 𝕄) ⊢ credsOf p := by
  unfold owedS credsOf
  rw [← SparseCore.Cfg.cred_finsum]
  exact (cred_add _ _).1

/-! ## The tokens, per holder -/

abbrev TIx : Type := Fin 7 ⊕ (Fin 2 × Fin 14)
/-- The tokens device `d` holds: its duty on each barrier across, on its own send cells, on the receive cells it pays. -/
def gtok (x : Dev nD × TIx) : GSem nD τ sig × ℕ × Dev nD := match x.2 with
  | .inl k => (bcell (across x.1 k), 0, x.1)
  | .inr (b, i) => if b = 0 then (lcell x.1 0 i, 0, x.1) else (lcell (peer x.1 i) 1 (back x.1 i), 0, peer x.1 i)
/-- Whose token it is, and which. -/
def holder (t : GSem nD τ sig × ℕ × Dev nD) : Dev nD × TIx := match cellOf t.1.2 with
  | .inl _ => (t.2.2, .inl (acrossIx t.1.1.1 t.2.2))
  | .inr (b, i) => if b = 0 then (t.1.1.1, .inr (0, i)) else (peer t.1.1.1 i, .inr (1, back t.1.1.1 i))
theorem holder_gtok (x : Dev nD × TIx) : holder (gtok x) = x := by
  obtain ⟨d, k | ⟨b, i⟩⟩ := x
  · show (d, Sum.inl (acrossIx (across d k) d)) = _; rw [acrossIx_across]
  · have hb : b = 0 ∨ b = 1 := by revert b; decide
    rcases hb with rfl | rfl
    · show holder (lcell d 0 i, 0, d) = _
      unfold holder; dsimp only; rw [cellOf_asem]; rfl
    · show holder (lcell (peer d i) 1 (back d i), 0, peer d i) = _
      unfold holder; dsimp only; rw [cellOf_asem]
      show (peer (peer d i) (back d i), Sum.inr ((1 : Fin 2), back (peer d i) (back d i))) = _
      rw [peer_peer, back_back]
theorem gtok_injective : Function.Injective gtok := fun a b e => by rw [← holder_gtok a, ← holder_gtok b, e]
/-- Every token; -/
def aToks : Finset (GSem nD τ sig × ℕ × Dev nD) := Finset.univ.image gtok
/-- device `d`'s. -/
abbrev barTok (d : Dev nD) (k : Fin 7) : sProp 𝕄 := dutyTok ER (bcell (across d k)) 0 d
abbrev sendTok (d : Dev nD) (i : Fin 14) : sProp 𝕄 := dutyTok ER (lcell d 0 i) 0 d
abbrev recvTok (d : Dev nD) (i : Fin 14) : sProp 𝕄 := dutyTok ER (lcell (peer d i) 1 (back d i)) 0 (peer d i)
abbrev toksOf (d : Dev nD) : sProp 𝕄 := iprop(bigSep Finset.univ (barTok d) ∗ bigSep Finset.univ (sendTok d) ∗ bigSep Finset.univ (recvTok d))
theorem toks_eq : (bigSep aToks fun x => (dutyTok ER x.1 x.2.1 x.2.2 : sProp 𝕄)) ⊢ bigSep Finset.univ fun d : Dev nD => toksOf d := by
  unfold aToks
  rw [SparseCore.bigSep_image_of_injOn (fun a _ b _ e => gtok_injective e), bigSep_univ_prod]
  have h : ∀ d : Dev nD, (bigSep Finset.univ fun i : TIx => (dutyTok ER (gtok (d, i)).1 (gtok (d, i)).2.1 (gtok (d, i)).2.2 : sProp 𝕄)) = toksOf d := fun d => by
    rw [bigSep_univ_sum, bigSep_univ_prod, show (Finset.univ : Finset (Fin 2)) = {0, 1} by decide, SparseCore.bigSep_insert' (by decide), bigSep_singleton]
    rfl
  exact Entails.of_eq (bigSep_congr fun d _ => h d)

/-! ## The cells' invariants, each device's kit -/

/-- Every device's cell invariants, under names `κ` of the launch's choosing; -/
abbrev invsA (κ : GSem nD τ sig → ℕ) : sProp 𝕄 := bigSep Finset.univ fun x : Dev nD × Cell => cellInv ER (Rd X) (κ (acell x)) (acell x)
/-- that each has reached round 0. -/
abbrev reachedA : sProp 𝕄 := bigSep Finset.univ fun x : Dev nD × Cell => reached ER (acell x) 0
/-- What every device is handed alike, -/
abbrev shared : sProp 𝕄 := iprop((∃ κ : GSem nD τ sig → ℕ, invsA X κ) ∗ reachedA)
/-- what each is handed of its own: its positions at the origin, its tokens, its credit. -/
abbrev atPosAll (d : Dev nD) : sProp 𝕄 := bigSep Finset.univ fun j : Cell => atPos ER (acell (d, j)) 0 ∅ 0
theorem atPosAll_eq (d : Dev nD) : (atPosAll d : sProp 𝕄)
    = iprop(atPos ER (bcell d) 0 ∅ 0 ∗ (bigSep Finset.univ fun i : Fin 14 => atPos ER (lcell d 0 i) 0 ∅ 0) ∗ bigSep Finset.univ fun i : Fin 14 => atPos ER (lcell d 1 i) 0 ∅ 0) := by
  unfold atPosAll
  rw [bigSep_univ_sum, bigSep_univ_prod, show (Finset.univ : Finset (Fin 2)) = {0, 1} by decide, SparseCore.bigSep_insert' (by decide), bigSep_singleton,
    show (Finset.univ : Finset Unit) = {()} by decide, bigSep_singleton]
  rfl
abbrev mine (d : Dev nD) : sProp 𝕄 := iprop(atPosAll d ∗ toksOf d ∗ credsOf d)
/-- Device `d`'s kit for the protocol. -/
def kit (d : Dev nD) : sProp 𝕄 := iprop(shared X ∗ mine d)

theorem inv_of (κ : GSem nD τ sig → ℕ) (p : Dev nD) (j : Cell) : invsA X κ ⊢ cellInv ER (Rd X) (κ (acell (p, j))) (acell (p, j)) :=
  bigSep_elim (Φ := fun x : Dev nD × Cell => cellInv ER (Rd X) (κ (acell x)) (acell x)) (i := (p, j)) (Finset.mem_univ _)
theorem reached_of (p : Dev nD) (j : Cell) : (reachedA : sProp 𝕄) ⊢ reached ER (acell (p, j)) 0 :=
  bigSep_elim (Φ := fun x : Dev nD × Cell => (reached ER (acell x) 0 : sProp 𝕄)) (i := (p, j)) (Finset.mem_univ _)

end Cert.Exchange

end
-- ==== Proof.Arrays.lean ====
/-
  The arrays whole and in parts: a source array is its own device's piece and the seven the lanes send, a landing array
  its seven slots.
-/
module

public import proofs.«01_k».proof.Proof.Schedule

@[expose] public section

noncomputable section

namespace Cert.Exchange

open Cert.KernelIdeal Cert.KernelIdeal.Gen
open Idealize.ShloMosaic
open SparseCore (S V T)
open SparseCore.Cfg (HIx)
open Idealize.SL RA BI BI.BIBase BI.Laws ProofMode Sem

variable {F : FTy → Type}

local notation "𝕄" => MT nD τ sig (HIx 1) (Elt F) ℕ UU ℕ

variable (X : Srcs F)

/-- Cut over the devices' pieces, then the other devices' by the lanes of one array. -/
theorem pieces_split {A B : ℕ} (d : Dev nD) (a : Fin 2) (Φ : Finset (SrcS A B).Idx → sProp 𝕄)
    (h : Φ Finset.univ = bigSep Finset.univ fun q : Dev nD => Φ (pieceSet A B q)) :
    Φ Finset.univ = iprop(Φ (pieceSet A B d) ∗ bigSep Finset.univ fun t : Fin 7 => Φ (pieceSet A B (peer d (laneOf a t)))) := by
  rw [h, SparseCore.bigSep_erase' (Finset.mem_univ d), ← peer_even_image d a,
    SparseCore.bigSep_image_of_injOn (fun _ _ _ _ e => peer_even_injective d a e)]

theorem pin_split (d : Dev nD) (f : Buf (Elt F) (loc_pin d)) : (loc_pin d ↦{fullShare} f : sProp 𝕄)
    = iprop((loc_pin d ↦[pieceSet 512 898 d]{fullShare} f) ∗ bigSep Finset.univ fun t : Fin 7 => loc_pin d ↦[pieceSet 512 898 (peer d (laneOf 0 t))]{fullShare} f) := by
  refine pieces_split d 0 (fun I => loc_pin d ↦[I]{fullShare} f) ?_
  have h := pointsTo_biUnion (ℓ := loc_pin d) (q := fullShare) (f := f) (Ix := HIx 1) (Name := ℕ) (U := UU) (Lvl := ℕ) (Finset.univ : Finset (Dev nD)) (pieceSet 512 898)
    (fun q _ q' _ hq => pieces_disjoint 512 898 q q' hq)
  exact Eq.trans (congrArg (fun I => (loc_pin d ↦[I]{fullShare} f : sProp 𝕄)) (pieces_cover 512 898).symm) h

theorem pout_split (d : Dev nD) (f : Buf (Elt F) (loc_pout d)) : (loc_pout d ↦{fullShare} f : sProp 𝕄)
    = iprop((loc_pout d ↦[pieceSet 128 1024 d]{fullShare} f) ∗ bigSep Finset.univ fun t : Fin 7 => loc_pout d ↦[pieceSet 128 1024 (peer d (laneOf 1 t))]{fullShare} f) := by
  refine pieces_split d 1 (fun I => loc_pout d ↦[I]{fullShare} f) ?_
  have h := pointsTo_biUnion (ℓ := loc_pout d) (q := fullShare) (f := f) (Ix := HIx 1) (Name := ℕ) (U := UU) (Lvl := ℕ) (Finset.univ : Finset (Dev nD)) (pieceSet 128 1024)
    (fun q _ q' _ hq => pieces_disjoint 128 1024 q q' hq)
  exact Eq.trans (congrArg (fun I => (loc_pout d ↦[I]{fullShare} f : sProp 𝕄)) (pieces_cover 128 1024).symm) h

theorem lin_split (d : Dev nD) (f : Buf (Elt F) (loc_lin d)) : (loc_lin d ↦{fullShare} f : sProp 𝕄)
    = bigSep Finset.univ fun t : Fin 7 => loc_lin d ↦[slotSet 512 898 (laneOf 0 t)]{fullShare} f := by
  have h := pointsTo_biUnion (ℓ := loc_lin d) (q := fullShare) (f := f) (Ix := HIx 1) (Name := ℕ) (U := UU) (Lvl := ℕ) (Finset.univ : Finset (Fin 7)) (fun t => slotSet 512 898 (laneOf 0 t))
    (fun t _ t' _ ht => slots_disjoint 512 898 0 t t' ht)
  exact Eq.trans (congrArg (fun I => (loc_lin d ↦[I]{fullShare} f : sProp 𝕄)) (slots_cover 512 898 0).symm) h

theorem lout_split (d : Dev nD) (f : Buf (Elt F) (loc_lout d)) : (loc_lout d ↦{fullShare} f : sProp 𝕄)
    = bigSep Finset.univ fun t : Fin 7 => loc_lout d ↦[slotSet 128 1024 (laneOf 1 t)]{fullShare} f := by
  have h := pointsTo_biUnion (ℓ := loc_lout d) (q := fullShare) (f := f) (Ix := HIx 1) (Name := ℕ) (U := UU) (Lvl := ℕ) (Finset.univ : Finset (Fin 7)) (fun t => slotSet 128 1024 (laneOf 1 t))
    (fun t _ t' _ ht => slots_disjoint 128 1024 1 t t' ht)
  exact Eq.trans (congrArg (fun I => (loc_lout d ↦[I]{fullShare} f : sProp 𝕄)) (slots_cover 128 1024 1).symm) h

theorem lane_even (t : Fin 7) : (laneOf 0 t).val % 2 = 0 := by revert t; decide
theorem lane_odd (t : Fin 7) : ¬ (laneOf 1 t).val % 2 = 0 := by revert t; decide

theorem srcPts_even (d : Dev nD) (t : Fin 7) : srcPts X d (laneOf 0 t) = (loc_pin d ↦[pieceSet 512 898 (peer d (laneOf 0 t))]{fullShare} X.1 d : sProp 𝕄) :=
  if_pos (lane_even t)
theorem srcPts_odd (d : Dev nD) (t : Fin 7) : srcPts X d (laneOf 1 t) = (loc_pout d ↦[pieceSet 128 1024 (peer d (laneOf 1 t))]{fullShare} X.2 d : sProp 𝕄) :=
  if_neg (lane_odd t)
theorem slotAny_even (d : Dev nD) (t : Fin 7) : slotAny d (laneOf 0 t) = (iprop(∃ f, loc_lin d ↦[slotSet 512 898 (laneOf 0 t)]{fullShare} f) : sProp 𝕄) :=
  if_pos (lane_even t)
theorem slotAny_odd (d : Dev nD) (t : Fin 7) : slotAny d (laneOf 1 t) = (iprop(∃ f, loc_lout d ↦[slotSet 128 1024 (laneOf 1 t)]{fullShare} f) : sProp 𝕄) :=
  if_neg (lane_odd t)
theorem slotVal_even (d : Dev nD) (t : Fin 7) : slotVal X d (laneOf 0 t) = (loc_lin d ↦[slotSet 512 898 (laneOf 0 t)]{fullShare} (gathered 512 898 X.1 d) : sProp 𝕄) :=
  if_pos (lane_even t)
theorem slotVal_odd (d : Dev nD) (t : Fin 7) : slotVal X d (laneOf 1 t) = (loc_lout d ↦[slotSet 128 1024 (laneOf 1 t)]{fullShare} (gathered 128 1024 X.2 d) : sProp 𝕄) :=
  if_neg (lane_odd t)

/-- A device's own pieces, which no lane moves. -/
abbrev ownPieces (d : Dev nD) : sProp 𝕄 :=
  iprop((loc_pin d ↦[pieceSet 512 898 d]{fullShare} X.1 d) ∗ loc_pout d ↦[pieceSet 128 1024 d]{fullShare} X.2 d)

theorem srcs_eq (d : Dev nD) : (bigSep Finset.univ (srcPts X d) : sProp 𝕄)
    = iprop((bigSep Finset.univ fun t : Fin 7 => loc_pin d ↦[pieceSet 512 898 (peer d (laneOf 0 t))]{fullShare} X.1 d)
        ∗ bigSep Finset.univ fun t : Fin 7 => loc_pout d ↦[pieceSet 128 1024 (peer d (laneOf 1 t))]{fullShare} X.2 d) := by
  rw [bigSep_lanes, bigSep_congr fun t _ => srcPts_even X d t, bigSep_congr fun t _ => srcPts_odd X d t]

theorem srcs_split (d : Dev nD) :
    iprop((loc_pin d ↦{fullShare} X.1 d) ∗ loc_pout d ↦{fullShare} X.2 d) ⊢ iprop(ownPieces X d ∗ bigSep Finset.univ (srcPts X d)) := by
  rw [srcs_eq, pin_split, pout_split]
  iintro ⟨⟨H1, H2⟩, H3, H4⟩
  isplitl [H1 H3]
  · isplitl [H1] <;> iassumption
  · isplitl [H2] <;> iassumption
theorem srcs_join (d : Dev nD) :
    iprop(ownPieces X d ∗ bigSep Finset.univ (srcPts X d)) ⊢ iprop((loc_pin d ↦{fullShare} X.1 d) ∗ loc_pout d ↦{fullShare} X.2 d) := by
  rw [srcs_eq, pin_split, pout_split]
  iintro ⟨⟨H1, H2⟩, H3, H4⟩
  isplitl [H1 H3]
  · isplitl [H1] <;> iassumption
  · isplitl [H2] <;> iassumption

theorem slots_open (d : Dev nD) :
    iprop((∃ f, loc_lin d ↦{fullShare} f) ∗ ∃ f, loc_lout d ↦{fullShare} f) ⊢ (bigSep Finset.univ fun i : Fin 14 => slotAny d i : sProp 𝕄) := by
  rw [bigSep_lanes, bigSep_congr fun t _ => slotAny_even (F := F) d t, bigSep_congr fun t _ => slotAny_odd (F := F) d t]
  iintro ⟨⟨%f, H1⟩, %g, H2⟩
  ihave H1' := (Entails.of_eq (lin_split d f)) $$ H1
  ihave H2' := (Entails.of_eq (lout_split d g)) $$ H2
  isplitl [H1']
  · iapply (SparseCore.ent (bigSep_mono (Φ := fun t : Fin 7 => loc_lin d ↦[slotSet 512 898 (laneOf 0 t)]{fullShare} f)
      (fun t _ => show (loc_lin d ↦[slotSet 512 898 (laneOf 0 t)]{fullShare} f : sProp 𝕄) ⊢ iprop(∃ f, loc_lin d ↦[slotSet 512 898 (laneOf 0 t)]{fullShare} f) from by
        iintro H; iexists f; iexact H)))
    iexact H1'
  · iapply (SparseCore.ent (bigSep_mono (Φ := fun t : Fin 7 => loc_lout d ↦[slotSet 128 1024 (laneOf 1 t)]{fullShare} g)
      (fun t _ => show (loc_lout d ↦[slotSet 128 1024 (laneOf 1 t)]{fullShare} g : sProp 𝕄) ⊢ iprop(∃ f, loc_lout d ↦[slotSet 128 1024 (laneOf 1 t)]{fullShare} f) from by
        iintro H; iexists g; iexact H)))
    iexact H2'

theorem slots_join (d : Dev nD) : (bigSep Finset.univ (slotVal X d) : sProp 𝕄)
    = iprop((loc_lin d ↦{fullShare} (gathered 512 898 X.1 d)) ∗ loc_lout d ↦{fullShare} (gathered 128 1024 X.2 d)) := by
  rw [bigSep_lanes, bigSep_congr fun t _ => slotVal_even X d t, bigSep_congr fun t _ => slotVal_odd X d t, lin_split, lout_split]

end Cert.Exchange

end
-- ==== Proof.Steps.lean ====
/-
  One step of the kernel at a time: a signal, the barrier's wait, a send, a wait for a lane's cell. Between the steps the
  device holds one of three states: `SigSt n` before its `n`-th signal, `SendSt n` before its `n`-th send, `WaitSt b n`
  before its `n`-th wait for the receive (`b = 1`) or send (`b = 0`) cells. Every cell is closed — its counter back at
  zero — as soon as its one round is over.
-/
module

public import proofs.«01_k».proof.Proof.Schedule

@[expose] public section

noncomputable section

namespace Cert.Exchange

open Cert.KernelIdeal Cert.KernelIdeal.Gen
open Idealize.ShloMosaic
open ValueIdx
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-! ## What a landing writes -/

theorem pts_pinPiece (d : Dev nD) (q : Dev nD) (f : Buf (Elt F) (loc_pin d)) :
    ((pinPiece q).view.loc (S d c₀) ↦[(pinPiece q).view.set]{fullShare} f : sProp 𝕄) = (loc_pin d ↦[pieceSet 512 898 q]{fullShare} f) := by
  rw [set_pinPiece]
theorem pts_poutPiece (d : Dev nD) (q : Dev nD) (f : Buf (Elt F) (loc_pout d)) :
    ((poutPiece q).view.loc (S d c₀) ↦[(poutPiece q).view.set]{fullShare} f : sProp 𝕄) = (loc_pout d ↦[pieceSet 128 1024 q]{fullShare} f) := by
  rw [set_poutPiece]
theorem pts_linSlot (d : Dev nD) (i : Fin 14) (f : Buf (Elt F) (loc_lin d)) :
    ((linSlot i).view.loc (S d c₀) ↦[(linSlot i).view.set]{fullShare} f : sProp 𝕄) = (loc_lin d ↦[slotSet 512 898 i]{fullShare} f) := by
  rw [set_linSlot]
theorem pts_loutSlot (d : Dev nD) (i : Fin 14) (f : Buf (Elt F) (loc_lout d)) :
    ((loutSlot i).view.loc (S d c₀) ↦[(loutSlot i).view.set]{fullShare} f : sProp 𝕄) = (loc_lout d ↦[slotSet 128 1024 i]{fullShare} f) := by
  rw [set_loutSlot]

/-- The piece a device reads for a peer, written to the peer's slot, is what that slot is to hold. -/
theorem landed_lin (d : Dev nD) (i : Fin 14) (fd : Buf (Elt F) (loc_lin (peer d i))) :
    ∀ j ∈ (linSlot (back d i)).view.set,
      ((linSlot (back d i)).view.write (Elt F) fd ((pinPiece (peer d i)).view.read (Elt F) (X.1 d)) Finset.univ) j = gathered 512 898 X.1 (peer d i) j := by
  intro j hj
  obtain ⟨x, -, rfl⟩ := Finset.mem_map.mp hj
  rw [View.write_emb]
  have he : (linSlot (back d i)).view.emb x = ix3 (⟨(back d i).val / 2, by have := (back d i).isLt; omega⟩ : Fin 7) (x 0 : Fin 512) (x 1 : Fin 898) :=
    slotR_emb 512 898 (back d i) _ x
  have hs : (pinPiece (peer d i)).view.emb x = ix4 (⟨(peer d i).val / 2, by have : (peer d i).val < 8 := (peer d i).isLt; omega⟩ : Fin 4) (⟨(peer d i).val % 2, by omega⟩ : Fin 2) (x 0 : Fin 512) (x 1 : Fin 898) :=
    pieceR_emb 512 898 (peer d i) _ x
  have hp : peer (peer d i) (laneOf 0 (⟨(back d i).val / 2, by have := (back d i).isLt; omega⟩ : Fin 7)) = d := by
    rw [peer_congr _ _ (back d i) (by dsimp only; simp), peer_peer]
  rw [he, if_pos (Finset.mem_univ x)]
  show X.1 d ((pinPiece (peer d i)).view.emb x) = X.1 (peer (peer d i) (laneOf 0 (⟨(back d i).val / 2, by have := (back d i).isLt; omega⟩ : Fin 7))) _
  rw [hs, hp]; rfl
theorem landed_lout (d : Dev nD) (i : Fin 14) (fd : Buf (Elt F) (loc_lout (peer d i))) :
    ∀ j ∈ (loutSlot (back d i)).view.set,
      ((loutSlot (back d i)).view.write (Elt F) fd ((poutPiece (peer d i)).view.read (Elt F) (X.2 d)) Finset.univ) j = gathered 128 1024 X.2 (peer d i) j := by
  intro j hj
  obtain ⟨x, -, rfl⟩ := Finset.mem_map.mp hj
  rw [View.write_emb]
  have he : (loutSlot (back d i)).view.emb x = ix3 (⟨(back d i).val / 2, by have := (back d i).isLt; omega⟩ : Fin 7) (x 0 : Fin 128) (x 1 : Fin 1024) :=
    slotR_emb 128 1024 (back d i) _ x
  have hs : (poutPiece (peer d i)).view.emb x = ix4 (⟨(peer d i).val / 2, by have : (peer d i).val < 8 := (peer d i).isLt; omega⟩ : Fin 4) (⟨(peer d i).val % 2, by omega⟩ : Fin 2) (x 0 : Fin 128) (x 1 : Fin 1024) :=
    pieceR_emb 128 1024 (peer d i) _ x
  have hp : peer (peer d i) (laneOf 0 (⟨(back d i).val / 2, by have := (back d i).isLt; omega⟩ : Fin 7)) = d := by
    rw [peer_congr _ _ (back d i) (by dsimp only; simp), peer_peer]
  rw [he, if_pos (Finset.mem_univ x)]
  show X.2 d ((poutPiece (peer d i)).view.emb x) = X.2 (peer (peer d i) (laneOf 0 (⟨(back d i).val / 2, by have := (back d i).isLt; omega⟩ : Fin 7))) _
  rw [hs, hp]; rfl

/-! ## The states -/

/-- A wait recorded at the call's index keeps the recorded set admissible. -/
theorem recorded_insert {W W' : Waits sig (HIx 1)} (sm : SemLoc sig) (hW' : ∀ p ∈ W', p ∈ W ∨ p.2 = none ∨ p.2 = some (0 : Fin 1)) :
    ∀ p ∈ insert (sm, some (0 : Fin 1)) W', p ∈ W ∨ p.2 = none ∨ p.2 = some (0 : Fin 1) := fun p hp => by
  rcases Finset.mem_insert.mp hp with rfl | hp
  · exact .inr (.inr rfl)
  · exact hW' p hp

/-- The invariants and the rounds reached, for everyone; -/
abbrev Ctx (κ : GSem nD τ sig → ℕ) : sProp 𝕄 := iprop(invsA X κ ∗ reachedA)
/-- owing `Y` beside the launch's `O`, the waits recorded so far admissible. -/
def owing (d : Dev nD) (O : CellTallies nD τ sig (HIx 1)) (W : Waits sig (HIx 1)) (Y : CellTallies nD τ sig (HIx 1)) : sProp 𝕄 :=
  iprop(∃ W', ⌜∀ p ∈ W', p ∈ W ∨ p.2 = none ∨ p.2 = some (0 : Fin 1)⌝ ∗ owes (S d c₀) (O + Y) W')

/-- Before signal `n`: its barrier units owed, their tokens and the slots they hand over held. -/
def SigSt (d : Dev nD) (O : CellTallies nD τ sig (HIx 1)) (W : Waits sig (HIx 1)) (n : ℕ) : sProp 𝕄 :=
  iprop(owing d O W (recDebt d 0 + barDebt d n) ∗ bigSep (fromIx n) fun k : Fin 7 => iprop(barTok d k ∗ slotPair d k))
/-- What lane `i`'s send spends. -/
abbrev sendRes (d : Dev nD) (i : Fin 14) : sProp 𝕄 := iprop(srcPts X d i ∗ slotAny (peer d i) (back d i) ∗ sendTok d i ∗ recvTok d i)
/-- Before send `n`. -/
def SendSt (d : Dev nD) (O : CellTallies nD τ sig (HIx 1)) (W : Waits sig (HIx 1)) (n : ℕ) : sProp 𝕄 :=
  iprop(owing d O W (recDebt d n) ∗ bigSep (fromIx n) (sendRes X d)
    ∗ bigSep (belowIx n) fun i : Fin 14 => cred (tallyAt (lcell d 0 i) (some 0) (credit i)))
/-- What a lane's round hands over. -/
abbrev lanePay (b : Fin 2) (d : Dev nD) (i : Fin 14) : sProp 𝕄 := if b = 0 then srcPts X d i else slotVal X d i
/-- Before wait `n` on the cells `b`. -/
def WaitSt (b : Fin 2) (d : Dev nD) (O : CellTallies nD τ sig (HIx 1)) (W : Waits sig (HIx 1)) (n : ℕ) : sProp 𝕄 :=
  iprop(owing d O W 0 ∗ (bigSep (fromIx n) fun i : Fin 14 => iprop(cred (tallyAt (lcell d b i) (some 0) (credit i)) ∗ atPos ER (lcell d b i) 0 ∅ 0))
    ∗ bigSep (belowIx n) fun i : Fin 14 => iprop(semVal (lcell d b i) 0 ∗ lanePay X b d i))

/-- A wait on the barrier, owing receive credits and nothing below level 7 else; -/
theorem mayWait_bar (d : Dev nD) (O : CellTallies nD τ sig (HIx 1)) (hOlev : ∀ g ι, 0 < O g ι → 8 * (0 : Fin 1).val + 7 ≤ (K (F := F)).lev g ι) :
    (levAts (K (F := F)).L (K (F := F)).lev : sProp 𝕄) ⊢ MayWait (S d c₀) (asem (.inl ())) (some 0) (O + recDebt d 0) :=
  (K (F := F)).mayOwe_of_bound 3 (fun p hp => by rw [Finset.mem_singleton] at hp; subst hp; exact le_of_eq (lev_bcell d))
    fun g ι hg => by
      rw [Pi.add_apply, Finsupp.add_apply] at hg
      rcases Nat.add_pos_iff_pos_or_pos.mp hg with h | h
      · exact lt_of_lt_of_le (by decide) (hOlev g ι h)
      · obtain ⟨i, rfl, rfl⟩ := recDebt_pos h
        rw [lev_lcell]; decide
/-- a wait on a lane's cell, owing nothing of the protocol. -/
theorem mayWait_lane (d : Dev nD) (b : Fin 2) (i : Fin 14) (O : CellTallies nD τ sig (HIx 1)) (hOlev : ∀ g ι, 0 < O g ι → 8 * (0 : Fin 1).val + 7 ≤ (K (F := F)).lev g ι) :
    (levAts (K (F := F)).L (K (F := F)).lev : sProp 𝕄) ⊢ MayWait (S d c₀) (asem (.inr (b, i))) (some 0) (O + 0) :=
  (K (F := F)).mayOwe_of_bound 5 (fun p hp => by rw [Finset.mem_singleton] at hp; subst hp; exact le_of_eq (lev_lcell d b i))
    fun g ι hg => by
      rw [add_zero] at hg
      exact lt_of_lt_of_le (by decide) (hOlev g ι hg)

/-! ## The steps -/

section Steps
variable [FloatOps F] (κ : GSem nD τ sig → ℕ) (d : Dev nD) (O : CellTallies nD τ sig (HIx 1)) (W : Waits sig (HIx 1))

/-- Signal `k`: one unit to the barrier across, handing over the two slots that device writes here. -/
theorem wp_sig (k : Fin 7) (p : Dev nD) (hp : p = across d k) (n : ℕ) (hn : n = 1)
    {β : Type} {cont : PUnit → Prog (TpuEff nD τ sig (Elt F) Λ₀ (.scScalar c₀)) β} {Q : β → sProp 𝕄} :
    iprop(Ctx X κ ∗ SigSt d O W k.val)
      ⊢ iprop((SigSt d O W (k.val + 1) -∗ wp frame (wpE (defs₀ (F := F)) 𝒱₀ (S d c₀) none) Set.univ (cont ⟨⟩) Q)
          -∗ wp frame (wpE (defs₀ (F := F)) 𝒱₀ (S d c₀) none) Set.univ (.op (.semSignal (S p c₀) barrier2 n) cont) Q) := by
  subst hp hn
  unfold SigSt owing
  rw [bigSep_from_pop]
  iintro ⟨⟨#HI, #HR⟩, ⟨%W', %hW', HO⟩, ⟨Ht, Hp⟩, Hrest⟩ Hk
  iapply (Rounds.wp_signal 𝒱₀ ER (Rd X) (S d c₀) none (dst := S (across d k) c₀) (κ := κ (bcell (across d k))) (r := 0) (d := d)
      (by rw [show ((S (across d k) c₀, SemLoc.reg barrier2) : GSem nD τ sig) = bcell (across d k) from rfl, duties_acell]
          exact Finset.mem_erase.mpr ⟨(across_ne d k).symm, Finset.mem_univ _⟩)
      (k' := 1) (show _ = 1 from amount_acell X (across d k) (.inl ()) 0 d) (some 0) (O₀ := O + (recDebt d 0 + barDebt d k.val)) (O + (recDebt d 0 + barDebt d (k.val + 1)))
      (by rw [barDebt_step d k, ← add_assoc, ← add_assoc, ← add_assoc]; rfl)) $$ [Ht Hp HO]
  · isplitr; · iapply (inv_of X κ (across d k) (.inl ())); iexact HI
    isplitl [HO]; · iexact HO
    isplitl [Ht]; · iexact Ht
    isplitl [Hp]
    · iapply (SparseCore.ent (Entails.of_eq (show slotPair d k = (Rd X).payload (S (across d k) c₀, SemLoc.reg barrier2) 0 d by
        rw [show (Rd X).payload (S (across d k) c₀, SemLoc.reg barrier2) 0 d = _ from payload_acell X (across d k) (.inl ()) 0 d]; show slotPair d k = slotPair d (acrossIx (across d k) d); rw [acrossIx_across])))
      iexact Hp
    iapply (reached_of (across d k) (.inl ())); iexact HR
  iintro HO
  iapply Hk
  isplitl [HO]
  · iexists W'; isplitr; · ipureintro; exact hW'
    iexact HO
  iexact Hrest

/-- The barrier's wait: past it, the slots this device writes are its own; the barrier's counter is back at zero. -/
theorem wp_bar (hOlev : ∀ g ι, 0 < O g ι → 8 * (0 : Fin 1).val + 7 ≤ (K (F := F)).lev g ι) (n : ℕ) (hn : n = 7)
    {β : Type} {cont : PUnit → Prog (TpuEff nD τ sig (Elt F) Λ₀ (.scScalar c₀)) β} {Q : β → sProp 𝕄} :
    iprop(Ctx X κ ∗ levAts (K (F := F)).L (K (F := F)).lev ∗ owing d O W (recDebt d 0) ∗ cred (tallyAt (bcell d) (some 0) 7) ∗ atPos ER (bcell d) 0 ∅ 0)
      ⊢ iprop(((owing d O W (recDebt d 0) ∗ semVal (bcell d) 0 ∗ bigSep Finset.univ fun i : Fin 14 => slotAny (peer d i) (back d i))
            -∗ wp frame (wpE (defs₀ (F := F)) 𝒱₀ (S d c₀) none) Set.univ (cont ⟨⟩) Q)
          -∗ wp frame (wpE (defs₀ (F := F)) 𝒱₀ (S d c₀) none) Set.univ (.op (.semWait barrier2 n) cont) Q) := by
  subst hn
  unfold owing
  iintro ⟨⟨#HI, #HR⟩, #Hlev, ⟨%W', %hW', HO⟩, Hc, Hat⟩ Hk
  iapply (Rounds.wp_wait_rest_token 𝒱₀ ER (Rd X) (S d c₀) none (κ := κ (bcell d)) (R := 0) (T := ∅) (m := 0)
      (wpE_semWait_eq 𝒱₀ (S d c₀) none Set.univ) (Set.mem_univ _) (some 0) (by rw [show ((S d c₀, SemLoc.reg barrier2) : GSem nD τ sig) = bcell d from rfl, expect_bcell])) $$ [HO Hc Hat]
  · isplitr; · iapply (inv_of X κ d (.inl ())); iexact HI
    isplitl [Hc]; · iexact Hc
    isplitl [HO]; · iexact HO
    isplitr; · iapply (mayWait_bar d O hOlev); iexact Hlev
    iexact Hat
  iintro ⟨HO, Hat, -, Hpay⟩
  imod (Rounds.cell_close ER (Rd X) (g := bcell d) (κ := κ (bcell d)) (Es := Set.univ) (Set.mem_univ _) (fun h => h) (R := 1) (duties_later X _)) $$ [Hat] with Hz
  · isplitr; · iapply (inv_of X κ d (.inl ())); iexact HI
    iexact Hat
  iapply Hk
  isplitl [HO]
  · iexists (insert (asem (.inl ()), some 0) W'); isplitr; · ipureintro; exact recorded_insert _ hW'
    iexact HO
  isplitl [Hz]; · iexact Hz
  iapply (SparseCore.ent (Entails.of_eq ((congrArg (fun s => bigSep s fun s => (Rd X).payload (bcell d) 0 s) (Finset.sdiff_empty)).trans (pays_bcell X d))))
  iexact Hpay

/-- A wait for a lane's cell: what the lane's landing handed over, the cell's counter back at zero. -/
theorem wp_lane (hOlev : ∀ g ι, 0 < O g ι → 8 * (0 : Fin 1).val + 7 ≤ (K (F := F)).lev g ι) (b : Fin 2) (i : Fin 14)
    (sm : DmaSem sig) (hsm : SemLoc.dma sm = asem (.inr (b, i)))
    {md : Space} {s : Shape} {e : EltTy} (dst : Memref sig .scScalar md s e) (hN : dst.view.dmaCredit = credit i)
    {β : Type} {cont : PUnit → Prog (TpuEff nD τ sig (Elt F) Λ₀ (.scScalar c₀)) β} {Q : β → sProp 𝕄} :
    iprop(Ctx X κ ∗ levAts (K (F := F)).L (K (F := F)).lev ∗ WaitSt X b d O W i.val)
      ⊢ iprop((WaitSt X b d O W (i.val + 1) -∗ wp frame (wpE (defs₀ (F := F)) 𝒱₀ (S d c₀) none) Set.univ (cont ⟨⟩) Q)
          -∗ wp frame (wpE (defs₀ (F := F)) 𝒱₀ (S d c₀) none) Set.univ (.op (.waitDma sm dst.view.ref s e (.inr dst.hasMemref)) cont) Q) := by
  have hg : ((S d c₀, SemLoc.dma sm) : GSem nD τ sig) = lcell d b i := by rw [hsm]
  unfold WaitSt owing
  rw [bigSep_from_pop, bigSep_below_push]
  iintro ⟨⟨#HI, #HR⟩, #Hlev, ⟨%W', %hW', HO⟩, ⟨⟨Hc, Hat⟩, Hrest⟩, Hdone⟩ Hk
  iapply (Rounds.wp_wait_rest_token 𝒱₀ ER (Rd X) (S d c₀) none (sm := SemLoc.dma sm) (κ := κ (lcell d b i)) (R := 0) (T := ∅) (m := 0)
      (k' := credit i) (fun K => by rw [← hN]; rfl) (Set.mem_univ _) (some 0) (by rw [hg, expect_lcell, Nat.zero_add])) $$ [HO Hc Hat]
  · rw [hg, hsm]
    isplitr; · iapply (inv_of X κ d (.inr (b, i))); iexact HI
    isplitl [Hc]; · iexact Hc
    isplitl [HO]; · iexact HO
    isplitr; · iapply (mayWait_lane d b i O hOlev); iexact Hlev
    iexact Hat
  rw [hg]
  iintro ⟨HO, Hat, -, Hpay⟩
  imod (Rounds.cell_close ER (Rd X) (g := lcell d b i) (κ := κ (lcell d b i)) (Es := Set.univ) (Set.mem_univ _) (fun h => h) (R := 1) (duties_later X _)) $$ [Hat] with Hz
  · isplitr; · iapply (inv_of X κ d (.inr (b, i))); iexact HI
    iexact Hat
  iapply Hk
  isplitl [HO]
  · iexists (insert (SemLoc.dma sm, some 0) W'); isplitr; · ipureintro; exact recorded_insert _ hW'
    iexact HO
  isplitl [Hrest]; · iexact Hrest
  isplitr [Hdone]
  · isplitl [Hz]; · iexact Hz
    iapply (SparseCore.ent (Entails.of_eq ((congrArg (fun s => bigSep s fun s => (Rd X).payload (lcell d b i) 0 s) (Finset.sdiff_empty)).trans (pays_lcell X d b i))))
    iexact Hpay
  iexact Hdone

theorem mem_duty_send (i : Fin 14) : d ∈ (Rd X).duties (lcell d 0 i) 0 := by rw [duties_acell]; exact Finset.mem_singleton_self _
theorem mem_duty_recv (i : Fin 14) : peer d i ∈ (Rd X).duties (lcell (peer d i) 1 (back d i)) 0 := by rw [duties_acell]; exact Finset.mem_singleton_self _

/-- The send of lane `i` of the first array: `d`'s piece for the peer, into the peer's slot. -/
theorem wp_send_in (i : Fin 14) (hi : i.val % 2 = 0) (p : Dev nD) (hp : p = peer d i)
    (src : Memref sig .scScalar .hbm S512x898 .bf16) (hs : src = pinPiece (peer d i))
    (dst : Memref sig .scScalar .hbm S512x898 .bf16) (hd : dst = linSlot (back d i))
    (sS sR : SemLoc sig) (hsS : sS = asem (.inr (0, i))) (hsR : sR = asem (.inr (1, back d i)))
    {hsc : (dst : Memref sig (S p c₀).2.kind .hbm S512x898 _).view.ref.isScScratch = false}
    {hsrc : src.view.WordExact} {hdst : dst.view.WordExact}
    {hsem : DmaTarget.Typed .hbm sR (.remote (S p c₀) (dst : Memref sig (S p c₀).2.kind .hbm S512x898 _) sS hsc)}
    {β : Type} {cont : PUnit → Prog (TpuEff nD τ sig (Elt F) Λ₀ (.scScalar c₀)) β} {Q : β → sProp 𝕄} :
    iprop(Ctx X κ ∗ SendSt X d O W i.val)
      ⊢ iprop((SendSt X d O W (i.val + 1) -∗ wp frame (wpE (defs₀ (F := F)) 𝒱₀ (S d c₀) none) Set.univ (cont ⟨⟩) Q)
          -∗ wp frame (wpE (defs₀ (F := F)) 𝒱₀ (S d c₀) none) Set.univ (.op (.enqueueDma src (.remote (S p c₀) dst sS hsc) sR hsrc hdst hsem) cont) Q) := by
  subst hp hs hd hsS hsR
  have hc : credit i = Npin := if_pos hi
  have hbi : (back d i).val % 2 = 0 := by rw [back_array]; exact hi
  unfold SendSt owing sendRes
  rw [bigSep_from_pop, bigSep_below_push, recDebt_step, ← add_assoc]
  iintro ⟨⟨#HI, #HR⟩, ⟨%W', %hW', HO⟩, ⟨⟨Hsrc, Hdst, HtS, HtR⟩, Hrest⟩, Hcr⟩ Hk
  ihave Hsrc' := (Entails.of_eq (show srcPts X d i = (loc_pin d ↦[pieceSet 512 898 (peer d i)]{fullShare} X.1 d) from if_pos hi)) $$ Hsrc
  ihave Hdst' := (Entails.of_eq (show slotAny (peer d i) (back d i) = (iprop(∃ f, loc_lin (peer d i) ↦[slotSet 512 898 (back d i)]{fullShare} f) : sProp 𝕄) from if_pos hbi)) $$ Hdst
  icases Hdst' with ⟨%fd, Hdst⟩
  iapply (Rounds.wp_send_pointsTo 𝒱₀ ER (Rd X) (S d c₀) none (κ₁ := κ (lcell d 0 i)) (κ₂ := κ (lcell (peer d i) 1 (back d i)))
      (r₁ := 0) (r₂ := 0) (d₁ := d) (d₂ := peer d i) (q := fullShare) (fs := X.1 d) (fd := fd)
      (mem_duty_send X d i) (mem_duty_recv X d i) (some 0) (some 0) Npin (N_linSlot _)
      ((amount_acell X d (.inr (0, i)) 0 d).trans hc)
      ((amount_acell X (peer d i) (.inr (1, back d i)) 0 (peer d i)).trans (if_pos hbi))
      (O + recDebt d (i.val + 1)) rfl (W := W') ?hp₁ ?hp₂) $$ [Hsrc' Hdst HO HtS HtR]
  case hp₁ =>
    rw [pts_pinPiece, show (Rd X).payload (S d c₀, asem (.inr (0, i))) 0 d = srcPts X d i from payload_acell X d (.inr (0, i)) 0 d]
    exact Entails.of_eq (if_pos hi).symm
  case hp₂ =>
    rw [show (Rd X).payload (S (peer d i) c₀, asem (.inr (1, back d i))) 0 (peer d i) = slotVal X (peer d i) (back d i) from payload_acell X _ (.inr (1, back d i)) 0 _,
      pointsTo_congr (landed_lin X d i fd), pts_linSlot]
    exact Entails.of_eq (if_pos hbi).symm
  · isplitr; · iapply (inv_of X κ d (.inr (0, i))); iexact HI
    isplitr; · iapply (inv_of X κ (peer d i) (.inr (1, back d i))); iexact HI
    isplitl [Hsrc']; · iapply (SparseCore.ent (Entails.of_eq (pts_pinPiece d (peer d i) (X.1 d)).symm)); iexact Hsrc'
    isplitl [Hdst]; · iapply (SparseCore.ent (Entails.of_eq (pts_linSlot (peer d i) (back d i) fd).symm)); iexact Hdst
    isplitl [HO]; · rw [hc]; iexact HO
    isplitl [HtS]; · iexact HtS
    isplitr; · iapply (reached_of d (.inr (0, i))); iexact HR
    isplitl [HtR]; · iexact HtR
    iapply (reached_of (peer d i) (.inr (1, back d i))); iexact HR
  rw [hc]
  iintro ⟨Hc, HO⟩
  iapply Hk
  isplitl [HO]
  · iexists W'; isplitr; · ipureintro; exact hW'
    iexact HO
  isplitl [Hrest]; · iexact Hrest
  isplitl [Hc]; · iexact Hc
  iexact Hcr

/-- The send of lane `i` of the second array. -/
theorem wp_send_out (i : Fin 14) (hi : i.val % 2 = 1) (p : Dev nD) (hp : p = peer d i)
    (src : Memref sig .scScalar .hbm S128x1024 .bf16) (hs : src = poutPiece (peer d i))
    (dst : Memref sig .scScalar .hbm S128x1024 .bf16) (hd : dst = loutSlot (back d i))
    (sS sR : SemLoc sig) (hsS : sS = asem (.inr (0, i))) (hsR : sR = asem (.inr (1, back d i)))
    {hsc : (dst : Memref sig (S p c₀).2.kind .hbm S128x1024 _).view.ref.isScScratch = false}
    {hsrc : src.view.WordExact} {hdst : dst.view.WordExact}
    {hsem : DmaTarget.Typed .hbm sR (.remote (S p c₀) (dst : Memref sig (S p c₀).2.kind .hbm S128x1024 _) sS hsc)}
    {β : Type} {cont : PUnit → Prog (TpuEff nD τ sig (Elt F) Λ₀ (.scScalar c₀)) β} {Q : β → sProp 𝕄} :
    iprop(Ctx X κ ∗ SendSt X d O W i.val)
      ⊢ iprop((SendSt X d O W (i.val + 1) -∗ wp frame (wpE (defs₀ (F := F)) 𝒱₀ (S d c₀) none) Set.univ (cont ⟨⟩) Q)
          -∗ wp frame (wpE (defs₀ (F := F)) 𝒱₀ (S d c₀) none) Set.univ (.op (.enqueueDma src (.remote (S p c₀) dst sS hsc) sR hsrc hdst hsem) cont) Q) := by
  subst hp hs hd hsS hsR
  have hi' : ¬ i.val % 2 = 0 := by omega
  have hc : credit i = Npout := if_neg hi'
  have hbi : ¬ (back d i).val % 2 = 0 := by rw [back_array]; exact hi'
  unfold SendSt owing sendRes
  rw [bigSep_from_pop, bigSep_below_push, recDebt_step, ← add_assoc]
  iintro ⟨⟨#HI, #HR⟩, ⟨%W', %hW', HO⟩, ⟨⟨Hsrc, Hdst, HtS, HtR⟩, Hrest⟩, Hcr⟩ Hk
  ihave Hsrc' := (Entails.of_eq (show srcPts X d i = (loc_pout d ↦[pieceSet 128 1024 (peer d i)]{fullShare} X.2 d) from if_neg hi')) $$ Hsrc
  ihave Hdst' := (Entails.of_eq (show slotAny (peer d i) (back d i) = (iprop(∃ f, loc_lout (peer d i) ↦[slotSet 128 1024 (back d i)]{fullShare} f) : sProp 𝕄) from if_neg hbi)) $$ Hdst
  icases Hdst' with ⟨%fd, Hdst⟩
  iapply (Rounds.wp_send_pointsTo 𝒱₀ ER (Rd X) (S d c₀) none (κ₁ := κ (lcell d 0 i)) (κ₂ := κ (lcell (peer d i) 1 (back d i)))
      (r₁ := 0) (r₂ := 0) (d₁ := d) (d₂ := peer d i) (q := fullShare) (fs := X.2 d) (fd := fd)
      (mem_duty_send X d i) (mem_duty_recv X d i) (some 0) (some 0) Npout (N_loutSlot _)
      ((amount_acell X d (.inr (0, i)) 0 d).trans hc)
      ((amount_acell X (peer d i) (.inr (1, back d i)) 0 (peer d i)).trans (if_neg hbi))
      (O + recDebt d (i.val + 1)) rfl (W := W') ?hp₁ ?hp₂) $$ [Hsrc' Hdst HO HtS HtR]
  case hp₁ =>
    rw [pts_poutPiece, show (Rd X).payload (S d c₀, asem (.inr (0, i))) 0 d = srcPts X d i from payload_acell X d (.inr (0, i)) 0 d]
    exact Entails.of_eq (if_neg hi').symm
  case hp₂ =>
    rw [show (Rd X).payload (S (peer d i) c₀, asem (.inr (1, back d i))) 0 (peer d i) = slotVal X (peer d i) (back d i) from payload_acell X _ (.inr (1, back d i)) 0 _,
      pointsTo_congr (landed_lout X d i fd), pts_loutSlot]
    exact Entails.of_eq (if_neg hbi).symm
  · isplitr; · iapply (inv_of X κ d (.inr (0, i))); iexact HI
    isplitr; · iapply (inv_of X κ (peer d i) (.inr (1, back d i))); iexact HI
    isplitl [Hsrc']; · iapply (SparseCore.ent (Entails.of_eq (pts_poutPiece d (peer d i) (X.2 d)).symm)); iexact Hsrc'
    isplitl [Hdst]; · iapply (SparseCore.ent (Entails.of_eq (pts_loutSlot (peer d i) (back d i) fd).symm)); iexact Hdst
    isplitl [HO]; · rw [hc]; iexact HO
    isplitl [HtS]; · iexact HtS
    isplitr; · iapply (reached_of d (.inr (0, i))); iexact HR
    isplitl [HtR]; · iexact HtR
    iapply (reached_of (peer d i) (.inr (1, back d i))); iexact HR
  rw [hc]
  iintro ⟨Hc, HO⟩
  iapply Hk
  isplitl [HO]
  · iexists W'; isplitr; · ipureintro; exact hW'
    iexact HO
  isplitl [Hrest]; · iexact Hrest
  isplitl [Hc]; · iexact Hc
  iexact Hcr

end Steps

end Cert.Exchange

end
-- ==== Proof.Offsets.lean ====
/-
  What the kernel's own index arithmetic names: the device, the piece, the slot and the semaphores of every signal and
  of every lane's send, as the tables of `Peers` and `Pieces` have them.
-/
module

public import proofs.«01_k».proof.Proof.Setup

@[expose] public section

noncomputable section

namespace Cert.Exchange

open Cert.KernelIdeal Cert.KernelIdeal.Gen
open Idealize.ShloMosaic

/-! ## Views and semaphores by their offsets -/

theorem pinPiece_of (q : Dev nD) (o : Fin 4 → ℕ) (h : o = pieceOff q) (hi : ∀ a, o a + S1x1x512x898.size a ≤ S4x2x512x898.size a) :
    (M_pin.slice (Rect.unit (s := S4x2x512x898) o S1x1x512x898.size hi) (fun _ => rfl)).squeeze S512x898 squeezes_S1x1x512x898_S512x898 = pinPiece q := by
  subst h; rfl
theorem poutPiece_of (q : Dev nD) (o : Fin 4 → ℕ) (h : o = pieceOff q) (hi : ∀ a, o a + S1x1x128x1024.size a ≤ S4x2x128x1024.size a) :
    (M_pout.slice (Rect.unit (s := S4x2x128x1024) o S1x1x128x1024.size hi) (fun _ => rfl)).squeeze S128x1024 squeezes_S1x1x128x1024_S128x1024 = poutPiece q := by
  subst h; rfl
theorem linSlot_of (i : Fin 14) (o : Fin 3 → ℕ) (h : o = slotOff i) (hi : ∀ a, o a + S1x512x898.size a ≤ S7x512x898.size a) :
    (M_lin.slice (Rect.unit (s := S7x512x898) o S1x512x898.size hi) (fun _ => rfl)).squeeze S512x898 squeezes_S1x512x898_S512x898 = linSlot i := by
  subst h; rfl
theorem loutSlot_of (i : Fin 14) (o : Fin 3 → ℕ) (h : o = slotOff i) (hi : ∀ a, o a + S1x128x1024.size a ≤ S7x128x1024.size a) :
    (M_lout.slice (Rect.unit (s := S7x128x1024) o S1x128x1024.size hi) (fun _ => rfl)).squeeze S128x1024 squeezes_S1x128x1024_S128x1024 = loutSlot i := by
  subst h; rfl

theorem credit_pinPiece (i : Fin 14) (h : i.val % 2 = 0) (o : Fin 4 → ℕ) (hi : ∀ a, o a + S1x1x512x898.size a ≤ S4x2x512x898.size a) :
    ((M_pin.slice (Rect.unit (s := S4x2x512x898) o S1x1x512x898.size hi) (fun _ => rfl)).squeeze S512x898 squeezes_S1x1x512x898_S512x898).view.dmaCredit = credit i :=
  (show _ = Npin from rfl).trans (if_pos h).symm
theorem credit_poutPiece (i : Fin 14) (h : i.val % 2 = 1) (o : Fin 4 → ℕ) (hi : ∀ a, o a + S1x1x128x1024.size a ≤ S4x2x128x1024.size a) :
    ((M_pout.slice (Rect.unit (s := S4x2x128x1024) o S1x1x128x1024.size hi) (fun _ => rfl)).squeeze S128x1024 squeezes_S1x1x128x1024_S128x1024).view.dmaCredit = credit i :=
  (show _ = Npout from rfl).trans (if_neg (by omega)).symm
theorem credit_linSlot (i : Fin 14) (h : i.val % 2 = 0) (o : Fin 3 → ℕ) (hi : ∀ a, o a + S1x512x898.size a ≤ S7x512x898.size a) :
    ((M_lin.slice (Rect.unit (s := S7x512x898) o S1x512x898.size hi) (fun _ => rfl)).squeeze S512x898 squeezes_S1x512x898_S512x898).view.dmaCredit = credit i :=
  (show _ = Npin from rfl).trans (if_pos h).symm
theorem credit_loutSlot (i : Fin 14) (h : i.val % 2 = 1) (o : Fin 3 → ℕ) (hi : ∀ a, o a + S1x128x1024.size a ≤ S7x128x1024.size a) :
    ((M_lout.slice (Rect.unit (s := S7x128x1024) o S1x128x1024.size hi) (fun _ => rfl)).squeeze S128x1024 squeezes_S1x128x1024_S128x1024).view.dmaCredit = credit i :=
  (show _ = Npout from rfl).trans (if_neg (by omega)).symm

abbrev elemOff (i : Fin 14) : Fin 1 → ℕ := ![i.val / 2]

theorem sendSem_in (i : Fin 14) (hi : i.val % 2 = 0) (o : Fin 1 → ℕ) (h : o = elemOff i) (hb : ∀ a, o a + S1.size a ≤ S7.size a) :
    SemLoc.dma ((cc0_scratch0.slice (Rect.unit (s := S7) o S1.size hb)).squeeze S_ squeezes_S1_S_).sem = asem (.inr (0, i)) := by
  subst h; revert i; decide +kernel

theorem sendSem_out (i : Fin 14) (hi : i.val % 2 = 1) (o : Fin 1 → ℕ) (h : o = elemOff i) (hb : ∀ a, o a + S1.size a ≤ S7.size a) :
    SemLoc.dma ((cc0_scratch1.slice (Rect.unit (s := S7) o S1.size hb)).squeeze S_ squeezes_S1_S_).sem = asem (.inr (0, i)) := by
  subst h; revert i; decide +kernel

theorem recvSem_in (i : Fin 14) (hi : i.val % 2 = 0) (o : Fin 1 → ℕ) (h : o = elemOff i) (hb : ∀ a, o a + S1.size a ≤ S7.size a) :
    SemLoc.dma ((cc0_scratch2.slice (Rect.unit (s := S7) o S1.size hb)).squeeze S_ squeezes_S1_S_).sem = asem (.inr (1, i)) := by
  subst h; revert i; decide +kernel

theorem recvSem_out (i : Fin 14) (hi : i.val % 2 = 1) (o : Fin 1 → ℕ) (h : o = elemOff i) (hb : ∀ a, o a + S1.size a ≤ S7.size a) :
    SemLoc.dma ((cc0_scratch3.slice (Rect.unit (s := S7) o S1.size hb)).squeeze S_ squeezes_S1_S_).sem = asem (.inr (1, i)) := by
  subst h; revert i; decide +kernel

/-! ## The signals' devices -/

theorem dev_sig0 (d : Dev nD) : (⟨k0_dev1 d, k0_dev1_lt d⟩ : Dev nD) = across d 0 := by revert d; decide +kernel
theorem dev_sig1 (d : Dev nD) : (⟨k0_dev2 d, k0_dev2_lt d⟩ : Dev nD) = across d 1 := by revert d; decide +kernel
theorem dev_sig2 (d : Dev nD) : (⟨k0_dev3 d, k0_dev3_lt d⟩ : Dev nD) = across d 2 := by revert d; decide +kernel
theorem dev_sig3 (d : Dev nD) : (⟨k0_dev4 d, k0_dev4_lt d⟩ : Dev nD) = across d 3 := by revert d; decide +kernel
theorem dev_sig4 (d : Dev nD) : (⟨k0_dev5 d, k0_dev5_lt d⟩ : Dev nD) = across d 4 := by revert d; decide +kernel
theorem dev_sig5 (d : Dev nD) : (⟨k0_dev6 d, k0_dev6_lt d⟩ : Dev nD) = across d 5 := by revert d; decide +kernel
theorem dev_sig6 (d : Dev nD) : (⟨k0_dev7 d, k0_dev7_lt d⟩ : Dev nD) = across d 6 := by revert d; decide +kernel

/-! ## The sends, lane by lane: the device, the piece's offset, the slot's, the receive semaphore's -/

theorem dev_lane0 (d : Dev nD) : (⟨k0_dev8 d, k0_dev8_lt d⟩ : Dev nD) = peer d 0 := by revert d; decide +kernel
theorem piece_lane0 (d : Dev nD) : k0_off3 d = pieceOff (peer d 0) := by revert d; decide +kernel
theorem slot_lane0 (d : Dev nD) : k0_off2 d 0#32 = slotOff (back d 0) := by revert d; decide +kernel
theorem elem_lane0 (d : Dev nD) : k0_off1 d 0#32 = elemOff (back d 0) := by revert d; decide +kernel
theorem dev_lane1 (d : Dev nD) : (⟨k0_dev9 d, k0_dev9_lt d⟩ : Dev nD) = peer d 1 := by revert d; decide +kernel
theorem piece_lane1 (d : Dev nD) : k0_off5 d = pieceOff (peer d 1) := by revert d; decide +kernel
theorem slot_lane1 (d : Dev nD) : k0_off4 d 0#32 = slotOff (back d 1) := by revert d; decide +kernel
theorem elem_lane1 (d : Dev nD) : k0_off1 d 0#32 = elemOff (back d 1) := by revert d; decide +kernel
theorem dev_lane2 (d : Dev nD) : (⟨k0_dev10 d, k0_dev10_lt d⟩ : Dev nD) = peer d 2 := by revert d; decide +kernel
theorem piece_lane2 (d : Dev nD) : k0_off6 d = pieceOff (peer d 2) := by revert d; decide +kernel
theorem slot_lane2 (d : Dev nD) : k0_off2 d 0#32 = slotOff (back d 2) := by revert d; decide +kernel
theorem elem_lane2 (d : Dev nD) : k0_off1 d 0#32 = elemOff (back d 2) := by revert d; decide +kernel
theorem dev_lane3 (d : Dev nD) : (⟨k0_dev11 d, k0_dev11_lt d⟩ : Dev nD) = peer d 3 := by revert d; decide +kernel
theorem piece_lane3 (d : Dev nD) : k0_off7 d = pieceOff (peer d 3) := by revert d; decide +kernel
theorem slot_lane3 (d : Dev nD) : k0_off4 d 0#32 = slotOff (back d 3) := by revert d; decide +kernel
theorem elem_lane3 (d : Dev nD) : k0_off1 d 0#32 = elemOff (back d 3) := by revert d; decide +kernel
theorem dev_lane4 (d : Dev nD) : (⟨k0_dev12 d, k0_dev12_lt d⟩ : Dev nD) = peer d 4 := by revert d; decide +kernel
theorem piece_lane4 (d : Dev nD) : k0_off8 d = pieceOff (peer d 4) := by revert d; decide +kernel
theorem slot_lane4 (d : Dev nD) : k0_off2 d 2#32 = slotOff (back d 4) := by revert d; decide +kernel
theorem elem_lane4 (d : Dev nD) : k0_off1 d 2#32 = elemOff (back d 4) := by revert d; decide +kernel
theorem dev_lane5 (d : Dev nD) : (⟨k0_dev13 d, k0_dev13_lt d⟩ : Dev nD) = peer d 5 := by revert d; decide +kernel
theorem piece_lane5 (d : Dev nD) : k0_off9 d = pieceOff (peer d 5) := by revert d; decide +kernel
theorem slot_lane5 (d : Dev nD) : k0_off4 d 2#32 = slotOff (back d 5) := by revert d; decide +kernel
theorem elem_lane5 (d : Dev nD) : k0_off1 d 2#32 = elemOff (back d 5) := by revert d; decide +kernel
theorem dev_lane6 (d : Dev nD) : (⟨k0_dev14 d, k0_dev14_lt d⟩ : Dev nD) = peer d 6 := by revert d; decide +kernel
theorem piece_lane6 (d : Dev nD) : k0_off10 d = pieceOff (peer d 6) := by revert d; decide +kernel
theorem slot_lane6 (d : Dev nD) : k0_off2 d 2#32 = slotOff (back d 6) := by revert d; decide +kernel
theorem elem_lane6 (d : Dev nD) : k0_off1 d 2#32 = elemOff (back d 6) := by revert d; decide +kernel
theorem dev_lane7 (d : Dev nD) : (⟨k0_dev15 d, k0_dev15_lt d⟩ : Dev nD) = peer d 7 := by revert d; decide +kernel
theorem piece_lane7 (d : Dev nD) : k0_off11 d = pieceOff (peer d 7) := by revert d; decide +kernel
theorem slot_lane7 (d : Dev nD) : k0_off4 d 2#32 = slotOff (back d 7) := by revert d; decide +kernel
theorem elem_lane7 (d : Dev nD) : k0_off1 d 2#32 = elemOff (back d 7) := by revert d; decide +kernel
theorem dev_lane8 (d : Dev nD) : (⟨k0_dev16 d, k0_dev16_lt d⟩ : Dev nD) = peer d 8 := by revert d; decide +kernel
theorem piece_lane8 (d : Dev nD) : k0_off12 d = pieceOff (peer d 8) := by revert d; decide +kernel
theorem slot_lane8 (d : Dev nD) : k0_off2 d 4#32 = slotOff (back d 8) := by revert d; decide +kernel
theorem elem_lane8 (d : Dev nD) : k0_off1 d 4#32 = elemOff (back d 8) := by revert d; decide +kernel
theorem dev_lane9 (d : Dev nD) : (⟨k0_dev17 d, k0_dev17_lt d⟩ : Dev nD) = peer d 9 := by revert d; decide +kernel
theorem piece_lane9 (d : Dev nD) : k0_off13 d = pieceOff (peer d 9) := by revert d; decide +kernel
theorem slot_lane9 (d : Dev nD) : k0_off4 d 4#32 = slotOff (back d 9) := by revert d; decide +kernel
theorem elem_lane9 (d : Dev nD) : k0_off1 d 4#32 = elemOff (back d 9) := by revert d; decide +kernel
theorem dev_lane10 (d : Dev nD) : (⟨k0_dev18 d, k0_dev18_lt d⟩ : Dev nD) = peer d 10 := by revert d; decide +kernel
theorem piece_lane10 (d : Dev nD) : k0_off14 d = pieceOff (peer d 10) := by revert d; decide +kernel
theorem slot_lane10 (d : Dev nD) : k0_off2 d 4#32 = slotOff (back d 10) := by revert d; decide +kernel
theorem elem_lane10 (d : Dev nD) : k0_off1 d 4#32 = elemOff (back d 10) := by revert d; decide +kernel
theorem dev_lane11 (d : Dev nD) : (⟨k0_dev19 d, k0_dev19_lt d⟩ : Dev nD) = peer d 11 := by revert d; decide +kernel
theorem piece_lane11 (d : Dev nD) : k0_off15 d = pieceOff (peer d 11) := by revert d; decide +kernel
theorem slot_lane11 (d : Dev nD) : k0_off4 d 4#32 = slotOff (back d 11) := by revert d; decide +kernel
theorem elem_lane11 (d : Dev nD) : k0_off1 d 4#32 = elemOff (back d 11) := by revert d; decide +kernel
theorem dev_lane12 (d : Dev nD) : (⟨k0_dev20 d, k0_dev20_lt d⟩ : Dev nD) = peer d 12 := by revert d; decide +kernel
theorem piece_lane12 (d : Dev nD) : k0_off16 d = pieceOff (peer d 12) := by revert d; decide +kernel
theorem slot_lane12 (d : Dev nD) : (![6, 0, 0] : Fin 3 → ℕ) = slotOff (back d 12) := by revert d; decide +kernel
theorem elem_lane12 (d : Dev nD) : (![6] : Fin 1 → ℕ) = elemOff (back d 12) := by revert d; decide +kernel
theorem dev_lane13 (d : Dev nD) : (⟨k0_dev21 d, k0_dev21_lt d⟩ : Dev nD) = peer d 13 := by revert d; decide +kernel
theorem piece_lane13 (d : Dev nD) : k0_off17 d = pieceOff (peer d 13) := by revert d; decide +kernel
theorem slot_lane13 (d : Dev nD) : (![6, 0, 0] : Fin 3 → ℕ) = slotOff (back d 13) := by revert d; decide +kernel
theorem elem_lane13 (d : Dev nD) : (![6] : Fin 1 → ℕ) = elemOff (back d 13) := by revert d; decide +kernel

end Cert.Exchange

end
-- ==== Proof.Body.lean ====
/-
  The kernel on one device, at a symbolic device number: seven signals, the barrier's wait, fourteen sends, fourteen
  waits for what arrives, fourteen for what was sent.
-/
module

public import proofs.«01_k».proof.Proof.Steps
public import proofs.«01_k».proof.Proof.Offsets

@[expose] public section

noncomputable section

namespace Cert.Exchange

open Cert.KernelIdeal Cert.KernelIdeal.Gen
open Idealize.ShloMosaic
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-! ## The states where one phase ends and the next begins -/

section Phases
variable (d : Dev nD) (O : CellTallies nD τ sig (HIx 1)) (W : Waits sig (HIx 1))

/-- Everything the device's lanes are handed, before the first signal. -/
theorem SigSt_start :
    iprop(owing d O W (oxS d) ∗ bigSep Finset.univ (barTok d) ∗ bigSep Finset.univ fun i : Fin 14 => slotAny d i)
      ⊢ (SigSt d O W 0 : sProp 𝕄) := by
  unfold SigSt
  rw [fromIx_zero, bigSep_sep', bigSep_across d]
  exact Entails.refl _
/-- All signals sent, only the receive credits are owed. -/
theorem SigSt_end : (SigSt d O W ((6 : Fin 7).val + 1) : sProp 𝕄) ⊢ owing d O W (recDebt d 0) := by
  show (SigSt d O W 7 : sProp 𝕄) ⊢ _
  unfold SigSt
  rw [barDebt_end, add_zero]
  exact sep_elim_left
/-- Past the barrier every lane can be sent. -/
theorem SendSt_start :
    iprop(owing d O W (recDebt d 0) ∗ bigSep Finset.univ (srcPts X d) ∗ (bigSep Finset.univ fun i : Fin 14 => slotAny (peer d i) (back d i))
        ∗ bigSep Finset.univ (sendTok d) ∗ bigSep Finset.univ (recvTok d))
      ⊢ (SendSt X d O W 0 : sProp 𝕄) := by
  unfold SendSt sendRes
  rw [fromIx_zero, belowIx_zero, bigSep_empty, bigSep_sep', bigSep_sep', bigSep_sep']
  iintro ⟨H1, H2⟩
  isplitl [H1]; · iexact H1
  isplitl [H2]; · iexact H2
  iempintro
/-- All sends under way, their credits are the device's. -/
theorem SendSt_end : (SendSt X d O W ((13 : Fin 14).val + 1) : sProp 𝕄)
    ⊢ iprop(owing d O W 0 ∗ bigSep Finset.univ fun i : Fin 14 => cred (tallyAt (lcell d 0 i) (some 0) (credit i))) := by
  show (SendSt X d O W 14 : sProp 𝕄) ⊢ _
  unfold SendSt
  rw [belowIx_end, recDebt_end]
  iintro ⟨H1, -, H2⟩
  isplitl [H1]; · iexact H1
  iexact H2
/-- Before the first wait on the cells `b`, -/
theorem WaitSt_start (b : Fin 2) :
    iprop(owing d O W 0 ∗ (bigSep Finset.univ fun i : Fin 14 => cred (tallyAt (lcell d b i) (some 0) (credit i)))
        ∗ bigSep Finset.univ fun i : Fin 14 => atPos ER (lcell d b i) 0 ∅ 0)
      ⊢ (WaitSt X b d O W 0 : sProp 𝕄) := by
  unfold WaitSt
  rw [fromIx_zero, belowIx_zero, bigSep_empty, bigSep_sep']
  iintro ⟨H1, H2⟩
  isplitl [H1]; · iexact H1
  isplitl [H2]; · iexact H2
  iempintro
/-- and after the last. -/
theorem WaitSt_end (b : Fin 2) : (WaitSt X b d O W ((13 : Fin 14).val + 1) : sProp 𝕄)
    ⊢ iprop(owing d O W 0 ∗ (bigSep Finset.univ fun i : Fin 14 => semVal (lcell d b i) 0) ∗ bigSep Finset.univ fun i : Fin 14 => lanePay X b d i) := by
  show (WaitSt X b d O W 14 : sProp 𝕄) ⊢ _
  unfold WaitSt
  rw [belowIx_end, fromIx_end, bigSep_empty, bigSep_sep']
  iintro ⟨H1, -, H2⟩
  isplitl [H1]; · iexact H1
  iexact H2
end Phases

/-! ## The kernel -/

set_option maxRecDepth 65536 in
set_option maxHeartbeats 4000000 in
theorem body_run [FloatOps F] (κ : GSem nD τ sig → ℕ) (d : Dev nD) (O : CellTallies nD τ sig (HIx 1)) (W : Waits sig (HIx 1))
    (hOlev : ∀ g ι, 0 < O g ι → 8 * (0 : Fin 1).val + 7 ≤ (K (F := F)).lev g ι) :
    iprop(Ctx X κ ∗ levAts (K (F := F)).L (K (F := F)).lev ∗ owing d O W (oxS d)
        ∗ (bigSep Finset.univ (srcPts X d)) ∗ (bigSep Finset.univ fun i : Fin 14 => slotAny d i)
        ∗ toksOf d ∗ credsOf d ∗ atPosAll d)
      ⊢ wp frame (wpE (defs₀ (F := F)) 𝒱₀ (S d c₀) none) Set.univ (kern (F := F))
          fun _ => iprop(owing d O W 0 ∗ semVal (bcell d) 0
            ∗ ((bigSep Finset.univ fun i : Fin 14 => semVal (lcell d 0 i) 0) ∗ bigSep Finset.univ (srcPts X d))
            ∗ ((bigSep Finset.univ fun i : Fin 14 => semVal (lcell d 1 i) 0) ∗ bigSep Finset.univ (slotVal X d))) := by
  rw [atPosAll_eq]
  unfold kern
  simp only [cc0_grad_exchange0_eq_skeleton]
  unfold cc0_grad_exchange0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, Prog.bind_assoc]
  simp only [wp_deviceId]
  iintro ⟨#Hctx, #Hlev, HO, Hsrc, Hslot, ⟨Hbt, Hst, Hrt⟩, ⟨Hrc, Hbc⟩, ⟨Hba, Hsa, Hra⟩⟩
  ihave HS := (SigSt_start (F := F) d O W) $$ [HO Hbt Hslot]
  · isplitl [HO]; · iexact HO
    isplitl [Hbt]; · iexact Hbt
    iexact Hslot
  iapply (wp_sig X κ d O W 0 _ (dev_sig0 d) _ rfl) $$ [HS]
  · isplitr; · iexact Hctx
    iexact HS
  iintro HS
  iapply (wp_sig X κ d O W 1 _ (dev_sig1 d) _ rfl) $$ [HS]
  · isplitr; · iexact Hctx
    iexact HS
  iintro HS
  iapply (wp_sig X κ d O W 2 _ (dev_sig2 d) _ rfl) $$ [HS]
  · isplitr; · iexact Hctx
    iexact HS
  iintro HS
  iapply (wp_sig X κ d O W 3 _ (dev_sig3 d) _ rfl) $$ [HS]
  · isplitr; · iexact Hctx
    iexact HS
  iintro HS
  iapply (wp_sig X κ d O W 4 _ (dev_sig4 d) _ rfl) $$ [HS]
  · isplitr; · iexact Hctx
    iexact HS
  iintro HS
  iapply (wp_sig X κ d O W 5 _ (dev_sig5 d) _ rfl) $$ [HS]
  · isplitr; · iexact Hctx
    iexact HS
  iintro HS
  iapply (wp_sig X κ d O W 6 _ (dev_sig6 d) _ rfl) $$ [HS]
  · isplitr; · iexact Hctx
    iexact HS
  iintro HS
  -- the barrier
  ihave HO := (SigSt_end (F := F) d O W) $$ HS
  iapply (wp_bar X κ d O W hOlev _ rfl) $$ [HO Hbc Hba]
  · isplitr; · iexact Hctx
    isplitr; · iexact Hlev
    isplitl [HO]; · iexact HO
    isplitl [Hbc]; · iexact Hbc
    iexact Hba
  iintro ⟨HO, Hbz, Hslot⟩
  -- the sends
  ihave HS := (SendSt_start X d O W) $$ [HO Hsrc Hslot Hst Hrt]
  · isplitl [HO]; · iexact HO
    isplitl [Hsrc]; · iexact Hsrc
    isplitl [Hslot]; · iexact Hslot
    isplitl [Hst]; · iexact Hst
    iexact Hrt
  iapply (wp_send_in X κ d O W 0 rfl _ (dev_lane0 d) _ (pinPiece_of _ _ (piece_lane0 d) _) _ (linSlot_of _ _ (slot_lane0 d) _)
      _ _ (sendSem_in 0 rfl _ rfl _) (recvSem_in _ (back_array d 0) _ (elem_lane0 d) _)) $$ [HS]
  · isplitr; · iexact Hctx
    iexact HS
  iintro HS
  iapply (wp_send_out X κ d O W 1 rfl _ (dev_lane1 d) _ (poutPiece_of _ _ (piece_lane1 d) _) _ (loutSlot_of _ _ (slot_lane1 d) _)
      _ _ (sendSem_out 1 rfl _ rfl _) (recvSem_out _ (back_array d 1) _ (elem_lane1 d) _)) $$ [HS]
  · isplitr; · iexact Hctx
    iexact HS
  iintro HS
  iapply (wp_send_in X κ d O W 2 rfl _ (dev_lane2 d) _ (pinPiece_of _ _ (piece_lane2 d) _) _ (linSlot_of _ _ (slot_lane2 d) _)
      _ _ (sendSem_in 2 rfl _ rfl _) (recvSem_in _ (back_array d 2) _ (elem_lane2 d) _)) $$ [HS]
  · isplitr; · iexact Hctx
    iexact HS
  iintro HS
  iapply (wp_send_out X κ d O W 3 rfl _ (dev_lane3 d) _ (poutPiece_of _ _ (piece_lane3 d) _) _ (loutSlot_of _ _ (slot_lane3 d) _)
      _ _ (sendSem_out 3 rfl _ rfl _) (recvSem_out _ (back_array d 3) _ (elem_lane3 d) _)) $$ [HS]
  · isplitr; · iexact Hctx
    iexact HS
  iintro HS
  iapply (wp_send_in X κ d O W 4 rfl _ (dev_lane4 d) _ (pinPiece_of _ _ (piece_lane4 d) _) _ (linSlot_of _ _ (slot_lane4 d) _)
      _ _ (sendSem_in 4 rfl _ rfl _) (recvSem_in _ (back_array d 4) _ (elem_lane4 d) _)) $$ [HS]
  · isplitr; · iexact Hctx
    iexact HS
  iintro HS
  iapply (wp_send_out X κ d O W 5 rfl _ (dev_lane5 d) _ (poutPiece_of _ _ (piece_lane5 d) _) _ (loutSlot_of _ _ (slot_lane5 d) _)
      _ _ (sendSem_out 5 rfl _ rfl _) (recvSem_out _ (back_array d 5) _ (elem_lane5 d) _)) $$ [HS]
  · isplitr; · iexact Hctx
    iexact HS
  iintro HS
  iapply (wp_send_in X κ d O W 6 rfl _ (dev_lane6 d) _ (pinPiece_of _ _ (piece_lane6 d) _) _ (linSlot_of _ _ (slot_lane6 d) _)
      _ _ (sendSem_in 6 rfl _ rfl _) (recvSem_in _ (back_array d 6) _ (elem_lane6 d) _)) $$ [HS]
  · isplitr; · iexact Hctx
    iexact HS
  iintro HS
  iapply (wp_send_out X κ d O W 7 rfl _ (dev_lane7 d) _ (poutPiece_of _ _ (piece_lane7 d) _) _ (loutSlot_of _ _ (slot_lane7 d) _)
      _ _ (sendSem_out 7 rfl _ rfl _) (recvSem_out _ (back_array d 7) _ (elem_lane7 d) _)) $$ [HS]
  · isplitr; · iexact Hctx
    iexact HS
  iintro HS
  iapply (wp_send_in X κ d O W 8 rfl _ (dev_lane8 d) _ (pinPiece_of _ _ (piece_lane8 d) _) _ (linSlot_of _ _ (slot_lane8 d) _)
      _ _ (sendSem_in 8 rfl _ rfl _) (recvSem_in _ (back_array d 8) _ (elem_lane8 d) _)) $$ [HS]
  · isplitr; · iexact Hctx
    iexact HS
  iintro HS
  iapply (wp_send_out X κ d O W 9 rfl _ (dev_lane9 d) _ (poutPiece_of _ _ (piece_lane9 d) _) _ (loutSlot_of _ _ (slot_lane9 d) _)
      _ _ (sendSem_out 9 rfl _ rfl _) (recvSem_out _ (back_array d 9) _ (elem_lane9 d) _)) $$ [HS]
  · isplitr; · iexact Hctx
    iexact HS
  iintro HS
  iapply (wp_send_in X κ d O W 10 rfl _ (dev_lane10 d) _ (pinPiece_of _ _ (piece_lane10 d) _) _ (linSlot_of _ _ (slot_lane10 d) _)
      _ _ (sendSem_in 10 rfl _ rfl _) (recvSem_in _ (back_array d 10) _ (elem_lane10 d) _)) $$ [HS]
  · isplitr; · iexact Hctx
    iexact HS
  iintro HS
  iapply (wp_send_out X κ d O W 11 rfl _ (dev_lane11 d) _ (poutPiece_of _ _ (piece_lane11 d) _) _ (loutSlot_of _ _ (slot_lane11 d) _)
      _ _ (sendSem_out 11 rfl _ rfl _) (recvSem_out _ (back_array d 11) _ (elem_lane11 d) _)) $$ [HS]
  · isplitr; · iexact Hctx
    iexact HS
  iintro HS
  iapply (wp_send_in X κ d O W 12 rfl _ (dev_lane12 d) _ (pinPiece_of _ _ (piece_lane12 d) _) _ (linSlot_of _ _ (slot_lane12 d) _)
      _ _ (sendSem_in 12 rfl _ rfl _) (recvSem_in _ (back_array d 12) _ (elem_lane12 d) _)) $$ [HS]
  · isplitr; · iexact Hctx
    iexact HS
  iintro HS
  iapply (wp_send_out X κ d O W 13 rfl _ (dev_lane13 d) _ (poutPiece_of _ _ (piece_lane13 d) _) _ (loutSlot_of _ _ (slot_lane13 d) _)
      _ _ (sendSem_out 13 rfl _ rfl _) (recvSem_out _ (back_array d 13) _ (elem_lane13 d) _)) $$ [HS]
  · isplitr; · iexact Hctx
    iexact HS
  iintro HS
  ihave H := (SendSt_end X d O W) $$ HS
  icases H with ⟨HO, Hsc⟩
  -- what arrives
  ihave HS := (WaitSt_start X d O W 1) $$ [HO Hrc Hra]
  · isplitl [HO]; · iexact HO
    isplitl [Hrc]; · iexact Hrc
    iexact Hra
  iapply (wp_lane X κ d O W hOlev 1 0 _ (recvSem_in 0 rfl _ rfl _) _ (credit_linSlot 0 rfl _ _)) $$ [HS]
  · isplitr; · iexact Hctx
    isplitr; · iexact Hlev
    iexact HS
  iintro HS
  iapply (wp_lane X κ d O W hOlev 1 1 _ (recvSem_out 1 rfl _ rfl _) _ (credit_loutSlot 1 rfl _ _)) $$ [HS]
  · isplitr; · iexact Hctx
    isplitr; · iexact Hlev
    iexact HS
  iintro HS
  iapply (wp_lane X κ d O W hOlev 1 2 _ (recvSem_in 2 rfl _ rfl _) _ (credit_linSlot 2 rfl _ _)) $$ [HS]
  · isplitr; · iexact Hctx
    isplitr; · iexact Hlev
    iexact HS
  iintro HS
  iapply (wp_lane X κ d O W hOlev 1 3 _ (recvSem_out 3 rfl _ rfl _) _ (credit_loutSlot 3 rfl _ _)) $$ [HS]
  · isplitr; · iexact Hctx
    isplitr; · iexact Hlev
    iexact HS
  iintro HS
  iapply (wp_lane X κ d O W hOlev 1 4 _ (recvSem_in 4 rfl _ rfl _) _ (credit_linSlot 4 rfl _ _)) $$ [HS]
  · isplitr; · iexact Hctx
    isplitr; · iexact Hlev
    iexact HS
  iintro HS
  iapply (wp_lane X κ d O W hOlev 1 5 _ (recvSem_out 5 rfl _ rfl _) _ (credit_loutSlot 5 rfl _ _)) $$ [HS]
  · isplitr; · iexact Hctx
    isplitr; · iexact Hlev
    iexact HS
  iintro HS
  iapply (wp_lane X κ d O W hOlev 1 6 _ (recvSem_in 6 rfl _ rfl _) _ (credit_linSlot 6 rfl _ _)) $$ [HS]
  · isplitr; · iexact Hctx
    isplitr; · iexact Hlev
    iexact HS
  iintro HS
  iapply (wp_lane X κ d O W hOlev 1 7 _ (recvSem_out 7 rfl _ rfl _) _ (credit_loutSlot 7 rfl _ _)) $$ [HS]
  · isplitr; · iexact Hctx
    isplitr; · iexact Hlev
    iexact HS
  iintro HS
  iapply (wp_lane X κ d O W hOlev 1 8 _ (recvSem_in 8 rfl _ rfl _) _ (credit_linSlot 8 rfl _ _)) $$ [HS]
  · isplitr; · iexact Hctx
    isplitr; · iexact Hlev
    iexact HS
  iintro HS
  iapply (wp_lane X κ d O W hOlev 1 9 _ (recvSem_out 9 rfl _ rfl _) _ (credit_loutSlot 9 rfl _ _)) $$ [HS]
  · isplitr; · iexact Hctx
    isplitr; · iexact Hlev
    iexact HS
  iintro HS
  iapply (wp_lane X κ d O W hOlev 1 10 _ (recvSem_in 10 rfl _ rfl _) _ (credit_linSlot 10 rfl _ _)) $$ [HS]
  · isplitr; · iexact Hctx
    isplitr; · iexact Hlev
    iexact HS
  iintro HS
  iapply (wp_lane X κ d O W hOlev 1 11 _ (recvSem_out 11 rfl _ rfl _) _ (credit_loutSlot 11 rfl _ _)) $$ [HS]
  · isplitr; · iexact Hctx
    isplitr; · iexact Hlev
    iexact HS
  iintro HS
  iapply (wp_lane X κ d O W hOlev 1 12 _ (recvSem_in 12 rfl _ rfl _) _ (credit_linSlot 12 rfl _ _)) $$ [HS]
  · isplitr; · iexact Hctx
    isplitr; · iexact Hlev
    iexact HS
  iintro HS
  iapply (wp_lane X κ d O W hOlev 1 13 _ (recvSem_out 13 rfl _ rfl _) _ (credit_loutSlot 13 rfl _ _)) $$ [HS]
  · isplitr; · iexact Hctx
    isplitr; · iexact Hlev
    iexact HS
  iintro HS
  ihave H := (WaitSt_end X d O W 1) $$ HS
  icases H with ⟨HO, Hrz, Hpay⟩
  -- what was sent
  ihave HS := (WaitSt_start X d O W 0) $$ [HO Hsc Hsa]
  · isplitl [HO]; · iexact HO
    isplitl [Hsc]; · iexact Hsc
    iexact Hsa
  iapply (wp_lane X κ d O W hOlev 0 0 _ (sendSem_in 0 rfl _ rfl _) _ (credit_pinPiece 0 rfl _ _)) $$ [HS]
  · isplitr; · iexact Hctx
    isplitr; · iexact Hlev
    iexact HS
  iintro HS
  iapply (wp_lane X κ d O W hOlev 0 1 _ (sendSem_out 1 rfl _ rfl _) _ (credit_poutPiece 1 rfl _ _)) $$ [HS]
  · isplitr; · iexact Hctx
    isplitr; · iexact Hlev
    iexact HS
  iintro HS
  iapply (wp_lane X κ d O W hOlev 0 2 _ (sendSem_in 2 rfl _ rfl _) _ (credit_pinPiece 2 rfl _ _)) $$ [HS]
  · isplitr; · iexact Hctx
    isplitr; · iexact Hlev
    iexact HS
  iintro HS
  iapply (wp_lane X κ d O W hOlev 0 3 _ (sendSem_out 3 rfl _ rfl _) _ (credit_poutPiece 3 rfl _ _)) $$ [HS]
  · isplitr; · iexact Hctx
    isplitr; · iexact Hlev
    iexact HS
  iintro HS
  iapply (wp_lane X κ d O W hOlev 0 4 _ (sendSem_in 4 rfl _ rfl _) _ (credit_pinPiece 4 rfl _ _)) $$ [HS]
  · isplitr; · iexact Hctx
    isplitr; · iexact Hlev
    iexact HS
  iintro HS
  iapply (wp_lane X κ d O W hOlev 0 5 _ (sendSem_out 5 rfl _ rfl _) _ (credit_poutPiece 5 rfl _ _)) $$ [HS]
  · isplitr; · iexact Hctx
    isplitr; · iexact Hlev
    iexact HS
  iintro HS
  iapply (wp_lane X κ d O W hOlev 0 6 _ (sendSem_in 6 rfl _ rfl _) _ (credit_pinPiece 6 rfl _ _)) $$ [HS]
  · isplitr; · iexact Hctx
    isplitr; · iexact Hlev
    iexact HS
  iintro HS
  iapply (wp_lane X κ d O W hOlev 0 7 _ (sendSem_out 7 rfl _ rfl _) _ (credit_poutPiece 7 rfl _ _)) $$ [HS]
  · isplitr; · iexact Hctx
    isplitr; · iexact Hlev
    iexact HS
  iintro HS
  iapply (wp_lane X κ d O W hOlev 0 8 _ (sendSem_in 8 rfl _ rfl _) _ (credit_pinPiece 8 rfl _ _)) $$ [HS]
  · isplitr; · iexact Hctx
    isplitr; · iexact Hlev
    iexact HS
  iintro HS
  iapply (wp_lane X κ d O W hOlev 0 9 _ (sendSem_out 9 rfl _ rfl _) _ (credit_poutPiece 9 rfl _ _)) $$ [HS]
  · isplitr; · iexact Hctx
    isplitr; · iexact Hlev
    iexact HS
  iintro HS
  iapply (wp_lane X κ d O W hOlev 0 10 _ (sendSem_in 10 rfl _ rfl _) _ (credit_pinPiece 10 rfl _ _)) $$ [HS]
  · isplitr; · iexact Hctx
    isplitr; · iexact Hlev
    iexact HS
  iintro HS
  iapply (wp_lane X κ d O W hOlev 0 11 _ (sendSem_out 11 rfl _ rfl _) _ (credit_poutPiece 11 rfl _ _)) $$ [HS]
  · isplitr; · iexact Hctx
    isplitr; · iexact Hlev
    iexact HS
  iintro HS
  iapply (wp_lane X κ d O W hOlev 0 12 _ (sendSem_in 12 rfl _ rfl _) _ (credit_pinPiece 12 rfl _ _)) $$ [HS]
  · isplitr; · iexact Hctx
    isplitr; · iexact Hlev
    iexact HS
  iintro HS
  iapply (wp_lane X κ d O W hOlev 0 13 _ (sendSem_out 13 rfl _ rfl _) _ (credit_poutPiece 13 rfl _ _)) $$ [HS]
  · isplitr; · iexact Hctx
    isplitr; · iexact Hlev
    iexact HS
  iintro HS
  ihave H := (WaitSt_end X d O W 0) $$ HS
  icases H with ⟨HO, Hsz, Hsrc⟩
  rw [wp_ret]
  imodintro
  isplitl [HO]; · iexact HO
  isplitl [Hbz]; · iexact Hbz
  isplitl [Hsz Hsrc]
  · isplitl [Hsz]; · iexact Hsz
    iexact Hsrc
  isplitl [Hrz]; · iexact Hrz
  iexact Hpay

end Cert.Exchange

end
-- ==== Proof.Launch.lean ====
/-
  The launch: what the handshakes carry, what each sequencer is dealt, owes and holds from the launch, the launch element,
  and the kernel's obligation at its call from the body's run.
-/
module

public import proofs.«01_k».proof.Proof.Arrays
public import proofs.«01_k».proof.Proof.Body

@[expose] public section

noncomputable section

namespace Cert.Exchange

open Cert.KernelIdeal Cert.KernelIdeal.Gen
open Idealize.ShloMosaic
open SparseCore (S V T)
open SparseCore.Cfg (HIx Pay ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-- What the start handshake hands device `d`'s sequencer: the source arrays at their contents, the landing arrays at any; -/
abbrev st (d : Dev nD) : sProp 𝕄 :=
  iprop(((loc_pin d ↦{fullShare} X.1 d) ∗ loc_pout d ↦{fullShare} X.2 d) ∗ (∃ f, loc_lin d ↦{fullShare} f) ∗ ∃ f, loc_lout d ↦{fullShare} f)
/-- what the done handshake hands back: the landing arrays gathered, and the barrier's counter at zero. -/
abbrev dn (d : Dev nD) : sProp 𝕄 :=
  iprop(((loc_pin d ↦{fullShare} X.1 d) ∗ loc_pout d ↦{fullShare} X.2 d)
    ∗ ((loc_lin d ↦{fullShare} (gathered 512 898 X.1 d)) ∗ loc_lout d ↦{fullShare} (gathered 128 1024 X.2 d)) ∗ semVal (bcell d) 0)

set_option backward.proofsInPublic true in
def P : (K (F := F)).Pay (nD := nD) (Val := Elt F) (Name := ℕ) (U := UU) where
  st := fun _ d _ => st X d
  dn := fun _ d _ => dn X d
  go := fun _ _ _ _ => iprop(emp)
  td := fun _ _ _ _ => iprop(emp)
  x := fun _ thr => match thr with
    | (d, .scScalar c) => if c = c₀ then kit X d else iprop(emp)
    | _ => iprop(emp)
  ox := fun _ thr => match thr with
    | (d, .scScalar c) => if c = c₀ then oxS d else 0
    | _ => 0
  ox_band := by
    intro q thr g ι h
    obtain rfl : q = 0 := Subsingleton.elim _ _
    rcases thr with ⟨d, _ | c | ⟨c, i⟩⟩
    · exact absurd h (lt_irrefl 0)
    · dsimp only at h
      split at h
      · obtain ⟨e, rfl, rfl⟩ := oxS_pos h
        exact lev_acell_band _
      · exact absurd h (lt_irrefl 0)
    · exact absurd h (lt_irrefl 0)
  ox_tc := fun _ _ => rfl
  ox_sc := by
    intro q d c h
    obtain rfl : q = 0 := Subsingleton.elim _ _
    dsimp only at h
    split at h
    · next hc => subst hc; exact ⟨rfl, Nat.one_pos⟩
    · exact absurd rfl h
  ox_vc := fun _ _ _ _ h => absurd rfl h
  held := laneCells
  held_vec := by
    intro q d c h
    obtain rfl : q = 0 := Subsingleton.elim _ _
    exact absurd h.1 fun e => nomatch e

instance P_storable : (P X).IsStorable where
  st _ d _ := (inferInstance : BI.Storable (upEmb : UEmb _ 𝕄) (st X d))
  dn _ d _ := (inferInstance : BI.Storable (upEmb : UEmb _ 𝕄) (dn X d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

theorem P_held : (P X).held = laneCells := rfl
theorem Px_T (d : Dev nD) : (bigSep Finset.univ fun q : Fin 1 => (P X).x q (SparseCore.T d)) = iprop(emp) :=
  bigSep_univ_of_subsingleton (0 : Fin 1)
theorem Px_S (d : Dev nD) (c : Fin τ.nSC) : (bigSep Finset.univ fun q : Fin 1 => (P X).x q (S d c)) = if c = c₀ then kit X d else iprop(emp) :=
  bigSep_univ_of_subsingleton (0 : Fin 1)
theorem Px_V (d : Dev nD) (c : Fin τ.nSC) (i : Fin τ.nSub) : (bigSep Finset.univ fun q : Fin 1 => (P X).x q (V d c i)) = iprop(emp) :=
  bigSep_univ_of_subsingleton (0 : Fin 1)
theorem st0_eq (d : Dev nD) : (bigSep Finset.univ fun c : Fin ((K (F := F)).nCore 0) => (P X).st 0 d c) = st X d :=
  bigSep_univ_of_subsingleton (0 : Fin 1)
theorem dn0_eq (d : Dev nD) : (bigSep Finset.univ fun c : Fin ((K (F := F)).nCore 0) => (P X).dn 0 d c) = dn X d :=
  bigSep_univ_of_subsingleton (0 : Fin 1)

/-- The credit for the sequencers' debts, regrouped per waiter. -/
theorem creds_a : ((P X).oxCred : sProp 𝕄) ⊢ bigSep Finset.univ fun d : Dev nD => credsOf d := by
  unfold SparseCore.Cfg.Pay.oxCred
  rw [SparseCore.Cfg.bigSep_threads (fun thr : Thread nD τ => (cred ((P X).oxFrom 0 thr) : sProp 𝕄))]
  refine sep_elim_right.trans (sep_elim_left.trans ?_)
  have hox : ∀ dc : Dev nD × Fin τ.nSC, (P X).oxFrom 0 (S dc.1 dc.2) = if dc.2 = c₀ then oxS dc.1 else 0 := fun dc => by
    rw [show (0 : ℕ) = (0 : Fin 1).val from rfl, (P X).oxFrom_step, (P X).oxFrom_end _ (n := (0 : Fin 1).val + 1) le_rfl, add_zero]; rfl
  simp only [hox]
  rw [← SparseCore.Cfg.cred_finsum,
    show (∑ x : Dev nD × Fin τ.nSC, if x.2 = c₀ then oxS x.1 else 0) = ∑ p : Dev nD, owedS p from ?_,
    SparseCore.Cfg.cred_finsum]
  · exact bigSep_mono fun d _ => cred_owedS d
  · rw [Fintype.sum_prod_type, ← oxS_regroup]
    exact Finset.sum_congr rfl fun d _ => by rw [Fintype.sum_eq_single c₀ fun c hc => if_neg hc, if_pos rfl]

/-! ## The counters -/

theorem asem_lane_scoped (x : Fin 2 × Fin 14) : (asem (.inr x)).isScoped .scScalar = true := by
  obtain ⟨b, i⟩ := x; revert b i; decide
theorem mem_laneCells (d : Dev nD) (x : Fin 2 × Fin 14) : acell (d, .inr x) ∈ laneCells :=
  Finset.mem_image.mpr ⟨(d, x), Finset.mem_univ _, rfl⟩

/-- Of the held cells, a device's sequencer has its own lanes'. -/
theorem inter_c₀ (d : Dev nD) : ownCells (sig := sig) (S d c₀) ∩ laneCells = (Finset.univ : Finset (Fin 2 × Fin 14)).image (fun x => acell (d, .inr x)) := by
  ext g
  rw [Finset.mem_inter, mem_ownCells]
  simp only [Finset.mem_image, Finset.mem_univ, true_and]
  constructor
  · rintro ⟨⟨hg, -⟩, h⟩
    obtain ⟨⟨d', x⟩, -, rfl⟩ := Finset.mem_image.mp h
    have : d' = d := (Prod.mk.inj hg).1
    subst this; exact ⟨x, rfl⟩
  · rintro ⟨x, rfl⟩
    exact ⟨⟨rfl, asem_lane_scoped x⟩, mem_laneCells d x⟩
theorem lane_injOn (d : Dev nD) : Set.InjOn (fun x : Fin 2 × Fin 14 => acell (d, .inr x)) ((Finset.univ : Finset (Fin 2 × Fin 14)) : Set (Fin 2 × Fin 14)) :=
  fun _ _ _ _ e => Sum.inr.inj (Prod.mk.inj (acell_injective e)).2

/-- Every device's lanes' counters at zero, out of what the launch hands over for the held cells. -/
theorem lanes_zero : ((P X).heldSems0 : sProp 𝕄) ⊢ bigSep Finset.univ fun d : Dev nD => bigSep Finset.univ fun x : Fin 2 × Fin 14 => semVal (acell (d, .inr x)) 0 := by
  change (bigSep Finset.univ fun dc : Dev nD × Fin τ.nSC => bigSep (ownCells (S dc.1 dc.2) ∩ laneCells) fun g => (semVal g 0 : sProp 𝕄)) ⊢ _
  rw [bigSep_univ_prod (fun dc : Dev nD × Fin τ.nSC => bigSep (ownCells (S dc.1 dc.2) ∩ laneCells) fun g => (semVal g 0 : sProp 𝕄))]
  refine bigSep_mono fun d _ => ?_
  refine (bigSep_elim (Φ := fun c : Fin τ.nSC => bigSep (ownCells (S d c) ∩ laneCells) fun g => (semVal g 0 : sProp 𝕄)) (i := c₀) (Finset.mem_univ _)).trans ?_
  refine (Entails.of_eq (congrArg (bigSep · fun g => (semVal g 0 : sProp 𝕄)) (inter_c₀ d))).trans ?_
  rw [SparseCore.bigSep_image_of_injOn (lane_injOn d)]

/-- Every device's barrier's counter at zero, out of the cells no one owns. -/
theorem bars_zero : ((K (F := F)).freeOn (· ∈ barCells) : sProp 𝕄) ⊢ bigSep Finset.univ fun d : Dev nD => semVal (bcell d) 0 := by
  unfold SparseCore.Cfg.freeOn
  refine sep_elim_left.trans ?_
  rw [bigSep_univ_prod (fun dc : Dev nD × Fin τ.nSC => bigSep ((((Finset.univ.filter fun sm : SemLoc sig => ¬sm.isScoped .scScalar).erase (.reg (K (F := F)).start)).erase (.reg (K (F := F)).taskDone)).filter fun sm => (S dc.1 dc.2, sm) ∈ barCells)
        fun sm => (semVal (S dc.1 dc.2, sm) 0 : sProp 𝕄))]
  refine bigSep_mono fun d _ => ?_
  refine (bigSep_elim (i := c₀) (Finset.mem_univ _)).trans (bigSep_elim (i := SemLoc.reg barrier2) ?_)
  refine Finset.mem_filter.mpr ⟨Finset.mem_erase.mpr ⟨?_, Finset.mem_erase.mpr ⟨?_, Finset.mem_filter.mpr ⟨Finset.mem_univ _, ?_⟩⟩⟩, Finset.mem_image.mpr ⟨d, Finset.mem_univ _, rfl⟩⟩
  · show (SemLoc.reg barrier2 : SemLoc sig) ≠ .reg sc_taskDone; decide
  · show (SemLoc.reg barrier2 : SemLoc sig) ≠ .reg sc_start; decide
  · show ¬ (SemLoc.reg barrier2 : SemLoc sig).isScoped .scScalar = true; decide

theorem cells_zero (d : Dev nD) : (bigSep Finset.univ fun j : Cell => semVal (acell (d, j)) 0 : sProp 𝕄)
    = iprop(semVal (bcell d) 0 ∗ bigSep Finset.univ fun x : Fin 2 × Fin 14 => semVal (acell (d, .inr x)) 0) := by
  rw [bigSep_univ_sum, show (Finset.univ : Finset Unit) = {()} by decide, bigSep_singleton]
  rfl
theorem sems_a : iprop((K (F := F)).freeOn (· ∈ barCells) ∗ (P X).heldSems0) ⊢ (bigSep aCells fun g => semVal g 0 : sProp 𝕄) := by
  rw [aCells_eq, bigSep_univ_prod (fun x : Dev nD × Cell => (semVal (acell x) 0 : sProp 𝕄)), bigSep_congr fun d _ => cells_zero (F := F) d, bigSep_sep']
  iintro ⟨Hb, Hl⟩
  ihave Hb' := (bars_zero (F := F)) $$ Hb
  ihave Hl' := (lanes_zero X) $$ Hl
  isplitl [Hb'] <;> iassumption

/-- The lanes' counters back at zero make the sequencer's scoped semaphores whole. -/
theorem scopedSems0_of_lanes (d : Dev nD) :
    iprop(((P X).ownSems0' (S d c₀) ∗ (bigSep Finset.univ fun i : Fin 14 => semVal (lcell d 0 i) 0) ∗ bigSep Finset.univ fun i : Fin 14 => semVal (lcell d 1 i) 0)
        ∗ bigSep Finset.univ fun i : Fin τ.nSub => scopedSems0 (V d c₀ i))
      ⊢ (scopedSems0 (S d c₀) : sProp 𝕄) := by
  iintro ⟨⟨Hown, Hcells⟩, Hsubs⟩
  iapply (SparseCore.Cfg.scopedSems0_S_intro (Val := Elt F) d c₀)
  isplitl [Hown Hcells]
  · have e : (bigSep (ownCells (sig := sig) (S d c₀) ∩ laneCells) fun g => (semVal g 0 : sProp 𝕄))
        = iprop((bigSep Finset.univ fun i : Fin 14 => semVal (lcell d 0 i) 0) ∗ bigSep Finset.univ fun i : Fin 14 => semVal (lcell d 1 i) 0) := by
      rw [inter_c₀, SparseCore.bigSep_image_of_injOn (lane_injOn d), bigSep_univ_prod,
        show (Finset.univ : Finset (Fin 2)) = {0, 1} by decide, SparseCore.bigSep_insert' (by decide), bigSep_singleton]
    iapply (SparseCore.ent (Entails.of_eq (((P X).ownSems0_split (S d c₀)).trans (by rw [P_held, e])).symm))
    isplitl [Hown]; · iexact Hown
    iexact Hcells
  · iexact Hsubs

/-! ## The launch element -/

theorem bigSep_none {I : Type} (s : Finset I) : (bigSep s fun _ => iprop(emp)) = (iprop(emp) : sProp 𝕄) := bigSep_emp_const s
/-- A persistent resource goes to every conjunct. -/
theorem bigSep_share {I : Type} [DecidableEq I] {R : sProp 𝕄} [BI.Persistent R] {Φ Ψ : I → sProp 𝕄} (s : Finset I)
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a); isplitr; · iexact HR
      iexact Ha
    · iapply ih; isplitr; · iexact HR
      iexact Hs

theorem kit_intro (d : Dev nD) : iprop(shared X ∗ mine d) ⊢ (bigSep Finset.univ fun c : Fin τ.nSC => if c = c₀ then kit X d else (iprop(emp) : sProp 𝕄)) := by
  rw [SparseCore.bigSep_erase' (Finset.mem_univ c₀), if_pos rfl]
  unfold kit
  iintro ⟨#Hsh, Hmine⟩
  isplitl [Hmine]
  · isplitr; · iexact Hsh
    iexact Hmine
  · iapply (SparseCore.ent (bigSep_mono (Φ := fun _ => iprop(emp)) (fun c hc => show iprop(emp) ⊢ (if c = c₀ then kit X d else (iprop(emp) : sProp 𝕄)) from
      Entails.of_eq (if_neg (Finset.ne_of_mem_erase hc)).symm)))
    rw [bigSep_none]; iempintro

/-- Each device its kit. -/
theorem kits_deal : iprop(shared X ∗ bigSep Finset.univ (fun d : Dev nD => mine d))
    ⊢ (bigSep Finset.univ fun thr : Thread nD τ => bigSep Finset.univ fun q : Fin 1 => (P X).x q thr : sProp 𝕄) := by
  rw [SparseCore.Cfg.bigSep_threads (fun thr : Thread nD τ => bigSep Finset.univ fun q : Fin 1 => (P X).x q thr)]
  simp only [Px_T, Px_S, Px_V, bigSep_none]
  rw [bigSep_univ_prod (fun dc : Dev nD × Fin τ.nSC => if dc.2 = c₀ then kit X dc.1 else (iprop(emp) : sProp 𝕄))]
  iintro ⟨#Hsh, Hmine⟩
  isplitr; · iempintro
  isplitl [Hmine]
  · iapply (bigSep_share (R := shared X) (Φ := fun d : Dev nD => mine d) Finset.univ fun d => kit_intro X d)
    isplitr; · iexact Hsh
    iexact Hmine
  · iempintro

theorem mine_split : (bigSep Finset.univ (fun d : Dev nD => mine d) : sProp 𝕄)
    = iprop((bigSep Finset.univ fun d : Dev nD => atPosAll d) ∗ (bigSep Finset.univ fun d : Dev nD => toksOf d) ∗ bigSep Finset.univ fun d : Dev nD => credsOf d) := by
  unfold mine; rw [bigSep_sep', bigSep_sep']

theorem invs_a : iprop((bigSep aCells fun g => (semVal g 0 : sProp 𝕄)) ∗ bigSep aCells fun g => roundState ER (Rd X) g 0)
    ⊢ |={Set.univ}=> iprop(∃ κ : GSem nD τ sig → ℕ, invsA X κ) := by
  refine (Rounds.bodies_intro ER (Rd X) aCells).trans ((inv_alloc_family aCells (Rounds.body ER (Rd X)) ∅ (E := Set.univ)).trans ?_)
  iintro H
  imod H with ⟨%κ, -, Hinv⟩
  imodintro; iexists κ
  iapply (SparseCore.ent (Entails.of_eq (aCells_eq (fun g => (cellInv ER (Rd X) (κ g) g : sProp 𝕄)))))
  iexact Hinv

/-- The launch element: the handshakes' rounds, the exchange's rounds. -/
def u₀ : UU := (initOf (K (F := F)).hsCells (K (F := F)).hsToks, initOf aCells aToks)

theorem hu₀ : iprop(ownU (u₀ (F := F)) ∗ (P X).oxCred ∗ (K (F := F)).freeOn (· ∈ barCells) ∗ (P X).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X).x q thr) : sProp 𝕄) := by
  unfold u₀
  iintro ⟨Hu, Hcred, Hsem⟩
  ihave H := (ownU_split _ _) $$ Hu
  icases H with ⟨HH, HA⟩
  imod (Rounds.fund ER (Rd X) aCells aToks) $$ HA with ⟨Hst, #Hr, Hat, Htok⟩
  ihave Hsems := (sems_a X) $$ Hsem
  imod (invs_a X) $$ [Hsems Hst] with ⟨%κ, #Hinv⟩
  · isplitl [Hsems] <;> iassumption
  ihave Hcred' := (creds_a X) $$ Hcred
  ihave Hr' := (Entails.of_eq (aCells_eq (F := F) fun g => reached ER g 0)) $$ Hr
  ihave Hat' := (Entails.of_eq ((aCells_eq (F := F) fun g => atPos ER g 0 ∅ 0).trans (bigSep_univ_prod (fun x : Dev nD × Cell => (atPos ER (acell x) 0 ∅ 0 : sProp 𝕄))))) $$ Hat
  ihave Htok' := (toks_eq (F := F)) $$ Htok
  imodintro
  isplitl [HH]; · iexact HH
  isplitr; · rw [bigSep_none]; iempintro
  iapply (kits_deal X)
  isplitr
  · isplitl; · iexists κ; iexact Hinv
    iexact Hr'
  iapply (SparseCore.ent (Entails.of_eq (mine_split (F := F)).symm))
  isplitl [Hat']; · iexact Hat'
  isplitl [Htok']; · iexact Htok'
  iexact Hcred'

/-! ## The kernel at its call -/

variable [FloatOps F]

/-- The body's run, between the arrays whole. -/
theorem kernel_run (d : Dev nD) (O : CellTallies nD τ sig (HIx 1)) (W : Waits sig (HIx 1))
    (hOlev : ∀ g ι, 0 < O g ι → 8 * (0 : Fin 1).val + 7 ≤ (K (F := F)).lev g ι) :
    iprop(levAts (K (F := F)).L (K (F := F)).lev ∗ kit X d ∗ st X d
        ∗ scopedBufs (S d c₀) ∗ ((P X).ownSems0' (S d c₀) ∗ bigSep Finset.univ fun i : Fin τ.nSub => scopedSems0 (V d c₀ i))
        ∗ owes (S d c₀) (O + oxS d) W)
      ⊢ wp frame (wpE (defs₀ (F := F)) 𝒱₀ (S d c₀) none) Set.univ (kern (F := F))
          fun _ => iprop(dn X d ∗ scopedBufs (S d c₀) ∗ scopedSems0 (S d c₀)
            ∗ ∃ W', ⌜∀ p ∈ W', p ∈ W ∨ p.2 = none ∨ p.2 = some (0 : Fin 1)⌝ ∗ owes (S d c₀) O W') := by
  unfold kit
  iintro ⟨Hlev, ⟨⟨⟨%κ, Hinv⟩, Hr⟩, Hat, Htok, Hcr⟩, ⟨Hsrc, Hdst⟩, Hsb, ⟨Hown, Hsubs⟩, HO⟩
  ihave Hs := (srcs_split X d) $$ Hsrc
  icases Hs with ⟨Hmy, Hsrc⟩
  ihave Hslots := (slots_open d) $$ Hdst
  iapply (wp_wand frame _ _) $$ [Hlev Hinv Hr Hat Htok Hcr Hsrc Hslots HO]
  · iapply (body_run X κ d O W hOlev)
    isplitl [Hinv Hr]
    · isplitl [Hinv] <;> iassumption
    isplitl [Hlev]; · iexact Hlev
    isplitl [HO]
    · unfold owing
      iexists W
      isplitr; · ipureintro; exact fun p hp => .inl hp
      iexact HO
    isplitl [Hsrc]; · iexact Hsrc
    isplitl [Hslots]; · iexact Hslots
    isplitl [Htok]; · iexact Htok
    isplitl [Hcr]; · iexact Hcr
    iexact Hat
  iintro %_ ⟨HO, Hb, ⟨Hsend, Hsrc⟩, Hrecv, Hslots⟩
  isplitl [Hmy Hsrc Hslots Hb]
  · isplitl [Hmy Hsrc]
    · iapply (srcs_join X d); isplitl [Hmy] <;> iassumption
    isplitl [Hslots]
    · iapply (SparseCore.ent (Entails.of_eq (slots_join X d))); iexact Hslots
    iexact Hb
  isplitl [Hsb]; · iexact Hsb
  isplitl [Hown Hsubs Hsend Hrecv]
  · iapply (scopedSems0_of_lanes X d)
    isplitr [Hsubs]; swap; · iexact Hsubs
    isplitl [Hown]; · iexact Hown
    isplitl [Hsend]; · iexact Hsend
    iexact Hrecv
  unfold owing
  rw [add_zero]
  iexact HO

set_option maxRecDepth 65536 in
theorem scalarObl : (K (F := F)).ScalarObl' (D (F := F)) 𝒱 (P X) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [defs₀_scalar]; simp only [SparseCore.onCore, hc, ↓reduceDIte]
  have hc₀ : (K (F := F)).core 0 ⟨0, hcv⟩ = c₀ := rfl
  rw [show (P X).x 0 (S d ((K (F := F)).core 0 ⟨0, hcv⟩)) = kit X d from (if_pos hc₀ : (if (K (F := F)).core 0 ⟨0, hcv⟩ = c₀ then kit X d else iprop(emp)) = (kit X d : sProp 𝕄)),
    show (P X).ox 0 (S d ((K (F := F)).core 0 ⟨0, hcv⟩)) = oxS d from (if_pos hc₀ : (if (K (F := F)).core 0 ⟨0, hcv⟩ = c₀ then oxS d else (0 : CellTallies nD τ sig (HIx 1))) = oxS d)]
  exact kernel_run X d O W hOlev

theorem held_ran (d : Dev nD) (c : Fin τ.nSC) (sm : SemLoc sig) (_ : sm.isScoped .scScalar = true) (h : ((S d c, sm) : GSem nD τ sig) ∈ (P X).held) :
    0 < (K (F := F)).kRank c 1 := by
  rw [P_held, laneCells] at h
  obtain ⟨x, -, e⟩ := Finset.mem_image.mp h
  obtain rfl : c₀ = c := Proc.scScalar.inj (Prod.mk.inj (Prod.mk.inj e).1).2
  exact SparseCore.Cfg.kRank_pos (q := 0) ⟨rfl, show c₀.val < (K (F := F)).nCore 0 by rw [c₀_val]; exact Nat.one_pos⟩

end Cert.Exchange

end
-- ==== Proof.Main.lean ====
/-
  The program on the TensorCore and its run: the arguments rounded to bf16 without their unit axis, the landing arrays
  allocated, the exchange called; at the end the arguments as launched, the landing arrays gathered, every counter zero.
-/
module

public import proofs.«01_k».proof.Proof.Launch

@[expose] public section

noncomputable section

namespace Cert.Exchange

open Cert.KernelIdeal Cert.KernelIdeal.Gen
open Idealize.ShloMosaic
open SparseCore (S V T)
open SparseCore.Cfg (HIx)
open Idealize.SL RA BI BI.BIBase BI.Laws ProofMode Sem
open StableHlo (held wp_hlo_within wp_allocateBuffer)

variable {F : FTy → Type} [FloatOps F]

local notation "𝕄" => MT nD τ sig (HIx 1) (Elt F) ℕ UU ℕ

variable (m : (ℓ : Loc nD τ sig) → Buf (Elt F) ℓ) (ρ : Dev nD → PrngReg)

/-- The exchanged arrays, of the arguments at the launch. -/
def srcs : Srcs F :=
  (fun d => truncf .bf16 (shapeCast S4x2x512x898 (m ((d.tc : Thread nD τ).loc main_arg0)) shapeCasts_S1x4x2x512x898_S4x2x512x898) bitsLt_bf16_f32,
    fun d => truncf .bf16 (shapeCast S4x2x128x1024 (m ((d.tc : Thread nD τ).loc main_arg1)) shapeCasts_S1x4x2x128x1024_S4x2x128x1024) bitsLt_bf16_f32)

/-! ## @main's arrays and operations -/

abbrev a0' : DevRef τ sig := Proc.devRef .tc (main_arg0 : Ref sig .tc)
abbrev a1' : DevRef τ sig := Proc.devRef .tc (main_arg1 : Ref sig .tc)
abbrev b1' : DevRef τ sig := Proc.devRef .tc (main_v1 : Ref sig .tc)
abbrev b2' : DevRef τ sig := Proc.devRef .tc (main_v2 : Ref sig .tc)
abbrev b3' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)
abbrev b6' : DevRef τ sig := Proc.devRef .tc (main_v6 : Ref sig .tc)
abbrev r0' : DevRef τ sig := Proc.devRef .tc (main_v7_0 : Ref sig .tc)
abbrev r1' : DevRef τ sig := Proc.devRef .tc (main_v7_1 : Ref sig .tc)

abbrev op1 : HloOp τ sig (Elt F) := StableHlo.reshape main_arg0 main_v1 (rfl : (.f32 : EltTy) = .f32) shapeCasts_S1x4x2x512x898_S4x2x512x898
abbrev op2 : HloOp τ sig (Elt F) := StableHlo.unary main_v1 main_v2 ((truncf .bf16 · bitsLt_bf16_f32) : (⟨S4x2x512x898, .f32⟩ : BufTy).Contents (Elt F) → (⟨S4x2x512x898, .bf16⟩ : BufTy).Contents (Elt F))
abbrev op3 : HloOp τ sig (Elt F) := StableHlo.reshape main_arg1 main_v3 (rfl : (.f32 : EltTy) = .f32) shapeCasts_S1x4x2x128x1024_S4x2x128x1024
abbrev op4 : HloOp τ sig (Elt F) := StableHlo.unary main_v3 main_v4 ((truncf .bf16 · bitsLt_bf16_f32) : (⟨S4x2x128x1024, .f32⟩ : BufTy).Contents (Elt F) → (⟨S4x2x128x1024, .bf16⟩ : BufTy).Contents (Elt F))
abbrev op7 : HloOp τ sig (Elt F) := StableHlo.unary main_v5 main_v7_0 id
abbrev op8 : HloOp τ sig (Elt F) := StableHlo.unary main_v6 main_v7_1 id

/-- The arrays the first four operations read and write; those each of the last two does. -/
abbrev SA : Finset (DevRef τ sig) := {a0', b1', b2', a1', b3', b4'}
abbrev SB : Finset (DevRef τ sig) := {b5', r0'}
abbrev SC : Finset (DevRef τ sig) := {b6', r1'}

theorem held_SA (d : Dev nD) (W : Valuation τ sig (Elt F)) :
    (held (T d) SA W : sProp 𝕄) = iprop(((SparseCore.T d).loc main_arg0 ↦{fullShare} W a0') ∗ ((SparseCore.T d).loc main_v1 ↦{fullShare} W b1')
      ∗ (loc_pin d ↦{fullShare} W b2') ∗ ((SparseCore.T d).loc main_arg1 ↦{fullShare} W a1') ∗ ((SparseCore.T d).loc main_v3 ↦{fullShare} W b3')
      ∗ (loc_pout d ↦{fullShare} W b4')) := by
  unfold held SA
  rw [SparseCore.bigSep_insert' (by decide), SparseCore.bigSep_insert' (by decide), SparseCore.bigSep_insert' (by decide),
    SparseCore.bigSep_insert' (by decide), SparseCore.bigSep_insert' (by decide), bigSep_singleton]
theorem held_SB (d : Dev nD) (W : Valuation τ sig (Elt F)) :
    (held (T d) SB W : sProp 𝕄) = iprop(((SparseCore.T d).loc main_v5 ↦{fullShare} W b5') ∗ (loc_lin d ↦{fullShare} W r0')) := by
  unfold held SB
  rw [SparseCore.bigSep_insert' (by decide), bigSep_singleton]
theorem held_SC (d : Dev nD) (W : Valuation τ sig (Elt F)) :
    (held (T d) SC W : sProp 𝕄) = iprop(((SparseCore.T d).loc main_v6 ↦{fullShare} W b6') ∗ (loc_lout d ↦{fullShare} W r1')) := by
  unfold held SC
  rw [SparseCore.bigSep_insert' (by decide), bigSep_singleton]

/-- The launch valuation, and the one after the first four operations. -/
def V0 (d : Dev nD) : Valuation τ sig (Elt F) := fun b => m (d, b)
abbrev V4 (d : Dev nD) : Valuation τ sig (Elt F) := (op4 (F := F)).result ((op3 (F := F)).result ((op2 (F := F)).result ((op1 (F := F)).result (V0 m d))))

theorem unscoped_held (d : Dev nD) : (unscopedBufs d (fun b => m ((SparseCore.T d).loc b)) : sProp 𝕄)
    = iprop(held (T d) SA (V0 m d) ∗ held (T d) SB (V0 m d) ∗ held (T d) SC (V0 m d)) := by
  unfold unscopedBufs
  rw [show (Finset.univ.filter fun b : Ref sig .tc => ¬ b.isScoped) = {main_arg0, main_v1, main_v2, main_arg1, main_v3, main_v4} ∪ ({main_v5, main_v7_0} ∪ {main_v6, main_v7_1}) by decide,
    SparseCore.bigSep_union' (by decide), SparseCore.bigSep_union' (by decide), held_SA, held_SB, held_SC,
    SparseCore.bigSep_insert' (by decide), SparseCore.bigSep_insert' (by decide), SparseCore.bigSep_insert' (by decide),
    SparseCore.bigSep_insert' (by decide), SparseCore.bigSep_insert' (by decide), bigSep_singleton,
    SparseCore.bigSep_insert' (by decide), bigSep_singleton, SparseCore.bigSep_insert' (by decide), bigSep_singleton]
  rfl

theorem V4_a0 (d : Dev nD) : V4 m d a0' = m ((d.tc : Thread nD τ).loc main_arg0) := by
  show (op4 (F := F)).result ((op3 (F := F)).result ((op2 (F := F)).result ((op1 (F := F)).result (V0 m d)))) a0' = _
  rw [(op4 (F := F)).result_of_not_mem _ (show a0' ∉ ({b4'} : Finset (DevRef τ sig)) by decide),
    (op3 (F := F)).result_of_not_mem _ (show a0' ∉ ({b3'} : Finset (DevRef τ sig)) by decide),
    (op2 (F := F)).result_of_not_mem _ (show a0' ∉ ({b2'} : Finset (DevRef τ sig)) by decide),
    (op1 (F := F)).result_of_not_mem _ (show a0' ∉ ({b1'} : Finset (DevRef τ sig)) by decide)]
  rfl
theorem V4_a1 (d : Dev nD) : V4 m d a1' = m ((d.tc : Thread nD τ).loc main_arg1) := by
  show (op4 (F := F)).result ((op3 (F := F)).result ((op2 (F := F)).result ((op1 (F := F)).result (V0 m d)))) a1' = _
  rw [(op4 (F := F)).result_of_not_mem _ (show a1' ∉ ({b4'} : Finset (DevRef τ sig)) by decide),
    (op3 (F := F)).result_of_not_mem _ (show a1' ∉ ({b3'} : Finset (DevRef τ sig)) by decide),
    (op2 (F := F)).result_of_not_mem _ (show a1' ∉ ({b2'} : Finset (DevRef τ sig)) by decide),
    (op1 (F := F)).result_of_not_mem _ (show a1' ∉ ({b1'} : Finset (DevRef τ sig)) by decide)]
  rfl
theorem V4_b2 (d : Dev nD) : V4 m d b2' = (srcs m).1 d := by
  show (op4 (F := F)).result ((op3 (F := F)).result ((op2 (F := F)).result ((op1 (F := F)).result (V0 m d)))) b2' = _
  rw [(op4 (F := F)).result_of_not_mem _ (show b2' ∉ ({b4'} : Finset (DevRef τ sig)) by decide),
    (op3 (F := F)).result_of_not_mem _ (show b2' ∉ ({b3'} : Finset (DevRef τ sig)) by decide)]
  refine (StableHlo.unary_result _ _ _ _ _ _).trans ?_
  refine congrArg (fun x : (⟨S4x2x512x898, .f32⟩ : BufTy).Contents (Elt F) => (truncf .bf16 x bitsLt_bf16_f32 : (⟨S4x2x512x898, .bf16⟩ : BufTy).Contents (Elt F))) ?_
  exact StableHlo.reshape_result main_arg0 main_v1 rfl _ _ _ _
theorem V4_b4 (d : Dev nD) : V4 m d b4' = (srcs m).2 d := by
  refine (StableHlo.unary_result _ _ _ _ _ _).trans ?_
  refine congrArg (fun x : (⟨S4x2x128x1024, .f32⟩ : BufTy).Contents (Elt F) => (truncf .bf16 x bitsLt_bf16_f32 : (⟨S4x2x128x1024, .bf16⟩ : BufTy).Contents (Elt F))) ?_
  refine (StableHlo.reshape_result main_arg1 main_v3 rfl _ _ _ _).trans ?_
  rw [(op2 (F := F)).result_of_not_mem _ (show a1' ∉ ({b2'} : Finset (DevRef τ sig)) by decide),
    (op1 (F := F)).result_of_not_mem _ (show a1' ∉ ({b1'} : Finset (DevRef τ sig)) by decide)]
  rfl

theorem h1 : (op1 (F := F)).bufs ⊆ SA := show ({a0', b1'} : Finset (DevRef τ sig)) ⊆ SA by decide
theorem h2 : (op2 (F := F)).bufs ⊆ SA := show ({b1', b2'} : Finset (DevRef τ sig)) ⊆ SA by decide
theorem h3 : (op3 (F := F)).bufs ⊆ SA := show ({a1', b3'} : Finset (DevRef τ sig)) ⊆ SA by decide
theorem h4 : (op4 (F := F)).bufs ⊆ SA := show ({b3', b4'} : Finset (DevRef τ sig)) ⊆ SA by decide
theorem h7 : (op7 (F := F)).bufs ⊆ SB := show ({b5', r0'} : Finset (DevRef τ sig)) ⊆ SB by decide
theorem h8 : (op8 (F := F)).bufs ⊆ SC := show ({b6', r1'} : Finset (DevRef τ sig)) ⊆ SC by decide

/-- What device `d` ends with: its arguments, its landing arrays gathered, its barrier's counter at zero. -/
abbrev FIN (d : Dev nD) : sProp 𝕄 :=
  iprop(((SparseCore.T d).loc main_arg0 ↦{fullShare} m ((d.tc : Thread nD τ).loc main_arg0))
    ∗ ((SparseCore.T d).loc main_arg1 ↦{fullShare} m ((d.tc : Thread nD τ).loc main_arg1))
    ∗ ((loc_lin d ↦{fullShare} (gathered 512 898 (srcs m).1 d)) ∗ loc_lout d ↦{fullShare} (gathered 128 1024 (srcs m).2 d)) ∗ semVal (bcell d) 0)

theorem hmain (κ : GSem nD τ sig → ℕ) (d : Dev nD) :
    iprop((K (F := F)).ctx EH (P (srcs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, ⟨HA, HB, HC⟩, Hts, -⟩, -⟩
  iapply (wp_hlo_within 𝒱 (SparseCore.T d) none Set.univ (op := op1) (S := SA) h1 (V := V0 m d)) $$ [Hb HA]
  · isplitl [Hb] <;> iassumption
  iintro ⟨Hb, HA⟩
  rw [wp_ret]; imodintro
  iapply (wp_hlo_within 𝒱 (SparseCore.T d) none Set.univ (op := op2) (S := SA) h2 (V := (op1 (F := F)).result (V0 m d))) $$ [Hb HA]
  · isplitl [Hb] <;> iassumption
  iintro ⟨Hb, HA⟩
  rw [wp_ret]; imodintro
  iapply (wp_hlo_within 𝒱 (SparseCore.T d) none Set.univ (op := op3) (S := SA) h3 (V := (op2 (F := F)).result ((op1 (F := F)).result (V0 m d)))) $$ [Hb HA]
  · isplitl [Hb] <;> iassumption
  iintro ⟨Hb, HA⟩
  rw [wp_ret]; imodintro
  iapply (wp_hlo_within 𝒱 (SparseCore.T d) none Set.univ (op := op4) (S := SA) h4 (V := (op3 (F := F)).result ((op2 (F := F)).result ((op1 (F := F)).result (V0 m d))))) $$ [Hb HA]
  · isplitl [Hb] <;> iassumption
  iintro ⟨Hb, HA⟩
  rw [wp_ret]; imodintro
  -- the landing arrays: allocated, copied into the call's own
  ihave HB' := (Entails.of_eq (held_SB (F := F) d (V0 m d))) $$ HB
  icases HB' with ⟨H5, Hr0⟩
  ihave HC' := (Entails.of_eq (held_SC (F := F) d (V0 m d))) $$ HC
  icases HC' with ⟨H6, Hr1⟩
  iapply (wp_allocateBuffer 𝒱 (SparseCore.T d) none Set.univ main_v5 ⟨by decide, by decide⟩ (V := V0 m d)) $$ [Hb H5]
  · isplitl [Hb] <;> iassumption
  iintro %w5 ⟨Hb, H5⟩
  rw [wp_ret]; imodintro
  iapply (wp_allocateBuffer 𝒱 (SparseCore.T d) none Set.univ main_v6 ⟨by decide, by decide⟩ (V := V0 m d)) $$ [Hb H6]
  · isplitl [Hb] <;> iassumption
  iintro %w6 ⟨Hb, H6⟩
  rw [wp_ret]; imodintro
  iapply (wp_hlo_within 𝒱 (SparseCore.T d) none Set.univ (op := op7) (S := SB) h7
    (V := Function.update (V0 m d) b5' (w5 ⟨b5', Finset.mem_singleton_self _⟩))) $$ [Hb H5 Hr0]
  · isplitl [Hb]; · iexact Hb
    rw [held_SB, Function.update_self, Function.update_of_ne (show r0' ≠ b5' by decide)]
    isplitl [H5] <;> iassumption
  iintro ⟨Hb, HB⟩
  rw [wp_ret]; imodintro
  iapply (wp_hlo_within 𝒱 (SparseCore.T d) none Set.univ (op := op8) (S := SC) h8
    (V := Function.update (V0 m d) b6' (w6 ⟨b6', Finset.mem_singleton_self _⟩))) $$ [Hb H6 Hr1]
  · isplitl [Hb]; · iexact Hb
    rw [held_SC, Function.update_self, Function.update_of_ne (show r1' ≠ b6' by decide)]
    isplitl [H6] <;> iassumption
  iintro ⟨Hb, HC⟩
  rw [wp_ret]; imodintro
  ihave HB' := (Entails.of_eq (held_SB (F := F) d _)) $$ HB
  icases HB' with ⟨-, Hr0⟩
  ihave HC' := (Entails.of_eq (held_SC (F := F) d _)) $$ HC
  icases HC' with ⟨-, Hr1⟩
  ihave HA' := (Entails.of_eq ((held_SA (F := F) d (V4 m d)).trans (by rw [V4_a0, V4_a1, V4_b2, V4_b4]))) $$ HA
  icases HA' with ⟨Ha0, -, Hpin, Ha1, -, Hpout⟩
  -- the call
  iapply ((K (F := F)).wp_run (D (F := F)) 𝒱 (EH := EH) (P := P (srcs m)) κ d 0) $$ [Hst Hb Hts Ha0 Ha1 Hpin Hpout Hr0 Hr1]
  isplitr; · iexact Hctx
  isplitl [Hst]; · iexact Hst
  isplitl [Hpin Hpout Hr0 Hr1]
  · rw [st0_eq]
    isplitl [Hpin Hpout]; · isplitl [Hpin] <;> iassumption
    isplitl [Hr0]
    · iexists _; iexact Hr0
    iexists _; iexact Hr1
  iintro ⟨Hst, Hdn⟩
  ihave Hdn' := (Entails.of_eq (dn0_eq (srcs m) d)) $$ Hdn
  icases Hdn' with ⟨-, Hl, Hbar⟩
  imodintro
  isplitl [Hst]; · iexact Hst
  isplitr [Hb Hts]; swap; · isplitl [Hb] <;> iassumption
  isplitl [Ha0]; · iexact Ha0
  isplitl [Ha1]; · iexact Ha1
  isplitl [Hl]; · iexact Hl
  iexact Hbar

/-! ## The run -/

/-- What a final state shows of device `d`. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_v7_0) = gathered 512 898 (srcs m).1 d
    ∧ s'.mem.mem ((d.tc : Thread nD τ).loc main_v7_1) = gathered 128 1024 (srcs m).2 d)
  ∧ s'.mem.sem (bcell d) = 0

theorem hfin (d : Dev nD) (s' : Phys nD τ sig (Elt F)) : iprop(FIN m d ∗ SI s') ⊢ (⌜fq m d s'⌝ : sProp 𝕄) := by
  iintro ⟨⟨H0, H1, ⟨H2, H3⟩, Hb⟩, HSI⟩
  ihave H := (persistent_entails_right (SI_pointsTo_agree (st := s') (ℓ := (SparseCore.T d).loc main_arg0) (I := Finset.univ) (q := fullShare) (f := m ((d.tc : Thread nD τ).loc main_arg0)))) $$ [HSI H0]
  · isplitl [HSI] <;> iassumption
  icases H with ⟨%e0, HSI, -⟩
  ihave H := (persistent_entails_right (SI_pointsTo_agree (st := s') (ℓ := (SparseCore.T d).loc main_arg1) (I := Finset.univ) (q := fullShare) (f := m ((d.tc : Thread nD τ).loc main_arg1)))) $$ [HSI H1]
  · isplitl [HSI] <;> iassumption
  icases H with ⟨%e1, HSI, -⟩
  ihave H := (persistent_entails_right (SI_pointsTo_agree (st := s') (ℓ := loc_lin d) (I := Finset.univ) (q := fullShare) (f := gathered 512 898 (srcs m).1 d))) $$ [HSI H2]
  · isplitl [HSI] <;> iassumption
  icases H with ⟨%e2, HSI, -⟩
  ihave H := (persistent_entails_right (SI_pointsTo_agree (st := s') (ℓ := loc_lout d) (I := Finset.univ) (q := fullShare) (f := gathered 128 1024 (srcs m).2 d))) $$ [HSI H3]
  · isplitl [HSI] <;> iassumption
  icases H with ⟨%e3, HSI, -⟩
  ihave H := (SparseCore.Cfg.semVal_zero_read (bcell d) s') $$ [HSI Hb]
  · isplitl [Hb] <;> iassumption
  icases H with %e4
  ipureintro
  exact ⟨⟨Buf.eq_of_forall_mem_univ e0, Buf.eq_of_forall_mem_univ e1, Buf.eq_of_forall_mem_univ e2, Buf.eq_of_forall_mem_univ e3⟩, e4⟩

/-- **The run**: from any memory, every weakly fair execution ends, nothing faulting, with every device's arguments as
    launched, its landing arrays the other devices' pieces for it, and every semaphore's counter at zero. -/
theorem run_main [∀ e, Nonempty (Elt F e)] : θ_run (defs (F := F)) (threads (F := F)) ⟨m, fun _ => 0, ρ⟩ (fun r =>
    (∀ d : Dev nD, r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_v7_0) = gathered 512 898 (srcs m).1 d
      ∧ r.2.mem ((d.tc : Thread nD τ).loc main_v7_1) = gathered 128 1024 (srcs m).2 d)
    ∧ r.2.sem = fun _ => 0) :=
  SparseCore.Cfg.θ_run_sc_held_quiescent (K := K (F := F)) (D := D (F := F)) (𝒱 := 𝒱) (EH := EH) (P := P (srcs m)) (A := barCells) (hran := held_ran (srcs m)) sc_facts v₀
    (fun q _ => match q with | 0 => scalarObl (srcs m))
    (fun q hq => match q with | 0 => nomatch hq)
    (fun q hq => match q with | 0 => nomatch hq)
    m ρ main (fun _ => iprop(emp)) (FIN m) (u₀ (F := F)) (hu₀ (srcs m)) (hmain m ρ) (fq m) (hfin m) _ (fun _ h hz => ⟨fun d => (h d).1, hz⟩)
    (hA := fun s' h g' hg => by
      obtain ⟨d, -, rfl⟩ := Finset.mem_image.mp hg
      exact (h d).2)

end Cert.Exchange

end
-- ==== Proof.Rows.lean ====
/-
  The values. The reference lays the whole array's 64 pieces out as rows — piece (source device, destination) is row
  8 · source + destination — and picks 56 of them; row 7p + s of what it picks is what device p finds in slot s. Here: a
  pick of rows read at an index, and block p of it as what the exchange leaves device p.
-/
module

public import proofs.«01_k».proof.Proof.Pieces
public import Idealize.ShloMosaic.Lib.Layout
public import Idealize.ShloMosaic.Lib.WordArith

@[expose] public section

noncomputable section

namespace Cert.Exchange

open Idealize.ShloMosaic ValueIdx Cert.KernelIdeal

variable {α : Type} (A B : ℕ)

/-- Picking 56 of 64 rows, each `A × B`, by a column of row numbers. -/
abbrev pick (wf : GatherDims.WF ⟨3, ![64, A, B]⟩ ⟨2, ![56, 1]⟩ ⟨3, ![56, A, B]⟩ [1, 2] [0] [] [0] [] 1 ![1, A, B]) :
    GatherDims ⟨3, ![64, A, B]⟩ ⟨2, ![56, 1]⟩ ⟨3, ![56, A, B]⟩ where
  offsetDims := [1, 2]
  collapsedSliceDims := [0]
  operandBatchingDims := []
  startIndicesBatchingDims := []
  startIndexMap := [0]
  indexVectorDim := 1
  sliceSizes := ![1, A, B]
  wf := wf

theorem one_not_zero : (1 : Fin 3) ∉ ([0] : List (Fin 3)) := by decide
theorem two_not_zero : (2 : Fin 3) ∉ ([0] : List (Fin 3)) := by decide

/-- The pick at `(r, i, k)`, where the column holds row number `b` at `r`, is the operand at `(b, i, k)`. -/
theorem pick_apply (wf : GatherDims.WF ⟨3, ![64, A, B]⟩ ⟨2, ![56, 1]⟩ ⟨3, ![56, A, B]⟩ [1, 2] [0] [] [0] [] 1 ![1, A, B])
    (x : (⟨3, ![64, A, B]⟩ : Shape).Idx → α) (col : IVec ⟨2, ![56, 1]⟩ 32) (r : Fin 56) (i : Fin A) (k : Fin B) (b : Fin 64)
    (hb : col (ix2 r (0 : Fin 1)) = BitVec.ofNat 32 b.val) :
    Host.gather (pick A B wf) x col (ix3 r i k) = x (ix3 b i k) := by
  unfold Host.gather
  refine congrArg x (funext fun a => Fin.ext ?_)
  have hbl := b.isLt
  have hcol : (pick A B wf).siIdx (ix3 r i k) ⟨List.idxOf (0 : Fin 3) (pick A B wf).startIndexMap,
      List.idxOf_lt_length_iff.2 (List.mem_singleton.mpr rfl)⟩ = ix2 r (0 : Fin 1) := by
    funext c; refine Fin.ext ?_
    match c with
    | ⟨0, _⟩ => rfl
    | ⟨1, _⟩ => rfl
  match a with
  | ⟨0, _⟩ =>
    show (pick A B wf).start (ix3 r i k) col 0 + (pick A B wf).batchCoord (ix3 r i k) 0 + (pick A B wf).offCoord (ix3 r i k) 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (pick A B wf).startIndexMap from List.mem_singleton.mpr rfl), hcol, hb,
      WordArith.toInt_ofNat_small _ (by omega)]
    show min ((b.val : ℤ)).toNat (64 - 1) + 0 + 0 = b.val
    omega
  | ⟨1, _⟩ =>
    show (pick A B wf).start (ix3 r i k) col 1 + (pick A B wf).batchCoord (ix3 r i k) 1 + (pick A B wf).offCoord (ix3 r i k) 1 = i.val
    rw [GatherDims.batchCoord_eq_zero _ _ _ List.not_mem_nil]
    unfold GatherDims.start GatherDims.offCoord
    rw [dif_neg (show (1 : Fin 3) ∉ (pick A B wf).startIndexMap from one_not_zero),
      dif_pos (show (1 : Fin 3) ∈ (pick A B wf).sKept from (GatherDims.mem_sKept _ _).mpr ⟨one_not_zero, List.not_mem_nil⟩)]
    simp only [Nat.zero_add]
    rfl
  | ⟨2, _⟩ =>
    show (pick A B wf).start (ix3 r i k) col 2 + (pick A B wf).batchCoord (ix3 r i k) 2 + (pick A B wf).offCoord (ix3 r i k) 2 = k.val
    rw [GatherDims.batchCoord_eq_zero _ _ _ List.not_mem_nil]
    unfold GatherDims.start GatherDims.offCoord
    rw [dif_neg (show (2 : Fin 3) ∉ (pick A B wf).startIndexMap from two_not_zero),
      dif_pos (show (2 : Fin 3) ∈ (pick A B wf).sKept from (GatherDims.mem_sKept _ _).mpr ⟨two_not_zero, List.not_mem_nil⟩)]
    simp only [Nat.zero_add]
    rfl

/-- The column of row numbers of the exchange: at `7p + s`, device `p`'s piece of the array of the device it hears on
    slot `s`. -/
def IsExchange (col : IVec ⟨2, ![56, 1]⟩ 32) : Prop := ∀ (p : Fin 8) (s : Fin 7),
  col (ix2 (⟨7 * p.val + s.val, by omega⟩ : Fin 56) (0 : Fin 1)) = BitVec.ofNat 32 (8 * (peer p (laneOf 0 s)).val + p.val)

/-- What the exchange leaves device `p`, of the blocks of a whole array, is block `p` of the rows picked of it. -/
theorem gathered_pick (wf : GatherDims.WF ⟨3, ![64, A, B]⟩ ⟨2, ![56, 1]⟩ ⟨3, ![56, A, B]⟩ [1, 2] [0] [] [0] [] 1 ![1, A, B])
    (W : (⟨5, ![8, 4, 2, A, B]⟩ : Shape).Idx → α) (col : IVec ⟨2, ![56, 1]⟩ 32) (hcol : IsExchange col)
    (h5 : (⟨5, ![1, 4, 2, A, B]⟩ : Shape).ShapeCasts (SrcS A B)) (h64 : (⟨5, ![8, 4, 2, A, B]⟩ : Shape).ShapeCasts ⟨3, ![64, A, B]⟩)
    (hS : Layout.Tiles ⟨5, ![1, 4, 2, A, B]⟩ ⟨5, ![8, 4, 2, A, B]⟩ 0 8) (hT : Layout.Tiles ⟨3, ![7, A, B]⟩ ⟨3, ![56, A, B]⟩ 0 8) (p : Dev nD) :
    gathered A B (fun d => shapeCast (SrcS A B) (Layout.block ⟨5, ![1, 4, 2, A, B]⟩ ⟨5, ![8, 4, 2, A, B]⟩ 0 8 d W hS) h5) p
      = Layout.block ⟨3, ![7, A, B]⟩ ⟨3, ![56, A, B]⟩ 0 8 p (Host.gather (pick A B wf) (shapeCast ⟨3, ![64, A, B]⟩ W h64) col) hT := by
  funext j
  obtain ⟨t, i, k, rfl⟩ : ∃ (t : Fin 7) (i : Fin A) (k : Fin B), j = ix3 t i k :=
    ⟨j 0, j 1, j 2, by funext a; fin_cases a <;> rfl⟩
  have hp : p.val < 8 := p.isLt
  have hq : (peer p (laneOf 0 t)).val < 8 := (peer p (laneOf 0 t)).isLt
  have ht := t.isLt
  have eT : hT.idx p (ix3 t i k) = ix3 (⟨7 * p.val + t.val, by omega⟩ : Fin 56) i k := by
    funext a
    refine Fin.ext ?_
    rw [Layout.Tiles.idx_val]
    fin_cases a
    · show p.val * 7 + t.val = 7 * p.val + t.val; omega
    · rfl
    · rfl
  have e5 : Shape.reshapeEquiv h5 (ix4 (⟨p.val / 2, by omega⟩ : Fin 4) (⟨p.val % 2, by omega⟩ : Fin 2) i k)
      = ix5 (0 : Fin 1) (⟨p.val / 2, by omega⟩ : Fin 4) (⟨p.val % 2, by omega⟩ : Fin 2) i k := by
    refine Shape.reshapeEquiv_eq_of_rowMajor _ ?_
    rw [Shape.rowMajor_val_four, Shape.rowMajor_val_five]
    show (((0 * 4 + p.val / 2) * 2 + p.val % 2) * A + i.val) * B + k.val = ((p.val / 2 * 2 + p.val % 2) * A + i.val) * B + k.val
    rw [Nat.zero_mul, Nat.zero_add]
  rw [Layout.block_apply, eT, pick_apply A B wf _ col _ i k ⟨8 * (peer p (laneOf 0 t)).val + p.val, by omega⟩ (hcol p t)]
  show W (hS.idx (peer p (laneOf 0 t)) (Shape.reshapeEquiv h5 (ix4 (⟨p.val / 2, by omega⟩ : Fin 4) (⟨p.val % 2, by omega⟩ : Fin 2) i k))) = W _
  rw [e5]
  refine congrArg W (Shape.reshapeEquiv_eq_of_rowMajor _ ?_).symm
  rw [Shape.rowMajor_val_three, Shape.rowMajor_val_five]
  simp only [Layout.Tiles.idx_val]
  show (((((peer p (laneOf 0 t)).val * 1 + 0) * 4 + p.val / 2) * 2 + p.val % 2) * A + i.val) * B + k.val
    = ((8 * (peer p (laneOf 0 t)).val + p.val) * A + i.val) * B + k.val
  rw [show (((peer p (laneOf 0 t)).val * 1 + 0) * 4 + p.val / 2) * 2 + p.val % 2 = 8 * (peer p (laneOf 0 t)).val + p.val by omega]

end Cert.Exchange

end
-- ==== Proof.Counting.lean ====
/-
  Counting through lanes in order: the indices from `n` on and those before `n`, how a big conjunction over either gains
  or loses its next factor, and the conjunction of copies of what can be had twice. Both calls' proofs count so.
-/
module

public import Idealize.ShloMosaic.Lib.SparseCore.Quiescent
public import Idealize.ShloMosaic.Lib.Tactic

@[expose] public section

namespace Cert

open Idealize.ShloMosaic
open Idealize.SL Idealize.SL.RA Idealize.SL.BI
open scoped Idealize.SL.BI
open Idealize.SL.BI.BIBase Idealize.SL.BI.Laws Idealize.SL.ProofMode

/-- The indices from `n` on, and those before `n`. -/
abbrev fromIx {N : ℕ} (n : ℕ) : Finset (Fin N) := Finset.univ.filter fun j => n ≤ j.val
abbrev belowIx {N : ℕ} (n : ℕ) : Finset (Fin N) := Finset.univ.filter fun j => j.val < n

theorem fromIx_step {N : ℕ} (i : Fin N) : (fromIx i.val : Finset (Fin N)) = insert i (fromIx (i.val + 1)) := by
  ext j; simp only [Finset.mem_filter, Finset.mem_univ, true_and, Finset.mem_insert, Fin.ext_iff]; omega
theorem fromIx_not_mem {N : ℕ} (i : Fin N) : i ∉ (fromIx (i.val + 1) : Finset (Fin N)) := by
  simp only [Finset.mem_filter, Finset.mem_univ, true_and]; omega
theorem belowIx_step {N : ℕ} (i : Fin N) : (belowIx (i.val + 1) : Finset (Fin N)) = insert i (belowIx i.val) := by
  ext j; simp only [Finset.mem_filter, Finset.mem_univ, true_and, Finset.mem_insert, Fin.ext_iff]; omega
theorem belowIx_not_mem {N : ℕ} (i : Fin N) : i ∉ (belowIx i.val : Finset (Fin N)) := by
  simp only [Finset.mem_filter, Finset.mem_univ, true_and]; omega
theorem fromIx_zero {N : ℕ} : (fromIx 0 : Finset (Fin N)) = Finset.univ := by
  ext j; simp
theorem fromIx_end {N : ℕ} : (fromIx N : Finset (Fin N)) = ∅ := by
  ext j; simp only [Finset.mem_filter, Finset.mem_univ, true_and, Finset.notMem_empty, iff_false]; omega
theorem belowIx_zero {N : ℕ} : (belowIx 0 : Finset (Fin N)) = ∅ := by
  ext j; simp
theorem belowIx_end {N : ℕ} : (belowIx N : Finset (Fin N)) = Finset.univ := by
  ext j; simp

section Conjunctions
variable {M : Type*} [URA M]

theorem bigSep_from_pop {N : ℕ} (i : Fin N) (Φ : Fin N → sProp M) :
    (bigSep (fromIx i.val) Φ : sProp M) = iprop(Φ i ∗ bigSep (fromIx (i.val + 1)) Φ) := by
  rw [fromIx_step, BI.bigSep_insert (fromIx_not_mem i)]; rfl
theorem bigSep_below_push {N : ℕ} (i : Fin N) (Φ : Fin N → sProp M) :
    (bigSep (belowIx (i.val + 1)) Φ : sProp M) = iprop(Φ i ∗ bigSep (belowIx i.val) Φ) := by
  rw [belowIx_step, BI.bigSep_insert (belowIx_not_mem i)]; rfl

end Conjunctions

section Parts
variable {M : Type} [URA M]

theorem bigSep_two (Φ : Fin 2 → sProp M) : (bigSep Finset.univ Φ : sProp M) = iprop(Φ 0 ∗ Φ 1) := by
  rw [show (Finset.univ : Finset (Fin 2)) = {0, 1} by decide, Idealize.ShloMosaic.SparseCore.bigSep_insert' (by decide), bigSep_singleton]
/-- The sibling last. -/
theorem bigSep_partners (Φ : Fin 4 → sProp M) :
    (bigSep Finset.univ Φ : sProp M) = iprop(Φ 3 ∗ bigSep Finset.univ fun k : Fin 3 => Φ k.castSucc) := by
  rw [show (Finset.univ : Finset (Fin 4)) = insert 3 ((Finset.univ : Finset (Fin 3)).image Fin.castSucc) by decide,
    Idealize.ShloMosaic.SparseCore.bigSep_insert' (by decide), Idealize.ShloMosaic.SparseCore.bigSep_image_of_injOn (fun a _ b _ e => Fin.castSucc_injective 3 e)]
/-- Four conjuncts, the second pair's first put first, the first pair's after it. -/
theorem sep_swap_left (a b e c : sProp M) : (iprop((a ∗ b) ∗ (e ∗ c)) : sProp M) = iprop((e ∗ a) ∗ (b ∗ c)) := by
  refine BI.Entails.antisymm ?_ ?_
  · show iprop((a ∗ b) ∗ (e ∗ c)) ⊢ iprop((e ∗ a) ∗ (b ∗ c))
    iintro ⟨⟨Ha, Hb⟩, He, Hc⟩
    isplitl [Ha He]
    · isplitl [He]; · iexact He
      iexact Ha
    isplitl [Hb]; · iexact Hb
    iexact Hc
  · show iprop((e ∗ a) ∗ (b ∗ c)) ⊢ iprop((a ∗ b) ∗ (e ∗ c))
    iintro ⟨⟨He, Ha⟩, Hb, Hc⟩
    isplitl [Ha Hb]
    · isplitl [Ha]; · iexact Ha
      iexact Hb
    isplitl [He]; · iexact He
    iexact Hc

end Parts

end Cert

end
-- ==== Proof.GatherPeers.lean ====
/-
  Who talks to whom in the weight gather. Eight devices `d = 4x + 2y + c`; a device's chip is `d / 2`, its core `d % 2`.
  Device `across d i` is `d`'s partner `i`: for `i < 3` the same core of the `i`-th other chip (`x` flipped, `y` flipped,
  both), for `i = 3` the sibling core of its own chip. Nine LANES `n = 3 k + j` carry array `j` in two MOVES: in the first
  a device sends its half of array `j` to chip partner `k`, in the second it passes what chip partner `k` sent it on to
  its sibling. A device's eight slots of a gathered array are named by devices: slot `q` is chip `q / 2`, half `q % 2`.
-/
module

public import proofs.«01_k».proof.Proof.Gen.GatherIdeal
public import proofs.«01_k».proof.Proof.Counting

@[expose] public section

namespace Cert.Gathering

open Idealize.ShloMosaic Cert.GatherIdeal
open Idealize.SL Idealize.SL.RA Idealize.SL.BI
open scoped Idealize.SL.BI
open Idealize.SL.BI.BIBase Idealize.SL.BI.Laws Idealize.SL.ProofMode

/-- What a partner's number differs by, bit by bit: `4x + 2y + c`. -/
def flipBits (i : ℕ) : ℕ := if i = 0 then 4 else if i = 1 then 2 else if i = 2 then 6 else 1
/-- Partner `i` of device `d`. -/
def across (d : Dev nD) (i : Fin 4) : Dev nD := ⟨(d.val ^^^ flipBits i.val) % 8, Nat.mod_lt _ (by decide)⟩
/-- Which partner of `p` the device `q` is. -/
def acrossIx (p q : Dev nD) : Fin 4 :=
  ⟨(if p.val ^^^ q.val = 4 then 0 else if p.val ^^^ q.val = 2 then 1 else if p.val ^^^ q.val = 6 then 2 else 3) % 4, Nat.mod_lt _ (by decide)⟩
/-- The sibling core. -/
abbrev sib (d : Dev nD) : Dev nD := across d 3

theorem across_across (d : Dev nD) (i : Fin 4) : across (across d i) i = d := by revert d i; decide
theorem across_ne (d : Dev nD) (i : Fin 4) : across d i ≠ d := by revert d i; decide
theorem across_injective (d : Dev nD) : Function.Injective (across d) := by intro a b; revert d a b; decide
theorem acrossIx_across (d : Dev nD) (i : Fin 4) : acrossIx (across d i) d = i := by revert d i; decide
theorem acrossIx_across' (d : Dev nD) (i : Fin 4) : acrossIx d (across d i) = i := by revert d i; decide

/-- A lane's array, and its chip partner. -/
def arr (n : Fin 9) : Fin 3 := ⟨n.val % 3, Nat.mod_lt _ (by decide)⟩
def chipIx (n : Fin 9) : Fin 4 := ⟨n.val / 3, by omega⟩
abbrev laneOf (k j : Fin 3) : Fin 9 := ⟨3 * k.val + j.val, by omega⟩
theorem arr_laneOf (k j : Fin 3) : arr (laneOf k j) = j := by revert k j; decide
theorem chipIx_laneOf (k j : Fin 3) : chipIx (laneOf k j) = k.castSucc := by revert k j; decide

/-- A lane's chip partner, as a device. -/
abbrev cp (d : Dev nD) (n : Fin 9) : Dev nD := across d (chipIx n)
/-- Where move `b` of lane `n` goes from device `d`, -/
def dest (b : Fin 2) (d : Dev nD) (n : Fin 9) : Dev nD := if b = 0 then cp d n else sib d
/-- the slot of device `d` that move `b` of lane `n` arrives in. -/
def lands (b : Fin 2) (d : Dev nD) (n : Fin 9) : Dev nD := if b = 0 then cp d n else cp (sib d) n
theorem dest_dest (b : Fin 2) (d : Dev nD) (n : Fin 9) : dest b (dest b d n) n = d := by revert b d n; decide
theorem lands_dest_zero (d : Dev nD) (n : Fin 9) : lands 0 (dest 0 d n) n = d := by revert d n; decide
theorem lands_dest_one (d : Dev nD) (n : Fin 9) : lands 1 (dest 1 d n) n = cp d n := by revert d n; decide
theorem lands_chip (b : Fin 2) (d : Dev nD) (n : Fin 9) : (lands b d n).val / 2 ≠ d.val / 2 := by revert b d n; decide
theorem sib_chip (d : Dev nD) : (sib d).val / 2 = d.val / 2 := by revert d; decide

/-- The slots of device `d` are its own two and the ones each move of each chip partner arrives in. -/
abbrev slotIx (d : Dev nD) : Fin 2 × Fin 4 → Dev nD := fun x => across (if x.1 = 0 then d else sib d) x.2
theorem slotIx_injective (d : Dev nD) : Function.Injective (slotIx d) := by
  rintro ⟨b, i⟩ ⟨b', i'⟩; revert d b i b' i'; decide
theorem slotIx_image (d : Dev nD) : (Finset.univ : Finset (Fin 2 × Fin 4)).image (slotIx d) = Finset.univ := by revert d; decide

/-- A conjunction over the devices, by device `d`'s own chip, its chip partners and its sibling's. -/
theorem bigSep_devices {M : Type} [URA M] (d : Dev nD) (Φ : Dev nD → sProp M) :
    (bigSep Finset.univ Φ : sProp M)
      = iprop((Φ d ∗ Φ (sib d)) ∗ (bigSep Finset.univ fun k : Fin 3 => Φ (across d k.castSucc)) ∗ bigSep Finset.univ fun k : Fin 3 => Φ (across (sib d) k.castSucc)) := by
  rw [← slotIx_image d, SparseCore.bigSep_image_of_injOn (fun a _ b _ e => slotIx_injective d e), bigSep_univ_prod, bigSep_two, bigSep_partners, bigSep_partners]
  have h0 : slotIx d (0, 3) = sib d := rfl
  have h1 : slotIx d (1, 3) = d := across_across d 3
  rw [h0, h1, sep_swap_left]
  rfl

/-- The other half of a chip's slot. -/
theorem sib_half (d : Dev nD) : (sib d).val % 2 ≠ d.val % 2 := by revert d; decide

end Cert.Gathering

end
-- ==== Proof.GatherPieces.lean ====
/-
  The gathered arrays' geometry. A source `[2, A, B]` is two HALVES, one per core; a gathered array `[4, 2, A, B]` is
  eight SLOTS, one per chip and half, or four CHIPS of two slots. A move carries one slot's worth; a device's own chip is
  copied whole. Here: the rectangles, that the slots are disjoint and cover, that a chip is its two slots, which elements
  the rectangles hold, and the gathered array a device ends with.
-/
module

public import proofs.«01_k».proof.Proof.GatherPeers
public import Idealize.ShloMosaic.Lib.ValueLayout

@[expose] public section

noncomputable section

namespace Cert.Gathering

open Idealize.ShloMosaic ValueIdx Cert.GatherIdeal

section Geometry
variable (A B : ℕ)

abbrev SrcS : Shape := ⟨3, ![2, A, B]⟩
abbrev DstS : Shape := ⟨4, ![4, 2, A, B]⟩
abbrev HalfS : Shape := ⟨3, ![1, A, B]⟩
abbrev SlotS : Shape := ⟨4, ![1, 1, A, B]⟩
abbrev ChipS : Shape := ⟨4, ![1, 2, A, B]⟩
abbrev FlatS : Shape := ⟨2, ![A, B]⟩

abbrev halfOff (d : Dev nD) : Fin 3 → ℕ := ![d.val % 2, 0, 0]
abbrev slotOff (q : Dev nD) : Fin 4 → ℕ := ![q.val / 2, q.val % 2, 0, 0]
abbrev chipOff (d : Dev nD) : Fin 4 → ℕ := ![d.val / 2, 0, 0, 0]

theorem half_inb (d : Dev nD) : ∀ a, halfOff d a + (HalfS A B).size a ≤ (SrcS A B).size a := by
  intro a
  fin_cases a
  · show d.val % 2 + 1 ≤ 2; omega
  · show 0 + A ≤ A; omega
  · show 0 + B ≤ B; omega
theorem slot_inb (q : Dev nD) : ∀ a, slotOff q a + (SlotS A B).size a ≤ (DstS A B).size a := by
  intro a
  have hq : q.val < 8 := q.isLt
  fin_cases a
  · show q.val / 2 + 1 ≤ 4; omega
  · show q.val % 2 + 1 ≤ 2; omega
  · show 0 + A ≤ A; omega
  · show 0 + B ≤ B; omega
theorem chip_inb (d : Dev nD) : ∀ a, chipOff d a + (ChipS A B).size a ≤ (DstS A B).size a := by
  intro a
  have hq : d.val < 8 := d.isLt
  fin_cases a
  · show d.val / 2 + 1 ≤ 4; omega
  · show 0 + 2 ≤ 2; omega
  · show 0 + A ≤ A; omega
  · show 0 + B ≤ B; omega

abbrev halfR (d : Dev nD) : Rect (SrcS A B) := Rect.unit (s := SrcS A B) (halfOff d) (HalfS A B).size (half_inb A B d)
abbrev slotR (q : Dev nD) : Rect (DstS A B) := Rect.unit (s := DstS A B) (slotOff q) (SlotS A B).size (slot_inb A B q)
abbrev chipR (d : Dev nD) : Rect (DstS A B) := Rect.unit (s := DstS A B) (chipOff d) (ChipS A B).size (chip_inb A B d)
abbrev slotSet (q : Dev nD) : Finset (DstS A B).Idx := (slotR A B q).set
abbrev chipSet (d : Dev nD) : Finset (DstS A B).Idx := (chipR A B d).set

theorem mem_slotSet (q : Dev nD) (j : (DstS A B).Idx) : j ∈ slotSet A B q ↔ (j 0).val = q.val / 2 ∧ (j 1).val = q.val % 2 := by
  rw [Rect.mem_set_unit]
  have h2 : (j 2).val < A := (j 2).isLt
  have h3 : (j 3).val < B := (j 3).isLt
  constructor
  · intro h
    have e0 : q.val / 2 ≤ (j 0).val ∧ (j 0).val < q.val / 2 + 1 := h 0
    have e1 : q.val % 2 ≤ (j 1).val ∧ (j 1).val < q.val % 2 + 1 := h 1
    omega
  · rintro ⟨e0, e1⟩ a
    fin_cases a
    · show q.val / 2 ≤ (j 0).val ∧ (j 0).val < q.val / 2 + 1; omega
    · show q.val % 2 ≤ (j 1).val ∧ (j 1).val < q.val % 2 + 1; omega
    · show 0 ≤ (j 2).val ∧ (j 2).val < 0 + A; omega
    · show 0 ≤ (j 3).val ∧ (j 3).val < 0 + B; omega

theorem mem_chipSet (d : Dev nD) (j : (DstS A B).Idx) : j ∈ chipSet A B d ↔ (j 0).val = d.val / 2 := by
  rw [Rect.mem_set_unit]
  have h1 : (j 1).val < 2 := (j 1).isLt
  have h2 : (j 2).val < A := (j 2).isLt
  have h3 : (j 3).val < B := (j 3).isLt
  constructor
  · intro h
    have e0 : d.val / 2 ≤ (j 0).val ∧ (j 0).val < d.val / 2 + 1 := h 0
    omega
  · intro e0 a
    fin_cases a
    · show d.val / 2 ≤ (j 0).val ∧ (j 0).val < d.val / 2 + 1; omega
    · show 0 ≤ (j 1).val ∧ (j 1).val < 0 + 2; omega
    · show 0 ≤ (j 2).val ∧ (j 2).val < 0 + A; omega
    · show 0 ≤ (j 3).val ∧ (j 3).val < 0 + B; omega

theorem slots_disjoint (q q' : Dev nD) (h : q ≠ q') : Disjoint (slotSet A B q) (slotSet A B q') := by
  rw [Finset.disjoint_left]
  intro j hj hj'
  rw [mem_slotSet] at hj hj'
  exact h (Fin.ext (by omega))
theorem slots_cover : (Finset.univ : Finset (Dev nD)).biUnion (slotSet A B) = Finset.univ := by
  ext j
  have h0 : (j 0).val < 4 := (j 0).isLt
  have h1 : (j 1).val < 2 := (j 1).isLt
  simp only [Finset.mem_biUnion, Finset.mem_univ, true_and, iff_true]
  refine ⟨⟨2 * (j 0).val + (j 1).val, by show _ < 8; omega⟩, ?_⟩
  rw [mem_slotSet]; constructor <;> show _ = _ <;> dsimp only <;> omega
/-- A device's chip is its own slot and its sibling's. -/
theorem chip_eq (d : Dev nD) : chipSet A B d = slotSet A B d ∪ slotSet A B (sib d) := by
  ext j
  have h1 : (j 1).val < 2 := (j 1).isLt
  have h2 := sib_half d
  have h3 := sib_chip d
  rw [Finset.mem_union, mem_chipSet, mem_slotSet, mem_slotSet]
  omega

/-- The element of the source that element `x` of the half of core `d % 2`, its unit axis dropped, is; -/
theorem halfR_emb (d : Dev nD) (hn : (FlatS A B).numel = (halfR A B d).shape.numel) (x : (FlatS A B).Idx) :
    (halfR A B d).emb (Shape.reshapeEquiv hn x) = ix3 (⟨d.val % 2, by omega⟩ : Fin 2) (x 0 : Fin A) (x 1 : Fin B) := by
  have hx : x = ix2 (x 0 : Fin A) (x 1 : Fin B) := by funext a; fin_cases a <;> rfl
  rw [show Shape.reshapeEquiv hn x = ix3 (⟨0, Nat.one_pos⟩ : Fin 1) (x 0 : Fin A) (x 1 : Fin B) by
    conv_lhs => rw [hx]
    exact reshapeEquiv_ix2_1ab hn _ _]
  funext a; apply Fin.ext
  fin_cases a
  · show d.val % 2 + 1 * 0 = d.val % 2; omega
  · show 0 + 1 * (x 0).val = (x 0).val; omega
  · show 0 + 1 * (x 1).val = (x 1).val; omega

/-- of the gathered array that element `x` of slot `q` is; -/
theorem slotR_emb (q : Dev nD) (hn : (FlatS A B).numel = (slotR A B q).shape.numel) (x : (FlatS A B).Idx) :
    (slotR A B q).emb (Shape.reshapeEquiv hn x)
      = ix4 (⟨q.val / 2, by have : q.val < 8 := q.isLt; omega⟩ : Fin 4) (⟨q.val % 2, by omega⟩ : Fin 2) (x 0 : Fin A) (x 1 : Fin B) := by
  have hx : x = ix2 (x 0 : Fin A) (x 1 : Fin B) := by funext a; fin_cases a <;> rfl
  rw [show Shape.reshapeEquiv hn x = ix4 (⟨0, Nat.one_pos⟩ : Fin 1) (⟨0, Nat.one_pos⟩ : Fin 1) (x 0 : Fin A) (x 1 : Fin B) by
    conv_lhs => rw [hx]
    exact reshapeEquiv_ix2_11ab hn _ _]
  funext a; apply Fin.ext
  fin_cases a
  · show q.val / 2 + 1 * 0 = q.val / 2; omega
  · show q.val % 2 + 1 * 0 = q.val % 2; omega
  · show 0 + 1 * (x 0).val = (x 0).val; omega
  · show 0 + 1 * (x 1).val = (x 1).val; omega

/-- of the gathered array that element `x` of `d`'s chip, its unit axis dropped, is. -/
theorem chipR_emb (d : Dev nD) (hn : (SrcS A B).numel = (chipR A B d).shape.numel) (x : (SrcS A B).Idx) :
    (chipR A B d).emb (Shape.reshapeEquiv hn x)
      = ix4 (⟨d.val / 2, by have : d.val < 8 := d.isLt; omega⟩ : Fin 4) (x 0 : Fin 2) (x 1 : Fin A) (x 2 : Fin B) := by
  have hx : x = ix3 (x 0 : Fin 2) (x 1 : Fin A) (x 2 : Fin B) := by funext a; fin_cases a <;> rfl
  rw [show Shape.reshapeEquiv hn x = ix4 (⟨0, Nat.one_pos⟩ : Fin 1) (x 0 : Fin 2) (x 1 : Fin A) (x 2 : Fin B) by
    conv_lhs => rw [hx]
    exact reshapeEquiv_ix3_1abc hn _ _ _]
  funext a; apply Fin.ext
  fin_cases a
  · show d.val / 2 + 1 * 0 = d.val / 2; omega
  · show 0 + 1 * (x 0).val = (x 0).val; omega
  · show 0 + 1 * (x 1).val = (x 1).val; omega
  · show 0 + 1 * (x 2).val = (x 2).val; omega

/-- What device `p` ends with: in slot `q` of another chip the half of core `q % 2` of device `q`'s array, in its own chip its own array. -/
def gathered {α : Type} (X : Dev nD → (SrcS A B).Idx → α) (p : Dev nD) : (DstS A B).Idx → α := fun j =>
  X (if (j 0).val = p.val / 2 then p else ⟨(2 * (j 0).val + (j 1).val) % 8, Nat.mod_lt _ (by decide)⟩)
    (ix3 (j 1 : Fin 2) (j 2 : Fin A) (j 3 : Fin B))
theorem gathered_other {α : Type} (X : Dev nD → (SrcS A B).Idx → α) (p q : Dev nD) (h : q.val / 2 ≠ p.val / 2)
    (h0 : q.val / 2 < 4) (h1 : q.val % 2 < 2) (a : Fin A) (b : Fin B) :
    gathered A B X p (ix4 (⟨q.val / 2, h0⟩ : Fin 4) (⟨q.val % 2, h1⟩ : Fin 2) a b) = X q (ix3 (⟨q.val % 2, h1⟩ : Fin 2) a b) := by
  have hq : q.val < 8 := q.isLt
  show X (if q.val / 2 = p.val / 2 then p else ⟨(2 * (q.val / 2) + q.val % 2) % 8, Nat.mod_lt _ (by decide)⟩) (ix3 (⟨q.val % 2, h1⟩ : Fin 2) a b) = _
  rw [if_neg h, show (⟨(2 * (q.val / 2) + q.val % 2) % 8, Nat.mod_lt _ (by decide)⟩ : Dev nD) = q from Fin.ext (by dsimp only; omega)]
theorem gathered_own {α : Type} (X : Dev nD → (SrcS A B).Idx → α) (d : Dev nD) (h0 : d.val / 2 < 4) (r : Fin 2) (a : Fin A) (b : Fin B) :
    gathered A B X d (ix4 (⟨d.val / 2, h0⟩ : Fin 4) r a b) = X d (ix3 r a b) := by
  show X (if d.val / 2 = d.val / 2 then d else ⟨(2 * (d.val / 2) + r.val) % 8, Nat.mod_lt _ (by decide)⟩) (ix3 r a b) = _
  rw [if_pos rfl]

end Geometry

end Cert.Gathering

end
-- ==== Proof.GatherSetup.lean ====
/-
  The gather's program as the launch theorem for SparseCore programs sees it, the six arrays the kernel is handed, and the
  cells its protocol runs on: on every device's SparseCore 0 one barrier cell, one send and one receive cell per lane and
  move, and one cell per array for the copy of the device's own chip.
-/
module

public import proofs.«01_k».proof.Proof.GatherPieces
public import proofs.«01_k».proof.Proof.Gen.GatherIdeal.Skeleton
public import Idealize.ShloMosaic.Lib.SparseCore.Quiescent
public import Idealize.ShloMosaic.Lib.StableHlo.Run
public import Idealize.ShloMosaic.Lib.Tactic

@[expose] public section

noncomputable section

namespace Cert.Gathering

open Cert.GatherIdeal Cert.GatherIdeal.Gen
open Idealize.ShloMosaic ValueIdx
open SparseCore (S V T)
open SparseCore.Cfg (HIx Pay tileRest ownBufs ownSems0 ownCells ownRefs mem_ownCells mem_ownRefs)
open Idealize.SL RA BI BI.BIBase BI.Laws ProofMode Sem
open Rounds
open StableHlo (held wp_hlo_within wp_allocateBuffer)

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the SparseCores' buffers are as the launch theorem asks. -/
theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the gather's rounds (duties named by devices) -/

abbrev UH : Type := URounds (GSem nD τ sig) ℕ
abbrev UA : Type := URounds (GSem nD τ sig) (Dev nD)
abbrev UU : Type := UH × UA

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UA (MT nD τ sig (HIx 1) (Elt F) ℕ UU ℕ) :=
  (Emb.inr : Emb UA UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UA 𝕄).LandsIn (upEmb : UEmb _ 𝕄) := by unfold ER; infer_instance

theorem ownU_split (a : UH) (b : UA) : (ownU (a, b) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

/-! ## The kernel on SparseCore 0 and its arrays -/

/-- The kernel's grid coordinates on a SparseCore of its grid, as the program hands them to it; -/
def coordsS (c : Fin (grid0.bound 0)) : grid0.Coords := fun | 0 => c | ⟨_ + 1, h⟩ => absurd h (Nat.not_lt.2 (Nat.le_add_left _ _))
abbrev L₀ : grid0.Coords := coordsS ⟨0, by decide⟩
/-- SparseCore 0, as the kernel's own text names it. -/
abbrev c₀ : Fin τ.nSC := (L₀ 0).castLE hcore0
theorem c₀_val : c₀.val = 0 := by decide

/-- A half's rows and columns, array by array. -/
def rowsOf : Fin 3 → ℕ | 0 => 128 | 1 => 512 | 2 => 128
def colsOf : Fin 3 → ℕ | 0 => 1024 | 1 => 898 | 2 => 1024
abbrev SrcSh (j : Fin 3) : Shape := SrcS (rowsOf j) (colsOf j)
abbrev DstSh (j : Fin 3) : Shape := DstS (rowsOf j) (colsOf j)
abbrev FlatSh (j : Fin 3) : Shape := FlatS (rowsOf j) (colsOf j)

/-- The sources and the gathered arrays, as the kernel names them. -/
def srcM : (j : Fin 3) → Memref sig .scScalar .hbm (SrcSh j) .bf16
  | 0 => Memref.whole main_v4_scs | 1 => Memref.whole main_v8_scs | 2 => Memref.whole main_v12_scs
def dstM : (j : Fin 3) → Memref sig .scScalar .hbm (DstSh j) .bf16
  | 0 => Memref.whole main_v16_0_scs | 1 => Memref.whole main_v16_1_scs | 2 => Memref.whole main_v16_2_scs

/-- Where device `d` keeps them. -/
abbrev loc_src (j : Fin 3) (d : Dev nD) : Loc nD τ sig := (srcM j).view.loc (S d c₀)
abbrev loc_dst (j : Fin 3) (d : Dev nD) : Loc nD τ sig := (dstM j).view.loc (S d c₀)

/-- The kernel as the program applies it on a SparseCore. -/
theorem defs₀_scalar [FloatOps F] (c : Fin τ.nSC) :
    defs₀ (F := F) (.scScalar c) 0 () = SparseCore.onCore hcore0 (fun c => cc0_gather_weights_beside (coordsS c)
      (Memref.whole main_v4_scs) (Memref.isWhole_whole _) (Memref.whole main_v16_0_scs) (Memref.isWhole_whole _)
      (Memref.whole main_v8_scs) (Memref.isWhole_whole _) (Memref.whole main_v16_1_scs) (Memref.isWhole_whole _)
      (Memref.whole main_v12_scs) (Memref.isWhole_whole _) (Memref.whole main_v16_2_scs) (Memref.isWhole_whole _)
      (Memref.whole main_v16_0_scs) (Memref.isWhole_whole _) (Memref.whole main_v16_1_scs) (Memref.isWhole_whole _)
      (Memref.whole main_v16_2_scs) (Memref.isWhole_whole _) cc0_scratch0 cc0_scratch1 cc0_scratch2 cc0_scratch3 cc0_scratch4) ⟨⟩ c := rfl
/-- on SparseCore 0. -/
abbrev kern [FloatOps F] : Prog (TpuEff nD τ sig (Elt F) Λ₀ (.scScalar c₀)) PUnit :=
  cc0_gather_weights_beside L₀ (Memref.whole main_v4_scs) (Memref.isWhole_whole _) (Memref.whole main_v16_0_scs) (Memref.isWhole_whole _)
      (Memref.whole main_v8_scs) (Memref.isWhole_whole _) (Memref.whole main_v16_1_scs) (Memref.isWhole_whole _)
      (Memref.whole main_v12_scs) (Memref.isWhole_whole _) (Memref.whole main_v16_2_scs) (Memref.isWhole_whole _)
      (Memref.whole main_v16_0_scs) (Memref.isWhole_whole _) (Memref.whole main_v16_1_scs) (Memref.isWhole_whole _)
      (Memref.whole main_v16_2_scs) (Memref.isWhole_whole _) cc0_scratch0 cc0_scratch1 cc0_scratch2 cc0_scratch3 cc0_scratch4

/-! ### The views the transfers name -/

theorem squeezes_half : (j : Fin 3) → (HalfS (rowsOf j) (colsOf j)).Squeezes (FlatSh j)
  | 0 => squeezes_S1x128x1024_S128x1024 | 1 => squeezes_S1x512x898_S512x898 | 2 => squeezes_S1x128x1024_S128x1024
theorem squeezes_slot : (j : Fin 3) → (SlotS (rowsOf j) (colsOf j)).Squeezes (FlatSh j)
  | 0 => squeezes_S1x1x128x1024_S128x1024 | 1 => squeezes_S1x1x512x898_S512x898 | 2 => squeezes_S1x1x128x1024_S128x1024
theorem squeezes_chip : (j : Fin 3) → (ChipS (rowsOf j) (colsOf j)).Squeezes (SrcSh j)
  | 0 => squeezes_S1x2x128x1024_S2x128x1024 | 1 => squeezes_S1x2x512x898_S2x512x898 | 2 => squeezes_S1x2x128x1024_S2x128x1024

/-- The half of source `j` that core `d % 2` sends; -/
abbrev halfV (j : Fin 3) (d : Dev nD) : Memref sig .scScalar .hbm (FlatSh j) .bf16 :=
  ((srcM j).slice (halfR (rowsOf j) (colsOf j) d) (fun _ => rfl)).squeeze (FlatSh j) (squeezes_half j)
/-- slot `q` of gathered array `j`; -/
abbrev slotV (j : Fin 3) (q : Dev nD) : Memref sig .scScalar .hbm (FlatSh j) .bf16 :=
  ((dstM j).slice (slotR (rowsOf j) (colsOf j) q) (fun _ => rfl)).squeeze (FlatSh j) (squeezes_slot j)
/-- the two slots of `d`'s chip there. -/
abbrev chipV (j : Fin 3) (d : Dev nD) : Memref sig .scScalar .hbm (SrcSh j) .bf16 :=
  ((dstM j).slice (chipR (rowsOf j) (colsOf j) d) (fun _ => rfl)).squeeze (SrcSh j) (squeezes_chip j)

/-! ### What the views hold -/

theorem set_slotV (j : Fin 3) (q : Dev nD) : (slotV j q).view.set = (slotSet (rowsOf j) (colsOf j) q).map (dstM j).view.emb :=
  (View.set_reshape _ _).trans (View.set_slice _ _)
theorem set_chipV (j : Fin 3) (d : Dev nD) : (chipV j d).view.set = (chipSet (rowsOf j) (colsOf j) d).map (dstM j).view.emb :=
  (View.set_reshape _ _).trans (View.set_slice _ _)
theorem set_dstM (j : Fin 3) : (Finset.univ.map (dstM j).view.emb : Finset (dstM j).view.ty.Idx) = Finset.univ := by
  match j with
  | 0 => exact View.set_whole _
  | 1 => exact View.set_whole _
  | 2 => exact View.set_whole _
theorem set_srcM (j : Fin 3) : (srcM j).view.set = Finset.univ := by
  match j with
  | 0 => exact View.set_whole _
  | 1 => exact View.set_whole _
  | 2 => exact View.set_whole _

theorem slotsV_disjoint (j : Fin 3) (q q' : Dev nD) (h : q ≠ q') : Disjoint (slotV j q).view.set (slotV j q').view.set := by
  rw [set_slotV, set_slotV]; exact (Finset.disjoint_map _).mpr (slots_disjoint _ _ q q' h)
/-- Slot `q`'s elements, as elements of the array. -/
abbrev slotIdxs (j : Fin 3) (q : Dev nD) : Finset (dstM j).view.ty.Idx := (slotV j q).view.set
theorem slotsV_cover (j : Fin 3) : (Finset.univ : Finset (Dev nD)).biUnion (fun q => slotIdxs j q) = Finset.univ := by
  rw [← set_dstM j, ← slots_cover (rowsOf j) (colsOf j)]
  ext i
  simp only [set_slotV, Finset.mem_biUnion, Finset.mem_map, Finset.mem_univ, true_and]
  constructor
  · rintro ⟨q, x, hx, rfl⟩; exact ⟨x, ⟨q, hx⟩, rfl⟩
  · rintro ⟨x, ⟨q, hx⟩, rfl⟩; exact ⟨q, x, hx, rfl⟩
theorem chipV_eq (j : Fin 3) (d : Dev nD) : (chipV j d).view.set = slotIdxs j d ∪ slotIdxs j (sib d) := by
  rw [show slotIdxs j d = _ from set_slotV j d, show slotIdxs j (sib d) = _ from set_slotV j (sib d), set_chipV, chip_eq, Finset.map_union]

/-- Source `j` holding `v`, the gathered array `j` holding `v`. -/
def srcBuf : (j : Fin 3) → (d : Dev nD) → ((SrcSh j).Idx → Elt F .bf16) → Buf (Elt F) (loc_src j d)
  | 0, _, v => v | 1, _, v => v | 2, _, v => v
def dstBuf : (j : Fin 3) → (d : Dev nD) → ((DstSh j).Idx → Elt F .bf16) → Buf (Elt F) (loc_dst j d)
  | 0, _, v => v | 1, _, v => v | 2, _, v => v
theorem read_srcM (j : Fin 3) (d : Dev nD) (v : (SrcSh j).Idx → Elt F .bf16) : (srcM j).view.read (Elt F) (srcBuf j d v) = v := by
  match j with
  | 0 => rfl
  | 1 => rfl
  | 2 => rfl
theorem read_dstM (j : Fin 3) (d : Dev nD) (v : (DstSh j).Idx → Elt F .bf16) : (dstM j).view.read (Elt F) (dstBuf j d v) = v := by
  match j with
  | 0 => rfl
  | 1 => rfl
  | 2 => rfl

theorem read_halfV (j : Fin 3) (d : Dev nD) (v : (SrcSh j).Idx → Elt F .bf16) (x : (FlatSh j).Idx) :
    (halfV j d).view.read (Elt F) (srcBuf j d v) x = v (ix3 (⟨d.val % 2, by omega⟩ : Fin 2) (x 0 : Fin (rowsOf j)) (x 1 : Fin (colsOf j))) :=
  (show _ = (srcM j).view.read (Elt F) (srcBuf j d v) ((halfR (rowsOf j) (colsOf j) d).emb (Shape.reshapeEquiv (squeezes_half j).numel_eq x)) from rfl).trans
    (by rw [read_srcM, halfR_emb]; rfl)
theorem read_slotV (j : Fin 3) (p q : Dev nD) (v : (DstSh j).Idx → Elt F .bf16) (x : (FlatSh j).Idx) :
    (slotV j q).view.read (Elt F) (dstBuf j p v) x
      = v (ix4 (⟨q.val / 2, by have : q.val < 8 := q.isLt; omega⟩ : Fin 4) (⟨q.val % 2, by omega⟩ : Fin 2) (x 0 : Fin (rowsOf j)) (x 1 : Fin (colsOf j))) :=
  (show _ = (dstM j).view.read (Elt F) (dstBuf j p v) ((slotR (rowsOf j) (colsOf j) q).emb (Shape.reshapeEquiv (squeezes_slot j).numel_eq x)) from rfl).trans
    (by rw [read_dstM, slotR_emb]; rfl)
theorem read_chipV (j : Fin 3) (p d : Dev nD) (v : (DstSh j).Idx → Elt F .bf16) (x : (SrcSh j).Idx) :
    (chipV j d).view.read (Elt F) (dstBuf j p v) x
      = v (ix4 (⟨d.val / 2, by have : d.val < 8 := d.isLt; omega⟩ : Fin 4) (x 0 : Fin 2) (x 1 : Fin (rowsOf j)) (x 2 : Fin (colsOf j))) :=
  (show _ = (dstM j).view.read (Elt F) (dstBuf j p v) ((chipR (rowsOf j) (colsOf j) d).emb (Shape.reshapeEquiv (squeezes_chip j).numel_eq x)) from rfl).trans
    (by rw [read_dstM, chipR_emb]; rfl)

/-- What is written through a view is what the view is to hold, if that reads so. -/
theorem write_of_read {κ : Kind} {sp : Space} {s : Shape} {e : EltTy} (v : View sig κ sp s e) (fd fv : v.ty.Contents (Elt F))
    (w : s.Idx → Elt F e) (h : ∀ x, v.read (Elt F) fv x = w x) : ∀ i ∈ v.set, v.write (Elt F) fd w Finset.univ i = fv i := by
  intro i hi
  obtain ⟨x, -, rfl⟩ := Finset.mem_map.mp hi
  rw [View.write_emb_of_mem _ _ (Finset.mem_univ x), ← h x, View.read_apply, cast_cast, cast_eq]

/-! ### Credits -/

/-- What one slot's worth of array `j` credits its semaphores, and what a whole chip's worth does. -/
def Nslot (j : Fin 3) : ℕ := (slotV j 0).view.dmaCredit
def Nchip (j : Fin 3) : ℕ := (chipV j 0).view.dmaCredit
theorem Nslot_pos (j : Fin 3) : 0 < Nslot j := by
  match j with
  | 0 => exact View.dmaCredit_pos _ (by decide)
  | 1 => exact View.dmaCredit_pos _ (by decide)
  | 2 => exact View.dmaCredit_pos _ (by decide)
theorem Nchip_pos (j : Fin 3) : 0 < Nchip j := by
  match j with
  | 0 => exact View.dmaCredit_pos _ (by decide)
  | 1 => exact View.dmaCredit_pos _ (by decide)
  | 2 => exact View.dmaCredit_pos _ (by decide)
/-- What a lane's moves credit. -/
abbrev credit (n : Fin 9) : ℕ := Nslot (arr n)
theorem credit_pos (n : Fin 9) : 0 < credit n := Nslot_pos _

/-! ## The cells -/

/-- The barrier; of move `b` of a lane the send (0) or receive (1) cell; an array's own copy's cell. -/
abbrev Own : Type := ((Fin 2 × Fin 2) × Fin 9) ⊕ Fin 3
abbrev Cell : Type := Unit ⊕ Own

/-- The cells' semaphores. -/
def asem : Cell → SemLoc sig
  | .inl _ => .reg barrier1
  | .inr (.inl ((b, r), n)) => .dma ⟨9 * (2 * b.val + r.val) + n.val, by show _ < 39; have := b.isLt; have := r.isLt; have := n.isLt; omega⟩
  | .inr (.inr j) => .dma ⟨36 + j.val, by show _ < 39; have := j.isLt; omega⟩
/-- A semaphore's cell. -/
def cellOf : SemLoc sig → Cell
  | .reg _ => .inl ()
  | .dma k => if k.val < 36 then .inr (.inl ((⟨k.val / 18 % 2, by omega⟩, ⟨k.val / 9 % 2, by omega⟩), ⟨k.val % 9, by omega⟩)) else .inr (.inr ⟨k.val % 3, by omega⟩)
theorem cellOf_asem (x : Cell) : cellOf (asem x) = x := by
  rcases x with u | ⟨⟨b, r⟩, n⟩ | j
  · rfl
  · revert b r n; decide
  · revert j; decide

/-- Cell `x` of device `d`. -/
abbrev acell (dx : Dev nD × Cell) : GSem nD τ sig := (S dx.1 c₀, asem dx.2)
theorem acell_injective : Function.Injective (acell : Dev nD × Cell → GSem nD τ sig) := fun a b e => by
  obtain ⟨h1, h2⟩ := Prod.mk.inj e
  refine Prod.ext (Prod.mk.inj h1).1 ?_
  rw [← cellOf_asem a.2, ← cellOf_asem b.2, h2]
abbrev bcell (d : Dev nD) : GSem nD τ sig := acell (d, .inl ())
abbrev ocell (d : Dev nD) (x : Own) : GSem nD τ sig := acell (d, .inr x)
abbrev lcell (d : Dev nD) (b r : Fin 2) (n : Fin 9) : GSem nD τ sig := acell (d, .inr (.inl ((b, r), n)))
abbrev ccell (d : Dev nD) (j : Fin 3) : GSem nD τ sig := acell (d, .inr (.inr j))

/-- Every device's cells; those scoped to the sequencer; the barriers. -/
def aCells : Finset (GSem nD τ sig) := Finset.univ.image acell
def ownedCells : Finset (GSem nD τ sig) := Finset.univ.image fun x : Dev nD × Own => ocell x.1 x.2
def barCells : Finset (GSem nD τ sig) := Finset.univ.image bcell

theorem aCells_eq (Φ : GSem nD τ sig → sProp 𝕄) : bigSep aCells Φ = bigSep Finset.univ fun x : Dev nD × Cell => Φ (acell x) := by
  unfold aCells; exact SparseCore.bigSep_image_of_injOn (fun a _ b _ e => acell_injective e) Φ

theorem lev_bcell (d : Dev nD) : (K (F := F)).lev (bcell d) (some 0) = 3 :=
  (K (F := F)).lev_S_reg d c₀ (s := barrier1) (show barrier1 ≠ sc_start by decide) (show barrier1 ≠ sc_taskDone by decide) 0
theorem lev_ocell (d : Dev nD) (x : Own) : (K (F := F)).lev (ocell d x) (some 0) = 5 := by
  rcases x with ⟨⟨b, r⟩, n⟩ | j
  · exact (K (F := F)).lev_S_dma d c₀ _ 0
  · exact (K (F := F)).lev_S_dma d c₀ _ 0
theorem lev_acell_band (dx : Dev nD × Cell) : 8 * (0 : Fin 1).val + 3 ≤ (K (F := F)).lev (acell dx) (some 0) ∧ (K (F := F)).lev (acell dx) (some 0) ≤ 8 * (0 : Fin 1).val + 5 := by
  obtain ⟨d, u | x⟩ := dx
  · rw [show acell (d, .inl u) = bcell d from rfl, lev_bcell]; decide
  · rw [show acell (d, .inr x) = ocell d x from rfl, lev_ocell]; decide

end Cert.Gathering

end
-- ==== Proof.GatherSchedule.lean ====
/-
  The gather's protocol. Every cell has one round. The BARRIER of device `p` is paid one unit by each partner, which
  hands over the slots `p` will write there: so whoever has passed its barrier owns, on each partner, the slots it sends
  into. A move's SEND cell is paid by the move's own copy and hands its source back: a share of the half in the first
  move, the slot itself in the second. A move's RECEIVE cell is paid by the copy of the device at the other end and hands
  over the slot it has filled. The copy of a device's own chip pays its array's cell and hands over the chip and the
  share of the source it read.
-/
module

public import proofs.«01_k».proof.Proof.GatherSetup
public import Idealize.ShloMosaic.Lib.ShareLeaves

@[expose] public section

noncomputable section

namespace Cert.Gathering

open Cert.GatherIdeal Cert.GatherIdeal.Gen
open Idealize.ShloMosaic
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

/-- The gathered arrays of every device. -/
abbrev Srcs (F : FTy → Type) : Type := (j : Fin 3) → Dev nD → (SrcSh j).Idx → Elt F .bf16

/-! ## Conjunctions over lanes, partners, slots and cells -/

/-- The lanes by their partners, then by their arrays; and the other way about. -/
theorem bigSep_lanes (Φ : Fin 9 → sProp 𝕄) :
    (bigSep Finset.univ Φ : sProp 𝕄) = bigSep Finset.univ fun k : Fin 3 => bigSep Finset.univ fun j : Fin 3 => Φ (laneOf k j) := by
  have himg : (Finset.univ : Finset (Fin 3 × Fin 3)).image (fun x => laneOf x.1 x.2) = Finset.univ := by decide
  have hinj : ∀ a ∈ (Finset.univ : Finset (Fin 3 × Fin 3)), ∀ b ∈ (Finset.univ : Finset (Fin 3 × Fin 3)),
      laneOf a.1 a.2 = laneOf b.1 b.2 → a = b := by decide
  rw [← himg, SparseCore.bigSep_image_of_injOn (fun a ha b hb e => hinj a ha b hb e), bigSep_univ_prod]
theorem bigSep_lanes' (Φ : Fin 9 → sProp 𝕄) :
    (bigSep Finset.univ Φ : sProp 𝕄) = bigSep Finset.univ fun j : Fin 3 => bigSep Finset.univ fun k : Fin 3 => Φ (laneOf k j) := by
  have himg : (Finset.univ : Finset (Fin 3 × Fin 3)).image (fun x => laneOf x.2 x.1) = Finset.univ := by decide
  have hinj : ∀ a ∈ (Finset.univ : Finset (Fin 3 × Fin 3)), ∀ b ∈ (Finset.univ : Finset (Fin 3 × Fin 3)),
      laneOf a.2 a.1 = laneOf b.2 b.1 → a = b := by decide
  rw [← himg, SparseCore.bigSep_image_of_injOn (fun a ha b hb e => hinj a ha b hb e), bigSep_univ_prod]
/-- The slots of every array on device `d`: its own chip's, and what each move brings. -/
theorem bigSep_slots (d : Dev nD) (Φ : Fin 3 → Dev nD → sProp 𝕄) :
    (bigSep Finset.univ fun j : Fin 3 => (bigSep Finset.univ fun q : Dev nD => Φ j q : sProp 𝕄))
      = iprop((bigSep Finset.univ fun j : Fin 3 => iprop(Φ j d ∗ Φ j (sib d)))
          ∗ (bigSep Finset.univ fun n : Fin 9 => Φ (arr n) (lands 0 d n)) ∗ bigSep Finset.univ fun n : Fin 9 => Φ (arr n) (lands 1 d n)) := by
  have hslot : ∀ j : Fin 3, (bigSep Finset.univ fun q : Dev nD => Φ j q : sProp 𝕄)
      = iprop((Φ j d ∗ Φ j (sib d)) ∗ (bigSep Finset.univ fun k : Fin 3 => Φ j (across d k.castSucc)) ∗ bigSep Finset.univ fun k : Fin 3 => Φ j (across (sib d) k.castSucc)) :=
    fun j => bigSep_devices d (Φ j)
  rw [bigSep_congr fun j _ => hslot j,
    bigSep_sep' Finset.univ (fun j : Fin 3 => iprop(Φ j d ∗ Φ j (sib d))), bigSep_sep' Finset.univ (fun j : Fin 3 => bigSep Finset.univ fun k : Fin 3 => Φ j (across d k.castSucc)),
    bigSep_lanes' fun n => Φ (arr n) (lands 0 d n), bigSep_lanes' fun n => Φ (arr n) (lands 1 d n)]
  have e0 : (bigSep Finset.univ fun j : Fin 3 => bigSep Finset.univ fun k : Fin 3 => Φ j (across d k.castSucc) : sProp 𝕄)
      = bigSep Finset.univ fun j : Fin 3 => bigSep Finset.univ fun k : Fin 3 => Φ (arr (laneOf k j)) (lands 0 d (laneOf k j)) :=
    bigSep_congr fun j _ => bigSep_congr fun k _ => by
      rw [arr_laneOf]; show _ = Φ j (across d (chipIx (laneOf k j))); rw [chipIx_laneOf]
  have e1 : (bigSep Finset.univ fun j : Fin 3 => bigSep Finset.univ fun k : Fin 3 => Φ j (across (sib d) k.castSucc) : sProp 𝕄)
      = bigSep Finset.univ fun j : Fin 3 => bigSep Finset.univ fun k : Fin 3 => Φ (arr (laneOf k j)) (lands 1 d (laneOf k j)) :=
    bigSep_congr fun j _ => bigSep_congr fun k _ => by
      rw [arr_laneOf]; show _ = Φ j (across (sib d) (chipIx (laneOf k j))); rw [chipIx_laneOf]
  rw [e0, e1]
/-- One device's cells but the barrier, kind by kind. -/
theorem bigSep_own (Φ : Own → sProp 𝕄) :
    (bigSep Finset.univ Φ : sProp 𝕄)
      = iprop((((bigSep Finset.univ fun n => Φ (.inl ((0, 0), n))) ∗ bigSep Finset.univ fun n => Φ (.inl ((0, 1), n)))
            ∗ ((bigSep Finset.univ fun n => Φ (.inl ((1, 0), n))) ∗ bigSep Finset.univ fun n => Φ (.inl ((1, 1), n))))
          ∗ bigSep Finset.univ fun j => Φ (.inr j)) := by
  rw [bigSep_univ_sum, bigSep_univ_prod, bigSep_univ_prod, bigSep_two, bigSep_two, bigSep_two]; rfl

variable (X : Srcs F)

/-! ## What is handed over -/

/-- A lane's partner number, as the number of the share of the source its first move reads. -/
def kOf (n : Fin 9) : Fin 4 := chipIx n
/-- The share of a source that move to chip partner `i` reads; the last is the own copy's. -/
abbrev shareOf (i : Fin 4) : PosShare TreeShare := ShareLeaves.leaf 2 fullShare i
/-- The half a device sends, as elements of the source. -/
abbrev halfIdxs (j : Fin 3) (d : Dev nD) : Finset (srcM j).view.ty.Idx := (halfV j d).view.set
abbrev srcOf (j : Fin 3) (d : Dev nD) : Buf (Elt F) (loc_src j d) := srcBuf j d (X j d)
/-- What device `p` ends with. -/
abbrev landed (j : Fin 3) (p : Dev nD) : Buf (Elt F) (loc_dst j p) := dstBuf j p (gathered (rowsOf j) (colsOf j) (X j) p)

/-- A move's share of the half it sends; -/
def halfPts (j : Fin 3) (i : Fin 4) (d : Dev nD) : sProp 𝕄 := loc_src j d ↦[halfIdxs j d]{shareOf i} srcOf X j d
/-- the own copy's share of the source; -/
def copyPts (j : Fin 3) (d : Dev nD) : sProp 𝕄 := loc_src j d ↦[(srcM j).view.set]{shareOf 3} srcOf X j d
/-- slot `q` of device `d`'s array `j`, holding anything; -/
def slotAny (j : Fin 3) (d q : Dev nD) : sProp 𝕄 := iprop(∃ f, loc_dst j d ↦[slotIdxs j q]{fullShare} f)
/-- the same slot, holding what it is to hold; -/
def slotVal (j : Fin 3) (d q : Dev nD) : sProp 𝕄 := loc_dst j d ↦[slotIdxs j q]{fullShare} landed X j d
/-- a device's own chip of array `j`, holding anything. -/
def chipAny (j : Fin 3) (d : Dev nD) : sProp 𝕄 := iprop(∃ f, loc_dst j d ↦[(chipV j d).view.set]{fullShare} f)
/-- The slots of `d` that its partner `i` writes. -/
def handed (d : Dev nD) (i : Fin 4) : sProp 𝕄 :=
  if i = 3 then bigSep Finset.univ fun n : Fin 9 => slotAny (arr n) d (lands 1 d n) else bigSep Finset.univ fun j : Fin 3 => slotAny j d (across d i)
/-- What a move's send cell gives back. -/
def sentPts (b : Fin 2) (d : Dev nD) (n : Fin 9) : sProp 𝕄 := if b = 0 then halfPts X (arr n) (kOf n) d else slotVal X (arr n) d (lands 0 d n)
/-- What the cells hand over. -/
def ownPay (d : Dev nD) : Own → sProp 𝕄
  | .inl ((b, r), n) => if r = 0 then sentPts X b d n else slotVal X (arr n) d (lands b d n)
  | .inr j => iprop((loc_dst j d ↦[(chipV j d).view.set]{fullShare} landed X j d) ∗ copyPts X j d)

instance halfPts_storable (j : Fin 3) (i : Fin 4) (d : Dev nD) : BI.Storable (upEmb : UEmb _ 𝕄) (halfPts X j i d) := by unfold halfPts; infer_instance
instance copyPts_storable (j : Fin 3) (d : Dev nD) : BI.Storable (upEmb : UEmb _ 𝕄) (copyPts X j d) := by unfold copyPts; infer_instance
instance slotAny_storable (j : Fin 3) (d q : Dev nD) : BI.Storable (upEmb : UEmb _ 𝕄) (slotAny j d q : sProp 𝕄) := by unfold slotAny; infer_instance
instance slotVal_storable (j : Fin 3) (d q : Dev nD) : BI.Storable (upEmb : UEmb _ 𝕄) (slotVal X j d q) := by unfold slotVal; infer_instance
instance handed_storable (d : Dev nD) (i : Fin 4) : BI.Storable (upEmb : UEmb _ 𝕄) (handed d i : sProp 𝕄) := by unfold handed; split <;> infer_instance
instance sentPts_storable (b : Fin 2) (d : Dev nD) (n : Fin 9) : BI.Storable (upEmb : UEmb _ 𝕄) (sentPts X b d n) := by unfold sentPts; split <;> infer_instance
instance ownPay_storable (d : Dev nD) (x : Own) : BI.Storable (upEmb : UEmb _ 𝕄) (ownPay X d x) := by
  rcases x with ⟨⟨b, r⟩, n⟩ | j
  · show BI.Storable upEmb (if r = 0 then sentPts X b d n else slotVal X (arr n) d (lands b d n))
    split <;> infer_instance
  · unfold ownPay; infer_instance

/-- All slots a device's partners write, by their moves. -/
theorem handed_all (d : Dev nD) : (bigSep Finset.univ (handed d) : sProp 𝕄)
    = iprop((bigSep Finset.univ fun n : Fin 9 => slotAny (arr n) d (lands 1 d n)) ∗ bigSep Finset.univ fun n : Fin 9 => slotAny (arr n) d (lands 0 d n)) := by
  rw [bigSep_partners, show handed d 3 = (bigSep Finset.univ fun n : Fin 9 => slotAny (arr n) d (lands 1 d n) : sProp 𝕄) from if_pos rfl,
    bigSep_lanes fun n : Fin 9 => slotAny (arr n) d (lands 0 d n)]
  congr 1

/-! ## The schedule -/

def dutiesOf (p : Dev nD) : Cell → Finset (Dev nD)
  | .inl _ => Finset.univ.image (across p)
  | .inr _ => {p}
/-- What a cell that is not a barrier is credited. -/
def ownAmount : Own → ℕ
  | .inl (_, n) => credit n
  | .inr j => Nchip j
def amountOf : Cell → ℕ
  | .inl _ => 1
  | .inr x => ownAmount x
def payloadOf (p : Dev nD) (s : Dev nD) : Cell → sProp 𝕄
  | .inl _ => handed s (acrossIx p s)
  | .inr x => ownPay X p x

theorem amountOf_pos (x : Cell) : 0 < amountOf x := by
  rcases x with u | ⟨⟨b, r⟩, n⟩ | j
  · exact Nat.one_pos
  · exact credit_pos n
  · exact Nchip_pos j
instance payloadOf_storable (p s : Dev nD) (x : Cell) : BI.Storable (upEmb : UEmb _ 𝕄) (payloadOf X p s x) := by
  rcases x with u | x
  · exact handed_storable s _
  · exact ownPay_storable X p x

/-- The schedule as the rounds library reads it: one round on every cell of every device. -/
def Rd : Rounds.Schedule (GSem nD τ sig) (Dev nD) 𝕄 where
  duties g r := if r = 0 then dutiesOf g.1.1 (cellOf g.2) else ∅
  unitless _ := False
  amount g _ _ := amountOf (cellOf g.2)
  payload g _ s := payloadOf X g.1.1 s (cellOf g.2)
  amount_pos _ _ _ _ := amountOf_pos _

instance Rd_payload_storable (g : GSem nD τ sig) (r : ℕ) (s : Dev nD) : BI.Storable (upEmb : UEmb _ 𝕄) ((Rd X).payload g r s) :=
  payloadOf_storable X _ _ _

theorem duties_later (g : GSem nD τ sig) : ∀ r, 1 ≤ r → (Rd X).duties g r = ∅ :=
  fun r hr => by dsimp only [Rd]; rw [if_neg (by omega)]
theorem duties_acell (p : Dev nD) (x : Cell) : (Rd X).duties (acell (p, x)) 0 = dutiesOf p x := by
  dsimp only [Rd]; rw [if_pos rfl, cellOf_asem]
theorem amount_acell (p : Dev nD) (x : Cell) (r : ℕ) (s : Dev nD) : (Rd X).amount (acell (p, x)) r s = amountOf x := by
  dsimp only [Rd]; rw [cellOf_asem]
theorem payload_acell (p : Dev nD) (x : Cell) (r : ℕ) (s : Dev nD) : (Rd X).payload (acell (p, x)) r s = payloadOf X p s x := by
  dsimp only [Rd]; rw [cellOf_asem]

theorem expect_bcell (p : Dev nD) : (Rd X).expect (bcell p) 0 = 4 := by
  unfold Schedule.expect Schedule.amountOf
  rw [duties_acell, Finset.sum_congr rfl fun s _ => amount_acell X p (.inl ()) 0 s, Finset.sum_const]
  revert p; decide
theorem expect_ocell (p : Dev nD) (x : Own) : (Rd X).expect (ocell p x) 0 = ownAmount x := by
  unfold Schedule.expect Schedule.amountOf
  rw [duties_acell, Finset.sum_congr rfl fun s _ => amount_acell X p (.inr x) 0 s]
  exact Finset.sum_singleton _ _

/-- The slot that move `b` of lane `n` of device `d` fills, holding anything. -/
abbrev farAny (b : Fin 2) (d : Dev nD) (n : Fin 9) : sProp 𝕄 := slotAny (arr n) (dest b d n) (lands b (dest b d n) n)
/-- What the barrier's round hands its owner: the slots its moves fill. -/
theorem pays_bcell (p : Dev nD) :
    bigSep ((Rd X).duties (bcell p) 0) (fun s => (Rd X).payload (bcell p) 0 s)
      = iprop((bigSep Finset.univ fun n : Fin 9 => farAny 1 p n) ∗ bigSep Finset.univ fun n : Fin 9 => (farAny 0 p n : sProp 𝕄)) := by
  rw [duties_acell, show dutiesOf p (.inl ()) = (Finset.univ : Finset (Fin 4)).image (across p) from rfl,
    SparseCore.bigSep_image_of_injOn (fun a _ b _ e => across_injective p e), bigSep_partners, bigSep_lanes fun n : Fin 9 => (farAny 0 p n : sProp 𝕄)]
  have hpay : ∀ i : Fin 4, (Rd X).payload (bcell p) 0 (across p i) = handed (across p i) i := fun i => by
    rw [payload_acell]; show handed (across p i) (acrossIx p (across p i)) = _; rw [acrossIx_across']
  rw [hpay]
  congr 1
  refine bigSep_congr fun k _ => ?_
  rw [hpay, show handed (across p k.castSucc) k.castSucc = (bigSep Finset.univ fun j : Fin 3 => slotAny j (across p k.castSucc) (across (across p k.castSucc) k.castSucc) : sProp 𝕄) from
    if_neg (by intro h; have := k.isLt; have h' := congrArg Fin.val h; simp at h'; omega)]
  refine bigSep_congr fun j _ => ?_
  rw [show (farAny 0 p (laneOf k j) : sProp 𝕄) = slotAny (arr (laneOf k j)) (across p (chipIx (laneOf k j))) (across (across p (chipIx (laneOf k j))) (chipIx (laneOf k j))) from rfl, arr_laneOf, chipIx_laneOf]
/-- What another cell's round hands its owner. -/
theorem pays_ocell (p : Dev nD) (x : Own) :
    bigSep ((Rd X).duties (ocell p x) 0) (fun s => (Rd X).payload (ocell p x) 0 s) = ownPay X p x := by
  rw [duties_acell, show dutiesOf p (.inr x) = {p} from rfl, bigSep_singleton, payload_acell]; rfl

/-! ## What each sequencer owes from the launch, and is owed -/

/-- The receive credits device `d` owes for the moves `b` of its lanes from `m` on; -/
def moveDebt (b : Fin 2) (d : Dev nD) (m : ℕ) : CellTallies nD τ sig (HIx 1) :=
  ∑ n ∈ (fromIx m : Finset (Fin 9)), tallyAt (lcell (dest b d n) b 1 n) (some 0) (credit n)
/-- the barrier units it owes from its partner `m` on; -/
def barDebt (d : Dev nD) (m : ℕ) : CellTallies nD τ sig (HIx 1) :=
  ∑ i ∈ (fromIx m : Finset (Fin 4)), tallyAt (bcell (across d i)) (some 0) 1
/-- everything it owes. -/
def oxS (d : Dev nD) : CellTallies nD τ sig (HIx 1) := moveDebt 1 d 0 + moveDebt 0 d 0 + barDebt d 0
/-- What device `p` is owed. -/
def owedS (p : Dev nD) : CellTallies nD τ sig (HIx 1) :=
  (∑ n : Fin 9, tallyAt (lcell p 1 1 n) (some 0) (credit n)) + (∑ n : Fin 9, tallyAt (lcell p 0 1 n) (some 0) (credit n)) + tallyAt (bcell p) (some 0) 4

theorem moveDebt_step (b : Fin 2) (d : Dev nD) (n : Fin 9) :
    moveDebt b d n.val = moveDebt b d (n.val + 1) + tallyAt (lcell (dest b d n) b 1 n) (some 0) (credit n) := by
  unfold moveDebt; rw [fromIx_step, Finset.sum_insert (fromIx_not_mem n), add_comm]
theorem barDebt_step (d : Dev nD) (i : Fin 4) :
    barDebt d i.val = barDebt d (i.val + 1) + tallyAt (bcell (across d i)) (some 0) 1 := by
  unfold barDebt; rw [fromIx_step, Finset.sum_insert (fromIx_not_mem i), add_comm]
theorem moveDebt_end (b : Fin 2) (d : Dev nD) : moveDebt b d 9 = 0 := by unfold moveDebt; rw [fromIx_end, Finset.sum_empty]
theorem barDebt_end (d : Dev nD) : barDebt d 4 = 0 := by unfold barDebt; rw [fromIx_end, Finset.sum_empty]

theorem moveDebt_pos {b : Fin 2} {d : Dev nD} {m : ℕ} {g : GSem nD τ sig} {ι : HIx 1} (h : 0 < moveDebt b d m g ι) :
    ∃ n : Fin 9, g = lcell (dest b d n) b 1 n ∧ ι = some 0 := by
  unfold moveDebt at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1, hg.2⟩
  · exact absurd rfl he
theorem barDebt_pos {d : Dev nD} {m : ℕ} {g : GSem nD τ sig} {ι : HIx 1} (h : 0 < barDebt d m g ι) :
    ∃ i : Fin 4, g = bcell (across d i) ∧ ι = some 0 := by
  unfold barDebt at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1, hg.2⟩
  · exact absurd rfl he
theorem oxS_pos {d : Dev nD} {g : GSem nD τ sig} {ι : HIx 1} (h : 0 < oxS d g ι) : ∃ x : Dev nD × Cell, g = acell x ∧ ι = some 0 := by
  unfold oxS at h
  rw [Pi.add_apply, Finsupp.add_apply, Pi.add_apply, Finsupp.add_apply] at h
  rcases Nat.add_pos_iff_pos_or_pos.mp h with h | h
  · rcases Nat.add_pos_iff_pos_or_pos.mp h with h | h
    · obtain ⟨n, hg, hi⟩ := moveDebt_pos h; exact ⟨_, hg, hi⟩
    · obtain ⟨n, hg, hi⟩ := moveDebt_pos h; exact ⟨_, hg, hi⟩
  · obtain ⟨k, hg, hi⟩ := barDebt_pos h; exact ⟨_, hg, hi⟩

theorem sum_tallyAt (g : GSem nD τ sig) (ι : HIx 1) (a : ℕ) : ∀ n : ℕ, ∑ _ : Fin n, tallyAt g ι a = (tallyAt g ι (n * a) : CellTallies nD τ sig (HIx 1))
  | 0 => by rw [Nat.zero_mul, tallyAt_zero]; exact Finset.sum_of_isEmpty _
  | n + 1 => by rw [Fin.sum_univ_castSucc, sum_tallyAt g ι a n, Nat.succ_mul, tallyAt_add]

/-- Going along a lane's move, and to a partner, as permutations of the devices. -/
def along (b : Fin 2) (n : Fin 9) : Dev nD ≃ Dev nD := ⟨fun d => dest b d n, fun d => dest b d n, fun d => dest_dest b d n, fun d => dest_dest b d n⟩
def toPartner (i : Fin 4) : Dev nD ≃ Dev nD := ⟨fun d => across d i, fun d => across d i, fun d => across_across d i, fun d => across_across d i⟩

theorem moveDebt_regroup (b : Fin 2) : (∑ d : Dev nD, moveDebt b d 0) = ∑ p : Dev nD, ∑ n : Fin 9, tallyAt (lcell p b 1 n) (some 0) (credit n) := by
  unfold moveDebt
  rw [fromIx_zero, Finset.sum_comm, Finset.sum_comm (s := (Finset.univ : Finset (Dev nD)))]
  exact Finset.sum_congr rfl fun n _ => Fintype.sum_equiv (along b n) _ _ fun d => rfl
/-- Summed over the owers, the debts are what each waiter is owed. -/
theorem oxS_regroup : (∑ d : Dev nD, oxS d) = ∑ p : Dev nD, owedS p := by
  unfold oxS owedS
  rw [Finset.sum_add_distrib, Finset.sum_add_distrib, Finset.sum_add_distrib, Finset.sum_add_distrib, moveDebt_regroup, moveDebt_regroup]
  congr 1
  unfold barDebt
  rw [fromIx_zero, Finset.sum_comm]
  calc (∑ i : Fin 4, ∑ d : Dev nD, (tallyAt (bcell (across d i)) (some 0) 1 : CellTallies nD τ sig (HIx 1)))
      = ∑ i : Fin 4, ∑ d : Dev nD, tallyAt (bcell d) (some 0) 1 := Finset.sum_congr rfl fun i _ => Fintype.sum_equiv (toPartner i) _ _ fun d => rfl
    _ = ∑ d : Dev nD, ∑ i : Fin 4, tallyAt (bcell d) (some 0) 1 := Finset.sum_comm
    _ = _ := Finset.sum_congr rfl fun d _ => sum_tallyAt _ _ 1 4

/-- The credit device `p` is dealt. -/
abbrev recvCred (b : Fin 2) (p : Dev nD) : sProp 𝕄 := bigSep Finset.univ fun n : Fin 9 => cred (tallyAt (lcell p b 1 n) (some 0) (credit n))
abbrev credsOf (p : Dev nD) : sProp 𝕄 := iprop((recvCred 1 p ∗ recvCred 0 p) ∗ cred (tallyAt (bcell p) (some 0) 4))
theorem cred_owedS (p : Dev nD) : (cred (owedS p) : sProp 𝕄) ⊢ credsOf p := by
  unfold owedS credsOf recvCred
  rw [← SparseCore.Cfg.cred_finsum, ← SparseCore.Cfg.cred_finsum]
  exact (cred_add _ _).1.trans (sep_mono_left (cred_add _ _).1)

/-! ## The tokens, per holder -/

abbrev TIx : Type := Fin 4 ⊕ Own
/-- The tokens device `d` holds: its duty on each partner's barrier, on its own send and copy cells, on the receive cells it pays. -/
def gtok (x : Dev nD × TIx) : GSem nD τ sig × ℕ × Dev nD := match x.2 with
  | .inl i => (bcell (across x.1 i), 0, x.1)
  | .inr (.inl ((b, r), n)) => if r = 0 then (lcell x.1 b 0 n, 0, x.1) else (lcell (dest b x.1 n) b 1 n, 0, dest b x.1 n)
  | .inr (.inr j) => (ccell x.1 j, 0, x.1)
/-- Whose token it is, and which. -/
def holder (t : GSem nD τ sig × ℕ × Dev nD) : Dev nD × TIx := match cellOf t.1.2 with
  | .inl _ => (t.2.2, .inl (acrossIx t.1.1.1 t.2.2))
  | .inr (.inl ((b, r), n)) => if r = 0 then (t.1.1.1, .inr (.inl ((b, 0), n))) else (dest b t.1.1.1 n, .inr (.inl ((b, 1), n)))
  | .inr (.inr j) => (t.1.1.1, .inr (.inr j))
theorem holder_gtok (x : Dev nD × TIx) : holder (gtok x) = x := by
  obtain ⟨d, i | ⟨⟨b, r⟩, n⟩ | j⟩ := x
  · show (d, Sum.inl (acrossIx (across d i) d)) = _; rw [acrossIx_across]
  · have hr : r = 0 ∨ r = 1 := by revert r; decide
    rcases hr with rfl | rfl
    · show holder (lcell d b 0 n, 0, d) = _
      unfold holder; dsimp only; rw [cellOf_asem]; rfl
    · show holder (lcell (dest b d n) b 1 n, 0, dest b d n) = _
      unfold holder; dsimp only; rw [cellOf_asem]
      show (dest b (dest b d n) n, (Sum.inr (Sum.inl ((b, (1 : Fin 2)), n)) : TIx)) = _
      rw [dest_dest]
  · show holder (ccell d j, 0, d) = _
    unfold holder; dsimp only; rw [cellOf_asem]
theorem gtok_injective : Function.Injective gtok := fun a b e => by rw [← holder_gtok a, ← holder_gtok b, e]
/-- Every token; -/
def aToks : Finset (GSem nD τ sig × ℕ × Dev nD) := Finset.univ.image gtok
/-- device `d`'s. -/
abbrev barTok (d : Dev nD) (i : Fin 4) : sProp 𝕄 := dutyTok ER (bcell (across d i)) 0 d
abbrev sendTok (b : Fin 2) (d : Dev nD) (n : Fin 9) : sProp 𝕄 := dutyTok ER (lcell d b 0 n) 0 d
abbrev recvTok (b : Fin 2) (d : Dev nD) (n : Fin 9) : sProp 𝕄 := dutyTok ER (lcell (dest b d n) b 1 n) 0 (dest b d n)
abbrev copyTok (d : Dev nD) (j : Fin 3) : sProp 𝕄 := dutyTok ER (ccell d j) 0 d
abbrev toksOf (d : Dev nD) : sProp 𝕄 :=
  iprop(bigSep Finset.univ (barTok d)
    ∗ ((bigSep Finset.univ (sendTok 0 d) ∗ bigSep Finset.univ (recvTok 0 d)) ∗ (bigSep Finset.univ (sendTok 1 d) ∗ bigSep Finset.univ (recvTok 1 d)))
    ∗ bigSep Finset.univ (copyTok d))
theorem toks_eq : (bigSep aToks fun x => (dutyTok ER x.1 x.2.1 x.2.2 : sProp 𝕄)) ⊢ bigSep Finset.univ fun d : Dev nD => toksOf d := by
  unfold aToks
  rw [SparseCore.bigSep_image_of_injOn (fun a _ b _ e => gtok_injective e), bigSep_univ_prod]
  have h : ∀ d : Dev nD, (bigSep Finset.univ fun i : TIx => (dutyTok ER (gtok (d, i)).1 (gtok (d, i)).2.1 (gtok (d, i)).2.2 : sProp 𝕄)) = toksOf d := fun d => by
    rw [bigSep_univ_sum, bigSep_own]
    rfl
  exact Entails.of_eq (bigSep_congr fun d _ => h d)

/-! ## The cells' invariants, each device's kit -/

/-- Every device's cell invariants, under names `κ` of the launch's choosing; -/
abbrev invsA (κ : GSem nD τ sig → ℕ) : sProp 𝕄 := bigSep Finset.univ fun x : Dev nD × Cell => cellInv ER (Rd X) (κ (acell x)) (acell x)
/-- that each has reached round 0. -/
abbrev reachedA : sProp 𝕄 := bigSep Finset.univ fun x : Dev nD × Cell => reached ER (acell x) 0
/-- What every device is handed alike, -/
abbrev shared : sProp 𝕄 := iprop((∃ κ : GSem nD τ sig → ℕ, invsA X κ) ∗ reachedA)
/-- what each is handed of its own: its positions at the origin, its tokens, its credit. -/
abbrev atPosAll (d : Dev nD) : sProp 𝕄 := bigSep Finset.univ fun x : Cell => atPos ER (acell (d, x)) 0 ∅ 0
abbrev atLane (b r : Fin 2) (d : Dev nD) : sProp 𝕄 := bigSep Finset.univ fun n : Fin 9 => atPos ER (lcell d b r n) 0 ∅ 0
theorem atPosAll_eq (d : Dev nD) : (atPosAll d : sProp 𝕄)
    = iprop(atPos ER (bcell d) 0 ∅ 0 ∗ ((atLane 0 0 d ∗ atLane 0 1 d) ∗ (atLane 1 0 d ∗ atLane 1 1 d))
        ∗ bigSep Finset.univ fun j : Fin 3 => atPos ER (ccell d j) 0 ∅ 0) := by
  unfold atPosAll
  rw [bigSep_univ_sum, bigSep_own, show (Finset.univ : Finset Unit) = {()} by decide, bigSep_singleton]; rfl
abbrev mine (d : Dev nD) : sProp 𝕄 := iprop(atPosAll d ∗ toksOf d ∗ credsOf d)
/-- Device `d`'s kit for the protocol. -/
def kit (d : Dev nD) : sProp 𝕄 := iprop(shared X ∗ mine d)

theorem inv_of (κ : GSem nD τ sig → ℕ) (p : Dev nD) (x : Cell) : invsA X κ ⊢ cellInv ER (Rd X) (κ (acell (p, x))) (acell (p, x)) :=
  bigSep_elim (Φ := fun x : Dev nD × Cell => cellInv ER (Rd X) (κ (acell x)) (acell x)) (i := (p, x)) (Finset.mem_univ _)
theorem reached_of (p : Dev nD) (x : Cell) : (reachedA : sProp 𝕄) ⊢ reached ER (acell (p, x)) 0 :=
  bigSep_elim (Φ := fun x : Dev nD × Cell => (reached ER (acell x) 0 : sProp 𝕄)) (i := (p, x)) (Finset.mem_univ _)

end Cert.Gathering

end
-- ==== Proof.GatherArrays.lean ====
/-
  The arrays whole and in parts: a source is held in four shares, one per chip partner's move and one for the own copy; a
  gathered array is its eight slots, two of them the device's own chip.
-/
module

public import proofs.«01_k».proof.Proof.GatherSchedule

@[expose] public section

noncomputable section

namespace Cert.Gathering

open Cert.GatherIdeal Cert.GatherIdeal.Gen
open Idealize.ShloMosaic
open SparseCore (S V T)
open SparseCore.Cfg (HIx)
open Idealize.SL RA BI BI.BIBase BI.Laws ProofMode Sem

variable {F : FTy → Type}

local notation "𝕄" => MT nD τ sig (HIx 1) (Elt F) ℕ UU ℕ

variable (X : Srcs F)

/-! ## The sources -/

/-- What a move's share of a source covers besides the half it sends. -/
def restPts (j : Fin 3) (i : Fin 4) (d : Dev nD) : sProp 𝕄 := loc_src j d ↦[Finset.univ \ halfIdxs j d]{shareOf i} srcOf X j d

theorem share_split (j : Fin 3) (i : Fin 4) (d : Dev nD) :
    (loc_src j d ↦[Finset.univ]{shareOf i} srcOf X j d : sProp 𝕄) = iprop(halfPts X j i d ∗ restPts X j i d) :=
  BI.Entails.antisymm (pointsTo_split_subset (Finset.subset_univ (halfIdxs j d))).1 (pointsTo_split_subset (Finset.subset_univ (halfIdxs j d))).2
theorem src_split (j : Fin 3) (d : Dev nD) : (loc_src j d ↦{fullShare} srcOf X j d : sProp 𝕄)
    = iprop(copyPts X j d ∗ (bigSep Finset.univ fun k : Fin 3 => halfPts X j k.castSucc d) ∗ bigSep Finset.univ fun k : Fin 3 => restPts X j k.castSucc d) := by
  have hc : (copyPts X j d : sProp 𝕄) = (loc_src j d ↦[Finset.univ]{shareOf 3} srcOf X j d) :=
    congrArg (fun I => (loc_src j d ↦[I]{shareOf 3} srcOf X j d : sProp 𝕄)) (set_srcM j)
  rw [hc, ← bigSep_sep', ← bigSep_congr fun k _ => share_split X j k.castSucc d]
  exact (ShareLeaves.pointsTo_leaves Finset.univ (srcOf X j d) 2 fullShare).trans
    (bigSep_partners fun i => loc_src j d ↦[Finset.univ]{shareOf i} srcOf X j d)

/-- A device's rests, which no move reads. -/
abbrev rests (d : Dev nD) : sProp 𝕄 := bigSep Finset.univ fun j : Fin 3 => bigSep Finset.univ fun k : Fin 3 => restPts X j k.castSucc d
theorem halves_eq (d : Dev nD) : (bigSep Finset.univ (sentPts X 0 d) : sProp 𝕄)
    = bigSep Finset.univ fun j : Fin 3 => bigSep Finset.univ fun k : Fin 3 => halfPts X j k.castSucc d := by
  rw [bigSep_lanes' (sentPts X 0 d)]
  refine bigSep_congr fun j _ => bigSep_congr fun k _ => ?_
  rw [show (sentPts X 0 d (laneOf k j) : sProp 𝕄) = halfPts X (arr (laneOf k j)) (chipIx (laneOf k j)) d from if_pos rfl, arr_laneOf, chipIx_laneOf]
theorem srcs_eq (d : Dev nD) : (bigSep Finset.univ fun j : Fin 3 => (loc_src j d ↦{fullShare} srcOf X j d : sProp 𝕄))
    = iprop((bigSep Finset.univ fun j => copyPts X j d) ∗ bigSep Finset.univ (sentPts X 0 d) ∗ rests X d) := by
  rw [bigSep_congr fun j _ => src_split X j d, bigSep_sep' Finset.univ (fun j => copyPts X j d),
    bigSep_sep' Finset.univ (fun j : Fin 3 => bigSep Finset.univ fun k : Fin 3 => halfPts X j k.castSucc d), halves_eq]

/-! ## The gathered arrays -/

theorem dst_split (j : Fin 3) (d : Dev nD) (f : Buf (Elt F) (loc_dst j d)) : (loc_dst j d ↦{fullShare} f : sProp 𝕄)
    = bigSep Finset.univ fun q : Dev nD => loc_dst j d ↦[slotIdxs j q]{fullShare} f := by
  have h := pointsTo_biUnion (ℓ := loc_dst j d) (q := fullShare) (f := f) (Ix := HIx 1) (Name := ℕ) (U := UU) (Lvl := ℕ) (Finset.univ : Finset (Dev nD)) (slotIdxs j)
    (fun q _ q' _ hq => slotsV_disjoint j q q' hq)
  exact Eq.trans (congrArg (fun I => (loc_dst j d ↦[I]{fullShare} f : sProp 𝕄)) (slotsV_cover j).symm) h
theorem dst_open (j : Fin 3) (d : Dev nD) : (iprop(∃ f, loc_dst j d ↦{fullShare} f) : sProp 𝕄) ⊢ bigSep Finset.univ fun q : Dev nD => slotAny j d q := by
  iintro ⟨%f, H⟩
  ihave H' := (Entails.of_eq (dst_split j d f)) $$ H
  iapply (SparseCore.ent (bigSep_mono (Φ := fun q : Dev nD => loc_dst j d ↦[slotIdxs j q]{fullShare} f)
    (fun q _ => show (loc_dst j d ↦[slotIdxs j q]{fullShare} f : sProp 𝕄) ⊢ slotAny j d q from by
      unfold slotAny; iintro H; iexists f; iexact H)))
  iexact H'
/-- A device's own two slots are its own chip, -/
theorem chip_any (j : Fin 3) (d : Dev nD) : iprop(slotAny j d d ∗ slotAny j d (sib d)) ⊢ (chipAny j d : sProp 𝕄) := by
  unfold slotAny chipAny
  rw [chipV_eq]
  iintro ⟨⟨%f, H⟩, %g, H'⟩
  iexists ((slotIdxs j (sib d)).piecewise g f)
  iapply (pointsTo_join (slotsV_disjoint j d (sib d) (across_ne d 3).symm))
  isplitl [H] <;> iassumption
/-- at the contents they are to have too. -/
theorem chip_val (j : Fin 3) (d : Dev nD) :
    (loc_dst j d ↦[(chipV j d).view.set]{fullShare} landed X j d : sProp 𝕄) ⊢ iprop(slotVal X j d d ∗ slotVal X j d (sib d)) := by
  unfold slotVal
  rw [chipV_eq]
  exact (pointsTo_union (slotsV_disjoint j d (sib d) (across_ne d 3).symm)).1

/-- Before the kernel: every own chip, and what the device hands over. -/
theorem dsts_open (d : Dev nD) : (bigSep Finset.univ fun j : Fin 3 => (iprop(∃ f, loc_dst j d ↦{fullShare} f) : sProp 𝕄))
    ⊢ iprop((bigSep Finset.univ fun j => chipAny j d) ∗ bigSep Finset.univ (handed d)) := by
  refine (bigSep_mono fun j _ => dst_open j d).trans ?_
  rw [bigSep_slots d (fun j q => slotAny j d q), handed_all]
  show iprop((bigSep Finset.univ fun j : Fin 3 => iprop(slotAny j d d ∗ slotAny j d (sib d)))
      ∗ (bigSep Finset.univ fun n : Fin 9 => slotAny (arr n) d (lands 0 d n)) ∗ bigSep Finset.univ fun n : Fin 9 => slotAny (arr n) d (lands 1 d n))
    ⊢ iprop((bigSep Finset.univ fun j => chipAny j d)
      ∗ (bigSep Finset.univ fun n : Fin 9 => slotAny (arr n) d (lands 1 d n)) ∗ bigSep Finset.univ fun n : Fin 9 => (slotAny (arr n) d (lands 0 d n) : sProp 𝕄))
  iintro ⟨H, H0, H1⟩
  isplitl [H]
  · iapply (SparseCore.ent (bigSep_mono fun j _ => chip_any (F := F) j d)); iexact H
  isplitl [H1] <;> iassumption
/-- After it: every array gathered. -/
theorem dsts_join (d : Dev nD) :
    iprop((bigSep Finset.univ fun j : Fin 3 => loc_dst j d ↦[(chipV j d).view.set]{fullShare} landed X j d)
        ∗ (bigSep Finset.univ fun n : Fin 9 => slotVal X (arr n) d (lands 0 d n)) ∗ bigSep Finset.univ fun n : Fin 9 => slotVal X (arr n) d (lands 1 d n))
      ⊢ (bigSep Finset.univ fun j : Fin 3 => (loc_dst j d ↦{fullShare} landed X j d : sProp 𝕄)) := by
  rw [bigSep_congr fun j _ => dst_split j d (landed X j d)]
  refine BI.Entails.trans ?_ (Entails.of_eq (bigSep_slots d (fun j q => slotVal X j d q)).symm)
  exact sep_mono_left (SparseCore.ent (bigSep_mono fun j _ => chip_val X j d))

end Cert.Gathering

end
-- ==== Proof.GatherSteps.lean ====
/-
  One step of the kernel at a time: a signal, the barrier's wait, the copy of the own chip, a lane's move, a wait. Between
  the steps the device holds one of a few states, each counting how far its phase has come. Every cell is closed — its
  counter back at zero — as soon as its one round is over. A device waits for what the first move brings it while it still
  owes the second move's credits: those cells lie above the ones it waits on in the order the launch is run at.
-/
module

public import proofs.«01_k».proof.Proof.GatherSchedule

@[expose] public section

noncomputable section

namespace Cert.Gathering

open Cert.GatherIdeal Cert.GatherIdeal.Gen
open Idealize.ShloMosaic
open ValueIdx
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-! ## What the copies land -/

/-- A slot of another chip holds that slot's device's half. -/
theorem read_landed (j : Fin 3) (p q : Dev nD) (h : q.val / 2 ≠ p.val / 2) (x : (FlatSh j).Idx) :
    (slotV j q).view.read (Elt F) (landed X j p) x = (halfV j q).view.read (Elt F) (srcOf X j q) x := by
  rw [read_slotV, read_halfV]
  exact gathered_other (rowsOf j) (colsOf j) (X j) p q h _ _ _ _
/-- A device's own chip holds its source. -/
theorem read_landed_own (j : Fin 3) (d : Dev nD) (x : (SrcSh j).Idx) :
    (chipV j d).view.read (Elt F) (landed X j d) x = (srcM j).view.read (Elt F) (srcOf X j d) x := by
  rw [read_chipV, read_srcM]
  refine (gathered_own (rowsOf j) (colsOf j) (X j) d _ _ _ _).trans (congrArg (X j d) ?_)
  funext a; fin_cases a <;> rfl

/-- Move `b` of lane `n` reads `src` and fills `dst`: the ownership it reads at, what it leaves at the other end, the credit. -/
def Moves (b : Fin 2) (d : Dev nD) (n : Fin 9) {s : Shape} (src dst : Memref sig .scScalar .hbm s .bf16) : Prop :=
  ∃ (q : PosShare TreeShare) (fs : Buf (Elt F) (src.view.loc (S d c₀))),
    (src.view.loc (S d c₀) ↦[src.view.set]{q} fs : sProp 𝕄) = sentPts X b d n
    ∧ (∀ fd : Buf (Elt F) (dst.view.loc (S (dest b d n) c₀)),
        (dst.view.loc (S (dest b d n) c₀) ↦[dst.view.set]{fullShare} dst.view.write (Elt F) fd (src.view.read (Elt F) fs) Finset.univ : sProp 𝕄)
          = slotVal X (arr n) (dest b d n) (lands b (dest b d n) n))
    ∧ (farAny b d n : sProp 𝕄) = iprop(∃ fd : Buf (Elt F) (dst.view.loc (S (dest b d n) c₀)), dst.view.loc (S (dest b d n) c₀) ↦[dst.view.set]{fullShare} fd)
    ∧ dst.view.dmaCredit = credit n

theorem moves_zero (d : Dev nD) (n : Fin 9) (j : Fin 3) (hj : arr n = j) (src dst : Memref sig .scScalar .hbm (FlatSh j) .bf16)
    (hs : src = halfV j d) (hd : dst = slotV j d) : Moves X 0 d n src dst := by
  subst hj hs hd
  have hl : lands 0 (dest 0 d n) n = d := lands_dest_zero d n
  refine ⟨shareOf (kOf n), srcOf X (arr n) d, rfl, fun fd => ?_, ?_, rfl⟩
  · rw [hl]
    exact pointsTo_congr (write_of_read (F := F) (slotV (arr n) d).view fd (landed X (arr n) (dest 0 d n)) _ fun x =>
      read_landed X (arr n) (dest 0 d n) d (by have := lands_chip 0 (dest 0 d n) n; rw [hl] at this; exact this) x)
  · unfold farAny slotAny; rw [hl]
theorem moves_one (d : Dev nD) (n : Fin 9) (j : Fin 3) (hj : arr n = j) (src dst : Memref sig .scScalar .hbm (FlatSh j) .bf16)
    (hs : src = slotV j (cp d n)) (hd : dst = slotV j (cp d n)) : Moves X 1 d n src dst := by
  subst hj hs hd
  have hl : lands 1 (dest 1 d n) n = cp d n := lands_dest_one d n
  refine ⟨fullShare, landed X (arr n) d, rfl, fun fd => ?_, ?_, rfl⟩
  · rw [hl]
    refine pointsTo_congr (write_of_read (F := F) (slotV (arr n) (cp d n)).view fd (landed X (arr n) (dest 1 d n)) _ fun x => ?_)
    rw [read_landed X (arr n) d (cp d n) (lands_chip 0 d n) x]
    exact read_landed X (arr n) (dest 1 d n) (cp d n) (by have := lands_chip 1 (dest 1 d n) n; rw [hl] at this; exact this) x
  · unfold farAny slotAny; rw [hl]

/-- The copy of array `j`'s own chip reads `src` and fills `dst`. -/
def Copies (d : Dev nD) (j : Fin 3) {s : Shape} (src dst : Memref sig .scScalar .hbm s .bf16) : Prop :=
  ∃ (q : PosShare TreeShare) (fs : Buf (Elt F) (src.view.loc (S d c₀))),
    (src.view.loc (S d c₀) ↦[src.view.set]{q} fs : sProp 𝕄) = copyPts X j d
    ∧ (∀ fd : Buf (Elt F) (dst.view.loc (S d c₀)),
        (dst.view.loc (S d c₀) ↦[dst.view.set]{fullShare} dst.view.write (Elt F) fd (src.view.read (Elt F) fs) Finset.univ : sProp 𝕄)
          = (loc_dst j d ↦[(chipV j d).view.set]{fullShare} landed X j d))
    ∧ (chipAny j d : sProp 𝕄) = iprop(∃ fd : Buf (Elt F) (dst.view.loc (S d c₀)), dst.view.loc (S d c₀) ↦[dst.view.set]{fullShare} fd)
    ∧ dst.view.dmaCredit = Nchip j
theorem copies_of (d : Dev nD) (j : Fin 3) (src dst : Memref sig .scScalar .hbm (SrcSh j) .bf16)
    (hs : src = srcM j) (hd : dst = chipV j d) : Copies X d j src dst := by
  subst hs hd
  exact ⟨shareOf 3, srcOf X j d, rfl, fun fd => pointsTo_congr (write_of_read (F := F) (chipV j d).view fd (landed X j d) _ fun x => read_landed_own X j d x), rfl, rfl⟩

/-! ## The states -/

/-- A wait recorded at the call's index keeps the recorded set admissible. -/
theorem recorded_insert {W W' : Waits sig (HIx 1)} (sm : SemLoc sig) (hW' : ∀ p ∈ W', p ∈ W ∨ p.2 = none ∨ p.2 = some (0 : Fin 1)) :
    ∀ p ∈ insert (sm, some (0 : Fin 1)) W', p ∈ W ∨ p.2 = none ∨ p.2 = some (0 : Fin 1) := fun p hp => by
  rcases Finset.mem_insert.mp hp with rfl | hp
  · exact .inr (.inr rfl)
  · exact hW' p hp

/-- The invariants and the rounds reached, for everyone; -/
abbrev Ctx (κ : GSem nD τ sig → ℕ) : sProp 𝕄 := iprop(invsA X κ ∗ reachedA)
/-- the order the launch is run at; -/
abbrev Ord : sProp 𝕄 := levAts (K (F := F)).L (K (F := F)).levR
/-- owing `Y` beside the launch's `O`, the waits recorded so far admissible. -/
def owing (d : Dev nD) (O : CellTallies nD τ sig (HIx 1)) (W : Waits sig (HIx 1)) (Y : CellTallies nD τ sig (HIx 1)) : sProp 𝕄 :=
  iprop(∃ W', ⌜∀ p ∈ W', p ∈ W ∨ p.2 = none ∨ p.2 = some (0 : Fin 1)⌝ ∗ owes (S d c₀) (O + Y) W')

/-- Before signal `n`: its barrier units owed, their tokens and the slots they hand over held. -/
def SigSt (d : Dev nD) (O : CellTallies nD τ sig (HIx 1)) (W : Waits sig (HIx 1)) (n : ℕ) : sProp 𝕄 :=
  iprop(owing d O W (moveDebt 1 d 0 + moveDebt 0 d 0 + barDebt d n) ∗ bigSep (fromIx n) fun i : Fin 4 => iprop(barTok d i ∗ handed d i))
/-- Before own copy `n`. -/
def CopySt (d : Dev nD) (n : ℕ) : sProp 𝕄 :=
  iprop((bigSep (fromIx n) fun j : Fin 3 => iprop(copyPts X j d ∗ chipAny j d ∗ copyTok d j))
    ∗ bigSep (belowIx n) fun j : Fin 3 => cred (tallyAt (ccell d j) (some 0) (Nchip j)))
/-- What a move spends besides its source. -/
abbrev moveRes (b : Fin 2) (d : Dev nD) (n : Fin 9) : sProp 𝕄 := iprop(farAny b d n ∗ sendTok b d n ∗ recvTok b d n)
abbrev sentCred (b : Fin 2) (d : Dev nD) (n : Fin 9) : sProp 𝕄 := cred (tallyAt (lcell d b 0 n) (some 0) (credit n))
/-- Before first move `n`. -/
def SendSt (d : Dev nD) (O : CellTallies nD τ sig (HIx 1)) (W : Waits sig (HIx 1)) (n : ℕ) : sProp 𝕄 :=
  iprop(owing d O W (moveDebt 1 d 0 + moveDebt 0 d n) ∗ (bigSep (fromIx n) fun i : Fin 9 => iprop(sentPts X 0 d i ∗ moveRes 0 d i))
    ∗ bigSep (belowIx n) (sentCred 0 d))
/-- What is spent of a cell to wait for it, and what the wait brings. -/
abbrev waitRes (d : Dev nD) (x : Own) : sProp 𝕄 := iprop(cred (tallyAt (ocell d x) (some 0) (ownAmount x)) ∗ atPos ER (ocell d x) 0 ∅ 0)
abbrev waitPay (d : Dev nD) (x : Own) : sProp 𝕄 := iprop(semVal (ocell d x) 0 ∗ ownPay X d x)
abbrev came (n : Fin 9) : Own := .inl ((0, 1), n)
/-- Before lane `n` is waited for and passed on; -/
def PassSt (d : Dev nD) (O : CellTallies nD τ sig (HIx 1)) (W : Waits sig (HIx 1)) (n : ℕ) : sProp 𝕄 :=
  iprop(owing d O W (moveDebt 1 d n) ∗ (bigSep (fromIx n) fun i : Fin 9 => iprop(waitRes d (came i) ∗ moveRes 1 d i))
    ∗ bigSep (belowIx n) fun i : Fin 9 => iprop(semVal (ocell d (came i)) 0 ∗ sentCred 1 d i))
/-- in between. -/
def PassMid (d : Dev nD) (O : CellTallies nD τ sig (HIx 1)) (W : Waits sig (HIx 1)) (n : Fin 9) : sProp 𝕄 :=
  iprop(owing d O W (moveDebt 1 d n.val) ∗ ((waitPay X d (came n) ∗ moveRes 1 d n) ∗ bigSep (fromIx (n.val + 1)) fun i : Fin 9 => iprop(waitRes d (came i) ∗ moveRes 1 d i))
    ∗ bigSep (belowIx n.val) fun i : Fin 9 => iprop(semVal (ocell d (came i)) 0 ∗ sentCred 1 d i))
/-- Before wait `n` on a list of cells. -/
def WaitSt {N : ℕ} (w : Fin N → Own) (d : Dev nD) (O : CellTallies nD τ sig (HIx 1)) (W : Waits sig (HIx 1)) (n : ℕ) : sProp 𝕄 :=
  iprop(owing d O W 0 ∗ (bigSep (fromIx n) fun i : Fin N => waitRes d (w i)) ∗ bigSep (belowIx n) fun i : Fin N => waitPay X d (w i))

/-- A wait on the barrier, owing receive credits and nothing below level 7 else; -/
theorem mayWait_bar (d : Dev nD) (O : CellTallies nD τ sig (HIx 1)) (hOlev : ∀ g ι, 0 < O g ι → 8 * (0 : Fin 1).val + 7 ≤ (K (F := F)).lev g ι) :
    (Ord : sProp 𝕄) ⊢ MayWait (S d c₀) (asem (.inl ())) (some 0) (O + (moveDebt 1 d 0 + moveDebt 0 d 0)) :=
  (K (F := F)).mayOwe_of_bound 3 (fun p hp => by rw [Finset.mem_singleton] at hp; subst hp; exact le_of_eq (lev_bcell d))
    (fun g ι hg => by
      rw [Pi.add_apply, Finsupp.add_apply, Pi.add_apply, Finsupp.add_apply] at hg
      rcases Nat.add_pos_iff_pos_or_pos.mp hg with h | h
      · exact lt_of_lt_of_le (by decide) (hOlev g ι h)
      · rcases Nat.add_pos_iff_pos_or_pos.mp h with h | h
        · obtain ⟨i, rfl, rfl⟩ := moveDebt_pos h
          exact lt_of_lt_of_eq (by decide) (lev_ocell _ _).symm
        · obtain ⟨i, rfl, rfl⟩ := moveDebt_pos h
          exact lt_of_lt_of_eq (by decide) (lev_ocell _ _).symm)
    (K (F := F)).levR (K (F := F)).refines_levR
/-- a wait for what a first move brings, owing second moves; -/
theorem mayWait_came (d : Dev nD) (n : Fin 9) (m : ℕ) (O : CellTallies nD τ sig (HIx 1)) (hOlev : ∀ g ι, 0 < O g ι → 8 * (0 : Fin 1).val + 7 ≤ (K (F := F)).lev g ι) :
    (Ord : sProp 𝕄) ⊢ MayWait (S d c₀) (asem (.inr (came n))) (some 0) (O + moveDebt 1 d m) :=
  MayOwe.of_levAts (L := (K (F := F)).L) (lev := (K (F := F)).levR) (fun _ _ => Finset.mem_univ _) (fun _ _ _ => Finset.mem_univ _)
    fun g ι hg p hp => by
      rw [Finset.mem_singleton] at hp; subst hp
      rw [Pi.add_apply, Finsupp.add_apply] at hg
      rcases Nat.add_pos_iff_pos_or_pos.mp hg with h | h
      · exact (K (F := F)).refines_levR.lt (lt_of_lt_of_le (lt_of_eq_of_lt (lev_ocell d (came n)) (by decide)) (hOlev g ι h))
      · obtain ⟨i, rfl, rfl⟩ := moveDebt_pos h
        exact (K (F := F)).levR_S_dma_lt d _ c₀ c₀ (by show 9 * (2 * 0 + 1) + n.val < 9 * (2 * 1 + 1) + i.val; have := n.isLt; omega) 0
/-- any other, owing nothing of the protocol. -/
theorem mayWait_own (d : Dev nD) (x : Own) (O : CellTallies nD τ sig (HIx 1)) (hOlev : ∀ g ι, 0 < O g ι → 8 * (0 : Fin 1).val + 7 ≤ (K (F := F)).lev g ι) :
    (Ord : sProp 𝕄) ⊢ MayWait (S d c₀) (asem (.inr x)) (some 0) (O + 0) :=
  (K (F := F)).mayOwe_of_bound 5 (fun p hp => by rw [Finset.mem_singleton] at hp; subst hp; exact le_of_eq (lev_ocell d x))
    (fun g ι hg => by
      rw [add_zero] at hg
      exact lt_of_lt_of_le (by decide) (hOlev g ι hg))
    (K (F := F)).levR (K (F := F)).refines_levR

/-! ## The steps -/

section Steps
variable [FloatOps F] (κ : GSem nD τ sig → ℕ) (d : Dev nD) (O : CellTallies nD τ sig (HIx 1)) (W : Waits sig (HIx 1))

/-- Signal `i`: one unit to a partner's barrier, handing over the slots that partner writes here. -/
theorem wp_sig (i : Fin 4) (p : Dev nD) (hp : p = across d i) (n : ℕ) (hn : n = 1)
    {β : Type} {cont : PUnit → Prog (TpuEff nD τ sig (Elt F) Λ₀ (.scScalar c₀)) β} {Q : β → sProp 𝕄} :
    iprop(Ctx X κ ∗ SigSt d O W i.val)
      ⊢ iprop((SigSt d O W (i.val + 1) -∗ wp frame (wpE (defs₀ (F := F)) 𝒱₀ (S d c₀) none) Set.univ (cont ⟨⟩) Q)
          -∗ wp frame (wpE (defs₀ (F := F)) 𝒱₀ (S d c₀) none) Set.univ (.op (.semSignal (S p c₀) barrier1 n) cont) Q) := by
  subst hp hn
  have hpay : (Rd X).payload (S (across d i) c₀, SemLoc.reg barrier1) 0 d = handed d i := by
    rw [show (Rd X).payload (S (across d i) c₀, SemLoc.reg barrier1) 0 d = _ from payload_acell X (across d i) (.inl ()) 0 d]
    show handed d (acrossIx (across d i) d) = _; rw [acrossIx_across]
  unfold SigSt owing
  rw [bigSep_from_pop]
  iintro ⟨⟨#HI, #HR⟩, ⟨%W', %hW', HO⟩, ⟨Ht, Hp⟩, Hrest⟩ Hk
  iapply (Rounds.wp_signal 𝒱₀ ER (Rd X) (S d c₀) none (dst := S (across d i) c₀) (κ := κ (bcell (across d i))) (r := 0) (d := d)
      (by rw [show ((S (across d i) c₀, SemLoc.reg barrier1) : GSem nD τ sig) = bcell (across d i) from rfl, duties_acell]
          exact Finset.mem_image.mpr ⟨i, Finset.mem_univ _, across_across d i⟩)
      (k' := 1) (show _ = 1 from amount_acell X (across d i) (.inl ()) 0 d) (some 0) (O₀ := O + (moveDebt 1 d 0 + moveDebt 0 d 0 + barDebt d i.val))
      (O + (moveDebt 1 d 0 + moveDebt 0 d 0 + barDebt d (i.val + 1)))
      (by rw [barDebt_step d i, ← add_assoc (moveDebt 1 d 0 + moveDebt 0 d 0), ← add_assoc O]; rfl)) $$ [Ht Hp HO]
  · isplitr; · iapply (inv_of X κ (across d i) (.inl ())); iexact HI
    isplitl [HO]; · iexact HO
    isplitl [Ht]; · iexact Ht
    isplitl [Hp]
    · iapply (SparseCore.ent (Entails.of_eq hpay.symm)); iexact Hp
    iapply (reached_of (across d i) (.inl ())); iexact HR
  iintro HO
  iapply Hk
  isplitl [HO]
  · iexists W'; isplitr; · ipureintro; exact hW'
    iexact HO
  iexact Hrest

/-- The barrier's wait: past it, the slots this device's moves fill are its own; the barrier's counter is back at zero. -/
theorem wp_bar (hOlev : ∀ g ι, 0 < O g ι → 8 * (0 : Fin 1).val + 7 ≤ (K (F := F)).lev g ι) (n : ℕ) (hn : n = 4)
    {β : Type} {cont : PUnit → Prog (TpuEff nD τ sig (Elt F) Λ₀ (.scScalar c₀)) β} {Q : β → sProp 𝕄} :
    iprop(Ctx X κ ∗ Ord ∗ owing d O W (moveDebt 1 d 0 + moveDebt 0 d 0) ∗ cred (tallyAt (bcell d) (some 0) 4) ∗ atPos ER (bcell d) 0 ∅ 0)
      ⊢ iprop(((owing d O W (moveDebt 1 d 0 + moveDebt 0 d 0) ∗ semVal (bcell d) 0 ∗ bigSep Finset.univ (farAny 1 d) ∗ bigSep Finset.univ (farAny 0 d))
            -∗ wp frame (wpE (defs₀ (F := F)) 𝒱₀ (S d c₀) none) Set.univ (cont ⟨⟩) Q)
          -∗ wp frame (wpE (defs₀ (F := F)) 𝒱₀ (S d c₀) none) Set.univ (.op (.semWait barrier1 n) cont) Q) := by
  subst hn
  unfold owing
  iintro ⟨⟨#HI, #HR⟩, #Hlev, ⟨%W', %hW', HO⟩, Hc, Hat⟩ Hk
  iapply (Rounds.wp_wait_rest_token 𝒱₀ ER (Rd X) (S d c₀) none (κ := κ (bcell d)) (R := 0) (T := ∅) (m := 0)
      (wpE_semWait_eq 𝒱₀ (S d c₀) none Set.univ) (Set.mem_univ _) (some 0) (by rw [show ((S d c₀, SemLoc.reg barrier1) : GSem nD τ sig) = bcell d from rfl, expect_bcell])) $$ [HO Hc Hat]
  · isplitr; · iapply (inv_of X κ d (.inl ())); iexact HI
    isplitl [Hc]; · iexact Hc
    isplitl [HO]; · iexact HO
    isplitr; · iapply (mayWait_bar d O hOlev); iexact Hlev
    iexact Hat
  iintro ⟨HO, Hat, -, Hpay⟩
  imod (Rounds.cell_close ER (Rd X) (g := bcell d) (κ := κ (bcell d)) (Es := Set.univ) (Set.mem_univ _) (fun h => h) (R := 1) (duties_later X _)) $$ [Hat] with Hz
  · isplitr; · iapply (inv_of X κ d (.inl ())); iexact HI
    iexact Hat
  iapply Hk
  isplitl [HO]
  · iexists (insert (asem (.inl ()), some 0) W'); isplitr; · ipureintro; exact recorded_insert _ hW'
    iexact HO
  isplitl [Hz]; · iexact Hz
  iapply (SparseCore.ent (Entails.of_eq ((congrArg (fun s => bigSep s fun s => (Rd X).payload (bcell d) 0 s) (Finset.sdiff_empty)).trans (pays_bcell X d))))
  iexact Hpay

/-- A wait for another cell: what its one landing hands over, the cell's counter back at zero. -/
theorem wp_own (x : Own) (Y : CellTallies nD τ sig (HIx 1)) (hmay : (Ord : sProp 𝕄) ⊢ MayWait (S d c₀) (asem (.inr x)) (some 0) (O + Y))
    (sm : DmaSem sig) (hsm : SemLoc.dma sm = asem (.inr x))
    {md : Space} {s : Shape} {e : EltTy} (dst : Memref sig .scScalar md s e) (hN : dst.view.dmaCredit = ownAmount x)
    {β : Type} {cont : PUnit → Prog (TpuEff nD τ sig (Elt F) Λ₀ (.scScalar c₀)) β} {Q : β → sProp 𝕄} :
    iprop(Ctx X κ ∗ Ord ∗ owing d O W Y ∗ waitRes d x)
      ⊢ iprop(((owing d O W Y ∗ waitPay X d x) -∗ wp frame (wpE (defs₀ (F := F)) 𝒱₀ (S d c₀) none) Set.univ (cont ⟨⟩) Q)
          -∗ wp frame (wpE (defs₀ (F := F)) 𝒱₀ (S d c₀) none) Set.univ (.op (.waitDma sm dst.view.ref s e (.inr dst.hasMemref)) cont) Q) := by
  have hg : ((S d c₀, SemLoc.dma sm) : GSem nD τ sig) = ocell d x := by rw [hsm]
  unfold owing
  iintro ⟨⟨#HI, #HR⟩, #Hlev, ⟨%W', %hW', HO⟩, ⟨Hc, Hat⟩⟩ Hk
  iapply (Rounds.wp_wait_rest_token 𝒱₀ ER (Rd X) (S d c₀) none (sm := SemLoc.dma sm) (κ := κ (ocell d x)) (R := 0) (T := ∅) (m := 0)
      (k' := ownAmount x) (fun K => by rw [← hN]; rfl) (Set.mem_univ _) (some 0) (by rw [hg, expect_ocell, Nat.zero_add])) $$ [HO Hc Hat]
  · rw [hg, hsm]
    isplitr; · iapply (inv_of X κ d (.inr x)); iexact HI
    isplitl [Hc]; · iexact Hc
    isplitl [HO]; · iexact HO
    isplitr; · iapply (SparseCore.ent hmay); iexact Hlev
    iexact Hat
  rw [hg]
  iintro ⟨HO, Hat, -, Hpay⟩
  imod (Rounds.cell_close ER (Rd X) (g := ocell d x) (κ := κ (ocell d x)) (Es := Set.univ) (Set.mem_univ _) (fun h => h) (R := 1) (duties_later X _)) $$ [Hat] with Hz
  · isplitr; · iapply (inv_of X κ d (.inr x)); iexact HI
    iexact Hat
  iapply Hk
  isplitl [HO]
  · iexists (insert (SemLoc.dma sm, some 0) W'); isplitr; · ipureintro; exact recorded_insert _ hW'
    iexact HO
  isplitl [Hz]; · iexact Hz
  iapply (SparseCore.ent (Entails.of_eq ((congrArg (fun s => bigSep s fun s => (Rd X).payload (ocell d x) 0 s) (Finset.sdiff_empty)).trans (pays_ocell X d x))))
  iexact Hpay

/-- Wait `i` of a list. -/
theorem wp_listed (hOlev : ∀ g ι, 0 < O g ι → 8 * (0 : Fin 1).val + 7 ≤ (K (F := F)).lev g ι) {N : ℕ} (w : Fin N → Own) (i : Fin N)
    (sm : DmaSem sig) (hsm : SemLoc.dma sm = asem (.inr (w i)))
    {md : Space} {s : Shape} {e : EltTy} (dst : Memref sig .scScalar md s e) (hN : dst.view.dmaCredit = ownAmount (w i))
    {β : Type} {cont : PUnit → Prog (TpuEff nD τ sig (Elt F) Λ₀ (.scScalar c₀)) β} {Q : β → sProp 𝕄} :
    iprop(Ctx X κ ∗ Ord ∗ WaitSt X w d O W i.val)
      ⊢ iprop((WaitSt X w d O W (i.val + 1) -∗ wp frame (wpE (defs₀ (F := F)) 𝒱₀ (S d c₀) none) Set.univ (cont ⟨⟩) Q)
          -∗ wp frame (wpE (defs₀ (F := F)) 𝒱₀ (S d c₀) none) Set.univ (.op (.waitDma sm dst.view.ref s e (.inr dst.hasMemref)) cont) Q) := by
  unfold WaitSt
  rw [bigSep_from_pop, bigSep_below_push]
  iintro ⟨#HC, #Hlev, HO, ⟨Hw, Hrest⟩, Hdone⟩ Hk
  iapply (wp_own X κ d O W (w i) 0 (mayWait_own d (w i) O hOlev) sm hsm dst hN) $$ [HO Hw]
  · isplitr; · iexact HC
    isplitr; · iexact Hlev
    isplitl [HO]; · iexact HO
    iexact Hw
  iintro ⟨HO, Hp⟩
  iapply Hk
  isplitl [HO]; · iexact HO
  isplitl [Hrest]; · iexact Hrest
  isplitl [Hp]; · iexact Hp
  iexact Hdone

/-- The wait for lane `n`'s first move. -/
theorem wp_came (hOlev : ∀ g ι, 0 < O g ι → 8 * (0 : Fin 1).val + 7 ≤ (K (F := F)).lev g ι) (n : Fin 9)
    (sm : DmaSem sig) (hsm : SemLoc.dma sm = asem (.inr (came n)))
    {md : Space} {s : Shape} {e : EltTy} (dst : Memref sig .scScalar md s e) (hN : dst.view.dmaCredit = credit n)
    {β : Type} {cont : PUnit → Prog (TpuEff nD τ sig (Elt F) Λ₀ (.scScalar c₀)) β} {Q : β → sProp 𝕄} :
    iprop(Ctx X κ ∗ Ord ∗ PassSt d O W n.val)
      ⊢ iprop((PassMid X d O W n -∗ wp frame (wpE (defs₀ (F := F)) 𝒱₀ (S d c₀) none) Set.univ (cont ⟨⟩) Q)
          -∗ wp frame (wpE (defs₀ (F := F)) 𝒱₀ (S d c₀) none) Set.univ (.op (.waitDma sm dst.view.ref s e (.inr dst.hasMemref)) cont) Q) := by
  unfold PassSt PassMid
  rw [bigSep_from_pop]
  iintro ⟨#HC, #Hlev, HO, ⟨⟨Hw, Hm⟩, Hrest⟩, Hdone⟩ Hk
  iapply (wp_own X κ d O W (came n) _ (mayWait_came d n n.val O hOlev) sm hsm dst hN) $$ [HO Hw]
  · isplitr; · iexact HC
    isplitr; · iexact Hlev
    isplitl [HO]; · iexact HO
    iexact Hw
  iintro ⟨HO, Hp⟩
  iapply Hk
  isplitl [HO]; · iexact HO
  isplitr [Hdone]
  · isplitr [Hrest]
    · isplitl [Hp]; · iexact Hp
      iexact Hm
    iexact Hrest
  iexact Hdone

theorem ownPay_send (b : Fin 2) (n : Fin 9) : (ownPay X d (.inl ((b, 0), n)) : sProp 𝕄) = sentPts X b d n :=
  show (if (0 : Fin 2) = 0 then sentPts X b d n else slotVal X (arr n) d (lands b d n)) = _ from if_pos rfl
theorem ownPay_recv (b : Fin 2) (n : Fin 9) : (ownPay X d (.inl ((b, 1), n)) : sProp 𝕄) = slotVal X (arr n) d (lands b d n) :=
  show (if (1 : Fin 2) = 0 then sentPts X b d n else slotVal X (arr n) d (lands b d n)) = _ from if_neg (by decide)
theorem mem_duty_send (b : Fin 2) (n : Fin 9) : d ∈ (Rd X).duties (lcell d b 0 n) 0 := by rw [duties_acell]; exact Finset.mem_singleton_self _
theorem mem_duty_recv (b : Fin 2) (n : Fin 9) : dest b d n ∈ (Rd X).duties (lcell (dest b d n) b 1 n) 0 := by rw [duties_acell]; exact Finset.mem_singleton_self _
theorem mem_duty_copy (j : Fin 3) : d ∈ (Rd X).duties (ccell d j) 0 := by rw [duties_acell]; exact Finset.mem_singleton_self _

/-- Move `b` of lane `n`, whatever else is owed. -/
theorem wp_move (b : Fin 2) (n : Fin 9) (Z : CellTallies nD τ sig (HIx 1)) (p : Dev nD) (hp : p = dest b d n) {s : Shape}
    (src dst : Memref sig .scScalar .hbm s .bf16) (hm : Moves X b d n src dst)
    (sS sR : SemLoc sig) (hsS : sS = asem (.inr (.inl ((b, 0), n)))) (hsR : sR = asem (.inr (.inl ((b, 1), n))))
    {hsc : (dst : Memref sig (S p c₀).2.kind .hbm s _).view.ref.isScScratch = false}
    {hsrc : src.view.WordExact} {hdst : dst.view.WordExact}
    {hsem : DmaTarget.Typed .hbm sR (.remote (S p c₀) (dst : Memref sig (S p c₀).2.kind .hbm s _) sS hsc)}
    {β : Type} {cont : PUnit → Prog (TpuEff nD τ sig (Elt F) Λ₀ (.scScalar c₀)) β} {Q : β → sProp 𝕄} :
    iprop(Ctx X κ ∗ owing d O W (Z + moveDebt b d n.val) ∗ sentPts X b d n ∗ moveRes b d n)
      ⊢ iprop(((owing d O W (Z + moveDebt b d (n.val + 1)) ∗ sentCred b d n) -∗ wp frame (wpE (defs₀ (F := F)) 𝒱₀ (S d c₀) none) Set.univ (cont ⟨⟩) Q)
          -∗ wp frame (wpE (defs₀ (F := F)) 𝒱₀ (S d c₀) none) Set.univ (.op (.enqueueDma src (.remote (S p c₀) dst sS hsc) sR hsrc hdst hsem) cont) Q) := by
  subst hp hsS hsR
  obtain ⟨q, fs, hsrcP, hland, hfar, hN⟩ := hm
  unfold owing moveRes
  rw [moveDebt_step, ← add_assoc, ← add_assoc, ← hsrcP, hfar]
  iintro ⟨⟨#HI, #HR⟩, ⟨%W', %hW', HO⟩, Hsrc, ⟨⟨%fd, Hdst⟩, HtS, HtR⟩⟩ Hk
  iapply (Rounds.wp_send_pointsTo 𝒱₀ ER (Rd X) (S d c₀) none (κ₁ := κ (lcell d b 0 n)) (κ₂ := κ (lcell (dest b d n) b 1 n))
      (r₁ := 0) (r₂ := 0) (d₁ := d) (d₂ := dest b d n) (q := q) (fs := fs) (fd := fd)
      (mem_duty_send X d b n) (mem_duty_recv X d b n) (some 0) (some 0) (credit n) hN
      (amount_acell X d (.inr (.inl ((b, 0), n))) 0 d)
      (amount_acell X (dest b d n) (.inr (.inl ((b, 1), n))) 0 (dest b d n))
      (O + Z + moveDebt b d (n.val + 1)) rfl (W := W') ?hp₁ ?hp₂) $$ [Hsrc Hdst HO HtS HtR]
  case hp₁ =>
    rw [show (Rd X).payload (S d c₀, asem (.inr (.inl ((b, 0), n)))) 0 d = sentPts X b d n from (payload_acell X d (.inr (.inl ((b, 0), n))) 0 d).trans (ownPay_send X d b n), hsrcP]
  case hp₂ =>
    rw [show (Rd X).payload (S (dest b d n) c₀, asem (.inr (.inl ((b, 1), n)))) 0 (dest b d n) = slotVal X (arr n) (dest b d n) (lands b (dest b d n) n) from
      (payload_acell X (dest b d n) (.inr (.inl ((b, 1), n))) 0 (dest b d n)).trans (ownPay_recv X (dest b d n) b n), ← hland fd]
  · isplitr; · iapply (inv_of X κ d (.inr (.inl ((b, 0), n)))); iexact HI
    isplitr; · iapply (inv_of X κ (dest b d n) (.inr (.inl ((b, 1), n)))); iexact HI
    isplitl [Hsrc]; · iexact Hsrc
    isplitl [Hdst]; · iexact Hdst
    isplitl [HO]; · iexact HO
    isplitl [HtS]; · iexact HtS
    isplitr; · iapply (reached_of d (.inr (.inl ((b, 0), n)))); iexact HR
    isplitl [HtR]; · iexact HtR
    iapply (reached_of (dest b d n) (.inr (.inl ((b, 1), n)))); iexact HR
  iintro ⟨Hc, HO⟩
  iapply Hk
  isplitl [HO]
  · iexists W'; isplitr; · ipureintro; exact hW'
    rw [← add_assoc]; iexact HO
  iexact Hc

/-- First move `n`. -/
theorem wp_send (n : Fin 9) (p : Dev nD) (hp : p = dest 0 d n) {s : Shape}
    (src dst : Memref sig .scScalar .hbm s .bf16) (hm : Moves X 0 d n src dst)
    (sS sR : SemLoc sig) (hsS : sS = asem (.inr (.inl ((0, 0), n)))) (hsR : sR = asem (.inr (.inl ((0, 1), n))))
    {hsc : (dst : Memref sig (S p c₀).2.kind .hbm s _).view.ref.isScScratch = false}
    {hsrc : src.view.WordExact} {hdst : dst.view.WordExact}
    {hsem : DmaTarget.Typed .hbm sR (.remote (S p c₀) (dst : Memref sig (S p c₀).2.kind .hbm s _) sS hsc)}
    {β : Type} {cont : PUnit → Prog (TpuEff nD τ sig (Elt F) Λ₀ (.scScalar c₀)) β} {Q : β → sProp 𝕄} :
    iprop(Ctx X κ ∗ SendSt X d O W n.val)
      ⊢ iprop((SendSt X d O W (n.val + 1) -∗ wp frame (wpE (defs₀ (F := F)) 𝒱₀ (S d c₀) none) Set.univ (cont ⟨⟩) Q)
          -∗ wp frame (wpE (defs₀ (F := F)) 𝒱₀ (S d c₀) none) Set.univ (.op (.enqueueDma src (.remote (S p c₀) dst sS hsc) sR hsrc hdst hsem) cont) Q) := by
  unfold SendSt
  rw [bigSep_from_pop, bigSep_below_push]
  iintro ⟨#HC, HO, ⟨⟨Hs, Hm⟩, Hrest⟩, Hdone⟩ Hk
  iapply (wp_move X κ d O W 0 n (moveDebt 1 d 0) p hp src dst hm sS sR hsS hsR) $$ [HO Hs Hm]
  · isplitr; · iexact HC
    isplitl [HO]; · iexact HO
    isplitl [Hs]; · iexact Hs
    iexact Hm
  iintro ⟨HO, Hc⟩
  iapply Hk
  isplitl [HO]; · iexact HO
  isplitl [Hrest]; · iexact Hrest
  isplitl [Hc]; · iexact Hc
  iexact Hdone

/-- Second move `n`. -/
theorem wp_pass (n : Fin 9) (p : Dev nD) (hp : p = dest 1 d n) {s : Shape}
    (src dst : Memref sig .scScalar .hbm s .bf16) (hm : Moves X 1 d n src dst)
    (sS sR : SemLoc sig) (hsS : sS = asem (.inr (.inl ((1, 0), n)))) (hsR : sR = asem (.inr (.inl ((1, 1), n))))
    {hsc : (dst : Memref sig (S p c₀).2.kind .hbm s _).view.ref.isScScratch = false}
    {hsrc : src.view.WordExact} {hdst : dst.view.WordExact}
    {hsem : DmaTarget.Typed .hbm sR (.remote (S p c₀) (dst : Memref sig (S p c₀).2.kind .hbm s _) sS hsc)}
    {β : Type} {cont : PUnit → Prog (TpuEff nD τ sig (Elt F) Λ₀ (.scScalar c₀)) β} {Q : β → sProp 𝕄} :
    iprop(Ctx X κ ∗ PassMid X d O W n)
      ⊢ iprop((PassSt d O W (n.val + 1) -∗ wp frame (wpE (defs₀ (F := F)) 𝒱₀ (S d c₀) none) Set.univ (cont ⟨⟩) Q)
          -∗ wp frame (wpE (defs₀ (F := F)) 𝒱₀ (S d c₀) none) Set.univ (.op (.enqueueDma src (.remote (S p c₀) dst sS hsc) sR hsrc hdst hsem) cont) Q) := by
  have hpay : (ownPay X d (came n) : sProp 𝕄) = sentPts X 1 d n := rfl
  unfold PassSt PassMid waitPay
  rw [bigSep_below_push, ← zero_add (moveDebt 1 d n.val), ← zero_add (moveDebt 1 d (n.val + 1)), hpay]
  iintro ⟨#HC, HO, ⟨⟨⟨Hz, Hs⟩, Hm⟩, Hrest⟩, Hdone⟩ Hk
  iapply (wp_move X κ d O W 1 n 0 p hp src dst hm sS sR hsS hsR) $$ [HO Hs Hm]
  · isplitr; · iexact HC
    isplitl [HO]; · iexact HO
    isplitl [Hs]; · iexact Hs
    iexact Hm
  iintro ⟨HO, Hc⟩
  iapply Hk
  isplitl [HO]; · iexact HO
  isplitl [Hrest]; · iexact Hrest
  isplitr [Hdone]
  · isplitl [Hz]; · iexact Hz
    iexact Hc
  iexact Hdone

/-- The copy of array `j`'s own chip. -/
theorem wp_copy (j : Fin 3) {s : Shape} (src dst : Memref sig .scScalar .hbm s .bf16) (hm : Copies X d j src dst)
    (sm : SemLoc sig) (hsm : sm = asem (.inr (.inr j)))
    {hsrc : src.view.WordExact} {hdst : dst.view.WordExact} {hsem : DmaTarget.Typed (nD := nD) .hbm sm (DmaTarget.here (p := (S d c₀).2) (dst : Memref sig (S d c₀).2.kind .hbm s _))}
    {β : Type} {cont : PUnit → Prog (TpuEff nD τ sig (Elt F) Λ₀ (.scScalar c₀)) β} {Q : β → sProp 𝕄} :
    iprop(Ctx X κ ∗ CopySt X d j.val)
      ⊢ iprop((CopySt X d (j.val + 1) -∗ wp frame (wpE (defs₀ (F := F)) 𝒱₀ (S d c₀) none) Set.univ (cont ⟨⟩) Q)
          -∗ wp frame (wpE (defs₀ (F := F)) 𝒱₀ (S d c₀) none) Set.univ (.op (.enqueueDma src (.here dst) sm hsrc hdst hsem) cont) Q) := by
  subst hsm
  obtain ⟨q, fs, hsrcP, hland, hany, hN⟩ := hm
  unfold CopySt
  rw [bigSep_from_pop, bigSep_below_push, ← hsrcP, hany]
  iintro ⟨⟨#HI, #HR⟩, ⟨⟨Hsrc, ⟨%fd, Hdst⟩, Ht⟩, Hrest⟩, Hdone⟩ Hk
  iapply (Rounds.wp_copy_pointsTo 𝒱₀ ER (Rd X) (S d c₀) none (κ := κ (ccell d j)) (r := 0) (d := d) (q := q) (fs := fs) (fd := fd)
      (mem_duty_copy X d j) (some 0) (Nchip j) hN (amount_acell X d (.inr (.inr j)) 0 d) ?hp) $$ [Hsrc Hdst Ht]
  case hp =>
    rw [show (Rd X).payload (S d c₀, asem (.inr (.inr j))) 0 d = iprop((loc_dst j d ↦[(chipV j d).view.set]{fullShare} landed X j d) ∗ copyPts X j d) from payload_acell X d (.inr (.inr j)) 0 d,
      hland fd, hsrcP]
  · isplitr; · iapply (inv_of X κ d (.inr (.inr j))); iexact HI
    isplitl [Hsrc]; · iexact Hsrc
    isplitl [Hdst]; · iexact Hdst
    isplitl [Ht]; · iexact Ht
    iapply (reached_of d (.inr (.inr j))); iexact HR
  iintro Hc
  iapply Hk
  isplitl [Hrest]; · iexact Hrest
  isplitl [Hc]; · iexact Hc
  iexact Hdone

end Steps

end Cert.Gathering

end
-- ==== Proof.GatherOffsets.lean ====
/-
  What the kernel's own index arithmetic names: the device, the half, the slot and the semaphores of every signal, copy and
  move, as the tables of `GatherPeers` and `GatherPieces` have them.
-/
module

public import proofs.«01_k».proof.Proof.GatherSetup

@[expose] public section

noncomputable section

namespace Cert.Gathering

open Cert.GatherIdeal Cert.GatherIdeal.Gen
open Idealize.ShloMosaic

/-! ## Views and semaphores by their offsets -/

theorem half0_of (d : Dev nD) (o : Fin 3 → ℕ) (h : o = halfOff d) (hi : ∀ x, o x + S1x128x1024.size x ≤ S2x128x1024.size x) :
    ((Memref.whole main_v4_scs).slice (Rect.unit (s := S2x128x1024) o S1x128x1024.size hi) (fun _ => rfl)).squeeze S128x1024 squeezes_S1x128x1024_S128x1024 = halfV 0 d := by subst h; rfl
theorem slot0_of (q : Dev nD) (o : Fin 4 → ℕ) (h : o = slotOff q) (hi : ∀ x, o x + S1x1x128x1024.size x ≤ S4x2x128x1024.size x) :
    ((Memref.whole main_v16_0_scs).slice (Rect.unit (s := S4x2x128x1024) o S1x1x128x1024.size hi) (fun _ => rfl)).squeeze S128x1024 squeezes_S1x1x128x1024_S128x1024 = slotV 0 q := by subst h; rfl
theorem chip0_of (d : Dev nD) (o : Fin 4 → ℕ) (h : o = chipOff d) (hi : ∀ x, o x + S1x2x128x1024.size x ≤ S4x2x128x1024.size x) :
    ((Memref.whole main_v16_0_scs).slice (Rect.unit (s := S4x2x128x1024) o S1x2x128x1024.size hi) (fun _ => rfl)).squeeze S2x128x1024 squeezes_S1x2x128x1024_S2x128x1024 = chipV 0 d := by subst h; rfl
theorem credit_half0 (n : Fin 9) (h : arr n = 0) (o : Fin 3 → ℕ) (hi : ∀ x, o x + S1x128x1024.size x ≤ S2x128x1024.size x) :
    (((Memref.whole main_v4_scs).slice (Rect.unit (s := S2x128x1024) o S1x128x1024.size hi) (fun _ => rfl)).squeeze S128x1024 squeezes_S1x128x1024_S128x1024).view.dmaCredit = credit n := by unfold credit; rw [h]; rfl
theorem credit_slot0 (n : Fin 9) (h : arr n = 0) (o : Fin 4 → ℕ) (hi : ∀ x, o x + S1x1x128x1024.size x ≤ S4x2x128x1024.size x) :
    (((Memref.whole main_v16_0_scs).slice (Rect.unit (s := S4x2x128x1024) o S1x1x128x1024.size hi) (fun _ => rfl)).squeeze S128x1024 squeezes_S1x1x128x1024_S128x1024).view.dmaCredit = credit n := by unfold credit; rw [h]; rfl
theorem credit_chip0 (o : Fin 4 → ℕ) (hi : ∀ x, o x + S1x2x128x1024.size x ≤ S4x2x128x1024.size x) :
    (((Memref.whole main_v16_0_scs).slice (Rect.unit (s := S4x2x128x1024) o S1x2x128x1024.size hi) (fun _ => rfl)).squeeze S2x128x1024 squeezes_S1x2x128x1024_S2x128x1024).view.dmaCredit = Nchip 0 := rfl
theorem half1_of (d : Dev nD) (o : Fin 3 → ℕ) (h : o = halfOff d) (hi : ∀ x, o x + S1x512x898.size x ≤ S2x512x898.size x) :
    ((Memref.whole main_v8_scs).slice (Rect.unit (s := S2x512x898) o S1x512x898.size hi) (fun _ => rfl)).squeeze S512x898 squeezes_S1x512x898_S512x898 = halfV 1 d := by subst h; rfl
theorem slot1_of (q : Dev nD) (o : Fin 4 → ℕ) (h : o = slotOff q) (hi : ∀ x, o x + S1x1x512x898.size x ≤ S4x2x512x898.size x) :
    ((Memref.whole main_v16_1_scs).slice (Rect.unit (s := S4x2x512x898) o S1x1x512x898.size hi) (fun _ => rfl)).squeeze S512x898 squeezes_S1x1x512x898_S512x898 = slotV 1 q := by subst h; rfl
theorem chip1_of (d : Dev nD) (o : Fin 4 → ℕ) (h : o = chipOff d) (hi : ∀ x, o x + S1x2x512x898.size x ≤ S4x2x512x898.size x) :
    ((Memref.whole main_v16_1_scs).slice (Rect.unit (s := S4x2x512x898) o S1x2x512x898.size hi) (fun _ => rfl)).squeeze S2x512x898 squeezes_S1x2x512x898_S2x512x898 = chipV 1 d := by subst h; rfl
theorem credit_half1 (n : Fin 9) (h : arr n = 1) (o : Fin 3 → ℕ) (hi : ∀ x, o x + S1x512x898.size x ≤ S2x512x898.size x) :
    (((Memref.whole main_v8_scs).slice (Rect.unit (s := S2x512x898) o S1x512x898.size hi) (fun _ => rfl)).squeeze S512x898 squeezes_S1x512x898_S512x898).view.dmaCredit = credit n := by unfold credit; rw [h]; rfl
theorem credit_slot1 (n : Fin 9) (h : arr n = 1) (o : Fin 4 → ℕ) (hi : ∀ x, o x + S1x1x512x898.size x ≤ S4x2x512x898.size x) :
    (((Memref.whole main_v16_1_scs).slice (Rect.unit (s := S4x2x512x898) o S1x1x512x898.size hi) (fun _ => rfl)).squeeze S512x898 squeezes_S1x1x512x898_S512x898).view.dmaCredit = credit n := by unfold credit; rw [h]; rfl
theorem credit_chip1 (o : Fin 4 → ℕ) (hi : ∀ x, o x + S1x2x512x898.size x ≤ S4x2x512x898.size x) :
    (((Memref.whole main_v16_1_scs).slice (Rect.unit (s := S4x2x512x898) o S1x2x512x898.size hi) (fun _ => rfl)).squeeze S2x512x898 squeezes_S1x2x512x898_S2x512x898).view.dmaCredit = Nchip 1 := rfl
theorem half2_of (d : Dev nD) (o : Fin 3 → ℕ) (h : o = halfOff d) (hi : ∀ x, o x + S1x128x1024.size x ≤ S2x128x1024.size x) :
    ((Memref.whole main_v12_scs).slice (Rect.unit (s := S2x128x1024) o S1x128x1024.size hi) (fun _ => rfl)).squeeze S128x1024 squeezes_S1x128x1024_S128x1024 = halfV 2 d := by subst h; rfl
theorem slot2_of (q : Dev nD) (o : Fin 4 → ℕ) (h : o = slotOff q) (hi : ∀ x, o x + S1x1x128x1024.size x ≤ S4x2x128x1024.size x) :
    ((Memref.whole main_v16_2_scs).slice (Rect.unit (s := S4x2x128x1024) o S1x1x128x1024.size hi) (fun _ => rfl)).squeeze S128x1024 squeezes_S1x1x128x1024_S128x1024 = slotV 2 q := by subst h; rfl
theorem chip2_of (d : Dev nD) (o : Fin 4 → ℕ) (h : o = chipOff d) (hi : ∀ x, o x + S1x2x128x1024.size x ≤ S4x2x128x1024.size x) :
    ((Memref.whole main_v16_2_scs).slice (Rect.unit (s := S4x2x128x1024) o S1x2x128x1024.size hi) (fun _ => rfl)).squeeze S2x128x1024 squeezes_S1x2x128x1024_S2x128x1024 = chipV 2 d := by subst h; rfl
theorem credit_half2 (n : Fin 9) (h : arr n = 2) (o : Fin 3 → ℕ) (hi : ∀ x, o x + S1x128x1024.size x ≤ S2x128x1024.size x) :
    (((Memref.whole main_v12_scs).slice (Rect.unit (s := S2x128x1024) o S1x128x1024.size hi) (fun _ => rfl)).squeeze S128x1024 squeezes_S1x128x1024_S128x1024).view.dmaCredit = credit n := by unfold credit; rw [h]; rfl
theorem credit_slot2 (n : Fin 9) (h : arr n = 2) (o : Fin 4 → ℕ) (hi : ∀ x, o x + S1x1x128x1024.size x ≤ S4x2x128x1024.size x) :
    (((Memref.whole main_v16_2_scs).slice (Rect.unit (s := S4x2x128x1024) o S1x1x128x1024.size hi) (fun _ => rfl)).squeeze S128x1024 squeezes_S1x1x128x1024_S128x1024).view.dmaCredit = credit n := by unfold credit; rw [h]; rfl
theorem credit_chip2 (o : Fin 4 → ℕ) (hi : ∀ x, o x + S1x2x128x1024.size x ≤ S4x2x128x1024.size x) :
    (((Memref.whole main_v16_2_scs).slice (Rect.unit (s := S4x2x128x1024) o S1x2x128x1024.size hi) (fun _ => rfl)).squeeze S2x128x1024 squeezes_S1x2x128x1024_S2x128x1024).view.dmaCredit = Nchip 2 := rfl

theorem sem00 (n : Fin 9) (o : Fin 1 → ℕ) (h : o = ![n.val]) (hb : ∀ a, o a + S1.size a ≤ S9.size a) :
    SemLoc.dma ((cc0_scratch0.slice (Rect.unit (s := S9) o S1.size hb)).squeeze S_ squeezes_S1_S_).sem = asem (.inr (.inl ((0, 0), n))) := by
  subst h; revert n; decide +kernel
theorem sem01 (n : Fin 9) (o : Fin 1 → ℕ) (h : o = ![n.val]) (hb : ∀ a, o a + S1.size a ≤ S9.size a) :
    SemLoc.dma ((cc0_scratch1.slice (Rect.unit (s := S9) o S1.size hb)).squeeze S_ squeezes_S1_S_).sem = asem (.inr (.inl ((0, 1), n))) := by
  subst h; revert n; decide +kernel
theorem sem10 (n : Fin 9) (o : Fin 1 → ℕ) (h : o = ![n.val]) (hb : ∀ a, o a + S1.size a ≤ S9.size a) :
    SemLoc.dma ((cc0_scratch2.slice (Rect.unit (s := S9) o S1.size hb)).squeeze S_ squeezes_S1_S_).sem = asem (.inr (.inl ((1, 0), n))) := by
  subst h; revert n; decide +kernel
theorem sem11 (n : Fin 9) (o : Fin 1 → ℕ) (h : o = ![n.val]) (hb : ∀ a, o a + S1.size a ≤ S9.size a) :
    SemLoc.dma ((cc0_scratch3.slice (Rect.unit (s := S9) o S1.size hb)).squeeze S_ squeezes_S1_S_).sem = asem (.inr (.inl ((1, 1), n))) := by
  subst h; revert n; decide +kernel
theorem semCopy (j : Fin 3) (o : Fin 1 → ℕ) (h : o = ![j.val]) (hb : ∀ a, o a + S1.size a ≤ S3.size a) :
    SemLoc.dma ((cc0_scratch4.slice (Rect.unit (s := S3) o S1.size hb)).squeeze S_ squeezes_S1_S_).sem = asem (.inr (.inr j)) := by
  subst h; revert j; decide +kernel

/-! ## The devices and the offsets -/

theorem dev_sig0 (d : Dev nD) : (⟨k0_dev1 d, k0_dev1_lt d⟩ : Dev nD) = across d 0 := by revert d; decide +kernel
theorem dev_sig1 (d : Dev nD) : (⟨k0_dev2 d, k0_dev2_lt d⟩ : Dev nD) = across d 1 := by revert d; decide +kernel
theorem dev_sig2 (d : Dev nD) : (⟨k0_dev3 d, k0_dev3_lt d⟩ : Dev nD) = across d 2 := by revert d; decide +kernel
theorem dev_sig3 (d : Dev nD) : (⟨k0_dev4 d, k0_dev4_lt d⟩ : Dev nD) = across d 3 := by revert d; decide +kernel
theorem dev_send0 (d : Dev nD) : (⟨k0_dev5 d, k0_dev5_lt d⟩ : Dev nD) = dest 0 d 0 := by revert d; decide +kernel
theorem dev_send1 (d : Dev nD) : (⟨k0_dev6 d, k0_dev6_lt d⟩ : Dev nD) = dest 0 d 1 := by revert d; decide +kernel
theorem dev_send2 (d : Dev nD) : (⟨k0_dev7 d, k0_dev7_lt d⟩ : Dev nD) = dest 0 d 2 := by revert d; decide +kernel
theorem dev_send3 (d : Dev nD) : (⟨k0_dev8 d, k0_dev8_lt d⟩ : Dev nD) = dest 0 d 3 := by revert d; decide +kernel
theorem dev_send4 (d : Dev nD) : (⟨k0_dev9 d, k0_dev9_lt d⟩ : Dev nD) = dest 0 d 4 := by revert d; decide +kernel
theorem dev_send5 (d : Dev nD) : (⟨k0_dev10 d, k0_dev10_lt d⟩ : Dev nD) = dest 0 d 5 := by revert d; decide +kernel
theorem dev_send6 (d : Dev nD) : (⟨k0_dev11 d, k0_dev11_lt d⟩ : Dev nD) = dest 0 d 6 := by revert d; decide +kernel
theorem dev_send7 (d : Dev nD) : (⟨k0_dev12 d, k0_dev12_lt d⟩ : Dev nD) = dest 0 d 7 := by revert d; decide +kernel
theorem dev_send8 (d : Dev nD) : (⟨k0_dev13 d, k0_dev13_lt d⟩ : Dev nD) = dest 0 d 8 := by revert d; decide +kernel
theorem dev_pass0 (d : Dev nD) : (⟨k0_dev14 d, k0_dev14_lt d⟩ : Dev nD) = dest 1 d 0 := by revert d; decide +kernel
theorem dev_pass1 (d : Dev nD) : (⟨k0_dev15 d, k0_dev15_lt d⟩ : Dev nD) = dest 1 d 1 := by revert d; decide +kernel
theorem dev_pass2 (d : Dev nD) : (⟨k0_dev16 d, k0_dev16_lt d⟩ : Dev nD) = dest 1 d 2 := by revert d; decide +kernel
theorem dev_pass3 (d : Dev nD) : (⟨k0_dev17 d, k0_dev17_lt d⟩ : Dev nD) = dest 1 d 3 := by revert d; decide +kernel
theorem dev_pass4 (d : Dev nD) : (⟨k0_dev18 d, k0_dev18_lt d⟩ : Dev nD) = dest 1 d 4 := by revert d; decide +kernel
theorem dev_pass5 (d : Dev nD) : (⟨k0_dev19 d, k0_dev19_lt d⟩ : Dev nD) = dest 1 d 5 := by revert d; decide +kernel
theorem dev_pass6 (d : Dev nD) : (⟨k0_dev20 d, k0_dev20_lt d⟩ : Dev nD) = dest 1 d 6 := by revert d; decide +kernel
theorem dev_pass7 (d : Dev nD) : (⟨k0_dev21 d, k0_dev21_lt d⟩ : Dev nD) = dest 1 d 7 := by revert d; decide +kernel
theorem dev_pass8 (d : Dev nD) : (⟨k0_dev22 d, k0_dev22_lt d⟩ : Dev nD) = dest 1 d 8 := by revert d; decide +kernel
theorem off1 (d : Dev nD) : k0_off1 d = chipOff d := by revert d; decide +kernel
theorem off2 (d : Dev nD) : k0_off2 d = chipOff d := by revert d; decide +kernel
theorem off3 (d : Dev nD) : k0_off3 d = slotOff d := by revert d; decide +kernel
theorem off5 (d : Dev nD) : k0_off5 d = slotOff d := by revert d; decide +kernel
theorem off4 (d : Dev nD) : k0_off4 d = halfOff d := by revert d; decide +kernel
theorem off6 (d : Dev nD) : k0_off6 d = halfOff d := by revert d; decide +kernel
theorem came_off0 (d : Dev nD) : k0_off7 d = slotOff (cp d 0) := by revert d; decide +kernel
theorem came_off1 (d : Dev nD) : k0_off8 d = slotOff (cp d 1) := by revert d; decide +kernel
theorem came_off2 (d : Dev nD) : k0_off7 d = slotOff (cp d 2) := by revert d; decide +kernel
theorem came_off3 (d : Dev nD) : k0_off9 d = slotOff (cp d 3) := by revert d; decide +kernel
theorem came_off4 (d : Dev nD) : k0_off10 d = slotOff (cp d 4) := by revert d; decide +kernel
theorem came_off5 (d : Dev nD) : k0_off9 d = slotOff (cp d 5) := by revert d; decide +kernel
theorem came_off6 (d : Dev nD) : k0_off11 d = slotOff (cp d 6) := by revert d; decide +kernel
theorem came_off7 (d : Dev nD) : k0_off12 d = slotOff (cp d 7) := by revert d; decide +kernel
theorem came_off8 (d : Dev nD) : k0_off11 d = slotOff (cp d 8) := by revert d; decide +kernel

end Cert.Gathering

end
-- ==== Proof.GatherBody.lean ====
/-
  The kernel on one device, at a symbolic device number: four signals, the barrier's wait, three copies of the own chip, nine
  first moves, nine second moves each after the wait for what it passes on, and the waits for everything still under way.
-/
module

public import proofs.«01_k».proof.Proof.GatherSteps
public import proofs.«01_k».proof.Proof.GatherOffsets

@[expose] public section

noncomputable section

namespace Cert.Gathering

open Cert.GatherIdeal Cert.GatherIdeal.Gen
open Idealize.ShloMosaic
open SparseCore (S V T)
open SparseCore.Cfg (HIx Pay tileRest ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-! ## The states where one phase ends and the next begins -/

abbrev lane (b r : Fin 2) (n : Fin 9) : Own := .inl ((b, r), n)
abbrev copied (j : Fin 3) : Own := .inr j

section Phases
variable (d : Dev nD) (O : CellTallies nD τ sig (HIx 1)) (W : Waits sig (HIx 1))

theorem SigSt_start :
    iprop(owing d O W (oxS d) ∗ bigSep Finset.univ (barTok d) ∗ bigSep Finset.univ (handed d)) ⊢ (SigSt d O W 0 : sProp 𝕄) := by
  unfold SigSt
  rw [fromIx_zero, bigSep_sep']
  exact Entails.refl _
/-- All signals sent, only the moves' credits are owed. -/
theorem SigSt_end : (SigSt d O W ((3 : Fin 4).val + 1) : sProp 𝕄) ⊢ owing d O W (moveDebt 1 d 0 + moveDebt 0 d 0) := by
  show (SigSt d O W 4 : sProp 𝕄) ⊢ _
  unfold SigSt
  rw [barDebt_end, add_zero]
  exact sep_elim_left
theorem CopySt_start :
    iprop((bigSep Finset.univ fun j => copyPts X j d) ∗ (bigSep Finset.univ fun j => chipAny j d) ∗ bigSep Finset.univ (copyTok d)) ⊢ (CopySt X d 0 : sProp 𝕄) := by
  unfold CopySt
  rw [fromIx_zero, belowIx_zero, bigSep_empty, bigSep_sep', bigSep_sep']
  iintro H
  isplitl [H]; · iexact H
  iempintro
theorem CopySt_end : (CopySt X d ((2 : Fin 3).val + 1) : sProp 𝕄) ⊢ bigSep Finset.univ fun j : Fin 3 => cred (tallyAt (ccell d j) (some 0) (Nchip j)) := by
  show (CopySt X d 3 : sProp 𝕄) ⊢ _
  unfold CopySt
  rw [belowIx_end]
  exact sep_elim_right
/-- Past the barrier every first move can be made. -/
theorem SendSt_start :
    iprop(owing d O W (moveDebt 1 d 0 + moveDebt 0 d 0) ∗ bigSep Finset.univ (sentPts X 0 d) ∗ bigSep Finset.univ (farAny 0 d)
        ∗ bigSep Finset.univ (sendTok 0 d) ∗ bigSep Finset.univ (recvTok 0 d))
      ⊢ (SendSt X d O W 0 : sProp 𝕄) := by
  unfold SendSt moveRes
  rw [fromIx_zero, belowIx_zero, bigSep_empty, bigSep_sep', bigSep_sep', bigSep_sep']
  iintro ⟨H1, H2⟩
  isplitl [H1]; · iexact H1
  isplitl [H2]; · iexact H2
  iempintro
theorem SendSt_end : (SendSt X d O W ((8 : Fin 9).val + 1) : sProp 𝕄) ⊢ iprop(owing d O W (moveDebt 1 d 0) ∗ bigSep Finset.univ (sentCred 0 d)) := by
  show (SendSt X d O W 9 : sProp 𝕄) ⊢ _
  unfold SendSt
  rw [belowIx_end, moveDebt_end, add_zero]
  iintro ⟨H1, -, H2⟩
  isplitl [H1]; · iexact H1
  iexact H2
theorem PassSt_start :
    iprop(owing d O W (moveDebt 1 d 0) ∗ (recvCred 0 d ∗ atLane 0 1 d) ∗ bigSep Finset.univ (farAny 1 d)
        ∗ bigSep Finset.univ (sendTok 1 d) ∗ bigSep Finset.univ (recvTok 1 d))
      ⊢ (PassSt d O W 0 : sProp 𝕄) := by
  unfold PassSt moveRes
  rw [fromIx_zero, belowIx_zero, bigSep_empty, bigSep_sep', bigSep_sep', bigSep_sep', bigSep_sep']
  iintro ⟨H1, H2⟩
  isplitl [H1]; · iexact H1
  isplitl [H2]; · iexact H2
  iempintro
theorem PassSt_end : (PassSt d O W ((8 : Fin 9).val + 1) : sProp 𝕄)
    ⊢ iprop(owing d O W 0 ∗ (bigSep Finset.univ fun n : Fin 9 => semVal (ocell d (came n)) 0) ∗ bigSep Finset.univ (sentCred 1 d)) := by
  show (PassSt d O W 9 : sProp 𝕄) ⊢ _
  unfold PassSt
  rw [belowIx_end, moveDebt_end, bigSep_sep' Finset.univ (fun i : Fin 9 => semVal (ocell d (came i)) 0) (sentCred 1 d)]
  iintro ⟨H1, -, H2⟩
  isplitl [H1]; · iexact H1
  iexact H2
/-- Before the first of a list of waits, -/
theorem WaitSt_start {N : ℕ} (w : Fin N → Own) :
    iprop(owing d O W 0 ∗ (bigSep Finset.univ fun i => cred (tallyAt (ocell d (w i)) (some 0) (ownAmount (w i))))
        ∗ bigSep Finset.univ fun i => atPos ER (ocell d (w i)) 0 ∅ 0)
      ⊢ (WaitSt X w d O W 0 : sProp 𝕄) := by
  unfold WaitSt
  rw [fromIx_zero, belowIx_zero, bigSep_empty, bigSep_sep']
  iintro ⟨H1, H2⟩
  isplitl [H1]; · iexact H1
  isplitl [H2]; · iexact H2
  iempintro
/-- and after the last. -/
theorem WaitSt_end {N : ℕ} (w : Fin N → Own) (n : ℕ) (hn : n = N) : (WaitSt X w d O W n : sProp 𝕄)
    ⊢ iprop(owing d O W 0 ∗ bigSep Finset.univ fun i => waitPay X d (w i)) := by
  subst hn
  unfold WaitSt
  rw [belowIx_end, fromIx_end, bigSep_empty]
  iintro ⟨H1, -, H2⟩
  isplitl [H1]; · iexact H1
  iexact H2
end Phases

/-! ## The kernel -/

set_option maxRecDepth 65536 in
set_option maxHeartbeats 4000000 in
theorem body_run [FloatOps F] (κ : GSem nD τ sig → ℕ) (d : Dev nD) (O : CellTallies nD τ sig (HIx 1)) (W : Waits sig (HIx 1))
    (hOlev : ∀ g ι, 0 < O g ι → 8 * (0 : Fin 1).val + 7 ≤ (K (F := F)).lev g ι) :
    iprop(Ctx X κ ∗ Ord ∗ owing d O W (oxS d)
        ∗ bigSep Finset.univ (sentPts X 0 d) ∗ (bigSep Finset.univ fun j => copyPts X j d) ∗ (bigSep Finset.univ fun j => chipAny j d)
        ∗ bigSep Finset.univ (handed d) ∗ toksOf d ∗ credsOf d ∗ atPosAll d)
      ⊢ wp frame (wpE (defs₀ (F := F)) 𝒱₀ (S d c₀) none) Set.univ (kern (F := F))
          fun _ => iprop(owing d O W 0 ∗ semVal (bcell d) 0
            ∗ (bigSep Finset.univ fun n => semVal (ocell d (lane 0 1 n)) 0)
            ∗ (bigSep Finset.univ fun n => waitPay X d (lane 1 1 n)) ∗ (bigSep Finset.univ fun n => waitPay X d (lane 0 0 n))
            ∗ (bigSep Finset.univ fun n => waitPay X d (lane 1 0 n)) ∗ bigSep Finset.univ fun j => waitPay X d (copied j)) := by
  rw [atPosAll_eq]
  unfold kern
  simp only [cc0_gather_weights_beside_eq_skeleton]
  unfold cc0_gather_weights_beside_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, Prog.bind_assoc]
  simp only [wp_deviceId]
  iintro ⟨#Hctx, #Hord, HO, Hsrc, Hcp, Hchip, Hslot, ⟨Hbt, ⟨⟨Hst0, Hrt0⟩, ⟨Hst1, Hrt1⟩⟩, Hct⟩, ⟨⟨Hrc1, Hrc0⟩, Hbc⟩, ⟨Hba, ⟨⟨Ha00, Ha01⟩, ⟨Ha10, Ha11⟩⟩, Hca⟩⟩
  ihave HS := (SigSt_start (F := F) d O W) $$ [HO Hbt Hslot]
  · isplitl [HO]; · iexact HO
    isplitl [Hbt]; · iexact Hbt
    iexact Hslot
  iapply (wp_sig X κ d O W 0 _ (dev_sig0 d) _ rfl) $$ [HS]
  · isplitr; · iexact Hctx
    iexact HS
  iintro HS
  iapply (wp_sig X κ d O W 1 _ (dev_sig1 d) _ rfl) $$ [HS]
  · isplitr; · iexact Hctx
    iexact HS
  iintro HS
  iapply (wp_sig X κ d O W 2 _ (dev_sig2 d) _ rfl) $$ [HS]
  · isplitr; · iexact Hctx
    iexact HS
  iintro HS
  iapply (wp_sig X κ d O W 3 _ (dev_sig3 d) _ rfl) $$ [HS]
  · isplitr; · iexact Hctx
    iexact HS
  iintro HS
  -- the barrier
  ihave HO := (SigSt_end (F := F) d O W) $$ HS
  iapply (wp_bar X κ d O W hOlev _ rfl) $$ [HO Hbc Hba]
  · isplitr; · iexact Hctx
    isplitr; · iexact Hord
    isplitl [HO]; · iexact HO
    isplitl [Hbc]; · iexact Hbc
    iexact Hba
  iintro ⟨HO, Hbz, Hfar1, Hfar0⟩
  -- the own chip
  ihave HS := (CopySt_start X d) $$ [Hcp Hchip Hct]
  · isplitl [Hcp]; · iexact Hcp
    isplitl [Hchip]; · iexact Hchip
    iexact Hct
  iapply (wp_copy X κ d 0 _ _ (copies_of X d 0 _ _ rfl (chip0_of d _ (off1 d) _)) _ (semCopy 0 _ rfl _)) $$ [HS]
  · isplitr; · iexact Hctx
    iexact HS
  iintro HS
  iapply (wp_copy X κ d 1 _ _ (copies_of X d 1 _ _ rfl (chip1_of d _ (off2 d) _)) _ (semCopy 1 _ rfl _)) $$ [HS]
  · isplitr; · iexact Hctx
    iexact HS
  iintro HS
  iapply (wp_copy X κ d 2 _ _ (copies_of X d 2 _ _ rfl (chip2_of d _ (off1 d) _)) _ (semCopy 2 _ rfl _)) $$ [HS]
  · isplitr; · iexact Hctx
    iexact HS
  iintro HS
  ihave Hcc := (CopySt_end X d) $$ HS
  -- the first moves
  ihave HS := (SendSt_start X d O W) $$ [HO Hsrc Hfar0 Hst0 Hrt0]
  · isplitl [HO]; · iexact HO
    isplitl [Hsrc]; · iexact Hsrc
    isplitl [Hfar0]; · iexact Hfar0
    isplitl [Hst0]; · iexact Hst0
    iexact Hrt0
  iapply (wp_send X κ d O W 0 _ (dev_send0 d) _ _ (moves_zero X d 0 0 rfl _ _ (half0_of d _ (off4 d) _) (slot0_of d _ (off3 d) _))
      _ _ (sem00 0 _ rfl _) (sem01 0 _ rfl _)) $$ [HS]
  · isplitr; · iexact Hctx
    iexact HS
  iintro HS
  iapply (wp_send X κ d O W 1 _ (dev_send1 d) _ _ (moves_zero X d 1 1 rfl _ _ (half1_of d _ (off6 d) _) (slot1_of d _ (off5 d) _))
      _ _ (sem00 1 _ rfl _) (sem01 1 _ rfl _)) $$ [HS]
  · isplitr; · iexact Hctx
    iexact HS
  iintro HS
  iapply (wp_send X κ d O W 2 _ (dev_send2 d) _ _ (moves_zero X d 2 2 rfl _ _ (half2_of d _ (off4 d) _) (slot2_of d _ (off3 d) _))
      _ _ (sem00 2 _ rfl _) (sem01 2 _ rfl _)) $$ [HS]
  · isplitr; · iexact Hctx
    iexact HS
  iintro HS
  iapply (wp_send X κ d O W 3 _ (dev_send3 d) _ _ (moves_zero X d 3 0 rfl _ _ (half0_of d _ (off4 d) _) (slot0_of d _ (off3 d) _))
      _ _ (sem00 3 _ rfl _) (sem01 3 _ rfl _)) $$ [HS]
  · isplitr; · iexact Hctx
    iexact HS
  iintro HS
  iapply (wp_send X κ d O W 4 _ (dev_send4 d) _ _ (moves_zero X d 4 1 rfl _ _ (half1_of d _ (off6 d) _) (slot1_of d _ (off5 d) _))
      _ _ (sem00 4 _ rfl _) (sem01 4 _ rfl _)) $$ [HS]
  · isplitr; · iexact Hctx
    iexact HS
  iintro HS
  iapply (wp_send X κ d O W 5 _ (dev_send5 d) _ _ (moves_zero X d 5 2 rfl _ _ (half2_of d _ (off4 d) _) (slot2_of d _ (off3 d) _))
      _ _ (sem00 5 _ rfl _) (sem01 5 _ rfl _)) $$ [HS]
  · isplitr; · iexact Hctx
    iexact HS
  iintro HS
  iapply (wp_send X κ d O W 6 _ (dev_send6 d) _ _ (moves_zero X d 6 0 rfl _ _ (half0_of d _ (off4 d) _) (slot0_of d _ (off3 d) _))
      _ _ (sem00 6 _ rfl _) (sem01 6 _ rfl _)) $$ [HS]
  · isplitr; · iexact Hctx
    iexact HS
  iintro HS
  iapply (wp_send X κ d O W 7 _ (dev_send7 d) _ _ (moves_zero X d 7 1 rfl _ _ (half1_of d _ (off6 d) _) (slot1_of d _ (off5 d) _))
      _ _ (sem00 7 _ rfl _) (sem01 7 _ rfl _)) $$ [HS]
  · isplitr; · iexact Hctx
    iexact HS
  iintro HS
  iapply (wp_send X κ d O W 8 _ (dev_send8 d) _ _ (moves_zero X d 8 2 rfl _ _ (half2_of d _ (off4 d) _) (slot2_of d _ (off3 d) _))
      _ _ (sem00 8 _ rfl _) (sem01 8 _ rfl _)) $$ [HS]
  · isplitr; · iexact Hctx
    iexact HS
  iintro HS
  ihave H := (SendSt_end X d O W) $$ HS
  icases H with ⟨HO, Hsc0⟩
  -- the second moves
  ihave HS := (PassSt_start (F := F) d O W) $$ [HO Hrc0 Ha01 Hfar1 Hst1 Hrt1]
  · isplitl [HO]; · iexact HO
    isplitl [Hrc0 Ha01]
    · isplitl [Hrc0]; · iexact Hrc0
      iexact Ha01
    isplitl [Hfar1]; · iexact Hfar1
    isplitl [Hst1]; · iexact Hst1
    iexact Hrt1
  iapply (wp_came X κ d O W hOlev 0 _ (sem01 0 _ rfl _) _ (credit_slot0 0 rfl _ _)) $$ [HS]
  · isplitr; · iexact Hctx
    isplitr; · iexact Hord
    iexact HS
  iintro HS
  iapply (wp_pass X κ d O W 0 _ (dev_pass0 d) _ _ (moves_one X d 0 0 rfl _ _ (slot0_of _ _ (came_off0 d) _) (slot0_of _ _ (came_off0 d) _))
      _ _ (sem10 0 _ rfl _) (sem11 0 _ rfl _)) $$ [HS]
  · isplitr; · iexact Hctx
    iexact HS
  iintro HS
  iapply (wp_came X κ d O W hOlev 1 _ (sem01 1 _ rfl _) _ (credit_slot1 1 rfl _ _)) $$ [HS]
  · isplitr; · iexact Hctx
    isplitr; · iexact Hord
    iexact HS
  iintro HS
  iapply (wp_pass X κ d O W 1 _ (dev_pass1 d) _ _ (moves_one X d 1 1 rfl _ _ (slot1_of _ _ (came_off1 d) _) (slot1_of _ _ (came_off1 d) _))
      _ _ (sem10 1 _ rfl _) (sem11 1 _ rfl _)) $$ [HS]
  · isplitr; · iexact Hctx
    iexact HS
  iintro HS
  iapply (wp_came X κ d O W hOlev 2 _ (sem01 2 _ rfl _) _ (credit_slot2 2 rfl _ _)) $$ [HS]
  · isplitr; · iexact Hctx
    isplitr; · iexact Hord
    iexact HS
  iintro HS
  iapply (wp_pass X κ d O W 2 _ (dev_pass2 d) _ _ (moves_one X d 2 2 rfl _ _ (slot2_of _ _ (came_off2 d) _) (slot2_of _ _ (came_off2 d) _))
      _ _ (sem10 2 _ rfl _) (sem11 2 _ rfl _)) $$ [HS]
  · isplitr; · iexact Hctx
    iexact HS
  iintro HS
  iapply (wp_came X κ d O W hOlev 3 _ (sem01 3 _ rfl _) _ (credit_slot0 3 rfl _ _)) $$ [HS]
  · isplitr; · iexact Hctx
    isplitr; · iexact Hord
    iexact HS
  iintro HS
  iapply (wp_pass X κ d O W 3 _ (dev_pass3 d) _ _ (moves_one X d 3 0 rfl _ _ (slot0_of _ _ (came_off3 d) _) (slot0_of _ _ (came_off3 d) _))
      _ _ (sem10 3 _ rfl _) (sem11 3 _ rfl _)) $$ [HS]
  · isplitr; · iexact Hctx
    iexact HS
  iintro HS
  iapply (wp_came X κ d O W hOlev 4 _ (sem01 4 _ rfl _) _ (credit_slot1 4 rfl _ _)) $$ [HS]
  · isplitr; · iexact Hctx
    isplitr; · iexact Hord
    iexact HS
  iintro HS
  iapply (wp_pass X κ d O W 4 _ (dev_pass4 d) _ _ (moves_one X d 4 1 rfl _ _ (slot1_of _ _ (came_off4 d) _) (slot1_of _ _ (came_off4 d) _))
      _ _ (sem10 4 _ rfl _) (sem11 4 _ rfl _)) $$ [HS]
  · isplitr; · iexact Hctx
    iexact HS
  iintro HS
  iapply (wp_came X κ d O W hOlev 5 _ (sem01 5 _ rfl _) _ (credit_slot2 5 rfl _ _)) $$ [HS]
  · isplitr; · iexact Hctx
    isplitr; · iexact Hord
    iexact HS
  iintro HS
  iapply (wp_pass X κ d O W 5 _ (dev_pass5 d) _ _ (moves_one X d 5 2 rfl _ _ (slot2_of _ _ (came_off5 d) _) (slot2_of _ _ (came_off5 d) _))
      _ _ (sem10 5 _ rfl _) (sem11 5 _ rfl _)) $$ [HS]
  · isplitr; · iexact Hctx
    iexact HS
  iintro HS
  iapply (wp_came X κ d O W hOlev 6 _ (sem01 6 _ rfl _) _ (credit_slot0 6 rfl _ _)) $$ [HS]
  · isplitr; · iexact Hctx
    isplitr; · iexact Hord
    iexact HS
  iintro HS
  iapply (wp_pass X κ d O W 6 _ (dev_pass6 d) _ _ (moves_one X d 6 0 rfl _ _ (slot0_of _ _ (came_off6 d) _) (slot0_of _ _ (came_off6 d) _))
      _ _ (sem10 6 _ rfl _) (sem11 6 _ rfl _)) $$ [HS]
  · isplitr; · iexact Hctx
    iexact HS
  iintro HS
  iapply (wp_came X κ d O W hOlev 7 _ (sem01 7 _ rfl _) _ (credit_slot1 7 rfl _ _)) $$ [HS]
  · isplitr; · iexact Hctx
    isplitr; · iexact Hord
    iexact HS
  iintro HS
  iapply (wp_pass X κ d O W 7 _ (dev_pass7 d) _ _ (moves_one X d 7 1 rfl _ _ (slot1_of _ _ (came_off7 d) _) (slot1_of _ _ (came_off7 d) _))
      _ _ (sem10 7 _ rfl _) (sem11 7 _ rfl _)) $$ [HS]
  · isplitr; · iexact Hctx
    iexact HS
  iintro HS
  iapply (wp_came X κ d O W hOlev 8 _ (sem01 8 _ rfl _) _ (credit_slot2 8 rfl _ _)) $$ [HS]
  · isplitr; · iexact Hctx
    isplitr; · iexact Hord
    iexact HS
  iintro HS
  iapply (wp_pass X κ d O W 8 _ (dev_pass8 d) _ _ (moves_one X d 8 2 rfl _ _ (slot2_of _ _ (came_off8 d) _) (slot2_of _ _ (came_off8 d) _))
      _ _ (sem10 8 _ rfl _) (sem11 8 _ rfl _)) $$ [HS]
  · isplitr; · iexact Hctx
    iexact HS
  iintro HS
  ihave H := (PassSt_end (F := F) d O W) $$ HS
  icases H with ⟨HO, Hz01, Hsc1⟩
  -- what the second moves bring
  ihave HS := (WaitSt_start X d O W (lane 1 1)) $$ [HO Hrc1 Ha11]
  · isplitl [HO]; · iexact HO
    isplitl [Hrc1]; · iexact Hrc1
    iexact Ha11
  iapply (wp_listed X κ d O W hOlev (lane 1 1) 0 _ (sem11 0 _ rfl _) _ (credit_slot0 0 rfl _ _)) $$ [HS]
  · isplitr; · iexact Hctx
    isplitr; · iexact Hord
    iexact HS
  iintro HS
  iapply (wp_listed X κ d O W hOlev (lane 1 1) 1 _ (sem11 1 _ rfl _) _ (credit_slot1 1 rfl _ _)) $$ [HS]
  · isplitr; · iexact Hctx
    isplitr; · iexact Hord
    iexact HS
  iintro HS
  iapply (wp_listed X κ d O W hOlev (lane 1 1) 2 _ (sem11 2 _ rfl _) _ (credit_slot2 2 rfl _ _)) $$ [HS]
  · isplitr; · iexact Hctx
    isplitr; · iexact Hord
    iexact HS
  iintro HS
  iapply (wp_listed X κ d O W hOlev (lane 1 1) 3 _ (sem11 3 _ rfl _) _ (credit_slot0 3 rfl _ _)) $$ [HS]
  · isplitr; · iexact Hctx
    isplitr; · iexact Hord
    iexact HS
  iintro HS
  iapply (wp_listed X κ d O W hOlev (lane 1 1) 4 _ (sem11 4 _ rfl _) _ (credit_slot1 4 rfl _ _)) $$ [HS]
  · isplitr; · iexact Hctx
    isplitr; · iexact Hord
    iexact HS
  iintro HS
  iapply (wp_listed X κ d O W hOlev (lane 1 1) 5 _ (sem11 5 _ rfl _) _ (credit_slot2 5 rfl _ _)) $$ [HS]
  · isplitr; · iexact Hctx
    isplitr; · iexact Hord
    iexact HS
  iintro HS
  iapply (wp_listed X κ d O W hOlev (lane 1 1) 6 _ (sem11 6 _ rfl _) _ (credit_slot0 6 rfl _ _)) $$ [HS]
  · isplitr; · iexact Hctx
    isplitr; · iexact Hord
    iexact HS
  iintro HS
  iapply (wp_listed X κ d O W hOlev (lane 1 1) 7 _ (sem11 7 _ rfl _) _ (credit_slot1 7 rfl _ _)) $$ [HS]
  · isplitr; · iexact Hctx
    isplitr; · iexact Hord
    iexact HS
  iintro HS
  iapply (wp_listed X κ d O W hOlev (lane 1 1) 8 _ (sem11 8 _ rfl _) _ (credit_slot2 8 rfl _ _)) $$ [HS]
  · isplitr; · iexact Hctx
    isplitr; · iexact Hord
    iexact HS
  iintro HS
  ihave H := (WaitSt_end X d O W (lane 1 1) ((8 : Fin 9).val + 1) rfl) $$ HS
  icases H with ⟨HO, H11⟩
  -- what was sent
  ihave HS := (WaitSt_start X d O W (lane 0 0)) $$ [HO Hsc0 Ha00]
  · isplitl [HO]; · iexact HO
    isplitl [Hsc0]; · iexact Hsc0
    iexact Ha00
  iapply (wp_listed X κ d O W hOlev (lane 0 0) 0 _ (sem00 0 _ rfl _) _ (credit_half0 0 rfl _ _)) $$ [HS]
  · isplitr; · iexact Hctx
    isplitr; · iexact Hord
    iexact HS
  iintro HS
  iapply (wp_listed X κ d O W hOlev (lane 0 0) 1 _ (sem00 1 _ rfl _) _ (credit_half1 1 rfl _ _)) $$ [HS]
  · isplitr; · iexact Hctx
    isplitr; · iexact Hord
    iexact HS
  iintro HS
  iapply (wp_listed X κ d O W hOlev (lane 0 0) 2 _ (sem00 2 _ rfl _) _ (credit_half2 2 rfl _ _)) $$ [HS]
  · isplitr; · iexact Hctx
    isplitr; · iexact Hord
    iexact HS
  iintro HS
  iapply (wp_listed X κ d O W hOlev (lane 0 0) 3 _ (sem00 3 _ rfl _) _ (credit_half0 3 rfl _ _)) $$ [HS]
  · isplitr; · iexact Hctx
    isplitr; · iexact Hord
    iexact HS
  iintro HS
  iapply (wp_listed X κ d O W hOlev (lane 0 0) 4 _ (sem00 4 _ rfl _) _ (credit_half1 4 rfl _ _)) $$ [HS]
  · isplitr; · iexact Hctx
    isplitr; · iexact Hord
    iexact HS
  iintro HS
  iapply (wp_listed X κ d O W hOlev (lane 0 0) 5 _ (sem00 5 _ rfl _) _ (credit_half2 5 rfl _ _)) $$ [HS]
  · isplitr; · iexact Hctx
    isplitr; · iexact Hord
    iexact HS
  iintro HS
  iapply (wp_listed X κ d O W hOlev (lane 0 0) 6 _ (sem00 6 _ rfl _) _ (credit_half0 6 rfl _ _)) $$ [HS]
  · isplitr; · iexact Hctx
    isplitr; · iexact Hord
    iexact HS
  iintro HS
  iapply (wp_listed X κ d O W hOlev (lane 0 0) 7 _ (sem00 7 _ rfl _) _ (credit_half1 7 rfl _ _)) $$ [HS]
  · isplitr; · iexact Hctx
    isplitr; · iexact Hord
    iexact HS
  iintro HS
  iapply (wp_listed X κ d O W hOlev (lane 0 0) 8 _ (sem00 8 _ rfl _) _ (credit_half2 8 rfl _ _)) $$ [HS]
  · isplitr; · iexact Hctx
    isplitr; · iexact Hord
    iexact HS
  iintro HS
  ihave H := (WaitSt_end X d O W (lane 0 0) ((8 : Fin 9).val + 1) rfl) $$ HS
  icases H with ⟨HO, H00⟩
  -- what was passed on
  ihave HS := (WaitSt_start X d O W (lane 1 0)) $$ [HO Hsc1 Ha10]
  · isplitl [HO]; · iexact HO
    isplitl [Hsc1]; · iexact Hsc1
    iexact Ha10
  iapply (wp_listed X κ d O W hOlev (lane 1 0) 0 _ (sem10 0 _ rfl _) _ (credit_slot0 0 rfl _ _)) $$ [HS]
  · isplitr; · iexact Hctx
    isplitr; · iexact Hord
    iexact HS
  iintro HS
  iapply (wp_listed X κ d O W hOlev (lane 1 0) 1 _ (sem10 1 _ rfl _) _ (credit_slot1 1 rfl _ _)) $$ [HS]
  · isplitr; · iexact Hctx
    isplitr; · iexact Hord
    iexact HS
  iintro HS
  iapply (wp_listed X κ d O W hOlev (lane 1 0) 2 _ (sem10 2 _ rfl _) _ (credit_slot2 2 rfl _ _)) $$ [HS]
  · isplitr; · iexact Hctx
    isplitr; · iexact Hord
    iexact HS
  iintro HS
  iapply (wp_listed X κ d O W hOlev (lane 1 0) 3 _ (sem10 3 _ rfl _) _ (credit_slot0 3 rfl _ _)) $$ [HS]
  · isplitr; · iexact Hctx
    isplitr; · iexact Hord
    iexact HS
  iintro HS
  iapply (wp_listed X κ d O W hOlev (lane 1 0) 4 _ (sem10 4 _ rfl _) _ (credit_slot1 4 rfl _ _)) $$ [HS]
  · isplitr; · iexact Hctx
    isplitr; · iexact Hord
    iexact HS
  iintro HS
  iapply (wp_listed X κ d O W hOlev (lane 1 0) 5 _ (sem10 5 _ rfl _) _ (credit_slot2 5 rfl _ _)) $$ [HS]
  · isplitr; · iexact Hctx
    isplitr; · iexact Hord
    iexact HS
  iintro HS
  iapply (wp_listed X κ d O W hOlev (lane 1 0) 6 _ (sem10 6 _ rfl _) _ (credit_slot0 6 rfl _ _)) $$ [HS]
  · isplitr; · iexact Hctx
    isplitr; · iexact Hord
    iexact HS
  iintro HS
  iapply (wp_listed X κ d O W hOlev (lane 1 0) 7 _ (sem10 7 _ rfl _) _ (credit_slot1 7 rfl _ _)) $$ [HS]
  · isplitr; · iexact Hctx
    isplitr; · iexact Hord
    iexact HS
  iintro HS
  iapply (wp_listed X κ d O W hOlev (lane 1 0) 8 _ (sem10 8 _ rfl _) _ (credit_slot2 8 rfl _ _)) $$ [HS]
  · isplitr; · iexact Hctx
    isplitr; · iexact Hord
    iexact HS
  iintro HS
  ihave H := (WaitSt_end X d O W (lane 1 0) ((8 : Fin 9).val + 1) rfl) $$ HS
  icases H with ⟨HO, H10⟩
  -- the own chip
  ihave HS := (WaitSt_start X d O W (copied)) $$ [HO Hcc Hca]
  · isplitl [HO]; · iexact HO
    isplitl [Hcc]; · iexact Hcc
    iexact Hca
  iapply (wp_listed X κ d O W hOlev (copied) 0 _ (semCopy 0 _ rfl _) _ (credit_chip0 _ _)) $$ [HS]
  · isplitr; · iexact Hctx
    isplitr; · iexact Hord
    iexact HS
  iintro HS
  iapply (wp_listed X κ d O W hOlev (copied) 1 _ (semCopy 1 _ rfl _) _ (credit_chip1 _ _)) $$ [HS]
  · isplitr; · iexact Hctx
    isplitr; · iexact Hord
    iexact HS
  iintro HS
  iapply (wp_listed X κ d O W hOlev (copied) 2 _ (semCopy 2 _ rfl _) _ (credit_chip2 _ _)) $$ [HS]
  · isplitr; · iexact Hctx
    isplitr; · iexact Hord
    iexact HS
  iintro HS
  ihave H := (WaitSt_end X d O W (copied) ((2 : Fin 3).val + 1) rfl) $$ HS
  icases H with ⟨HO, Hco⟩
  rw [wp_ret]
  imodintro
  isplitl [HO]; · iexact HO
  isplitl [Hbz]; · iexact Hbz
  isplitl [Hz01]; · iexact Hz01
  isplitl [H11]; · iexact H11
  isplitl [H00]; · iexact H00
  isplitl [H10]; · iexact H10
  iexact Hco

end Cert.Gathering

end
-- ==== Proof.GatherLaunch.lean ====
/-
  The launch: what the handshakes carry, what each sequencer is dealt, owes and holds from the launch, the launch element,
  and the kernel's obligation at its call from the body's run.
-/
module

public import proofs.«01_k».proof.Proof.GatherArrays
public import proofs.«01_k».proof.Proof.GatherBody

@[expose] public section

noncomputable section

namespace Cert.Gathering

open Cert.GatherIdeal Cert.GatherIdeal.Gen
open Idealize.ShloMosaic
open SparseCore (S V T)
open SparseCore.Cfg (HIx Pay ownBufs ownSems0 ownCells ownRefs mem_ownCells mem_ownRefs)
open Idealize.SL RA BI BI.BIBase BI.Laws ProofMode Sem
open Rounds

variable {F : FTy → Type}

local notation "𝕄" => MT nD τ sig (HIx 1) (Elt F) ℕ UU ℕ

variable (X : Srcs F)

/-- The three sources at their contents; -/
abbrev srcsAt (d : Dev nD) : sProp 𝕄 := bigSep Finset.univ fun j : Fin 3 => loc_src j d ↦{fullShare} srcOf X j d
/-- what the start handshake hands device `d`'s sequencer: the sources, and the arrays to gather into at any contents; -/
abbrev st (d : Dev nD) : sProp 𝕄 := iprop(srcsAt X d ∗ bigSep Finset.univ fun j : Fin 3 => iprop(∃ f, loc_dst j d ↦{fullShare} f))
/-- what the done handshake hands back: the arrays gathered, and the barrier's counter at zero. -/
abbrev dn (d : Dev nD) : sProp 𝕄 :=
  iprop(srcsAt X d ∗ (bigSep Finset.univ fun j : Fin 3 => loc_dst j d ↦{fullShare} landed X j d) ∗ semVal (bcell d) 0)

set_option backward.proofsInPublic true in
def P : (K (F := F)).Pay (nD := nD) (Val := Elt F) (Name := ℕ) (U := UU) where
  st := fun _ d _ => st X d
  dn := fun _ d _ => dn X d
  go := fun _ _ _ _ => iprop(emp)
  td := fun _ _ _ _ => iprop(emp)
  x := fun _ thr => match thr with
    | (d, .scScalar c) => if c = c₀ then kit X d else iprop(emp)
    | _ => iprop(emp)
  ox := fun _ thr => match thr with
    | (d, .scScalar c) => if c = c₀ then oxS d else 0
    | _ => 0
  ox_band := by
    intro q thr g ι h
    obtain rfl : q = 0 := Subsingleton.elim _ _
    rcases thr with ⟨d, _ | c | ⟨c, i⟩⟩
    · exact absurd h (lt_irrefl 0)
    · dsimp only at h
      split at h
      · obtain ⟨e, rfl, rfl⟩ := oxS_pos h
        exact lev_acell_band _
      · exact absurd h (lt_irrefl 0)
    · exact absurd h (lt_irrefl 0)
  ox_tc := fun _ _ => rfl
  ox_sc := by
    intro q d c h
    obtain rfl : q = 0 := Subsingleton.elim _ _
    dsimp only at h
    split at h
    · next hc => subst hc; exact ⟨rfl, Nat.one_pos⟩
    · exact absurd rfl h
  ox_vc := fun _ _ _ _ h => absurd rfl h
  held := ownedCells
  held_vec := by
    intro q d c h
    obtain rfl : q = 0 := Subsingleton.elim _ _
    exact absurd h.1 fun e => nomatch e

instance P_storable : (P X).IsStorable where
  st _ d _ := (inferInstance : BI.Storable (upEmb : UEmb _ 𝕄) (st X d))
  dn _ d _ := (inferInstance : BI.Storable (upEmb : UEmb _ 𝕄) (dn X d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

theorem P_held : (P X).held = ownedCells := rfl
theorem Px_T (d : Dev nD) : (bigSep Finset.univ fun q : Fin 1 => (P X).x q (SparseCore.T d)) = iprop(emp) :=
  bigSep_univ_of_subsingleton (0 : Fin 1)
theorem Px_S (d : Dev nD) (c : Fin τ.nSC) : (bigSep Finset.univ fun q : Fin 1 => (P X).x q (S d c)) = if c = c₀ then kit X d else iprop(emp) :=
  bigSep_univ_of_subsingleton (0 : Fin 1)
theorem Px_V (d : Dev nD) (c : Fin τ.nSC) (i : Fin τ.nSub) : (bigSep Finset.univ fun q : Fin 1 => (P X).x q (V d c i)) = iprop(emp) :=
  bigSep_univ_of_subsingleton (0 : Fin 1)
theorem st0_eq (d : Dev nD) : (bigSep Finset.univ fun c : Fin ((K (F := F)).nCore 0) => (P X).st 0 d c) = st X d :=
  bigSep_univ_of_subsingleton (0 : Fin 1)
theorem dn0_eq (d : Dev nD) : (bigSep Finset.univ fun c : Fin ((K (F := F)).nCore 0) => (P X).dn 0 d c) = dn X d :=
  bigSep_univ_of_subsingleton (0 : Fin 1)

/-- The credit for the sequencers' debts, regrouped per waiter. -/
theorem creds_a : ((P X).oxCred : sProp 𝕄) ⊢ bigSep Finset.univ fun d : Dev nD => credsOf d := by
  unfold SparseCore.Cfg.Pay.oxCred
  rw [SparseCore.Cfg.bigSep_threads (fun thr : Thread nD τ => (cred ((P X).oxFrom 0 thr) : sProp 𝕄))]
  refine sep_elim_right.trans (sep_elim_left.trans ?_)
  have hox : ∀ dc : Dev nD × Fin τ.nSC, (P X).oxFrom 0 (S dc.1 dc.2) = if dc.2 = c₀ then oxS dc.1 else 0 := fun dc => by
    rw [show (0 : ℕ) = (0 : Fin 1).val from rfl, (P X).oxFrom_step, (P X).oxFrom_end _ (n := (0 : Fin 1).val + 1) le_rfl, add_zero]; rfl
  simp only [hox]
  rw [← SparseCore.Cfg.cred_finsum,
    show (∑ x : Dev nD × Fin τ.nSC, if x.2 = c₀ then oxS x.1 else 0) = ∑ p : Dev nD, owedS p from ?_,
    SparseCore.Cfg.cred_finsum]
  · exact bigSep_mono fun d _ => cred_owedS d
  · rw [Fintype.sum_prod_type, ← oxS_regroup]
    exact Finset.sum_congr rfl fun d _ => by rw [Fintype.sum_eq_single c₀ fun c hc => if_neg hc, if_pos rfl]

/-! ## The counters -/

theorem asem_own_scoped (x : Own) : (asem (.inr x)).isScoped .scScalar = true := by
  rcases x with ⟨⟨b, r⟩, n⟩ | j
  · revert b r n; decide
  · revert j; decide
theorem mem_ownedCell (d : Dev nD) (x : Own) : acell (d, .inr x) ∈ ownedCells :=
  Finset.mem_image.mpr ⟨(d, x), Finset.mem_univ _, rfl⟩

/-- Of the held cells, a device's sequencer has its own. -/
theorem inter_c₀ (d : Dev nD) : ownCells (sig := sig) (S d c₀) ∩ ownedCells = (Finset.univ : Finset (Own)).image (fun x => acell (d, .inr x)) := by
  ext g
  rw [Finset.mem_inter, mem_ownCells]
  simp only [Finset.mem_image, Finset.mem_univ, true_and]
  constructor
  · rintro ⟨⟨hg, -⟩, h⟩
    obtain ⟨⟨d', x⟩, -, rfl⟩ := Finset.mem_image.mp h
    have : d' = d := (Prod.mk.inj hg).1
    subst this; exact ⟨x, rfl⟩
  · rintro ⟨x, rfl⟩
    exact ⟨⟨rfl, asem_own_scoped x⟩, mem_ownedCell d x⟩
theorem own_injOn (d : Dev nD) : Set.InjOn (fun x : Own => acell (d, .inr x)) ((Finset.univ : Finset (Own)) : Set (Own)) :=
  fun _ _ _ _ e => Sum.inr.inj (Prod.mk.inj (acell_injective e)).2

/-- Every device's own counters at zero, out of what the launch hands over for the held cells. -/
theorem owns_zero : ((P X).heldSems0 : sProp 𝕄) ⊢ bigSep Finset.univ fun d : Dev nD => bigSep Finset.univ fun x : Own => semVal (acell (d, .inr x)) 0 := by
  change (bigSep Finset.univ fun dc : Dev nD × Fin τ.nSC => bigSep (ownCells (S dc.1 dc.2) ∩ ownedCells) fun g => (semVal g 0 : sProp 𝕄)) ⊢ _
  rw [bigSep_univ_prod (fun dc : Dev nD × Fin τ.nSC => bigSep (ownCells (S dc.1 dc.2) ∩ ownedCells) fun g => (semVal g 0 : sProp 𝕄))]
  refine bigSep_mono fun d _ => ?_
  refine (bigSep_elim (Φ := fun c : Fin τ.nSC => bigSep (ownCells (S d c) ∩ ownedCells) fun g => (semVal g 0 : sProp 𝕄)) (i := c₀) (Finset.mem_univ _)).trans ?_
  refine (Entails.of_eq (congrArg (bigSep · fun g => (semVal g 0 : sProp 𝕄)) (inter_c₀ d))).trans ?_
  rw [SparseCore.bigSep_image_of_injOn (own_injOn d)]

/-- Every device's barrier's counter at zero, out of the cells no one owns. -/
theorem bars_zero : ((K (F := F)).freeOn (· ∈ barCells) : sProp 𝕄) ⊢ bigSep Finset.univ fun d : Dev nD => semVal (bcell d) 0 := by
  unfold SparseCore.Cfg.freeOn
  refine sep_elim_left.trans ?_
  rw [bigSep_univ_prod (fun dc : Dev nD × Fin τ.nSC => bigSep ((((Finset.univ.filter fun sm : SemLoc sig => ¬sm.isScoped .scScalar).erase (.reg (K (F := F)).start)).erase (.reg (K (F := F)).taskDone)).filter fun sm => (S dc.1 dc.2, sm) ∈ barCells)
        fun sm => (semVal (S dc.1 dc.2, sm) 0 : sProp 𝕄))]
  refine bigSep_mono fun d _ => ?_
  refine (bigSep_elim (i := c₀) (Finset.mem_univ _)).trans (bigSep_elim (i := SemLoc.reg barrier1) ?_)
  refine Finset.mem_filter.mpr ⟨Finset.mem_erase.mpr ⟨?_, Finset.mem_erase.mpr ⟨?_, Finset.mem_filter.mpr ⟨Finset.mem_univ _, ?_⟩⟩⟩, Finset.mem_image.mpr ⟨d, Finset.mem_univ _, rfl⟩⟩
  · show (SemLoc.reg barrier1 : SemLoc sig) ≠ .reg sc_taskDone; decide
  · show (SemLoc.reg barrier1 : SemLoc sig) ≠ .reg sc_start; decide
  · show ¬ (SemLoc.reg barrier1 : SemLoc sig).isScoped .scScalar = true; decide

theorem cells_zero (d : Dev nD) : (bigSep Finset.univ fun j : Cell => semVal (acell (d, j)) 0 : sProp 𝕄)
    = iprop(semVal (bcell d) 0 ∗ bigSep Finset.univ fun x : Own => semVal (acell (d, .inr x)) 0) := by
  rw [bigSep_univ_sum, show (Finset.univ : Finset Unit) = {()} by decide, bigSep_singleton]
  rfl
theorem sems_a : iprop((K (F := F)).freeOn (· ∈ barCells) ∗ (P X).heldSems0) ⊢ (bigSep aCells fun g => semVal g 0 : sProp 𝕄) := by
  rw [aCells_eq, bigSep_univ_prod (fun x : Dev nD × Cell => (semVal (acell x) 0 : sProp 𝕄)), bigSep_congr fun d _ => cells_zero (F := F) d, bigSep_sep']
  iintro ⟨Hb, Hl⟩
  ihave Hb' := (bars_zero (F := F)) $$ Hb
  ihave Hl' := (owns_zero X) $$ Hl
  isplitl [Hb'] <;> iassumption

/-- A device's own counters, kind by kind. -/
abbrev laneZero (b r : Fin 2) (d : Dev nD) : sProp 𝕄 := bigSep Finset.univ fun n : Fin 9 => semVal (ocell d (lane b r n)) 0
abbrev copyZero (d : Dev nD) : sProp 𝕄 := bigSep Finset.univ fun j : Fin 3 => semVal (ocell d (copied j)) 0
/-- The own counters back at zero make the sequencer's scoped semaphores whole. -/
theorem scopedSems0_of_owns (d : Dev nD) :
    iprop(((P X).ownSems0' (S d c₀) ∗ ((laneZero 0 0 d ∗ laneZero 0 1 d) ∗ (laneZero 1 0 d ∗ laneZero 1 1 d)) ∗ copyZero d)
        ∗ bigSep Finset.univ fun i : Fin τ.nSub => scopedSems0 (V d c₀ i))
      ⊢ (scopedSems0 (S d c₀) : sProp 𝕄) := by
  iintro ⟨⟨Hown, Hcells⟩, Hsubs⟩
  iapply (SparseCore.Cfg.scopedSems0_S_intro (Val := Elt F) d c₀)
  isplitl [Hown Hcells]
  · have e : (bigSep (ownCells (sig := sig) (S d c₀) ∩ ownedCells) fun g => (semVal g 0 : sProp 𝕄))
        = iprop(((laneZero 0 0 d ∗ laneZero 0 1 d) ∗ (laneZero 1 0 d ∗ laneZero 1 1 d)) ∗ copyZero d) := by
      rw [inter_c₀, SparseCore.bigSep_image_of_injOn (own_injOn d), bigSep_own]
    iapply (SparseCore.ent (Entails.of_eq (((P X).ownSems0_split (S d c₀)).trans (by rw [P_held, e])).symm))
    isplitl [Hown]; · iexact Hown
    iexact Hcells
  · iexact Hsubs

/-! ## The launch element -/

theorem bigSep_none {I : Type} (s : Finset I) : (bigSep s fun _ => iprop(emp)) = (iprop(emp) : sProp 𝕄) := bigSep_emp_const s
/-- A persistent resource goes to every conjunct. -/
theorem bigSep_share {I : Type} [DecidableEq I] {R : sProp 𝕄} [BI.Persistent R] {Φ Ψ : I → sProp 𝕄} (s : Finset I)
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a); isplitr; · iexact HR
      iexact Ha
    · iapply ih; isplitr; · iexact HR
      iexact Hs

theorem kit_intro (d : Dev nD) : iprop(shared X ∗ mine d) ⊢ (bigSep Finset.univ fun c : Fin τ.nSC => if c = c₀ then kit X d else (iprop(emp) : sProp 𝕄)) := by
  rw [SparseCore.bigSep_erase' (Finset.mem_univ c₀), if_pos rfl]
  unfold kit
  iintro ⟨#Hsh, Hmine⟩
  isplitl [Hmine]
  · isplitr; · iexact Hsh
    iexact Hmine
  · iapply (SparseCore.ent (bigSep_mono (Φ := fun _ => iprop(emp)) (fun c hc => show iprop(emp) ⊢ (if c = c₀ then kit X d else (iprop(emp) : sProp 𝕄)) from
      Entails.of_eq (if_neg (Finset.ne_of_mem_erase hc)).symm)))
    rw [bigSep_none]; iempintro

/-- Each device its kit. -/
theorem kits_deal : iprop(shared X ∗ bigSep Finset.univ (fun d : Dev nD => mine d))
    ⊢ (bigSep Finset.univ fun thr : Thread nD τ => bigSep Finset.univ fun q : Fin 1 => (P X).x q thr : sProp 𝕄) := by
  rw [SparseCore.Cfg.bigSep_threads (fun thr : Thread nD τ => bigSep Finset.univ fun q : Fin 1 => (P X).x q thr)]
  simp only [Px_T, Px_S, Px_V, bigSep_none]
  rw [bigSep_univ_prod (fun dc : Dev nD × Fin τ.nSC => if dc.2 = c₀ then kit X dc.1 else (iprop(emp) : sProp 𝕄))]
  iintro ⟨#Hsh, Hmine⟩
  isplitr; · iempintro
  isplitl [Hmine]
  · iapply (bigSep_share (R := shared X) (Φ := fun d : Dev nD => mine d) Finset.univ fun d => kit_intro X d)
    isplitr; · iexact Hsh
    iexact Hmine
  · iempintro

theorem mine_split : (bigSep Finset.univ (fun d : Dev nD => mine d) : sProp 𝕄)
    = iprop((bigSep Finset.univ fun d : Dev nD => atPosAll d) ∗ (bigSep Finset.univ fun d : Dev nD => toksOf d) ∗ bigSep Finset.univ fun d : Dev nD => credsOf d) := by
  unfold mine; rw [bigSep_sep', bigSep_sep']

attribute [local irreducible] aCells aToks ownedCells barCells in
theorem invs_a : iprop((bigSep aCells fun g => (semVal g 0 : sProp 𝕄)) ∗ bigSep aCells fun g => roundState ER (Rd X) g 0)
    ⊢ |={Set.univ}=> iprop(∃ κ : GSem nD τ sig → ℕ, invsA X κ) := by
  refine (Rounds.bodies_intro ER (Rd X) aCells).trans ((inv_alloc_family aCells (Rounds.body ER (Rd X)) ∅ (E := Set.univ)).trans ?_)
  iintro H
  imod H with ⟨%κ, -, Hinv⟩
  imodintro; iexists κ
  iapply (SparseCore.ent (Entails.of_eq (aCells_eq (fun g => (cellInv ER (Rd X) (κ g) g : sProp 𝕄)))))
  iexact Hinv

/-- The launch element: the handshakes' rounds, the gather's rounds. -/
def u₀ : UU := (initOf (K (F := F)).hsCells (K (F := F)).hsToks, initOf aCells aToks)

attribute [local irreducible] aCells aToks ownedCells barCells in
theorem hu₀ : iprop(ownU (u₀ (F := F)) ∗ (P X).oxCred ∗ (K (F := F)).freeOn (· ∈ barCells) ∗ (P X).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X).x q thr) : sProp 𝕄) := by
  unfold u₀
  iintro ⟨Hu, Hcred, Hsem⟩
  ihave H := (ownU_split _ _) $$ Hu
  icases H with ⟨HH, HA⟩
  imod (Rounds.fund ER (Rd X) aCells aToks) $$ HA with ⟨Hst, #Hr, Hat, Htok⟩
  ihave Hsems := (sems_a X) $$ Hsem
  imod (invs_a X) $$ [Hsems Hst] with ⟨%κ, #Hinv⟩
  · isplitl [Hsems] <;> iassumption
  ihave Hcred' := (creds_a X) $$ Hcred
  ihave Hr' := (Entails.of_eq (aCells_eq (F := F) fun g => reached ER g 0)) $$ Hr
  ihave Hat' := (Entails.of_eq ((aCells_eq (F := F) fun g => atPos ER g 0 ∅ 0).trans (bigSep_univ_prod (fun x : Dev nD × Cell => (atPos ER (acell x) 0 ∅ 0 : sProp 𝕄))))) $$ Hat
  ihave Htok' := (toks_eq (F := F)) $$ Htok
  imodintro
  isplitl [HH]; · iexact HH
  isplitr; · rw [bigSep_none]; iempintro
  iapply (kits_deal X)
  isplitr
  · isplitl; · iexists κ; iexact Hinv
    iexact Hr'
  iapply (SparseCore.ent (Entails.of_eq (mine_split (F := F)).symm))
  isplitl [Hat']; · iexact Hat'
  isplitl [Htok']; · iexact Htok'
  iexact Hcred'

/-! ## The kernel at its call -/

variable [FloatOps F]

/-- A list of waits, its counters apart. -/
theorem waits_split {N : ℕ} (w : Fin N → Own) (d : Dev nD) : (bigSep Finset.univ fun i => waitPay X d (w i) : sProp 𝕄)
    = iprop((bigSep Finset.univ fun i => semVal (ocell d (w i)) 0) ∗ bigSep Finset.univ fun i => ownPay X d (w i)) := by
  rw [bigSep_sep']
theorem pays_send (b : Fin 2) (d : Dev nD) : (bigSep Finset.univ fun n : Fin 9 => ownPay X d (lane b 0 n) : sProp 𝕄) = bigSep Finset.univ (sentPts X b d) :=
  bigSep_congr fun n _ => ownPay_send X d b n
theorem pays_recv (b : Fin 2) (d : Dev nD) : (bigSep Finset.univ fun n : Fin 9 => ownPay X d (lane b 1 n) : sProp 𝕄)
    = bigSep Finset.univ fun n : Fin 9 => slotVal X (arr n) d (lands b d n) :=
  bigSep_congr fun n _ => ownPay_recv X d b n
theorem sent_one (d : Dev nD) : (bigSep Finset.univ (sentPts X 1 d) : sProp 𝕄) = bigSep Finset.univ fun n : Fin 9 => slotVal X (arr n) d (lands 0 d n) :=
  bigSep_congr fun n _ => if_neg (by decide)
theorem pays_copy (d : Dev nD) : (bigSep Finset.univ fun j : Fin 3 => ownPay X d (copied j) : sProp 𝕄)
    = iprop((bigSep Finset.univ fun j : Fin 3 => loc_dst j d ↦[(chipV j d).view.set]{fullShare} landed X j d) ∗ bigSep Finset.univ fun j => copyPts X j d) :=
  (bigSep_congr fun j _ => (rfl : ownPay X d (copied j) = iprop((loc_dst j d ↦[(chipV j d).view.set]{fullShare} landed X j d) ∗ copyPts X j d))).trans
    (bigSep_sep' Finset.univ (fun j : Fin 3 => (loc_dst j d ↦[(chipV j d).view.set]{fullShare} landed X j d : sProp 𝕄)) (fun j => copyPts X j d))

/-- The body's run, between the arrays whole. -/
theorem kernel_run (d : Dev nD) (O : CellTallies nD τ sig (HIx 1)) (W : Waits sig (HIx 1))
    (hOlev : ∀ g ι, 0 < O g ι → 8 * (0 : Fin 1).val + 7 ≤ (K (F := F)).lev g ι) :
    iprop(Ord ∗ kit X d ∗ st X d
        ∗ scopedBufs (S d c₀) ∗ ((P X).ownSems0' (S d c₀) ∗ bigSep Finset.univ fun i : Fin τ.nSub => scopedSems0 (V d c₀ i))
        ∗ owes (S d c₀) (O + oxS d) W)
      ⊢ wp frame (wpE (defs₀ (F := F)) 𝒱₀ (S d c₀) none) Set.univ (kern (F := F))
          fun _ => iprop(dn X d ∗ scopedBufs (S d c₀) ∗ scopedSems0 (S d c₀)
            ∗ ∃ W', ⌜∀ p ∈ W', p ∈ W ∨ p.2 = none ∨ p.2 = some (0 : Fin 1)⌝ ∗ owes (S d c₀) O W') := by
  unfold kit
  iintro ⟨Hlev, ⟨⟨⟨%κ, Hinv⟩, Hr⟩, Hat, Htok, Hcr⟩, ⟨Hsrc, Hdst⟩, Hsb, ⟨Hown, Hsubs⟩, HO⟩
  ihave Hs := (Entails.of_eq (srcs_eq X d)) $$ Hsrc
  icases Hs with ⟨Hcp, Hsrc, Hrests⟩
  ihave Hs := (dsts_open (F := F) d) $$ Hdst
  icases Hs with ⟨Hchip, Hslots⟩
  iapply (wp_wand frame _ _) $$ [Hlev Hinv Hr Hat Htok Hcr Hsrc Hcp Hchip Hslots HO]
  · iapply (body_run X κ d O W hOlev)
    isplitl [Hinv Hr]
    · isplitl [Hinv] <;> iassumption
    isplitl [Hlev]; · iexact Hlev
    isplitl [HO]
    · unfold owing
      iexists W
      isplitr; · ipureintro; exact fun p hp => .inl hp
      iexact HO
    isplitl [Hsrc]; · iexact Hsrc
    isplitl [Hcp]; · iexact Hcp
    isplitl [Hchip]; · iexact Hchip
    isplitl [Hslots]; · iexact Hslots
    isplitl [Htok]; · iexact Htok
    isplitl [Hcr]; · iexact Hcr
    iexact Hat
  iintro %_ ⟨HO, Hb, Hz01, H11, H00, H10, Hco⟩
  ihave H := (Entails.of_eq (waits_split X (lane 1 1) d)) $$ H11
  icases H with ⟨Hz11, Hp11⟩
  ihave H := (Entails.of_eq (waits_split X (lane 0 0) d)) $$ H00
  icases H with ⟨Hz00, Hp00⟩
  ihave H := (Entails.of_eq (waits_split X (lane 1 0) d)) $$ H10
  icases H with ⟨Hz10, Hp10⟩
  ihave H := (Entails.of_eq (waits_split X copied d)) $$ Hco
  icases H with ⟨Hzc, Hpc⟩
  ihave Hfar := (Entails.of_eq (pays_recv X 1 d)) $$ Hp11
  ihave Hsent := (Entails.of_eq (pays_send X 0 d)) $$ Hp00
  ihave Hnear := (Entails.of_eq ((pays_send X 1 d).trans (sent_one X d))) $$ Hp10
  ihave H := (Entails.of_eq (pays_copy X d)) $$ Hpc
  icases H with ⟨Hchip, Hcp⟩
  isplitl [Hcp Hsent Hrests Hchip Hnear Hfar Hb]
  · isplitl [Hcp Hsent Hrests]
    · iapply (SparseCore.ent (Entails.of_eq (srcs_eq X d).symm))
      isplitl [Hcp]; · iexact Hcp
      isplitl [Hsent]; · iexact Hsent
      iexact Hrests
    isplitl [Hchip Hnear Hfar]
    · iapply (dsts_join X d)
      isplitl [Hchip]; · iexact Hchip
      isplitl [Hnear]; · iexact Hnear
      iexact Hfar
    iexact Hb
  isplitl [Hsb]; · iexact Hsb
  isplitl [Hown Hsubs Hz00 Hz01 Hz10 Hz11 Hzc]
  · iapply (scopedSems0_of_owns X d)
    isplitr [Hsubs]; swap; · iexact Hsubs
    isplitl [Hown]; · iexact Hown
    isplitr [Hzc]; swap; · iexact Hzc
    isplitl [Hz00 Hz01]
    · isplitl [Hz00]; · iexact Hz00
      iexact Hz01
    isplitl [Hz10]; · iexact Hz10
    iexact Hz11
  unfold owing
  rw [add_zero]
  iexact HO

set_option maxRecDepth 65536 in
theorem scalarObl : (K (F := F)).ScalarObl' (D (F := F)) 𝒱 (P X) v₀ 0 (K (F := F)).levR := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [defs₀_scalar]; simp only [SparseCore.onCore, hc, ↓reduceDIte]
  have hc₀ : (K (F := F)).core 0 ⟨0, hcv⟩ = c₀ := rfl
  rw [show (P X).x 0 (S d ((K (F := F)).core 0 ⟨0, hcv⟩)) = kit X d from (if_pos hc₀ : (if (K (F := F)).core 0 ⟨0, hcv⟩ = c₀ then kit X d else iprop(emp)) = (kit X d : sProp 𝕄)),
    show (P X).ox 0 (S d ((K (F := F)).core 0 ⟨0, hcv⟩)) = oxS d from (if_pos hc₀ : (if (K (F := F)).core 0 ⟨0, hcv⟩ = c₀ then oxS d else (0 : CellTallies nD τ sig (HIx 1))) = oxS d)]
  exact kernel_run X d O W hOlev

theorem held_ran (d : Dev nD) (c : Fin τ.nSC) (sm : SemLoc sig) (_ : sm.isScoped .scScalar = true) (h : ((S d c, sm) : GSem nD τ sig) ∈ (P X).held) :
    0 < (K (F := F)).kRank c 1 := by
  rw [P_held, ownedCells] at h
  obtain ⟨x, -, e⟩ := Finset.mem_image.mp h
  obtain rfl : c₀ = c := Proc.scScalar.inj (Prod.mk.inj (Prod.mk.inj e).1).2
  exact SparseCore.Cfg.kRank_pos (q := 0) ⟨rfl, show c₀.val < (K (F := F)).nCore 0 by rw [c₀_val]; exact Nat.one_pos⟩

end Cert.Gathering

end
-- ==== Proof.GatherMain.lean ====
/-
  The program on the TensorCore and its run: one layer's block of each weight array taken, cut in halves and rounded to
  bf16, the gathered arrays allocated, the gather called; at the end the arguments as launched, the three arrays gathered,
  every counter zero.
-/
module

public import proofs.«01_k».proof.Proof.GatherLaunch

@[expose] public section

noncomputable section

namespace Cert.Gathering

open Cert.GatherIdeal Cert.GatherIdeal.Gen
open Idealize.ShloMosaic
open SparseCore (S V T)
open SparseCore.Cfg (HIx)
open Idealize.SL RA BI BI.BIBase BI.Laws ProofMode Sem
open StableHlo (held wp_hlo_within wp_allocateBuffer wp_seq seq after after_nil after_cons)

variable {F : FTy → Type} [FloatOps F]

local notation "𝕄" => MT nD τ sig (HIx 1) (Elt F) ℕ UU ℕ

variable (m : (ℓ : Loc nD τ sig) → Buf (Elt F) ℓ) (ρ : Dev nD → PrngReg)

/-- A layer's rows of the out-projection, in two halves, in bf16; -/
abbrev outHalves (x : (⟨S1x256x1024, .f32⟩ : BufTy).Contents (Elt F)) : (⟨S2x128x1024, .bf16⟩ : BufTy).Contents (Elt F) :=
  truncf .bf16 (shapeCast S2x128x1024 (shapeCast S256x1024 x shapeCasts_S1x256x1024_S256x1024) shapeCasts_S256x1024_S2x128x1024) bitsLt_bf16_f32
/-- a layer's columns of the in-projection so. -/
abbrev inHalves (x : (⟨S1x1024x898, .f32⟩ : BufTy).Contents (Elt F)) : (⟨S2x512x898, .bf16⟩ : BufTy).Contents (Elt F) :=
  truncf .bf16 (shapeCast S2x512x898 (shapeCast S1024x898 x shapeCasts_S1x1024x898_S1024x898) shapeCasts_S1024x898_S2x512x898) bitsLt_bf16_f32

/-- The arrays gathered, of the arguments at the launch: layer 0's out-projection, layer 1's in-projection and
    out-projection. -/
def srcs : Srcs F
  | 0, d => outHalves (extractStridedSlice S1x256x1024 ![0, 0, 0] (m ((d.tc : Thread nD τ).loc main_arg1)) slices_S2x256x1024_S1x256x1024_0_0_0)
  | 1, d => inHalves (extractStridedSlice S1x1024x898 ![1, 0, 0] (m ((d.tc : Thread nD τ).loc main_arg0)) slices_S2x1024x898_S1x1024x898_1_0_0)
  | 2, d => outHalves (extractStridedSlice S1x256x1024 ![1, 0, 0] (m ((d.tc : Thread nD τ).loc main_arg1)) slices_S2x256x1024_S1x256x1024_1_0_0)

/-! ## @main's arrays and operations -/

abbrev dev (b : Ref sig .tc) : DevRef τ sig := Proc.devRef .tc b

/-- The operations on values. -/
abbrev ops : List (HloOp τ sig (Elt F)) :=
  [ StableHlo.unary main_arg1 main_v1 ((extractStridedSlice S1x256x1024 ![0, 0, 0] · slices_S2x256x1024_S1x256x1024_0_0_0) : (⟨S2x256x1024, .f32⟩ : BufTy).Contents (Elt F) → (⟨S1x256x1024, .f32⟩ : BufTy).Contents (Elt F)),
    StableHlo.reshape main_v1 main_v2 (rfl : (.f32 : EltTy) = .f32) shapeCasts_S1x256x1024_S256x1024,
    StableHlo.reshape main_v2 main_v3 (rfl : (.f32 : EltTy) = .f32) shapeCasts_S256x1024_S2x128x1024,
    StableHlo.unary main_v3 main_v4 ((truncf .bf16 · bitsLt_bf16_f32) : (⟨S2x128x1024, .f32⟩ : BufTy).Contents (Elt F) → (⟨S2x128x1024, .bf16⟩ : BufTy).Contents (Elt F)),
    StableHlo.unary main_arg0 main_v5 ((extractStridedSlice S1x1024x898 ![1, 0, 0] · slices_S2x1024x898_S1x1024x898_1_0_0) : (⟨S2x1024x898, .f32⟩ : BufTy).Contents (Elt F) → (⟨S1x1024x898, .f32⟩ : BufTy).Contents (Elt F)),
    StableHlo.reshape main_v5 main_v6 (rfl : (.f32 : EltTy) = .f32) shapeCasts_S1x1024x898_S1024x898,
    StableHlo.reshape main_v6 main_v7 (rfl : (.f32 : EltTy) = .f32) shapeCasts_S1024x898_S2x512x898,
    StableHlo.unary main_v7 main_v8 ((truncf .bf16 · bitsLt_bf16_f32) : (⟨S2x512x898, .f32⟩ : BufTy).Contents (Elt F) → (⟨S2x512x898, .bf16⟩ : BufTy).Contents (Elt F)),
    StableHlo.unary main_arg1 main_v9 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    StableHlo.reshape main_v9 main_v10 (rfl : (.f32 : EltTy) = .f32) shapeCasts_S1x256x1024_S256x1024,
    StableHlo.reshape main_v10 main_v11 (rfl : (.f32 : EltTy) = .f32) shapeCasts_S256x1024_S2x128x1024,
    StableHlo.unary main_v11 main_v12 ((truncf .bf16 · bitsLt_bf16_f32) : (⟨S2x128x1024, .f32⟩ : BufTy).Contents (Elt F) → (⟨S2x128x1024, .bf16⟩ : BufTy).Contents (Elt F)) ]
/-- A gathered array's allocation copied into the call's own. -/
abbrev cp0 : HloOp τ sig (Elt F) := StableHlo.unary main_v13 main_v16_0 id
abbrev cp1 : HloOp τ sig (Elt F) := StableHlo.unary main_v14 main_v16_1 id
abbrev cp2 : HloOp τ sig (Elt F) := StableHlo.unary main_v15 main_v16_2 id

/-- @main after the operations on values. -/
def rest (d : Dev nD) : Prog (TpuEff nD τ sig (Elt F) (SparseCore.Sig (Pipeline.Sig Λ₀ (Fin 0) fun p => (pcfgs (F := F) p).Adm) 1) .tc) PUnit := do
  hlo rfl (StableHlo.allocateBuffer main_v13) (fun _ => .ret ⟨⟩)
  hlo rfl (StableHlo.allocateBuffer main_v14) (fun _ => .ret ⟨⟩)
  hlo rfl (StableHlo.allocateBuffer main_v15) (fun _ => .ret ⟨⟩)
  hlo rfl cp0 (fun _ => .ret ⟨⟩)
  hlo rfl cp1 (fun _ => .ret ⟨⟩)
  hlo rfl cp2 (fun _ => .ret ⟨⟩)
  sc.run d 0
  pure ⟨⟩

theorem main_eq (d : Dev nD) : main (F := F) d = seq ops >>= fun _ => rest d := by
  simp only [main, rest, seq, bind_assoc, pure_bind]

/-- The arguments and sources; what else the operations on values write; the gathered arrays and their allocations. -/
abbrev SA : Finset (DevRef τ sig) := {dev main_arg0, dev main_arg1, dev main_v4, dev main_v8, dev main_v12}
abbrev SR : Finset (DevRef τ sig) :=
  {dev main_v1, dev main_v2, dev main_v3, dev main_v5, dev main_v6, dev main_v7, dev main_v9, dev main_v10, dev main_v11}
abbrev S0 : Finset (DevRef τ sig) := {dev main_v13, dev main_v16_0}
abbrev S1 : Finset (DevRef τ sig) := {dev main_v14, dev main_v16_1}
abbrev S2 : Finset (DevRef τ sig) := {dev main_v15, dev main_v16_2}

theorem held_two (d : Dev nD) (x y : Ref sig .tc) (h : dev x ∉ ({dev y} : Finset (DevRef τ sig))) (W : Valuation τ sig (Elt F)) :
    (held (SparseCore.T d) {dev x, dev y} W : sProp 𝕄) = iprop(((SparseCore.T d).loc x ↦{fullShare} W (dev x)) ∗ ((SparseCore.T d).loc y ↦{fullShare} W (dev y))) := by
  unfold held
  rw [SparseCore.bigSep_insert' h, bigSep_singleton]
theorem held_SA (d : Dev nD) (W : Valuation τ sig (Elt F)) :
    (held (SparseCore.T d) SA W : sProp 𝕄) = iprop(((SparseCore.T d).loc main_arg0 ↦{fullShare} W (dev main_arg0)) ∗ ((SparseCore.T d).loc main_arg1 ↦{fullShare} W (dev main_arg1))
      ∗ ((SparseCore.T d).loc main_v4 ↦{fullShare} W (dev main_v4)) ∗ ((SparseCore.T d).loc main_v8 ↦{fullShare} W (dev main_v8)) ∗ ((SparseCore.T d).loc main_v12 ↦{fullShare} W (dev main_v12))) := by
  unfold held SA
  rw [SparseCore.bigSep_insert' (by decide), SparseCore.bigSep_insert' (by decide), SparseCore.bigSep_insert' (by decide),
    SparseCore.bigSep_insert' (by decide), bigSep_singleton]

theorem held_parts (d : Dev nD) (W : Valuation τ sig (Elt F)) :
    (held (SparseCore.T d) (SA ∪ SR) W : sProp 𝕄) = iprop(held (SparseCore.T d) SA W ∗ held (SparseCore.T d) SR W) := by
  unfold held
  rw [SparseCore.bigSep_union' (by decide)]

/-- The launch valuation. -/
def V0 (d : Dev nD) : Valuation τ sig (Elt F) := fun b => m (d, b)

/-- The arrays of a valuation's, as buffers named by the TensorCore's references to them. -/
theorem held_image (d : Dev nD) (R : Finset (Ref sig .tc)) :
    (held (SparseCore.T d) (R.map ⟨dev, Proc.devRef_injective .tc⟩) (V0 m d) : sProp 𝕄) = bigSep R fun b => (SparseCore.T d).loc b ↦{fullShare} m ((SparseCore.T d).loc b) := by
  unfold held
  rw [bigSep_map]
  rfl

theorem unscoped_held (d : Dev nD) : (unscopedBufs d (fun b => m ((SparseCore.T d).loc b)) : sProp 𝕄)
    = iprop(held (SparseCore.T d) (SA ∪ SR) (V0 m d) ∗ held (SparseCore.T d) S0 (V0 m d) ∗ held (SparseCore.T d) S1 (V0 m d) ∗ held (SparseCore.T d) S2 (V0 m d)) := by
  refine (held_image m d (Finset.univ.filter fun b : Ref sig .tc => ¬ b.isScoped)).symm.trans ?_
  rw [show (Finset.univ.filter fun b : Ref sig .tc => ¬ b.isScoped).map ⟨dev, Proc.devRef_injective .tc⟩ = (SA ∪ SR) ∪ (S0 ∪ (S1 ∪ S2)) by decide]
  unfold held
  rw [SparseCore.bigSep_union' (by decide), SparseCore.bigSep_union' (by decide), SparseCore.bigSep_union' (by decide), SparseCore.bigSep_union' (by decide)]

theorem after_arg0 (d : Dev nD) : after (ops (F := F)) (V0 m d) (dev main_arg0) = m ((d.tc : Thread nD τ).loc main_arg0) := by after_results <;> rfl
theorem after_arg1 (d : Dev nD) : after (ops (F := F)) (V0 m d) (dev main_arg1) = m ((d.tc : Thread nD τ).loc main_arg1) := by after_results <;> rfl
theorem after_v4 (d : Dev nD) : after (ops (F := F)) (V0 m d) (dev main_v4) = srcs m 0 d := by after_results <;> rfl
theorem after_v8 (d : Dev nD) : after (ops (F := F)) (V0 m d) (dev main_v8) = srcs m 1 d := by after_results <;> rfl
theorem after_v12 (d : Dev nD) : after (ops (F := F)) (V0 m d) (dev main_v12) = srcs m 2 d := by after_results <;> rfl

theorem pair_within {x y : Ref sig .tc} (hx : dev x ∈ SA ∪ SR) (hy : dev y ∈ SA ∪ SR) : ({dev x, dev y} : Finset (DevRef τ sig)) ⊆ SA ∪ SR :=
  Finset.insert_subset hx (Finset.singleton_subset_iff.mpr hy)
theorem ops_within : ∀ op ∈ ops (F := F), op.bufs ⊆ SA ∪ SR := by
  intro op h
  simp only [List.mem_cons, List.not_mem_nil, or_false] at h
  rcases h with rfl | rfl | rfl | rfl | rfl | rfl | rfl | rfl | rfl | rfl | rfl | rfl <;>
    (refine pair_within ?_ ?_ <;> decide)
theorem ops_fresh : ∀ op ∈ ops (F := F), op.fresh = ∅ := by
  intro op h
  simp only [List.mem_cons, List.not_mem_nil, or_false] at h
  rcases h with rfl | rfl | rfl | rfl | rfl | rfl | rfl | rfl | rfl | rfl | rfl | rfl <;> rfl

theorem bigSep_three (Φ : Fin 3 → sProp 𝕄) : bigSep Finset.univ Φ = iprop(Φ 0 ∗ Φ 1 ∗ Φ 2) :=
  bigSep_univ_eq_bigSepL [0, 1, 2] (by decide) (by decide) Φ

/-- Copying an allocation into the call's own array, whatever the two hold. -/
theorem copy_run (W : Valuation τ sig (Elt F)) (d : Dev nD) (x y : Ref sig .tc) (h : dev x ∉ ({dev y} : Finset (DevRef τ sig))) (op : HloOp τ sig (Elt F))
    (hop : op.bufs ⊆ {dev x, dev y}) (hf : op.fresh = ∅) (fx : Buf (Elt F) ((SparseCore.T d).loc x)) (fy : Buf (Elt F) ((SparseCore.T d).loc y))
    (K' : PUnit → sProp 𝕄) :
    iprop((boundary (SparseCore.T d) ∗ ((SparseCore.T d).loc x ↦{fullShare} fx) ∗ ((SparseCore.T d).loc y ↦{fullShare} fy))
        ∗ (boundary (SparseCore.T d) ∗ (∃ f, (SparseCore.T d).loc y ↦{fullShare} f) -∗ K' ⟨⟩))
      ⊢ wp frame (wpE ((K (F := F)).defs (D (F := F))) 𝒱 (SparseCore.T d) none) Set.univ (hlo rfl op fun _ => .ret ⟨⟩) K' := by
  iintro ⟨⟨Hb, Hx, Hy⟩, Hk⟩
  iapply (wp_hlo_within 𝒱 (SparseCore.T d) none Set.univ (op := op) (S := {dev x, dev y}) hop (hf := hf)
    (V := Function.update (Function.update W (dev x) fx) (dev y) fy)) $$ [Hb Hx Hy]
  · isplitl [Hb]; · iexact Hb
    rw [held_two d x y h, Function.update_self, Function.update_of_ne (fun e => h (Finset.mem_singleton.mpr e)), Function.update_self]
    isplitl [Hx] <;> iassumption
  iintro ⟨Hb, HB⟩
  rw [wp_ret]; imodintro
  ihave HB' := (Entails.of_eq (held_two (F := F) d x y h _)) $$ HB
  icases HB' with ⟨-, Hy⟩
  iapply Hk
  isplitl [Hb]; · iexact Hb
  iexists _; iexact Hy

/-- What device `d` ends with: its arguments, the three arrays gathered, its barrier's counter at zero. -/
abbrev FIN (d : Dev nD) : sProp 𝕄 :=
  iprop(((SparseCore.T d).loc main_arg0 ↦{fullShare} m ((d.tc : Thread nD τ).loc main_arg0))
    ∗ ((SparseCore.T d).loc main_arg1 ↦{fullShare} m ((d.tc : Thread nD τ).loc main_arg1))
    ∗ (bigSep Finset.univ fun j : Fin 3 => loc_dst j d ↦{fullShare} landed (srcs m) j d) ∗ semVal (bcell d) 0)

theorem hmain (κ : GSem nD τ sig → ℕ) (d : Dev nD) :
    iprop((K (F := F)).ctx EH (P (srcs m)) κ (K (F := F)).levR ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, ⟨HA, H0, H1, H2⟩, Hts, -⟩, -⟩
  iapply (wp_seq 𝒱 none Set.univ d (SA ∪ SR) (fun _ => rest d) ops ops_within ops_fresh (V0 m d)) $$ [Hb HA]
  · isplitl [Hb] <;> iassumption
  iintro ⟨Hb, HA⟩
  simp only [rest, wp_bind, wp_pure]
  ihave H := (Entails.of_eq (held_two (F := F) d main_v13 main_v16_0 (by decide) (V0 m d))) $$ H0
  icases H with ⟨Hx0, Hy0⟩
  ihave H := (Entails.of_eq (held_two (F := F) d main_v14 main_v16_1 (by decide) (V0 m d))) $$ H1
  icases H with ⟨Hx1, Hy1⟩
  ihave H := (Entails.of_eq (held_two (F := F) d main_v15 main_v16_2 (by decide) (V0 m d))) $$ H2
  icases H with ⟨Hx2, Hy2⟩
  -- the gathered arrays: allocated, copied into the call's own
  iapply (wp_allocateBuffer 𝒱 (SparseCore.T d) none Set.univ main_v13 ⟨by decide, by decide⟩ (V := V0 m d)) $$ [Hb Hx0]
  · isplitl [Hb] <;> iassumption
  iintro %w0 ⟨Hb, Hx0⟩
  rw [wp_ret]; imodintro
  iapply (wp_allocateBuffer 𝒱 (SparseCore.T d) none Set.univ main_v14 ⟨by decide, by decide⟩ (V := V0 m d)) $$ [Hb Hx1]
  · isplitl [Hb] <;> iassumption
  iintro %w1 ⟨Hb, Hx1⟩
  rw [wp_ret]; imodintro
  iapply (wp_allocateBuffer 𝒱 (SparseCore.T d) none Set.univ main_v15 ⟨by decide, by decide⟩ (V := V0 m d)) $$ [Hb Hx2]
  · isplitl [Hb] <;> iassumption
  iintro %w2 ⟨Hb, Hx2⟩
  rw [wp_ret]; imodintro
  iapply (copy_run (V0 m d) d main_v13 main_v16_0 (by decide) cp0 (fun _ h => h) rfl _ _ _)
  isplitl [Hb Hx0 Hy0]
  · isplitl [Hb]; · iexact Hb
    isplitl [Hx0] <;> iassumption
  iintro ⟨Hb, Hy0⟩
  iapply (copy_run (V0 m d) d main_v14 main_v16_1 (by decide) cp1 (fun _ h => h) rfl _ _ _)
  isplitl [Hb Hx1 Hy1]
  · isplitl [Hb]; · iexact Hb
    isplitl [Hx1] <;> iassumption
  iintro ⟨Hb, Hy1⟩
  iapply (copy_run (V0 m d) d main_v15 main_v16_2 (by decide) cp2 (fun _ h => h) rfl _ _ _)
  isplitl [Hb Hx2 Hy2]
  · isplitl [Hb]; · iexact Hb
    isplitl [Hx2] <;> iassumption
  iintro ⟨Hb, Hy2⟩
  ihave H := (Entails.of_eq (held_parts (F := F) d (after ops (V0 m d)))) $$ HA
  icases H with ⟨HA, -⟩
  ihave HA' := (Entails.of_eq ((held_SA (F := F) d (after ops (V0 m d))).trans (by rw [after_arg0, after_arg1, after_v4, after_v8, after_v12]))) $$ HA
  icases HA' with ⟨Ha0, Ha1, Hs0, Hs1, Hs2⟩
  -- the call
  iapply ((K (F := F)).wp_run (D (F := F)) 𝒱 (EH := EH) (P := P (srcs m)) κ d 0 (K (F := F)).levR (K (F := F)).refines_levR) $$ [Hst Hb Hts Ha0 Ha1 Hs0 Hs1 Hs2 Hy0 Hy1 Hy2]
  isplitr; · iexact Hctx
  isplitl [Hst]; · iexact Hst
  isplitl [Hs0 Hs1 Hs2 Hy0 Hy1 Hy2]
  · rw [st0_eq]
    isplitl [Hs0 Hs1 Hs2]
    · iapply (SparseCore.ent (Entails.of_eq (bigSep_three (fun j : Fin 3 => (loc_src j d ↦{fullShare} srcOf (srcs m) j d : sProp 𝕄))).symm))
      isplitl [Hs0]; · iexact Hs0
      isplitl [Hs1]; · iexact Hs1
      iexact Hs2
    iapply (SparseCore.ent (Entails.of_eq (bigSep_three (fun j : Fin 3 => (iprop(∃ f, loc_dst j d ↦{fullShare} f) : sProp 𝕄))).symm))
    isplitl [Hy0]; · iexact Hy0
    isplitl [Hy1]; · iexact Hy1
    iexact Hy2
  iintro ⟨Hst, Hdn⟩
  ihave Hdn' := (Entails.of_eq (dn0_eq (srcs m) d)) $$ Hdn
  icases Hdn' with ⟨-, Hl, Hbar⟩
  imodintro
  isplitl [Hst]; · iexact Hst
  isplitr [Hb Hts]; swap; · isplitl [Hb] <;> iassumption
  isplitl [Ha0]; · iexact Ha0
  isplitl [Ha1]; · iexact Ha1
  isplitl [Hl]; · iexact Hl
  iexact Hbar

/-! ## The run -/

/-- What a final state shows of device `d`. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ ∀ j : Fin 3, s'.mem.mem (loc_dst j d) = landed (srcs m) j d)
  ∧ s'.mem.sem (bcell d) = 0

/-- A buffer owned whole is what the state holds there. -/
theorem read_whole (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%e, HSI, -⟩
  isplitr; · ipureintro; exact Buf.eq_of_forall_mem_univ e
  iexact HSI

theorem hfin (d : Dev nD) (s' : Phys nD τ sig (Elt F)) : iprop(FIN m d ∗ SI s') ⊢ (⌜fq m d s'⌝ : sProp 𝕄) := by
  iintro ⟨⟨H0, H1, Hl, Hb⟩, HSI⟩
  ihave H := (Entails.of_eq (bigSep_three (fun j : Fin 3 => (loc_dst j d ↦{fullShare} landed (srcs m) j d : sProp 𝕄)))) $$ Hl
  icases H with ⟨Hl0, Hl1, Hl2⟩
  ihave H := (read_whole ((SparseCore.T d).loc main_arg0) (m ((d.tc : Thread nD τ).loc main_arg0)) s') $$ [HSI H0]
  · isplitl [HSI] <;> iassumption
  icases H with ⟨%e0, HSI⟩
  ihave H := (read_whole ((SparseCore.T d).loc main_arg1) (m ((d.tc : Thread nD τ).loc main_arg1)) s') $$ [HSI H1]
  · isplitl [HSI] <;> iassumption
  icases H with ⟨%e1, HSI⟩
  ihave H := (read_whole (loc_dst 0 d) (landed (srcs m) 0 d) s') $$ [HSI Hl0]
  · isplitl [HSI] <;> iassumption
  icases H with ⟨%l0, HSI⟩
  ihave H := (read_whole (loc_dst 1 d) (landed (srcs m) 1 d) s') $$ [HSI Hl1]
  · isplitl [HSI] <;> iassumption
  icases H with ⟨%l1, HSI⟩
  ihave H := (read_whole (loc_dst 2 d) (landed (srcs m) 2 d) s') $$ [HSI Hl2]
  · isplitl [HSI] <;> iassumption
  icases H with ⟨%l2, HSI⟩
  ihave H := (SparseCore.Cfg.semVal_zero_read (bcell d) s') $$ [HSI Hb]
  · isplitl [Hb] <;> iassumption
  icases H with %e4
  ipureintro
  exact ⟨⟨e0, e1, fun j => match j with | 0 => l0 | 1 => l1 | 2 => l2⟩, e4⟩

/-- **The run**: from any memory, every weakly fair execution ends, nothing faulting, with every device's arguments as
    launched, its three arrays gathered from every chip's, and every semaphore's counter at zero. -/
theorem run_main [∀ e, Nonempty (Elt F e)] : θ_run (defs (F := F)) (threads (F := F)) ⟨m, fun _ => 0, ρ⟩ (fun r =>
    (∀ d : Dev nD, r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_v16_0) = gathered 128 1024 (srcs m 0) d
      ∧ r.2.mem ((d.tc : Thread nD τ).loc main_v16_1) = gathered 512 898 (srcs m 1) d
      ∧ r.2.mem ((d.tc : Thread nD τ).loc main_v16_2) = gathered 128 1024 (srcs m 2) d)
    ∧ r.2.sem = fun _ => 0) :=
  SparseCore.Cfg.θ_run_sc_held_quiescent (K := K (F := F)) (D := D (F := F)) (𝒱 := 𝒱) (EH := EH) (P := P (srcs m)) (A := barCells)
    (hlv := (K (F := F)).refines_levR) (hran := held_ran (srcs m)) sc_facts v₀
    (fun q _ => match q with | 0 => scalarObl (srcs m))
    (fun q hq => match q with | 0 => nomatch hq)
    (fun q hq => match q with | 0 => nomatch hq)
    m ρ main (fun _ => iprop(emp)) (FIN m) (u₀ (F := F)) (hu₀ (srcs m)) (hmain m ρ) (fq m) (hfin m) _
    (fun _ h hz => ⟨fun d => ⟨(h d).1.1, (h d).1.2.1, (h d).1.2.2 0, (h d).1.2.2 1, (h d).1.2.2 2⟩, hz⟩)
    (hA := fun s' h g' hg => by
      obtain ⟨d, -, rfl⟩ := Finset.mem_image.mp hg
      exact (h d).2)

end Cert.Gathering

end
-- ==== Proof.GatherRows.lean ====
/-
  The values. Element (q, r, i, k) of a gathered array is element (r, i, k) of what the devices of chip q send. Here: that a
  device's block of a weight array, cut in halves, reads as the reference reads the whole array, and so that every device
  ends with the reference's results.
-/
module

public import proofs.«01_k».proof.Proof.GatherPieces
public import Idealize.ShloMosaic.Lib.Layout
public import Idealize.ShloMosaic.Lib.Pipeline.Value

@[expose] public section

noncomputable section

namespace Cert.Gathering

open Idealize.ShloMosaic ValueIdx Cert.GatherIdeal

variable {α : Type}

/-- The chip of a device. -/
abbrev chip (q : Dev nD) : Fin 4 := ⟨q.val / 2, by have : q.val < 8 := q.isLt; omega⟩

/-- If what every device sends is its chip's part of one array, that array is what the gather leaves every device. -/
theorem gathered_whole (A B : ℕ) (X : Dev nD → (SrcS A B).Idx → α) (G : (DstS A B).Idx → α)
    (h : ∀ (q : Dev nD) (r : Fin 2) (i : Fin A) (k : Fin B), X q (ix3 r i k) = G (ix4 (chip q) r i k)) (p : Dev nD) :
    gathered A B X p = G := by
  funext j
  have h0 : (j 0).val < 4 := (j 0).isLt
  have h1 : (j 1).val < 2 := (j 1).isLt
  refine (h _ (j 1) (j 2) (j 3)).trans (congrArg G (funext fun a => Fin.ext ?_))
  fin_cases a
  · show (if (j 0).val = p.val / 2 then p else (⟨(2 * (j 0).val + (j 1).val) % 8, Nat.mod_lt _ (by decide)⟩ : Dev nD)).val / 2 = (j 0).val
    split
    · omega
    · show (2 * (j 0).val + (j 1).val) % 8 / 2 = (j 0).val; omega
  · rfl
  · rfl
  · rfl

/-- The block number of a dimension cut along the two chip axes is the chip. -/
theorem meshLin_chip (q : Dev nD) : Layout.meshLin [2, 2, 2] q.val [0, 1] = q.val / 2 := by
  revert q; decide

/-- Layer `l` of a device's rows of the out-projection, in halves, read in the whole array. -/
theorem out_at (l : Fin 2) (W : (⟨3, ![2, 1024, 1024]⟩ : Shape).Idx → α) (q : Dev nD)
    (hb : Layout.TilesN ⟨3, ![2, 256, 1024]⟩ ⟨3, ![2, 1024, 1024]⟩ (fun b => Layout.cutSize [2, 2, 2] ((![[], [0, 1], []] : Fin 3 → List ℕ) b)))
    (hm : ∀ b, ∀ i ∈ (![[], [0, 1], []] : Fin 3 → List ℕ) b, 0 < [2, 2, 2].getD i 0)
    (s1 : (⟨3, ![2, 256, 1024]⟩ : Shape).Slices ![l.val, 0, 0] ⟨3, ![1, 256, 1024]⟩)
    (c1 : (⟨3, ![1, 256, 1024]⟩ : Shape).ShapeCasts ⟨2, ![256, 1024]⟩) (c2 : (⟨2, ![256, 1024]⟩ : Shape).ShapeCasts ⟨3, ![2, 128, 1024]⟩)
    (s2 : (⟨3, ![2, 1024, 1024]⟩ : Shape).Slices ![l.val, 0, 0] ⟨3, ![1, 1024, 1024]⟩)
    (c3 : (⟨3, ![1, 1024, 1024]⟩ : Shape).ShapeCasts ⟨2, ![1024, 1024]⟩) (c4 : (⟨2, ![1024, 1024]⟩ : Shape).ShapeCasts ⟨4, ![4, 2, 128, 1024]⟩)
    (r : Fin 2) (i : Fin 128) (k : Fin 1024) :
    shapeCast ⟨3, ![2, 128, 1024]⟩ (shapeCast ⟨2, ![256, 1024]⟩ (extractStridedSlice ⟨3, ![1, 256, 1024]⟩ ![l.val, 0, 0]
        (Layout.blockN ⟨3, ![2, 256, 1024]⟩ ⟨3, ![2, 1024, 1024]⟩ (Layout.meshBlock [2, 2, 2] ![[], [0, 1], []] q hm) W hb) s1) c1) c2 (ix3 r i k)
      = shapeCast ⟨4, ![4, 2, 128, 1024]⟩ (shapeCast ⟨2, ![1024, 1024]⟩ (extractStridedSlice ⟨3, ![1, 1024, 1024]⟩ ![l.val, 0, 0] W s2) c3) c4
          (ix4 (chip q) r i k) := by
  have hq : q.val < 8 := q.isLt
  have hr := r.isLt
  have hi := i.isLt
  obtain ⟨n, hn⟩ : ∃ n : Fin 256, n.val = 128 * r.val + i.val := ⟨⟨128 * r.val + i.val, by omega⟩, rfl⟩
  obtain ⟨x, hx⟩ : ∃ x : Fin 1024, x.val = 256 * (q.val / 2) + n.val := ⟨⟨256 * (q.val / 2) + n.val, by omega⟩, rfl⟩
  rw [shapeCast_apply _ c2 (ix3 r i k) (ix2 n k)
      (by rw [Shape.rowMajor_val_two, Shape.rowMajor_val_three]; show n.val * 1024 + k.val = (r.val * 128 + i.val) * 1024 + k.val; omega),
    shapeCast_apply _ c1 (ix2 n k) (ix3 (0 : Fin 1) n k)
      (by rw [Shape.rowMajor_val_two, Shape.rowMajor_val_three]; show (0 * 256 + n.val) * 1024 + k.val = n.val * 1024 + k.val; omega),
    extractStridedSlice_apply _ _ s1 _ (ix3 l n k) (by
      intro a
      fin_cases a
      · rfl
      · show n.val = 0 + n.val; omega
      · show k.val = 0 + k.val; omega),
    shapeCast_apply _ c4 (ix4 (chip q) r i k) (ix2 x k)
      (by rw [Shape.rowMajor_val_two, Shape.rowMajor_val_four]; show x.val * 1024 + k.val = ((q.val / 2 * 2 + r.val) * 128 + i.val) * 1024 + k.val; omega),
    shapeCast_apply _ c3 (ix2 x k) (ix3 (0 : Fin 1) x k)
      (by rw [Shape.rowMajor_val_two, Shape.rowMajor_val_three]; show (0 * 1024 + x.val) * 1024 + k.val = x.val * 1024 + k.val; omega),
    extractStridedSlice_apply _ _ s2 _ (ix3 l x k) (by
      intro a
      fin_cases a
      · rfl
      · show x.val = 0 + x.val; omega
      · show k.val = 0 + k.val; omega),
    Layout.blockN_apply]
  refine congrArg W (funext fun a => Fin.ext ?_)
  rw [Layout.TilesN.idx_val]
  fin_cases a
  · show 0 * 2 + l.val = l.val; omega
  · show Layout.meshLin [2, 2, 2] q.val [0, 1] * 256 + n.val = x.val
    rw [meshLin_chip]; omega
  · show 0 * 1024 + k.val = k.val; omega

/-- Layer `l` of a device's columns of the in-projection, in halves, read in the whole array. -/
theorem in_at (l : Fin 2) (W : (⟨3, ![2, 1024, 3592]⟩ : Shape).Idx → α) (q : Dev nD)
    (hb : Layout.TilesN ⟨3, ![2, 1024, 898]⟩ ⟨3, ![2, 1024, 3592]⟩ (fun b => Layout.cutSize [2, 2, 2] ((![[], [], [0, 1]] : Fin 3 → List ℕ) b)))
    (hm : ∀ b, ∀ i ∈ (![[], [], [0, 1]] : Fin 3 → List ℕ) b, 0 < [2, 2, 2].getD i 0)
    (s1 : (⟨3, ![2, 1024, 898]⟩ : Shape).Slices ![l.val, 0, 0] ⟨3, ![1, 1024, 898]⟩)
    (c1 : (⟨3, ![1, 1024, 898]⟩ : Shape).ShapeCasts ⟨2, ![1024, 898]⟩) (c2 : (⟨2, ![1024, 898]⟩ : Shape).ShapeCasts ⟨3, ![2, 512, 898]⟩)
    (s2 : (⟨3, ![2, 1024, 3592]⟩ : Shape).Slices ![l.val, 0, 0] ⟨3, ![1, 1024, 3592]⟩)
    (c3 : (⟨3, ![1, 1024, 3592]⟩ : Shape).ShapeCasts ⟨2, ![1024, 3592]⟩) (c4 : (⟨2, ![1024, 3592]⟩ : Shape).ShapeCasts ⟨3, ![1024, 4, 898]⟩)
    (t : (⟨3, ![1024, 4, 898]⟩ : Shape).Transposes [1, 0, 2] ⟨3, ![4, 1024, 898]⟩) (c5 : (⟨3, ![4, 1024, 898]⟩ : Shape).ShapeCasts ⟨4, ![4, 2, 512, 898]⟩)
    (r : Fin 2) (i : Fin 512) (k : Fin 898) :
    shapeCast ⟨3, ![2, 512, 898]⟩ (shapeCast ⟨2, ![1024, 898]⟩ (extractStridedSlice ⟨3, ![1, 1024, 898]⟩ ![l.val, 0, 0]
        (Layout.blockN ⟨3, ![2, 1024, 898]⟩ ⟨3, ![2, 1024, 3592]⟩ (Layout.meshBlock [2, 2, 2] ![[], [], [0, 1]] q hm) W hb) s1) c1) c2 (ix3 r i k)
      = shapeCast ⟨4, ![4, 2, 512, 898]⟩ (transpose ⟨3, ![4, 1024, 898]⟩ [1, 0, 2] (shapeCast ⟨3, ![1024, 4, 898]⟩
          (shapeCast ⟨2, ![1024, 3592]⟩ (extractStridedSlice ⟨3, ![1, 1024, 3592]⟩ ![l.val, 0, 0] W s2) c3) c4) t) c5
          (ix4 (chip q) r i k) := by
  have hq : q.val < 8 := q.isLt
  have hr := r.isLt
  have hi := i.isLt
  have hk := k.isLt
  obtain ⟨n, hn⟩ : ∃ n : Fin 1024, n.val = 512 * r.val + i.val := ⟨⟨512 * r.val + i.val, by omega⟩, rfl⟩
  obtain ⟨x, hx⟩ : ∃ x : Fin 3592, x.val = 898 * (q.val / 2) + k.val := ⟨⟨898 * (q.val / 2) + k.val, by omega⟩, rfl⟩
  rw [shapeCast_apply _ c2 (ix3 r i k) (ix2 n k)
      (by rw [Shape.rowMajor_val_two, Shape.rowMajor_val_three]; show n.val * 898 + k.val = (r.val * 512 + i.val) * 898 + k.val; omega),
    shapeCast_apply _ c1 (ix2 n k) (ix3 (0 : Fin 1) n k)
      (by rw [Shape.rowMajor_val_two, Shape.rowMajor_val_three]; show (0 * 1024 + n.val) * 898 + k.val = n.val * 898 + k.val; omega),
    extractStridedSlice_apply _ _ s1 _ (ix3 l n k) (by
      intro a
      fin_cases a
      · rfl
      · show n.val = 0 + n.val; omega
      · show k.val = 0 + k.val; omega),
    shapeCast_apply _ c5 (ix4 (chip q) r i k) (ix3 (chip q) n k)
      (by rw [Shape.rowMajor_val_three, Shape.rowMajor_val_four]; show (q.val / 2 * 1024 + n.val) * 898 + k.val = ((q.val / 2 * 2 + r.val) * 512 + i.val) * 898 + k.val; omega),
    transpose_apply _ _ t (ix3 (chip q) n k) (ix3 n (chip q) k) (by
      intro b
      fin_cases b <;> rfl),
    shapeCast_apply _ c4 (ix3 n (chip q) k) (ix2 n x)
      (by rw [Shape.rowMajor_val_two, Shape.rowMajor_val_three]; show n.val * 3592 + x.val = (n.val * 4 + q.val / 2) * 898 + k.val; omega),
    shapeCast_apply _ c3 (ix2 n x) (ix3 (0 : Fin 1) n x)
      (by rw [Shape.rowMajor_val_two, Shape.rowMajor_val_three]; show (0 * 1024 + n.val) * 3592 + x.val = n.val * 3592 + x.val; omega),
    extractStridedSlice_apply _ _ s2 _ (ix3 l n x) (by
      intro a
      fin_cases a
      · rfl
      · show n.val = 0 + n.val; omega
      · show x.val = 0 + x.val; omega),
    Layout.blockN_apply]
  refine congrArg W (funext fun a => Fin.ext ?_)
  rw [Layout.TilesN.idx_val]
  fin_cases a
  · show 0 * 2 + l.val = l.val; omega
  · show 0 * 1024 + n.val = n.val; omega
  · show Layout.meshLin [2, 2, 2] q.val [0, 1] * 898 + k.val = x.val
    rw [meshLin_chip]; omega

end Cert.Gathering

end
-- ==== Proof.SwapSetup.lean ====
/-
  The swap's protocol. Devices go in pairs that differ in the lowest bit of their number, and each sends its two arrays
  into its sibling's result arrays. On every device there are four cells, each with one round: the SEND cells (0 and 1),
  paid by the device's own copies, each handing a sent array back; and the RECEIVE cells (2 and 3), paid by the
  sibling's copies, each handing over a result array holding the sibling's array.
-/
module

public import proofs.«01_k».proof.Proof.Gen.SwapIdeal.Skeleton
public import proofs.«01_k».proof.Proof.Gen.SwapIdeal.Launch
public import proofs.«01_k».proof.Proof.Gen.SwapIdeal.Points
public import Idealize.ShloMosaic.Lib.Pipeline.Launch
public import Idealize.ShloMosaic.Lib.Quiescent
public import Idealize.ShloMosaic.Lib.SparseCore.Quiescent
public import Idealize.ShloMosaic.Lib.Tactic

@[expose] public section

noncomputable section

namespace Cert.Swapping

open Cert.SwapIdeal Cert.SwapIdeal.Gen
open Idealize.ShloMosaic
open TcCoe
open Idealize.SL RA BI BI.BIBase BI.Laws ProofMode Sem
open Rounds

variable {F : FTy → Type}

abbrev 𝒱₀ : Variants := Variants.none

/-! ## The ghost state: the pipeline's rounds, the swap's rounds -/

abbrev UR : Type := URounds (GSem nD τ sig) Unit
abbrev UU : Type := UR × UR

local notation "𝕄" => MT nD τ sig Unit (Elt F) ℕ UU ℕ

def EP : Emb UR (MT nD τ sig Unit (Elt F) ℕ UU ℕ) :=
  (Emb.inl : Emb UR UU).trans (uEmb (nD := nD) (sig := sig) (Ix := Unit) (Val := Elt F) (Name := ℕ) (U := UU) (Lvl := ℕ)).toEmb
def ER : Emb UR (MT nD τ sig Unit (Elt F) ℕ UU ℕ) :=
  (Emb.inr : Emb UR UU).trans (uEmb (nD := nD) (sig := sig) (Ix := Unit) (Val := Elt F) (Name := ℕ) (U := UU) (Lvl := ℕ)).toEmb

instance EP_landsIn : (EP : Emb UR 𝕄).LandsIn (upEmb : UEmb _ 𝕄) := by unfold EP; infer_instance
instance ER_landsIn : (ER : Emb UR 𝕄).LandsIn (upEmb : UEmb _ 𝕄) := by unfold ER; infer_instance

theorem ownU_split (a b : UR) : (ownU (a, b) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op b)))

/-! ## The pairs -/

/-- The device that differs from `d` in the lowest bit. -/
def sib (d : Dev nD) : Dev nD := ⟨(d.val ^^^ 1) % 8, Nat.mod_lt _ (by decide)⟩
theorem sib_sib (d : Dev nD) : sib (sib d) = d := by revert d; decide
/-- The device the kernel computes for its transfers. -/
theorem dev1_sib (d : Dev nD) : (⟨k0_dev1 d, k0_dev1_lt d⟩ : Dev nD) = sib d := by
  refine Fin.ext ?_
  show k0_dev1 d = _
  rw [k0_dev1_eq]; revert d; decide
theorem dev2_sib (d : Dev nD) : (⟨k0_dev2 d, k0_dev2_lt d⟩ : Dev nD) = sib d := by
  refine Fin.ext ?_
  show k0_dev2 d = _
  rw [k0_dev2_eq]; revert d; decide
def pairs : Equiv.Perm (Dev nD) := ⟨sib, sib, sib_sib, sib_sib⟩

/-! ## The arrays -/

abbrev M_a0 : Memref sig .tc .hbm S512x898 .f32 := Memref.whole main_arg0
abbrev M_a1 : Memref sig .tc .hbm S128x1024 .f32 := Memref.whole main_arg1
abbrev M_r0 : Memref sig .tc .hbm S512x898 .f32 := Memref.whole main_v1_0
abbrev M_r1 : Memref sig .tc .hbm S128x1024 .f32 := Memref.whole main_v1_1
abbrev loc_a0 (d : Dev nD) : Loc nD τ sig := (d.tc : Thread nD τ).loc main_arg0
abbrev loc_a1 (d : Dev nD) : Loc nD τ sig := (d.tc : Thread nD τ).loc main_arg1
abbrev loc_r0 (d : Dev nD) : Loc nD τ sig := (d.tc : Thread nD τ).loc main_v1_0
abbrev loc_r1 (d : Dev nD) : Loc nD τ sig := (d.tc : Thread nD τ).loc main_v1_1

/-- What a copy of either array credits its semaphores. -/
def N0 : ℕ := M_r0.view.dmaCredit
def N1 : ℕ := M_r1.view.dmaCredit
theorem N0_pos : 0 < N0 := View.dmaCredit_pos _ (by decide)
theorem N1_pos : 0 < N1 := View.dmaCredit_pos _ (by decide)
theorem N_a0 : M_a0.view.dmaCredit = N0 := rfl
theorem N_a1 : M_a1.view.dmaCredit = N1 := rfl

/-! ## The cells -/

def asem (k : Fin 4) : SemLoc sig := .dma ⟨k.val, k.isLt⟩
def cellOf : SemLoc sig → Fin 4
  | .reg _ => 0
  | .dma k => ⟨k.val % 4, Nat.mod_lt _ (by decide)⟩
theorem cellOf_asem (k : Fin 4) : cellOf (asem k) = k := by revert k; decide
/-- Cell `k` of device `d`. -/
abbrev cell (d : Dev nD) (k : Fin 4) : GSem nD τ sig := ((d.tc : Thread nD τ), asem k)
theorem cell_injective : Function.Injective (fun x : Dev nD × Fin 4 => cell x.1 x.2) := fun a b e => by
  obtain ⟨h1, h2⟩ := Prod.mk.inj e
  refine Prod.ext (Prod.mk.inj h1).1 ?_
  rw [← cellOf_asem a.2, ← cellOf_asem b.2, h2]

/-- The kernel's own names for the cells' semaphores. -/
theorem sem_s0 : SemLoc.dma (((cc0_scratch0.slice (Rect.unit (s := S2) ![0] S1.size Facts₀.inb_S2_S1_0)).squeeze S_ Facts₀.squeezes_S1_S_).sem) = (asem 0 : SemLoc sig) := by decide
theorem sem_s1 : SemLoc.dma (((cc0_scratch0.slice (Rect.unit (s := S2) ![1] S1.size Facts₀.inb_S2_S1_1)).squeeze S_ Facts₀.squeezes_S1_S_).sem) = (asem 1 : SemLoc sig) := by decide
theorem sem_r0 : SemLoc.dma (((cc0_scratch1.slice (Rect.unit (s := S2) ![0] S1.size Facts₀.inb_S2_S1_0)).squeeze S_ Facts₀.squeezes_S1_S_).sem) = (asem 2 : SemLoc sig) := by decide
theorem sem_r1 : SemLoc.dma (((cc0_scratch1.slice (Rect.unit (s := S2) ![1] S1.size Facts₀.inb_S2_S1_1)).squeeze S_ Facts₀.squeezes_S1_S_).sem) = (asem 3 : SemLoc sig) := by decide

/-! ## The schedule -/

/-- The two swapped arrays of every device. -/
abbrev Srcs (F : FTy → Type) : Type := ((d : Dev nD) → FVec F S512x898 .f32) × ((d : Dev nD) → FVec F S128x1024 .f32)

variable (X : Srcs F)

/-- What a cell credits, and what it hands its owner. -/
def credit : Fin 4 → ℕ
  | 0 => N0 | 1 => N1 | 2 => N0 | 3 => N1
def payloadOf (d : Dev nD) : Fin 4 → sProp 𝕄
  | 0 => loc_a0 d ↦{fullShare} X.1 d
  | 1 => loc_a1 d ↦{fullShare} X.2 d
  | 2 => loc_r0 d ↦{fullShare} X.1 (sib d)
  | 3 => loc_r1 d ↦{fullShare} X.2 (sib d)

theorem credit_pos (k : Fin 4) : 0 < credit k := by
  fin_cases k
  exacts [N0_pos, N1_pos, N0_pos, N1_pos]
instance payloadOf_storable (d : Dev nD) (k : Fin 4) : BI.Storable (upEmb : UEmb _ 𝕄) (payloadOf X d k) := by
  fin_cases k <;> (unfold payloadOf; infer_instance)

/-- The schedule as the rounds library reads it: one round of one duty on every cell of every device. -/
def Rd : Rounds.Schedule (GSem nD τ sig) Unit 𝕄 where
  duties _ r := if r = 0 then {()} else ∅
  unitless _ := False
  amount g _ _ := credit (cellOf g.2)
  payload g _ _ := payloadOf X g.1.1 (cellOf g.2)
  amount_pos _ _ _ _ := credit_pos _

instance Rd_payload_storable (g : GSem nD τ sig) (r : ℕ) (s : Unit) : BI.Storable (upEmb : UEmb _ 𝕄) ((Rd X).payload g r s) :=
  payloadOf_storable X _ _

theorem duties_zero (g : GSem nD τ sig) : (Rd X).duties g 0 = {()} := rfl
theorem duties_later (g : GSem nD τ sig) : ∀ r, 1 ≤ r → (Rd X).duties g r = ∅ :=
  fun r hr => by dsimp only [Rd]; rw [if_neg (by omega)]
theorem mem_duties (g : GSem nD τ sig) : () ∈ (Rd X).duties g 0 := Finset.mem_singleton_self _
theorem amount_cell (d : Dev nD) (k : Fin 4) (r : ℕ) (s : Unit) : (Rd X).amount (cell d k) r s = credit k := by
  dsimp only [Rd]; rw [cellOf_asem]
theorem payload_cell (d : Dev nD) (k : Fin 4) (r : ℕ) (s : Unit) : (Rd X).payload (cell d k) r s = payloadOf X d k := by
  dsimp only [Rd]; rw [cellOf_asem]
theorem expect_cell (d : Dev nD) (k : Fin 4) : (Rd X).expect (cell d k) 0 = credit k := by
  unfold Schedule.expect Schedule.amountOf
  rw [duties_zero, Finset.sum_singleton, amount_cell]
theorem pays_cell (d : Dev nD) (k : Fin 4) :
    bigSep ((Rd X).duties (cell d k) 0 \ ∅) (fun s => (Rd X).payload (cell d k) 0 s) = payloadOf X d k := by
  rw [Finset.sdiff_empty, duties_zero, bigSep_singleton, payload_cell]

/-! ## What each device owes from the launch, and is owed -/

/-- Device `d`'s copies will credit its sibling's two receive cells. -/
def O₀ (d : Dev nD) : CellTallies nD τ sig Unit := tallyAt (cell (sib d) 3) () N1 + tallyAt (cell (sib d) 2) () N0

theorem launchCred_O₀ (d : Dev nD) : (Pipeline.launchCred (Ix := Unit) (Val := Elt F) (Name := ℕ) (U := UU) (Lvl := ℕ) O₀ d : sProp 𝕄)
    ⊢ iprop(cred (tallyAt (cell d 3) () N1) ∗ cred (tallyAt (cell d 2) () N0)) := by
  unfold O₀
  rw [Pipeline.launchCred_add]
  exact BI.sep_mono (Pipeline.launchCred_tallyAt (asem 3) sib sib sib_sib sib_sib () N1 d)
    (Pipeline.launchCred_tallyAt (asem 2) sib sib sib_sib sib_sib () N0 d)

end Cert.Swapping

end
-- ==== Proof.SwapBody.lean ====
/-
  One device's run of the swap's kernel: its two sends, then for each array the wait for the send's end and the wait for
  the sibling's array, every wait closing its cell. After the sends it owes nothing, so no wait asks anything of the
  levels.
-/
module

public import proofs.«01_k».proof.Proof.SwapSetup

@[expose] public section

noncomputable section

namespace Cert.Swapping

open Cert.SwapIdeal Cert.SwapIdeal.Gen
open Idealize.ShloMosaic
open TcCoe
open Idealize.SL RA BI BI.BIBase BI.Laws ProofMode Sem
open Rounds

variable {F : FTy → Type} [FloatOps F]

local notation "𝕄" => MT nD τ sig Unit (Elt F) ℕ UU ℕ

variable (X : Srcs F) (κ : Dev nD × Fin 4 → ℕ) (d : Dev nD)

/-! ## What a device starts from and ends with -/

/-- The records every device may consult: every cell's invariant, and that its round 0 is reached. -/
def Ctx : sProp 𝕄 :=
  iprop((bigSep Finset.univ fun x : Dev nD × Fin 4 => cellInv ER (Rd X) (κ x) (cell x.1 x.2))
    ∗ bigSep Finset.univ fun x : Dev nD × Fin 4 => reached ER (cell x.1 x.2) 0)
instance Ctx_persistent : BI.Persistent (Ctx X κ) := by unfold Ctx; infer_instance

theorem inv_of (x : Dev nD × Fin 4) : Ctx X κ ⊢ cellInv ER (Rd X) (κ x) (cell x.1 x.2) := by
  unfold Ctx
  iintro ⟨#HI, -⟩
  iapply (SparseCore.ent (bigSep_elim (Φ := fun x : Dev nD × Fin 4 => (cellInv ER (Rd X) (κ x) (cell x.1 x.2) : sProp 𝕄)) (Finset.mem_univ x))); iexact HI
theorem reached_of (x : Dev nD × Fin 4) : Ctx X κ ⊢ reached ER (cell x.1 x.2) 0 := by
  unfold Ctx
  iintro ⟨-, #HR⟩
  iapply (SparseCore.ent (bigSep_elim (Φ := fun x : Dev nD × Fin 4 => (reached ER (cell x.1 x.2) 0 : sProp 𝕄)) (Finset.mem_univ x))); iexact HR

/-- The tokens of the duties device `d` pays; -/
def toks : sProp 𝕄 :=
  iprop((dutyTok ER (cell d 0) 0 () ∗ dutyTok ER (cell d 1) 0 ()) ∗ dutyTok ER (cell (sib d) 2) 0 () ∗ dutyTok ER (cell (sib d) 3) 0 ())
/-- its own cells' positions; -/
def ats : sProp 𝕄 :=
  iprop(atPos ER (cell d 0) 0 ∅ 0 ∗ atPos ER (cell d 1) 0 ∅ 0 ∗ atPos ER (cell d 2) 0 ∅ 0 ∗ atPos ER (cell d 3) 0 ∅ 0)
/-- its own arrays and its sibling's result arrays. -/
def mems : sProp 𝕄 :=
  iprop((loc_a0 d ↦{fullShare} X.1 d) ∗ (loc_a1 d ↦{fullShare} X.2 d)
    ∗ (∃ f, loc_r0 (sib d) ↦{fullShare} f) ∗ ∃ f, loc_r1 (sib d) ↦{fullShare} f)
/-- What device `d` starts the kernel from, beside what it owes; -/
def start : sProp 𝕄 :=
  iprop((∃ κ, Ctx X κ) ∗ toks d ∗ ats d ∗ mems X d ∗ cred (tallyAt (cell d 3) () N1) ∗ cred (tallyAt (cell d 2) () N0))
/-- its arrays at the end; -/
def swapped : sProp 𝕄 :=
  iprop((loc_a0 d ↦{fullShare} X.1 d) ∗ (loc_a1 d ↦{fullShare} X.2 d)
    ∗ (loc_r0 d ↦{fullShare} X.1 (sib d)) ∗ (loc_r1 d ↦{fullShare} X.2 (sib d)))
/-- (what its four waits hand over) -/
theorem swapped_eq : swapped X d = iprop(payloadOf X d 0 ∗ payloadOf X d 1 ∗ payloadOf X d 2 ∗ payloadOf X d 3) := rfl
/-- its counters. -/
def zeros : sProp 𝕄 :=
  iprop(semVal (cell d 0) 0 ∗ semVal (cell d 1) 0 ∗ semVal (cell d 2) 0 ∗ semVal (cell d 3) 0)
def finish : sProp 𝕄 := iprop(swapped X d ∗ zeros d)

/-! ## The steps -/

/-- A wait for cell `k`, owing nothing: the cell is closed, its counter at zero, and what it hands over is here. -/
theorem wp_wait_cell (k : Fin 4) (sem : DmaSem sig) (hs : (SemLoc.dma sem : SemLoc sig) = asem k) {s s' : Shape} {e e' : EltTy}
    {src : Memref sig .tc .hbm s' e'} {dst : Memref sig .tc .hbm s e} (hN : dst.view.dmaCredit = credit k)
    {hsrc : src.view.WordExact} {hdst : dst.view.WordExact} {W : Waits sig Unit}
    {β : Type} {cont : PUnit → Prog (TpuEff nD τ sig (Elt F) Λ₀ .tc) β} {Q : β → sProp 𝕄} :
    iprop(Ctx X κ ∗ cred (tallyAt (cell d k) () (credit k)) ∗ atPos ER (cell d k) 0 ∅ 0 ∗ owes (d.tc : Thread nD τ) 0 W)
      ⊢ iprop(((∃ W', owes (d.tc : Thread nD τ) 0 W') ∗ semVal (cell d k) 0 ∗ payloadOf X d k
            -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.waitDma2 sem src dst hsrc hdst) cont) Q) := by
  iintro ⟨#HC, Hc, Hat, HO⟩ Hk
  iapply (Rounds.wp_wait_rest_token 𝒱₀ ER (Rd X) (d.tc : Thread nD τ) none (sm := asem k) (k' := credit k) (κ := κ (d, k))
      (fun K => (wpE_waitDma2_eq 𝒱₀ (d.tc : Thread nD τ) none Set.univ K).trans (by rw [hs, hN])) (Set.mem_univ _) () (O := 0) (W := W) (R := 0) (m := 0) (T := ∅)
      (by rw [Nat.zero_add, expect_cell])) $$ [Hc HO Hat]
  · isplitr; · iapply (inv_of X κ (d, k)); iexact HC
    isplitl [Hc]; · iexact Hc
    isplitl [HO]; · iexact HO
    isplitr; · rw [MayWait_zero]; iempintro
    iexact Hat
  iintro ⟨HO, Hat, -, Hpay⟩
  ihave Hp := (Entails.of_eq (pays_cell X d k)) $$ Hpay
  iapply (fupd_wp frame (wpE (defs₀ (F := F)) 𝒱₀ (d.tc : Thread nD τ) none) Set.univ _ _)
  imod (Rounds.cell_close ER (Rd X) (g := cell d k) (κ := κ (d, k)) (Es := Set.univ) (Set.mem_univ _) (fun h => h) (R := 1) (duties_later X _)) $$ [Hat] with Hz
  · isplitr; · iapply (inv_of X κ (d, k)); iexact HC
    iexact Hat
  imodintro
  iapply Hk
  isplitl [HO]; · iexists _; iexact HO
  isplitl [Hz] <;> iassumption

theorem landed0 (fd fs : FVec F S512x898 .f32) :
    M_r0.view.write (Elt F) fd (M_a0.view.read (Elt F) fs) Finset.univ = fs := by
  rw [View.write_whole_univ, View.read_whole]
theorem landed1 (fd fs : FVec F S128x1024 .f32) :
    M_r1.view.write (Elt F) fd (M_a1.view.read (Elt F) fs) Finset.univ = fs := by
  rw [View.write_whole_univ, View.read_whole]

/-- The send of the first array. -/
theorem wp_send0 (p : Dev nD) (hp : p = sib d) (sS sR : SemLoc sig) (hsS : sS = asem 0) (hsR : sR = asem 2)
    {hsc : (M_r0 : Memref sig (p.tc : Thread nD τ).2.kind .hbm S512x898 .f32).view.ref.isScScratch = false}
    {hsrc : M_a0.view.WordExact} {hdst : M_r0.view.WordExact}
    {hsem : DmaTarget.Typed .hbm sR (.remote (p.tc : Thread nD τ) (M_r0 : Memref sig (p.tc : Thread nD τ).2.kind .hbm S512x898 .f32) sS hsc)}
    {O : CellTallies nD τ sig Unit} {W : Waits sig Unit}
    {β : Type} {cont : PUnit → Prog (TpuEff nD τ sig (Elt F) Λ₀ .tc) β} {Q : β → sProp 𝕄} :
    iprop(Ctx X κ ∗ (loc_a0 d ↦{fullShare} X.1 d) ∗ (∃ f, loc_r0 (sib d) ↦{fullShare} f) ∗ owes (d.tc : Thread nD τ) (O + tallyAt (cell (sib d) 2) () N0) W
        ∗ dutyTok ER (cell d 0) 0 () ∗ dutyTok ER (cell (sib d) 2) 0 ())
      ⊢ iprop(((cred (tallyAt (cell d 0) () (credit 0)) ∗ owes (d.tc : Thread nD τ) O W)
            -∗ wp frame (wpE (defs₀ (F := F)) 𝒱₀ (d.tc : Thread nD τ) none) Set.univ (cont ⟨⟩) Q)
          -∗ wp frame (wpE (defs₀ (F := F)) 𝒱₀ (d.tc : Thread nD τ) none) Set.univ
              (.op (.enqueueDma M_a0 (.remote (p.tc : Thread nD τ) M_r0 sS hsc) sR hsrc hdst hsem) cont) Q) := by
  subst hp hsS hsR
  iintro ⟨#HC, Hsrc, ⟨%fd, Hdst⟩, HO, HtS, HtR⟩
  iapply (Rounds.wp_send_pointsTo 𝒱₀ ER (Rd X) (d.tc : Thread nD τ) none (κ₁ := κ (d, 0)) (κ₂ := κ (sib d, 2))
      (r₁ := 0) (r₂ := 0) (d₁ := ()) (d₂ := ()) (q := fullShare) (fs := X.1 d) (fd := fd)
      (mem_duties X _) (mem_duties X _) () () N0 rfl (amount_cell X d 0 0 ()) (amount_cell X (sib d) 2 0 ()) O rfl (W := W) ?hp₁ ?hp₂)
  case hp₁ =>
    rw [show (Rd X).payload ((d.tc : Thread nD τ), asem 0) 0 () = payloadOf X d 0 from payload_cell X d 0 0 (), View.set_whole]
    exact Entails.of_eq rfl
  case hp₂ =>
    rw [show (Rd X).payload (((sib d).tc : Thread nD τ), asem 2) 0 () = payloadOf X (sib d) 2 from payload_cell X (sib d) 2 0 (), View.set_whole, landed0 fd (X.1 d)]
    exact Entails.of_eq (by unfold payloadOf; rw [sib_sib])
  isplitr; · iapply (inv_of X κ (d, 0)); iexact HC
  isplitr; · iapply (inv_of X κ (sib d, 2)); iexact HC
  isplitl [Hsrc]; · rw [View.set_whole]; iexact Hsrc
  isplitl [Hdst]; · rw [View.set_whole]; iexact Hdst
  isplitl [HO]; · iexact HO
  isplitl [HtS]; · iexact HtS
  isplitr; · iapply (reached_of X κ (d, 0)); iexact HC
  isplitl [HtR]; · iexact HtR
  iapply (reached_of X κ (sib d, 2)); iexact HC

/-- The send of the second. -/
theorem wp_send1 (p : Dev nD) (hp : p = sib d) (sS sR : SemLoc sig) (hsS : sS = asem 1) (hsR : sR = asem 3)
    {hsc : (M_r1 : Memref sig (p.tc : Thread nD τ).2.kind .hbm S128x1024 .f32).view.ref.isScScratch = false}
    {hsrc : M_a1.view.WordExact} {hdst : M_r1.view.WordExact}
    {hsem : DmaTarget.Typed .hbm sR (.remote (p.tc : Thread nD τ) (M_r1 : Memref sig (p.tc : Thread nD τ).2.kind .hbm S128x1024 .f32) sS hsc)}
    {O : CellTallies nD τ sig Unit} {W : Waits sig Unit}
    {β : Type} {cont : PUnit → Prog (TpuEff nD τ sig (Elt F) Λ₀ .tc) β} {Q : β → sProp 𝕄} :
    iprop(Ctx X κ ∗ (loc_a1 d ↦{fullShare} X.2 d) ∗ (∃ f, loc_r1 (sib d) ↦{fullShare} f) ∗ owes (d.tc : Thread nD τ) (O + tallyAt (cell (sib d) 3) () N1) W
        ∗ dutyTok ER (cell d 1) 0 () ∗ dutyTok ER (cell (sib d) 3) 0 ())
      ⊢ iprop(((cred (tallyAt (cell d 1) () (credit 1)) ∗ owes (d.tc : Thread nD τ) O W)
            -∗ wp frame (wpE (defs₀ (F := F)) 𝒱₀ (d.tc : Thread nD τ) none) Set.univ (cont ⟨⟩) Q)
          -∗ wp frame (wpE (defs₀ (F := F)) 𝒱₀ (d.tc : Thread nD τ) none) Set.univ
              (.op (.enqueueDma M_a1 (.remote (p.tc : Thread nD τ) M_r1 sS hsc) sR hsrc hdst hsem) cont) Q) := by
  subst hp hsS hsR
  iintro ⟨#HC, Hsrc, ⟨%fd, Hdst⟩, HO, HtS, HtR⟩
  iapply (Rounds.wp_send_pointsTo 𝒱₀ ER (Rd X) (d.tc : Thread nD τ) none (κ₁ := κ (d, 1)) (κ₂ := κ (sib d, 3))
      (r₁ := 0) (r₂ := 0) (d₁ := ()) (d₂ := ()) (q := fullShare) (fs := X.2 d) (fd := fd)
      (mem_duties X _) (mem_duties X _) () () N1 rfl (amount_cell X d 1 0 ()) (amount_cell X (sib d) 3 0 ()) O rfl (W := W) ?hp₁ ?hp₂)
  case hp₁ =>
    rw [show (Rd X).payload ((d.tc : Thread nD τ), asem 1) 0 () = payloadOf X d 1 from payload_cell X d 1 0 (), View.set_whole]
    exact Entails.of_eq rfl
  case hp₂ =>
    rw [show (Rd X).payload (((sib d).tc : Thread nD τ), asem 3) 0 () = payloadOf X (sib d) 3 from payload_cell X (sib d) 3 0 (), View.set_whole, landed1 fd (X.2 d)]
    exact Entails.of_eq (by unfold payloadOf; rw [sib_sib])
  isplitr; · iapply (inv_of X κ (d, 1)); iexact HC
  isplitr; · iapply (inv_of X κ (sib d, 3)); iexact HC
  isplitl [Hsrc]; · rw [View.set_whole]; iexact Hsrc
  isplitl [Hdst]; · rw [View.set_whole]; iexact Hdst
  isplitl [HO]; · iexact HO
  isplitl [HtS]; · iexact HtS
  isplitr; · iapply (reached_of X κ (d, 1)); iexact HC
  isplitl [HtR]; · iexact HtR
  iapply (reached_of X κ (sib d, 3)); iexact HC

/-! ## The kernel -/

/-- The kernel on device `d`, from what it starts with to what it ends with. -/
theorem body_run (W : Waits sig Unit) :
    iprop(start X d ∗ owes (d.tc : Thread nD τ) (O₀ d) W)
      ⊢ wp frame (wpE (defs₀ (F := F)) 𝒱₀ (d.tc : Thread nD τ) none) Set.univ (bodyAt0 (F := F) t0_0)
          fun _ => iprop(finish X d ∗ ∃ W', owes (d.tc : Thread nD τ) 0 W') := by
  unfold bodyAt0
  simp only [cc0_grad_swap0_eq_skeleton, cc0_grad_swap0_skel, k0_part1_eq_skeleton, k0_part1_skel, Prog.lift, Prog.bind_op, Prog.bind_ret, Prog.pure_eq_ret]
  unfold start toks ats mems
  iintro ⟨⟨⟨%κ, #HC⟩, ⟨⟨HtS0, HtS1⟩, HtR0, HtR1⟩, ⟨Hat0, Hat1, Hat2, Hat3⟩, ⟨Ha0, Ha1, Hr0, Hr1⟩, Hc3, Hc2⟩, HO⟩
  rw [wp_deviceId]
  iapply (wp_send0 X κ d _ (dev1_sib d) _ _ sem_s0 sem_r0 (O := tallyAt (cell (sib d) 3) () N1) (W := W)) $$ [Ha0 Hr0 HO HtS0 HtR0]
  · isplitr; · iexact HC
    isplitl [Ha0]; · iexact Ha0
    isplitl [Hr0]; · iexact Hr0
    isplitl [HO]; · iexact HO
    isplitl [HtS0] <;> iassumption
  iintro ⟨Hc0, HO⟩
  iapply (wp_send1 X κ d _ (dev2_sib d) _ _ sem_s1 sem_r1 (O := 0) (W := W)) $$ [Ha1 Hr1 HO HtS1 HtR1]
  · isplitr; · iexact HC
    isplitl [Ha1]; · iexact Ha1
    isplitl [Hr1]; · iexact Hr1
    isplitl [HO]; · rw [zero_add]; iexact HO
    isplitl [HtS1] <;> iassumption
  iintro ⟨Hc1, HO⟩
  iapply (wp_wait_cell X κ d 0 _ sem_s0 (dst := M_a0) N_a0) $$ [Hc0 Hat0 HO]
  · isplitr; · iexact HC
    isplitl [Hc0]; · iexact Hc0
    isplitl [Hat0] <;> iassumption
  iintro ⟨⟨%W1, HO⟩, Hz0, Ha0⟩
  iapply (wp_wait_cell X κ d 2 _ sem_r0 (dst := M_r0) rfl) $$ [Hc2 Hat2 HO]
  · isplitr; · iexact HC
    isplitl [Hc2]; · iexact Hc2
    isplitl [Hat2] <;> iassumption
  iintro ⟨⟨%W2, HO⟩, Hz2, Hr0⟩
  iapply (wp_wait_cell X κ d 1 _ sem_s1 (dst := M_a1) N_a1) $$ [Hc1 Hat1 HO]
  · isplitr; · iexact HC
    isplitl [Hc1]; · iexact Hc1
    isplitl [Hat1] <;> iassumption
  iintro ⟨⟨%W3, HO⟩, Hz1, Ha1⟩
  iapply (wp_wait_cell X κ d 3 _ sem_r1 (dst := M_r1) rfl) $$ [Hc3 Hat3 HO]
  · isplitr; · iexact HC
    isplitl [Hc3]; · iexact Hc3
    isplitl [Hat3] <;> iassumption
  iintro ⟨HO, Hz3, Hr1⟩
  rw [wp_ret]; imodintro
  unfold finish zeros
  rw [swapped_eq]
  isplitr [HO]; swap; · iexact HO
  isplitl [Ha0 Ha1 Hr0 Hr1]
  · isplitl [Ha0]; · iexact Ha0
    isplitl [Ha1]; · iexact Ha1
    isplitl [Hr0] <;> iassumption
  isplitl [Hz0]; · iexact Hz0
  isplitl [Hz1]; · iexact Hz1
  isplitl [Hz2] <;> iassumption

end Cert.Swapping

end
-- ==== Proof.SwapAlloc.lean ====
/-
  The swap's launch, its resources: every device's cells allocated once for the machine, and every device handed its own
  arrays, its sibling's result arrays and the tokens of the duties it pays.
-/
module

public import proofs.«01_k».proof.Proof.SwapBody

@[expose] public section

noncomputable section

namespace Cert.Swapping

open Cert.SwapIdeal Cert.SwapIdeal.Gen
open Idealize.ShloMosaic
open TcCoe
open Idealize.SL RA BI BI.BIBase BI.Laws ProofMode Sem
open Rounds

variable {F : FTy → Type} [FloatOps F]

local notation "𝕄" => MT nD τ sig Unit (Elt F) ℕ UU ℕ

variable (X : Srcs F)

/-! ## The cells of the machine -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_none0 (Φ : Fin 0 → sProp 𝕄) : bigSep Finset.univ Φ = BI.emp :=
  bigSep_univ_eq_bigSepL [] (by decide) (by decide) Φ

def cells : Finset (GSem nD τ sig) := Finset.univ.image fun x : Dev nD × Fin 4 => cell x.1 x.2
/-- One duty token a cell. -/
def cellToks : Finset (GSem nD τ sig × ℕ × Unit) := Finset.univ.image fun x : Dev nD × Fin 4 => (cell x.1 x.2, 0, ())

theorem cells_eq (Φ : GSem nD τ sig → sProp 𝕄) : bigSep cells Φ = bigSep Finset.univ fun x : Dev nD × Fin 4 => Φ (cell x.1 x.2) :=
  SparseCore.bigSep_image_of_injOn cell_injective.injOn Φ
/-- The cells, device by device. -/
theorem cells_dev (Φ : GSem nD τ sig → sProp 𝕄) : bigSep cells Φ
    = bigSep Finset.univ fun d : Dev nD => iprop(Φ (cell d 0) ∗ Φ (cell d 1) ∗ Φ (cell d 2) ∗ Φ (cell d 3)) := by
  rw [cells_eq, bigSep_univ_prod (fun x : Dev nD × Fin 4 => Φ (cell x.1 x.2))]
  exact bigSep_congr fun d _ => bigSep_four _
theorem cellToks_dev : (bigSep cellToks fun x => (dutyTok ER x.1 x.2.1 x.2.2 : sProp 𝕄))
    = bigSep Finset.univ fun d : Dev nD => iprop(dutyTok ER (cell d 0) 0 () ∗ dutyTok ER (cell d 1) 0 () ∗ dutyTok ER (cell d 2) 0 () ∗ dutyTok ER (cell d 3) 0 ()) := by
  unfold cellToks
  rw [SparseCore.bigSep_image_of_injOn (Function.Injective.injOn fun a b h => cell_injective (Prod.mk.inj h).1),
    bigSep_univ_prod (fun x : Dev nD × Fin 4 => (dutyTok ER (cell x.1 x.2) 0 () : sProp 𝕄))]
  exact bigSep_congr fun d _ => bigSep_four _

/-- A device's scoped semaphores are its four cells'. -/
theorem scopedSems_eq (d : Dev nD) : (scopedSems0 (d.tc : Thread nD τ) : sProp 𝕄) = zeros d := by
  rw [show (scopedSems0 (d.tc : Thread nD τ) : sProp 𝕄) = _ from scopedSems0_tc d,
    show (Finset.univ.filter fun sm : SemLoc sig => sm.isScoped .tc) = Finset.univ.image asem by decide,
    SparseCore.bigSep_image_of_injOn (Function.Injective.injOn fun a b h => by rw [← cellOf_asem a, ← cellOf_asem b, h]), bigSep_four]
  rfl
/-- It has no scoped buffer. -/
theorem scopedBufs_eq (d : Dev nD) : (scopedBufs (d.tc : Thread nD τ) : sProp 𝕄) = BI.emp := by
  rw [show (scopedBufs (d.tc : Thread nD τ) : sProp 𝕄) = _ from scopedBufs_tc d,
    show (Finset.univ.filter fun b : Ref sig .tc => b.isScoped) = ∅ by decide, bigSep_empty]

/-! ## Passing to the sibling -/

/-- The tokens of each device's own cells make the tokens of the duties each device pays. -/
theorem toks_deal : (bigSep cellToks fun x => (dutyTok ER x.1 x.2.1 x.2.2 : sProp 𝕄)) ⊢ bigSep Finset.univ fun d => toks d := by
  rw [cellToks_dev]
  unfold toks
  simp only [bigSep_sep']
  rw [BI.bigSep_univ_equiv pairs (fun d => (dutyTok ER (cell d 2) 0 () : sProp 𝕄)),
    BI.bigSep_univ_equiv pairs (fun d => (dutyTok ER (cell d 3) 0 () : sProp 𝕄))]
  iintro ⟨H0, H1, H2, H3⟩
  isplitl [H0 H1]
  · isplitl [H0]; · iexact H0
    iexact H1
  isplitl [H2]; · iexact H2
  iexact H3

/-- Every device's arrays as the launch leaves them make what each device starts from. -/
theorem mems_deal (f0 : (d : Dev nD) → Buf (Elt F) (loc_r0 d)) (f1 : (d : Dev nD) → Buf (Elt F) (loc_r1 d)) :
    (bigSep Finset.univ fun d => iprop((loc_a0 d ↦{fullShare} X.1 d) ∗ (loc_a1 d ↦{fullShare} X.2 d)
        ∗ (loc_r0 d ↦{fullShare} f0 d) ∗ (loc_r1 d ↦{fullShare} f1 d)) : sProp 𝕄) ⊢ bigSep Finset.univ fun d => mems X d := by
  unfold mems
  simp only [bigSep_sep']
  rw [BI.bigSep_univ_equiv pairs (fun d => (loc_r0 d ↦{fullShare} f0 d : sProp 𝕄)),
    BI.bigSep_univ_equiv pairs (fun d => (loc_r1 d ↦{fullShare} f1 d : sProp 𝕄))]
  have h0 : (bigSep Finset.univ fun d => (loc_r0 (sib d) ↦{fullShare} f0 (sib d) : sProp 𝕄))
      ⊢ bigSep Finset.univ fun d => iprop(∃ f, loc_r0 (sib d) ↦{fullShare} f) := bigSep_mono fun d _ => exists_intro (Φ := fun f => (loc_r0 (sib d) ↦{fullShare} f : sProp 𝕄)) (f0 (sib d))
  have h1 : (bigSep Finset.univ fun d => (loc_r1 (sib d) ↦{fullShare} f1 (sib d) : sProp 𝕄))
      ⊢ bigSep Finset.univ fun d => iprop(∃ f, loc_r1 (sib d) ↦{fullShare} f) := bigSep_mono fun d _ => exists_intro (Φ := fun f => (loc_r1 (sib d) ↦{fullShare} f : sProp 𝕄)) (f1 (sib d))
  exact BI.sep_mono (.refl _) (BI.sep_mono (.refl _) (BI.sep_mono h0 h1))

/-! ## The allocation -/

theorem alloc : iprop((bigSep cells fun g => (semVal g 0 : sProp 𝕄)) ∗ bigSep cells fun g => roundState ER (Rd X) g 0)
    ⊢ |={Set.univ}=> iprop(∃ κ : Dev nD × Fin 4 → ℕ, bigSep Finset.univ fun x : Dev nD × Fin 4 => cellInv ER (Rd X) (κ x) (cell x.1 x.2)) := by
  refine (Rounds.bodies_intro ER (Rd X) cells).trans ((inv_alloc_family cells (Rounds.body ER (Rd X)) ∅ (E := Set.univ)).trans ?_)
  iintro H
  imod H with ⟨%κ, -, Hinv⟩
  imodintro; iexists fun x => κ (cell x.1 x.2)
  iapply (SparseCore.ent (Entails.of_eq (cells_eq (fun g => (cellInv ER (Rd X) (κ g) g : sProp 𝕄)))))
  iexact Hinv

/-- The launch element: no round for the pipeline, which has no window; the swap's cells. -/
def u₀ : UU := (initOf ∅ ∅, initOf cells cellToks)

/-- What a device has at the launch, beside what it owes. -/
def given (f0 : (d : Dev nD) → Buf (Elt F) (loc_r0 d)) (f1 : (d : Dev nD) → Buf (Elt F) (loc_r1 d)) (d : Dev nD) : sProp 𝕄 :=
  iprop(zeros d ∗ ((loc_a0 d ↦{fullShare} X.1 d) ∗ (loc_a1 d ↦{fullShare} X.2 d) ∗ (loc_r0 d ↦{fullShare} f0 d) ∗ (loc_r1 d ↦{fullShare} f1 d))
    ∗ cred (tallyAt (cell d 3) () N1) ∗ cred (tallyAt (cell d 2) () N0))

theorem start_split : (bigSep Finset.univ fun d => start X d : sProp 𝕄)
    = iprop((bigSep Finset.univ fun _ : Dev nD => iprop(∃ κ, Ctx X κ)) ∗ (bigSep Finset.univ fun d => toks d) ∗ (bigSep Finset.univ fun d => ats d)
      ∗ (bigSep Finset.univ fun d => mems X d) ∗ bigSep Finset.univ fun d : Dev nD => iprop(cred (tallyAt (cell d 3) () N1) ∗ cred (tallyAt (cell d 2) () N0))) := by
  unfold start
  rw [bigSep_sep', bigSep_sep', bigSep_sep', bigSep_sep']

theorem deal (f0 : (d : Dev nD) → Buf (Elt F) (loc_r0 d)) (f1 : (d : Dev nD) → Buf (Elt F) (loc_r1 d)) :
    iprop((bigSep Finset.univ fun d => given X f0 f1 d) ∗ ownU u₀) ⊢ |={Set.univ}=> (bigSep Finset.univ fun d => start X d : sProp 𝕄) := by
  unfold given u₀
  rw [bigSep_sep', bigSep_sep']
  iintro ⟨⟨Hz, Hm, Hcred⟩, Hu⟩
  ihave H := (ownU_split _ _) $$ Hu
  icases H with ⟨-, HA⟩
  imod (Rounds.fund ER (Rd X) cells cellToks) $$ HA with ⟨Hst, #Hr, Hat, Htok⟩
  ihave Hz' := (SparseCore.ent (Entails.of_eq ((cells_dev (F := F) fun g => semVal g 0).trans (by unfold zeros; rfl)).symm)) $$ Hz
  imod (alloc X) $$ [Hz' Hst] with ⟨%κ, #Hinv⟩
  · isplitl [Hz'] <;> iassumption
  ihave Hr' := (Entails.of_eq (cells_eq (F := F) fun g => reached ER g 0)) $$ Hr
  ihave Hat' := (Entails.of_eq (cells_dev (F := F) fun g => atPos ER g 0 ∅ 0)) $$ Hat
  ihave Htok' := toks_deal $$ Htok
  ihave Hm' := (mems_deal X f0 f1) $$ Hm
  imodintro
  iapply (SparseCore.ent (Entails.of_eq (start_split X).symm))
  isplitr
  · iapply (BI.bigSep_intro_persistent (S := Finset.univ) fun (d : Dev nD) _ => (BI.Entails.refl (iprop(∃ κ, Ctx X κ) : sProp 𝕄)))
    iexists κ
    unfold Ctx
    isplitl; · iexact Hinv
    iexact Hr'
  isplitl [Htok']; · iexact Htok'
  isplitl [Hat']; · unfold ats; iexact Hat'
  isplitl [Hm']; · iexact Hm'
  iexact Hcred

end Cert.Swapping

end
-- ==== Proof.SwapLaunch.lean ====
/-
  The swap's launch: the kernel's region at its call, from what the launch gives each device, and the machine's run.
-/
module

public import proofs.«01_k».proof.Proof.SwapAlloc

@[expose] public section

noncomputable section

namespace Cert.Swapping

open Cert.SwapIdeal Cert.SwapIdeal.Gen
open Idealize.ShloMosaic
open TcCoe
open Idealize.SL RA BI BI.BIBase BI.Laws ProofMode Sem
open Rounds
open Pipeline (Dat Cfg BodyObligation)

variable {F : FTy → Type} [FloatOps F]

local notation "𝕄" => MT nD τ sig Unit (Elt F) ℕ UU ℕ

variable (X : Srcs F)

/-! ## The region -/

/-- The region has no window; its one step takes a device from `start` to `finish`. -/
def dat (c : Dev nD) : Dat τ (Elt F) Unit ℕ UU ℕ cfg0 c where
  A w := w.elim0
  after w := w.elim0
  Φ t := if t.val = 0 then start X c else finish X c
  q w := w.elim0
  owed t := if t.val = 0 then O₀ c else 0

def adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat X c

theorem last_ne : ¬ (Fin.last cfg0.N).val = 0 := by rw [Fin.val_last, show cfg0.N = 1 from N_0]; decide
theorem Φ_last (c : Dev nD) : (dat X c).Φ (Fin.last cfg0.N) = finish X c := by dsimp only [dat]; rw [if_neg last_ne]
theorem owed_last (c : Dev nD) : (dat X c).owed (Fin.last cfg0.N) = 0 := by dsimp only [dat]; rw [if_neg last_ne]

/-- What the region records of the waits is nothing to hold to. -/
theorem owes_at (c : Dev nD) (t : Fin (cfg0.N + 1)) : (dat X c).owesAt () t ⊢ (iprop(∃ W, owes (c.tc : Thread nD τ) ((dat X c).owed t) W) : sProp 𝕄) := by
  unfold Dat.owesAt Pipeline.owesWithin
  iintro ⟨%W, -, HO⟩
  iexists W; iexact HO
theorem owes_at_intro (c : Dev nD) (t : Fin (cfg0.N + 1)) (W : Waits sig Unit) :
    (owes (c.tc : Thread nD τ) ((dat X c).owed t) W : sProp 𝕄) ⊢ (dat X c).owesAt () t := by
  unfold Dat.owesAt Pipeline.owesWithin Dat.bound
  rw [show (dat X c).recorded t = Set.univ from rfl]
  iintro HO
  iexists W
  isplitr; · ipureintro; exact fun _ _ => Or.inl trivial
  iexact HO

theorem body_obl (c : Dev nD) : BodyObligation (dat X c) (defs₀ (F := F)) 𝒱₀ () Set.univ := fun t => by
  obtain rfl := fin_N0 t
  rw [bigSep_none0, bigSep_none0]
  rw [show (dat X c).Φ t0_0.castSucc = start X c from rfl, show (dat X c).Φ t0_0.succ = finish X c from rfl]
  iintro ⟨HΦ, HO, -⟩
  ihave HO' := (owes_at X c t0_0.castSucc) $$ HO
  icases HO' with ⟨%W, HO⟩
  iapply (wp_wand frame (wpE (defs₀ (F := F)) 𝒱₀ (c.tc : Thread nD τ) none) Set.univ) $$ [HΦ HO]
  · iapply (body_run X c W)
    isplitl [HΦ]; · iexact HΦ
    iexact HO
  iintro %a ⟨HF, ⟨%W', HO⟩⟩
  isplitl [HF]; · iexact HF
  isplitl [HO]; · iapply (owes_at_intro X c t0_0.succ W'); iexact HO
  iempintro

/-! ## The kernel at its call -/

/-- What a device enters @main with, and leaves it with. -/
def pre (c : Dev nD) : sProp 𝕄 := iprop(start X c ∗ owes (c.tc : Thread nD τ) (O₀ c) ∅)
def fin (c : Dev nD) : sProp 𝕄 := iprop(swapped X c ∗ scopedSems0 (c.tc : Thread nD τ))

theorem main_wp [∀ e, Nonempty (Elt F e)] (c : Dev nD) : pre X c
    ⊢ wp frame (wpE (defs (F := F)) (Variants.lift 𝒱₀) (c.tc : Thread nD τ) none) Set.univ (main (F := F) c)
        fun _ => post (liftTc (fin X) BI.emp) (c.tc : Thread nD τ) := by
  have hbufs : (scopedBufs (c.tc : Thread nD τ) : sProp 𝕄) ⊢ iprop(Dat.staging (Pipeline.pin (pcfgs (F := F)) adm 0) c ∗ BI.emp) := by
    rw [scopedBufs_eq, show (Dat.staging (Pipeline.pin (pcfgs (F := F)) adm 0) c : sProp 𝕄) = BI.emp from bigSep_none0 _]
    iintro H; isplitr; · iempintro
    iexact H
  have hin : iprop(start X c ∗ Pipeline.prefHeld (pcfgs (F := F) 0).pre c (fun _ => fullShare) (adm (F := F) 0).1 ∗ BI.emp) ⊢ (pdats X 0 c).Φ 0 := by
    rw [show (pdats X 0 c).Φ 0 = start X c from rfl]
    iintro ⟨H, -, -⟩; iexact H
  have hout : iprop((pdats X 0 c).Φ (Fin.last cfg0.N) ∗ Pipeline.cellsSems0 (Pipeline.pin (pcfgs (F := F)) adm) 0 c
        ∗ Dat.staging (Pipeline.pin (pcfgs (F := F)) adm 0) c ∗ BI.emp)
      ⊢ iprop(swapped X c ∗ scopedSems0 (c.tc : Thread nD τ) ∗ scopedBufs (c.tc : Thread nD τ)) := by
    rw [show (pdats X 0 c).Φ (Fin.last cfg0.N) = finish X c from Φ_last X c, scopedSems_eq, scopedBufs_eq]
    unfold finish
    iintro ⟨⟨Hs, Hz⟩, -, -, -⟩
    isplitl [Hs]; · iexact Hs
    isplitl [Hz]; · iexact Hz
    iempintro
  have hrun := Pipeline.wp_customCall_entry_frame (pcfgs (F := F)) adm (pdats X) () EP (fun _ => 0) cellOf_inj 0 (defs₀ (F := F)) 𝒱₀ (fun _ => fullShare) c Set.univ
    (fun _ _ => Set.mem_univ _) (body_obl X c).loose block_pos0 none (fun u h => nomatch h) hbufs hin hout (α := PUnit) (k := fun _ => .ret ⟨⟩)
    (Q := fun _ => post (liftTc (fin X) BI.emp) (c.tc : Thread nD τ))
  refine BI.Entails.trans ?_ (BI.wand_elim hrun)
  rw [scopedBufs_eq, wp_ret]
  have hnone (Φ : Fin 0 → sProp 𝕄) : (BI.emp : sProp 𝕄) ⊢ bigSep Finset.univ Φ := SparseCore.ent (Entails.of_eq (bigSep_none0 Φ).symm)
  have h1 : (BI.emp : sProp 𝕄) ⊢ (pdats X 0 c).arrays fun w => (pdats X 0 c).arrAt w 0 := hnone _
  have h2 : (BI.emp : sProp 𝕄) ⊢ Pipeline.PerCore.cellsWaits (fun _ => Pipeline.pin pcfgs adm) (pdats X) () 0 c := hnone _
  have h3 : (BI.emp : sProp 𝕄) ⊢ Pipeline.PerCore.cellsInit (fun _ => Pipeline.pin pcfgs adm) (pdats X) EP (fun _ => 0) 0 c := hnone _
  have h4 : (BI.emp : sProp 𝕄) ⊢ Pipeline.PerCore.toksInit (fun _ => Pipeline.pin (pcfgs (F := F)) adm) EP 0 c := hnone _
  have h5 : (BI.emp : sProp 𝕄) ⊢ Pipeline.prefHeld (pcfgs (F := F) 0).pre c (fun _ => fullShare) (adm (F := F) 0).1 := hnone _
  have hlast : (pdats X 0 c).owesAt () (Fin.last (Pipeline.pin (pcfgs (F := F)) adm 0).N) ⊢ (iprop(∃ W, owes (c.tc : Thread nD τ) 0 W) : sProp 𝕄) := by
    have h := owes_at X c (Fin.last cfg0.N)
    rw [owed_last] at h
    exact h
  simp only [Pipeline.EntryPre, Pipeline.PerCore.EntryPre, Pipeline.EntryPost, Pipeline.PerCore.EntryPost]
  unfold pre
  show (_ : sProp 𝕄) ⊢ iprop(((_ ∗ _ ∗ _ ∗ _ ∗ _) ∗ _ ∗ _ ∗ _ ∗ _) ∗ (_ -∗ _))
  iintro ⟨HX, HO⟩
  isplitl
  · isplitl [HO]
    · isplitr; · iapply h1; iempintro
      isplitl [HO]; · iapply (owes_at_intro X c 0 ∅); iexact HO
      isplitr; · iapply h2; iempintro
      isplitr; · iapply h3; iempintro
      iapply h4; iempintro
    isplitr; · iapply h5; iempintro
    isplitl [HX]; · iexact HX
    isplitr <;> iempintro
  iintro ⟨⟨-, HO⟩, HF, Hss, -⟩
  imodintro
  unfold post
  simp only [liftTc_tc, fin]
  ihave HO' := hlast $$ HO
  isplitl [HF Hss]; · isplitl [HF] <;> iassumption
  iexact HO'

/-! ## The machine's run -/

/-- The swapped arrays, as the machine starts. -/
def srcs (m : (ℓ : Loc nD τ sig) → Buf (Elt F) ℓ) : Srcs F := (fun d => m (loc_a0 d), fun d => m (loc_a1 d))

theorem core_given (m : (ℓ : Loc nD τ sig) → Buf (Elt F) ℓ) (ρ : Dev nD → PrngReg) (c : Dev nD) :
    coreInit (Pipeline.owing O₀) 0 (⟨m, fun _ => 0, ρ⟩ : MemSt nD τ sig (Elt F)) (c.tc : Thread nD τ)
      ⊢ (iprop(given (srcs m) (fun d => m (loc_r0 d)) (fun d => m (loc_r1 d)) c ∗ owes (c.tc : Thread nD τ) (O₀ c) ∅) : sProp 𝕄) := by
  refine (Pipeline.coreInit_boundary_owing O₀ m ρ c).trans ?_
  rw [Pipeline.unscopedBufs_split cfgs 0 winFacts0.arr_unscoped (fun a => a.elim0) c, unscopedRest0_eq]
  unfold boundary given
  rw [scopedSems_eq]
  iintro ⟨⟨-, Hz, -⟩, ⟨-, Hm⟩, -, HO, -, -, Hcr⟩
  ihave Hcr' := (launchCred_O₀ c) $$ Hcr
  isplitr [HO]
  · isplitl [Hz]; · iexact Hz
    isplitl [Hm]; · iexact Hm
    iexact Hcr'
  iexact HO

/-- What the devices end with, read in the machine's state. -/
theorem core_read (c : Dev nD) (s' : Phys nD τ sig (Elt F)) : iprop(fin X c ∗ SI s')
    ⊢ (iprop(|={Set.univ}=> (⌜(s'.mem.mem (loc_a0 c) = X.1 c ∧ s'.mem.mem (loc_a1 c) = X.2 c
        ∧ s'.mem.mem (loc_r0 c) = X.1 (sib c) ∧ s'.mem.mem (loc_r1 c) = X.2 (sib c))
        ∧ ∀ sm : SemLoc sig, sm.isScoped .tc = true → s'.mem.sem ((c.tc : Thread nD τ), sm) = 0⌝ ∗ SI s')) : sProp 𝕄) := by
  unfold fin swapped
  iintro ⟨⟨⟨H0, H1, H2, H3⟩, Hss⟩, HSI⟩
  ihave %hz := (tcScoped_read_pers c s') $$ [Hss HSI]
  · isplitl [Hss] <;> iassumption
  ihave H := (persistent_entails_right (SI_pointsTo_agree (st := s') (ℓ := loc_a0 c) (I := Finset.univ) (q := fullShare) (f := X.1 c))) $$ [HSI H0]
  · isplitl [HSI] <;> iassumption
  icases H with ⟨%e0, HSI, -⟩
  ihave H := (persistent_entails_right (SI_pointsTo_agree (st := s') (ℓ := loc_a1 c) (I := Finset.univ) (q := fullShare) (f := X.2 c))) $$ [HSI H1]
  · isplitl [HSI] <;> iassumption
  icases H with ⟨%e1, HSI, -⟩
  ihave H := (persistent_entails_right (SI_pointsTo_agree (st := s') (ℓ := loc_r0 c) (I := Finset.univ) (q := fullShare) (f := X.1 (sib c)))) $$ [HSI H2]
  · isplitl [HSI] <;> iassumption
  icases H with ⟨%e2, HSI, -⟩
  ihave H := (persistent_entails_right (SI_pointsTo_agree (st := s') (ℓ := loc_r1 c) (I := Finset.univ) (q := fullShare) (f := X.2 (sib c)))) $$ [HSI H3]
  · isplitl [HSI] <;> iassumption
  icases H with ⟨%e3, HSI, -⟩
  imodintro
  isplitr
  · ipureintro
    exact ⟨⟨Buf.eq_of_forall_mem_univ e0, Buf.eq_of_forall_mem_univ e1, Buf.eq_of_forall_mem_univ e2, Buf.eq_of_forall_mem_univ e3⟩, hz⟩
  iexact HSI

/-- The machine's run: every device's arrays as they were, its result arrays its sibling's arrays, every counter zero. -/
theorem run_main [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => (∀ d, r.2.mem (loc_a0 d) = m (loc_a0 d) ∧ r.2.mem (loc_a1 d) = m (loc_a1 d)
        ∧ r.2.mem (loc_r0 d) = m (loc_a0 (sib d)) ∧ r.2.mem (loc_r1 d) = m (loc_a1 (sib d))) ∧ r.2.sem = fun _ => 0) := by
  refine (θ_run (defs (F := F)) _ _).mono (Q := fun r => (∀ c : Dev nD, (r.2.mem (loc_a0 c) = m (loc_a0 c) ∧ r.2.mem (loc_a1 c) = m (loc_a1 c)
        ∧ r.2.mem (loc_r0 c) = m (loc_a0 (sib c)) ∧ r.2.mem (loc_r1 c) = m (loc_a1 (sib c)))
        ∧ ∀ sm : SemLoc sig, sm.isScoped .tc = true → r.2.sem ((c.tc : Thread nD τ), sm) = 0) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (Ix := Unit) (Name := ℕ) (U := UU) (Lvl := ℕ) (X := Unit) (Variants.lift 𝒱₀) (Pipeline.owing O₀) 0 (noBookings fun _ => le_rfl)
        (Pipeline.owing_of_ne O₀) u₀ (fun _ => pre (srcs m)) (fun _ => fin (srcs m)) (fun _ => iprop(emp)) Set.univ ?_ (fun _ c => main_wp (srcs m) c) fun _ => ?_))
  · have hcores := bigSep_mono (s := Finset.univ) fun (c : Dev nD) _ => core_given m ρ c
    iintro ⟨Hc, Hu⟩
    ihave H := (SparseCore.ent hcores) $$ Hc
    ihave H := (SparseCore.ent (Entails.of_eq (bigSep_sep' _ _ _))) $$ H
    icases H with ⟨Hg, HO⟩
    imod (deal (srcs m) _ _) $$ [Hg Hu] with Hs
    · isplitl [Hg] <;> iassumption
    imodintro
    iexists ()
    isplitr []
    · unfold pre
      iapply (SparseCore.ent (Entails.of_eq (bigSep_sep' _ _ _).symm))
      isplitl [Hs] <;> iassumption
    · iempintro
  · iintro ⟨H, -, Hsc⟩ %s' HSI
    ihave %hsc := (scSems_read_zero m ρ s') $$ [Hsc HSI]
    · isplitl [Hsc] <;> iassumption
    imod (posts_fupd Finset.univ (core_read (srcs m)) s') $$ [H HSI] with %h
    · isplitl [H] <;> iassumption
    imodintro
    ipureintro
    exact ⟨fun c => h c (Finset.mem_univ c), hsc⟩

end Cert.Swapping

end
-- ==== Proof.SwapRows.lean ====
/-
  The values of the swap: the reference turns every pair of blocks round, so a device's block of its result is its
  sibling's block of its argument.
-/
module

public import proofs.«01_k».proof.Proof.SwapSetup
public import Idealize.ShloMosaic.Lib.Layout
public import Idealize.ShloMosaic.Lib.Pipeline.Value
public import Idealize.ShloMosaic.Lib.ValueIdxCore

@[expose] public section

noncomputable section

namespace Cert.Swapping

open Idealize.ShloMosaic ValueIdx Cert.SwapIdeal

variable {α : Type}

theorem sib_val (d : Dev nD) : (sib d).val = d.val / 2 * 2 + (1 - d.val % 2) := by revert d; decide

theorem turned_block (A B N : ℕ) (V : (⟨2, ![N, B]⟩ : Shape).Idx → α) (d : Dev nD)
    (h1 : (⟨2, ![N, B]⟩ : Shape).ShapeCasts ⟨4, ![4, 2, A, B]⟩) (h2 : (⟨4, ![4, 2, A, B]⟩ : Shape).ShapeCasts ⟨2, ![N, B]⟩)
    (hS : Layout.Tiles ⟨2, ![A, B]⟩ ⟨2, ![N, B]⟩ 0 8) :
    Layout.block ⟨2, ![A, B]⟩ ⟨2, ![N, B]⟩ 0 8 (sib d) V hS
      = Layout.block ⟨2, ![A, B]⟩ ⟨2, ![N, B]⟩ 0 8 d
          (shapeCast ⟨2, ![N, B]⟩ (Host.reverse [1] (shapeCast ⟨4, ![4, 2, A, B]⟩ V h1)) h2) hS := by
  funext j
  have hd : d.val < 8 := d.isLt
  rw [Layout.block_apply, Layout.block_apply,
    shapeCast_apply _ h2 (hS.idx d j) (ix4 (⟨d.val / 2, by omega⟩ : Fin 4) (⟨d.val % 2, by omega⟩ : Fin 2) (j 0) (j 1)) (by
      rw [Shape.rowMajor_val_two, Shape.rowMajor_val_four]
      simp only [Layout.Tiles.idx_val]
      show ((d.val / 2 * 2 + d.val % 2) * A + (j 0).val) * B + (j 1).val = (d.val * A + (j 0).val) * B + (j 1).val
      rw [show d.val / 2 * 2 + d.val % 2 = d.val by omega])]
  refine (shapeCast_apply V h1 _ (hS.idx (sib d) j) ?_).symm
  rw [Shape.rowMajor_val_two, Shape.rowMajor_val_four]
  simp only [Layout.Tiles.idx_val]
  show ((sib d).val * A + (j 0).val) * B + (j 1).val = ((d.val / 2 * 2 + (2 - (d.val % 2 + 1))) * A + (j 0).val) * B + (j 1).val
  rw [sib_val, show 2 - (d.val % 2 + 1) = 1 - d.val % 2 by omega]

end Cert.Swapping

end
-- ==== Proof.FirstSetup.lean ====
/-
  The program of the first layer's gather, its one array and the cells its protocol runs on. The call is the gather's for
  one array, on the TensorCore and without a barrier: LANE `n` carries the array in two MOVES, in the first from a device
  to its chip partner `n`, in the second what chip partner `n` sent on to the sibling. Every device has one send and one
  receive cell per lane and move, and one cell for the copy of its own chip.
-/
module

public import proofs.«01_k».proof.Proof.GatherPieces
public import proofs.«01_k».proof.Proof.Gen.FirstIdeal.Skeleton
public import proofs.«01_k».proof.Proof.Gen.FirstIdeal.Launch
public import proofs.«01_k».proof.Proof.Gen.FirstIdeal.Points
public import Idealize.ShloMosaic.Lib.Pipeline.Launch
public import Idealize.ShloMosaic.Lib.Quiescent
public import Idealize.ShloMosaic.Lib.ShareLeaves
public import Idealize.ShloMosaic.Lib.SparseCore.Quiescent
public import Idealize.ShloMosaic.Lib.Tactic

@[expose] public section

noncomputable section

namespace Cert.Opening

open Cert.FirstIdeal Cert.FirstIdeal.Gen
open Cert.Gathering (SrcS DstS HalfS SlotS ChipS FlatS halfOff slotOff chipOff halfR slotR chipR slotSet chipSet slots_disjoint
  slots_cover chip_eq halfR_emb slotR_emb chipR_emb gathered gathered_other gathered_own across sib across_across across_ne sib_chip)
open Idealize.ShloMosaic ValueIdx
open TcCoe
open Idealize.SL RA BI BI.BIBase BI.Laws ProofMode Sem
open Rounds

variable {F : FTy → Type}

abbrev 𝒱₀ : Variants := Variants.none

/-! ## The ghost state: the pipeline's rounds, the gather's rounds -/

abbrev UR : Type := URounds (GSem nD τ sig) Unit
abbrev UU : Type := UR × UR

local notation "𝕄" => MT nD τ sig Unit (Elt F) ℕ UU ℕ

def EP : Emb UR (MT nD τ sig Unit (Elt F) ℕ UU ℕ) :=
  (Emb.inl : Emb UR UU).trans (uEmb (nD := nD) (sig := sig) (Ix := Unit) (Val := Elt F) (Name := ℕ) (U := UU) (Lvl := ℕ)).toEmb
def ER : Emb UR (MT nD τ sig Unit (Elt F) ℕ UU ℕ) :=
  (Emb.inr : Emb UR UU).trans (uEmb (nD := nD) (sig := sig) (Ix := Unit) (Val := Elt F) (Name := ℕ) (U := UU) (Lvl := ℕ)).toEmb

instance EP_landsIn : (EP : Emb UR 𝕄).LandsIn (upEmb : UEmb _ 𝕄) := by unfold EP; infer_instance
instance ER_landsIn : (ER : Emb UR 𝕄).LandsIn (upEmb : UEmb _ 𝕄) := by unfold ER; infer_instance

theorem ownU_split (a b : UR) : (ownU (a, b) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op b)))

/-! ## Where the moves go -/

/-- A lane's chip partner, as a device. -/
abbrev cp (d : Dev nD) (n : Fin 3) : Dev nD := across d n.castSucc
/-- Where move `b` of lane `n` goes from device `d`, -/
def dest (b : Fin 2) (d : Dev nD) (n : Fin 3) : Dev nD := if b = 0 then cp d n else sib d
/-- the slot of device `d` that move `b` of lane `n` arrives in. -/
def lands (b : Fin 2) (d : Dev nD) (n : Fin 3) : Dev nD := if b = 0 then cp d n else cp (sib d) n
theorem dest_dest (b : Fin 2) (d : Dev nD) (n : Fin 3) : dest b (dest b d n) n = d := by revert b d n; decide
theorem lands_dest_zero (d : Dev nD) (n : Fin 3) : lands 0 (dest 0 d n) n = d := by revert d n; decide
theorem lands_dest_one (d : Dev nD) (n : Fin 3) : lands 1 (dest 1 d n) n = cp d n := by revert d n; decide
theorem lands_chip (b : Fin 2) (d : Dev nD) (n : Fin 3) : (lands b d n).val / 2 ≠ d.val / 2 := by revert b d n; decide
/-- Going along a lane's move, as a permutation of the devices. -/
def along (b : Fin 2) (n : Fin 3) : Dev nD ≃ Dev nD := ⟨fun d => dest b d n, fun d => dest b d n, fun d => dest_dest b d n, fun d => dest_dest b d n⟩

/-! ## The array -/

abbrev Rows : ℕ := 512
abbrev Cols : ℕ := 898
abbrev SrcSh : Shape := SrcS Rows Cols
abbrev DstSh : Shape := DstS Rows Cols
abbrev FlatSh : Shape := FlatS Rows Cols

/-- The source and the gathered array, as the kernel names them. -/
abbrev srcM : Memref sig .tc .hbm SrcSh .bf16 := Memref.whole main_arg0
abbrev dstM : Memref sig .tc .hbm DstSh .bf16 := Memref.whole main_v1
/-- Where device `d` keeps them. -/
abbrev loc_src (d : Dev nD) : Loc nD τ sig := (d.tc : Thread nD τ).loc main_arg0
abbrev loc_dst (d : Dev nD) : Loc nD τ sig := (d.tc : Thread nD τ).loc main_v1

/-- The half of the source that core `d % 2` sends; -/
abbrev halfV (d : Dev nD) : Memref sig .tc .hbm FlatSh .bf16 :=
  (srcM.slice (halfR Rows Cols d) (fun _ => rfl)).squeeze FlatSh squeezes_S1x512x898_S512x898
/-- slot `q` of the gathered array; -/
abbrev slotV (q : Dev nD) : Memref sig .tc .hbm FlatSh .bf16 :=
  (dstM.slice (slotR Rows Cols q) (fun _ => rfl)).squeeze FlatSh squeezes_S1x1x512x898_S512x898
/-- the two slots of `d`'s chip there. -/
abbrev chipV (d : Dev nD) : Memref sig .tc .hbm SrcSh .bf16 :=
  (dstM.slice (chipR Rows Cols d) (fun _ => rfl)).squeeze SrcSh squeezes_S1x2x512x898_S2x512x898

theorem set_slotV (q : Dev nD) : (slotV q).view.set = (slotSet Rows Cols q).map dstM.view.emb :=
  (View.set_reshape _ _).trans (View.set_slice _ _)
theorem set_chipV (d : Dev nD) : (chipV d).view.set = (chipSet Rows Cols d).map dstM.view.emb :=
  (View.set_reshape _ _).trans (View.set_slice _ _)
theorem set_dstM : (Finset.univ.map dstM.view.emb : Finset dstM.view.ty.Idx) = Finset.univ := View.set_whole _
theorem set_srcM : srcM.view.set = Finset.univ := View.set_whole _

/-- Slot `q`'s elements, as elements of the array. -/
abbrev slotIdxs (q : Dev nD) : Finset dstM.view.ty.Idx := (slotV q).view.set
theorem slotsV_disjoint (q q' : Dev nD) (h : q ≠ q') : Disjoint (slotIdxs q) (slotIdxs q') := by
  rw [show slotIdxs q = _ from set_slotV q, show slotIdxs q' = _ from set_slotV q']; exact (Finset.disjoint_map _).mpr (slots_disjoint _ _ q q' h)
theorem slotsV_cover : (Finset.univ : Finset (Dev nD)).biUnion (fun q => slotIdxs q) = Finset.univ := by
  rw [← set_dstM, ← slots_cover Rows Cols]
  ext i
  simp only [set_slotV, Finset.mem_biUnion, Finset.mem_map, Finset.mem_univ, true_and]
  constructor
  · rintro ⟨q, x, hx, rfl⟩; exact ⟨x, ⟨q, hx⟩, rfl⟩
  · rintro ⟨x, ⟨q, hx⟩, rfl⟩; exact ⟨q, x, hx, rfl⟩
theorem chipV_eq (d : Dev nD) : (chipV d).view.set = slotIdxs d ∪ slotIdxs (sib d) := by
  rw [show slotIdxs d = _ from set_slotV d, show slotIdxs (sib d) = _ from set_slotV (sib d), set_chipV, chip_eq, Finset.map_union]

/-- The source holding `v`, the gathered array holding `v`. -/
abbrev srcBuf (d : Dev nD) (v : SrcSh.Idx → Elt F .bf16) : Buf (Elt F) (loc_src d) := v
abbrev dstBuf (d : Dev nD) (v : DstSh.Idx → Elt F .bf16) : Buf (Elt F) (loc_dst d) := v

theorem read_halfV (d : Dev nD) (v : SrcSh.Idx → Elt F .bf16) (x : FlatSh.Idx) :
    (halfV d).view.read (Elt F) (srcBuf d v) x = v (ix3 (⟨d.val % 2, by omega⟩ : Fin 2) (x 0 : Fin Rows) (x 1 : Fin Cols)) :=
  (show _ = v ((halfR Rows Cols d).emb (Shape.reshapeEquiv squeezes_S1x512x898_S512x898.numel_eq x)) from rfl).trans (by rw [halfR_emb]; rfl)
theorem read_slotV (p q : Dev nD) (v : DstSh.Idx → Elt F .bf16) (x : FlatSh.Idx) :
    (slotV q).view.read (Elt F) (dstBuf p v) x
      = v (ix4 (⟨q.val / 2, by have : q.val < 8 := q.isLt; omega⟩ : Fin 4) (⟨q.val % 2, by omega⟩ : Fin 2) (x 0 : Fin Rows) (x 1 : Fin Cols)) :=
  (show _ = v ((slotR Rows Cols q).emb (Shape.reshapeEquiv squeezes_S1x1x512x898_S512x898.numel_eq x)) from rfl).trans (by rw [slotR_emb]; rfl)
theorem read_chipV (p d : Dev nD) (v : DstSh.Idx → Elt F .bf16) (x : SrcSh.Idx) :
    (chipV d).view.read (Elt F) (dstBuf p v) x
      = v (ix4 (⟨d.val / 2, by have : d.val < 8 := d.isLt; omega⟩ : Fin 4) (x 0 : Fin 2) (x 1 : Fin Rows) (x 2 : Fin Cols)) :=
  (show _ = v ((chipR Rows Cols d).emb (Shape.reshapeEquiv squeezes_S1x2x512x898_S2x512x898.numel_eq x)) from rfl).trans (by rw [chipR_emb]; rfl)

/-- What is written through a view is what the view is to hold, if that reads so. -/
theorem write_of_read {κ : Kind} {sp : Space} {s : Shape} {e : EltTy} (v : View sig κ sp s e) (fd fv : v.ty.Contents (Elt F))
    (w : s.Idx → Elt F e) (h : ∀ x, v.read (Elt F) fv x = w x) : ∀ i ∈ v.set, v.write (Elt F) fd w Finset.univ i = fv i := by
  intro i hi
  obtain ⟨x, -, rfl⟩ := Finset.mem_map.mp hi
  rw [View.write_emb_of_mem _ _ (Finset.mem_univ x), ← h x, View.read_apply, cast_cast, cast_eq]

/-- What a move credits its semaphores, and what the copy of the own chip does. -/
def Nslot : ℕ := (slotV 0).view.dmaCredit
def Nchip : ℕ := (chipV 0).view.dmaCredit
theorem Nslot_pos : 0 < Nslot := View.dmaCredit_pos _ (by decide)
theorem Nchip_pos : 0 < Nchip := View.dmaCredit_pos _ (by decide)

/-! ## The cells -/

/-- Of move `b` of a lane the send (0) or receive (1) cell; the own copy's cell. -/
abbrev Own : Type := ((Fin 2 × Fin 2) × Fin 3) ⊕ Unit

/-- The cells' semaphores. -/
def asem : Own → SemLoc sig
  | .inl ((b, r), n) => .dma ⟨3 * (2 * b.val + r.val) + n.val, by show _ < 13; have := b.isLt; have := r.isLt; have := n.isLt; omega⟩
  | .inr _ => .dma ⟨12, by decide⟩
/-- A semaphore's cell. -/
def cellOf : SemLoc sig → Own
  | .reg _ => .inr ()
  | .dma k => if k.val < 12 then .inl ((⟨k.val / 6 % 2, by omega⟩, ⟨k.val / 3 % 2, by omega⟩), ⟨k.val % 3, by omega⟩) else .inr ()
theorem cellOf_asem (x : Own) : cellOf (asem x) = x := by
  rcases x with ⟨⟨b, r⟩, n⟩ | u
  · revert b r n; decide
  · rfl
theorem asem_injective : Function.Injective asem := fun a b e => by rw [← cellOf_asem a, ← cellOf_asem b, e]

/-- Cell `x` of device `d`. -/
abbrev cell (d : Dev nD) (x : Own) : GSem nD τ sig := ((d.tc : Thread nD τ), asem x)
abbrev acell (dx : Dev nD × Own) : GSem nD τ sig := cell dx.1 dx.2
theorem acell_injective : Function.Injective acell := fun a b e => by
  obtain ⟨h1, h2⟩ := Prod.mk.inj e
  exact Prod.ext (Prod.mk.inj h1).1 (asem_injective h2)
abbrev lane (b r : Fin 2) (n : Fin 3) : Own := .inl ((b, r), n)
abbrev copied : Own := .inr ()

/-- The order the launch is run at: a cell's place among the semaphores. -/
def lvl : SemLoc sig → ℕ
  | .reg _ => 0
  | .dma k => k.val

end Cert.Opening

end
-- ==== Proof.FirstSchedule.lean ====
/-
  The protocol of the first layer's gather. Every cell has one round of one duty. A move's SEND cell is paid by the move's
  own copy and hands its source back: a share of the half in the first move, the slot itself in the second. A move's
  RECEIVE cell is paid by the copy of the device at the other end and hands over the slot it has filled. The copy of a
  device's own chip pays the last cell and hands over the chip and the share of the source it read. There is no barrier:
  the slots a device fills elsewhere are its own from the launch on.
-/
module

public import proofs.«01_k».proof.Proof.FirstSetup

@[expose] public section

noncomputable section

namespace Cert.Opening

open Cert.FirstIdeal Cert.FirstIdeal.Gen
open Cert.Gathering (gathered across sib across_ne bigSep_devices)
open Idealize.ShloMosaic
open TcCoe
open Idealize.SL RA BI BI.BIBase BI.Laws ProofMode Sem
open Rounds

variable {F : FTy → Type}

local notation "𝕄" => MT nD τ sig Unit (Elt F) ℕ UU ℕ

/-- The source of every device. -/
abbrev Srcs (F : FTy → Type) : Type := Dev nD → SrcSh.Idx → Elt F .bf16

/-- One device's cells, kind by kind. -/
theorem bigSep_own (Φ : Own → sProp 𝕄) :
    (bigSep Finset.univ Φ : sProp 𝕄)
      = iprop((((bigSep Finset.univ fun n => Φ (lane 0 0 n)) ∗ bigSep Finset.univ fun n => Φ (lane 0 1 n))
            ∗ ((bigSep Finset.univ fun n => Φ (lane 1 0 n)) ∗ bigSep Finset.univ fun n => Φ (lane 1 1 n)))
          ∗ Φ copied) := by
  rw [bigSep_univ_sum, bigSep_univ_prod, bigSep_univ_prod, bigSep_two, bigSep_two, bigSep_two, show (Finset.univ : Finset Unit) = {()} by decide, bigSep_singleton]; rfl

variable (X : Srcs F)

/-! ## What is handed over -/

/-- The share of the source that the move to chip partner `i` reads; the last is the own copy's. -/
abbrev shareOf (i : Fin 4) : PosShare TreeShare := ShareLeaves.leaf 2 fullShare i
/-- The half a device sends, as elements of the source. -/
abbrev halfIdxs (d : Dev nD) : Finset srcM.view.ty.Idx := (halfV d).view.set
abbrev srcOf (d : Dev nD) : Buf (Elt F) (loc_src d) := srcBuf d (X d)
/-- What device `p` ends with. -/
abbrev landed (p : Dev nD) : Buf (Elt F) (loc_dst p) := dstBuf p (gathered Rows Cols X p)

/-- A move's share of the half it sends; -/
def halfPts (i : Fin 4) (d : Dev nD) : sProp 𝕄 := loc_src d ↦[halfIdxs d]{shareOf i} srcOf X d
/-- the own copy's share of the source; -/
def copyPts (d : Dev nD) : sProp 𝕄 := loc_src d ↦[srcM.view.set]{shareOf 3} srcOf X d
/-- slot `q` of device `d`'s array, holding anything; -/
def slotAny (d q : Dev nD) : sProp 𝕄 := iprop(∃ f, loc_dst d ↦[slotIdxs q]{fullShare} f)
/-- the same slot, holding what it is to hold; -/
def slotVal (d q : Dev nD) : sProp 𝕄 := loc_dst d ↦[slotIdxs q]{fullShare} landed X d
/-- a device's own chip, holding anything, -/
def chipAny (d : Dev nD) : sProp 𝕄 := iprop(∃ f, loc_dst d ↦[(chipV d).view.set]{fullShare} f)
/-- and holding what it is to hold. -/
def chipVal (d : Dev nD) : sProp 𝕄 := loc_dst d ↦[(chipV d).view.set]{fullShare} landed X d
/-- The slot that move `b` of lane `n` of device `d` fills, holding anything. -/
abbrev farAny (b : Fin 2) (d : Dev nD) (n : Fin 3) : sProp 𝕄 := slotAny (dest b d n) (lands b (dest b d n) n)
/-- What a move's send cell gives back. -/
def sentPts (b : Fin 2) (d : Dev nD) (n : Fin 3) : sProp 𝕄 := if b = 0 then halfPts X n.castSucc d else slotVal X d (lands 0 d n)
/-- What the cells hand over. -/
def ownPay (d : Dev nD) : Own → sProp 𝕄
  | .inl ((b, r), n) => if r = 0 then sentPts X b d n else slotVal X d (lands b d n)
  | .inr _ => iprop(chipVal X d ∗ copyPts X d)

instance halfPts_storable (i : Fin 4) (d : Dev nD) : BI.Storable (upEmb : UEmb _ 𝕄) (halfPts X i d) := by unfold halfPts; infer_instance
instance copyPts_storable (d : Dev nD) : BI.Storable (upEmb : UEmb _ 𝕄) (copyPts X d) := by unfold copyPts; infer_instance
instance slotVal_storable (d q : Dev nD) : BI.Storable (upEmb : UEmb _ 𝕄) (slotVal X d q) := by unfold slotVal; infer_instance
instance chipVal_storable (d : Dev nD) : BI.Storable (upEmb : UEmb _ 𝕄) (chipVal X d) := by unfold chipVal; infer_instance
instance sentPts_storable (b : Fin 2) (d : Dev nD) (n : Fin 3) : BI.Storable (upEmb : UEmb _ 𝕄) (sentPts X b d n) := by unfold sentPts; split <;> infer_instance
instance ownPay_storable (d : Dev nD) (x : Own) : BI.Storable (upEmb : UEmb _ 𝕄) (ownPay X d x) := by
  rcases x with ⟨⟨b, r⟩, n⟩ | u
  · show BI.Storable upEmb (if r = 0 then sentPts X b d n else slotVal X d (lands b d n))
    split <;> infer_instance
  · unfold ownPay; infer_instance

/-! ## The schedule -/

/-- What a cell is credited. -/
def ownAmount : Own → ℕ
  | .inl _ => Nslot
  | .inr _ => Nchip
theorem ownAmount_pos (x : Own) : 0 < ownAmount x := by
  rcases x with x | u
  exacts [Nslot_pos, Nchip_pos]

/-- The schedule as the rounds library reads it: one round of one duty on every cell of every device. -/
def Rd : Rounds.Schedule (GSem nD τ sig) Unit 𝕄 where
  duties _ r := if r = 0 then {()} else ∅
  unitless _ := False
  amount g _ _ := ownAmount (cellOf g.2)
  payload g _ _ := ownPay X g.1.1 (cellOf g.2)
  amount_pos _ _ _ _ := ownAmount_pos _

instance Rd_payload_storable (g : GSem nD τ sig) (r : ℕ) (s : Unit) : BI.Storable (upEmb : UEmb _ 𝕄) ((Rd X).payload g r s) :=
  ownPay_storable X _ _

theorem duties_zero (g : GSem nD τ sig) : (Rd X).duties g 0 = {()} := rfl
theorem duties_later (g : GSem nD τ sig) : ∀ r, 1 ≤ r → (Rd X).duties g r = ∅ :=
  fun r hr => by dsimp only [Rd]; rw [if_neg (by omega)]
theorem mem_duties (g : GSem nD τ sig) : () ∈ (Rd X).duties g 0 := Finset.mem_singleton_self _
theorem amount_cell (d : Dev nD) (x : Own) (r : ℕ) (s : Unit) : (Rd X).amount (cell d x) r s = ownAmount x := by
  dsimp only [Rd]; rw [cellOf_asem]
theorem payload_cell (d : Dev nD) (x : Own) (r : ℕ) (s : Unit) : (Rd X).payload (cell d x) r s = ownPay X d x := by
  dsimp only [Rd]; rw [cellOf_asem]
theorem expect_cell (d : Dev nD) (x : Own) : (Rd X).expect (cell d x) 0 = ownAmount x := by
  unfold Schedule.expect Schedule.amountOf
  rw [duties_zero, Finset.sum_singleton, amount_cell]
theorem pays_cell (d : Dev nD) (x : Own) :
    bigSep ((Rd X).duties (cell d x) 0 \ ∅) (fun s => (Rd X).payload (cell d x) 0 s) = ownPay X d x := by
  rw [Finset.sdiff_empty, duties_zero, bigSep_singleton, payload_cell]

/-! ## What each device owes from the launch, and is owed -/

/-- The receive credits device `d` owes for the moves `b` of its lanes from `m` on; -/
def moveDebt (b : Fin 2) (d : Dev nD) (m : ℕ) : CellTallies nD τ sig Unit :=
  ∑ n ∈ (fromIx m : Finset (Fin 3)), tallyAt (cell (dest b d n) (lane b 1 n)) () Nslot
/-- everything it owes. -/
def O₀ (d : Dev nD) : CellTallies nD τ sig Unit := moveDebt 1 d 0 + moveDebt 0 d 0

theorem moveDebt_step (b : Fin 2) (d : Dev nD) (n : Fin 3) :
    moveDebt b d n.val = moveDebt b d (n.val + 1) + tallyAt (cell (dest b d n) (lane b 1 n)) () Nslot := by
  unfold moveDebt; rw [fromIx_step, Finset.sum_insert (fromIx_not_mem n), add_comm]
theorem moveDebt_end (b : Fin 2) (d : Dev nD) : moveDebt b d 3 = 0 := by unfold moveDebt; rw [fromIx_end, Finset.sum_empty]
theorem moveDebt_pos {b : Fin 2} {d : Dev nD} {m : ℕ} {g : GSem nD τ sig} {ι : Unit} (h : 0 < moveDebt b d m g ι) :
    ∃ n : Fin 3, g = cell (dest b d n) (lane b 1 n) := by
  unfold moveDebt at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1⟩
  · exact absurd rfl he

/-- The credit device `p` is dealt. -/
abbrev recvCred (b : Fin 2) (p : Dev nD) : sProp 𝕄 := bigSep Finset.univ fun n : Fin 3 => cred (tallyAt (cell p (lane b 1 n)) () Nslot)
theorem bigSep_three (Φ : Fin 3 → sProp 𝕄) : (bigSep Finset.univ Φ : sProp 𝕄) = iprop((Φ 0 ∗ Φ 1) ∗ Φ 2) := by
  rw [show (Finset.univ : Finset (Fin 3)) = insert 2 (insert 0 {1}) by decide, SparseCore.bigSep_insert' (by decide), SparseCore.bigSep_insert' (by decide), bigSep_singleton]
  exact BI.Entails.antisymm BI.sep_comm BI.sep_comm
theorem launchCred_moves (b : Fin 2) (d : Dev nD) :
    (Pipeline.launchCred (Ix := Unit) (Val := Elt F) (Name := ℕ) (U := UU) (Lvl := ℕ) (fun c => moveDebt b c 0) d : sProp 𝕄) ⊢ recvCred b d := by
  have one : ∀ n : Fin 3, (Pipeline.launchCred (Ix := Unit) (Val := Elt F) (Name := ℕ) (U := UU) (Lvl := ℕ) (fun c => tallyAt (cell (dest b c n) (lane b 1 n)) () Nslot) d : sProp 𝕄)
      ⊢ cred (tallyAt (cell d (lane b 1 n)) () Nslot) := fun n =>
    Pipeline.launchCred_tallyAt (asem (lane b 1 n)) (fun c => dest b c n) (fun c => dest b c n) (fun c => dest_dest b c n) (fun c => dest_dest b c n) () Nslot d
  have hsum : (fun c : Dev nD => moveDebt b c 0) = fun c => (tallyAt (cell (dest b c 0) (lane b 1 0)) () Nslot + tallyAt (cell (dest b c 1) (lane b 1 1)) () Nslot)
      + tallyAt (cell (dest b c 2) (lane b 1 2)) () Nslot := by
    funext c; unfold moveDebt; rw [fromIx_zero, Fin.sum_univ_three]
  rw [hsum, Pipeline.launchCred_add, Pipeline.launchCred_add]
  unfold recvCred
  rw [bigSep_three]
  exact BI.sep_mono (BI.sep_mono (one 0) (one 1)) (one 2)
theorem launchCred_O₀ (d : Dev nD) : (Pipeline.launchCred (Ix := Unit) (Val := Elt F) (Name := ℕ) (U := UU) (Lvl := ℕ) O₀ d : sProp 𝕄)
    ⊢ iprop(recvCred 1 d ∗ recvCred 0 d) := by
  rw [show (O₀ : Dev nD → CellTallies nD τ sig Unit) = fun c => moveDebt 1 c 0 + moveDebt 0 c 0 from rfl, Pipeline.launchCred_add]
  exact BI.sep_mono (launchCred_moves 1 d) (launchCred_moves 0 d)

/-! ## The sources -/

/-- What a move's share of the source covers besides the half it sends. -/
def restPts (i : Fin 4) (d : Dev nD) : sProp 𝕄 := loc_src d ↦[Finset.univ \ halfIdxs d]{shareOf i} srcOf X d
abbrev rests (d : Dev nD) : sProp 𝕄 := bigSep Finset.univ fun k : Fin 3 => restPts X k.castSucc d

theorem share_split (i : Fin 4) (d : Dev nD) :
    (loc_src d ↦[Finset.univ]{shareOf i} srcOf X d : sProp 𝕄) = iprop(halfPts X i d ∗ restPts X i d) :=
  BI.Entails.antisymm (pointsTo_split_subset (Finset.subset_univ (halfIdxs d))).1 (pointsTo_split_subset (Finset.subset_univ (halfIdxs d))).2
theorem src_split (d : Dev nD) : (loc_src d ↦{fullShare} srcOf X d : sProp 𝕄)
    = iprop(copyPts X d ∗ bigSep Finset.univ (sentPts X 0 d) ∗ rests X d) := by
  have hc : (copyPts X d : sProp 𝕄) = (loc_src d ↦[Finset.univ]{shareOf 3} srcOf X d) :=
    congrArg (fun I => (loc_src d ↦[I]{shareOf 3} srcOf X d : sProp 𝕄)) set_srcM
  rw [hc, show (bigSep Finset.univ (sentPts X 0 d) : sProp 𝕄) = bigSep Finset.univ fun k : Fin 3 => halfPts X k.castSucc d from rfl,
    ← bigSep_sep', ← bigSep_congr fun k _ => share_split X k.castSucc d]
  exact (ShareLeaves.pointsTo_leaves Finset.univ (srcOf X d) 2 fullShare).trans
    (bigSep_partners fun i => loc_src d ↦[Finset.univ]{shareOf i} srcOf X d)

/-! ## The gathered array -/

theorem dst_split (d : Dev nD) (f : Buf (Elt F) (loc_dst d)) : (loc_dst d ↦{fullShare} f : sProp 𝕄)
    = bigSep Finset.univ fun q : Dev nD => loc_dst d ↦[slotIdxs q]{fullShare} f := by
  have h := pointsTo_biUnion (ℓ := loc_dst d) (q := fullShare) (f := f) (Ix := Unit) (Name := ℕ) (U := UU) (Lvl := ℕ) (Finset.univ : Finset (Dev nD)) slotIdxs
    (fun q _ q' _ hq => slotsV_disjoint q q' hq)
  exact Eq.trans (congrArg (fun I => (loc_dst d ↦[I]{fullShare} f : sProp 𝕄)) slotsV_cover.symm) h
/-- Before the kernel: the own chip, and what others' moves fill; -/
theorem dst_open (d : Dev nD) : (iprop(∃ f, loc_dst d ↦{fullShare} f) : sProp 𝕄)
    ⊢ iprop(chipAny d ∗ (bigSep Finset.univ fun n => slotAny d (lands 0 d n)) ∗ bigSep Finset.univ fun n => slotAny d (lands 1 d n)) := by
  have hall : (iprop(∃ f, loc_dst d ↦{fullShare} f) : sProp 𝕄) ⊢ bigSep Finset.univ fun q : Dev nD => slotAny d q := by
    iintro ⟨%f, H⟩
    ihave H' := (Entails.of_eq (dst_split d f)) $$ H
    iapply (SparseCore.ent (bigSep_mono (Φ := fun q : Dev nD => loc_dst d ↦[slotIdxs q]{fullShare} f)
      (fun q _ => show (loc_dst d ↦[slotIdxs q]{fullShare} f : sProp 𝕄) ⊢ slotAny d q from by
        unfold slotAny; iintro H; iexists f; iexact H)))
    iexact H'
  have hchip : iprop(slotAny d d ∗ slotAny d (sib d)) ⊢ (chipAny d : sProp 𝕄) := by
    unfold slotAny chipAny
    rw [chipV_eq]
    iintro ⟨⟨%f, H⟩, %g, H'⟩
    iexists ((slotIdxs (sib d)).piecewise g f)
    iapply (pointsTo_join (slotsV_disjoint d (sib d) (across_ne d 3).symm))
    isplitl [H] <;> iassumption
  refine hall.trans ((Entails.of_eq (bigSep_devices d fun q => slotAny d q)).trans ?_)
  exact sep_mono_left hchip
/-- after it: the whole gathered. -/
theorem dst_join (d : Dev nD) :
    iprop(chipVal X d ∗ (bigSep Finset.univ fun n => slotVal X d (lands 0 d n)) ∗ bigSep Finset.univ fun n => slotVal X d (lands 1 d n))
      ⊢ (loc_dst d ↦{fullShare} landed X d : sProp 𝕄) := by
  have hchip : (chipVal X d : sProp 𝕄) ⊢ iprop(slotVal X d d ∗ slotVal X d (sib d)) := by
    unfold chipVal slotVal
    rw [chipV_eq]
    exact (pointsTo_union (slotsV_disjoint d (sib d) (across_ne d 3).symm)).1
  rw [dst_split d (landed X d)]
  refine BI.Entails.trans ?_ (Entails.of_eq (bigSep_devices d fun q => slotVal X d q).symm)
  exact sep_mono_left hchip

/-! ## What a device starts from -/

/-- The tokens of the duties device `d` pays; -/
abbrev sendTok (b : Fin 2) (d : Dev nD) (n : Fin 3) : sProp 𝕄 := dutyTok ER (cell d (lane b 0 n)) 0 ()
abbrev recvTok (b : Fin 2) (d : Dev nD) (n : Fin 3) : sProp 𝕄 := dutyTok ER (cell (dest b d n) (lane b 1 n)) 0 ()
abbrev copyTok (d : Dev nD) : sProp 𝕄 := dutyTok ER (cell d copied) 0 ()
def toks (d : Dev nD) : sProp 𝕄 :=
  iprop(((bigSep Finset.univ (sendTok 0 d) ∗ bigSep Finset.univ (recvTok 0 d)) ∗ (bigSep Finset.univ (sendTok 1 d) ∗ bigSep Finset.univ (recvTok 1 d)))
    ∗ copyTok d)
/-- its own cells' positions; -/
def ats (d : Dev nD) : sProp 𝕄 := bigSep Finset.univ fun x : Own => atPos ER (cell d x) 0 ∅ 0
/-- its own array and the slots its moves fill. -/
def mems (d : Dev nD) : sProp 𝕄 :=
  iprop((loc_src d ↦{fullShare} srcOf X d) ∗ chipAny d ∗ bigSep Finset.univ (farAny 0 d) ∗ bigSep Finset.univ (farAny 1 d))

/-- The records every device may consult: every cell's invariant, and that its round 0 is reached. -/
def Ctx (κ : Dev nD × Own → ℕ) : sProp 𝕄 :=
  iprop((bigSep Finset.univ fun x : Dev nD × Own => cellInv ER (Rd X) (κ x) (acell x))
    ∗ bigSep Finset.univ fun x : Dev nD × Own => reached ER (acell x) 0)
instance Ctx_persistent (κ : Dev nD × Own → ℕ) : BI.Persistent (Ctx X κ) := by unfold Ctx; infer_instance
theorem inv_of (κ : Dev nD × Own → ℕ) (x : Dev nD × Own) : Ctx X κ ⊢ cellInv ER (Rd X) (κ x) (acell x) := by
  unfold Ctx
  iintro ⟨#HI, -⟩
  iapply (SparseCore.ent (bigSep_elim (Φ := fun x : Dev nD × Own => (cellInv ER (Rd X) (κ x) (acell x) : sProp 𝕄)) (Finset.mem_univ x))); iexact HI
theorem reached_of (κ : Dev nD × Own → ℕ) (x : Dev nD × Own) : Ctx X κ ⊢ reached ER (acell x) 0 := by
  unfold Ctx
  iintro ⟨-, #HR⟩
  iapply (SparseCore.ent (bigSep_elim (Φ := fun x : Dev nD × Own => (reached ER (acell x) 0 : sProp 𝕄)) (Finset.mem_univ x))); iexact HR

/-- The order of the launch: every cell's place. -/
def Ord : sProp 𝕄 := bigSep Finset.univ fun d : Dev nD => coreLevAts (d.tc : Thread nD τ) (fun _ => {()}) (fun g _ => lvl g.2)
instance Ord_persistent : BI.Persistent (Ord : sProp 𝕄) := by unfold Ord; infer_instance
theorem ord_of (d : Dev nD) (x : Own) : (Ord : sProp 𝕄) ⊢ levAt (cell d x) () (lvl (asem x)) := by
  unfold Ord
  refine (bigSep_elim (Φ := fun d : Dev nD => (coreLevAts (d.tc : Thread nD τ) (fun _ => {()}) (fun g _ => lvl g.2) : sProp 𝕄)) (Finset.mem_univ d)).trans ?_
  refine (bigSep_elim (i := asem x) (Finset.mem_univ _)).trans ?_
  exact bigSep_elim (i := ()) (Finset.mem_singleton_self _)
/-- A wait for what a first move brings, owing second moves, goes up in that order. -/
theorem mayWait_came (d : Dev nD) (n : Fin 3) (m : ℕ) :
    (Ord : sProp 𝕄) ⊢ MayWait (d.tc : Thread nD τ) (asem (lane 0 1 n)) () (moveDebt 1 d m) := by
  unfold MayWait MayOwe
  rw [bigSep_singleton]
  refine BI.bigSep_intro_persistent fun q hq => ?_
  obtain ⟨i, hi⟩ := moveDebt_pos (mem_owed.mp hq)
  obtain ⟨g, ι⟩ := q
  dsimp only at hi
  subst hi
  unfold levLt
  iintro #H
  iexists (lvl (asem (lane 0 1 n))), (lvl (asem (lane 1 1 i)))
  isplitr; · iapply (ord_of d (lane 0 1 n)); iexact H
  isplitr; · iapply (ord_of (dest 1 d i) (lane 1 1 i)); iexact H
  ipureintro
  show 3 * (2 * 0 + 1) + n.val < 3 * (2 * 1 + 1) + i.val
  have := n.isLt; omega

/-- What device `d` starts the kernel from, beside what it owes. -/
def start (d : Dev nD) : sProp 𝕄 :=
  iprop((∃ κ, Ctx X κ) ∗ Ord ∗ toks d ∗ ats d ∗ mems X d ∗ recvCred 1 d ∗ recvCred 0 d)
/-- Its arrays at the end; -/
def held (d : Dev nD) : sProp 𝕄 := iprop((loc_src d ↦{fullShare} srcOf X d) ∗ (loc_dst d ↦{fullShare} landed X d))
/-- its counters. -/
def zeros (d : Dev nD) : sProp 𝕄 := bigSep Finset.univ fun x : Own => semVal (cell d x) 0
def finish (d : Dev nD) : sProp 𝕄 := iprop(held X d ∗ zeros d)

end Cert.Opening

end
-- ==== Proof.FirstSteps.lean ====
/-
  One step of the first layer's gather at a time: the copy of the own chip, a lane's move, a wait; and the states between
  them, each counting how far its phase has come. Every cell is closed — its counter back at zero — as soon as its one
  round is over. A device waits for what the first moves bring it while it still owes the second moves' credits: those
  cells lie above the ones it waits on in the order the launch is run at. Every later wait is made owing nothing.
-/
module

public import proofs.«01_k».proof.Proof.FirstSchedule

@[expose] public section

noncomputable section

namespace Cert.Opening

open Cert.FirstIdeal Cert.FirstIdeal.Gen
open Cert.Gathering (gathered gathered_other gathered_own across sib)
open Idealize.ShloMosaic ValueIdx
open TcCoe
open Idealize.SL RA BI BI.BIBase BI.Laws ProofMode Sem
open Rounds

variable {F : FTy → Type}

local notation "𝕄" => MT nD τ sig Unit (Elt F) ℕ UU ℕ

variable (X : Srcs F)

/-! ## What the copies land -/

/-- A slot of another chip holds that slot's device's half. -/
theorem read_landed (p q : Dev nD) (h : q.val / 2 ≠ p.val / 2) (x : FlatSh.Idx) :
    (slotV q).view.read (Elt F) (landed X p) x = (halfV q).view.read (Elt F) (srcOf X q) x := by
  rw [read_slotV, read_halfV]
  exact gathered_other Rows Cols X p q h _ _ _ _
/-- A device's own chip holds its source. -/
theorem read_landed_own (d : Dev nD) (x : SrcSh.Idx) :
    (chipV d).view.read (Elt F) (landed X d) x = srcM.view.read (Elt F) (srcOf X d) x := by
  rw [read_chipV, View.read_whole]
  refine (gathered_own Rows Cols X d _ _ _ _).trans (congrArg (X d) ?_)
  funext a; fin_cases a <;> rfl

/-- Move `b` of lane `n` reads `src` and fills `dst`: the ownership it reads at, what it leaves at the other end, the credit. -/
def Moves (b : Fin 2) (d : Dev nD) (n : Fin 3) {s : Shape} (src dst : Memref sig .tc .hbm s .bf16) : Prop :=
  ∃ (q : PosShare TreeShare) (fs : Buf (Elt F) (src.view.loc (d.tc : Thread nD τ))),
    (src.view.loc (d.tc : Thread nD τ) ↦[src.view.set]{q} fs : sProp 𝕄) = sentPts X b d n
    ∧ (∀ fd : Buf (Elt F) (dst.view.loc ((dest b d n).tc : Thread nD τ)),
        (dst.view.loc ((dest b d n).tc : Thread nD τ) ↦[dst.view.set]{fullShare} dst.view.write (Elt F) fd (src.view.read (Elt F) fs) Finset.univ : sProp 𝕄)
          = slotVal X (dest b d n) (lands b (dest b d n) n))
    ∧ (farAny b d n : sProp 𝕄) = iprop(∃ fd : Buf (Elt F) (dst.view.loc ((dest b d n).tc : Thread nD τ)), dst.view.loc ((dest b d n).tc : Thread nD τ) ↦[dst.view.set]{fullShare} fd)
    ∧ dst.view.dmaCredit = Nslot

theorem moves_zero (d : Dev nD) (n : Fin 3) (src dst : Memref sig .tc .hbm FlatSh .bf16)
    (hs : src = halfV d) (hd : dst = slotV d) : Moves X 0 d n src dst := by
  subst hs hd
  have hl : lands 0 (dest 0 d n) n = d := lands_dest_zero d n
  refine ⟨shareOf n.castSucc, srcOf X d, rfl, fun fd => ?_, ?_, rfl⟩
  · rw [hl]
    exact pointsTo_congr (write_of_read (F := F) (slotV d).view fd (landed X (dest 0 d n)) _ fun x =>
      read_landed X (dest 0 d n) d (by have := lands_chip 0 (dest 0 d n) n; rw [hl] at this; exact this) x)
  · unfold farAny slotAny; rw [hl]
theorem moves_one (d : Dev nD) (n : Fin 3) (src dst : Memref sig .tc .hbm FlatSh .bf16)
    (hs : src = slotV (cp d n)) (hd : dst = slotV (cp d n)) : Moves X 1 d n src dst := by
  subst hs hd
  have hl : lands 1 (dest 1 d n) n = cp d n := lands_dest_one d n
  refine ⟨fullShare, landed X d, rfl, fun fd => ?_, ?_, rfl⟩
  · rw [hl]
    refine pointsTo_congr (write_of_read (F := F) (slotV (cp d n)).view fd (landed X (dest 1 d n)) _ fun x => ?_)
    rw [read_landed X d (cp d n) (lands_chip 0 d n) x]
    exact read_landed X (dest 1 d n) (cp d n) (by have := lands_chip 1 (dest 1 d n) n; rw [hl] at this; exact this) x
  · unfold farAny slotAny; rw [hl]

/-- The copy of the own chip reads `src` and fills `dst`. -/
def Copies (d : Dev nD) {s : Shape} (src dst : Memref sig .tc .hbm s .bf16) : Prop :=
  ∃ (q : PosShare TreeShare) (fs : Buf (Elt F) (src.view.loc (d.tc : Thread nD τ))),
    (src.view.loc (d.tc : Thread nD τ) ↦[src.view.set]{q} fs : sProp 𝕄) = copyPts X d
    ∧ (∀ fd : Buf (Elt F) (dst.view.loc (d.tc : Thread nD τ)),
        (dst.view.loc (d.tc : Thread nD τ) ↦[dst.view.set]{fullShare} dst.view.write (Elt F) fd (src.view.read (Elt F) fs) Finset.univ : sProp 𝕄) = chipVal X d)
    ∧ (chipAny d : sProp 𝕄) = iprop(∃ fd : Buf (Elt F) (dst.view.loc (d.tc : Thread nD τ)), dst.view.loc (d.tc : Thread nD τ) ↦[dst.view.set]{fullShare} fd)
    ∧ dst.view.dmaCredit = Nchip
theorem copies_of (d : Dev nD) (src dst : Memref sig .tc .hbm SrcSh .bf16) (hs : src = srcM) (hd : dst = chipV d) : Copies X d src dst := by
  subst hs hd
  exact ⟨shareOf 3, srcOf X d, rfl, fun fd => pointsTo_congr (write_of_read (F := F) (chipV d).view fd (landed X d) _ fun x => read_landed_own X d x), rfl, rfl⟩

/-! ## The states -/

/-- Owing `Y`, whatever waits are recorded. -/
def owing (d : Dev nD) (Y : CellTallies nD τ sig Unit) : sProp 𝕄 := iprop(∃ W', owes (d.tc : Thread nD τ) Y W')

/-- What a move spends besides its source, and what it is credited for it. -/
abbrev moveRes (b : Fin 2) (d : Dev nD) (n : Fin 3) : sProp 𝕄 := iprop(farAny b d n ∗ sendTok b d n ∗ recvTok b d n)
abbrev sentCred (b : Fin 2) (d : Dev nD) (n : Fin 3) : sProp 𝕄 := cred (tallyAt (cell d (lane b 0 n)) () Nslot)
/-- Before first move `n`. -/
def SendSt (d : Dev nD) (n : ℕ) : sProp 𝕄 :=
  iprop(owing d (moveDebt 1 d 0 + moveDebt 0 d n) ∗ (bigSep (fromIx n) fun i : Fin 3 => iprop(sentPts X 0 d i ∗ moveRes 0 d i))
    ∗ bigSep (belowIx n) (sentCred 0 d))
/-- What is spent of a cell to wait for it, and what the wait brings. -/
abbrev waitRes (d : Dev nD) (x : Own) : sProp 𝕄 := iprop(cred (tallyAt (cell d x) () (ownAmount x)) ∗ atPos ER (cell d x) 0 ∅ 0)
abbrev waitPay (d : Dev nD) (x : Own) : sProp 𝕄 := iprop(semVal (cell d x) 0 ∗ ownPay X d x)
abbrev came (n : Fin 3) : Own := lane 0 1 n
/-- Before lane `n` is waited for and passed on; -/
def PassSt (d : Dev nD) (n : ℕ) : sProp 𝕄 :=
  iprop(owing d (moveDebt 1 d n) ∗ (bigSep (fromIx n) fun i : Fin 3 => iprop(waitRes d (came i) ∗ moveRes 1 d i))
    ∗ bigSep (belowIx n) fun i : Fin 3 => iprop(semVal (cell d (came i)) 0 ∗ sentCred 1 d i))
/-- in between. -/
def PassMid (d : Dev nD) (n : Fin 3) : sProp 𝕄 :=
  iprop(owing d (moveDebt 1 d n.val) ∗ ((waitPay X d (came n) ∗ moveRes 1 d n) ∗ bigSep (fromIx (n.val + 1)) fun i : Fin 3 => iprop(waitRes d (came i) ∗ moveRes 1 d i))
    ∗ bigSep (belowIx n.val) fun i : Fin 3 => iprop(semVal (cell d (came i)) 0 ∗ sentCred 1 d i))
/-- Before wait `n` on a list of cells. -/
def WaitSt {N : ℕ} (w : Fin N → Own) (d : Dev nD) (n : ℕ) : sProp 𝕄 :=
  iprop(owing d 0 ∗ (bigSep (fromIx n) fun i : Fin N => waitRes d (w i)) ∗ bigSep (belowIx n) fun i : Fin N => waitPay X d (w i))

/-! ## The steps -/

section Steps
variable [FloatOps F] (κ : Dev nD × Own → ℕ) (d : Dev nD)

/-- A wait: what the cell's one landing hands over, its counter back at zero. -/
theorem wp_own (x : Own) (Y : CellTallies nD τ sig Unit) (hmay : (Ord : sProp 𝕄) ⊢ MayWait (d.tc : Thread nD τ) (asem x) () Y)
    (sm : DmaSem sig) (hsm : (SemLoc.dma sm : SemLoc sig) = asem x)
    {s s' : Shape} {e e' : EltTy} {src : Memref sig .tc .hbm s' e'} {dst : Memref sig .tc .hbm s e} (hN : dst.view.dmaCredit = ownAmount x)
    {hsrc : src.view.WordExact} {hdst : dst.view.WordExact}
    {β : Type} {cont : PUnit → Prog (TpuEff nD τ sig (Elt F) Λ₀ .tc) β} {Q : β → sProp 𝕄} :
    iprop(Ctx X κ ∗ Ord ∗ owing d Y ∗ waitRes d x)
      ⊢ iprop(((owing d Y ∗ waitPay X d x) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.waitDma2 sm src dst hsrc hdst) cont) Q) := by
  unfold owing
  iintro ⟨#HC, #Hlev, ⟨%W', HO⟩, ⟨Hc, Hat⟩⟩ Hk
  iapply (Rounds.wp_wait_rest_token 𝒱₀ ER (Rd X) (d.tc : Thread nD τ) none (sm := asem x) (k' := ownAmount x) (κ := κ (d, x))
      (fun K => (wpE_waitDma2_eq 𝒱₀ (d.tc : Thread nD τ) none Set.univ K).trans (by rw [hsm, hN])) (Set.mem_univ _) () (O := Y) (W := W') (R := 0) (m := 0) (T := ∅)
      (by rw [Nat.zero_add, expect_cell])) $$ [Hc HO Hat]
  · isplitr; · iapply (inv_of X κ (d, x)); iexact HC
    isplitl [Hc]; · iexact Hc
    isplitl [HO]; · iexact HO
    isplitr; · iapply (SparseCore.ent hmay); iexact Hlev
    iexact Hat
  iintro ⟨HO, Hat, -, Hpay⟩
  ihave Hp := (Entails.of_eq (pays_cell X d x)) $$ Hpay
  iapply (fupd_wp frame (wpE (defs₀ (F := F)) 𝒱₀ (d.tc : Thread nD τ) none) Set.univ _ _)
  imod (Rounds.cell_close ER (Rd X) (g := cell d x) (κ := κ (d, x)) (Es := Set.univ) (Set.mem_univ _) (fun h => h) (R := 1) (duties_later X _)) $$ [Hat] with Hz
  · isplitr; · iapply (inv_of X κ (d, x)); iexact HC
    iexact Hat
  imodintro
  iapply Hk
  isplitl [HO]; · iexists _; iexact HO
  isplitl [Hz] <;> iassumption

/-- Wait `i` of a list, owing nothing. -/
theorem wp_listed {N : ℕ} (w : Fin N → Own) (i : Fin N) (sm : DmaSem sig) (hsm : (SemLoc.dma sm : SemLoc sig) = asem (w i))
    {s s' : Shape} {e e' : EltTy} {src : Memref sig .tc .hbm s' e'} {dst : Memref sig .tc .hbm s e} (hN : dst.view.dmaCredit = ownAmount (w i))
    {hsrc : src.view.WordExact} {hdst : dst.view.WordExact}
    {β : Type} {cont : PUnit → Prog (TpuEff nD τ sig (Elt F) Λ₀ .tc) β} {Q : β → sProp 𝕄} :
    iprop(Ctx X κ ∗ Ord ∗ WaitSt X w d i.val)
      ⊢ iprop((WaitSt X w d (i.val + 1) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.waitDma2 sm src dst hsrc hdst) cont) Q) := by
  have hmay : (Ord : sProp 𝕄) ⊢ MayWait (d.tc : Thread nD τ) (asem (w i)) () 0 := by
    rw [MayWait_zero]; iintro -; iempintro
  unfold WaitSt
  rw [bigSep_from_pop, bigSep_below_push]
  iintro ⟨#HC, #Hlev, HO, ⟨Hw, Hrest⟩, Hdone⟩ Hk
  iapply (wp_own X κ d (w i) 0 hmay sm hsm hN) $$ [HO Hw]
  · isplitr; · iexact HC
    isplitr; · iexact Hlev
    isplitl [HO] <;> iassumption
  iintro ⟨HO, Hp⟩
  iapply Hk
  isplitl [HO]; · iexact HO
  isplitl [Hrest]; · iexact Hrest
  isplitl [Hp] <;> iassumption

/-- The wait for lane `n`'s first move. -/
theorem wp_came (n : Fin 3) (sm : DmaSem sig) (hsm : (SemLoc.dma sm : SemLoc sig) = asem (came n))
    {s s' : Shape} {e e' : EltTy} {src : Memref sig .tc .hbm s' e'} {dst : Memref sig .tc .hbm s e} (hN : dst.view.dmaCredit = Nslot)
    {hsrc : src.view.WordExact} {hdst : dst.view.WordExact}
    {β : Type} {cont : PUnit → Prog (TpuEff nD τ sig (Elt F) Λ₀ .tc) β} {Q : β → sProp 𝕄} :
    iprop(Ctx X κ ∗ Ord ∗ PassSt d n.val)
      ⊢ iprop((PassMid X d n -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.waitDma2 sm src dst hsrc hdst) cont) Q) := by
  unfold PassSt PassMid
  rw [bigSep_from_pop]
  iintro ⟨#HC, #Hlev, HO, ⟨⟨Hw, Hm⟩, Hrest⟩, Hdone⟩ Hk
  iapply (wp_own X κ d (came n) _ (mayWait_came d n n.val) sm hsm hN) $$ [HO Hw]
  · isplitr; · iexact HC
    isplitr; · iexact Hlev
    isplitl [HO] <;> iassumption
  iintro ⟨HO, Hp⟩
  iapply Hk
  isplitl [HO]; · iexact HO
  isplitr [Hdone]
  · isplitr [Hrest]
    · isplitl [Hp] <;> iassumption
    iexact Hrest
  iexact Hdone

theorem ownPay_send (b : Fin 2) (n : Fin 3) : (ownPay X d (lane b 0 n) : sProp 𝕄) = sentPts X b d n :=
  show (if (0 : Fin 2) = 0 then sentPts X b d n else slotVal X d (lands b d n)) = _ from if_pos rfl
theorem ownPay_recv (b : Fin 2) (n : Fin 3) : (ownPay X d (lane b 1 n) : sProp 𝕄) = slotVal X d (lands b d n) :=
  show (if (1 : Fin 2) = 0 then sentPts X b d n else slotVal X d (lands b d n)) = _ from if_neg (by decide)

/-- Move `b` of lane `n`, whatever else is owed. -/
theorem wp_move (b : Fin 2) (n : Fin 3) (Z : CellTallies nD τ sig Unit) (p : Dev nD) (hp : p = dest b d n)
    {s : Shape} (src dst : Memref sig .tc .hbm s .bf16) (hm : Moves X b d n src dst)
    (sS sR : SemLoc sig) (hsS : sS = asem (lane b 0 n)) (hsR : sR = asem (lane b 1 n))
    {hsc : (dst : Memref sig (p.tc : Thread nD τ).2.kind .hbm s _).view.ref.isScScratch = false}
    {hsrc : src.view.WordExact} {hdst : dst.view.WordExact}
    {hsem : DmaTarget.Typed .hbm sR (.remote (p.tc : Thread nD τ) (dst : Memref sig (p.tc : Thread nD τ).2.kind .hbm s _) sS hsc)}
    {β : Type} {cont : PUnit → Prog (TpuEff nD τ sig (Elt F) Λ₀ .tc) β} {Q : β → sProp 𝕄} :
    iprop(Ctx X κ ∗ owing d (Z + moveDebt b d n.val) ∗ sentPts X b d n ∗ moveRes b d n)
      ⊢ iprop(((owing d (Z + moveDebt b d (n.val + 1)) ∗ sentCred b d n) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.enqueueDma src (.remote (p.tc : Thread nD τ) dst sS hsc) sR hsrc hdst hsem) cont) Q) := by
  subst hp hsS hsR
  obtain ⟨q, fs, hsrcP, hland, hfar, hN⟩ := hm
  have hsend : (Rd X).payload ((d.tc : Thread nD τ), asem (lane b 0 n)) 0 () = sentPts X b d n :=
    (payload_cell X d (lane b 0 n) 0 ()).trans (ownPay_send X d b n)
  have hrecv : (Rd X).payload (((dest b d n).tc : Thread nD τ), asem (lane b 1 n)) 0 () = slotVal X (dest b d n) (lands b (dest b d n) n) :=
    (payload_cell X (dest b d n) (lane b 1 n) 0 ()).trans (ownPay_recv X (dest b d n) b n)
  unfold owing moveRes
  rw [moveDebt_step, ← add_assoc, ← hsrcP, hfar]
  iintro ⟨#HC, ⟨%W', HO⟩, Hsrc, ⟨⟨%fd, Hdst⟩, HtS, HtR⟩⟩ Hk
  iapply (Rounds.wp_send_pointsTo 𝒱₀ ER (Rd X) (d.tc : Thread nD τ) none (κ₁ := κ (d, lane b 0 n)) (κ₂ := κ (dest b d n, lane b 1 n))
      (r₁ := 0) (r₂ := 0) (d₁ := ()) (d₂ := ()) (q := q) (fs := fs) (fd := fd)
      (mem_duties X (cell d (lane b 0 n))) (mem_duties X (cell (dest b d n) (lane b 1 n))) () () Nslot hN
      (amount_cell X d (lane b 0 n) 0 ()) (amount_cell X (dest b d n) (lane b 1 n) 0 ())
      (Z + moveDebt b d (n.val + 1)) rfl (W := W') ?hp₁ ?hp₂) $$ [Hsrc Hdst HO HtS HtR]
  case hp₁ => rw [hsend, hsrcP]
  case hp₂ => rw [hrecv, ← hland fd]
  · isplitr; · iapply (inv_of X κ (d, lane b 0 n)); iexact HC
    isplitr; · iapply (inv_of X κ (dest b d n, lane b 1 n)); iexact HC
    isplitl [Hsrc]; · iexact Hsrc
    isplitl [Hdst]; · iexact Hdst
    isplitl [HO]; · iexact HO
    isplitl [HtS]; · iexact HtS
    isplitr; · iapply (reached_of X κ (d, lane b 0 n)); iexact HC
    isplitl [HtR]; · iexact HtR
    iapply (reached_of X κ (dest b d n, lane b 1 n)); iexact HC
  iintro ⟨Hc, HO⟩
  iapply Hk
  isplitl [HO]; · iexists W'; iexact HO
  iexact Hc

/-- First move `n`. -/
theorem wp_send (n : Fin 3) (p : Dev nD) (hp : p = dest 0 d n)
    {s : Shape} (src dst : Memref sig .tc .hbm s .bf16) (hm : Moves X 0 d n src dst)
    (sS sR : SemLoc sig) (hsS : sS = asem (lane 0 0 n)) (hsR : sR = asem (lane 0 1 n))
    {hsc : (dst : Memref sig (p.tc : Thread nD τ).2.kind .hbm s _).view.ref.isScScratch = false}
    {hsrc : src.view.WordExact} {hdst : dst.view.WordExact}
    {hsem : DmaTarget.Typed .hbm sR (.remote (p.tc : Thread nD τ) (dst : Memref sig (p.tc : Thread nD τ).2.kind .hbm s _) sS hsc)}
    {β : Type} {cont : PUnit → Prog (TpuEff nD τ sig (Elt F) Λ₀ .tc) β} {Q : β → sProp 𝕄} :
    iprop(Ctx X κ ∗ SendSt X d n.val)
      ⊢ iprop((SendSt X d (n.val + 1) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.enqueueDma src (.remote (p.tc : Thread nD τ) dst sS hsc) sR hsrc hdst hsem) cont) Q) := by
  unfold SendSt
  rw [bigSep_from_pop, bigSep_below_push]
  iintro ⟨#HC, HO, ⟨⟨Hs, Hm⟩, Hrest⟩, Hdone⟩ Hk
  iapply (wp_move X κ d 0 n (moveDebt 1 d 0) p hp src dst hm sS sR hsS hsR) $$ [HO Hs Hm]
  · isplitr; · iexact HC
    isplitl [HO]; · iexact HO
    isplitl [Hs]; · iexact Hs
    iexact Hm
  iintro ⟨HO, Hc⟩
  iapply Hk
  isplitl [HO]; · iexact HO
  isplitl [Hrest]; · iexact Hrest
  isplitl [Hc] <;> iassumption

/-- Second move `n`. -/
theorem wp_pass (n : Fin 3) (p : Dev nD) (hp : p = dest 1 d n)
    {s : Shape} (src dst : Memref sig .tc .hbm s .bf16) (hm : Moves X 1 d n src dst)
    (sS sR : SemLoc sig) (hsS : sS = asem (lane 1 0 n)) (hsR : sR = asem (lane 1 1 n))
    {hsc : (dst : Memref sig (p.tc : Thread nD τ).2.kind .hbm s _).view.ref.isScScratch = false}
    {hsrc : src.view.WordExact} {hdst : dst.view.WordExact}
    {hsem : DmaTarget.Typed .hbm sR (.remote (p.tc : Thread nD τ) (dst : Memref sig (p.tc : Thread nD τ).2.kind .hbm s _) sS hsc)}
    {β : Type} {cont : PUnit → Prog (TpuEff nD τ sig (Elt F) Λ₀ .tc) β} {Q : β → sProp 𝕄} :
    iprop(Ctx X κ ∗ PassMid X d n)
      ⊢ iprop((PassSt d (n.val + 1) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.enqueueDma src (.remote (p.tc : Thread nD τ) dst sS hsc) sR hsrc hdst hsem) cont) Q) := by
  have hpay : (ownPay X d (came n) : sProp 𝕄) = sentPts X 1 d n := rfl
  unfold PassSt PassMid waitPay
  rw [bigSep_below_push, ← zero_add (moveDebt 1 d n.val), ← zero_add (moveDebt 1 d (n.val + 1)), hpay]
  iintro ⟨#HC, HO, ⟨⟨⟨Hz, Hs⟩, Hm⟩, Hrest⟩, Hdone⟩ Hk
  iapply (wp_move X κ d 1 n 0 p hp src dst hm sS sR hsS hsR) $$ [HO Hs Hm]
  · isplitr; · iexact HC
    isplitl [HO]; · iexact HO
    isplitl [Hs]; · iexact Hs
    iexact Hm
  iintro ⟨HO, Hc⟩
  iapply Hk
  isplitl [HO]; · iexact HO
  isplitl [Hrest]; · iexact Hrest
  isplitr [Hdone]
  · isplitl [Hz] <;> iassumption
  iexact Hdone

/-- The copy of the own chip. -/
theorem wp_copy {s : Shape} (src dst : Memref sig .tc .hbm s .bf16) (hm : Copies X d src dst)
    (sm : SemLoc sig) (hsm : sm = asem copied)
    {hsrc : src.view.WordExact} {hdst : dst.view.WordExact} {hsem : DmaTarget.Typed (nD := nD) .hbm sm (DmaTarget.here (p := (d.tc : Thread nD τ).2) (dst : Memref sig (d.tc : Thread nD τ).2.kind .hbm s _))}
    {β : Type} {cont : PUnit → Prog (TpuEff nD τ sig (Elt F) Λ₀ .tc) β} {Q : β → sProp 𝕄} :
    iprop(Ctx X κ ∗ copyPts X d ∗ chipAny d ∗ copyTok d)
      ⊢ iprop((cred (tallyAt (cell d copied) () (ownAmount copied)) -∗ wp frame (wpE (defs₀ (F := F)) 𝒱₀ (d.tc : Thread nD τ) none) Set.univ (cont ⟨⟩) Q)
          -∗ wp frame (wpE (defs₀ (F := F)) 𝒱₀ (d.tc : Thread nD τ) none) Set.univ (.op (.enqueueDma src (.here dst) sm hsrc hdst hsem) cont) Q) := by
  subst hsm
  obtain ⟨q, fs, hsrcP, hland, hany, hN⟩ := hm
  have hpay : (Rd X).payload ((d.tc : Thread nD τ), asem copied) 0 () = iprop(chipVal X d ∗ copyPts X d) := payload_cell X d copied 0 ()
  rw [← hsrcP, hany]
  iintro ⟨#HC, Hsrc, ⟨%fd, Hdst⟩, Ht⟩ Hk
  iapply (Rounds.wp_copy_pointsTo 𝒱₀ ER (Rd X) (d.tc : Thread nD τ) none (κ := κ (d, copied)) (r := 0) (d := ()) (q := q) (fs := fs) (fd := fd)
      (mem_duties X (cell d copied)) () Nchip hN (amount_cell X d copied 0 ()) ?hp) $$ [Hsrc Hdst Ht]
  case hp => rw [hpay, hland fd, hsrcP]
  · isplitr; · iapply (inv_of X κ (d, copied)); iexact HC
    isplitl [Hsrc]; · iexact Hsrc
    isplitl [Hdst]; · iexact Hdst
    isplitl [Ht]; · iexact Ht
    iapply (reached_of X κ (d, copied)); iexact HC
  iintro Hc
  iapply Hk
  iexact Hc

end Steps

end Cert.Opening

end
-- ==== Proof.FirstBody.lean ====
/-
  The first layer's gather on one device, from what it starts with to what it ends with: first what the kernel's own index
  arithmetic names, then the states where one phase ends and the next begins, then its operations in order.
-/
module

public import proofs.«01_k».proof.Proof.FirstSteps

@[expose] public section

noncomputable section

namespace Cert.Opening

open Cert.FirstIdeal Cert.FirstIdeal.Gen
open Cert.Gathering (halfOff slotOff chipOff across sib)
open Idealize.ShloMosaic
open TcCoe
open Idealize.SL RA BI BI.BIBase BI.Laws ProofMode Sem
open Rounds

variable {F : FTy → Type}

local notation "𝕄" => MT nD τ sig Unit (Elt F) ℕ UU ℕ

/-! ## Views and semaphores by their offsets -/

theorem half_of (d : Dev nD) (o : Fin 3 → ℕ) (h : o = halfOff d) (hi : ∀ x, o x + S1x512x898.size x ≤ S2x512x898.size x) :
    ((Memref.whole main_arg0).slice (Rect.unit (s := S2x512x898) o S1x512x898.size hi) (fun _ => rfl)).squeeze S512x898 squeezes_S1x512x898_S512x898 = halfV d := by subst h; rfl
theorem slot_of (q : Dev nD) (o : Fin 4 → ℕ) (h : o = slotOff q) (hi : ∀ x, o x + S1x1x512x898.size x ≤ S4x2x512x898.size x) :
    ((Memref.whole main_v1).slice (Rect.unit (s := S4x2x512x898) o S1x1x512x898.size hi) (fun _ => rfl)).squeeze S512x898 squeezes_S1x1x512x898_S512x898 = slotV q := by subst h; rfl
theorem chip_of (d : Dev nD) (o : Fin 4 → ℕ) (h : o = chipOff d) (hi : ∀ x, o x + S1x2x512x898.size x ≤ S4x2x512x898.size x) :
    ((Memref.whole main_v1).slice (Rect.unit (s := S4x2x512x898) o S1x2x512x898.size hi) (fun _ => rfl)).squeeze S2x512x898 squeezes_S1x2x512x898_S2x512x898 = chipV d := by subst h; rfl
theorem credit_half (o : Fin 3 → ℕ) (hi : ∀ x, o x + S1x512x898.size x ≤ S2x512x898.size x) :
    (((Memref.whole main_arg0).slice (Rect.unit (s := S2x512x898) o S1x512x898.size hi) (fun _ => rfl)).squeeze S512x898 squeezes_S1x512x898_S512x898).view.dmaCredit = Nslot := rfl
theorem credit_slot (o : Fin 4 → ℕ) (hi : ∀ x, o x + S1x1x512x898.size x ≤ S4x2x512x898.size x) :
    (((Memref.whole main_v1).slice (Rect.unit (s := S4x2x512x898) o S1x1x512x898.size hi) (fun _ => rfl)).squeeze S512x898 squeezes_S1x1x512x898_S512x898).view.dmaCredit = Nslot := rfl
theorem credit_chip (o : Fin 4 → ℕ) (hi : ∀ x, o x + S1x2x512x898.size x ≤ S4x2x512x898.size x) :
    (((Memref.whole main_v1).slice (Rect.unit (s := S4x2x512x898) o S1x2x512x898.size hi) (fun _ => rfl)).squeeze S2x512x898 squeezes_S1x2x512x898_S2x512x898).view.dmaCredit = Nchip := rfl

theorem sem00 (n : Fin 3) (o : Fin 1 → ℕ) (h : o = ![n.val]) (hb : ∀ a, o a + S1.size a ≤ S3.size a) :
    (SemLoc.dma ((cc0_scratch0.slice (Rect.unit (s := S3) o S1.size hb)).squeeze S_ squeezes_S1_S_).sem : SemLoc sig) = asem (lane 0 0 n) := by
  subst h; revert n; decide +kernel
theorem sem01 (n : Fin 3) (o : Fin 1 → ℕ) (h : o = ![n.val]) (hb : ∀ a, o a + S1.size a ≤ S3.size a) :
    (SemLoc.dma ((cc0_scratch1.slice (Rect.unit (s := S3) o S1.size hb)).squeeze S_ squeezes_S1_S_).sem : SemLoc sig) = asem (lane 0 1 n) := by
  subst h; revert n; decide +kernel
theorem sem10 (n : Fin 3) (o : Fin 1 → ℕ) (h : o = ![n.val]) (hb : ∀ a, o a + S1.size a ≤ S3.size a) :
    (SemLoc.dma ((cc0_scratch2.slice (Rect.unit (s := S3) o S1.size hb)).squeeze S_ squeezes_S1_S_).sem : SemLoc sig) = asem (lane 1 0 n) := by
  subst h; revert n; decide +kernel
theorem sem11 (n : Fin 3) (o : Fin 1 → ℕ) (h : o = ![n.val]) (hb : ∀ a, o a + S1.size a ≤ S3.size a) :
    (SemLoc.dma ((cc0_scratch3.slice (Rect.unit (s := S3) o S1.size hb)).squeeze S_ squeezes_S1_S_).sem : SemLoc sig) = asem (lane 1 1 n) := by
  subst h; revert n; decide +kernel
theorem semCopy (o : Fin 1 → ℕ) (h : o = ![0]) (hb : ∀ a, o a + S1.size a ≤ S1.size a) :
    (SemLoc.dma ((cc0_scratch4.slice (Rect.unit (s := S1) o S1.size hb)).squeeze S_ squeezes_S1_S_).sem : SemLoc sig) = asem copied := by
  subst h; revert hb; decide +kernel

/-! ## The devices and the offsets -/

theorem dev_send0 (d : Dev nD) : (⟨k0_dev1 d, k0_dev1_lt d⟩ : Dev nD) = dest 0 d 0 := by revert d; decide +kernel
theorem dev_send1 (d : Dev nD) : (⟨k0_dev2 d, k0_dev2_lt d⟩ : Dev nD) = dest 0 d 1 := by revert d; decide +kernel
theorem dev_send2 (d : Dev nD) : (⟨k0_dev3 d, k0_dev3_lt d⟩ : Dev nD) = dest 0 d 2 := by revert d; decide +kernel
theorem dev_pass0 (d : Dev nD) : (⟨k0_dev4 d, k0_dev4_lt d⟩ : Dev nD) = dest 1 d 0 := by revert d; decide +kernel
theorem dev_pass1 (d : Dev nD) : (⟨k0_dev5 d, k0_dev5_lt d⟩ : Dev nD) = dest 1 d 1 := by revert d; decide +kernel
theorem dev_pass2 (d : Dev nD) : (⟨k0_dev6 d, k0_dev6_lt d⟩ : Dev nD) = dest 1 d 2 := by revert d; decide +kernel
theorem off_chip (d : Dev nD) : k0_off1 d = chipOff d := by revert d; decide +kernel
theorem off_slot (d : Dev nD) : k0_off2 d = slotOff d := by revert d; decide +kernel
theorem off_half (d : Dev nD) : k0_off3 d = halfOff d := by revert d; decide +kernel
theorem off_came0 (d : Dev nD) : k0_off4 d = slotOff (cp d 0) := by revert d; decide +kernel
theorem off_came1 (d : Dev nD) : k0_off5 d = slotOff (cp d 1) := by revert d; decide +kernel
theorem off_came2 (d : Dev nD) : k0_off6 d = slotOff (cp d 2) := by revert d; decide +kernel

variable (X : Srcs F)

/-! ## The states where one phase ends and the next begins -/

section Phases
variable (d : Dev nD)

/-- At the start every first move can be made. -/
theorem SendSt_start :
    iprop(owing d (O₀ d) ∗ bigSep Finset.univ (sentPts X 0 d) ∗ bigSep Finset.univ (farAny 0 d)
        ∗ bigSep Finset.univ (sendTok 0 d) ∗ bigSep Finset.univ (recvTok 0 d))
      ⊢ (SendSt X d 0 : sProp 𝕄) := by
  unfold SendSt moveRes O₀
  rw [fromIx_zero, belowIx_zero, bigSep_empty, bigSep_sep', bigSep_sep', bigSep_sep']
  iintro ⟨H1, H2⟩
  isplitl [H1]; · iexact H1
  isplitl [H2]; · iexact H2
  iempintro
theorem SendSt_end : (SendSt X d ((2 : Fin 3).val + 1) : sProp 𝕄) ⊢ iprop(owing d (moveDebt 1 d 0) ∗ bigSep Finset.univ (sentCred 0 d)) := by
  show (SendSt X d 3 : sProp 𝕄) ⊢ _
  unfold SendSt
  rw [belowIx_end, moveDebt_end, add_zero]
  iintro ⟨H1, -, H2⟩
  isplitl [H1]; · iexact H1
  iexact H2
/-- What the positions of one kind of cell are, over the lanes. -/
abbrev atLane (b r : Fin 2) : sProp 𝕄 := bigSep Finset.univ fun n : Fin 3 => atPos ER (cell d (lane b r n)) 0 ∅ 0
theorem PassSt_start :
    iprop(owing d (moveDebt 1 d 0) ∗ (recvCred 0 d ∗ atLane d 0 1) ∗ bigSep Finset.univ (farAny 1 d)
        ∗ bigSep Finset.univ (sendTok 1 d) ∗ bigSep Finset.univ (recvTok 1 d))
      ⊢ (PassSt d 0 : sProp 𝕄) := by
  unfold PassSt moveRes
  rw [fromIx_zero, belowIx_zero, bigSep_empty, bigSep_sep', bigSep_sep', bigSep_sep', bigSep_sep']
  iintro ⟨H1, H2⟩
  isplitl [H1]; · iexact H1
  isplitl [H2]; · iexact H2
  iempintro
theorem PassSt_end : (PassSt d ((2 : Fin 3).val + 1) : sProp 𝕄)
    ⊢ iprop(owing d 0 ∗ (bigSep Finset.univ fun n : Fin 3 => semVal (cell d (came n)) 0) ∗ bigSep Finset.univ (sentCred 1 d)) := by
  show (PassSt d 3 : sProp 𝕄) ⊢ _
  unfold PassSt
  rw [belowIx_end, moveDebt_end, bigSep_sep' Finset.univ (fun i : Fin 3 => semVal (cell d (came i)) 0) (sentCred 1 d)]
  iintro ⟨H1, -, H2⟩
  isplitl [H1]; · iexact H1
  iexact H2
/-- Before the first of a list of waits, -/
theorem WaitSt_start {N : ℕ} (w : Fin N → Own) :
    iprop(owing d 0 ∗ (bigSep Finset.univ fun i => cred (tallyAt (cell d (w i)) () (ownAmount (w i))))
        ∗ bigSep Finset.univ fun i => atPos ER (cell d (w i)) 0 ∅ 0)
      ⊢ (WaitSt X w d 0 : sProp 𝕄) := by
  unfold WaitSt
  rw [fromIx_zero, belowIx_zero, bigSep_empty, bigSep_sep']
  iintro ⟨H1, H2⟩
  isplitl [H1]; · iexact H1
  isplitl [H2]; · iexact H2
  iempintro
/-- and after the last. -/
theorem WaitSt_end {N : ℕ} (w : Fin N → Own) (n : ℕ) (hn : n = N) : (WaitSt X w d n : sProp 𝕄)
    ⊢ iprop(owing d 0 ∗ (bigSep Finset.univ fun i => semVal (cell d (w i)) 0) ∗ bigSep Finset.univ fun i => ownPay X d (w i)) := by
  subst hn
  unfold WaitSt
  rw [belowIx_end, fromIx_end, bigSep_empty, bigSep_sep' Finset.univ (fun i : Fin n => semVal (cell d (w i)) 0) (fun i => ownPay X d (w i))]
  iintro ⟨H1, -, H2⟩
  isplitl [H1]; · iexact H1
  iexact H2

/-- The positions, kind by kind; -/
theorem ats_eq : (ats d : sProp 𝕄)
    = iprop(((atLane d 0 0 ∗ atLane d 0 1) ∗ (atLane d 1 0 ∗ atLane d 1 1)) ∗ atPos ER (cell d copied) 0 ∅ 0) :=
  bigSep_own fun x : Own => atPos ER (cell d x) 0 ∅ 0
/-- the counters; -/
abbrev zeroLane (b r : Fin 2) : sProp 𝕄 := bigSep Finset.univ fun n : Fin 3 => semVal (cell d (lane b r n)) 0
theorem zeros_eq : (zeros d : sProp 𝕄)
    = iprop(((zeroLane d 0 0 ∗ zeroLane d 0 1) ∗ (zeroLane d 1 0 ∗ zeroLane d 1 1)) ∗ semVal (cell d copied) 0) :=
  bigSep_own fun x : Own => semVal (cell d x) 0
/-- what the waits hand over, put together. -/
theorem held_of [FloatOps F] :
    iprop((bigSep Finset.univ fun n => ownPay X d (lane 1 1 n)) ∗ (bigSep Finset.univ fun n => ownPay X d (lane 0 0 n))
        ∗ (bigSep Finset.univ fun n => ownPay X d (lane 1 0 n)) ∗ ownPay X d copied ∗ rests X d)
      ⊢ (held X d : sProp 𝕄) := by
  have e11 : (bigSep Finset.univ fun n => ownPay X d (lane 1 1 n) : sProp 𝕄) = bigSep Finset.univ fun n => slotVal X d (lands 1 d n) :=
    bigSep_congr fun n _ => ownPay_recv X d 1 n
  have e00 : (bigSep Finset.univ fun n => ownPay X d (lane 0 0 n) : sProp 𝕄) = bigSep Finset.univ (sentPts X 0 d) :=
    bigSep_congr fun n _ => ownPay_send X d 0 n
  have e10 : (bigSep Finset.univ fun n => ownPay X d (lane 1 0 n) : sProp 𝕄) = bigSep Finset.univ fun n => slotVal X d (lands 0 d n) :=
    bigSep_congr fun n _ => ownPay_send X d 1 n
  have ec : (ownPay X d copied : sProp 𝕄) = iprop(chipVal X d ∗ copyPts X d) := rfl
  unfold held
  rw [e11, e00, e10, ec, src_split X d]
  iintro ⟨H11, H00, H10, ⟨Hch, Hcp⟩, Hr⟩
  isplitl [H00 Hcp Hr]
  · isplitl [Hcp]; · iexact Hcp
    isplitl [H00] <;> iassumption
  iapply (dst_join X d)
  isplitl [Hch]; · iexact Hch
  isplitl [H10] <;> iassumption
end Phases

/-! ## The kernel -/

set_option maxRecDepth 65536 in
set_option maxHeartbeats 2000000 in
/-- The kernel on device `d`, from what it starts with to what it ends with. -/
theorem body_run [FloatOps F] (d : Dev nD) (W : Waits sig Unit) :
    iprop(start X d ∗ owes (d.tc : Thread nD τ) (O₀ d) W)
      ⊢ wp frame (wpE (defs₀ (F := F)) 𝒱₀ (d.tc : Thread nD τ) none) Set.univ (bodyAt0 (F := F) t0_0)
          fun _ => iprop(finish X d ∗ ∃ W', owes (d.tc : Thread nD τ) 0 W') := by
  unfold bodyAt0
  simp only [cc0_gather_weights_eq_skeleton]
  unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, Prog.bind_assoc]
  simp only [wp_deviceId]
  unfold start toks mems
  rw [ats_eq, src_split X d]
  iintro ⟨⟨⟨%κ, #HC⟩, #HL, ⟨⟨⟨Hst0, Hrt0⟩, ⟨Hst1, Hrt1⟩⟩, Hct⟩, ⟨⟨⟨Ha00, Ha01⟩, ⟨Ha10, Ha11⟩⟩, Hca⟩, ⟨⟨Hcp, Hsrc, Hrest⟩, Hchip, Hfar0, Hfar1⟩, Hrc1, Hrc0⟩, HO⟩
  -- the own chip
  iapply (wp_copy X κ d _ _ (copies_of X d _ _ rfl (chip_of d _ (off_chip d) _)) _ (semCopy _ rfl _)) $$ [Hcp Hchip Hct]
  · isplitr; · iexact HC
    isplitl [Hcp]; · iexact Hcp
    isplitl [Hchip] <;> iassumption
  iintro Hcc
  -- the first moves
  ihave HS := (SendSt_start X d) $$ [HO Hsrc Hfar0 Hst0 Hrt0]
  · isplitl [HO]; · unfold owing; iexists W; iexact HO
    isplitl [Hsrc]; · iexact Hsrc
    isplitl [Hfar0]; · iexact Hfar0
    isplitl [Hst0]; · iexact Hst0
    iexact Hrt0
  iapply (wp_send X κ d 0 _ (dev_send0 d) _ _ (moves_zero X d 0 _ _ (half_of d _ (off_half d) _) (slot_of d _ (off_slot d) _))
      _ _ (sem00 0 _ rfl _) (sem01 0 _ rfl _)) $$ [HS]
  · isplitr; · iexact HC
    iexact HS
  iintro HS
  iapply (wp_send X κ d 1 _ (dev_send1 d) _ _ (moves_zero X d 1 _ _ (half_of d _ (off_half d) _) (slot_of d _ (off_slot d) _))
      _ _ (sem00 1 _ rfl _) (sem01 1 _ rfl _)) $$ [HS]
  · isplitr; · iexact HC
    iexact HS
  iintro HS
  iapply (wp_send X κ d 2 _ (dev_send2 d) _ _ (moves_zero X d 2 _ _ (half_of d _ (off_half d) _) (slot_of d _ (off_slot d) _))
      _ _ (sem00 2 _ rfl _) (sem01 2 _ rfl _)) $$ [HS]
  · isplitr; · iexact HC
    iexact HS
  iintro HS
  ihave H := (SendSt_end X d) $$ HS
  icases H with ⟨HO, Hsc0⟩
  -- what they bring, passed on
  ihave HS := (PassSt_start (F := F) d) $$ [HO Hrc0 Ha01 Hfar1 Hst1 Hrt1]
  · isplitl [HO]; · iexact HO
    isplitl [Hrc0 Ha01]
    · isplitl [Hrc0] <;> iassumption
    isplitl [Hfar1]; · iexact Hfar1
    isplitl [Hst1]; · iexact Hst1
    iexact Hrt1
  iapply (wp_came X κ d 0 _ (sem01 0 _ rfl _) (credit_slot _ _)) $$ [HS]
  · isplitr; · iexact HC
    isplitr; · iexact HL
    iexact HS
  iintro HS
  iapply (wp_pass X κ d 0 _ (dev_pass0 d) _ _ (moves_one X d 0 _ _ (slot_of _ _ (off_came0 d) _) (slot_of _ _ (off_came0 d) _))
      _ _ (sem10 0 _ rfl _) (sem11 0 _ rfl _)) $$ [HS]
  · isplitr; · iexact HC
    iexact HS
  iintro HS
  iapply (wp_came X κ d 1 _ (sem01 1 _ rfl _) (credit_slot _ _)) $$ [HS]
  · isplitr; · iexact HC
    isplitr; · iexact HL
    iexact HS
  iintro HS
  iapply (wp_pass X κ d 1 _ (dev_pass1 d) _ _ (moves_one X d 1 _ _ (slot_of _ _ (off_came1 d) _) (slot_of _ _ (off_came1 d) _))
      _ _ (sem10 1 _ rfl _) (sem11 1 _ rfl _)) $$ [HS]
  · isplitr; · iexact HC
    iexact HS
  iintro HS
  iapply (wp_came X κ d 2 _ (sem01 2 _ rfl _) (credit_slot _ _)) $$ [HS]
  · isplitr; · iexact HC
    isplitr; · iexact HL
    iexact HS
  iintro HS
  iapply (wp_pass X κ d 2 _ (dev_pass2 d) _ _ (moves_one X d 2 _ _ (slot_of _ _ (off_came2 d) _) (slot_of _ _ (off_came2 d) _))
      _ _ (sem10 2 _ rfl _) (sem11 2 _ rfl _)) $$ [HS]
  · isplitr; · iexact HC
    iexact HS
  iintro HS
  ihave H := (PassSt_end (F := F) d) $$ HS
  icases H with ⟨HO, Hz01, Hsc1⟩
  -- what the second moves bring
  ihave HS := (WaitSt_start X d (lane 1 1)) $$ [HO Hrc1 Ha11]
  · isplitl [HO]; · iexact HO
    isplitl [Hrc1]; · iexact Hrc1
    iexact Ha11
  iapply (wp_listed X κ d (lane 1 1) 0 _ (sem11 0 _ rfl _) (credit_slot _ _)) $$ [HS]
  · isplitr; · iexact HC
    isplitr; · iexact HL
    iexact HS
  iintro HS
  iapply (wp_listed X κ d (lane 1 1) 1 _ (sem11 1 _ rfl _) (credit_slot _ _)) $$ [HS]
  · isplitr; · iexact HC
    isplitr; · iexact HL
    iexact HS
  iintro HS
  iapply (wp_listed X κ d (lane 1 1) 2 _ (sem11 2 _ rfl _) (credit_slot _ _)) $$ [HS]
  · isplitr; · iexact HC
    isplitr; · iexact HL
    iexact HS
  iintro HS
  ihave H := (WaitSt_end X d (lane 1 1) ((2 : Fin 3).val + 1) rfl) $$ HS
  icases H with ⟨HO, Hz11, Hp11⟩
  -- the first moves sent
  ihave HS := (WaitSt_start X d (lane 0 0)) $$ [HO Hsc0 Ha00]
  · isplitl [HO]; · iexact HO
    isplitl [Hsc0]; · iexact Hsc0
    iexact Ha00
  iapply (wp_listed X κ d (lane 0 0) 0 _ (sem00 0 _ rfl _) (credit_half _ _)) $$ [HS]
  · isplitr; · iexact HC
    isplitr; · iexact HL
    iexact HS
  iintro HS
  iapply (wp_listed X κ d (lane 0 0) 1 _ (sem00 1 _ rfl _) (credit_half _ _)) $$ [HS]
  · isplitr; · iexact HC
    isplitr; · iexact HL
    iexact HS
  iintro HS
  iapply (wp_listed X κ d (lane 0 0) 2 _ (sem00 2 _ rfl _) (credit_half _ _)) $$ [HS]
  · isplitr; · iexact HC
    isplitr; · iexact HL
    iexact HS
  iintro HS
  ihave H := (WaitSt_end X d (lane 0 0) ((2 : Fin 3).val + 1) rfl) $$ HS
  icases H with ⟨HO, Hz00, Hp00⟩
  -- the second moves sent
  ihave HS := (WaitSt_start X d (lane 1 0)) $$ [HO Hsc1 Ha10]
  · isplitl [HO]; · iexact HO
    isplitl [Hsc1]; · iexact Hsc1
    iexact Ha10
  iapply (wp_listed X κ d (lane 1 0) 0 _ (sem10 0 _ rfl _) (credit_slot _ _)) $$ [HS]
  · isplitr; · iexact HC
    isplitr; · iexact HL
    iexact HS
  iintro HS
  iapply (wp_listed X κ d (lane 1 0) 1 _ (sem10 1 _ rfl _) (credit_slot _ _)) $$ [HS]
  · isplitr; · iexact HC
    isplitr; · iexact HL
    iexact HS
  iintro HS
  iapply (wp_listed X κ d (lane 1 0) 2 _ (sem10 2 _ rfl _) (credit_slot _ _)) $$ [HS]
  · isplitr; · iexact HC
    isplitr; · iexact HL
    iexact HS
  iintro HS
  ihave H := (WaitSt_end X d (lane 1 0) ((2 : Fin 3).val + 1) rfl) $$ HS
  icases H with ⟨HO, Hz10, Hp10⟩
  -- the own chip
  have hmay : (Ord : sProp 𝕄) ⊢ MayWait (d.tc : Thread nD τ) (asem copied) () 0 := by
    rw [MayWait_zero]; iintro -; iempintro
  iapply (wp_own X κ d copied 0 hmay _ (semCopy _ rfl _) (credit_chip _ _)) $$ [HO Hcc Hca]
  · isplitr; · iexact HC
    isplitr; · iexact HL
    isplitl [HO]; · iexact HO
    isplitl [Hcc] <;> iassumption
  iintro ⟨HO, Hzc, Hpc⟩
  rw [wp_ret]; imodintro
  unfold finish
  rw [zeros_eq]
  isplitr [HO]; swap; · unfold owing; iexact HO
  isplitl [Hp11 Hp00 Hp10 Hpc Hrest]
  · iapply (held_of X d)
    isplitl [Hp11]; · iexact Hp11
    isplitl [Hp00]; · iexact Hp00
    isplitl [Hp10]; · iexact Hp10
    isplitl [Hpc] <;> iassumption
  isplitr [Hzc]; swap; · iexact Hzc
  isplitl [Hz00 Hz01]
  · isplitl [Hz00] <;> iassumption
  isplitl [Hz10] <;> iassumption

end Cert.Opening

end
-- ==== Proof.FirstAlloc.lean ====
/-
  The first layer's gather, its launch's resources: every device's cells allocated once for the machine, the levels of the
  waits recorded, and every device handed its own array, the slots its moves fill and the tokens of the duties it pays.
-/
module

public import proofs.«01_k».proof.Proof.FirstBody

@[expose] public section

noncomputable section

namespace Cert.Opening

open Cert.FirstIdeal Cert.FirstIdeal.Gen
open Idealize.ShloMosaic
open TcCoe
open Idealize.SL RA BI BI.BIBase BI.Laws ProofMode Sem
open Rounds

variable {F : FTy → Type} [FloatOps F]

local notation "𝕄" => MT nD τ sig Unit (Elt F) ℕ UU ℕ

variable (X : Srcs F)

/-! ## The cells of the machine -/

theorem bigSep_none0 (Φ : Fin 0 → sProp 𝕄) : bigSep Finset.univ Φ = BI.emp :=
  bigSep_univ_eq_bigSepL [] (by decide) (by decide) Φ

def cells : Finset (GSem nD τ sig) := Finset.univ.image acell
/-- One duty token a cell. -/
def cellToks : Finset (GSem nD τ sig × ℕ × Unit) := Finset.univ.image fun x : Dev nD × Own => (acell x, 0, ())

theorem cells_eq (Φ : GSem nD τ sig → sProp 𝕄) : bigSep cells Φ = bigSep Finset.univ fun x : Dev nD × Own => Φ (acell x) :=
  SparseCore.bigSep_image_of_injOn acell_injective.injOn Φ
/-- The cells, device by device. -/
theorem cells_dev (Φ : GSem nD τ sig → sProp 𝕄) : bigSep cells Φ
    = bigSep Finset.univ fun d : Dev nD => bigSep Finset.univ fun x : Own => Φ (cell d x) := by
  rw [cells_eq, bigSep_univ_prod (fun x : Dev nD × Own => Φ (acell x))]
theorem cellToks_dev : (bigSep cellToks fun x => (dutyTok ER x.1 x.2.1 x.2.2 : sProp 𝕄))
    = bigSep Finset.univ fun d : Dev nD => bigSep Finset.univ fun x : Own => dutyTok ER (cell d x) 0 () := by
  unfold cellToks
  rw [SparseCore.bigSep_image_of_injOn (Function.Injective.injOn fun a b h => acell_injective (Prod.mk.inj h).1),
    bigSep_univ_prod (fun x : Dev nD × Own => (dutyTok ER (acell x) 0 () : sProp 𝕄))]

/-- A device's scoped semaphores are its cells'. -/
theorem scopedSems_eq (d : Dev nD) : (scopedSems0 (d.tc : Thread nD τ) : sProp 𝕄) = zeros d := by
  rw [show (scopedSems0 (d.tc : Thread nD τ) : sProp 𝕄) = _ from scopedSems0_tc d,
    show (Finset.univ.filter fun sm : SemLoc sig => sm.isScoped .tc) = Finset.univ.image asem by decide +kernel,
    SparseCore.bigSep_image_of_injOn asem_injective.injOn]
  rfl
/-- It has no scoped buffer. -/
theorem scopedBufs_eq (d : Dev nD) : (scopedBufs (d.tc : Thread nD τ) : sProp 𝕄) = BI.emp := by
  rw [show (scopedBufs (d.tc : Thread nD τ) : sProp 𝕄) = _ from scopedBufs_tc d,
    show (Finset.univ.filter fun b : Ref sig .tc => b.isScoped) = ∅ by decide, bigSep_empty]

/-! ## Passing along the moves -/

/-- What every device has for its incoming moves is what every device needs for its outgoing ones. -/
theorem along_moves (b : Fin 2) (Φ : Dev nD → Fin 3 → sProp 𝕄) :
    (bigSep Finset.univ fun d => bigSep Finset.univ (Φ d)) = bigSep Finset.univ fun d => bigSep Finset.univ fun n => Φ (dest b d n) n := by
  rw [BI.bigSep_univ_comm Φ, BI.bigSep_univ_comm (fun (d : Dev nD) (n : Fin 3) => Φ (dest b d n) n)]
  exact bigSep_congr fun n _ => BI.bigSep_univ_equiv (along b n) (fun d => Φ d n)

/-- The tokens of each device's own cells make the tokens of the duties each device pays. -/
theorem toks_deal : (bigSep cellToks fun x => (dutyTok ER x.1 x.2.1 x.2.2 : sProp 𝕄)) = bigSep Finset.univ fun d => toks d := by
  rw [cellToks_dev]
  unfold toks
  simp only [bigSep_own, bigSep_sep']
  rw [along_moves 0 (fun d n => (dutyTok ER (cell d (lane 0 1 n)) 0 () : sProp 𝕄)),
    along_moves 1 (fun d n => (dutyTok ER (cell d (lane 1 1 n)) 0 () : sProp 𝕄))]

/-- Every device's arrays as the launch leaves them make what each device starts from. -/
theorem mems_deal (f : (d : Dev nD) → Buf (Elt F) (loc_dst d)) :
    (bigSep Finset.univ fun d => iprop((loc_src d ↦{fullShare} srcOf X d) ∗ (loc_dst d ↦{fullShare} f d)) : sProp 𝕄)
      ⊢ bigSep Finset.univ fun d => mems X d := by
  have hopen : (bigSep Finset.univ fun d => (loc_dst d ↦{fullShare} f d : sProp 𝕄))
      ⊢ bigSep Finset.univ fun d => iprop(chipAny d ∗ (bigSep Finset.univ fun n => slotAny d (lands 0 d n)) ∗ bigSep Finset.univ fun n => slotAny d (lands 1 d n)) :=
    bigSep_mono fun d _ => (exists_intro (Φ := fun f => (loc_dst d ↦{fullShare} f : sProp 𝕄)) (f d)).trans (dst_open d)
  refine (Entails.of_eq (bigSep_sep' _ _ _)).trans ((BI.sep_mono (.refl _) hopen).trans ?_)
  unfold mems
  simp only [bigSep_sep']
  rw [along_moves 0 (fun d n => (slotAny d (lands 0 d n) : sProp 𝕄)), along_moves 1 (fun d n => (slotAny d (lands 1 d n) : sProp 𝕄))]
  exact .refl _

/-! ## The levels -/

theorem ord_alloc : (bigSep Finset.univ fun d : Dev nD => (levels0 d : sProp 𝕄)) ⊢ |==> (Ord : sProp 𝕄) := by
  have h := bigSep_mono (s := Finset.univ) fun (d : Dev nD) _ =>
    (show (levels0 d : sProp 𝕄) ⊢ |==> coreLevAts (d.tc : Thread nD τ) (fun _ => {()}) (fun g _ => lvl g.2) from
      (lev_assign_cells (d.tc : Thread nD τ) (fun _ => {()}) (fun g _ => lvl g.2)).trans (BI.bupd_mono (by show (_ : sProp 𝕄) ⊢ _; iintro ⟨-, H⟩; iexact H)))
  exact h.trans (BI.bigSep_bupd _ _)

/-! ## The allocation -/

theorem alloc : iprop((bigSep cells fun g => (semVal g 0 : sProp 𝕄)) ∗ bigSep cells fun g => roundState ER (Rd X) g 0)
    ⊢ |={Set.univ}=> iprop(∃ κ : Dev nD × Own → ℕ, bigSep Finset.univ fun x : Dev nD × Own => cellInv ER (Rd X) (κ x) (acell x)) := by
  refine (Rounds.bodies_intro ER (Rd X) cells).trans ((inv_alloc_family cells (Rounds.body ER (Rd X)) ∅ (E := Set.univ)).trans ?_)
  iintro H
  imod H with ⟨%κ, -, Hinv⟩
  imodintro; iexists fun x => κ (acell x)
  iapply (SparseCore.ent (Entails.of_eq (cells_eq (fun g => (cellInv ER (Rd X) (κ g) g : sProp 𝕄)))))
  iexact Hinv

/-- The launch element: no round for the pipeline, which has no window; the gather's cells. -/
def u₀ : UU := (initOf ∅ ∅, initOf cells cellToks)

/-- What a device has at the launch, beside what it owes. -/
def given (f : (d : Dev nD) → Buf (Elt F) (loc_dst d)) (d : Dev nD) : sProp 𝕄 :=
  iprop(zeros d ∗ ((loc_src d ↦{fullShare} srcOf X d) ∗ (loc_dst d ↦{fullShare} f d)) ∗ levels0 d ∗ recvCred 1 d ∗ recvCred 0 d)

theorem start_split : (bigSep Finset.univ fun d => start X d : sProp 𝕄)
    = iprop((bigSep Finset.univ fun _ : Dev nD => iprop(∃ κ, Ctx X κ)) ∗ (bigSep Finset.univ fun _ : Dev nD => Ord)
      ∗ (bigSep Finset.univ fun d => toks d) ∗ (bigSep Finset.univ fun d => ats d)
      ∗ (bigSep Finset.univ fun d => mems X d) ∗ bigSep Finset.univ fun d : Dev nD => iprop(recvCred 1 d ∗ recvCred 0 d)) := by
  unfold start
  rw [bigSep_sep', bigSep_sep', bigSep_sep', bigSep_sep', bigSep_sep']

theorem deal (f : (d : Dev nD) → Buf (Elt F) (loc_dst d)) :
    iprop((bigSep Finset.univ fun d => given X f d) ∗ ownU u₀) ⊢ |={Set.univ}=> (bigSep Finset.univ fun d => start X d : sProp 𝕄) := by
  unfold given u₀
  rw [bigSep_sep', bigSep_sep', bigSep_sep' Finset.univ (fun d : Dev nD => (levels0 d : sProp 𝕄))]
  iintro ⟨⟨Hz, Hm, Hl, Hcred⟩, Hu⟩
  ihave H := (ownU_split _ _) $$ Hu
  icases H with ⟨-, HA⟩
  imod (Rounds.fund ER (Rd X) cells cellToks) $$ HA with ⟨Hst, #Hr, Hat, Htok⟩
  ihave Hz' := (SparseCore.ent (Entails.of_eq ((cells_dev (F := F) fun g => semVal g 0).trans (by unfold zeros; rfl)).symm)) $$ Hz
  imod (alloc X) $$ [Hz' Hst] with ⟨%κ, #Hinv⟩
  · isplitl [Hz'] <;> iassumption
  imod (ord_alloc (F := F)) $$ Hl with #Hord
  ihave Hr' := (Entails.of_eq (cells_eq (F := F) fun g => reached ER g 0)) $$ Hr
  ihave Hat' := (Entails.of_eq (cells_dev (F := F) fun g => atPos ER g 0 ∅ 0)) $$ Hat
  ihave Htok' := (SparseCore.ent (Entails.of_eq (toks_deal (F := F)))) $$ Htok
  ihave Hm' := (mems_deal X f) $$ Hm
  imodintro
  iapply (SparseCore.ent (Entails.of_eq (start_split X).symm))
  isplitr
  · iapply (BI.bigSep_intro_persistent (S := Finset.univ) fun (d : Dev nD) _ => (BI.Entails.refl (iprop(∃ κ, Ctx X κ) : sProp 𝕄)))
    iexists κ
    unfold Ctx
    isplitl; · iexact Hinv
    iexact Hr'
  isplitr
  · iapply (BI.bigSep_intro_persistent (S := Finset.univ) fun (d : Dev nD) _ => (BI.Entails.refl (Ord : sProp 𝕄)))
    iexact Hord
  isplitl [Htok']; · iexact Htok'
  isplitl [Hat']; · unfold ats; iexact Hat'
  isplitl [Hm']; · iexact Hm'
  iexact Hcred

end Cert.Opening

end
-- ==== Proof.FirstLaunch.lean ====
/-
  The first layer's gather, its launch: the kernel's region at its call, from what the launch gives each device, and the machine's run.
-/
module

public import proofs.«01_k».proof.Proof.FirstAlloc

@[expose] public section

noncomputable section

namespace Cert.Opening

open Cert.FirstIdeal Cert.FirstIdeal.Gen
open Idealize.ShloMosaic
open TcCoe
open Idealize.SL RA BI BI.BIBase BI.Laws ProofMode Sem
open Rounds
open Pipeline (Dat Cfg BodyObligation)

variable {F : FTy → Type} [FloatOps F]

local notation "𝕄" => MT nD τ sig Unit (Elt F) ℕ UU ℕ

variable (X : Srcs F)

/-! ## The region -/

/-- The region has no window; its one step takes a device from `start` to `finish`. -/
def dat (c : Dev nD) : Dat τ (Elt F) Unit ℕ UU ℕ cfg0 c where
  A w := w.elim0
  after w := w.elim0
  Φ t := if t.val = 0 then start X c else finish X c
  q w := w.elim0
  owed t := if t.val = 0 then O₀ c else 0

def adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat X c

theorem last_ne : ¬ (Fin.last cfg0.N).val = 0 := by rw [Fin.val_last, show cfg0.N = 1 from N_0]; decide
theorem Φ_last (c : Dev nD) : (dat X c).Φ (Fin.last cfg0.N) = finish X c := by dsimp only [dat]; rw [if_neg last_ne]
theorem owed_last (c : Dev nD) : (dat X c).owed (Fin.last cfg0.N) = 0 := by dsimp only [dat]; rw [if_neg last_ne]

/-- What the region records of the waits is nothing to hold to. -/
theorem owes_at (c : Dev nD) (t : Fin (cfg0.N + 1)) : (dat X c).owesAt () t ⊢ (iprop(∃ W, owes (c.tc : Thread nD τ) ((dat X c).owed t) W) : sProp 𝕄) := by
  unfold Dat.owesAt Pipeline.owesWithin
  iintro ⟨%W, -, HO⟩
  iexists W; iexact HO
theorem owes_at_intro (c : Dev nD) (t : Fin (cfg0.N + 1)) (W : Waits sig Unit) :
    (owes (c.tc : Thread nD τ) ((dat X c).owed t) W : sProp 𝕄) ⊢ (dat X c).owesAt () t := by
  unfold Dat.owesAt Pipeline.owesWithin Dat.bound
  rw [show (dat X c).recorded t = Set.univ from rfl]
  iintro HO
  iexists W
  isplitr; · ipureintro; exact fun _ _ => Or.inl trivial
  iexact HO

theorem body_obl (c : Dev nD) : BodyObligation (dat X c) (defs₀ (F := F)) 𝒱₀ () Set.univ := fun t => by
  obtain rfl := fin_N0 t
  rw [bigSep_none0, bigSep_none0]
  rw [show (dat X c).Φ t0_0.castSucc = start X c from rfl, show (dat X c).Φ t0_0.succ = finish X c from rfl]
  iintro ⟨HΦ, HO, -⟩
  ihave HO' := (owes_at X c t0_0.castSucc) $$ HO
  icases HO' with ⟨%W, HO⟩
  iapply (wp_wand frame (wpE (defs₀ (F := F)) 𝒱₀ (c.tc : Thread nD τ) none) Set.univ) $$ [HΦ HO]
  · iapply (body_run X c W)
    isplitl [HΦ]; · iexact HΦ
    iexact HO
  iintro %a ⟨HF, ⟨%W', HO⟩⟩
  isplitl [HF]; · iexact HF
  isplitl [HO]; · iapply (owes_at_intro X c t0_0.succ W'); iexact HO
  iempintro

/-! ## The kernel at its call -/

/-- What a device enters @main with, and leaves it with. -/
def pre (c : Dev nD) : sProp 𝕄 := iprop(start X c ∗ owes (c.tc : Thread nD τ) (O₀ c) ∅)
def fin (c : Dev nD) : sProp 𝕄 := iprop(held X c ∗ scopedSems0 (c.tc : Thread nD τ))

theorem main_wp [∀ e, Nonempty (Elt F e)] (c : Dev nD) : pre X c
    ⊢ wp frame (wpE (defs (F := F)) (Variants.lift 𝒱₀) (c.tc : Thread nD τ) none) Set.univ (main (F := F) c)
        fun _ => post (liftTc (fin X) BI.emp) (c.tc : Thread nD τ) := by
  have hbufs : (scopedBufs (c.tc : Thread nD τ) : sProp 𝕄) ⊢ iprop(Dat.staging (Pipeline.pin (pcfgs (F := F)) adm 0) c ∗ BI.emp) := by
    rw [scopedBufs_eq, show (Dat.staging (Pipeline.pin (pcfgs (F := F)) adm 0) c : sProp 𝕄) = BI.emp from bigSep_none0 _]
    iintro H; isplitr; · iempintro
    iexact H
  have hin : iprop(start X c ∗ Pipeline.prefHeld (pcfgs (F := F) 0).pre c (fun _ => fullShare) (adm (F := F) 0).1 ∗ BI.emp) ⊢ (pdats X 0 c).Φ 0 := by
    rw [show (pdats X 0 c).Φ 0 = start X c from rfl]
    iintro ⟨H, -, -⟩; iexact H
  have hout : iprop((pdats X 0 c).Φ (Fin.last cfg0.N) ∗ Pipeline.cellsSems0 (Pipeline.pin (pcfgs (F := F)) adm) 0 c
        ∗ Dat.staging (Pipeline.pin (pcfgs (F := F)) adm 0) c ∗ BI.emp)
      ⊢ iprop(held X c ∗ scopedSems0 (c.tc : Thread nD τ) ∗ scopedBufs (c.tc : Thread nD τ)) := by
    rw [show (pdats X 0 c).Φ (Fin.last cfg0.N) = finish X c from Φ_last X c, scopedSems_eq, scopedBufs_eq]
    unfold finish
    iintro ⟨⟨Hs, Hz⟩, -, -, -⟩
    isplitl [Hs]; · iexact Hs
    isplitl [Hz]; · iexact Hz
    iempintro
  have hrun := Pipeline.wp_customCall_entry_frame (pcfgs (F := F)) adm (pdats X) () EP (fun _ => 0) cellOf_inj 0 (defs₀ (F := F)) 𝒱₀ (fun _ => fullShare) c Set.univ
    (fun _ _ => Set.mem_univ _) (body_obl X c).loose block_pos0 none (fun u h => nomatch h) hbufs hin hout (α := PUnit) (k := fun _ => .ret ⟨⟩)
    (Q := fun _ => post (liftTc (fin X) BI.emp) (c.tc : Thread nD τ))
  refine BI.Entails.trans ?_ (BI.wand_elim hrun)
  rw [scopedBufs_eq, wp_ret]
  have hnone (Φ : Fin 0 → sProp 𝕄) : (BI.emp : sProp 𝕄) ⊢ bigSep Finset.univ Φ := SparseCore.ent (Entails.of_eq (bigSep_none0 Φ).symm)
  have h1 : (BI.emp : sProp 𝕄) ⊢ (pdats X 0 c).arrays fun w => (pdats X 0 c).arrAt w 0 := hnone _
  have h2 : (BI.emp : sProp 𝕄) ⊢ Pipeline.PerCore.cellsWaits (fun _ => Pipeline.pin pcfgs adm) (pdats X) () 0 c := hnone _
  have h3 : (BI.emp : sProp 𝕄) ⊢ Pipeline.PerCore.cellsInit (fun _ => Pipeline.pin pcfgs adm) (pdats X) EP (fun _ => 0) 0 c := hnone _
  have h4 : (BI.emp : sProp 𝕄) ⊢ Pipeline.PerCore.toksInit (fun _ => Pipeline.pin (pcfgs (F := F)) adm) EP 0 c := hnone _
  have h5 : (BI.emp : sProp 𝕄) ⊢ Pipeline.prefHeld (pcfgs (F := F) 0).pre c (fun _ => fullShare) (adm (F := F) 0).1 := hnone _
  have hlast : (pdats X 0 c).owesAt () (Fin.last (Pipeline.pin (pcfgs (F := F)) adm 0).N) ⊢ (iprop(∃ W, owes (c.tc : Thread nD τ) 0 W) : sProp 𝕄) := by
    have h := owes_at X c (Fin.last cfg0.N)
    rw [owed_last] at h
    exact h
  simp only [Pipeline.EntryPre, Pipeline.PerCore.EntryPre, Pipeline.EntryPost, Pipeline.PerCore.EntryPost]
  unfold pre
  show (_ : sProp 𝕄) ⊢ iprop(((_ ∗ _ ∗ _ ∗ _ ∗ _) ∗ _ ∗ _ ∗ _ ∗ _) ∗ (_ -∗ _))
  iintro ⟨HX, HO⟩
  isplitl
  · isplitl [HO]
    · isplitr; · iapply h1; iempintro
      isplitl [HO]; · iapply (owes_at_intro X c 0 ∅); iexact HO
      isplitr; · iapply h2; iempintro
      isplitr; · iapply h3; iempintro
      iapply h4; iempintro
    isplitr; · iapply h5; iempintro
    isplitl [HX]; · iexact HX
    isplitr <;> iempintro
  iintro ⟨⟨-, HO⟩, HF, Hss, -⟩
  imodintro
  unfold post
  simp only [liftTc_tc, fin]
  ihave HO' := hlast $$ HO
  isplitl [HF Hss]; · isplitl [HF] <;> iassumption
  iexact HO'

/-! ## The machine's run -/

/-- The arrays to gather, as the machine starts. -/
def srcs (m : (ℓ : Loc nD τ sig) → Buf (Elt F) ℓ) : Srcs F := fun d => m (loc_src d)

theorem core_given (m : (ℓ : Loc nD τ sig) → Buf (Elt F) ℓ) (ρ : Dev nD → PrngReg) (c : Dev nD) :
    coreInit (Pipeline.owing O₀) 0 (⟨m, fun _ => 0, ρ⟩ : MemSt nD τ sig (Elt F)) (c.tc : Thread nD τ)
      ⊢ (iprop(given (srcs m) (fun d => m (loc_dst d)) c ∗ owes (c.tc : Thread nD τ) (O₀ c) ∅) : sProp 𝕄) := by
  refine (Pipeline.coreInit_boundary_owing O₀ m ρ c).trans ?_
  rw [Pipeline.unscopedBufs_split cfgs 0 winFacts0.arr_unscoped (fun a => a.elim0) c, unscopedRest0_eq]
  unfold boundary given
  rw [scopedSems_eq]
  iintro ⟨⟨-, Hz, -⟩, ⟨-, Hm⟩, -, HO, Hl, -, Hcr⟩
  ihave Hcr' := (launchCred_O₀ c) $$ Hcr
  isplitr [HO]
  · isplitl [Hz]; · iexact Hz
    isplitl [Hm]; · iexact Hm
    isplitl [Hl]; · iexact Hl
    iexact Hcr'
  iexact HO

/-- What the devices end with, read in the machine's state. -/
theorem core_read (c : Dev nD) (s' : Phys nD τ sig (Elt F)) : iprop(fin X c ∗ SI s')
    ⊢ (iprop(|={Set.univ}=> (⌜(s'.mem.mem (loc_src c) = X c ∧ s'.mem.mem (loc_dst c) = landed X c)
        ∧ ∀ sm : SemLoc sig, sm.isScoped .tc = true → s'.mem.sem ((c.tc : Thread nD τ), sm) = 0⌝ ∗ SI s')) : sProp 𝕄) := by
  unfold fin held
  iintro ⟨⟨⟨H0, H1⟩, Hss⟩, HSI⟩
  ihave %hz := (tcScoped_read_pers c s') $$ [Hss HSI]
  · isplitl [Hss] <;> iassumption
  ihave H := (persistent_entails_right (SI_pointsTo_agree (st := s') (ℓ := loc_src c) (I := Finset.univ) (q := fullShare) (f := srcOf X c))) $$ [HSI H0]
  · isplitl [HSI] <;> iassumption
  icases H with ⟨%e0, HSI, -⟩
  ihave H := (persistent_entails_right (SI_pointsTo_agree (st := s') (ℓ := loc_dst c) (I := Finset.univ) (q := fullShare) (f := landed X c))) $$ [HSI H1]
  · isplitl [HSI] <;> iassumption
  icases H with ⟨%e1, HSI, -⟩
  imodintro
  isplitr
  · ipureintro
    exact ⟨⟨Buf.eq_of_forall_mem_univ e0, Buf.eq_of_forall_mem_univ e1⟩, hz⟩
  iexact HSI

/-- The machine's run: every device's array as it was, its result array all devices' arrays, every counter zero. -/
theorem run_main [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => (∀ d, r.2.mem (loc_src d) = m (loc_src d) ∧ r.2.mem (loc_dst d) = landed (srcs m) d) ∧ r.2.sem = fun _ => 0) := by
  refine (θ_run (defs (F := F)) _ _).mono (Q := fun r => (∀ c : Dev nD, (r.2.mem (loc_src c) = m (loc_src c) ∧ r.2.mem (loc_dst c) = landed (srcs m) c)
        ∧ ∀ sm : SemLoc sig, sm.isScoped .tc = true → r.2.sem ((c.tc : Thread nD τ), sm) = 0) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (Ix := Unit) (Name := ℕ) (U := UU) (Lvl := ℕ) (X := Unit) (Variants.lift 𝒱₀) (Pipeline.owing O₀) 0 (noBookings fun _ => le_rfl)
        (Pipeline.owing_of_ne O₀) u₀ (fun _ => pre (srcs m)) (fun _ => fin (srcs m)) (fun _ => iprop(emp)) Set.univ ?_ (fun _ c => main_wp (srcs m) c) fun _ => ?_))
  · have hcores := bigSep_mono (s := Finset.univ) fun (c : Dev nD) _ => core_given m ρ c
    iintro ⟨Hc, Hu⟩
    ihave H := (SparseCore.ent hcores) $$ Hc
    ihave H := (SparseCore.ent (Entails.of_eq (bigSep_sep' _ _ _))) $$ H
    icases H with ⟨Hg, HO⟩
    imod (deal (srcs m) _) $$ [Hg Hu] with Hs
    · isplitl [Hg] <;> iassumption
    imodintro
    iexists ()
    isplitr []
    · unfold pre
      iapply (SparseCore.ent (Entails.of_eq (bigSep_sep' _ _ _).symm))
      isplitl [Hs] <;> iassumption
    · iempintro
  · iintro ⟨H, -, Hsc⟩ %s' HSI
    ihave %hsc := (scSems_read_zero m ρ s') $$ [Hsc HSI]
    · isplitl [Hsc] <;> iassumption
    imod (posts_fupd Finset.univ (core_read (srcs m)) s') $$ [H HSI] with %h
    · isplitl [H] <;> iassumption
    imodintro
    ipureintro
    exact ⟨fun c => h c (Finset.mem_univ c), hsc⟩

end Cert.Opening

end
-- ==== Proof.FirstRows.lean ====
/-
  The values of the first layer's gather: a device's block of the argument is its chip's part of the reference's result.
-/
module

public import proofs.«01_k».proof.Proof.GatherRows

@[expose] public section

noncomputable section

namespace Cert.Opening

open Idealize.ShloMosaic ValueIdx
open Cert.GatherIdeal (nD)
open Cert.Gathering (chip meshLin_chip)

variable {α : Type}

theorem block_at (A B : ℕ) (W : (⟨3, ![8, A, B]⟩ : Shape).Idx → α) (q : Dev nD)
    (hb : Layout.TilesN ⟨3, ![2, A, B]⟩ ⟨3, ![8, A, B]⟩ (fun b => Layout.cutSize [2, 2, 2] ((![[0, 1], [], []] : Fin 3 → List ℕ) b)))
    (hm : ∀ b, ∀ i ∈ (![[0, 1], [], []] : Fin 3 → List ℕ) b, 0 < [2, 2, 2].getD i 0)
    (c : (⟨3, ![8, A, B]⟩ : Shape).ShapeCasts ⟨4, ![4, 2, A, B]⟩) (r : Fin 2) (i : Fin A) (k : Fin B) :
    Layout.blockN ⟨3, ![2, A, B]⟩ ⟨3, ![8, A, B]⟩ (Layout.meshBlock [2, 2, 2] ![[0, 1], [], []] q hm) W hb (ix3 r i k)
      = shapeCast ⟨4, ![4, 2, A, B]⟩ W c (ix4 (chip q) r i k) := by
  have hq : q.val < 8 := q.isLt
  have hr := r.isLt
  obtain ⟨x, hx⟩ : ∃ x : Fin 8, x.val = q.val / 2 * 2 + r.val := ⟨⟨q.val / 2 * 2 + r.val, by omega⟩, rfl⟩
  rw [shapeCast_apply _ c (ix4 (chip q) r i k) (ix3 x i k)
      (by rw [Shape.rowMajor_val_three, Shape.rowMajor_val_four]; show (x.val * A + i.val) * B + k.val = ((q.val / 2 * 2 + r.val) * A + i.val) * B + k.val; rw [hx]),
    Layout.blockN_apply]
  refine congrArg W (funext fun a => Fin.ext ?_)
  rw [Layout.TilesN.idx_val]
  fin_cases a
  · show Layout.meshLin [2, 2, 2] q.val [0, 1] * 2 + r.val = x.val
    rw [meshLin_chip]; omega
  · show 0 * A + i.val = i.val; omega
  · show 0 * B + k.val = k.val; omega

end Cert.Opening

end
-- ==== Proof.UpdateRule.lean ====
/-
  The weights' update read element by element, at the ideal instance: one step of AdamW on one weight (`moment`,
  `square`, `step`), the values a block's body stores as that step at each element (`stored_*`), and the gradient
  the two halves make, joined along the rows (`joined_apply`).

  Nothing here names a program: the two updates (UpdateIn, UpdateOut) have the same body at two widths and two heights,
  and both modules of that name read theirs through the lemmas below.
-/
module

public import Idealize.ShloMosaic.PureOps.Ideal
public import Idealize.ShloMosaic.Lib.Pipeline.Value

@[expose] public section

noncomputable section

open Idealize.ShloMosaic

namespace Cert.UpdateRule

/-! ## One step on one weight -/

/-- The number an f32 word stands for. -/
abbrev word (b : BitVec 32) : Ideal .f32 := FloatOps.ofBits .f32 b

/-- The new first moment: `0.9 m + 0.1 g`. -/
def moment (g m : Ideal .f32) : Ideal .f32 :=
  FloatOps.addf (FloatOps.mulf (word 0x3F666666#32) m) (FloatOps.mulf (word 0x3DCCCCCD#32) g)

/-- The new second moment: `0.999 v + 0.001 g²`. -/
def square (g v : Ideal .f32) : Ideal .f32 :=
  FloatOps.addf (FloatOps.mulf (word 0x3F7FBE77#32) v) (FloatOps.mulf (word 0x3A83126F#32) (FloatOps.mulf g g))

/-- The weight's change: `-lr (m̂ / (√v̂ + ε) + λ w)`, the moments' hats their quotients by the step's corrections. -/
def step (w g m v : Ideal .f32) : Ideal .f32 :=
  FloatOps.mulf (word 0xBA83126F#32)
    (FloatOps.addf
      (FloatOps.divf (FloatOps.divf (moment g m) (word 0x3F26BD02#32))
        (FloatOps.addf (FloatOps.sqrt (FloatOps.divf (square g v) (word 0x3C231ACC#32))) (word 0x322BCC77#32)))
      (FloatOps.mulf (word 0x3C23D70A#32) w))

/-! ## What a block's body stores, at an element

A block is `[1, rows, columns]`; the body drops the leading one, computes, and puts it back. -/

section Stored

variable {d : Fin 2 → Nat}

/-- A block without its leading one, at the last two coordinates of an index, is the block at the index. -/
theorem flat_apply {α : Type} (x : (⟨3, Matrix.vecCons 1 d⟩ : Shape).Idx → α)
    (h : (⟨3, Matrix.vecCons 1 d⟩ : Shape).ShapeCasts ⟨2, d⟩) (y : (⟨3, Matrix.vecCons 1 d⟩ : Shape).Idx) :
    shapeCast ⟨2, d⟩ x h (fun a => y a.succ) = x y := by
  refine (shapeCast_dropUnit_apply d x h _).trans ?_
  refine congrArg x (funext fun a => Fin.cases ?_ (fun b => rfl) a)
  apply Fin.ext
  have h0 : (y 0).val < 1 := (y 0).isLt
  exact (Nat.lt_one_iff.mp h0).symm

variable (down : (⟨3, Matrix.vecCons 1 d⟩ : Shape).ShapeCasts ⟨2, d⟩)
variable (up : (⟨2, d⟩ : Shape).ShapeCasts ⟨3, Matrix.vecCons 1 d⟩)
variable (b : BitVec 1)
variable (w lo hi m v : FVec Ideal ⟨3, Matrix.vecCons 1 d⟩ .f32)

/-- The gradient's block: of the lower half's and the upper half's, the one the grid point names. -/
abbrev chosen : FVec Ideal ⟨2, d⟩ .f32 := Scalar.select b (shapeCast ⟨2, d⟩ lo down) (shapeCast ⟨2, d⟩ hi down)

theorem chosen_apply (y : (⟨3, Matrix.vecCons 1 d⟩ : Shape).Idx) :
    chosen down b lo hi (fun a => y a.succ) = Scalar.select b (lo y) (hi y) := by
  unfold chosen Scalar.select
  split <;> exact flat_apply ..

abbrev moments : FVec Ideal ⟨2, d⟩ .f32 :=
  addf (mulf (broadcast ⟨2, d⟩ (Scalar.ofBits .f32 0x3F666666#32)) (shapeCast ⟨2, d⟩ m down))
    (mulf (broadcast ⟨2, d⟩ (Scalar.ofBits .f32 0x3DCCCCCD#32)) (chosen down b lo hi))

abbrev squares : FVec Ideal ⟨2, d⟩ .f32 :=
  addf (mulf (broadcast ⟨2, d⟩ (Scalar.ofBits .f32 0x3F7FBE77#32)) (shapeCast ⟨2, d⟩ v down))
    (mulf (broadcast ⟨2, d⟩ (Scalar.ofBits .f32 0x3A83126F#32)) (mulf (chosen down b lo hi) (chosen down b lo hi)))

abbrev steps : FVec Ideal ⟨2, d⟩ .f32 :=
  mulf (broadcast ⟨2, d⟩ (Scalar.ofBits .f32 0xBA83126F#32))
    (addf
      (divf (divf (moments down b lo hi m) (broadcast ⟨2, d⟩ (Scalar.ofBits .f32 0x3F26BD02#32)))
        (addf (sqrt (divf (squares down b lo hi v) (broadcast ⟨2, d⟩ (Scalar.ofBits .f32 0x3C231ACC#32))))
          (broadcast ⟨2, d⟩ (Scalar.ofBits .f32 0x322BCC77#32))))
      (mulf (broadcast ⟨2, d⟩ (Scalar.ofBits .f32 0x3C23D70A#32)) (shapeCast ⟨2, d⟩ w down)))

theorem stored_gradient (y : (⟨3, Matrix.vecCons 1 d⟩ : Shape).Idx) :
    shapeCast ⟨3, Matrix.vecCons 1 d⟩ (chosen down b lo hi) up y = Scalar.select b (lo y) (hi y) := by
  rw [shapeCast_addUnit_apply, chosen_apply]

theorem moments_apply (y : (⟨3, Matrix.vecCons 1 d⟩ : Shape).Idx) :
    moments down b lo hi m (fun a => y a.succ) = moment (Scalar.select b (lo y) (hi y)) (m y) := by
  rw [← chosen_apply down, ← flat_apply m down]; rfl

theorem squares_apply (y : (⟨3, Matrix.vecCons 1 d⟩ : Shape).Idx) :
    squares down b lo hi v (fun a => y a.succ) = square (Scalar.select b (lo y) (hi y)) (v y) := by
  rw [← chosen_apply down, ← flat_apply v down]; rfl

theorem stored_moment (y : (⟨3, Matrix.vecCons 1 d⟩ : Shape).Idx) :
    shapeCast ⟨3, Matrix.vecCons 1 d⟩ (moments down b lo hi m) up y = moment (Scalar.select b (lo y) (hi y)) (m y) := by
  rw [shapeCast_addUnit_apply, moments_apply]

theorem stored_square (y : (⟨3, Matrix.vecCons 1 d⟩ : Shape).Idx) :
    shapeCast ⟨3, Matrix.vecCons 1 d⟩ (squares down b lo hi v) up y = square (Scalar.select b (lo y) (hi y)) (v y) := by
  rw [shapeCast_addUnit_apply, squares_apply]

theorem stored_step (y : (⟨3, Matrix.vecCons 1 d⟩ : Shape).Idx) :
    shapeCast ⟨3, Matrix.vecCons 1 d⟩ (steps down b w lo hi m v) up y
      = step (w y) (Scalar.select b (lo y) (hi y)) (m y) (v y) := by
  rw [shapeCast_addUnit_apply, ← chosen_apply down, ← flat_apply m down, ← flat_apply v down, ← flat_apply w down]; rfl

end Stored

/-! ## The gradient from its two halves -/

/-- Row `q n + r` of the two halves joined along the rows is row `r` of the half `q` names: the lower for `q = 0`, the
    upper for `q = 1` (`q` a 32-bit grid coordinate, compared with zero as the body does). -/
theorem joined_apply {n N k : Nat} {α : Type} (lo hi : (⟨3, ![2, n, k]⟩ : Shape).Idx → α)
    (hc : Shape.Concatenates [⟨3, ![2, n, k]⟩, ⟨3, ![2, n, k]⟩] ⟨3, ![2, N, k]⟩ 1)
    (z : (⟨3, ![2, N, k]⟩ : Shape).Idx) (x : (⟨3, ![2, n, k]⟩ : Shape).Idx) (q : Fin 2)
    (h0 : (z 0 : Nat) = x 0) (h1 : (z 1 : Nat) = q * n + x 1) (h2 : (z 2 : Nat) = x 2) :
    concatenate ⟨3, ![2, N, k]⟩ 1 [⟨⟨3, ![2, n, k]⟩, lo⟩, ⟨⟨3, ![2, n, k]⟩, hi⟩] hc z
      = Scalar.select (Scalar.cmpi .eq (BitVec.ofNat 32 q.val) 0#32) (lo x) (hi x) := by
  match q with
  | 0 =>
    refine concatenate_pair_apply_left 1 lo hi hc z rfl x fun a => ?_
    match a with
    | 0 => exact h0.symm
    | 1 => exact (h1.trans (by simp)).symm
    | 2 => exact h2.symm
  | 1 =>
    refine concatenate_pair_apply_right 1 lo hi hc z rfl rfl x (fun a ha => ?_) ?_
    · match a with
      | 0 => exact h0.symm
      | 1 => exact absurd rfl ha
      | 2 => exact h2.symm
    · exact ((h1.trans (by simp)).trans (Nat.add_comm ..)).symm

end Cert.UpdateRule
end
-- ==== Proof.UpdateInValue.lean ====
/-
  The update of `w_in` at the ideal instance, read: after the kernel's run the four result arrays hold the gradient (the
  two halves joined along the rows), the step, and the two new moments, element by element.

  The grid is (layer, half, block of 128 rows). Point `t`'s result blocks stand at layer `t / 8` and block row `t % 8`; the
  weight's and the moments' blocks stand there too, and the halves' blocks at the same layer and at block row `t % 4`
  (`at_point`). So what a point writes is its block of one function of the arguments, and the sixteen
  blocks fill the arrays (`final_*`).
-/
module

public import proofs.«01_k».proof.Proof.UpdateRule
public import proofs.«01_k».proof.Proof.Gen.UpdateInIdeal.Value
public import Idealize.ShloMosaic.Lib.Pipeline.ValueKit

@[expose] public section

noncomputable section

namespace Cert.UpdateInIdeal.Steps

open Cert.UpdateInIdeal Cert.UpdateInIdeal.Gen Cert.UpdateRule
open Idealize.ShloMosaic TcCoe Idealize.SL.Sem
open Pipeline (Dat)

variable (m : (ℓ : Loc nD τ sig) → Buf (Elt Ideal) ℓ) (ρ : Dev nD → PrngReg)
variable (hc : Shape.Concatenates [S2x512x898, S2x512x898] S2x1024x898 1)

/-- The gradient: the two halves joined along the rows. -/
def gradient (c : Dev nD) : FVec Ideal S2x1024x898 .f32 :=
  concatenate S2x1024x898 1 [⟨S2x512x898, m ((c : Thread nD τ).loc main_arg1)⟩,
    ⟨S2x512x898, m ((c : Thread nD τ).loc main_arg2)⟩] hc

/-- The weight's change, the new first moment and the new second moment. -/
def change (c : Dev nD) : FVec Ideal S2x1024x898 .f32 := fun i =>
  step (m ((c : Thread nD τ).loc main_arg0) i) (gradient m hc c i) (m ((c : Thread nD τ).loc main_arg3) i)
    (m ((c : Thread nD τ).loc main_arg4) i)

def first (c : Dev nD) : FVec Ideal S2x1024x898 .f32 := fun i =>
  moment (gradient m hc c i) (m ((c : Thread nD τ).loc main_arg3) i)

def second (c : Dev nD) : FVec Ideal S2x1024x898 .f32 := fun i =>
  square (gradient m hc c i) (m ((c : Thread nD τ).loc main_arg4) i)

/-! ## Where a point's blocks stand -/

/-- A half's block stands in its half where the result's stands in the whole, four block rows being a half. -/
theorem at_point : ∀ t : Fin cfg0.N, win0_5.index t 0 = win0_1.index t 0
    ∧ win0_5.index t 1 = (grid0.coords t 1).val * 4 + win0_1.index t 1 ∧ win0_5.index t 2 = win0_1.index t 2 :=
  (by decide +kernel : ∀ t : Fin grid0.N, win0_5.index t 0 = win0_1.index t 0
    ∧ win0_5.index t 1 = (grid0.coords t 1).val * 4 + win0_1.index t 1 ∧ win0_5.index t 2 = win0_1.index t 2)

/-- The gradient at an element of point `t`'s block is the element of the block the point chooses. -/
theorem gradient_at (c : Dev nD) (t : Fin cfg0.N) (y : S1x128x898.Idx) :
    gradient m hc c ((win0_5.rect t).emb y)
      = Scalar.select (Scalar.cmpi .eq (BitVec.ofNat 32 (grid0.coords t 1).val) 0#32)
          (iblk m c 1 t y) (iblk m c 2 t y) := by
  obtain ⟨e0, e1, e2⟩ := at_point t
  refine joined_apply _ _ hc _ ((win0_1.rect t).emb y) (grid0.coords t 1) ?_ ?_ ?_
  · rw [win0_5.rect_emb_val t y 0, win0_1.rect_emb_val t y 0, e0]
  · rw [win0_5.rect_emb_val t y 1, win0_1.rect_emb_val t y 1, e1]
    show _ * 128 + _ = _ * 512 + (_ * 128 + _)
    ring
  · rw [win0_5.rect_emb_val t y 2, win0_1.rect_emb_val t y 2, e2]

/-! ## What the points write fills the arrays -/

theorem final_gradient (c : Dev nD) : (dats m 0 c).arrAt 5 cfg0.N = gradient m hc c := by
  refine (dats m 0 c).arrAt_eq_of_covers 5 _ (by decide +kernel) fun t hf y => ?_
  blk_simp
  rw [after0_5]
  frame_out
  exact (stored_gradient ..).trans (gradient_at m hc c t y).symm

theorem final_change (c : Dev nD) : (dats m 0 c).arrAt 6 cfg0.N = change m hc c := by
  refine (dats m 0 c).arrAt_eq_of_covers 6 _ (by decide +kernel) fun t hf y => ?_
  blk_simp
  rw [after0_6]
  frame_out
  exact (stored_step ..).trans (congrArg (fun g => step (iblk m c 0 t y) g (iblk m c 3 t y) (iblk m c 4 t y))
    (gradient_at m hc c t y).symm)

theorem final_first (c : Dev nD) : (dats m 0 c).arrAt 7 cfg0.N = first m hc c := by
  refine (dats m 0 c).arrAt_eq_of_covers 7 _ (by decide +kernel) fun t hf y => ?_
  blk_simp
  rw [after0_7]
  frame_out
  exact (stored_moment ..).trans (congrArg (fun g => moment g (iblk m c 3 t y)) (gradient_at m hc c t y).symm)

theorem final_second (c : Dev nD) : (dats m 0 c).arrAt 8 cfg0.N = second m hc c := by
  refine (dats m 0 c).arrAt_eq_of_covers 8 _ (by decide +kernel) fun t hf y => ?_
  blk_simp
  rw [after0_8]
  frame_out
  exact (stored_square ..).trans (congrArg (fun g => square g (iblk m c 4 t y)) (gradient_at m hc c t y).symm)

end Cert.UpdateInIdeal.Steps
end
-- ==== Proof.UpdateOutValue.lean ====
/-
  The update of `w_out` at the ideal instance, read: after the kernel's run the four result arrays hold the gradient (the
  two halves joined along the rows), the step, and the two new moments, element by element.

  The grid is (layer, half, block of 128 rows). Point `t`'s result blocks stand at layer `t / 2` and block row `t % 2`; the
  weight's and the moments' blocks stand there too, and the halves' blocks at the same layer and at block row 0
  (`at_point`). So what a point writes is its block of one function of the arguments, and the four
  blocks fill the arrays (`final_*`).
-/
module

public import proofs.«01_k».proof.Proof.UpdateRule
public import proofs.«01_k».proof.Proof.Gen.UpdateOutIdeal.Value
public import Idealize.ShloMosaic.Lib.Pipeline.ValueKit

@[expose] public section

noncomputable section

namespace Cert.UpdateOutIdeal.Steps

open Cert.UpdateOutIdeal Cert.UpdateOutIdeal.Gen Cert.UpdateRule
open Idealize.ShloMosaic TcCoe Idealize.SL.Sem
open Pipeline (Dat)

variable (m : (ℓ : Loc nD τ sig) → Buf (Elt Ideal) ℓ) (ρ : Dev nD → PrngReg)
variable (hc : Shape.Concatenates [S2x128x1024, S2x128x1024] S2x256x1024 1)

/-- The gradient: the two halves joined along the rows. -/
def gradient (c : Dev nD) : FVec Ideal S2x256x1024 .f32 :=
  concatenate S2x256x1024 1 [⟨S2x128x1024, m ((c : Thread nD τ).loc main_arg1)⟩,
    ⟨S2x128x1024, m ((c : Thread nD τ).loc main_arg2)⟩] hc

/-- The weight's change, the new first moment and the new second moment. -/
def change (c : Dev nD) : FVec Ideal S2x256x1024 .f32 := fun i =>
  step (m ((c : Thread nD τ).loc main_arg0) i) (gradient m hc c i) (m ((c : Thread nD τ).loc main_arg3) i)
    (m ((c : Thread nD τ).loc main_arg4) i)

def first (c : Dev nD) : FVec Ideal S2x256x1024 .f32 := fun i =>
  moment (gradient m hc c i) (m ((c : Thread nD τ).loc main_arg3) i)

def second (c : Dev nD) : FVec Ideal S2x256x1024 .f32 := fun i =>
  square (gradient m hc c i) (m ((c : Thread nD τ).loc main_arg4) i)

/-! ## Where a point's blocks stand -/

/-- A half's block stands in its half where the result's stands in the whole, one block row being a half. -/
theorem at_point : ∀ t : Fin cfg0.N, win0_5.index t 0 = win0_1.index t 0
    ∧ win0_5.index t 1 = (grid0.coords t 1).val * 1 + win0_1.index t 1 ∧ win0_5.index t 2 = win0_1.index t 2 :=
  (by decide +kernel : ∀ t : Fin grid0.N, win0_5.index t 0 = win0_1.index t 0
    ∧ win0_5.index t 1 = (grid0.coords t 1).val * 1 + win0_1.index t 1 ∧ win0_5.index t 2 = win0_1.index t 2)

/-- The gradient at an element of point `t`'s block is the element of the block the point chooses. -/
theorem gradient_at (c : Dev nD) (t : Fin cfg0.N) (y : S1x128x1024.Idx) :
    gradient m hc c ((win0_5.rect t).emb y)
      = Scalar.select (Scalar.cmpi .eq (BitVec.ofNat 32 (grid0.coords t 1).val) 0#32)
          (iblk m c 1 t y) (iblk m c 2 t y) := by
  obtain ⟨e0, e1, e2⟩ := at_point t
  refine joined_apply _ _ hc _ ((win0_1.rect t).emb y) (grid0.coords t 1) ?_ ?_ ?_
  · rw [win0_5.rect_emb_val t y 0, win0_1.rect_emb_val t y 0, e0]
  · rw [win0_5.rect_emb_val t y 1, win0_1.rect_emb_val t y 1, e1]
    show _ * 128 + _ = _ * 128 + (_ * 128 + _)
    ring
  · rw [win0_5.rect_emb_val t y 2, win0_1.rect_emb_val t y 2, e2]

/-! ## What the points write fills the arrays -/

theorem final_gradient (c : Dev nD) : (dats m 0 c).arrAt 5 cfg0.N = gradient m hc c := by
  refine (dats m 0 c).arrAt_eq_of_covers 5 _ (by decide +kernel) fun t hf y => ?_
  blk_simp
  rw [after0_5]
  frame_out
  exact (stored_gradient ..).trans (gradient_at m hc c t y).symm

theorem final_change (c : Dev nD) : (dats m 0 c).arrAt 6 cfg0.N = change m hc c := by
  refine (dats m 0 c).arrAt_eq_of_covers 6 _ (by decide +kernel) fun t hf y => ?_
  blk_simp
  rw [after0_6]
  frame_out
  exact (stored_step ..).trans (congrArg (fun g => step (iblk m c 0 t y) g (iblk m c 3 t y) (iblk m c 4 t y))
    (gradient_at m hc c t y).symm)

theorem final_first (c : Dev nD) : (dats m 0 c).arrAt 7 cfg0.N = first m hc c := by
  refine (dats m 0 c).arrAt_eq_of_covers 7 _ (by decide +kernel) fun t hf y => ?_
  blk_simp
  rw [after0_7]
  frame_out
  exact (stored_moment ..).trans (congrArg (fun g => moment g (iblk m c 3 t y)) (gradient_at m hc c t y).symm)

theorem final_second (c : Dev nD) : (dats m 0 c).arrAt 8 cfg0.N = second m hc c := by
  refine (dats m 0 c).arrAt_eq_of_covers 8 _ (by decide +kernel) fun t hf y => ?_
  blk_simp
  rw [after0_8]
  frame_out
  exact (stored_square ..).trans (congrArg (fun g => square g (iblk m c 4 t y)) (gradient_at m hc c t y).symm)

end Cert.UpdateOutIdeal.Steps
end
-- ==== Proof.SoftmaxRule.lean ====
/-
  The gradient of two bounds through their softmax, at the ideal instance, on numbers: what the kernel computes of a
  column (`first`, `second`) and what the transposed derivative of the reference computes of it (`back`) are equal when the
  column's two exponentials are positive real numbers, whatever extended reals the incoming gradient holds.

  The incoming gradient is of the running sum less its first row. Its part by the first probability is zero for real
  numbers, and both programs compute it as a difference of one sum with itself, the reference from the negated terms:
  where the sum is infinite both are `⊥` (`cancelled`).
-/
module

public import Idealize.ShloMosaic.PureOps.Ideal

@[expose] public section

noncomputable section

open Idealize.ShloMosaic

namespace Cert.SoftmaxRule

/-- The gradient by the first probability, as the kernel forms it. -/
def lost (g0 g1 : EReal) : EReal := (g0 + g1) - (g0 + g1)

/-- The mean of the gradients by the probabilities, weighted by them. -/
def mean (e0 e1 g0 g1 : EReal) : EReal := Ideal.div e0 (e0 + e1) * lost g0 g1 + Ideal.div e1 (e0 + e1) * g1

/-- The gradient by the first bound. -/
def first (e0 e1 g0 g1 : EReal) : EReal := Ideal.div e0 (e0 + e1) * (lost g0 g1 - mean e0 e1 g0 g1)

/-- The gradient by the second bound. -/
def second (e0 e1 g0 g1 : EReal) : EReal := Ideal.div e1 (e0 + e1) * (g1 - mean e0 e1 g0 g1)

/-- The reference's gradient by a bound of exponential `e`, `q0` and `q1` being those by the two probabilities and `q` the
    one by this bound's. -/
def back (e0 e1 q0 q1 e q : EReal) : EReal :=
  (Ideal.div q (e0 + e1) + -(q0 * Ideal.div 1 ((e0 + e1) * (e0 + e1)) * e0 + q1 * Ideal.div 1 ((e0 + e1) * (e0 + e1)) * e1)) * e

/-- The reference's gradient by the first probability is the kernel's. -/
theorem cancelled (g0 g1 : EReal) : (-g0 + -g1) + (g0 + g1) = lost g0 g1 := by
  unfold lost
  induction g0 with
  | bot => simp
  | top => induction g1 with
    | bot => simp
    | top => simp
    | coe y => simp
  | coe x => induction g1 with
    | bot => simp
    | top => simp
    | coe y =>
      norm_cast
      ring_nf

/-- It is zero, or else the gradient is infinite and it is `⊥`. -/
theorem lost_cases (g0 g1 : EReal) : (∃ x y : ℝ, g0 = x ∧ g1 = y) ∨ lost g0 g1 = ⊥ := by
  unfold lost
  induction g0 with
  | bot => exact .inr (by simp)
  | top => induction g1 with
    | bot => exact .inr (by simp)
    | top => exact .inr (by simp)
    | coe y => exact .inr (by simp)
  | coe x => induction g1 with
    | bot => exact .inr (by simp)
    | top => exact .inr (by simp)
    | coe y => exact .inl ⟨x, y, rfl, rfl⟩

variable {r0 r1 : ℝ} (h0 : 0 < r0) (h1 : 0 < r1)

include h0 h1

theorem share (x : EReal) : Ideal.div x ((r0 : EReal) + r1) = x * ((1 / (r0 + r1) : ℝ) : EReal) := by
  rw [← EReal.coe_add, Ideal.div_coe (by positivity)]

theorem share_square (x : EReal) :
    Ideal.div x (((r0 : EReal) + r1) * ((r0 : EReal) + r1)) = x * ((1 / ((r0 + r1) * (r0 + r1)) : ℝ) : EReal) := by
  rw [← EReal.coe_add, ← EReal.coe_mul, Ideal.div_coe (by positivity)]

/-- The weighted mean is `⊥` where the first gradient is. -/
theorem mean_bot {g0 g1 : EReal} (h : lost g0 g1 = ⊥) : mean r0 r1 g0 g1 = ⊥ := by
  have p : (0 : ℝ) < r0 * (1 / (r0 + r1)) := by positivity
  rw [mean, h, share h0 h1, share h0 h1, ← EReal.coe_mul, EReal.coe_mul_bot_of_pos p, EReal.bot_add]

/-- And so is the reference's. -/
theorem correction_bot (q1 : EReal) :
    (⊥ : EReal) * Ideal.div 1 (((r0 : EReal) + r1) * ((r0 : EReal) + r1)) * r0
      + q1 * Ideal.div 1 (((r0 : EReal) + r1) * ((r0 : EReal) + r1)) * r1 = ⊥ := by
  have p : (0 : ℝ) < 1 / ((r0 + r1) * (r0 + r1)) := by positivity
  rw [share_square h0 h1, one_mul, EReal.bot_mul_coe_of_pos p, EReal.bot_mul_coe_of_pos h0, EReal.bot_add]

theorem first_eq (g0 g1 : EReal) : first r0 r1 g0 g1 = back r0 r1 (lost g0 g1) g1 r0 (lost g0 g1) := by
  rcases lost_cases g0 g1 with ⟨x, y, rfl, rfl⟩ | h
  · have hs : r0 + r1 ≠ 0 := by positivity
    simp only [first, back, mean, lost, share h0 h1, share_square h0 h1, one_mul]
    norm_cast
    field_simp
    ring
  · have p : (0 : ℝ) < r0 * (1 / (r0 + r1)) := by positivity
    have q : (0 : ℝ) < 1 / (r0 + r1) := by positivity
    rw [first, back, mean_bot h0 h1 h, h, correction_bot h0 h1, share h0 h1, share h0 h1, ← EReal.coe_mul, EReal.bot_mul_coe_of_pos q,
      sub_eq_add_neg, EReal.bot_add, EReal.coe_mul_bot_of_pos p, EReal.bot_mul_coe_of_pos h0]

theorem second_eq (g0 g1 : EReal) : second r0 r1 g0 g1 = back r0 r1 (lost g0 g1) g1 r1 g1 := by
  rcases lost_cases g0 g1 with ⟨x, y, rfl, rfl⟩ | h
  · have hs : r0 + r1 ≠ 0 := by positivity
    simp only [second, back, mean, lost, share h0 h1, share_square h0 h1, one_mul]
    norm_cast
    field_simp
    ring
  · have p : (0 : ℝ) < r1 * (1 / (r0 + r1)) := by positivity
    have q : (0 : ℝ) < 1 / (r0 + r1) := by positivity
    rw [second, back, mean_bot h0 h1 h, h, correction_bot h0 h1, share h0 h1, share h0 h1, ← EReal.coe_mul, sub_eq_add_neg, EReal.neg_bot]
    induction g1 with
    | bot => rw [EReal.bot_mul_coe_of_pos q, EReal.bot_add, EReal.coe_mul_bot_of_pos p, EReal.bot_mul_coe_of_pos h1]
    | top => rw [EReal.top_mul_coe_of_pos q, EReal.top_add_top, EReal.coe_mul_top_of_pos p, EReal.top_mul_coe_of_pos h1]
    | coe y => rw [← EReal.coe_mul, EReal.coe_add_top, EReal.coe_add_top, EReal.coe_mul_top_of_pos p, EReal.top_mul_coe_of_pos h1]

end Cert.SoftmaxRule

end
-- ==== Proof.SmallValue.lean ====
/-
  The update of the small weights. Its gradient is the summed, packed one, but for the rows of the bounds: there it is
  pulled back through the running sum of their softmax's second row. The kernel writes that out; the reference is the
  transposed derivative, which goes through two sums of the negated rows, a windowed sum and the quotient's derivative
  (`given` to `whole`, the reference's own operations under names). A column's two numbers of each meet in SoftmaxRule,
  the bounds being finite. The rest is one step of AdamW, the same expression in both.
-/
module

public import proofs.«01_k».proof.Proof.Gen.SmallIdeal.Value
public import proofs.«01_k».proof.Proof.Gen.SmallReferenceIdeal.Run
public import Idealize.ShloMosaic.Lib.Pointwise
public import proofs.«01_k».proof.Proof.SoftmaxRule
public import proofs.«01_k».proof.Pre_bounds_finite

@[expose] public section

noncomputable section

namespace Cert.SmallSteps

open Idealize.ShloMosaic Cert.SmallReferenceIdeal Cert.SmallReferenceIdeal.Gen

abbrev Row : Type := FVec Ideal S1x256 .f32
abbrev Rows : Type := FVec Ideal S2x256 .f32
abbrev Pack : Type := FVec Ideal S328x128 .f32

/-- The exponentials of the bounds less their column's greatest. -/
def raised (a : Rows) : Rows :=
  Host.exp (subf a (broadcastInDim S2x256 ![0, 1] bcast_S1x256_S2x256_0_1 (broadcastInDim S1x256 ![1] bcast_S256_S1x256_1
    (maximumf (broadcastInDim S256 ![] bcast_S_S256 (constant S_ .f32 0xFF800000#32))
      (Host.reduce FloatOps.maximumf a (constant S_ .f32 0xFF800000#32) reducesTo_S2x256_S256_d0 h_S_)))))

/-- Their sum down each column. -/
def total (a : Rows) : Row :=
  broadcastInDim S1x256 ![1] bcast_S256_S1x256_1 (Host.reduceAdd (raised a) (constant S_ .f32 0x00000000#32) reducesTo_S2x256_S256_d0 h_S_)

/-- The gradient by the bounds of each layer, from the packed one. -/
def given (g : Pack) : Rows := shapeCast _ (extractStridedSlice S4x128 ![0, 0] g slices_S328x128_S4x128_0_0) shapeCasts_S4x128_S2x256

/-- Pulled back through the running sum and the subtraction of the first row. -/
def pulled (g : Pack) : Rows :=
  addf (pad S2x256 ![0, 0] ![1, 0] ![0, 0] (broadcastInDim S1x256 ![1] bcast_S256_S1x256_1 (Host.reduceAdd (shapeCast _
      (Host.reduceAdd (Host.negf (given g)) (constant S_ .f32 0x00000000#32) reducesTo_S2x256_S256_d0 h_S_) shapeCasts_S256_S1x256)
      (constant S_ .f32 0x00000000#32) reducesTo_S1x256_S256_d0 h_S_)) (constant S_ .f32 0x00000000#32) pads_S1x256_S2x256_010_000 h_S_)
    (Host.reduceWindowAdd ![2, 1] ![1, 1] ![0, 0] ![1, 0] (given g) (broadcastInDim S_ ![] bcast_S_S_ (constant S_ .f32 0x00000000#32))
      reduceWindows_S2x256_S2x256_w2s1p0_1_w1s1p0_0 h_S_)

/-- The softmax's own correction, one number a column. -/
def correction (g : Pack) (a : Rows) : Rows :=
  broadcastInDim S2x256 ![1] bcast_S256_S2x256_1 (Host.reduceAdd (Host.negf (shapeCast _ (Host.reduceAdd
    (mulf (mulf (pulled g) (broadcastInDim S2x256 ![0, 1] bcast_S1x256_S2x256_0_1
      (Host.divf (broadcastInDim S1x256 ![] bcast_S_S1x256 (constant S_ .f32 0x3F800000#32)) (mulf (total a) (total a))))) (raised a))
    (constant S_ .f32 0x00000000#32) reducesTo_S2x256_S256_d0 h_S_) shapeCasts_S256_S1x256)) (constant S_ .f32 0x00000000#32) reducesTo_S1x256_S256_d0 h_S_)

def bounds (g : Pack) (a : Rows) : Rows :=
  mulf (addf (Host.divf (pulled g) (broadcastInDim S2x256 ![0, 1] bcast_S1x256_S2x256_0_1 (total a))) (correction g a)) (raised a)

def whole (g : Pack) (a : Rows) : Pack :=
  concatenate S328x128 0 [⟨S4x128, shapeCast _ (bounds g a) shapeCasts_S2x256_S4x128⟩,
    ⟨S324x128, extractStridedSlice S324x128 ![4, 0] g slices_S328x128_S324x128_4_0⟩] concatenates_S4x128_S324x128_S328x128_d0

theorem raised_apply (a : Rows) (r : Fin 2) (k : Fin 256) :
    raised a (ix2 r k) = Ideal.exp (a (ix2 r k) - max (a (ix2 0 k)) (a (ix2 1 k))) := by
  have bottom : Ideal.ofBits .f32 4286578688#32 = ⊥ := by simp [Ideal.ofBits, Ideal.ieee]
  pointwise [raised]
  rw [bottom]
  simp [Fin.univ_succ]

theorem total_apply (a : Rows) (k : Fin 256) : total a (ix2 0 k) = raised a (ix2 0 k) + raised a (ix2 1 k) := by
  pointwise [total]
  rw [Fin.sum_univ_two]

theorem window (x : Rows) (h : S2x256.ReduceWindows ![2, 1] ![1, 1] ![0, 0] ![1, 0] S2x256) (i : EReal) (k : Fin 256) :
    Ideal.hostReduceWindowAdd ![2, 1] ![1, 1] ![0, 0] ![1, 0] h x i (ix2 0 k) = i + x (ix2 0 k) + x (ix2 1 k)
    ∧ Ideal.hostReduceWindowAdd ![2, 1] ![1, 1] ![0, 0] ![1, 0] h x i (ix2 1 k) = i + x (ix2 1 k) + i := by
  have two : List.finRange ({ rank := S2x256.rank, size := ![2, 1] } : Shape).numel = [⟨0, by decide⟩, ⟨1, by decide⟩] := by decide
  have top : ∀ a, (({ rank := S2x256.rank, size := ![2, 1] } : Shape).rowMajor.symm ⟨0, by decide⟩ a).val = 0 := by decide
  have low : ∀ a, (({ rank := S2x256.rank, size := ![2, 1] } : Shape).rowMajor.symm ⟨1, by decide⟩ a).val = ![1, 0] a := by decide
  constructor
  all_goals
    unfold Ideal.hostReduceWindowAdd Host.reduceWindow
    simp only [two, List.foldl, top, low]
  · rw [dif_pos (by simp [Fin.forall_fin_two, ix2]), dif_pos (by simp [Fin.forall_fin_two, ix2])]
    congr 2
    · congr 1
      funext a
      fin_cases a <;> simp [ix2]
    · congr 1
      funext a
      fin_cases a <;> simp [ix2]
  · rw [dif_pos (by simp [Fin.forall_fin_two, ix2]), dif_neg (by simp [Fin.forall_fin_two, ix2])]
    congr 2
    congr 1
    funext a
    fin_cases a <;> simp [ix2]

theorem pulled_apply (g : Pack) (k : Fin 256) :
    pulled g (ix2 0 k) = SoftmaxRule.lost (given g (ix2 0 k)) (given g (ix2 1 k)) ∧ pulled g (ix2 1 k) = given g (ix2 1 k) := by
  have init : broadcastInDim S_ ![] bcast_S_S_ (constant (F := Ideal) S_ .f32 0x00000000#32) (Shape.Idx.first h_S_) = 0 := by
    pointwise
  constructor
  · pointwise [pulled]
    rw [Host.reduceWindowAdd, Ideal.hostReduceWindowAdd_def, (window _ _ _ k).1, ← SoftmaxRule.cancelled]
    simp [init]
  · pointwise [pulled]
    rw [Host.reduceWindowAdd, Ideal.hostReduceWindowAdd_def, (window _ _ _ k).2]
    simp [init]

theorem bounds_apply (g : Pack) (a : Rows) (r : Fin 2) (k : Fin 256) :
    bounds g a (ix2 r k) = SoftmaxRule.back (raised a (ix2 0 k)) (raised a (ix2 1 k)) (pulled g (ix2 0 k)) (pulled g (ix2 1 k))
      (raised a (ix2 r k)) (pulled g (ix2 r k)) := by
  pointwise [bounds, correction]
  simp [SoftmaxRule.back, total_apply]

/-- The exponential of a finite bound less its column's greatest is a positive real. -/
theorem raised_pos (a : Rows) (fin : ∀ i, ∃ x : ℝ, a i = x) (r : Fin 2) (k : Fin 256) : ∃ e : ℝ, 0 < e ∧ raised a (ix2 r k) = e := by
  obtain ⟨x, hx⟩ := fin (ix2 r k)
  obtain ⟨y, hy⟩ := fin (ix2 0 k)
  obtain ⟨z, hz⟩ := fin (ix2 1 k)
  refine ⟨Real.exp (x - max y z), Real.exp_pos _, ?_⟩
  rw [raised_apply, hx, hy, hz, ← Ideal.exp_coe]
  norm_cast

theorem bounds_first (g : Pack) (a : Rows) (fin : ∀ i, ∃ x : ℝ, a i = x) (k : Fin 256) :
    bounds g a (ix2 0 k)
      = SoftmaxRule.first (raised a (ix2 0 k)) (raised a (ix2 1 k)) (given g (ix2 0 k)) (given g (ix2 1 k)) := by
  obtain ⟨e0, h0, he0⟩ := raised_pos a fin 0 k
  obtain ⟨e1, h1, he1⟩ := raised_pos a fin 1 k
  rw [bounds_apply, (pulled_apply g k).1, (pulled_apply g k).2, he0, he1, SoftmaxRule.first_eq h0 h1]

theorem bounds_second (g : Pack) (a : Rows) (fin : ∀ i, ∃ x : ℝ, a i = x) (k : Fin 256) :
    bounds g a (ix2 1 k)
      = SoftmaxRule.second (raised a (ix2 0 k)) (raised a (ix2 1 k)) (given g (ix2 0 k)) (given g (ix2 1 k)) := by
  obtain ⟨e0, h0, he0⟩ := raised_pos a fin 0 k
  obtain ⟨e1, h1, he1⟩ := raised_pos a fin 1 k
  rw [bounds_apply, (pulled_apply g k).1, (pulled_apply g k).2, he0, he1, SoftmaxRule.second_eq h0 h1]

/-- The first 128 columns of a layer's gradient are its first packed row, the others its second. -/
theorem given_low (g : Pack) (r : Fin 2) (k : Fin 128) : given g (ix2 r ⟨k, by omega⟩) = g (ix2 ⟨r * 2, by omega⟩ k) := by
  pointwise [given]
  congr 2 <;> ext <;> simp <;> omega

theorem given_high (g : Pack) (r : Fin 2) (k : Fin 128) : given g (ix2 r ⟨128 + k, by omega⟩) = g (ix2 ⟨r * 2 + 1, by omega⟩ k) := by
  pointwise [given]
  congr 2 <;> ext <;> simp <;> omega

theorem whole_low (g : Pack) (a : Rows) (r : Fin 2) (k : Fin 128) :
    whole g a (ix2 ⟨r * 2, by omega⟩ k) = bounds g a (ix2 r ⟨k, by omega⟩) := by
  pointwise [whole]
  rw [dif_pos (by omega)]
  congr 2 <;> ext <;> simp

theorem whole_high (g : Pack) (a : Rows) (r : Fin 2) (k : Fin 128) :
    whole g a (ix2 ⟨r * 2 + 1, by omega⟩ k) = bounds g a (ix2 r ⟨128 + k, by omega⟩) := by
  pointwise [whole]
  rw [dif_pos (by omega)]
  congr 2 <;> ext <;> simp <;> omega

theorem whole_rest (g : Pack) (a : Rows) (r : Fin 328) (h : ¬r.val < 4) (k : Fin 128) : whole g a (ix2 r k) = g (ix2 r k) := by
  pointwise [whole]
  rw [dif_neg h]
  congr 2
  ext
  simp
  omega

/-- The kernel's packed gradient is the reference's where the bounds are finite. -/
theorem gradient (g : Pack) (a : Rows) (fin : ∀ i, ∃ x : ℝ, a i = x) : Cert.SmallIdeal.Gen.k0_pay3 (F := Ideal) a g = whole g a := by
  funext j
  obtain ⟨r, k, rfl⟩ : ∃ (r : Fin 328) (k : Fin 128), j = ix2 r k := ⟨_, _, eq_ix2 j⟩
  by_cases h : r.val < 4
  · obtain h | h | h | h : r = 0 ∨ r = 1 ∨ r = 2 ∨ r = 3 := by omega
    all_goals subst h
    on_goal 1 => refine Eq.trans ?_ ((whole_low g a 0 k).trans (bounds_first g a fin _)).symm
    on_goal 2 => refine Eq.trans ?_ ((whole_high g a 0 k).trans (bounds_first g a fin _)).symm
    on_goal 3 => refine Eq.trans ?_ ((whole_low g a 1 k).trans (bounds_second g a fin _)).symm
    on_goal 4 => refine Eq.trans ?_ ((whole_high g a 1 k).trans (bounds_second g a fin _)).symm
    all_goals
      simp only [raised_apply, given_low, given_high]
      pointwise [Cert.SmallIdeal.Gen.k0_pay3]
      rfl
  · rw [whole_rest g a r h]
    pointwise [Cert.SmallIdeal.Gen.k0_pay3]
    rw [dif_neg (by omega), dif_neg (by omega), dif_neg (by omega), dif_neg (by omega)]
    congr 2
    ext
    simp
    omega

/-- A constant on every element. -/
def every (b : BitVec 32) : Pack := broadcastInDim S328x128 ![] bcast_S_S328x128 (constant S_ .f32 b)

/-- One step of AdamW on the packed arrays: the means of the gradient and of its square, and the change of the weights. -/
def moment (g n : Pack) : Pack := addf (mulf (every 0x3F666666#32) n) (mulf (every 0x3DCCCCCD#32) g)

def square (g v : Pack) : Pack := addf (mulf (every 0x3F7FBE77#32) v) (mulf (every 0x3A83126F#32) (mulf g g))

def change (g w n v : Pack) : Pack :=
  mulf (every 0xBA83126F#32) (addf (Host.divf (Host.divf (moment g n) (every 0x3F26BD02#32))
    (addf (Host.sqrt (Host.divf (square g v) (every 0x3C231ACC#32))) (every 0x322BCC77#32))) (mulf (every 0x3C23D70A#32) w))

/-- What the kernel stores of a gradient is that step. -/
theorem kernel_square (g v : Pack) : Cert.SmallIdeal.Gen.k0_pay1 (F := Ideal) g v (FloatOps.ofBits .f32 0x3F7FBE77#32) = square g v := rfl

theorem kernel_change (g w n v : Pack) :
    Cert.SmallIdeal.Gen.k0_pay2 (F := Ideal) g w v (moment g n) (FloatOps.ofBits .f32 0x3F7FBE77#32) = change g w n v := rfl

theorem kernel_moment (g n : Pack) (a : Rows) (fin : ∀ i, ∃ x : ℝ, a i = x) :
    Cert.SmallIdeal.Gen.k0_pay4 (F := Ideal) a g n = moment (whole g a) n := by
  unfold Cert.SmallIdeal.Gen.k0_pay4
  rw [gradient g a fin]
  rfl

section results

variable (m : (ℓ : Loc nD τ sig) → Buf (Elt Ideal) ℓ) (c : Dev nD)

/-- The five argument arrays. -/
abbrev packed : Pack := m ((c.tc : Thread nD τ).loc main_arg0)
abbrev lower : Rows := m ((c.tc : Thread nD τ).loc main_arg1)
abbrev weights : Pack := m ((c.tc : Thread nD τ).loc main_arg2)
abbrev firsts : Pack := m ((c.tc : Thread nD τ).loc main_arg3)
abbrev seconds : Pack := m ((c.tc : Thread nD τ).loc main_arg4)

theorem reference_gradient : Value.res_main_v58 (F := Ideal) m c = whole (packed m c) (lower m c) := rfl

theorem reference_moment : Value.res_main_v63 (F := Ideal) m c = moment (whole (packed m c) (lower m c)) (firsts m c) := rfl

theorem reference_square : Value.res_main_v69 (F := Ideal) m c = square (whole (packed m c) (lower m c)) (seconds m c) := rfl

theorem reference_change :
    Value.res_main_v82 (F := Ideal) m c = change (whole (packed m c) (lower m c)) (weights m c) (firsts m c) (seconds m c) := rfl

end results

theorem zeros : (![0, 0] : Fin 2 → Nat) = fun _ => 0 := funext fun a => by fin_cases a <;> rfl

section kernel

variable (g : Pack) (a : Rows) (w n v : Pack) (fin : ∀ i, ∃ x : ℝ, a i = x)

include fin

/-- The kernel's four results, its loads being of whole arrays. -/
theorem stored_gradient : Cert.SmallIdeal.Gen.k0_pay5 (F := Ideal) g a w n v = whole g a := by
  unfold Cert.SmallIdeal.Gen.k0_pay5
  rw [View.ld_unit_zero zeros, View.ld_unit_zero zeros, gradient g a fin]

theorem stored_moment : Cert.SmallIdeal.Gen.k0_pay6 (F := Ideal) g a w n v = moment (whole g a) n := by
  unfold Cert.SmallIdeal.Gen.k0_pay6
  rw [View.ld_unit_zero zeros, View.ld_unit_zero zeros, View.ld_unit_zero zeros, kernel_moment g n a fin]

theorem result_gradient : Cert.SmallIdeal.Value.G5 (F := Ideal) g a w n v = whole g a := gradient g a fin

theorem result_moment : Cert.SmallIdeal.Value.G7 (F := Ideal) g a w n v = moment (whole g a) n := stored_moment g a w n v fin

theorem result_square : Cert.SmallIdeal.Value.G8 (F := Ideal) g a w n v = square (whole g a) v :=
  (congrArg (fun x => Cert.SmallIdeal.Gen.k0_pay1 (F := Ideal) x v (FloatOps.ofBits .f32 0x3F7FBE77#32)) (stored_gradient g a w n v fin)).trans
    (kernel_square _ _)

theorem result_change : Cert.SmallIdeal.Value.G6 (F := Ideal) g a w n v = change (whole g a) w n v :=
  (congrArg₂ (fun x y => Cert.SmallIdeal.Gen.k0_pay2 (F := Ideal) x w v y (FloatOps.ofBits .f32 0x3F7FBE77#32)) (stored_gradient g a w n v fin)
    (stored_moment g a w n v fin)).trans (kernel_change _ _ _ _)

end kernel

instance : Cert.Pre_bounds_finite.Facts := ⟨by decide⟩

/-- A magnitude below infinity is a real number's. -/
theorem finite_of_lt (x : EReal) (h : max x (-x) < ⊤) : ∃ r : ℝ, x = r := by
  induction x with
  | bot => simp at h
  | top => simp at h
  | coe r => exact ⟨r, rfl⟩

/-- The precondition says that the bounds are real numbers. -/
theorem finite (g : Pack) (a : Rows) (w n v : Pack) (h : Cert.Pre_bounds_finite.fn (F := Ideal) g a w n v = fun _ => 1#1) (i : S2x256.Idx) :
    ∃ x : ℝ, a i = x := by
  refine finite_of_lt _ ?_
  have top : Ideal.ofBits .f32 0x7F800000#32 = ⊤ := by simp [Ideal.ofBits, Ideal.ieee]
  have e := congrFun h i
  change Ideal.cmp .olt (max (a i) (-(a i))) (Ideal.ofBits .f32 0x7F800000#32) = 1#1 at e
  rw [top] at e
  by_contra no
  simp [Ideal.cmp, no] at e

end Cert.SmallSteps

end
-- ==== Proof.LbsValue.lean ====
/-
  The lower bounds of the forget gates. The kernel works on the two rows of the parameter as such; the reference takes a
  softmax down the columns, its running sum, and takes the first row away. A column's numbers meet one by one.
-/
module

public import proofs.«01_k».proof.Proof.Gen.LbsIdeal.Value
public import proofs.«01_k».proof.Proof.Gen.LbsReferenceIdeal.Run
public import Idealize.ShloMosaic.Lib.Pointwise

@[expose] public section

noncomputable section

namespace Cert.LbsSteps

open Idealize.ShloMosaic Cert.LbsReferenceIdeal Cert.LbsReferenceIdeal.Gen

abbrev Row : Type := FVec Ideal S1x256 .f32
abbrev Rows : Type := FVec Ideal S2x256 .f32

/-- The exponentials of the parameter less their column's greatest. -/
def raised (a : Rows) : Rows :=
  Host.exp (subf a (broadcastInDim S2x256 ![0, 1] bcast_S1x256_S2x256_0_1 (broadcastInDim S1x256 ![1] bcast_S256_S1x256_1
    (maximumf (broadcastInDim S256 ![] bcast_S_S256 (constant S_ .f32 0xFF800000#32))
      (Host.reduce FloatOps.maximumf a (constant S_ .f32 0xFF800000#32) reducesTo_S2x256_S256_d0 h_S_)))))

/-- The softmax down the columns. -/
def share (a : Rows) : Rows :=
  Host.divf (raised a) (broadcastInDim S2x256 ![0, 1] bcast_S1x256_S2x256_0_1 (broadcastInDim S1x256 ![1] bcast_S256_S1x256_1
    (Host.reduceAdd (raised a) (constant S_ .f32 0x00000000#32) reducesTo_S2x256_S256_d0 h_S_)))

/-- Its running sum, less the first row. -/
def bounds (a : Rows) : Rows :=
  subf (Host.reduceWindowAdd ![2, 1] ![1, 1] ![1, 0] ![0, 0] (share a) (broadcastInDim S_ ![] bcast_S_S_ (constant S_ .f32 0x00000000#32))
      reduceWindows_S2x256_S2x256_w2s1p1_0_w1s1p0_0 h_S_)
    (broadcastInDim S2x256 ![0, 1] bcast_S1x256_S2x256_0_1 (broadcastInDim S1x256 ![1] bcast_S256_S1x256_1
      (shapeCast _ (extractStridedSlice S1x256 ![0, 0] (share a) slices_S2x256_S1x256_0_0) shapeCasts_S1x256_S256)))

theorem raised_apply (a : Rows) (r : Fin 2) (k : Fin 256) :
    raised a (ix2 r k) = Ideal.exp (a (ix2 r k) - max (a (ix2 0 k)) (a (ix2 1 k))) := by
  have bottom : Ideal.ofBits .f32 4286578688#32 = ⊥ := by simp [Ideal.ofBits, Ideal.ieee]
  pointwise [raised]
  rw [bottom]
  simp [Fin.univ_succ]

theorem share_apply (a : Rows) (r : Fin 2) (k : Fin 256) :
    share a (ix2 r k) = Ideal.div (raised a (ix2 r k)) (raised a (ix2 0 k) + raised a (ix2 1 k)) := by
  pointwise [share]
  rw [Fin.sum_univ_two]

theorem window (x : Rows) (h : S2x256.ReduceWindows ![2, 1] ![1, 1] ![1, 0] ![0, 0] S2x256) (i : EReal) (k : Fin 256) :
    Ideal.hostReduceWindowAdd ![2, 1] ![1, 1] ![1, 0] ![0, 0] h x i (ix2 0 k) = i + i + x (ix2 0 k)
    ∧ Ideal.hostReduceWindowAdd ![2, 1] ![1, 1] ![1, 0] ![0, 0] h x i (ix2 1 k) = i + x (ix2 0 k) + x (ix2 1 k) := by
  have two : List.finRange ({ rank := S2x256.rank, size := ![2, 1] } : Shape).numel = [⟨0, by decide⟩, ⟨1, by decide⟩] := by decide
  have top : ∀ a, (({ rank := S2x256.rank, size := ![2, 1] } : Shape).rowMajor.symm ⟨0, by decide⟩ a).val = 0 := by decide
  have low : ∀ a, (({ rank := S2x256.rank, size := ![2, 1] } : Shape).rowMajor.symm ⟨1, by decide⟩ a).val = ![1, 0] a := by decide
  constructor
  all_goals
    unfold Ideal.hostReduceWindowAdd Host.reduceWindow
    simp only [two, List.foldl, top, low]
  · rw [dif_neg (by simp [Fin.forall_fin_two, ix2]), dif_pos (by simp [Fin.forall_fin_two, ix2])]
    congr 2
    funext a
    fin_cases a <;> simp [ix2]
  · rw [dif_pos (by simp [Fin.forall_fin_two, ix2]), dif_pos (by simp [Fin.forall_fin_two, ix2])]
    congr 2
    · congr 1
      funext a
      fin_cases a <;> simp [ix2]
    · congr 1
      funext a
      fin_cases a <;> simp [ix2]

theorem bounds_apply (a : Rows) (k : Fin 256) :
    bounds a (ix2 0 k) = share a (ix2 0 k) - share a (ix2 0 k)
    ∧ bounds a (ix2 1 k) = share a (ix2 0 k) + share a (ix2 1 k) - share a (ix2 0 k) := by
  have init : broadcastInDim S_ ![] bcast_S_S_ (constant (F := Ideal) S_ .f32 0x00000000#32) (Shape.Idx.first h_S_) = 0 := by
    pointwise
  constructor
  · pointwise [bounds]
    rw [Host.reduceWindowAdd, Ideal.hostReduceWindowAdd_def, (window _ _ _ k).1]
    simp [init]
  · pointwise [bounds]
    rw [Host.reduceWindowAdd, Ideal.hostReduceWindowAdd_def, (window _ _ _ k).2]
    simp [init]

theorem stored_apply (a : Rows) (r : Fin 2) (k : Fin 256) :
    Cert.LbsIdeal.Gen.k0_pay1 (F := Ideal) a (ix2 r k) = bounds a (ix2 r k) := by
  match r with
  | 0 =>
    rw [(bounds_apply a k).1, share_apply a 0 k, raised_apply a 0 k, raised_apply a 1 k]
    pointwise [Cert.LbsIdeal.Gen.k0_pay1]
  | 1 =>
    rw [(bounds_apply a k).2, share_apply a 0 k, share_apply a 1 k, raised_apply a 0 k, raised_apply a 1 k]
    pointwise [Cert.LbsIdeal.Gen.k0_pay1]

/-- What the kernel stores is the reference's result. -/
theorem stored (a : Rows) : Cert.LbsIdeal.Gen.k0_pay1 (F := Ideal) a = bounds a :=
  funext fun j => by rw [eq_ix2 j]; exact stored_apply a (j 0) (j 1)

end Cert.LbsSteps
end
-- ==== Proof.RowRule.lean ====
/-
  The root-mean-square normalization of a row of 1024 numbers, as a function of the row and of the gain.
-/
module

public import Idealize.ShloMosaic.Lib.Pointwise

@[expose] public section

noncomputable section

namespace Cert.RowRule

open Idealize.ShloMosaic

/-- One over the root of the row's mean square (and a small number). -/
def rate (row : Fin 1024 → EReal) : EReal :=
  Ideal.rsqrt (Ideal.div (∑ j : Fin 1024, row j * row j) (Ideal.ofBits .f32 0x44800000#32) + Ideal.ofBits .f32 0x358637BD#32)

/-- The row, normalized and scaled. -/
def normal (row gain : Fin 1024 → EReal) (k : Fin 1024) : EReal := row k * rate row * gain k

/-- Two matrices with the same entries are the same. -/
theorem ext2 {a b : Nat} {α : Type} {u v : (⟨2, ![a, b]⟩ : Shape).Idx → α} (h : ∀ k n, u (ix2 k n) = v (ix2 k n)) : u = v :=
  funext fun i => (congrArg u (eq_ix2 i)).trans ((h (i 0) (i 1)).trans (congrArg v (eq_ix2 i).symm))

end Cert.RowRule
end
-- ==== Proof.ProjectValue.lean ====
/-
  The in-projection. A point of the grid normalizes 512 rows and multiplies them by the whole weight (`stored`); so the
  eight points write eight blocks of rows of one function of the arguments (`projected`), which fill the result
  (`final`). The reference's product is the same function (`Reference.result`).
-/
module

public import proofs.«01_k».proof.Proof.Gen.ProjectIdeal.Value
public import proofs.«01_k».proof.Proof.Gen.ProjectReferenceIdeal.Run
public import proofs.«01_k».proof.Proof.RowRule
public import Idealize.ShloMosaic.Lib.Pipeline.ValueKit

@[expose] public section

noncomputable section

namespace Cert.ProjectSteps

open Cert.ProjectIdeal Cert.ProjectIdeal.Gen Cert.RowRule
open Idealize.ShloMosaic TcCoe Idealize.SL.Sem
open Pipeline (Dat)

/-- The product of the normalized rows and the weight. -/
def projected (x : FVec Ideal S4096x1024 .f32) (g : FVec Ideal S1x1024 .f32) (w : FVec Ideal S1024x3712 .bf16) :
    FVec Ideal S4096x3712 .f32 := fun i =>
  ∑ k : Fin 1024, normal (fun j => x (ix2 (i 0) j)) (fun j => g (ix2 0 j)) k * w (ix2 k (i 1))

/-- What a point stores, from its blocks. -/
theorem stored (x : FVec Ideal S512x1024 .f32) (g : FVec Ideal S1x1024 .f32) (w : FVec Ideal S1024x3712 .bf16)
    (r : Fin 512) (n : Fin 3712) :
    k0_pay1 (F := Ideal) x g w (ix2 r n)
      = ∑ k : Fin 1024, normal (fun j => x (ix2 r j)) (fun j => g (ix2 0 j)) k * w (ix2 k n) := by
  pointwise [k0_pay1]
  rfl

/-! ## Where a point's blocks stand, and what it writes -/

variable (m : (ℓ : Loc nD τ sig) → Buf (Elt Ideal) ℓ) (ρ : Dev nD → PrngReg)

abbrev target (c : Dev nD) : FVec Ideal S4096x3712 .f32 :=
  projected (m ((c : Thread nD τ).loc main_arg0)) (m ((c : Thread nD τ).loc main_arg1)) (m ((c : Thread nD τ).loc main_arg2))

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)

/-- Row `r` of point `t`'s blocks, among the 4096 rows. -/
def place (t : Fin cfg0.N) (r : Fin 512) : Fin 4096 :=
  ⟨t.val * 512 + r.val, by have := t.isLt; have := r.isLt; have : cfg0.N = 8 := N_0; omega⟩

theorem rows_at (c : Dev nD) (t : Fin cfg0.N) (r : Fin 512) (k : Fin 1024) :
    iblk m c 0 t (ix2 r k) = m ((c : Thread nD τ).loc main_arg0) (ix2 (place t r) k) := by
  blk_ext [iblk, V, at0 t, place]

theorem gain_at (c : Dev nD) (t : Fin cfg0.N) (k : Fin 1024) :
    iblk m c 1 t (ix2 0 k) = m ((c : Thread nD τ).loc main_arg1) (ix2 0 k) := by
  blk_ext [iblk, V, at1 t]

theorem weight_at (c : Dev nD) (t : Fin cfg0.N) (k : Fin 1024) (n : Fin 3712) :
    iblk m c 2 t (ix2 k n) = m ((c : Thread nD τ).loc main_arg2) (ix2 k n) := by
  blk_ext [iblk, V, at2 t]

theorem written (c : Dev nD) (t : Fin cfg0.N) (r : Fin 512) (n : Fin 3712) :
    k0_pay1 (F := Ideal) (iblk m c 0 t) (iblk m c 1 t) (iblk m c 2 t) (ix2 r n) = target m c (ix2 (place t r) n) := by
  refine (stored _ _ _ r n).trans ?_
  unfold target projected
  simp only [rows_at m c t, gain_at m c t, weight_at m c t]
  rfl

/-- The blocks fill the result. -/
theorem final (c : Dev nD) : (dats m 0 c).arrAt 3 cfg0.N = target m c := by
  refine (dats m 0 c).arrAt_eq_of_covers 3 _ (by decide +kernel) fun t hf y => ?_
  blk_simp
  rw [after0_3]
  frame_out
  have e : (win0_3.blk t).view.emb y = ix2 (place t (y 0)) (y 1) := by blk_ext [at3 t, place]
  rw [e]
  exact (congrArg _ (eq_ix2 _)).trans (written m c t (y 0) (y 1))

end Cert.ProjectSteps

/-! ## The reference -/

namespace Cert.ProjectSteps.Reference

open Cert.ProjectReferenceIdeal Cert.ProjectReferenceIdeal.Gen Cert.RowRule
open Idealize.ShloMosaic

theorem result (x : FVec Ideal S4096x1024 .f32) (g : FVec Ideal S1x1024 .f32) (w : FVec Ideal S1024x3712 .bf16) :
    Host.dotGeneral (F := Ideal) (so := S4096x3712) dot_S4096x1024_S1024x3712_S4096x3712_1_0_0_1_n_n none (mulf (mulf x
      (broadcastInDim S4096x1024 ![0, 1] bcast_S4096x1_S4096x1024_0_1 (Host.rsqrt (addf (Host.divf (broadcastInDim S4096x1 ![0]
        bcast_S4096_S4096x1_0 (Host.reduceAdd (mulf x x) (constant S_ .f32 0x00000000#32) reducesTo_S4096x1024_S4096_d1 h_S_))
        (broadcastInDim S4096x1 ![] bcast_S_S4096x1 (constant S_ .f32 0x44800000#32)))
        (broadcastInDim S4096x1 ![] bcast_S_S4096x1 (constant S_ .f32 0x358637BD#32))))))
      (broadcastInDim S4096x1024 ![0, 1] bcast_S1x1024_S4096x1024_0_1 g)) (extf .f32 w bitsLt_bf16_f32)
      = (projected x g w : FVec Ideal S4096x3712 .f32) := by
  refine ext2 fun r n => ?_
  pointwise
  rfl

end Cert.ProjectSteps.Reference
end
-- ==== Proof.MixValue.lean ====
/-
  The out-projection of a layer. A point of the grid takes 512 rows of the three branches, multiplies each by its rows of
  the weight and adds the three products (`stored_product`), and adds the product's normalized rows to the layer's own
  (`stored_next`). So the eight points write eight blocks of rows of two functions of the arguments (`product`, `next`),
  which fill the results (`final_product`, `final_next`). The reference multiplies the joined branches by the weight at once: a sum over 1024
  is the sum over its three parts (`split`).
-/
module

public import proofs.«01_k».proof.Proof.Gen.MixIdeal.Value
public import proofs.«01_k».proof.Proof.Gen.MixReferenceIdeal.Run
public import Idealize.ShloMosaic.Lib.Pointwise
public import proofs.«01_k».proof.Proof.RowRule
public import Idealize.ShloMosaic.Lib.Pipeline.ValueKit

@[expose] public section

noncomputable section

namespace Cert.MixSteps

open Cert.MixIdeal Cert.MixIdeal.Gen Cert.RowRule
open Idealize.ShloMosaic TcCoe Idealize.SL.Sem
open Pipeline (Dat)

/-- The product of the joined row (of 256, 256 and 512 numbers) and the weight's column, part by part. -/
def joined (a b : Fin 256 → EReal) (d : Fin 512 → EReal) (w : Fin 1024 → EReal) : EReal :=
  (∑ k : Fin 256, a k * w ⟨k.val, by omega⟩) + (∑ k : Fin 256, b k * w ⟨256 + k.val, by omega⟩)
    + ∑ k : Fin 512, d k * w ⟨512 + k.val, by omega⟩

/-- The sum over the whole row is the sum of the parts. -/
theorem split (f : Fin 1024 → EReal) :
    ∑ k : Fin 1024, f k = (∑ k : Fin 256, f ⟨k.val, by omega⟩) + (∑ k : Fin 256, f ⟨256 + k.val, by omega⟩)
      + ∑ k : Fin 512, f ⟨512 + k.val, by omega⟩ := by
  have e : ∑ k : Fin 1024, f k = ∑ k : Fin (256 + 256 + 512), f k := rfl
  rw [e, Fin.sum_univ_add, Fin.sum_univ_add]
  rfl

theorem stored_product (a b : FVec Ideal S512x256 .bf16) (d : FVec Ideal S512x512 .bf16) (w : FVec Ideal S1024x1024 .bf16)
    (r : Fin 512) (n : Fin 1024) :
    k0_pay1 (F := Ideal) a (View.ld w r0_1) b (View.ld w r0_2) d (View.ld w r0_4) (ix2 r n)
      = joined (fun k => a (ix2 r k)) (fun k => b (ix2 r k)) (fun k => d (ix2 r k)) (fun k => w (ix2 k n)) := by
  rw [View.ld_unit, View.ld_unit, View.ld_unit]
  pointwise [k0_pay1]
  rfl

theorem stored_next (a b : FVec Ideal S512x256 .bf16) (d : FVec Ideal S512x512 .bf16) (u v : FVec Ideal S256x1024 .bf16)
    (w : FVec Ideal S512x1024 .bf16) (x : FVec Ideal S512x1024 .f32) (g : FVec Ideal S1x1024 .f32)
    (r : Fin 512) (n : Fin 1024) :
    k0_pay2 (F := Ideal) a u b v d w x g (ix2 r n)
      = x (ix2 r n) + normal (fun j => k0_pay1 (F := Ideal) a u b v d w (ix2 r j)) (fun j => g (ix2 0 j)) n := by
  unfold k0_pay2
  generalize k0_pay1 (F := Ideal) a u b v d w = y
  pointwise
  rfl

/-- The product, and the next layer's rows. -/
def product (a b : FVec Ideal S4096x256 .bf16) (d : FVec Ideal S4096x512 .bf16) (w : FVec Ideal S1024x1024 .bf16) :
    FVec Ideal S4096x1024 .f32 := fun i =>
  joined (fun k => a (ix2 (i 0) k)) (fun k => b (ix2 (i 0) k)) (fun k => d (ix2 (i 0) k)) (fun k => w (ix2 k (i 1)))

def next (x y : FVec Ideal S4096x1024 .f32) (g : FVec Ideal S1x1024 .f32) : FVec Ideal S4096x1024 .f32 := fun i =>
  x (ix2 (i 0) (i 1)) + normal (fun j => y (ix2 (i 0) j)) (fun j => g (ix2 0 j)) (i 1)

/-! ## A point's blocks, and the rows of the whole they are -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

/-- Row `r` of point `t`'s blocks, among the 4096 rows. -/
def place (t : Fin cfg0.N) (r : Fin 512) : Fin 4096 :=
  ⟨t.val * 512 + r.val, by have := t.isLt; have := r.isLt; have : cfg0.N = 8 := N_0; omega⟩

variable (m : (ℓ : Loc nD τ sig) → Buf (Elt Ideal) ℓ) (ρ : Dev nD → PrngReg)

abbrev target (c : Dev nD) : FVec Ideal S4096x1024 .f32 :=
  product (m ((c : Thread nD τ).loc main_arg1)) (m ((c : Thread nD τ).loc main_arg2)) (m ((c : Thread nD τ).loc main_arg3))
    (m ((c : Thread nD τ).loc main_arg4))

abbrev target_next (c : Dev nD) : FVec Ideal S4096x1024 .f32 :=
  next (m ((c : Thread nD τ).loc main_arg0)) (target m c) (m ((c : Thread nD τ).loc main_arg5))

theorem rows_at (c : Dev nD) (t : Fin cfg0.N) (r : Fin 512) (k : Fin 1024) :
    iblk m c 0 t (ix2 r k) = m ((c : Thread nD τ).loc main_arg0) (ix2 (place t r) k) := by
  blk_ext [iblk, V, at0 t, place]

theorem first_at (c : Dev nD) (t : Fin cfg0.N) (r : Fin 512) (k : Fin 256) :
    iblk m c 1 t (ix2 r k) = m ((c : Thread nD τ).loc main_arg1) (ix2 (place t r) k) := by
  blk_ext [iblk, V, at1 t, place]

theorem second_at (c : Dev nD) (t : Fin cfg0.N) (r : Fin 512) (k : Fin 256) :
    iblk m c 2 t (ix2 r k) = m ((c : Thread nD τ).loc main_arg2) (ix2 (place t r) k) := by
  blk_ext [iblk, V, at2 t, place]

theorem third_at (c : Dev nD) (t : Fin cfg0.N) (r : Fin 512) (k : Fin 512) :
    iblk m c 3 t (ix2 r k) = m ((c : Thread nD τ).loc main_arg3) (ix2 (place t r) k) := by
  blk_ext [iblk, V, at3 t, place]

theorem weight_at (c : Dev nD) (t : Fin cfg0.N) (k n : Fin 1024) :
    iblk m c 4 t (ix2 k n) = m ((c : Thread nD τ).loc main_arg4) (ix2 k n) := by
  blk_ext [iblk, V, at4 t]

theorem gain_at (c : Dev nD) (t : Fin cfg0.N) (k : Fin 1024) :
    iblk m c 5 t (ix2 0 k) = m ((c : Thread nD τ).loc main_arg5) (ix2 0 k) := by
  blk_ext [iblk, V, at5 t]

/-! ## What a point writes -/

/-- The product a point forms is its block of the whole product. -/
theorem product_at (c : Dev nD) (t : Fin cfg0.N) (r : Fin 512) (n : Fin 1024) :
    k0_pay1 (F := Ideal) (iblk m c 1 t) (View.ld (iblk m c 4 t) r0_1) (iblk m c 2 t) (View.ld (iblk m c 4 t) r0_2)
        (iblk m c 3 t) (View.ld (iblk m c 4 t) r0_4) (ix2 r n)
      = target m c (ix2 (place t r) n) := by
  refine (stored_product _ _ _ _ r n).trans ?_
  simp only [first_at m c t, second_at m c t, third_at m c t, weight_at m c t]
  rfl

theorem next_at (c : Dev nD) (t : Fin cfg0.N) (r : Fin 512) (n : Fin 1024) :
    k0_pay2 (F := Ideal) (iblk m c 1 t) (View.ld (iblk m c 4 t) r0_1) (iblk m c 2 t) (View.ld (iblk m c 4 t) r0_2)
        (iblk m c 3 t) (View.ld (iblk m c 4 t) r0_4) (iblk m c 0 t) (iblk m c 5 t) (ix2 r n)
      = target_next m c (ix2 (place t r) n) := by
  refine (stored_next _ _ _ _ _ _ _ _ r n).trans ?_
  unfold target_next next
  simp only [rows_at m c t, gain_at m c t, product_at m c t]
  rfl

theorem final_product (c : Dev nD) : (dats m 0 c).arrAt 6 cfg0.N = target m c := by
  refine (dats m 0 c).arrAt_eq_of_covers 6 _ (by decide +kernel) fun t hf y => ?_
  blk_simp
  rw [after0_6]
  frame_out
  have e : (win0_6.blk t).view.emb y = ix2 (place t (y 0)) (y 1) := by blk_ext [at6 t, place]
  rw [e]
  exact (congrArg _ (eq_ix2 _)).trans (product_at m c t (y 0) (y 1))

theorem final_next (c : Dev nD) : (dats m 0 c).arrAt 7 cfg0.N = target_next m c := by
  refine (dats m 0 c).arrAt_eq_of_covers 7 _ (by decide +kernel) fun t hf y => ?_
  blk_simp
  rw [after0_7]
  frame_out
  have e : (win0_7.blk t).view.emb y = ix2 (place t (y 0)) (y 1) := by blk_ext [at7 t, place]
  rw [e]
  exact (congrArg _ (eq_ix2 _)).trans (next_at m c t (y 0) (y 1))

end Cert.MixSteps

/-! ## The reference -/

namespace Cert.MixSteps.Reference

open Cert.MixReferenceIdeal Cert.MixReferenceIdeal.Gen Cert.RowRule
open Idealize.ShloMosaic

theorem product (a b : FVec Ideal S4096x256 .bf16) (d : FVec Ideal S4096x512 .bf16) (w : FVec Ideal S1024x1024 .bf16) :
    Host.dotGeneral (F := Ideal) (φ₁ := .f32) (so := S4096x1024) dot_S4096x1024_S1024x1024_S4096x1024_1_0_0_1_n_n none
      (extf .f32 ((concatenate S4096x1024 1 [⟨S4096x256, (a : (⟨S4096x256, .bf16⟩ : BufTy).Contents (Elt Ideal))⟩, ⟨S4096x256, (b : (⟨S4096x256, .bf16⟩ : BufTy).Contents (Elt Ideal))⟩, ⟨S4096x512, (d : (⟨S4096x512, .bf16⟩ : BufTy).Contents (Elt Ideal))⟩]
        concatenates_S4096x256_S4096x256_S4096x512_S4096x1024_d1 : (⟨S4096x1024, .bf16⟩ : BufTy).Contents (Elt Ideal))) bitsLt_bf16_f32) (extf .f32 w bitsLt_bf16_f32)
      = (MixSteps.product a b d w : FVec Ideal S4096x1024 .f32) := by
  refine ext2 fun r n => ?_
  pointwise
  rw [split]
  simp only [MixSteps.product, joined]
  congr 1

/-- The next layer's rows, from the product. -/
theorem next (x y : FVec Ideal S4096x1024 .f32) (g : FVec Ideal S1x1024 .f32) :
    addf x (mulf (mulf y (broadcastInDim S4096x1024 ![0, 1] bcast_S4096x1_S4096x1024_0_1 (Host.rsqrt (addf (Host.divf
      (broadcastInDim S4096x1 ![0] bcast_S4096_S4096x1_0 (Host.reduceAdd (mulf y y) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 g)) = (MixSteps.next x y g : FVec Ideal S4096x1024 .f32) := by
  refine ext2 fun r n => ?_
  pointwise
  rfl

end Cert.MixSteps.Reference
end
-- ==== Proof.ScoreValue.lean ====
/-
  The last layer's out-projection with the loss. A point of the grid takes 512 rows, multiplies them by the weight, adds the
  product's normalized rows to the layer's own and subtracts the target: that is its error (`errorAt`). It writes the product
  and the error over 1024, and adds the sum of the error's squares to the entries of the third result, from zero at the first
  point. So the results are the product, the loss's slope and the sum of all the squares (`final_score`), and those are the
  reference's: half the mean's slope, half of 2 over 1024, is 1 over 1024 of the error (`Reference.slope`).
-/
module

public import proofs.«01_k».proof.Proof.Gen.ScoreIdeal.Value
public import proofs.«01_k».proof.Proof.Gen.ScoreReferenceIdeal.Run
public import proofs.«01_k».proof.Proof.MixValue
public import Idealize.ShloMosaic.Lib.Pipeline.ValueKit

@[expose] public section

noncomputable section

namespace Cert.ScoreSteps

open Cert.ScoreIdeal Cert.ScoreIdeal.Gen Cert.RowRule
open Cert.MixSteps (joined split)
open Idealize.ShloMosaic TcCoe Idealize.SL.Sem
open Pipeline (Dat)

theorem stored_error (a b : FVec Ideal S512x256 .bf16) (d : FVec Ideal S512x512 .bf16) (u v : FVec Ideal S256x1024 .bf16)
    (w : FVec Ideal S512x1024 .bf16) (x s : FVec Ideal S512x1024 .f32) (g : FVec Ideal S1x1024 .f32)
    (r : Fin 512) (n : Fin 1024) :
    k0_pay4 (F := Ideal) a u b v d w x g s (ix2 r n)
      = x (ix2 r n) + normal (fun j => k0_pay3 (F := Ideal) a u b v d w (ix2 r j)) (fun j => g (ix2 0 j)) n - s (ix2 r n) := by
  unfold k0_pay4
  generalize k0_pay3 (F := Ideal) a u b v d w = y
  pointwise
  rfl

theorem stored_score (e : FVec Ideal S512x1024 .f32) (l : FVec Ideal S8x128 .f32) (p : Fin 8) (q : Fin 128) :
    k0_pay2 (F := Ideal) e l (ix2 p q) = l (ix2 p q) + ∑ r : Fin 512, ∑ n : Fin 1024, e (ix2 r n) * e (ix2 r n) := by
  pointwise [k0_pay2]

theorem stored_zero (i : S8x128.Idx) : k0_pay1 (F := Ideal) i = 0 := by
  show Ideal.ofBits .f32 0x00000000#32 = 0
  exact Ideal.ofBits_zero _

/-! ## A point's blocks, and the rows of the whole they are -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)

theorem height : 4096 = cfg0.N * 512 := by rw [show cfg0.N = 8 from N_0]

/-- Row `r` of point `t`'s blocks, among the 4096 rows. -/
def place (t : Fin cfg0.N) (r : Fin 512) : Fin 4096 :=
  ⟨t.val * 512 + r.val, by have := t.isLt; have := r.isLt; have := height; have : cfg0.N = 8 := N_0; omega⟩

variable (m : (ℓ : Loc nD τ sig) → Buf (Elt Ideal) ℓ) (ρ : Dev nD → PrngReg)

theorem rows_at (c : Dev nD) (t : Fin cfg0.N) (r : Fin 512) (k : Fin 1024) :
    iblk m c 0 t (ix2 r k) = m ((c : Thread nD τ).loc main_arg0) (ix2 (place t r) k) := by
  blk_ext [iblk, V, at0 t, place]

theorem first_at (c : Dev nD) (t : Fin cfg0.N) (r : Fin 512) (k : Fin 256) :
    iblk m c 1 t (ix2 r k) = m ((c : Thread nD τ).loc main_arg1) (ix2 (place t r) k) := by
  blk_ext [iblk, V, at1 t, place]

theorem second_at (c : Dev nD) (t : Fin cfg0.N) (r : Fin 512) (k : Fin 256) :
    iblk m c 2 t (ix2 r k) = m ((c : Thread nD τ).loc main_arg2) (ix2 (place t r) k) := by
  blk_ext [iblk, V, at2 t, place]

theorem third_at (c : Dev nD) (t : Fin cfg0.N) (r : Fin 512) (k : Fin 512) :
    iblk m c 3 t (ix2 r k) = m ((c : Thread nD τ).loc main_arg3) (ix2 (place t r) k) := by
  blk_ext [iblk, V, at3 t, place]

theorem weight_at (c : Dev nD) (t : Fin cfg0.N) (k n : Fin 1024) :
    iblk m c 4 t (ix2 k n) = m ((c : Thread nD τ).loc main_arg4) (ix2 k n) := by
  blk_ext [iblk, V, at4 t]

theorem gain_at (c : Dev nD) (t : Fin cfg0.N) (k : Fin 1024) :
    iblk m c 5 t (ix2 0 k) = m ((c : Thread nD τ).loc main_arg5) (ix2 0 k) := by
  blk_ext [iblk, V, at5 t]

theorem aim_at (c : Dev nD) (t : Fin cfg0.N) (r : Fin 512) (k : Fin 1024) :
    iblk m c 6 t (ix2 r k) = m ((c : Thread nD τ).loc main_arg6) (ix2 (place t r) k) := by
  blk_ext [iblk, V, at6 t, place]

/-! ## What a point computes -/

/-- The product of the point's joined rows and the weight. -/
abbrev productAt (c : Dev nD) (t : Fin cfg0.N) : FVec Ideal S512x1024 .f32 :=
  k0_pay3 (F := Ideal) (iblk m c 1 t) (View.ld (iblk m c 4 t) (Rect.unit ![0, 0] ![256, 1024] inb_S1024x1024_S256x1024_0_0))
    (iblk m c 2 t) (View.ld (iblk m c 4 t) (Rect.unit ![256, 0] ![256, 1024] inb_S1024x1024_S256x1024_256_0))
    (iblk m c 3 t) (View.ld (iblk m c 4 t) (Rect.unit ![512, 0] ![512, 1024] inb_S1024x1024_S512x1024_512_0))

/-- The point's rows of the output, less the target. -/
abbrev errorAt (c : Dev nD) (t : Fin cfg0.N) : FVec Ideal S512x1024 .f32 :=
  k0_pay4 (F := Ideal) (iblk m c 1 t) (View.ld (iblk m c 4 t) (Rect.unit ![0, 0] ![256, 1024] inb_S1024x1024_S256x1024_0_0))
    (iblk m c 2 t) (View.ld (iblk m c 4 t) (Rect.unit ![256, 0] ![256, 1024] inb_S1024x1024_S256x1024_256_0))
    (iblk m c 3 t) (View.ld (iblk m c 4 t) (Rect.unit ![512, 0] ![512, 1024] inb_S1024x1024_S512x1024_512_0))
    (iblk m c 0 t) (iblk m c 5 t) (iblk m c 6 t)

theorem left_product (c : Dev nD) (t : Fin cfg0.N) : (outsAt0 m c t.val t.isLt).1 = productAt m c t := by
  by_cases h : t.val % 8 = 0
  · rw [outsAt0_A m c t h]; frame_out; rfl
  · rw [outsAt0_B m c t h]; frame_out; rfl

theorem left_slope (c : Dev nD) (t : Fin cfg0.N) :
    (outsAt0 m c t.val t.isLt).2.1 = fun i => errorAt m c t i * Ideal.ofBits .f32 0x3A800000#32 := by
  by_cases h : t.val % 8 = 0
  · rw [outsAt0_A m c t h]; frame_out; rfl
  · rw [outsAt0_B m c t h]; frame_out; rfl

/-- After the last point the third result's entries are the sum of the squares of all the points' errors. -/
theorem left_score (c : Dev nD) (i : S8x128.Idx) :
    (outsAt0 m c t0_7.val t0_7.isLt).2.2 i
      = ∑ t : Fin cfg0.N, ∑ r : Fin 512, ∑ n : Fin 1024, errorAt m c t (ix2 r n) * errorAt m c t (ix2 r n) := by
  rw [Pipeline.eq_sum_fin_of_reset_step_apply_last (fun n h => (outsAt0 m c n h).2.2) 8 (fun _ => (0 : EReal))
    (fun t _ => ∑ r : Fin 512, ∑ n : Fin 1024, errorAt m c t (ix2 r n) * errorAt m c t (ix2 r n))
    (fun t h j => by
      rw [outsAt0_A m c t h]; frame_out
      rw [eq_ix2 j]
      exact (stored_score _ _ _ _).trans (congrArg (· + _) (stored_zero _)))
    (fun t h j => by
      rw [outsAt0_B m c t h]; frame_out
      rw [eq_ix2 j]
      exact stored_score _ _ _ _)
    (le_of_eq N_0) t0_7 rfl i, zero_add]

/-! ## The results, as functions of the arguments -/

def error (x y s : FVec Ideal S4096x1024 .f32) (g : FVec Ideal S1x1024 .f32) : FVec Ideal S4096x1024 .f32 := fun i =>
  MixSteps.next x y g i - s i

def slope (e : FVec Ideal S4096x1024 .f32) : FVec Ideal S4096x1024 .f32 := fun i => e i * Ideal.ofBits .f32 0x3A800000#32

def score (e : FVec Ideal S4096x1024 .f32) : FVec Ideal S8x128 .f32 := fun _ =>
  ∑ r : Fin 4096, ∑ n : Fin 1024, e (ix2 r n) * e (ix2 r n)

abbrev target (c : Dev nD) : FVec Ideal S4096x1024 .f32 :=
  MixSteps.product (m ((c : Thread nD τ).loc main_arg1)) (m ((c : Thread nD τ).loc main_arg2))
    (m ((c : Thread nD τ).loc main_arg3)) (m ((c : Thread nD τ).loc main_arg4))

abbrev target_error (c : Dev nD) : FVec Ideal S4096x1024 .f32 :=
  error (m ((c : Thread nD τ).loc main_arg0)) (target m c) (m ((c : Thread nD τ).loc main_arg6)) (m ((c : Thread nD τ).loc main_arg5))

theorem product_at (c : Dev nD) (t : Fin cfg0.N) (r : Fin 512) (n : Fin 1024) :
    productAt m c t (ix2 r n) = target m c (ix2 (place t r) n) := by
  unfold productAt
  rw [View.ld_unit, View.ld_unit, View.ld_unit]
  pointwise [k0_pay3]
  simp only [first_at m c t, second_at m c t, third_at m c t, weight_at m c t]
  rfl

theorem error_at (c : Dev nD) (t : Fin cfg0.N) (r : Fin 512) (n : Fin 1024) :
    errorAt m c t (ix2 r n) = target_error m c (ix2 (place t r) n) := by
  refine (stored_error _ _ _ _ _ _ _ _ _ r n).trans ?_
  unfold target_error error MixSteps.next
  simp only [rows_at m c t, gain_at m c t, aim_at m c t]
  have same : (fun j => productAt m c t (ix2 r j)) = fun j => target m c (ix2 (place t r) j) :=
    funext fun j => product_at m c t r j
  exact congrArg (fun row => _ + normal row _ n - _) same

theorem final_product (c : Dev nD) : (dats m 0 c).arrAt 7 cfg0.N = target m c := by
  refine (dats m 0 c).arrAt_eq_of_covers 7 _ (by decide +kernel) fun t hf y => ?_
  blk_simp
  rw [after0_7, left_product]
  have e : (win0_7.blk t).view.emb y = ix2 (place t (y 0)) (y 1) := by blk_ext [at7 t, place]
  rw [e]
  exact (congrArg (productAt m c t) (eq_ix2 _)).trans (product_at m c t (y 0) (y 1))

theorem final_slope (c : Dev nD) : (dats m 0 c).arrAt 8 cfg0.N = slope (target_error m c) := by
  refine (dats m 0 c).arrAt_eq_of_covers 8 _ (by decide +kernel) fun t hf y => ?_
  blk_simp
  rw [after0_8, left_slope]
  have e : (win0_8.blk t).view.emb y = ix2 (place t (y 0)) (y 1) := by blk_ext [at8 t, place]
  rw [e]
  exact congrArg (· * _) ((congrArg (errorAt m c t) (eq_ix2 _)).trans (error_at m c t (y 0) (y 1)))

theorem final_score (c : Dev nD) : (dats m 0 c).arrAt 9 cfg0.N = score (target_error m c) := by
  refine (dats m 0 c).arrAt_eq_of_after_last 9 t0_7 (by decide +kernel) _ fun j => ?_
  blk_simp
  rw [after0_9]
  refine (left_score m c _).trans ?_
  simp only [error_at m c]
  exact Fin.sum_mul_add_fin cfg0.N 512 (fun l => ∑ n : Fin 1024, target_error m c (ix2 l n) * target_error m c (ix2 l n)) height

end Cert.ScoreSteps

/-! ## The reference -/

namespace Cert.ScoreSteps.Reference

open Cert.ScoreReferenceIdeal Cert.ScoreReferenceIdeal.Gen Cert.RowRule
open Idealize.ShloMosaic

/-- The whole rows: the output less the target is the error. -/
theorem error (x y s : FVec Ideal S4096x1024 .f32) (g : FVec Ideal S1x1024 .f32) :
    subf (addf x (mulf (mulf y (broadcastInDim S4096x1024 ![0, 1] bcast_S4096x1_S4096x1024_0_1 (Host.rsqrt (addf (Host.divf
      (broadcastInDim S4096x1 ![0] bcast_S4096_S4096x1_0 (Host.reduceAdd (mulf y y) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 g))) s = (ScoreSteps.error x y s g : FVec Ideal S4096x1024 .f32) :=
  congrArg (subf · s) (MixSteps.Reference.next x y g)

/-- Half of one over 1024, of twice a number, is one over 1024 of it. -/
theorem slope (e : FVec Ideal S4096x1024 .f32) :
    mulf (broadcastInDim S4096x1024 ![0] bcast_S4096_S4096x1024_0 (Host.divf (broadcastInDim S4096 ![] bcast_S_S4096
        (mulf (constant S_ .f32 0x3F000000#32) (constant S_ .f32 0x3F800000#32)))
        (broadcastInDim S4096 ![] bcast_S_S4096 (constant S_ .f32 0x44800000#32))))
      (mulf (broadcastInDim S4096x1024 ![] bcast_S_S4096x1024 (constant S_ .f32 0x40000000#32)) e)
      = (ScoreSteps.slope e : FVec Ideal S4096x1024 .f32) := by
  refine ext2 fun r n => ?_
  pointwise
  unfold ScoreSteps.slope
  have half : Ideal.ofBits .f32 0x3F000000#32 = (((1 / 2 : ℝ) : ℝ) : EReal) := by
    simp [Ideal.ofBits, Ideal.ieee, -EReal.coe_mul]; norm_num
  have width : Ideal.ofBits .f32 0x44800000#32 = ((1024 : ℝ) : EReal) := by
    simp [Ideal.ofBits, Ideal.ieee, -EReal.coe_mul]; norm_num
  have two : Ideal.ofBits .f32 0x40000000#32 = ((2 : ℝ) : EReal) := by
    simp [Ideal.ofBits, Ideal.ieee, -EReal.coe_mul]; norm_num
  have part : Ideal.ofBits .f32 0x3A800000#32 = (((1 / 1024 : ℝ) : ℝ) : EReal) := by
    simp [Ideal.ofBits, Ideal.ieee, -EReal.coe_mul]; norm_num
  rw [half, width, two, part, Ideal.div_coe (by norm_num : (1024 : ℝ) ≠ 0), ← mul_assoc, ← EReal.coe_mul, ← EReal.coe_mul,
    mul_comm]
  norm_num

theorem score (e : FVec Ideal S4096x1024 .f32) :
    (broadcastInDim S8x128 ![] bcast_S_S8x128 (Host.reduceAdd (mulf e e) (constant S_ .f32 0x00000000#32)
      reducesTo_S4096x1024_S_d0_1 h_S_)) = (ScoreSteps.score e : FVec Ideal S8x128 .f32) := by
  refine ext2 fun p q => ?_
  pointwise
  rfl

theorem product (a b : FVec Ideal S4096x256 .bf16) (d : FVec Ideal S4096x512 .bf16) (w : FVec Ideal S1024x1024 .bf16) :
    Host.dotGeneral (F := Ideal) (φ₁ := .f32) (so := S4096x1024) dot_S4096x1024_S1024x1024_S4096x1024_1_0_0_1_n_n none
      (extf .f32 ((concatenate S4096x1024 1 [⟨S4096x256, (a : (⟨S4096x256, .bf16⟩ : BufTy).Contents (Elt Ideal))⟩, ⟨S4096x256, (b : (⟨S4096x256, .bf16⟩ : BufTy).Contents (Elt Ideal))⟩, ⟨S4096x512, (d : (⟨S4096x512, .bf16⟩ : BufTy).Contents (Elt Ideal))⟩]
        concatenates_S4096x256_S4096x256_S4096x512_S4096x1024_d1 : (⟨S4096x1024, .bf16⟩ : BufTy).Contents (Elt Ideal))) bitsLt_bf16_f32) (extf .f32 w bitsLt_bf16_f32)
      = (MixSteps.product a b d w : FVec Ideal S4096x1024 .f32) :=
  MixSteps.Reference.product a b d w

end Cert.ScoreSteps.Reference
end
-- ==== Proof.SlopeValue.lean ====
/-
  The slope of the loss by the in-projection's weight. A point of the grid takes 512 rows and the four pieces of the slope by
  their projection, and adds to the result, piece by piece of its columns, the transposed normalized rows times the piece
  (`stores`): from zero at the first point. So an entry ends as the sum over all the rows (`final`), which is the reference's
  product with the pieces joined (`Reference.slope`).
-/
module

public import proofs.«01_k».proof.Proof.Gen.SlopeIdeal.Value
public import proofs.«01_k».proof.Proof.Gen.SlopeReferenceIdeal.Run
public import proofs.«01_k».proof.Proof.RowRule
public import Idealize.ShloMosaic.Lib.Pipeline.ValueKit
public import Idealize.ShloMosaic.Lib.Pipeline.ReadBack

@[expose] public section

noncomputable section

namespace Cert.SlopeSteps

open Cert.SlopeIdeal Cert.SlopeIdeal.Gen Cert.RowRule
open Idealize.ShloMosaic TcCoe Idealize.SL.Sem
open Pipeline (Dat)

/-- The four pieces of a row, one after the other. -/
def column (a : Fin 1024 → EReal) (b : Fin 512 → EReal) (d : Fin 2048 → EReal) (f : Fin 128 → EReal) (n : Fin 3712) : EReal :=
  if ha : n.val < 1024 then a ⟨n.val, ha⟩
  else if hb : n.val - 1024 < 512 then b ⟨n.val - 1024, hb⟩
  else if hd : n.val - 1024 - 512 < 2048 then d ⟨n.val - 1024 - 512, hd⟩
  else f ⟨n.val - 1024 - 512 - 2048, by have := n.isLt; omega⟩

theorem column_a (a b d f) (n : Fin 1024) : column a b d f ⟨0 + n.val, by omega⟩ = a n := by
  simp [column]

theorem column_b (a b d f) (n : Fin 512) : column a b d f ⟨1024 + n.val, by omega⟩ = b n := by
  simp [column]

theorem column_d (a b d f) (n : Fin 2048) : column a b d f ⟨1536 + n.val, by omega⟩ = d n := by
  simp [column, show ¬ 1536 + n.val < 1024 by omega, show ¬ 1536 + n.val - 1024 < 512 by omega,
    show 1536 + n.val - 1024 - 512 = n.val by omega]

theorem column_f (a b d f) (n : Fin 128) : column a b d f ⟨3584 + n.val, by omega⟩ = f n := by
  simp [column, show ¬ 3584 + n.val < 1024 by omega, show ¬ 3584 + n.val - 1024 < 512 by omega,
    show ¬ 3584 + n.val - 1024 - 512 < 2048 by omega, show 3584 + n.val - 1024 - 512 - 2048 = n.val by omega]

theorem stored_a (x : FVec Ideal S512x1024 .f32) (g : FVec Ideal S1x1024 .f32) (l : FVec Ideal S1024x1024 .f32)
    (d : FVec Ideal S512x1024 .bf16) (k n : Fin 1024) :
    k0_pay5 (F := Ideal) x g l d (ix2 k n)
      = l (ix2 k n) + ∑ r : Fin 512, normal (fun j => x (ix2 r j)) (fun j => g (ix2 0 j)) k * d (ix2 r n) := by
  pointwise [k0_pay5, k0_pay4]
  rfl

theorem stored_b (x : FVec Ideal S512x1024 .f32) (g : FVec Ideal S1x1024 .f32) (l : FVec Ideal S1024x512 .f32)
    (d : FVec Ideal S512x512 .bf16) (k : Fin 1024) (n : Fin 512) :
    k0_pay6 (F := Ideal) x g l d (ix2 k n)
      = l (ix2 k n) + ∑ r : Fin 512, normal (fun j => x (ix2 r j)) (fun j => g (ix2 0 j)) k * d (ix2 r n) := by
  pointwise [k0_pay6, k0_pay4]
  rfl

theorem stored_d (x : FVec Ideal S512x1024 .f32) (g : FVec Ideal S1x1024 .f32) (l : FVec Ideal S1024x2048 .f32)
    (d : FVec Ideal S512x2048 .bf16) (k : Fin 1024) (n : Fin 2048) :
    k0_pay1 (F := Ideal) (k0_pay4 x g) l d (ix2 k n)
      = l (ix2 k n) + ∑ r : Fin 512, normal (fun j => x (ix2 r j)) (fun j => g (ix2 0 j)) k * d (ix2 r n) := by
  pointwise [k0_pay1, k0_pay4]
  rfl

theorem stored_f (x : FVec Ideal S512x1024 .f32) (g : FVec Ideal S1x1024 .f32) (l : FVec Ideal S1024x128 .f32)
    (d : FVec Ideal S512x128 .bf16) (k : Fin 1024) (n : Fin 128) :
    k0_pay2 (F := Ideal) (k0_pay4 x g) l d (ix2 k n)
      = l (ix2 k n) + ∑ r : Fin 512, normal (fun j => x (ix2 r j)) (fun j => g (ix2 0 j)) k * d (ix2 r n) := by
  pointwise [k0_pay2, k0_pay4]
  rfl

theorem stored_zero (i : S1024x3712.Idx) : k0_pay3 (F := Ideal) i = 0 := by
  show Ideal.ofBits .f32 0x00000000#32 = 0
  exact Ideal.ofBits_zero _

/-- What a point adds to an entry, from its blocks. -/
def added (x : FVec Ideal S512x1024 .f32) (g : FVec Ideal S1x1024 .f32) (a : FVec Ideal S512x1024 .bf16)
    (b : FVec Ideal S512x512 .bf16) (d : FVec Ideal S512x2048 .bf16) (f : FVec Ideal S512x128 .bf16) (i : S1024x3712.Idx) : EReal :=
  ∑ r : Fin 512, normal (fun j => x (ix2 r j)) (fun j => g (ix2 0 j)) (i 0)
    * column (fun n => a (ix2 r n)) (fun n => b (ix2 r n)) (fun n => d (ix2 r n)) (fun n => f (ix2 r n)) (i 1)

/-- An index of a store whose columns begin at `o`, among all the columns. -/
theorem shifted {o w : Nat} (inb : ∀ a, (![0, o] : Fin 2 → Nat) a + (![1024, w] : Fin 2 → Nat) a ≤ S1024x3712.size a)
    (k : Fin 1024) (n : Fin w) (h : o + n.val < 3712) :
    (Rect.unit (s := S1024x3712) ![0, o] ![1024, w] inb).emb (ix2 k n) = (ix2 k ⟨o + n.val, h⟩ : S1024x3712.Idx) := by
  funext a
  refine Fin.ext ((Rect.idx_unit_val _ _ inb _ a).trans ?_)
  fin_cases a
  · exact Nat.zero_add _
  · rfl

/-- A store of columns from `o` on, whose entries are what was there and a sum over the rows, is a block of that. -/
theorem piece {o w : Nat} (inb : ∀ a, (![0, o] : Fin 2 → Nat) a + (![1024, w] : Fin 2 → Nat) a ≤ S1024x3712.size a)
    (u : Fin 512 → Fin 1024 → EReal) (v : Fin 512 → Fin 3712 → EReal) (l : S1024x3712.Idx → EReal) (h : ∀ n : Fin w, o + n.val < 3712)
    (P : (⟨2, ![1024, w]⟩ : Shape).Idx → EReal) (d : Fin 512 → Fin w → EReal)
    (hP : ∀ k n, P (ix2 k n) = l ((Rect.unit (s := S1024x3712) ![0, o] ![1024, w] inb).emb (ix2 k n)) + ∑ r, u r k * d r n)
    (hv : ∀ r n, v r ⟨o + n.val, h n⟩ = d r n) (y : (⟨2, ![1024, w]⟩ : Shape).Idx) :
    P y = (fun i : S1024x3712.Idx => l i + ∑ r, u r (i 0) * v r (i 1))
      ((Rect.unit (s := S1024x3712) ![0, o] ![1024, w] inb).emb y) := by
  have e : ∀ (k : Fin 1024) (n : Fin w), P (ix2 k n) = (fun i : S1024x3712.Idx => l i + ∑ r, u r (i 0) * v r (i 1))
      ((Rect.unit (s := S1024x3712) ![0, o] ![1024, w] inb).emb (ix2 k n)) := fun k n => by
    rw [hP, shifted inb k n (h n)]
    exact congrArg _ (Finset.sum_congr rfl fun r _ => congrArg _ (hv r n).symm)
  rw [eq_ix2 y]
  exact e (y 0) (y 1)

/-- The four stores of a point add to every entry of what was there. -/
theorem stores (x : FVec Ideal S512x1024 .f32) (g : FVec Ideal S1x1024 .f32) (a : FVec Ideal S512x1024 .bf16)
    (b : FVec Ideal S512x512 .bf16) (d : FVec Ideal S512x2048 .bf16) (f : FVec Ideal S512x128 .bf16)
    (l : FVec Ideal S1024x3712 .f32) (L : List (View.Piece (Elt Ideal) S1024x3712 .f32)) (i : S1024x3712.Idx) :
    View.canon ([⟨Rect.unit ![0, 3584] ![1024, 128] inb_S1024x3712_S1024x128_0_3584,
        k0_pay2 (F := Ideal) (k0_pay4 x g) (View.ld (Val := Elt Ideal) (S := S1024x3712) (e' := .f32) l (Rect.unit ![0, 3584] ![1024, 128] inb_S1024x3712_S1024x128_0_3584)) f⟩,
      ⟨Rect.unit ![0, 1536] ![1024, 2048] inb_S1024x3712_S1024x2048_0_1536,
        k0_pay1 (F := Ideal) (k0_pay4 x g) (View.ld (Val := Elt Ideal) (S := S1024x3712) (e' := .f32) l (Rect.unit ![0, 1536] ![1024, 2048] inb_S1024x3712_S1024x2048_0_1536)) d⟩,
      ⟨Rect.unit ![0, 1024] ![1024, 512] inb_S1024x3712_S1024x512_0_1024,
        k0_pay6 (F := Ideal) x g (View.ld (Val := Elt Ideal) (S := S1024x3712) (e' := .f32) l (Rect.unit ![0, 1024] ![1024, 512] inb_S1024x3712_S1024x512_0_1024)) b⟩,
      ⟨Rect.unit ![0, 0] ![1024, 1024] inb_S1024x3712_S1024x1024_0_0,
        k0_pay5 (F := Ideal) x g (View.ld (Val := Elt Ideal) (S := S1024x3712) (e' := .f32) l (Rect.unit ![0, 0] ![1024, 1024] inb_S1024x3712_S1024x1024_0_0)) a⟩] ++ L) i
      = l i + added x g a b d f i := by
  refine View.canon_append_of_piecesOf (fun i => l i + added x g a b d f i) L _ ?_ i ?_
  refine ⟨piece _ (fun r => normal (fun j => x (ix2 r j)) (fun j => g (ix2 0 j))) _ l _ _ (fun r n => f (ix2 r n))
      (stored_f x g _ f) fun r n => column_f _ _ _ _ n,
    piece _ (fun r => normal (fun j => x (ix2 r j)) (fun j => g (ix2 0 j))) _ l _ _ (fun r n => d (ix2 r n))
      (stored_d x g _ d) fun r n => column_d _ _ _ _ n,
    piece _ (fun r => normal (fun j => x (ix2 r j)) (fun j => g (ix2 0 j))) _ l _ _ (fun r n => b (ix2 r n))
      (stored_b x g _ b) fun r n => column_b _ _ _ _ n,
    piece _ (fun r => normal (fun j => x (ix2 r j)) (fun j => g (ix2 0 j))) _ l _ _ (fun r n => a (ix2 r n))
      (stored_a x g _ a) fun r n => column_a _ _ _ _ n, trivial⟩
  · have k : (i 0).val < 1024 := (i 0).isLt
    have n : (i 1).val < 3712 := (i 1).isLt
    simp only [List.mem_cons, List.not_mem_nil, or_false, exists_eq_or_imp, exists_eq_left, Rect.mem_set_unit,
      Fin.forall_fin_two, Matrix.cons_val_zero, Matrix.cons_val_one]
    omega

variable (m : (ℓ : Loc nD τ sig) → Buf (Elt Ideal) ℓ) (ρ : Dev nD → PrngReg)

theorem left_slope (c : Dev nD) (i : S1024x3712.Idx) : outsAt0 m c t0_7.val t0_7.isLt i
    = ∑ t : Fin cfg0.N, added (iblk m c 0 t) (iblk m c 1 t) (iblk m c 2 t) (iblk m c 3 t) (iblk m c 4 t) (iblk m c 5 t) i := by
  rw [Pipeline.eq_sum_fin_of_reset_step_apply_last (fun n h => outsAt0 m c n h) 8 (fun _ => (0 : EReal))
    (fun t => added (iblk m c 0 t) (iblk m c 1 t) (iblk m c 2 t) (iblk m c 3 t) (iblk m c 4 t) (iblk m c 5 t))
    (fun t h j => by
      rw [outsAt0_A m c t h]; frame_out
      simp (disch := decide) only [↓View.readCov_skip, View.readCov_fill]
      exact (stores _ _ _ _ _ _ (k0_pay3 (F := Ideal)) [_] j).trans (congrArg (· + _) (stored_zero j)))
    (fun t h j => by
      rw [outsAt0_B m c t h]; frame_out
      exact stores _ _ _ _ _ _ _ [] j)
    (le_of_eq N_0) t0_7 rfl i, zero_add]

/-! ## The result, as a function of the arguments -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

theorem height : 4096 = cfg0.N * 512 := by rw [show cfg0.N = 8 from N_0]

/-- Row `r` of point `t`'s blocks, among the 4096 rows. -/
def place (t : Fin cfg0.N) (r : Fin 512) : Fin 4096 :=
  ⟨t.val * 512 + r.val, by have := t.isLt; have := r.isLt; have := height; have : cfg0.N = 8 := N_0; omega⟩

theorem rows_at (c : Dev nD) (t : Fin cfg0.N) (r : Fin 512) (k : Fin 1024) :
    iblk m c 0 t (ix2 r k) = m ((c : Thread nD τ).loc main_arg0) (ix2 (place t r) k) := by
  blk_ext [iblk, V, at0 t, place]

theorem gain_at (c : Dev nD) (t : Fin cfg0.N) (k : Fin 1024) :
    iblk m c 1 t (ix2 0 k) = m ((c : Thread nD τ).loc main_arg1) (ix2 0 k) := by
  blk_ext [iblk, V, at1 t]

theorem a_at (c : Dev nD) (t : Fin cfg0.N) (r : Fin 512) (n : Fin 1024) :
    iblk m c 2 t (ix2 r n) = m ((c : Thread nD τ).loc main_arg2) (ix2 (place t r) n) := by
  blk_ext [iblk, V, at2 t, place]

theorem b_at (c : Dev nD) (t : Fin cfg0.N) (r : Fin 512) (n : Fin 512) :
    iblk m c 3 t (ix2 r n) = m ((c : Thread nD τ).loc main_arg3) (ix2 (place t r) n) := by
  blk_ext [iblk, V, at3 t, place]

theorem d_at (c : Dev nD) (t : Fin cfg0.N) (r : Fin 512) (n : Fin 2048) :
    iblk m c 4 t (ix2 r n) = m ((c : Thread nD τ).loc main_arg4) (ix2 (place t r) n) := by
  blk_ext [iblk, V, at4 t, place]

theorem f_at (c : Dev nD) (t : Fin cfg0.N) (r : Fin 512) (n : Fin 128) :
    iblk m c 5 t (ix2 r n) = m ((c : Thread nD τ).loc main_arg5) (ix2 (place t r) n) := by
  blk_ext [iblk, V, at5 t, place]

/-- The normalized rows, transposed, times the slope by the projected rows. -/
def slope (x : FVec Ideal S4096x1024 .f32) (g : FVec Ideal S1x1024 .f32) (a : FVec Ideal S4096x1024 .bf16)
    (b : FVec Ideal S4096x512 .bf16) (d : FVec Ideal S4096x2048 .bf16) (f : FVec Ideal S4096x128 .bf16) :
    FVec Ideal S1024x3712 .f32 := fun i =>
  ∑ r : Fin 4096, normal (fun j => x (ix2 r j)) (fun j => g (ix2 0 j)) (i 0)
    * column (fun n => a (ix2 r n)) (fun n => b (ix2 r n)) (fun n => d (ix2 r n)) (fun n => f (ix2 r n)) (i 1)

abbrev target (c : Dev nD) : FVec Ideal S1024x3712 .f32 :=
  slope (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem final (c : Dev nD) : (dats m 0 c).arrAt 6 cfg0.N = target m c := by
  refine (dats m 0 c).arrAt_eq_of_after_last 6 t0_7 (by decide +kernel) _ fun j => ?_
  blk_simp
  rw [after0_6]
  refine (left_slope m c _).trans ?_
  simp only [added, rows_at m c, gain_at m c, a_at m c, b_at m c, d_at m c, f_at m c]
  exact Fin.sum_mul_add_fin cfg0.N 512 (fun l => normal (fun k => m ((c : Thread nD τ).loc main_arg0) (ix2 l k))
    (fun k => m ((c : Thread nD τ).loc main_arg1) (ix2 0 k)) (j 0)
    * column (fun n => m ((c : Thread nD τ).loc main_arg2) (ix2 l n)) (fun n => m ((c : Thread nD τ).loc main_arg3) (ix2 l n))
      (fun n => m ((c : Thread nD τ).loc main_arg4) (ix2 l n)) (fun n => m ((c : Thread nD τ).loc main_arg5) (ix2 l n)) (j 1)) height

end Cert.SlopeSteps

/-! ## The reference -/

namespace Cert.SlopeSteps.Reference

open Cert.SlopeReferenceIdeal Cert.SlopeReferenceIdeal.Gen Cert.RowRule
open Idealize.ShloMosaic

theorem slope (x : FVec Ideal S4096x1024 .f32) (g : FVec Ideal S1x1024 .f32) (a : FVec Ideal S4096x1024 .bf16)
    (b : FVec Ideal S4096x512 .bf16) (d : FVec Ideal S4096x2048 .bf16) (f : FVec Ideal S4096x128 .bf16) :
    (transpose S1024x3712 [1, 0] (Host.dotGeneral dot_S4096x3712_S4096x1024_S3712x1024_0_0_1_1_n_n none (extf .f32 ((concatenate S4096x3712 1 [⟨S4096x1024, (a : (⟨S4096x1024, .bf16⟩ : BufTy).Contents (Elt Ideal))⟩, ⟨S4096x512, (b : (⟨S4096x512, .bf16⟩ : BufTy).Contents (Elt Ideal))⟩, ⟨S4096x2048, (d : (⟨S4096x2048, .bf16⟩ : BufTy).Contents (Elt Ideal))⟩, ⟨S4096x128, (f : (⟨S4096x128, .bf16⟩ : BufTy).Contents (Elt Ideal))⟩] concatenates_S4096x1024_S4096x512_S4096x2048_S4096x128_S4096x3712_d1 : (⟨S4096x3712, .bf16⟩ : BufTy).Contents (Elt Ideal))) bitsLt_bf16_f32) (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))) transposes_S3712x1024_S1024x3712_1_0)
      = (SlopeSteps.slope x g a b d f : FVec Ideal S1024x3712 .f32) := by
  refine ext2 fun k n => ?_
  pointwise
  exact Finset.sum_congr rfl fun r _ => mul_comm _ _

end Cert.SlopeSteps.Reference
end
-- ==== Proof.BackValue.lean ====
/-
  The gradient by a layer's rows. With `h` the gradient by the normalized rows before the gain, `p = h * gain`, `r` the row's
  rate and `T` the sum of `x * p`, the reference has `p * r + x * (T * (-1/2 * (r / v)) / 1024)` twice the second term, `v`
  being the mean square, and the kernel `r * (p - x * r * (sum of p * (x * r)) / 1024)`. Where the mean square is infinite both
  are zero; elsewhere the row's numbers are real, and `r * r = 1 / v` (`slope_eq`).
-/
module

public import proofs.«01_k».proof.Proof.Gen.BackIdeal.Value
public import proofs.«01_k».proof.Proof.Gen.BackReferenceIdeal.Run
public import proofs.«01_k».proof.Proof.RowRule
public import Idealize.ShloMosaic.Lib.Pipeline.ValueKit

@[expose] public section

noncomputable section

namespace Cert.BackSteps

open Cert.BackIdeal Cert.BackIdeal.Gen Cert.RowRule
open Idealize.ShloMosaic TcCoe Idealize.SL.Sem
open Pipeline (Dat)

/-! ## The derivative of a row's normalization -/

/-- The row's slope, from the slope `p` by the row times its rate. -/
def slope (row p : Fin 1024 → EReal) (k : Fin 1024) : EReal :=
  rate row * (p k - row k * rate row * Ideal.div (∑ j : Fin 1024, p j * (row j * rate row)) (Ideal.ofBits .f32 0x44800000#32))

theorem width : Ideal.ofBits .f32 0x44800000#32 = ((1024 : ℝ) : EReal) := by
  simp [Ideal.ofBits, Ideal.ieee, -EReal.coe_mul]; norm_num

theorem half : Ideal.ofBits .f32 0xBF000000#32 = ((-(1 / 2) : ℝ) : EReal) := by
  simp [Ideal.ofBits, Ideal.ieee, -EReal.coe_mul]; norm_num

theorem small : ∃ e : ℝ, 0 < e ∧ Ideal.ofBits .f32 0x358637BD#32 = (e : EReal) := by
  refine ⟨_, ?_, by simp [Ideal.ofBits, Ideal.ieee, -EReal.coe_mul]; rfl⟩
  norm_num

theorem square_nonneg (a : EReal) : 0 ≤ a * a := by
  induction a with
  | bot => simp
  | coe a => exact_mod_cast mul_self_nonneg a
  | top => simp

/-- A row's squares sum to infinity, or its numbers are real. -/
theorem top_or_real (row : Fin 1024 → EReal) :
    ∑ j : Fin 1024, row j * row j = ⊤ ∨ ∃ x : Fin 1024 → ℝ, row = fun j => ((x j : ℝ) : EReal) := by
  by_cases real : ∀ j, ∃ a : ℝ, row j = (a : EReal)
  · choose x hx using real
    exact .inr ⟨x, funext hx⟩
  · push Not at real
    obtain ⟨j, hj⟩ := real
    have e : row j * row j = ⊤ := by
      generalize row j = a at hj
      induction a with
      | bot => simp
      | coe a => exact absurd rfl (hj a)
      | top => simp
    exact .inl (top_le_iff.mp (e ▸ Finset.single_le_sum (f := fun j => row j * row j) (fun j _ => square_nonneg _) (Finset.mem_univ j)))

theorem coe_sum {n : Nat} (x : Fin n → ℝ) : ∑ j, ((x j : ℝ) : EReal) = ((∑ j, x j : ℝ) : EReal) := by
  induction n with
  | zero => simp
  | succ n ih => rw [Fin.sum_univ_succ, ih, Fin.sum_univ_succ, EReal.coe_add]

/-- A nonnegative real factor comes out of a sum. -/
theorem sum_mul {n : Nat} (r : ℝ) (hr : 0 ≤ r) (u : Fin n → EReal) : ∑ j, u j * (r : EReal) = (∑ j, u j) * (r : EReal) := by
  induction n with
  | zero => simp
  | succ n ih =>
    rw [Fin.sum_univ_succ, ih, Fin.sum_univ_succ,
      EReal.right_distrib_of_nonneg_of_ne_top (by exact_mod_cast hr) (EReal.coe_ne_top r)]

theorem twice (S : EReal) (c : ℝ) : S * (c : EReal) + S * (c : EReal) = S * ((c + c : ℝ) : EReal) := by
  induction S with
  | coe s => norm_cast; ring
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl

/-- The derivative by the rate, as the reference has it. -/
def turn (row p : Fin 1024 → EReal) : EReal :=
  Ideal.div ((∑ j : Fin 1024, row j * p j) * (Ideal.ofBits .f32 0xBF000000#32 * Ideal.div (rate row)
    (Ideal.div (∑ j : Fin 1024, row j * row j) (Ideal.ofBits .f32 0x44800000#32) + Ideal.ofBits .f32 0x358637BD#32)))
    (Ideal.ofBits .f32 0x44800000#32)

theorem slope_eq (row p : Fin 1024 → EReal) (k : Fin 1024) :
    p k * rate row + row k * turn row p + turn row p * row k = slope row p k := by
  obtain ⟨e, he, eps⟩ := small
  unfold turn slope
  rw [half, width]
  rcases top_or_real row with top | ⟨x, rfl⟩
  · have r0 : rate row = 0 := by
      unfold rate
      rw [top, width, eps, Ideal.div_coe (by norm_num), EReal.top_mul_coe_of_pos (by norm_num), EReal.top_add_coe, Ideal.rsqrt_top]
    rw [top, r0, eps, Ideal.div_coe (by norm_num), Ideal.div_coe (by norm_num), EReal.top_mul_coe_of_pos (by norm_num),
      EReal.top_add_coe]
    simp [Ideal.div]
  · have q : ∑ j : Fin 1024, ((x j : ℝ) : EReal) * ((x j : ℝ) : EReal) = ((∑ j, x j * x j : ℝ) : EReal) := by
      rw [← coe_sum]; simp only [EReal.coe_mul]
    have q0 : 0 ≤ ∑ j, x j * x j := Finset.sum_nonneg fun j _ => mul_self_nonneg _
    generalize ∑ j, x j * x j = s at q q0
    obtain ⟨v, hv, mean⟩ : ∃ v : ℝ, 0 < v ∧ Ideal.div (∑ j : Fin 1024, ((x j : ℝ) : EReal) * ((x j : ℝ) : EReal)) ((1024 : ℝ) : EReal)
        + (e : EReal) = (v : EReal) := by
      refine ⟨s * (1 / 1024) + e, by positivity, ?_⟩
      rw [q, Ideal.div_coe (by norm_num), ← EReal.coe_mul, ← EReal.coe_add]
    obtain ⟨r, hr, rr, rt⟩ : ∃ r : ℝ, 0 < r ∧ r * r * v = 1 ∧ rate (fun j => ((x j : ℝ) : EReal)) = (r : EReal) := by
      refine ⟨(Real.sqrt v)⁻¹, by positivity, ?_, ?_⟩
      · have := Real.mul_self_sqrt hv.le
        rw [← mul_inv, this]; exact inv_mul_cancel₀ hv.ne'
      · unfold rate
        rw [width, eps, mean, Ideal.rsqrt_coe, if_neg (not_lt.mpr hv.le), if_neg hv.ne']
    rw [eps, mean, rt]
    have vr : 1 / v = r * r := by field_simp; linarith
    have inner : ∑ j : Fin 1024, p j * (((x j : ℝ) : EReal) * (r : EReal)) = (∑ j : Fin 1024, ((x j : ℝ) : EReal) * p j) * (r : EReal) := by
      rw [← sum_mul r hr.le]
      exact Finset.sum_congr rfl fun j _ => by rw [← mul_assoc, mul_comm (p j)]
    rw [inner]
    generalize ∑ j : Fin 1024, ((x j : ℝ) : EReal) * p j = S
    simp only [Ideal.div_coe hv.ne', Ideal.div_coe (by norm_num : (1024 : ℝ) ≠ 0), vr]
    have nonneg : 0 ≤ (r : EReal) := EReal.coe_nonneg.mpr hr.le
    rw [sub_eq_add_neg, EReal.left_distrib_of_nonneg_of_ne_top nonneg (EReal.coe_ne_top r), add_assoc, mul_comm (p k)]
    refine congrArg ((r : EReal) * p k + ·) ?_
    have lhs : S * (((-(1 / 2) : ℝ) : EReal) * ((r : EReal) * ((r * r : ℝ) : EReal))) * ((1 / 1024 : ℝ) : EReal) * ((x k : ℝ) : EReal)
        = S * ((-(1 / 2) * (r * (r * r)) * (1 / 1024) * x k : ℝ) : EReal) := by
      simp only [EReal.coe_mul, mul_assoc]
    have rhs : (r : EReal) * -(((x k : ℝ) : EReal) * (r : EReal) * (S * (r : EReal) * ((1 / 1024 : ℝ) : EReal)))
        = S * ((-(r * (x k * r * (r * (1 / 1024)))) : ℝ) : EReal) := by
      rw [EReal.coe_neg, mul_neg, mul_neg]
      simp only [EReal.coe_mul]
      ac_rfl
    rw [mul_comm ((x k : ℝ) : EReal) (_ * _), lhs, rhs, twice]
    exact congrArg (fun y : ℝ => S * (y : EReal)) (by ring)

/-! ## What a point stores -/

/-- The product of the joined row (of 1024, 512, 2048 and 128 numbers) and the weight's row, part by part. -/
def joined (a : Fin 1024 → EReal) (b : Fin 512 → EReal) (d : Fin 2048 → EReal) (f : Fin 128 → EReal) (w : Fin 3712 → EReal) : EReal :=
  (∑ k : Fin 1024, a k * w ⟨k.val, by omega⟩) + (∑ k : Fin 512, b k * w ⟨1024 + k.val, by omega⟩)
    + (∑ k : Fin 2048, d k * w ⟨1536 + k.val, by omega⟩) + ∑ k : Fin 128, f k * w ⟨3584 + k.val, by omega⟩

/-- The sum over the whole row is the sum of the parts. -/
theorem split (f : Fin 3712 → EReal) :
    ∑ k : Fin 3712, f k = (∑ k : Fin 1024, f ⟨k.val, by omega⟩) + (∑ k : Fin 512, f ⟨1024 + k.val, by omega⟩)
      + (∑ k : Fin 2048, f ⟨1536 + k.val, by omega⟩) + ∑ k : Fin 128, f ⟨3584 + k.val, by omega⟩ := by
  have e : ∑ k : Fin 3712, f k = ∑ k : Fin (1024 + 512 + 2048 + 128), f k := rfl
  rw [e, Fin.sum_univ_add, Fin.sum_univ_add, Fin.sum_univ_add]
  rfl

theorem stored_product (a : FVec Ideal S512x1024 .bf16) (b : FVec Ideal S512x512 .bf16) (d : FVec Ideal S512x2048 .bf16)
    (f : FVec Ideal S512x128 .bf16) (w : FVec Ideal S1024x3712 .bf16) (r : Fin 512) (n : Fin 1024) :
    k0_pay5 (F := Ideal) a (View.ld (Val := Elt Ideal) (S := S1024x3712) (e' := .bf16) w (Rect.unit ![0, 0] ![1024, 1024] inb_S1024x3712_S1024x1024_0_0))
        b (View.ld (Val := Elt Ideal) (S := S1024x3712) (e' := .bf16) w (Rect.unit ![0, 1024] ![1024, 512] inb_S1024x3712_S1024x512_0_1024))
        d (View.ld (Val := Elt Ideal) (S := S1024x3712) (e' := .bf16) w (Rect.unit ![0, 1536] ![1024, 2048] inb_S1024x3712_S1024x2048_0_1536))
        f (View.ld (Val := Elt Ideal) (S := S1024x3712) (e' := .bf16) w (Rect.unit ![0, 3584] ![1024, 128] inb_S1024x3712_S1024x128_0_3584)) (ix2 r n)
      = joined (fun k => a (ix2 r k)) (fun k => b (ix2 r k)) (fun k => d (ix2 r k)) (fun k => f (ix2 r k)) (fun k => w (ix2 n k)) := by
  rw [View.ld_unit, View.ld_unit, View.ld_unit, View.ld_unit]
  pointwise [k0_pay5]
  rfl

theorem stored_slope (h x d : FVec Ideal S512x1024 .f32) (g : FVec Ideal S1x1024 .f32) (r : Fin 512) (n : Fin 1024) :
    k0_pay3 (F := Ideal) h x (k0_pay6 (F := Ideal) x) (k0_pay7 (F := Ideal) x) g d (ix2 r n)
      = d (ix2 r n) + slope (fun j => x (ix2 r j)) (fun j => h (ix2 r j) * g (ix2 0 j)) n := by
  pointwise [k0_pay3, k0_pay1, k0_pay7, k0_pay6]
  rfl

theorem stored_gain (h x : FVec Ideal S512x1024 .f32) (l : FVec Ideal S8x1024 .f32) (p : Fin 8) (n : Fin 1024) :
    k0_pay2 (F := Ideal) h x (k0_pay7 (F := Ideal) x) l (ix2 p n)
      = l (ix2 p n) + ∑ r : Fin 512, h (ix2 r n) * (x (ix2 r n) * rate (fun j => x (ix2 r j))) := by
  pointwise [k0_pay2, k0_pay1, k0_pay7, k0_pay6]
  rfl

theorem stored_zero (i : S8x1024.Idx) : k0_pay4 (F := Ideal) i = 0 := by
  show Ideal.ofBits .f32 0x00000000#32 = 0
  exact Ideal.ofBits_zero _

/-! ## A point's blocks, and the rows of the whole they are -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)

theorem height : 4096 = cfg0.N * 512 := by rw [show cfg0.N = 8 from N_0]

/-- Row `r` of point `t`'s blocks, among the 4096 rows. -/
def place (t : Fin cfg0.N) (r : Fin 512) : Fin 4096 :=
  ⟨t.val * 512 + r.val, by have := t.isLt; have := r.isLt; have := height; have : cfg0.N = 8 := N_0; omega⟩

variable (m : (ℓ : Loc nD τ sig) → Buf (Elt Ideal) ℓ) (ρ : Dev nD → PrngReg)

theorem at_0 (c : Dev nD) (t : Fin cfg0.N) (r : Fin 512) (k : Fin 1024) :
    iblk m c 0 t (ix2 r k) = m ((c : Thread nD τ).loc main_arg0) (ix2 (place t r) k) := by
  blk_ext [iblk, V, at0 t, place]

theorem at_1 (c : Dev nD) (t : Fin cfg0.N) (r : Fin 512) (k : Fin 1024) :
    iblk m c 1 t (ix2 r k) = m ((c : Thread nD τ).loc main_arg1) (ix2 (place t r) k) := by
  blk_ext [iblk, V, at1 t, place]

theorem at_2 (c : Dev nD) (t : Fin cfg0.N) (k : Fin 1024) :
    iblk m c 2 t (ix2 0 k) = m ((c : Thread nD τ).loc main_arg2) (ix2 0 k) := by
  blk_ext [iblk, V, at2 t]

theorem at_3 (c : Dev nD) (t : Fin cfg0.N) (n : Fin 1024) (k : Fin 3712) :
    iblk m c 3 t (ix2 n k) = m ((c : Thread nD τ).loc main_arg3) (ix2 n k) := by
  blk_ext [iblk, V, at3 t]

theorem at_4 (c : Dev nD) (t : Fin cfg0.N) (r : Fin 512) (k : Fin 1024) :
    iblk m c 4 t (ix2 r k) = m ((c : Thread nD τ).loc main_arg4) (ix2 (place t r) k) := by
  blk_ext [iblk, V, at4 t, place]

theorem at_5 (c : Dev nD) (t : Fin cfg0.N) (r : Fin 512) (k : Fin 512) :
    iblk m c 5 t (ix2 r k) = m ((c : Thread nD τ).loc main_arg5) (ix2 (place t r) k) := by
  blk_ext [iblk, V, at5 t, place]

theorem at_6 (c : Dev nD) (t : Fin cfg0.N) (r : Fin 512) (k : Fin 2048) :
    iblk m c 6 t (ix2 r k) = m ((c : Thread nD τ).loc main_arg6) (ix2 (place t r) k) := by
  blk_ext [iblk, V, at6 t, place]

theorem at_7 (c : Dev nD) (t : Fin cfg0.N) (r : Fin 512) (k : Fin 128) :
    iblk m c 7 t (ix2 r k) = m ((c : Thread nD τ).loc main_arg7) (ix2 (place t r) k) := by
  blk_ext [iblk, V, at7 t, place]

/-! ## What a point computes -/

/-- The gradient by the point's normalized rows. -/
abbrev pullAt (c : Dev nD) (t : Fin cfg0.N) : FVec Ideal S512x1024 .f32 :=
  k0_pay5 (F := Ideal) (iblk m c 4 t) (View.ld (iblk m c 3 t) (Rect.unit ![0, 0] ![1024, 1024] inb_S1024x3712_S1024x1024_0_0))
    (iblk m c 5 t) (View.ld (iblk m c 3 t) (Rect.unit ![0, 1024] ![1024, 512] inb_S1024x3712_S1024x512_0_1024))
    (iblk m c 6 t) (View.ld (iblk m c 3 t) (Rect.unit ![0, 1536] ![1024, 2048] inb_S1024x3712_S1024x2048_0_1536))
    (iblk m c 7 t) (View.ld (iblk m c 3 t) (Rect.unit ![0, 3584] ![1024, 128] inb_S1024x3712_S1024x128_0_3584))

theorem left_slope (c : Dev nD) (t : Fin cfg0.N) : (outsAt0 m c t.val t.isLt).1
    = k0_pay3 (F := Ideal) (pullAt m c t) (iblk m c 0 t) (k0_pay6 (F := Ideal) (iblk m c 0 t)) (k0_pay7 (F := Ideal) (iblk m c 0 t))
      (iblk m c 2 t) (iblk m c 1 t) := by
  by_cases h : t.val % 8 = 0
  · rw [outsAt0_A m c t h]; frame_out; rfl
  · rw [outsAt0_B m c t h]; frame_out; rfl

/-- The point's own rows. -/
abbrev own (c : Dev nD) (t : Fin cfg0.N) : FVec Ideal S512x1024 .f32 := iblk m c 0 t

/-- A point's part of the gradient by the gain. -/
def share (c : Dev nD) (t : Fin cfg0.N) (n : Fin 1024) : EReal :=
  ∑ r : Fin 512, pullAt m c t (ix2 r n) * (own m c t (ix2 r n) * rate (fun j => own m c t (ix2 r j)))

/-- After the last point the second result's entries are the sums over all the points' rows. -/
theorem left_gain (c : Dev nD) (i : S8x1024.Idx) :
    (outsAt0 m c t0_7.val t0_7.isLt).2 i = ∑ t : Fin cfg0.N, share m c t (i 1) := by
  rw [Pipeline.eq_sum_fin_of_reset_step_apply_last (fun n h => (outsAt0 m c n h).2) 8 (fun _ => (0 : EReal))
    (fun t j => share m c t (j 1))
    (fun t h j => by
      rw [outsAt0_A m c t h]; frame_out
      rw [eq_ix2 j]
      exact (stored_gain _ _ _ _ _).trans (congrArg (· + _) (stored_zero _)))
    (fun t h j => by
      rw [outsAt0_B m c t h]; frame_out
      rw [eq_ix2 j]
      exact stored_gain _ _ _ _ _)
    (le_of_eq N_0) t0_7 rfl i, zero_add]

/-! ## The results, as functions of the arguments -/

/-- The gradient by the normalized rows. -/
def pull (a : FVec Ideal S4096x1024 .bf16) (b : FVec Ideal S4096x512 .bf16) (d : FVec Ideal S4096x2048 .bf16)
    (f : FVec Ideal S4096x128 .bf16) (w : FVec Ideal S1024x3712 .bf16) : FVec Ideal S4096x1024 .f32 := fun i =>
  joined (fun k => a (ix2 (i 0) k)) (fun k => b (ix2 (i 0) k)) (fun k => d (ix2 (i 0) k)) (fun k => f (ix2 (i 0) k))
    (fun k => w (ix2 (i 1) k))

/-- What comes from above, and the gradient through the normalization. -/
def rows (h x d : FVec Ideal S4096x1024 .f32) (g : FVec Ideal S1x1024 .f32) : FVec Ideal S4096x1024 .f32 := fun i =>
  d (ix2 (i 0) (i 1)) + slope (fun j => x (ix2 (i 0) j)) (fun j => h (ix2 (i 0) j) * g (ix2 0 j)) (i 1)

/-- The gradient by the gain. -/
def gain (h x : FVec Ideal S4096x1024 .f32) : FVec Ideal S8x1024 .f32 := fun i =>
  ∑ r : Fin 4096, h (ix2 r (i 1)) * (x (ix2 r (i 1)) * rate (fun j => x (ix2 r j)))

abbrev target (c : Dev nD) : FVec Ideal S4096x1024 .f32 :=
  pull (m ((c : Thread nD τ).loc main_arg4)) (m ((c : Thread nD τ).loc main_arg5)) (m ((c : Thread nD τ).loc main_arg6))
    (m ((c : Thread nD τ).loc main_arg7)) (m ((c : Thread nD τ).loc main_arg3))

/-- All the rows. -/
abbrev entries (c : Dev nD) : FVec Ideal S4096x1024 .f32 := m ((c : Thread nD τ).loc main_arg0)

abbrev target_rows (c : Dev nD) : FVec Ideal S4096x1024 .f32 :=
  rows (target m c) (m ((c : Thread nD τ).loc main_arg0)) (m ((c : Thread nD τ).loc main_arg1)) (m ((c : Thread nD τ).loc main_arg2))

abbrev target_gain (c : Dev nD) : FVec Ideal S8x1024 .f32 := gain (target m c) (m ((c : Thread nD τ).loc main_arg0))

theorem pull_at (c : Dev nD) (t : Fin cfg0.N) (r : Fin 512) (n : Fin 1024) :
    pullAt m c t (ix2 r n) = target m c (ix2 (place t r) n) := by
  refine (stored_product _ _ _ _ _ r n).trans ?_
  simp only [at_4 m c t, at_5 m c t, at_6 m c t, at_7 m c t, at_3 m c t]
  rfl

theorem share_at (c : Dev nD) (t : Fin cfg0.N) (n : Fin 1024) :
    share m c t n = ∑ r : Fin 512, target m c (ix2 (place t r) n) * (entries m c (ix2 (place t r) n)
      * rate (fun j => entries m c (ix2 (place t r) j))) := by
  unfold share own
  simp only [pull_at m c t, at_0 m c t]

theorem rows_at (c : Dev nD) (t : Fin cfg0.N) (r : Fin 512) (n : Fin 1024) :
    k0_pay3 (F := Ideal) (pullAt m c t) (iblk m c 0 t) (k0_pay6 (F := Ideal) (iblk m c 0 t)) (k0_pay7 (F := Ideal) (iblk m c 0 t))
      (iblk m c 2 t) (iblk m c 1 t) (ix2 r n) = target_rows m c (ix2 (place t r) n) := by
  refine (stored_slope _ _ _ _ r n).trans ?_
  simp only [pull_at m c t, at_0 m c t, at_1 m c t, at_2 m c t]
  rfl

theorem final_rows (c : Dev nD) : (dats m 0 c).arrAt 8 cfg0.N = target_rows m c := by
  refine (dats m 0 c).arrAt_eq_of_covers 8 _ (by decide +kernel) fun t hf y => ?_
  blk_simp
  rw [after0_8, left_slope]
  have e : (win0_8.blk t).view.emb y = ix2 (place t (y 0)) (y 1) := by blk_ext [at8 t, place]
  rw [e]
  exact (congrArg _ (eq_ix2 _)).trans (rows_at m c t (y 0) (y 1))

theorem final_gain (c : Dev nD) : (dats m 0 c).arrAt 9 cfg0.N = target_gain m c := by
  refine (dats m 0 c).arrAt_eq_of_after_last 9 t0_7 (by decide +kernel) _ fun j => ?_
  blk_simp
  rw [after0_9]
  refine (left_gain m c _).trans ((Finset.sum_congr rfl fun t _ => share_at m c t _).trans ?_)
  exact Fin.sum_mul_add_fin cfg0.N 512 (fun l => target m c (ix2 l (j 1)) * (entries m c (ix2 l (j 1))
    * rate (fun k => entries m c (ix2 l k)))) height

end Cert.BackSteps

/-! ## The reference -/

namespace Cert.BackSteps.Reference

open Cert.BackReferenceIdeal Cert.BackReferenceIdeal.Gen Cert.RowRule
open Idealize.ShloMosaic

theorem pull (p : FVec Ideal S4096x1024 .bf16) (q : FVec Ideal S4096x512 .bf16) (u : FVec Ideal S4096x2048 .bf16)
    (v : FVec Ideal S4096x128 .bf16) (w : FVec Ideal S1024x3712 .bf16) :
    (Host.dotGeneral dot_S4096x3712_S1024x3712_S4096x1024_1_1_0_0_n_n none (extf .f32 ((concatenate S4096x3712 1 [⟨S4096x1024, (p : (⟨S4096x1024, .bf16⟩ : BufTy).Contents (Elt Ideal))⟩, ⟨S4096x512, (q : (⟨S4096x512, .bf16⟩ : BufTy).Contents (Elt Ideal))⟩, ⟨S4096x2048, (u : (⟨S4096x2048, .bf16⟩ : BufTy).Contents (Elt Ideal))⟩, ⟨S4096x128, (v : (⟨S4096x128, .bf16⟩ : BufTy).Contents (Elt Ideal))⟩] concatenates_S4096x1024_S4096x512_S4096x2048_S4096x128_S4096x3712_d1 : (⟨S4096x3712, .bf16⟩ : BufTy).Contents (Elt Ideal))) bitsLt_bf16_f32) (extf .f32 w bitsLt_bf16_f32))
      = (BackSteps.pull p q u v w : FVec Ideal S4096x1024 .f32) := by
  refine ext2 fun r n => ?_
  pointwise
  rw [split]
  simp only [BackSteps.pull, joined]
  congr 1

/-- The rows' mean squares (and a small number). -/
abbrev mean (x : FVec Ideal S4096x1024 .f32) : FVec Ideal S4096x1 .f32 :=
  addf (Host.divf (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The derivatives by the rates, from those by the normalized rows. -/
abbrev turned (x p : FVec Ideal S4096x1024 .f32) : FVec Ideal S4096x1024 .f32 :=
  broadcastInDim S4096x1024 ![0] bcast_S4096_S4096x1024_0 (Host.reduceAdd (Host.divf (mulf (shapeCast S4096x1
      (Host.reduceAdd (mulf x p) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (mean x)) (mean x))))
      (broadcastInDim S4096x1 ![] bcast_S_S4096x1 (constant S_ .f32 0x44800000#32))) (constant S_ .f32 0x00000000#32)
    reducesTo_S4096x1_S4096_d1 h_S_)

theorem rows (h x d : FVec Ideal S4096x1024 .f32) (g : FVec Ideal S1x1024 .f32) :
    addf d (addf (addf (mulf (mulf h (broadcastInDim S4096x1024 ![0, 1] bcast_S1x1024_S4096x1024_0_1 g))
        (broadcastInDim S4096x1024 ![0, 1] bcast_S4096x1_S4096x1024_0_1 (Host.rsqrt (mean x))))
        (mulf x (turned x (mulf h (broadcastInDim S4096x1024 ![0, 1] bcast_S1x1024_S4096x1024_0_1 g)))))
        (mulf (turned x (mulf h (broadcastInDim S4096x1024 ![0, 1] bcast_S1x1024_S4096x1024_0_1 g))) x))
      = (BackSteps.rows h x d g : FVec Ideal S4096x1024 .f32) := by
  refine ext2 fun r k => ?_
  pointwise
  rw [Fin.sum_univ_one]
  exact congrArg (d (ix2 r k) + ·) (slope_eq (fun j => x (ix2 r j)) (fun j => h (ix2 r j) * g (ix2 0 j)) k)

theorem gain (h x : FVec Ideal S4096x1024 .f32) :
    broadcastInDim S8x1024 ![0, 1] bcast_S1x1024_S8x1024_0_1 (shapeCast S1x1024 (Host.reduceAdd (mulf (mulf x
        (broadcastInDim S4096x1024 ![0, 1] bcast_S4096x1_S4096x1024_0_1 (Host.rsqrt (mean x)))) h) (constant S_ .f32 0x00000000#32)
        reducesTo_S4096x1024_S1024_d0 h_S_) shapeCasts_S1024_S1x1024)
      = (BackSteps.gain h x : FVec Ideal S8x1024 .f32) := by
  refine ext2 fun r k => ?_
  pointwise
  exact Finset.sum_congr rfl fun j _ => mul_comm _ _

end Cert.BackSteps.Reference
end
-- ==== Proof.PartValue.lean ====
/-
  The backward pass of the out-projection. A point of the grid takes 512 rows: the slope by them through the normalization is
  `slope`, as in the in-projection's (`slope_eq`); the point stores its product with the transposed weight, adds the joined
  branches, transposed, times it to the weight's gradient by three stores of rows (`stores`), and its part to the gain's.
-/
module

public import proofs.«01_k».proof.Proof.Gen.PartIdeal.Value
public import proofs.«01_k».proof.Proof.Gen.PartReferenceIdeal.Run
public import proofs.«01_k».proof.Proof.BackValue
public import Idealize.ShloMosaic.Lib.Pipeline.ReadBack

@[expose] public section

noncomputable section

namespace Cert.PartSteps

open Cert.PartIdeal Cert.PartIdeal.Gen Cert.RowRule
open Cert.BackSteps (slope)
open Idealize.ShloMosaic TcCoe Idealize.SL.Sem
open Pipeline (Dat)

/-! ## What a point stores -/

/-- The three pieces of a row, one after the other. -/
def column (a b : Fin 256 → EReal) (d : Fin 512 → EReal) (n : Fin 1024) : EReal :=
  if ha : n.val < 256 then a ⟨n.val, ha⟩
  else if hb : n.val - 256 < 256 then b ⟨n.val - 256, hb⟩
  else d ⟨n.val - 256 - 256, by have := n.isLt; omega⟩

theorem column_a (a b d) (n : Fin 256) : column a b d ⟨0 + n.val, by omega⟩ = a n := by
  simp [column]

theorem column_b (a b d) (n : Fin 256) : column a b d ⟨256 + n.val, by omega⟩ = b n := by
  simp [column]

theorem column_d (a b d) (n : Fin 512) : column a b d ⟨512 + n.val, by omega⟩ = d n := by
  simp [column, show ¬ 512 + n.val < 256 by omega, show ¬ 512 + n.val - 256 < 256 by omega,
    show 512 + n.val - 256 - 256 = n.val by omega]

/-- The slope by a block's rows. -/
abbrev inner (y h : FVec Ideal S512x1024 .f32) (g : FVec Ideal S1x1024 .f32) (r : Fin 512) : Fin 1024 → EReal :=
  slope (fun j => y (ix2 r j)) (fun j => h (ix2 r j) * g (ix2 0 j))

theorem stored_slope (y h : FVec Ideal S512x1024 .f32) (g : FVec Ideal S1x1024 .f32) (r : Fin 512) (n : Fin 1024) :
    k0_pay10 (F := Ideal) y h g (ix2 r n) = inner y h g r n := by
  pointwise [k0_pay10, k0_pay8, k0_pay7]
  rfl

theorem stored_product (p : FVec Ideal S512x1024 .bf16) (w : FVec Ideal S1024x1024 .bf16) (r : Fin 512) (n : Fin 1024) :
    k0_pay1 (F := Ideal) p w (ix2 r n) = ∑ k : Fin 1024, p (ix2 r k) * w (ix2 n k) := by
  pointwise [k0_pay1]

theorem stored_a (p : FVec Ideal S512x1024 .bf16) (l : FVec Ideal S256x1024 .f32) (a : FVec Ideal S512x256 .bf16)
    (k : Fin 256) (n : Fin 1024) : k0_pay2 (F := Ideal) p l a (ix2 k n) = l (ix2 k n) + ∑ r : Fin 512, a (ix2 r k) * p (ix2 r n) := by
  pointwise [k0_pay2]

theorem stored_d (p : FVec Ideal S512x1024 .bf16) (l : FVec Ideal S512x1024 .f32) (a : FVec Ideal S512x512 .bf16)
    (k : Fin 512) (n : Fin 1024) : k0_pay4 (F := Ideal) p l a (ix2 k n) = l (ix2 k n) + ∑ r : Fin 512, a (ix2 r k) * p (ix2 r n) := by
  pointwise [k0_pay4]

theorem stored_gain (y h : FVec Ideal S512x1024 .f32) (l : FVec Ideal S8x1024 .f32) (p : Fin 8) (n : Fin 1024) :
    k0_pay9 (F := Ideal) y h l (ix2 p n)
      = l (ix2 p n) + ∑ r : Fin 512, h (ix2 r n) * (y (ix2 r n) * rate (fun j => y (ix2 r j))) := by
  pointwise [k0_pay9, k0_pay8, k0_pay7]
  rfl

/-- What a point adds to an entry of the weight's gradient. -/
def added (p : FVec Ideal S512x1024 .bf16) (a b : FVec Ideal S512x256 .bf16) (d : FVec Ideal S512x512 .bf16)
    (i : S1024x1024.Idx) : EReal :=
  ∑ r : Fin 512, column (fun n => a (ix2 r n)) (fun n => b (ix2 r n)) (fun n => d (ix2 r n)) (i 0) * p (ix2 r (i 1))

/-- A store of rows from `o` on, whose entries are what was there and a sum over the point's rows, is a block of that. -/
theorem piece {o w : Nat} (inb : ∀ a, (![o, 0] : Fin 2 → Nat) a + (![w, 1024] : Fin 2 → Nat) a ≤ S1024x1024.size a)
    (u v : Fin 512 → Fin 1024 → EReal) (l : S1024x1024.Idx → EReal) (h : ∀ n : Fin w, o + n.val < 1024)
    (P : (⟨2, ![w, 1024]⟩ : Shape).Idx → EReal) (d : Fin 512 → Fin w → EReal)
    (hP : ∀ k n, P (ix2 k n) = l ((Rect.unit (s := S1024x1024) ![o, 0] ![w, 1024] inb).emb (ix2 k n)) + ∑ r, d r k * v r n)
    (hu : ∀ r n, u r ⟨o + n.val, h n⟩ = d r n) (y : (⟨2, ![w, 1024]⟩ : Shape).Idx) :
    P y = (fun i : S1024x1024.Idx => l i + ∑ r, u r (i 0) * v r (i 1))
      ((Rect.unit (s := S1024x1024) ![o, 0] ![w, 1024] inb).emb y) := by
  have e : ∀ (k : Fin w) (n : Fin 1024), P (ix2 k n) = (fun i : S1024x1024.Idx => l i + ∑ r, u r (i 0) * v r (i 1))
      ((Rect.unit (s := S1024x1024) ![o, 0] ![w, 1024] inb).emb (ix2 k n)) := fun k n => by
    have s : (Rect.unit (s := S1024x1024) ![o, 0] ![w, 1024] inb).emb (ix2 k n) = (ix2 ⟨o + k.val, h k⟩ n : S1024x1024.Idx) := by
      funext a
      refine Fin.ext ((Rect.idx_unit_val _ _ inb _ a).trans ?_)
      fin_cases a
      · rfl
      · exact Nat.zero_add _
    rw [hP, s]
    exact congrArg _ (Finset.sum_congr rfl fun r _ => congrArg (· * _) (hu r k).symm)
  rw [eq_ix2 y]
  exact e (y 0) (y 1)

/-- The three stores of a point add to every entry of what was there. -/
theorem stores (p : FVec Ideal S512x1024 .bf16) (a b : FVec Ideal S512x256 .bf16) (d : FVec Ideal S512x512 .bf16)
    (l : FVec Ideal S1024x1024 .f32) (L : List (View.Piece (Elt Ideal) S1024x1024 .f32)) (i : S1024x1024.Idx) :
    View.canon ([⟨Rect.unit ![512, 0] ![512, 1024] inb_S1024x1024_S512x1024_512_0,
        k0_pay4 (F := Ideal) p (View.ld (Val := Elt Ideal) (S := S1024x1024) (e' := .f32) l (Rect.unit ![512, 0] ![512, 1024] inb_S1024x1024_S512x1024_512_0)) d⟩,
      ⟨Rect.unit ![256, 0] ![256, 1024] inb_S1024x1024_S256x1024_256_0,
        k0_pay3 (F := Ideal) p (View.ld (Val := Elt Ideal) (S := S1024x1024) (e' := .f32) l (Rect.unit ![256, 0] ![256, 1024] inb_S1024x1024_S256x1024_256_0)) b⟩,
      ⟨Rect.unit ![0, 0] ![256, 1024] inb_S1024x1024_S256x1024_0_0,
        k0_pay2 (F := Ideal) p (View.ld (Val := Elt Ideal) (S := S1024x1024) (e' := .f32) l (Rect.unit ![0, 0] ![256, 1024] inb_S1024x1024_S256x1024_0_0)) a⟩] ++ L) i
      = l i + added p a b d i := by
  refine View.canon_append_of_piecesOf (fun i => l i + added p a b d i) L _ ?_ i ?_
  refine ⟨piece _ _ (fun r n => p (ix2 r n)) l _ _ (fun r n => d (ix2 r n)) (stored_d p _ d) fun r n => column_d _ _ _ n,
    piece _ _ (fun r n => p (ix2 r n)) l _ _ (fun r n => b (ix2 r n)) (stored_a p _ b) fun r n => column_b _ _ _ n,
    piece _ _ (fun r n => p (ix2 r n)) l _ _ (fun r n => a (ix2 r n)) (stored_a p _ a) fun r n => column_a _ _ _ n, trivial⟩
  · have k : (i 0).val < 1024 := (i 0).isLt
    have n : (i 1).val < 1024 := (i 1).isLt
    simp only [List.mem_cons, List.not_mem_nil, or_false, exists_eq_or_imp, exists_eq_left, Rect.mem_set_unit,
      Fin.forall_fin_two, Matrix.cons_val_zero, Matrix.cons_val_one]
    omega

/-! ## A point's blocks, and the rows of the whole they are -/

theorem atA : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] := (by decide +kernel : ∀ t : Fin grid0.N, _)

theorem height : 4096 = cfg0.N * 512 := by rw [show cfg0.N = 8 from N_0]

/-- Row `r` of point `t`'s blocks, among the 4096 rows. -/
def place (t : Fin cfg0.N) (r : Fin 512) : Fin 4096 :=
  ⟨t.val * 512 + r.val, by have := t.isLt; have := r.isLt; have := height; have : cfg0.N = 8 := N_0; omega⟩

variable (m : (ℓ : Loc nD τ sig) → Buf (Elt Ideal) ℓ) (ρ : Dev nD → PrngReg)

theorem at_0 (c : Dev nD) (t : Fin cfg0.N) (r : Fin 512) (k : Fin 1024) :
    iblk m c 0 t (ix2 r k) = m ((c : Thread nD τ).loc main_arg0) (ix2 (place t r) k) := by
  blk_ext [iblk, V, (atA t).1, place]

theorem at_1 (c : Dev nD) (t : Fin cfg0.N) (r : Fin 512) (k : Fin 1024) :
    iblk m c 1 t (ix2 r k) = m ((c : Thread nD τ).loc main_arg1) (ix2 (place t r) k) := by
  blk_ext [iblk, V, (atA t).2.1, place]

theorem at_2 (c : Dev nD) (t : Fin cfg0.N) (r : Fin 512) (k : Fin 256) :
    iblk m c 2 t (ix2 r k) = m ((c : Thread nD τ).loc main_arg2) (ix2 (place t r) k) := by
  blk_ext [iblk, V, (atA t).2.2.1, place]

theorem at_3 (c : Dev nD) (t : Fin cfg0.N) (r : Fin 512) (k : Fin 256) :
    iblk m c 3 t (ix2 r k) = m ((c : Thread nD τ).loc main_arg3) (ix2 (place t r) k) := by
  blk_ext [iblk, V, (atA t).2.2.2.1, place]

theorem at_4 (c : Dev nD) (t : Fin cfg0.N) (r : Fin 512) (k : Fin 512) :
    iblk m c 4 t (ix2 r k) = m ((c : Thread nD τ).loc main_arg4) (ix2 (place t r) k) := by
  blk_ext [iblk, V, (atA t).2.2.2.2.1, place]

theorem at_5 (c : Dev nD) (t : Fin cfg0.N) (k n : Fin 1024) :
    iblk m c 5 t (ix2 k n) = m ((c : Thread nD τ).loc main_arg5) (ix2 k n) := by
  blk_ext [iblk, V, (atA t).2.2.2.2.2.1]

theorem at_6 (c : Dev nD) (t : Fin cfg0.N) (k : Fin 1024) :
    iblk m c 6 t (ix2 0 k) = m ((c : Thread nD τ).loc main_arg6) (ix2 0 k) := by
  blk_ext [iblk, V, (atA t).2.2.2.2.2.2.1]

/-! ## What the points leave -/

/-- The slope by the point's rows. -/
abbrev own (c : Dev nD) (t : Fin cfg0.N) : FVec Ideal S512x1024 .bf16 :=
  k0_pay10 (F := Ideal) (iblk m c 1 t) (iblk m c 0 t) (iblk m c 6 t)

/-- A point's part of the gradient by the gain. -/
def share (h y : FVec Ideal S512x1024 .f32) (n : Fin 1024) : EReal :=
  ∑ r : Fin 512, h (ix2 r n) * (y (ix2 r n) * rate (fun j => y (ix2 r j)))

theorem left_product (c : Dev nD) (t : Fin cfg0.N) : (outsAt0 m c t.val t.isLt).1
    = k0_pay1 (F := Ideal) (own m c t) (iblk m c 5 t) := by
  by_cases h : t.val % 8 = 0
  · rw [outsAt0_A m c t h]; frame_out
  · rw [outsAt0_B m c t h]; frame_out

theorem left_weight (c : Dev nD) (i : S1024x1024.Idx) : (outsAt0 m c t0_7.val t0_7.isLt).2.1 i
    = ∑ t : Fin cfg0.N, added (own m c t) (iblk m c 2 t) (iblk m c 3 t) (iblk m c 4 t) i := by
  rw [Pipeline.eq_sum_fin_of_reset_step_apply_last (fun n h => (outsAt0 m c n h).2.1) 8 (fun _ => (0 : EReal))
    (fun t => added (own m c t) (iblk m c 2 t) (iblk m c 3 t) (iblk m c 4 t))
    (fun t h j => by
      rw [outsAt0_A m c t h]; frame_out
      simp (disch := decide) only [↓View.readCov_skip, View.readCov_fill]
      exact (stores _ _ _ _ (k0_pay5 (F := Ideal)) [_] j).trans (congrArg (· + _) (show Ideal.ofBits .f32 0x00000000#32 = 0 from Ideal.ofBits_zero _)))
    (fun t h j => by
      rw [outsAt0_B m c t h]; frame_out
      exact stores _ _ _ _ _ [] j)
    (le_of_eq N_0) t0_7 rfl i, zero_add]

theorem left_gain (c : Dev nD) (i : S8x1024.Idx) :
    (outsAt0 m c t0_7.val t0_7.isLt).2.2 i = ∑ t : Fin cfg0.N, share (iblk m c 0 t) (iblk m c 1 t) (i 1) := by
  rw [Pipeline.eq_sum_fin_of_reset_step_apply_last (fun n h => (outsAt0 m c n h).2.2) 8 (fun _ => (0 : EReal))
    (fun t j => share (iblk m c 0 t) (iblk m c 1 t) (j 1))
    (fun t h j => by
      rw [outsAt0_A m c t h]; frame_out
      rw [eq_ix2 j]
      exact (stored_gain _ _ _ _ _).trans (congrArg (· + _) (show Ideal.ofBits .f32 0x00000000#32 = 0 from Ideal.ofBits_zero _)))
    (fun t h j => by
      rw [outsAt0_B m c t h]; frame_out
      rw [eq_ix2 j]
      exact stored_gain _ _ _ _ _)
    (le_of_eq N_0) t0_7 rfl i, zero_add]

/-! ## The results, as functions of the arguments -/

/-- The slope by the rows before the normalization. -/
def rows (h y : FVec Ideal S4096x1024 .f32) (g : FVec Ideal S1x1024 .f32) : FVec Ideal S4096x1024 .f32 := fun i =>
  slope (fun j => y (ix2 (i 0) j)) (fun j => h (ix2 (i 0) j) * g (ix2 0 j)) (i 1)

/-- Its product with the transposed weight. -/
def product (p : FVec Ideal S4096x1024 .f32) (w : FVec Ideal S1024x1024 .bf16) : FVec Ideal S4096x1024 .f32 := fun i =>
  ∑ k : Fin 1024, p (ix2 (i 0) k) * w (ix2 (i 1) k)

/-- The joined branches, transposed, times it. -/
def weight (p : FVec Ideal S4096x1024 .f32) (a b : FVec Ideal S4096x256 .bf16) (d : FVec Ideal S4096x512 .bf16) :
    FVec Ideal S1024x1024 .f32 := fun i =>
  ∑ r : Fin 4096, column (fun n => a (ix2 r n)) (fun n => b (ix2 r n)) (fun n => d (ix2 r n)) (i 0) * p (ix2 r (i 1))

/-- The slope by the normalized rows, and the rows. -/
abbrev above (c : Dev nD) : FVec Ideal S4096x1024 .f32 := m ((c : Thread nD τ).loc main_arg0)

abbrev entries (c : Dev nD) : FVec Ideal S4096x1024 .f32 := m ((c : Thread nD τ).loc main_arg1)

abbrev target (c : Dev nD) : FVec Ideal S4096x1024 .f32 :=
  rows (m ((c : Thread nD τ).loc main_arg0)) (m ((c : Thread nD τ).loc main_arg1)) (m ((c : Thread nD τ).loc main_arg6))

abbrev target_product (c : Dev nD) : FVec Ideal S4096x1024 .f32 := product (target m c) (m ((c : Thread nD τ).loc main_arg5))

abbrev target_weight (c : Dev nD) : FVec Ideal S1024x1024 .f32 :=
  weight (target m c) (m ((c : Thread nD τ).loc main_arg2)) (m ((c : Thread nD τ).loc main_arg3)) (m ((c : Thread nD τ).loc main_arg4))

abbrev target_gain (c : Dev nD) : FVec Ideal S8x1024 .f32 :=
  BackSteps.gain (m ((c : Thread nD τ).loc main_arg0)) (m ((c : Thread nD τ).loc main_arg1))

theorem own_at (c : Dev nD) (t : Fin cfg0.N) (r : Fin 512) (n : Fin 1024) : own m c t (ix2 r n) = target m c (ix2 (place t r) n) := by
  refine (stored_slope _ _ _ r n).trans ?_
  unfold inner
  simp only [at_0 m c t, at_1 m c t, at_6 m c t]
  rfl

theorem product_at (c : Dev nD) (t : Fin cfg0.N) (r : Fin 512) (n : Fin 1024) :
    k0_pay1 (F := Ideal) (own m c t) (iblk m c 5 t) (ix2 r n) = target_product m c (ix2 (place t r) n) := by
  refine (stored_product _ _ r n).trans ?_
  simp only [own_at m c t, at_5 m c t]
  rfl

theorem final_product (c : Dev nD) : (dats m 0 c).arrAt 7 cfg0.N = target_product m c := by
  refine (dats m 0 c).arrAt_eq_of_covers 7 _ (by decide +kernel) fun t hf y => ?_
  blk_simp
  rw [after0_7, left_product]
  have e : (win0_7.blk t).view.emb y = ix2 (place t (y 0)) (y 1) := by blk_ext [(atA t).2.2.2.2.2.2.2, place]
  rw [e]
  exact (congrArg _ (eq_ix2 _)).trans (product_at m c t (y 0) (y 1))

theorem added_at (c : Dev nD) (t : Fin cfg0.N) (k n : Fin 1024) :
    added (own m c t) (iblk m c 2 t) (iblk m c 3 t) (iblk m c 4 t) (ix2 k n)
      = ∑ r : Fin 512, column (fun n => m ((c : Thread nD τ).loc main_arg2) (ix2 (place t r) n))
        (fun n => m ((c : Thread nD τ).loc main_arg3) (ix2 (place t r) n))
        (fun n => m ((c : Thread nD τ).loc main_arg4) (ix2 (place t r) n)) k * target m c (ix2 (place t r) n) := by
  refine Finset.sum_congr rfl fun r _ => ?_
  rw [← own_at m c t r n]
  simp only [← at_2 m c t, ← at_3 m c t, ← at_4 m c t]
  rfl

theorem final_weight (c : Dev nD) : (dats m 0 c).arrAt 8 cfg0.N = target_weight m c := by
  refine (dats m 0 c).arrAt_eq_of_after_last 8 t0_7 (by decide +kernel) _ fun j => ?_
  blk_simp
  rw [after0_8]
  refine (left_weight m c _).trans ((Finset.sum_congr rfl fun t _ => added_at m c t (j 0) (j 1)).trans ?_)
  exact Fin.sum_mul_add_fin cfg0.N 512 (fun l => column (fun n => m ((c : Thread nD τ).loc main_arg2) (ix2 l n))
    (fun n => m ((c : Thread nD τ).loc main_arg3) (ix2 l n)) (fun n => m ((c : Thread nD τ).loc main_arg4) (ix2 l n)) (j 0)
    * target m c (ix2 l (j 1))) height

theorem share_at (c : Dev nD) (t : Fin cfg0.N) (n : Fin 1024) : share (iblk m c 0 t) (iblk m c 1 t) n
    = ∑ r : Fin 512, above m c (ix2 (place t r) n) * (entries m c (ix2 (place t r) n)
      * rate (fun j => entries m c (ix2 (place t r) j))) := by
  unfold share
  simp only [at_0 m c t, at_1 m c t]

theorem final_gain (c : Dev nD) : (dats m 0 c).arrAt 9 cfg0.N = target_gain m c := by
  refine (dats m 0 c).arrAt_eq_of_after_last 9 t0_7 (by decide +kernel) _ fun j => ?_
  blk_simp
  rw [after0_9]
  refine (left_gain m c _).trans ((Finset.sum_congr rfl fun t _ => share_at m c t _).trans ?_)
  exact Fin.sum_mul_add_fin cfg0.N 512 (fun l => above m c (ix2 l (j 1)) * (entries m c (ix2 l (j 1))
    * rate (fun k => entries m c (ix2 l k)))) height

end Cert.PartSteps

/-! ## The reference -/

namespace Cert.PartSteps.Reference

open Cert.PartReferenceIdeal Cert.PartReferenceIdeal.Gen Cert.RowRule
open Idealize.ShloMosaic
open Cert.BackSteps.Reference (mean turned)

theorem rows (h x : FVec Ideal S4096x1024 .f32) (g : FVec Ideal S1x1024 .f32) :
    addf (addf (mulf (mulf h (broadcastInDim S4096x1024 ![0, 1] bcast_S1x1024_S4096x1024_0_1 g))
        (broadcastInDim S4096x1024 ![0, 1] bcast_S4096x1_S4096x1024_0_1 (Host.rsqrt (mean x))))
        (mulf x (turned x (mulf h (broadcastInDim S4096x1024 ![0, 1] bcast_S1x1024_S4096x1024_0_1 g)))))
        (mulf (turned x (mulf h (broadcastInDim S4096x1024 ![0, 1] bcast_S1x1024_S4096x1024_0_1 g))) x)
      = (PartSteps.rows h x g : FVec Ideal S4096x1024 .f32) := by
  refine ext2 fun r k => ?_
  pointwise
  rw [Fin.sum_univ_one]
  exact BackSteps.slope_eq (fun j => x (ix2 r j)) (fun j => h (ix2 r j) * g (ix2 0 j)) k

theorem product (p : FVec Ideal S4096x1024 .f32) (w : FVec Ideal S1024x1024 .bf16) :
    Host.dotGeneral (F := Ideal) (φ₁ := .f32) (so := S4096x1024) dot_S4096x1024_S1024x1024_S4096x1024_1_1_0_0_n_n none p
      (extf .f32 w bitsLt_bf16_f32) = (PartSteps.product p w : FVec Ideal S4096x1024 .f32) := by
  refine ext2 fun r n => ?_
  pointwise
  rfl

theorem weight (p : FVec Ideal S4096x1024 .f32) (a b : FVec Ideal S4096x256 .bf16) (d : FVec Ideal S4096x512 .bf16) :
    (transpose S1024x1024 [1, 0] (Host.dotGeneral dot_S4096x1024_S4096x1024_S1024x1024_0_0_1_1_n_n none p
      (extf .f32 ((concatenate S4096x1024 1 [⟨S4096x256, (a : (⟨S4096x256, .bf16⟩ : BufTy).Contents (Elt Ideal))⟩, ⟨S4096x256, (b : (⟨S4096x256, .bf16⟩ : BufTy).Contents (Elt Ideal))⟩, ⟨S4096x512, (d : (⟨S4096x512, .bf16⟩ : BufTy).Contents (Elt Ideal))⟩]
        concatenates_S4096x256_S4096x256_S4096x512_S4096x1024_d1 : (⟨S4096x1024, .bf16⟩ : BufTy).Contents (Elt Ideal))) bitsLt_bf16_f32)) transposes_S1024x1024_S1024x1024_1_0)
      = (PartSteps.weight p a b d : FVec Ideal S1024x1024 .f32) := by
  refine ext2 fun k n => ?_
  pointwise
  exact Finset.sum_congr rfl fun r _ => mul_comm _ _

end Cert.PartSteps.Reference
end
-- ==== Proof.lean ====
/-
  The certificate. For the exchange, the gather, the swap and the first layer's gather alike: both programs' frames are one
  run, read at the bits and at the reals; the reference's is its straight-line run; the values meet in `gathered_pick`, in
  `gathered_whole`, which serves both gathers, and in `turned_block`. For the two weights' updates the run is the pipeline's
  own, and the values meet at one step of AdamW at each element (UpdateRule). The two sums are one expression in both
  programs. The small weights' update meets its reference in the gradient of the bounds (SmallValue). The
  bounds, the projections of the forward pass, the loss and the three backward calls of the projections meet theirs element by
  element (LbsValue, ProjectValue, MixValue, ScoreValue, SlopeValue, BackValue, PartValue).
-/
module

public import proofs.«01_k».proof.Defs
public import proofs.«01_k».proof.Proof.Main
public import proofs.«01_k».proof.Proof.Rows
public import proofs.«01_k».proof.Proof.GatherMain
public import proofs.«01_k».proof.Proof.GatherRows
public import proofs.«01_k».proof.Proof.SwapLaunch
public import proofs.«01_k».proof.Proof.SwapRows
public import proofs.«01_k».proof.Proof.FirstLaunch
public import proofs.«01_k».proof.Proof.FirstRows
public import proofs.«01_k».proof.Proof.UpdateInValue
public import proofs.«01_k».proof.Proof.UpdateOutValue
public import proofs.«01_k».proof.Proof.SmallValue
public import proofs.«01_k».proof.Proof.LbsValue
public import proofs.«01_k».proof.Proof.ProjectValue
public import proofs.«01_k».proof.Proof.MixValue
public import proofs.«01_k».proof.Proof.ScoreValue
public import proofs.«01_k».proof.Proof.SlopeValue
public import proofs.«01_k».proof.Proof.BackValue
public import proofs.«01_k».proof.Proof.PartValue
public import proofs.«01_k».proof.Proof.Gen.Kernel
public import proofs.«01_k».proof.Proof.Gen.KernelIdeal
public import proofs.«01_k».proof.Proof.Gen.Reference
public import proofs.«01_k».proof.Proof.Gen.ReferenceIdeal.Run
public import proofs.«01_k».proof.Proof.Gen.Gather
public import proofs.«01_k».proof.Proof.Gen.GatherIdeal
public import proofs.«01_k».proof.Proof.Gen.GatherReference
public import proofs.«01_k».proof.Proof.Gen.GatherReferenceIdeal.Run
public import proofs.«01_k».proof.Proof.Gen.Swap
public import proofs.«01_k».proof.Proof.Gen.SwapIdeal
public import proofs.«01_k».proof.Proof.Gen.SwapReference
public import proofs.«01_k».proof.Proof.Gen.SwapReferenceIdeal.Run
public import proofs.«01_k».proof.Proof.Gen.First
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstReference
public import proofs.«01_k».proof.Proof.Gen.FirstReferenceIdeal.Run
public import proofs.«01_k».proof.Proof.Gen.UpdateIn.Frame
public import proofs.«01_k».proof.Proof.Gen.UpdateInIdeal
public import proofs.«01_k».proof.Proof.Gen.UpdateInReference
public import proofs.«01_k».proof.Proof.Gen.UpdateInReferenceIdeal.Run
public import proofs.«01_k».proof.Proof.Gen.UpdateOut.Frame
public import proofs.«01_k».proof.Proof.Gen.UpdateOutIdeal
public import proofs.«01_k».proof.Proof.Gen.UpdateOutReference
public import proofs.«01_k».proof.Proof.Gen.UpdateOutReferenceIdeal.Run
public import proofs.«01_k».proof.Proof.Gen.SumIn.Frame
public import proofs.«01_k».proof.Proof.Gen.SumIn.Value
public import proofs.«01_k».proof.Proof.Gen.SumInIdeal.Frame
public import proofs.«01_k».proof.Proof.Gen.SumInIdeal.Value
public import proofs.«01_k».proof.Proof.Gen.SumInReference.Run
public import proofs.«01_k».proof.Proof.Gen.SumInReferenceIdeal.Run
public import proofs.«01_k».proof.Proof.Gen.SumOut.Frame
public import proofs.«01_k».proof.Proof.Gen.SumOut.Value
public import proofs.«01_k».proof.Proof.Gen.SumOutIdeal.Frame
public import proofs.«01_k».proof.Proof.Gen.SumOutIdeal.Value
public import proofs.«01_k».proof.Proof.Gen.SumOutReference.Run
public import proofs.«01_k».proof.Proof.Gen.SumOutReferenceIdeal.Run
public import proofs.«01_k».proof.Proof.Gen.Small.Frame
public import proofs.«01_k».proof.Proof.Gen.SmallReference.Run
public import proofs.«01_k».proof.Proof.Gen.Lbs.Frame
public import proofs.«01_k».proof.Proof.Gen.LbsReference.Run
public import proofs.«01_k».proof.Proof.Gen.Project.Frame
public import proofs.«01_k».proof.Proof.Gen.ProjectReference.Run
public import proofs.«01_k».proof.Proof.Gen.Mix.Frame
public import proofs.«01_k».proof.Proof.Gen.MixReference.Run
public import proofs.«01_k».proof.Proof.Gen.Score.Frame
public import proofs.«01_k».proof.Proof.Gen.ScoreReference.Run
public import proofs.«01_k».proof.Proof.Gen.Slope.Frame
public import proofs.«01_k».proof.Proof.Gen.SlopeReference.Run
public import proofs.«01_k».proof.Proof.Gen.Back.Frame
public import proofs.«01_k».proof.Proof.Gen.BackReference.Run
public import proofs.«01_k».proof.Proof.Gen.Part.Frame
public import proofs.«01_k».proof.Proof.Gen.PartReference.Run
public import Idealize.ShloMosaic.Lib.Quiescent

@[expose] public section

noncomputable section

namespace Cert

open Idealize.ShloMosaic Idealize.SL.Sem

/-- Where no semaphore is declared, a run's end has every counter at zero. -/
theorem still {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {P Q : PUnit × MemSt nD τ sig Val → Dev nD → Prop} (run : θ_run defs p s fun r => ∀ c, P r c) (h : ∀ r c, P r c → Q r c)
    (none : sig.nSem + sig.nDmaSem = 0 := by decide) :
    θ_run defs p s fun r => (∀ c, Q r c) ∧ r.2.sem = fun _ => 0 :=
  (θ_run defs p s).mono (fun r k => ⟨fun c => h r c (k c), sem_eq_zero_of_no_sems none r.2⟩) run

end Cert

namespace Cert.Exchange

open Idealize.ShloMosaic ValueIdx Idealize.SL.Sem

theorem frame_kernel : Cert.quiescent_Kernel := fun m ρ _ =>
  (θ_run KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run KernelIdeal.defs _ _).mono (fun _ h => ⟨fun c => ⟨(h.1 c).1, (h.1 c).2.1⟩, h.2⟩) (run_main (F := Ideal) m ρ)

/-- The reference's row numbers, as its operations compute them from its table. -/
abbrev column (lit : Fin 56 → BitVec 32) : IVec ReferenceIdeal.S56x1 32 :=
  broadcastInDim ReferenceIdeal.S56x1 ![0] ReferenceIdeal.Facts₀.bcast_S56_S56x1_0
    (select (constantI ReferenceIdeal.S56 1 0#1)
      (addi (fun i => lit (ReferenceIdeal.S56.rowMajor i)) (broadcastInDim ReferenceIdeal.S56 ![] ReferenceIdeal.Facts₀.bcast_S_S56 (constantI ReferenceIdeal.S_ 32 64#32)))
      (fun i => lit (ReferenceIdeal.S56.rowMajor i)))

theorem column_apply (lit : Fin 56 → BitVec 32) (r : Fin 56) : column lit (ValueIdx.ix2 r (0 : Fin 1)) = lit r := by
  show lit (ReferenceIdeal.S56.rowMajor _) = lit r
  refine congrArg lit (Fin.ext ?_)
  rw [Shape.rowMajor_val_one]
  rfl

theorem exchange0 : IsExchange (column ReferenceIdeal.lit0) := by
  intro p s
  rw [column_apply]
  revert p s; decide
theorem exchange1 : IsExchange (column ReferenceIdeal.lit1) := by
  intro p s
  rw [column_apply]
  revert p s; decide

/-- What the exchange leaves device `c` in its landing array 0, its argument being block `c` of `W`, is block `c` of the
    reference's result. -/
theorem landed0 {F : FTy → Type} [FloatOps F] (m : (ℓ : Loc KernelIdeal.nD KernelIdeal.τ KernelIdeal.sig) → Buf (Elt F) ℓ)
    (W : FVec F ⟨5, ![8, 4, 2, 512, 898]⟩ .f32)
    (h : ∀ d : Dev KernelIdeal.nD, m ((d.tc : Thread KernelIdeal.nD KernelIdeal.τ).loc KernelIdeal.main_arg0)
      = Layout.block ⟨5, ![1, 4, 2, 512, 898]⟩ ⟨5, ![8, 4, 2, 512, 898]⟩ 0 8 d W) (c : Dev KernelIdeal.nD) :
    gathered 512 898 (srcs m).1 c = Layout.block ⟨3, ![7, 512, 898]⟩ ⟨3, ![56, 512, 898]⟩ 0 8 c
      (Host.gather ReferenceIdeal.gather_S64x512x898_S56x1_S56x512x898_12_0_n_n_0_1_1512898 (shapeCast ⟨3, ![64, 512, 898]⟩
        (truncf .bf16 W ReferenceIdeal.Gen.bitsLt_bf16_f32) ReferenceIdeal.Gen.shapeCasts_S8x4x2x512x898_S64x512x898)
        (column ReferenceIdeal.lit0)) := by
  have e : (srcs m).1 = fun d => shapeCast (SrcS 512 898) (Layout.block ⟨5, ![1, 4, 2, 512, 898]⟩ ⟨5, ![8, 4, 2, 512, 898]⟩ 0 8 d
      (truncf .bf16 W ReferenceIdeal.Gen.bitsLt_bf16_f32)) KernelIdeal.Gen.shapeCasts_S1x4x2x512x898_S4x2x512x898 := by
    funext d
    exact congrArg (fun x : FVec F ⟨5, ![1, 4, 2, 512, 898]⟩ .f32 => truncf .bf16 (shapeCast (SrcS 512 898) x KernelIdeal.Gen.shapeCasts_S1x4x2x512x898_S4x2x512x898) KernelIdeal.Gen.bitsLt_bf16_f32) (h d)
  rw [e]
  exact gathered_pick 512 898 _ (truncf .bf16 W ReferenceIdeal.Gen.bitsLt_bf16_f32) _ exchange0 _ _ _ _ c

/-- What the exchange leaves device `c` in its landing array 1, its argument being block `c` of `W`, is block `c` of the
    reference's result. -/
theorem landed1 {F : FTy → Type} [FloatOps F] (m : (ℓ : Loc KernelIdeal.nD KernelIdeal.τ KernelIdeal.sig) → Buf (Elt F) ℓ)
    (W : FVec F ⟨5, ![8, 4, 2, 128, 1024]⟩ .f32)
    (h : ∀ d : Dev KernelIdeal.nD, m ((d.tc : Thread KernelIdeal.nD KernelIdeal.τ).loc KernelIdeal.main_arg1)
      = Layout.block ⟨5, ![1, 4, 2, 128, 1024]⟩ ⟨5, ![8, 4, 2, 128, 1024]⟩ 0 8 d W) (c : Dev KernelIdeal.nD) :
    gathered 128 1024 (srcs m).2 c = Layout.block ⟨3, ![7, 128, 1024]⟩ ⟨3, ![56, 128, 1024]⟩ 0 8 c
      (Host.gather ReferenceIdeal.gather_S64x128x1024_S56x1_S56x128x1024_12_0_n_n_0_1_11281024 (shapeCast ⟨3, ![64, 128, 1024]⟩
        (truncf .bf16 W ReferenceIdeal.Gen.bitsLt_bf16_f32) ReferenceIdeal.Gen.shapeCasts_S8x4x2x128x1024_S64x128x1024)
        (column ReferenceIdeal.lit1)) := by
  have e : (srcs m).2 = fun d => shapeCast (SrcS 128 1024) (Layout.block ⟨5, ![1, 4, 2, 128, 1024]⟩ ⟨5, ![8, 4, 2, 128, 1024]⟩ 0 8 d
      (truncf .bf16 W ReferenceIdeal.Gen.bitsLt_bf16_f32)) KernelIdeal.Gen.shapeCasts_S1x4x2x128x1024_S4x2x128x1024 := by
    funext d
    exact congrArg (fun x : FVec F ⟨5, ![1, 4, 2, 128, 1024]⟩ .f32 => truncf .bf16 (shapeCast (SrcS 128 1024) x KernelIdeal.Gen.shapeCasts_S1x4x2x128x1024_S4x2x128x1024) KernelIdeal.Gen.bitsLt_bf16_f32) (h d)
  rw [e]
  exact gathered_pick 128 1024 _ (truncf .bf16 W ReferenceIdeal.Gen.bitsLt_bf16_f32) _ exchange1 _ _ _ _ c

theorem values : Cert.algebraic_KernelIdeal_ReferenceIdeal := by
  intro m ρ m' ρ' _ hagree
  exact ⟨_, _, (θ_run KernelIdeal.defs _ _).mono (fun _ h c =>
      ⟨(h.1 c).2.2.1.trans (landed0 m _ (fun d => (hagree d).1) c), (h.1 c).2.2.2.trans (landed1 m _ (fun d => (hagree d).2) c), (h.1 c).1, (h.1 c).2.1⟩)
    (run_main (F := Ideal) m ρ),
    (θ_run ReferenceIdeal.defs _ _).mono (fun r h => h 0) (ReferenceIdeal.Value.run (F := Ideal) m' ρ')⟩

theorem words : Cert.bitexact_Kernel_Reference := by
  intro m ρ m' ρ' _ hagree
  exact ⟨_, _, (θ_run KernelIdeal.defs _ _).mono (fun _ h c =>
      ⟨(h.1 c).2.2.1.trans (landed0 m _ (fun d => (hagree d).1) c), (h.1 c).2.2.2.trans (landed1 m _ (fun d => (hagree d).2) c), (h.1 c).1, (h.1 c).2.1⟩)
    (run_main (F := Bits) m ρ),
    (θ_run ReferenceIdeal.defs _ _).mono (fun r h => h 0) (ReferenceIdeal.Value.run (F := Bits) m' ρ')⟩

end Cert.Exchange

namespace Cert.Gathering

open Idealize.ShloMosaic ValueIdx Idealize.SL.Sem

theorem frame_kernel : Cert.quiescent_Gather := fun m ρ _ =>
  (θ_run GatherIdeal.defs _ _).mono (fun _ h => ⟨fun c => ⟨(h.1 c).1, (h.1 c).2.1⟩, h.2⟩) (run_main (F := Bits) m ρ)

theorem frame_ideal : Cert.quiescent_GatherIdeal := fun m ρ _ =>
  (θ_run GatherIdeal.defs _ _).mono (fun _ h => ⟨fun c => ⟨(h.1 c).1, (h.1 c).2.1⟩, h.2⟩) (run_main (F := Ideal) m ρ)

section Values
variable {F : FTy → Type} [FloatOps F]

/-- Layer `l`'s out-projection gathered, each device's argument being its block of `W`, is the reference's. -/
theorem gathered_out (l : Fin 2) (W : FVec F ⟨3, ![2, 1024, 1024]⟩ .f32) (x : Dev GatherIdeal.nD → FVec F ⟨3, ![2, 256, 1024]⟩ .f32)
    (hx : ∀ q, x q = Layout.blockN ⟨3, ![2, 256, 1024]⟩ ⟨3, ![2, 1024, 1024]⟩ (Layout.meshBlock [2, 2, 2] ![[], [0, 1], []] q) W)
    (s1 : (⟨3, ![2, 256, 1024]⟩ : Shape).Slices ![l.val, 0, 0] ⟨3, ![1, 256, 1024]⟩)
    (s2 : (⟨3, ![2, 1024, 1024]⟩ : Shape).Slices ![l.val, 0, 0] ⟨3, ![1, 1024, 1024]⟩) (p : Dev GatherIdeal.nD) :
    gathered 128 1024 (fun q => outHalves (extractStridedSlice ⟨3, ![1, 256, 1024]⟩ ![l.val, 0, 0] (x q) s1)) p
      = shapeCast ⟨4, ![4, 2, 128, 1024]⟩ (truncf .bf16 (shapeCast ⟨2, ![1024, 1024]⟩ (extractStridedSlice ⟨3, ![1, 1024, 1024]⟩ ![l.val, 0, 0] W s2)
          GatherReferenceIdeal.Gen.shapeCasts_S1x1024x1024_S1024x1024) GatherReferenceIdeal.Gen.bitsLt_bf16_f32)
          GatherReferenceIdeal.Gen.shapeCasts_S1024x1024_S4x2x128x1024 :=
  gathered_whole 128 1024 _ _ (fun q r i k => by
    rw [hx q]
    exact congrArg (fun v : F .f32 => (FloatOps.truncf FTy.bf16 GatherIdeal.Gen.bitsLt_bf16_f32 v : F .bf16)) (out_at l W q _ _ s1 _ _ s2 _ _ r i k)) p

/-- Layer `l`'s in-projection gathered so. -/
theorem gathered_in (l : Fin 2) (W : FVec F ⟨3, ![2, 1024, 3592]⟩ .f32) (x : Dev GatherIdeal.nD → FVec F ⟨3, ![2, 1024, 898]⟩ .f32)
    (hx : ∀ q, x q = Layout.blockN ⟨3, ![2, 1024, 898]⟩ ⟨3, ![2, 1024, 3592]⟩ (Layout.meshBlock [2, 2, 2] ![[], [], [0, 1]] q) W)
    (s1 : (⟨3, ![2, 1024, 898]⟩ : Shape).Slices ![l.val, 0, 0] ⟨3, ![1, 1024, 898]⟩)
    (s2 : (⟨3, ![2, 1024, 3592]⟩ : Shape).Slices ![l.val, 0, 0] ⟨3, ![1, 1024, 3592]⟩) (p : Dev GatherIdeal.nD) :
    gathered 512 898 (fun q => inHalves (extractStridedSlice ⟨3, ![1, 1024, 898]⟩ ![l.val, 0, 0] (x q) s1)) p
      = shapeCast ⟨4, ![4, 2, 512, 898]⟩ (transpose ⟨3, ![4, 1024, 898]⟩ [1, 0, 2] (shapeCast ⟨3, ![1024, 4, 898]⟩ (truncf .bf16 (shapeCast ⟨2, ![1024, 3592]⟩
          (extractStridedSlice ⟨3, ![1, 1024, 3592]⟩ ![l.val, 0, 0] W s2) GatherReferenceIdeal.Gen.shapeCasts_S1x1024x3592_S1024x3592)
          GatherReferenceIdeal.Gen.bitsLt_bf16_f32) GatherReferenceIdeal.Gen.shapeCasts_S1024x3592_S1024x4x898)
          GatherReferenceIdeal.Gen.transposes_S1024x4x898_S4x1024x898_1_0_2) GatherReferenceIdeal.Gen.shapeCasts_S4x1024x898_S4x2x512x898 :=
  gathered_whole 512 898 _ _ (fun q r i k => by
    rw [hx q]
    exact congrArg (fun v : F .f32 => (FloatOps.truncf FTy.bf16 GatherIdeal.Gen.bitsLt_bf16_f32 v : F .bf16)) (in_at l W q _ _ s1 _ _ s2 _ _ _ _ r i k)) p

end Values

theorem values : Cert.algebraic_GatherIdeal_GatherReferenceIdeal := by
  intro m ρ m' ρ' _ hagree
  exact ⟨_, _, _, (θ_run GatherIdeal.defs _ _).mono (fun _ h c =>
      ⟨(h.1 c).2.2.1.trans (gathered_out 0 _ _ (fun d => (hagree d).2) _ _ c),
        (h.1 c).2.2.2.1.trans (gathered_in 1 _ _ (fun d => (hagree d).1) _ _ c),
        (h.1 c).2.2.2.2.trans (gathered_out 1 _ _ (fun d => (hagree d).2) _ _ c), (h.1 c).1, (h.1 c).2.1⟩)
    (run_main (F := Ideal) m ρ),
    (θ_run GatherReferenceIdeal.defs _ _).mono (fun r h => h 0) (GatherReferenceIdeal.Value.run (F := Ideal) m' ρ')⟩

theorem words : Cert.bitexact_Gather_GatherReference := by
  intro m ρ m' ρ' _ hagree
  exact ⟨_, _, _, (θ_run GatherIdeal.defs _ _).mono (fun _ h c =>
      ⟨(h.1 c).2.2.1.trans (gathered_out 0 _ _ (fun d => (hagree d).2) _ _ c),
        (h.1 c).2.2.2.1.trans (gathered_in 1 _ _ (fun d => (hagree d).1) _ _ c),
        (h.1 c).2.2.2.2.trans (gathered_out 1 _ _ (fun d => (hagree d).2) _ _ c), (h.1 c).1, (h.1 c).2.1⟩)
    (run_main (F := Bits) m ρ),
    (θ_run GatherReferenceIdeal.defs _ _).mono (fun r h => h 0) (GatherReferenceIdeal.Value.run (F := Bits) m' ρ')⟩

end Cert.Gathering

namespace Cert.Swapping

open Idealize.ShloMosaic Idealize.SL.Sem

theorem frame_kernel : Cert.quiescent_Swap := fun m ρ _ =>
  (θ_run SwapIdeal.defs _ _).mono (fun _ h => ⟨fun c => ⟨(h.1 c).1, (h.1 c).2.1⟩, h.2⟩) (run_main (F := Bits) m ρ)

theorem frame_ideal : Cert.quiescent_SwapIdeal := fun m ρ _ =>
  (θ_run SwapIdeal.defs _ _).mono (fun _ h => ⟨fun c => ⟨(h.1 c).1, (h.1 c).2.1⟩, h.2⟩) (run_main (F := Ideal) m ρ)

theorem values : Cert.algebraic_SwapIdeal_SwapReferenceIdeal := by
  intro m ρ m' ρ' _ hagree
  exact ⟨_, _, (θ_run SwapIdeal.defs _ _).mono (fun _ h c =>
      ⟨(h.1 c).2.2.1.trans ((hagree (sib c)).1.trans (turned_block 512 898 4096 _ c _ _ _)),
        (h.1 c).2.2.2.trans ((hagree (sib c)).2.trans (turned_block 128 1024 1024 _ c _ _ _)), (h.1 c).1, (h.1 c).2.1⟩)
    (run_main (F := Ideal) m ρ),
    (θ_run SwapReferenceIdeal.defs _ _).mono (fun r h => h 0) (SwapReferenceIdeal.Value.run (F := Ideal) m' ρ')⟩

theorem words : Cert.bitexact_Swap_SwapReference := by
  intro m ρ m' ρ' _ hagree
  exact ⟨_, _, (θ_run SwapIdeal.defs _ _).mono (fun _ h c =>
      ⟨(h.1 c).2.2.1.trans ((hagree (sib c)).1.trans (turned_block 512 898 4096 _ c _ _ _)),
        (h.1 c).2.2.2.trans ((hagree (sib c)).2.trans (turned_block 128 1024 1024 _ c _ _ _)), (h.1 c).1, (h.1 c).2.1⟩)
    (run_main (F := Bits) m ρ),
    (θ_run SwapReferenceIdeal.defs _ _).mono (fun r h => h 0) (SwapReferenceIdeal.Value.run (F := Bits) m' ρ')⟩

end Cert.Swapping

namespace Cert.Opening

open Idealize.ShloMosaic ValueIdx Idealize.SL.Sem
open Cert.Gathering (gathered_whole)

theorem frame_kernel : Cert.quiescent_First := fun m ρ _ =>
  (θ_run FirstIdeal.defs _ _).mono (fun _ h => ⟨fun c => (h.1 c).1, h.2⟩) (run_main (F := Bits) m ρ)

theorem frame_ideal : Cert.quiescent_FirstIdeal := fun m ρ _ =>
  (θ_run FirstIdeal.defs _ _).mono (fun _ h => ⟨fun c => (h.1 c).1, h.2⟩) (run_main (F := Ideal) m ρ)

section Values
variable {F : FTy → Type}

/-- Devices that start with their blocks of an array end with the array. -/
theorem landed_blocks (m : (ℓ : Loc FirstIdeal.nD FirstIdeal.τ FirstIdeal.sig) → Buf (Elt F) ℓ) (W : FVec F ⟨3, ![8, 512, 898]⟩ .bf16)
    (hx : ∀ q, m (loc_src q) = Layout.blockN ⟨3, ![2, 512, 898]⟩ ⟨3, ![8, 512, 898]⟩ (Layout.meshBlock [2, 2, 2] ![[0, 1], [], []] q) W)
    (c : (⟨3, ![8, 512, 898]⟩ : Shape).ShapeCasts ⟨4, ![4, 2, 512, 898]⟩) (p : Dev FirstIdeal.nD) :
    landed (srcs m) p = shapeCast ⟨4, ![4, 2, 512, 898]⟩ W c :=
  gathered_whole 512 898 (srcs m) _ (fun q r i k => (congrFun (hx q) (ValueIdx.ix3 r i k)).trans (block_at 512 898 W q _ _ c r i k)) p

end Values

theorem values : Cert.algebraic_FirstIdeal_FirstReferenceIdeal := by
  intro m ρ m' ρ' _ hagree
  exact ⟨_, (θ_run FirstIdeal.defs _ _).mono (fun _ h c => ⟨(h.1 c).2.trans (landed_blocks m _ hagree _ c), (h.1 c).1⟩)
    (run_main (F := Ideal) m ρ),
    (θ_run FirstReferenceIdeal.defs _ _).mono (fun r h => h 0) (FirstReferenceIdeal.Value.run (F := Ideal) m' ρ')⟩

theorem words : Cert.bitexact_First_FirstReference := by
  intro m ρ m' ρ' _ hagree
  exact ⟨_, (θ_run FirstIdeal.defs _ _).mono (fun _ h c => ⟨(h.1 c).2.trans (landed_blocks m _ hagree _ c), (h.1 c).1⟩)
    (run_main (F := Bits) m ρ),
    (θ_run FirstReferenceIdeal.defs _ _).mono (fun r h => h 0) (FirstReferenceIdeal.Value.run (F := Bits) m' ρ')⟩

end Cert.Opening

namespace Cert.Incoming

open Idealize.ShloMosaic Idealize.SL.Sem

/-- Both programs end at one step of AdamW on the joined gradient: at the reals the kernel's quotient and root are the
    reference's. -/
theorem values : Cert.algebraic_UpdateInIdeal_UpdateInReferenceIdeal := by
  intro m ρ m' ρ' _ hagree
  have facts := UpdateInReferenceIdeal.Gen.concatenates_S2x512x898_S2x512x898_S2x1024x898_d1
  refine ⟨_, _, _, _, (θ_run UpdateInIdeal.defs _ _).mono (fun _ h c => ⟨(h c).1.trans (UpdateInIdeal.Steps.final_gradient m facts c), (h c).2.1.trans (UpdateInIdeal.Steps.final_change m facts c),
      (h c).2.2.1.trans (UpdateInIdeal.Steps.final_first m facts c), (h c).2.2.2.1.trans (UpdateInIdeal.Steps.final_second m facts c), (h c).2.2.2.2⟩) (UpdateInIdeal.Value.run_blocks m ρ), (θ_run UpdateInReferenceIdeal.defs _ _).mono (fun r h c => ?_)
    (UpdateInReferenceIdeal.Value.run (F := Ideal) m' ρ')⟩
  obtain ⟨g, d, m1, v1, args⟩ := h c
  obtain ⟨e0, e1, e2, e3, e4⟩ := hagree c
  rw [e1, e2] at g
  rw [e0, e1, e2, e3, e4] at d
  rw [e1, e2, e3] at m1
  rw [e1, e2, e4] at v1
  exact ⟨g, d, m1, v1, args⟩

end Cert.Incoming

namespace Cert.Outgoing

open Idealize.ShloMosaic Idealize.SL.Sem

/-- Both programs end at one step of AdamW on the joined gradient: at the reals the kernel's quotient and root are the
    reference's. -/
theorem values : Cert.algebraic_UpdateOutIdeal_UpdateOutReferenceIdeal := by
  intro m ρ m' ρ' _ hagree
  have facts := UpdateOutReferenceIdeal.Gen.concatenates_S2x128x1024_S2x128x1024_S2x256x1024_d1
  refine ⟨_, _, _, _, (θ_run UpdateOutIdeal.defs _ _).mono (fun _ h c => ⟨(h c).1.trans (UpdateOutIdeal.Steps.final_gradient m facts c), (h c).2.1.trans (UpdateOutIdeal.Steps.final_change m facts c),
      (h c).2.2.1.trans (UpdateOutIdeal.Steps.final_first m facts c), (h c).2.2.2.1.trans (UpdateOutIdeal.Steps.final_second m facts c), (h c).2.2.2.2⟩) (UpdateOutIdeal.Value.run_blocks m ρ), (θ_run UpdateOutReferenceIdeal.defs _ _).mono (fun r h c => ?_)
    (UpdateOutReferenceIdeal.Value.run (F := Ideal) m' ρ')⟩
  obtain ⟨g, d, m1, v1, args⟩ := h c
  obtain ⟨e0, e1, e2, e3, e4⟩ := hagree c
  rw [e1, e2] at g
  rw [e0, e1, e2, e3, e4] at d
  rw [e1, e2, e3] at m1
  rw [e1, e2, e4] at v1
  exact ⟨g, d, m1, v1, args⟩

end Cert.Outgoing

namespace Cert.SummingIn

open Idealize.ShloMosaic Idealize.SL.Sem

/-- Both programs add the landed pieces in one order, so at any arithmetic they end at one array. -/
theorem values : Cert.algebraic_SumInIdeal_SumInReferenceIdeal := by
  intro m ρ m' ρ' _ hagree
  refine ⟨_, SumInIdeal.Value.run (F := Ideal) m ρ, (θ_run SumInReferenceIdeal.defs _ _).mono (fun r h c => ?_)
    (SumInReferenceIdeal.Value.run (F := Ideal) m' ρ')⟩
  obtain ⟨total, args⟩ := h c
  obtain ⟨e0, e1, e2, e3, e4, e5, e6, e7⟩ := hagree c
  rw [e0, e1, e2, e3, e4, e5, e6, e7] at total
  exact ⟨total, args⟩

theorem words : Cert.bitexact_SumIn_SumInReference := by
  intro m ρ m' ρ' _ hagree
  refine ⟨_, SumIn.Value.run (F := Bits) m ρ, (θ_run SumInReferenceIdeal.defs _ _).mono (fun r h c => ?_)
    (SumInReferenceIdeal.Value.run (F := Bits) m' ρ')⟩
  obtain ⟨total, args⟩ := h c
  obtain ⟨e0, e1, e2, e3, e4, e5, e6, e7⟩ := hagree c
  refine ⟨total.trans ?_, args⟩
  rw [e0, e1, e2, e3, e4, e5, e6, e7]
  rfl

end Cert.SummingIn

namespace Cert.SummingOut

open Idealize.ShloMosaic Idealize.SL.Sem

/-- Both programs add the landed pieces in one order, so at any arithmetic they end at one array. -/
theorem values : Cert.algebraic_SumOutIdeal_SumOutReferenceIdeal := by
  intro m ρ m' ρ' _ hagree
  refine ⟨_, SumOutIdeal.Value.run (F := Ideal) m ρ, (θ_run SumOutReferenceIdeal.defs _ _).mono (fun r h c => ?_)
    (SumOutReferenceIdeal.Value.run (F := Ideal) m' ρ')⟩
  obtain ⟨total, args⟩ := h c
  obtain ⟨e0, e1, e2, e3, e4, e5, e6, e7⟩ := hagree c
  rw [e0, e1, e2, e3, e4, e5, e6, e7] at total
  exact ⟨total, args⟩

theorem words : Cert.bitexact_SumOut_SumOutReference := by
  intro m ρ m' ρ' _ hagree
  refine ⟨_, SumOut.Value.run (F := Bits) m ρ, (θ_run SumOutReferenceIdeal.defs _ _).mono (fun r h c => ?_)
    (SumOutReferenceIdeal.Value.run (F := Bits) m' ρ')⟩
  obtain ⟨total, args⟩ := h c
  obtain ⟨e0, e1, e2, e3, e4, e5, e6, e7⟩ := hagree c
  refine ⟨total.trans ?_, args⟩
  rw [e0, e1, e2, e3, e4, e5, e6, e7]
  rfl

end Cert.SummingOut

namespace Cert.Packed

open Idealize.ShloMosaic Idealize.SL.Sem Cert.SmallSteps

/-- Both programs end at one step of AdamW on one gradient, which is where the bounds' being finite is used. -/
theorem values : Cert.algebraic_SmallIdeal_SmallReferenceIdeal_pre_bounds_finite := by
  intro m ρ m' ρ' pre hagree
  refine ⟨_, _, _, _, SmallIdeal.Value.run (F := Ideal) m ρ, (θ_run SmallReferenceIdeal.defs _ _).mono (fun r h c => ?_)
    (SmallReferenceIdeal.Value.run (F := Ideal) m' ρ')⟩
  obtain ⟨g, d, m1, v1, args⟩ := h c
  obtain ⟨e0, e1, e2, e3, e4⟩ := hagree c
  have fin := finite _ _ _ _ _ (pre c)
  change packed m' c = _ at e0
  change lower m' c = _ at e1
  change weights m' c = _ at e2
  change firsts m' c = _ at e3
  change seconds m' c = _ at e4
  rw [reference_gradient, e0, e1] at g
  rw [reference_change, e0, e1, e2, e3, e4] at d
  rw [reference_moment, e0, e1, e3] at m1
  rw [reference_square, e0, e1, e4] at v1
  exact ⟨g.trans (result_gradient _ _ _ _ _ fin).symm, d.trans (result_change _ _ _ _ _ fin).symm,
    m1.trans (result_moment _ _ _ _ _ fin).symm, v1.trans (result_square _ _ _ _ _ fin).symm, args⟩

end Cert.Packed

namespace Cert.Bounding

open Idealize.ShloMosaic Idealize.SL.Sem

/-- The kernel stores the reference's result, number by number. -/
theorem values : Cert.algebraic_LbsIdeal_LbsReferenceIdeal := by
  intro m ρ m' ρ' _ hagree
  refine ⟨_, LbsIdeal.Value.run (F := Ideal) m ρ, (θ_run LbsReferenceIdeal.defs _ _).mono (fun r h c => ?_)
    (LbsReferenceIdeal.Value.run (F := Ideal) m' ρ')⟩
  obtain ⟨v, args⟩ := h c
  rw [hagree c] at v
  exact ⟨v.trans (LbsSteps.stored _).symm, args⟩

end Cert.Bounding

namespace Cert.Projecting

open Idealize.ShloMosaic Idealize.SL.Sem

/-- Both programs end at the product of the normalized rows and the weight. -/
theorem values : Cert.algebraic_ProjectIdeal_ProjectReferenceIdeal := by
  intro m ρ m' ρ' _ hagree
  refine ⟨_, (θ_run ProjectIdeal.defs _ _).mono (fun _ h c => ⟨(h c).1.trans (ProjectSteps.final m c), (h c).2⟩)
    (ProjectIdeal.Value.run_blocks m ρ), (θ_run ProjectReferenceIdeal.defs _ _).mono (fun r h c => ?_)
    (ProjectReferenceIdeal.Value.run (F := Ideal) m' ρ')⟩
  obtain ⟨v, args⟩ := h c
  obtain ⟨e0, e1, e2⟩ := hagree c
  rw [ProjectSteps.Reference.result, e0, e1, e2] at v
  exact ⟨v, args⟩

end Cert.Projecting

namespace Cert.Mixing

open Idealize.ShloMosaic Idealize.SL.Sem

/-- Both programs end at the product of the joined branches and the weight, and at the next rows. -/
theorem values : Cert.algebraic_MixIdeal_MixReferenceIdeal := by
  intro m ρ m' ρ' _ hagree
  refine ⟨_, _, (θ_run MixIdeal.defs _ _).mono (fun _ h c => ⟨(h c).1.trans (MixSteps.final_product m c), (h c).2.1.trans (MixSteps.final_next m c), (h c).2.2⟩)
    (MixIdeal.Value.run_blocks m ρ), (θ_run MixReferenceIdeal.defs _ _).mono (fun r h c => ?_)
    (MixReferenceIdeal.Value.run (F := Ideal) m' ρ')⟩
  obtain ⟨y, x, args⟩ := h c
  obtain ⟨e0, e1, e2, e3, e4, e5⟩ := hagree c
  rw [MixSteps.Reference.product, e1, e2, e3, e4] at y
  rw [MixSteps.Reference.next, MixSteps.Reference.product, e0, e1, e2, e3, e4, e5] at x
  exact ⟨y, x, args⟩

end Cert.Mixing

/-! ## The loss -/

namespace Cert.Scoring

open Idealize.ShloMosaic Idealize.SL.Sem

/-- Both programs end at the product, at the loss's slope and at the sum of the error's squares. -/
theorem values : Cert.algebraic_ScoreIdeal_ScoreReferenceIdeal := by
  intro m ρ m' ρ' _ hagree
  refine ⟨_, _, _, (θ_run ScoreIdeal.defs _ _).mono (fun _ h c => ⟨(h c).1.trans (ScoreSteps.final_product m c), (h c).2.1.trans (ScoreSteps.final_slope m c), (h c).2.2.1.trans (ScoreSteps.final_score m c), (h c).2.2.2⟩)
    (ScoreIdeal.Value.run_blocks m ρ), (θ_run ScoreReferenceIdeal.defs _ _).mono (fun r h c => ?_)
    (ScoreReferenceIdeal.Value.run (F := Ideal) m' ρ')⟩
  obtain ⟨y, e, l, args⟩ := h c
  obtain ⟨e0, e1, e2, e3, e4, e5, e6⟩ := hagree c
  unfold ScoreReferenceIdeal.Value.res_main_v35 at l
  rw [ScoreSteps.Reference.product, e1, e2, e3, e4] at y
  rw [ScoreSteps.Reference.slope, ScoreSteps.Reference.error, ScoreSteps.Reference.product,
    e0, e1, e2, e3, e4, e5, e6] at e
  rw [ScoreSteps.Reference.score, ScoreSteps.Reference.error, ScoreSteps.Reference.product,
    e0, e1, e2, e3, e4, e5, e6] at l
  exact ⟨y, e, l, args⟩

end Cert.Scoring

/-! ## The slope by the in-projection's weight -/

namespace Cert.Sloping

open Idealize.ShloMosaic Idealize.SL.Sem

/-- Both programs end at the transposed normalized rows times the joined pieces. -/
theorem values : Cert.algebraic_SlopeIdeal_SlopeReferenceIdeal := by
  intro m ρ m' ρ' _ hagree
  refine ⟨_, (θ_run SlopeIdeal.defs _ _).mono (fun _ h c => ⟨(h c).1.trans (SlopeSteps.final m c), (h c).2⟩)
    (SlopeIdeal.Value.run_blocks m ρ), (θ_run SlopeReferenceIdeal.defs _ _).mono (fun r h c => ?_)
    (SlopeReferenceIdeal.Value.run (F := Ideal) m' ρ')⟩
  obtain ⟨w, args⟩ := h c
  obtain ⟨e0, e1, e2, e3, e4, e5⟩ := hagree c
  rw [SlopeSteps.Reference.slope, e0, e1, e2, e3, e4, e5] at w
  exact ⟨w, args⟩

end Cert.Sloping

/-! ## The gradient by a layer's rows -/

namespace Cert.Backing

open Idealize.ShloMosaic Idealize.SL.Sem

/-- Both programs end at the rows' gradient and at the gain's. -/
theorem values : Cert.algebraic_BackIdeal_BackReferenceIdeal := by
  intro m ρ m' ρ' _ hagree
  refine ⟨_, _, (θ_run BackIdeal.defs _ _).mono (fun _ h c => ⟨(h c).1.trans (BackSteps.final_rows m c), (h c).2.1.trans (BackSteps.final_gain m c), (h c).2.2⟩)
    (BackIdeal.Value.run_blocks m ρ), (θ_run BackReferenceIdeal.defs _ _).mono (fun r h c => ?_)
    (BackReferenceIdeal.Value.run (F := Ideal) m' ρ')⟩
  obtain ⟨x, g, args⟩ := h c
  obtain ⟨e0, e1, e2, e3, e4, e5, e6, e7⟩ := hagree c
  unfold BackReferenceIdeal.Value.res_main_v39 at x
  rw [BackSteps.Reference.pull, BackSteps.Reference.rows, e0, e1, e2, e3, e4, e5, e6, e7] at x
  rw [BackSteps.Reference.pull, BackSteps.Reference.gain, e0, e3, e4, e5, e6, e7] at g
  exact ⟨x, g, args⟩

end Cert.Backing

namespace Cert.Parting

open Idealize.ShloMosaic Idealize.SL.Sem

/-- Both programs end at the product's, the weight's and the gain's gradients. -/
theorem values : Cert.algebraic_PartIdeal_PartReferenceIdeal := by
  intro m ρ m' ρ' _ hagree
  refine ⟨_, _, _, (θ_run PartIdeal.defs _ _).mono (fun _ h c => ⟨(h c).1.trans (PartSteps.final_product m c),
      (h c).2.1.trans (PartSteps.final_weight m c), (h c).2.2.1.trans (PartSteps.final_gain m c), (h c).2.2.2⟩)
    (PartIdeal.Value.run_blocks m ρ), (θ_run PartReferenceIdeal.defs _ _).mono (fun r h c => ?_)
    (PartReferenceIdeal.Value.run (F := Ideal) m' ρ')⟩
  obtain ⟨x, w, g, args⟩ := h c
  obtain ⟨e0, e1, e2, e3, e4, e5, e6⟩ := hagree c
  unfold PartReferenceIdeal.Value.res_main_v39 at w
  rw [PartSteps.Reference.rows, PartSteps.Reference.product, e0, e1, e5, e6] at x
  rw [PartSteps.Reference.rows, PartSteps.Reference.weight, e0, e1, e2, e3, e4, e6] at w
  rw [BackSteps.Reference.gain, e0, e1] at g
  exact ⟨x, w, g, args⟩

end Cert.Parting

namespace Cert.Proof

open Idealize.ShloMosaic

/-- `Cert.Claim`. -/
theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance, inferInstance,
    inferInstance, inferInstance, inferInstance, inferInstance,
    inferInstance, inferInstance, inferInstance, inferInstance,
    inferInstance, inferInstance, inferInstance, inferInstance,
    inferInstance, inferInstance, inferInstance, inferInstance,
    Exchange.frame_kernel,
    Exchange.frame_ideal,
    fun m ρ _ => still (ReferenceIdeal.Value.run m ρ) fun _ _ h => h.2.2,
    fun m ρ _ => still (ReferenceIdeal.Value.run (F := Bits) m ρ) fun _ _ h => h.2.2,
    Gathering.frame_kernel,
    Gathering.frame_ideal,
    fun m ρ _ => still (GatherReferenceIdeal.Value.run m ρ) fun _ _ h => h.2.2.2,
    fun m ρ _ => still (GatherReferenceIdeal.Value.run (F := Bits) m ρ) fun _ _ h => h.2.2.2,
    Swapping.frame_kernel,
    Swapping.frame_ideal,
    fun m ρ _ => still (SwapReferenceIdeal.Value.run m ρ) fun _ _ h => h.2.2,
    fun m ρ _ => still (SwapReferenceIdeal.Value.run (F := Bits) m ρ) fun _ _ h => h.2.2,
    Opening.frame_kernel,
    Opening.frame_ideal,
    fun m ρ _ => still (FirstReferenceIdeal.Value.run m ρ) fun _ _ h => h.2,
    fun m ρ _ => still (FirstReferenceIdeal.Value.run (F := Bits) m ρ) fun _ _ h => h.2,
    fun m ρ _ => UpdateIn.Gen.frame m ρ,
    fun m ρ _ => UpdateInIdeal.Gen.frame m ρ,
    fun m ρ _ => still (UpdateInReferenceIdeal.Value.run (F := Bits) m ρ) fun _ _ h => h.2.2.2.2,
    fun m ρ _ => still (UpdateInReferenceIdeal.Value.run m ρ) fun _ _ h => h.2.2.2.2,
    fun m ρ _ => UpdateOut.Gen.frame m ρ,
    fun m ρ _ => UpdateOutIdeal.Gen.frame m ρ,
    fun m ρ _ => still (UpdateOutReferenceIdeal.Value.run (F := Bits) m ρ) fun _ _ h => h.2.2.2.2,
    fun m ρ _ => still (UpdateOutReferenceIdeal.Value.run m ρ) fun _ _ h => h.2.2.2.2,
    fun m ρ _ => SumIn.Gen.frame m ρ,
    fun m ρ _ => SumInIdeal.Gen.frame m ρ,
    fun m ρ _ => still (SumInReferenceIdeal.Value.run (F := Bits) m ρ) fun _ _ h => h.2,
    fun m ρ _ => still (SumInReferenceIdeal.Value.run m ρ) fun _ _ h => h.2,
    fun m ρ _ => SumOut.Gen.frame m ρ,
    fun m ρ _ => SumOutIdeal.Gen.frame m ρ,
    fun m ρ _ => still (SumOutReferenceIdeal.Value.run (F := Bits) m ρ) fun _ _ h => h.2,
    fun m ρ _ => still (SumOutReferenceIdeal.Value.run m ρ) fun _ _ h => h.2,
    fun m ρ _ => Small.Gen.frame m ρ,
    fun m ρ _ => SmallIdeal.Gen.frame m ρ,
    fun m ρ _ => SmallIdeal.Gen.frame m ρ,
    fun m ρ _ => still (SmallReference.Value.run m ρ) fun _ _ h => h.2.2.2.2,
    fun m ρ _ => still (SmallReferenceIdeal.Value.run m ρ) fun _ _ h => h.2.2.2.2,
    fun m ρ _ => still (SmallReferenceIdeal.Value.run m ρ) fun _ _ h => h.2.2.2.2,
    fun m ρ _ => Lbs.Gen.frame m ρ,
    fun m ρ _ => LbsIdeal.Gen.frame m ρ,
    fun m ρ _ => still (LbsReference.Value.run m ρ) fun _ _ h => h.2,
    fun m ρ _ => still (LbsReferenceIdeal.Value.run m ρ) fun _ _ h => h.2,
    fun m ρ _ => Project.Gen.frame m ρ,
    fun m ρ _ => ProjectIdeal.Gen.frame m ρ,
    fun m ρ _ => still (ProjectReference.Value.run m ρ) fun _ _ h => h.2,
    fun m ρ _ => still (ProjectReferenceIdeal.Value.run m ρ) fun _ _ h => h.2,
    fun m ρ _ => Mix.Gen.frame m ρ,
    fun m ρ _ => MixIdeal.Gen.frame m ρ,
    fun m ρ _ => still (MixReference.Value.run m ρ) fun _ _ h => h.2.2,
    fun m ρ _ => still (MixReferenceIdeal.Value.run m ρ) fun _ _ h => h.2.2,
    fun m ρ _ => Score.Gen.frame m ρ,
    fun m ρ _ => ScoreIdeal.Gen.frame m ρ,
    fun m ρ _ => still (ScoreReference.Value.run m ρ) fun _ _ h => h.2.2.2,
    fun m ρ _ => still (ScoreReferenceIdeal.Value.run m ρ) fun _ _ h => h.2.2.2,
    fun m ρ _ => Slope.Gen.frame m ρ,
    fun m ρ _ => SlopeIdeal.Gen.frame m ρ,
    fun m ρ _ => still (SlopeReference.Value.run m ρ) fun _ _ h => h.2,
    fun m ρ _ => still (SlopeReferenceIdeal.Value.run m ρ) fun _ _ h => h.2,
    fun m ρ _ => Back.Gen.frame m ρ,
    fun m ρ _ => BackIdeal.Gen.frame m ρ,
    fun m ρ _ => still (BackReference.Value.run m ρ) fun _ _ h => h.2.2,
    fun m ρ _ => still (BackReferenceIdeal.Value.run m ρ) fun _ _ h => h.2.2,
    fun m ρ _ => Part.Gen.frame m ρ,
    fun m ρ _ => PartIdeal.Gen.frame m ρ,
    fun m ρ _ => still (PartReference.Value.run m ρ) fun _ _ h => h.2.2.2,
    fun m ρ _ => still (PartReferenceIdeal.Value.run m ρ) fun _ _ h => h.2.2.2,
    trivial, Exchange.values, Exchange.words, trivial, Gathering.values, Gathering.words,
    trivial, Swapping.values, Swapping.words, trivial, Opening.values, Opening.words,
    trivial, Incoming.values, trivial, Outgoing.values,
    trivial, SummingIn.values, SummingIn.words, trivial, SummingOut.values, SummingOut.words, trivial, Packed.values,
    trivial, Bounding.values, trivial, Projecting.values, trivial, Mixing.values, trivial, Scoring.values,
    trivial, Sloping.values, trivial, Backing.values, trivial, Parting.values⟩

end Cert.Proof

end
